-- ==== Defs.lean ====
def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))) = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_routed [hPre_routed : Cert.Pre_routed.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7))) = (fun _ => 1#1)

def Pre_MemKV (m : (ℓ : Loc Cert.MemKV.nD Cert.MemKV.τ Cert.MemKV.sig) → Buf (Elt Bits) ℓ) : Prop :=
  True

def Pre_MemKVIdeal (m : (ℓ : Loc Cert.MemKVIdeal.nD Cert.MemKVIdeal.τ Cert.MemKVIdeal.sig) → Buf (Elt Ideal) ℓ) : Prop :=
  True

def Pre_MemKVRefIdeal (m : (ℓ : Loc Cert.MemKVRefIdeal.nD Cert.MemKVRefIdeal.τ Cert.MemKVRefIdeal.sig) → Buf (Elt Ideal) ℓ) : Prop :=
  True

def Pre_ProjPrompt (m : (ℓ : Loc Cert.ProjPrompt.nD Cert.ProjPrompt.τ Cert.ProjPrompt.sig) → Buf (Elt Bits) ℓ) : Prop :=
  True

def Pre_ProjPromptIdeal (m : (ℓ : Loc Cert.ProjPromptIdeal.nD Cert.ProjPromptIdeal.τ Cert.ProjPromptIdeal.sig) → Buf (Elt Ideal) ℓ) : Prop :=
  True

def Pre_ProjPromptRefIdeal (m : (ℓ : Loc Cert.ProjPromptRefIdeal.nD Cert.ProjPromptRefIdeal.τ Cert.ProjPromptRefIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleRefIdeal (m : (ℓ : Loc Cert.ProjSampleRefIdeal.nD Cert.ProjSampleRefIdeal.τ Cert.ProjSampleRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def Pre_ScanPrompt (m : (ℓ : Loc Cert.ScanPrompt.nD Cert.ScanPrompt.τ Cert.ScanPrompt.sig) → Buf (Elt Bits) ℓ) : Prop :=
  True

def Pre_ScanPromptIdeal (m : (ℓ : Loc Cert.ScanPromptIdeal.nD Cert.ScanPromptIdeal.τ Cert.ScanPromptIdeal.sig) → Buf (Elt Ideal) ℓ) : Prop :=
  True

def Pre_ScanPromptRefIdeal (m : (ℓ : Loc Cert.ScanPromptRefIdeal.nD Cert.ScanPromptRefIdeal.τ Cert.ScanPromptRefIdeal.sig) → Buf (Elt Ideal) ℓ) : Prop :=
  True

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7))
      ∧ r.2.sem = fun _ => 0)

def quiescent_ExpertsRefIdeal_pre_routed [hExpertsRefIdeal : Cert.ExpertsRefIdeal.Facts] [hPre_routed : Cert.Pre_routed.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_routed m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7))
      ∧ r.2.sem = fun _ => 0)

def quiescent_MemKV [hMemKV : Cert.MemKV.Facts] : Prop :=
  ∀ (m : (ℓ : Loc Cert.MemKV.nD Cert.MemKV.τ Cert.MemKV.sig) → Buf (Elt Bits) ℓ) (g : Dev Cert.MemKV.nD → PrngReg), Pre_MemKV m →
    θ_run (Cert.MemKV.defs (F := Bits)) (onTc (τ := Cert.MemKV.τ) (Cert.MemKV.main (F := Bits))) ⟨m, fun _ => 0, g⟩ (fun r => (∀ c : Dev Cert.MemKV.nD,
      r.2.mem ((c.tc : Thread Cert.MemKV.nD Cert.MemKV.τ).loc Cert.MemKV.main_arg0) = m ((c.tc : Thread Cert.MemKV.nD Cert.MemKV.τ).loc Cert.MemKV.main_arg0)
      ∧ r.2.mem ((c.tc : Thread Cert.MemKV.nD Cert.MemKV.τ).loc Cert.MemKV.main_arg1) = m ((c.tc : Thread Cert.MemKV.nD Cert.MemKV.τ).loc Cert.MemKV.main_arg1)
      ∧ r.2.mem ((c.tc : Thread Cert.MemKV.nD Cert.MemKV.τ).loc Cert.MemKV.main_arg2) = m ((c.tc : Thread Cert.MemKV.nD Cert.MemKV.τ).loc Cert.MemKV.main_arg2)
      ∧ r.2.mem ((c.tc : Thread Cert.MemKV.nD Cert.MemKV.τ).loc Cert.MemKV.main_arg3) = m ((c.tc : Thread Cert.MemKV.nD Cert.MemKV.τ).loc Cert.MemKV.main_arg3))
      ∧ r.2.sem = fun _ => 0)

def quiescent_MemKVIdeal [hMemKVIdeal : Cert.MemKVIdeal.Facts] : Prop :=
  ∀ (m : (ℓ : Loc Cert.MemKVIdeal.nD Cert.MemKVIdeal.τ Cert.MemKVIdeal.sig) → Buf (Elt Ideal) ℓ) (g : Dev Cert.MemKVIdeal.nD → PrngReg), Pre_MemKVIdeal m →
    θ_run (Cert.MemKVIdeal.defs (F := Ideal)) (onTc (τ := Cert.MemKVIdeal.τ) (Cert.MemKVIdeal.main (F := Ideal))) ⟨m, fun _ => 0, g⟩ (fun r => (∀ c : Dev Cert.MemKVIdeal.nD,
      r.2.mem ((c.tc : Thread Cert.MemKVIdeal.nD Cert.MemKVIdeal.τ).loc Cert.MemKVIdeal.main_arg0) = m ((c.tc : Thread Cert.MemKVIdeal.nD Cert.MemKVIdeal.τ).loc Cert.MemKVIdeal.main_arg0)
      ∧ r.2.mem ((c.tc : Thread Cert.MemKVIdeal.nD Cert.MemKVIdeal.τ).loc Cert.MemKVIdeal.main_arg1) = m ((c.tc : Thread Cert.MemKVIdeal.nD Cert.MemKVIdeal.τ).loc Cert.MemKVIdeal.main_arg1)
      ∧ r.2.mem ((c.tc : Thread Cert.MemKVIdeal.nD Cert.MemKVIdeal.τ).loc Cert.MemKVIdeal.main_arg2) = m ((c.tc : Thread Cert.MemKVIdeal.nD Cert.MemKVIdeal.τ).loc Cert.MemKVIdeal.main_arg2)
      ∧ r.2.mem ((c.tc : Thread Cert.MemKVIdeal.nD Cert.MemKVIdeal.τ).loc Cert.MemKVIdeal.main_arg3) = m ((c.tc : Thread Cert.MemKVIdeal.nD Cert.MemKVIdeal.τ).loc Cert.MemKVIdeal.main_arg3))
      ∧ r.2.sem = fun _ => 0)

def quiescent_MemKVRefIdeal [hMemKVRefIdeal : Cert.MemKVRefIdeal.Facts] : Prop :=
  ∀ (m : (ℓ : Loc Cert.MemKVRefIdeal.nD Cert.MemKVRefIdeal.τ Cert.MemKVRefIdeal.sig) → Buf (Elt Ideal) ℓ) (g : Dev Cert.MemKVRefIdeal.nD → PrngReg), Pre_MemKVRefIdeal m →
    θ_run (Cert.MemKVRefIdeal.defs (F := Ideal)) (onTc (τ := Cert.MemKVRefIdeal.τ) (Cert.MemKVRefIdeal.main (F := Ideal))) ⟨m, fun _ => 0, g⟩ (fun r => (∀ c : Dev Cert.MemKVRefIdeal.nD,
      r.2.mem ((c.tc : Thread Cert.MemKVRefIdeal.nD Cert.MemKVRefIdeal.τ).loc Cert.MemKVRefIdeal.main_arg0) = m ((c.tc : Thread Cert.MemKVRefIdeal.nD Cert.MemKVRefIdeal.τ).loc Cert.MemKVRefIdeal.main_arg0)
      ∧ r.2.mem ((c.tc : Thread Cert.MemKVRefIdeal.nD Cert.MemKVRefIdeal.τ).loc Cert.MemKVRefIdeal.main_arg1) = m ((c.tc : Thread Cert.MemKVRefIdeal.nD Cert.MemKVRefIdeal.τ).loc Cert.MemKVRefIdeal.main_arg1)
      ∧ r.2.mem ((c.tc : Thread Cert.MemKVRefIdeal.nD Cert.MemKVRefIdeal.τ).loc Cert.MemKVRefIdeal.main_arg2) = m ((c.tc : Thread Cert.MemKVRefIdeal.nD Cert.MemKVRefIdeal.τ).loc Cert.MemKVRefIdeal.main_arg2)
      ∧ r.2.mem ((c.tc : Thread Cert.MemKVRefIdeal.nD Cert.MemKVRefIdeal.τ).loc Cert.MemKVRefIdeal.main_arg3) = m ((c.tc : Thread Cert.MemKVRefIdeal.nD Cert.MemKVRefIdeal.τ).loc Cert.MemKVRefIdeal.main_arg3))
      ∧ r.2.sem = fun _ => 0)

def quiescent_ProjPrompt [hProjPrompt : Cert.ProjPrompt.Facts] : Prop :=
  ∀ (m : (ℓ : Loc Cert.ProjPrompt.nD Cert.ProjPrompt.τ Cert.ProjPrompt.sig) → Buf (Elt Bits) ℓ) (g : Dev Cert.ProjPrompt.nD → PrngReg), Pre_ProjPrompt m →
    θ_run (Cert.ProjPrompt.defs (F := Bits)) (onTc (τ := Cert.ProjPrompt.τ) (Cert.ProjPrompt.main (F := Bits))) ⟨m, fun _ => 0, g⟩ (fun r => (∀ c : Dev Cert.ProjPrompt.nD,
      r.2.mem ((c.tc : Thread Cert.ProjPrompt.nD Cert.ProjPrompt.τ).loc Cert.ProjPrompt.main_arg0) = m ((c.tc : Thread Cert.ProjPrompt.nD Cert.ProjPrompt.τ).loc Cert.ProjPrompt.main_arg0)
      ∧ r.2.mem ((c.tc : Thread Cert.ProjPrompt.nD Cert.ProjPrompt.τ).loc Cert.ProjPrompt.main_arg1) = m ((c.tc : Thread Cert.ProjPrompt.nD Cert.ProjPrompt.τ).loc Cert.ProjPrompt.main_arg1)
      ∧ r.2.mem ((c.tc : Thread Cert.ProjPrompt.nD Cert.ProjPrompt.τ).loc Cert.ProjPrompt.main_arg2) = m ((c.tc : Thread Cert.ProjPrompt.nD Cert.ProjPrompt.τ).loc Cert.ProjPrompt.main_arg2))
      ∧ r.2.sem = fun _ => 0)

def quiescent_ProjPromptIdeal [hProjPromptIdeal : Cert.ProjPromptIdeal.Facts] : Prop :=
  ∀ (m : (ℓ : Loc Cert.ProjPromptIdeal.nD Cert.ProjPromptIdeal.τ Cert.ProjPromptIdeal.sig) → Buf (Elt Ideal) ℓ) (g : Dev Cert.ProjPromptIdeal.nD → PrngReg), Pre_ProjPromptIdeal m →
    θ_run (Cert.ProjPromptIdeal.defs (F := Ideal)) (onTc (τ := Cert.ProjPromptIdeal.τ) (Cert.ProjPromptIdeal.main (F := Ideal))) ⟨m, fun _ => 0, g⟩ (fun r => (∀ c : Dev Cert.ProjPromptIdeal.nD,
      r.2.mem ((c.tc : Thread Cert.ProjPromptIdeal.nD Cert.ProjPromptIdeal.τ).loc Cert.ProjPromptIdeal.main_arg0) = m ((c.tc : Thread Cert.ProjPromptIdeal.nD Cert.ProjPromptIdeal.τ).loc Cert.ProjPromptIdeal.main_arg0)
      ∧ r.2.mem ((c.tc : Thread Cert.ProjPromptIdeal.nD Cert.ProjPromptIdeal.τ).loc Cert.ProjPromptIdeal.main_arg1) = m ((c.tc : Thread Cert.ProjPromptIdeal.nD Cert.ProjPromptIdeal.τ).loc Cert.ProjPromptIdeal.main_arg1)
      ∧ r.2.mem ((c.tc : Thread Cert.ProjPromptIdeal.nD Cert.ProjPromptIdeal.τ).loc Cert.ProjPromptIdeal.main_arg2) = m ((c.tc : Thread Cert.ProjPromptIdeal.nD Cert.ProjPromptIdeal.τ).loc Cert.ProjPromptIdeal.main_arg2))
      ∧ r.2.sem = fun _ => 0)

def quiescent_ProjPromptRefIdeal [hProjPromptRefIdeal : Cert.ProjPromptRefIdeal.Facts] : Prop :=
  ∀ (m : (ℓ : Loc Cert.ProjPromptRefIdeal.nD Cert.ProjPromptRefIdeal.τ Cert.ProjPromptRefIdeal.sig) → Buf (Elt Ideal) ℓ) (g : Dev Cert.ProjPromptRefIdeal.nD → PrngReg), Pre_ProjPromptRefIdeal m →
    θ_run (Cert.ProjPromptRefIdeal.defs (F := Ideal)) (onTc (τ := Cert.ProjPromptRefIdeal.τ) (Cert.ProjPromptRefIdeal.main (F := Ideal))) ⟨m, fun _ => 0, g⟩ (fun r => (∀ c : Dev Cert.ProjPromptRefIdeal.nD,
      r.2.mem ((c.tc : Thread Cert.ProjPromptRefIdeal.nD Cert.ProjPromptRefIdeal.τ).loc Cert.ProjPromptRefIdeal.main_arg0) = m ((c.tc : Thread Cert.ProjPromptRefIdeal.nD Cert.ProjPromptRefIdeal.τ).loc Cert.ProjPromptRefIdeal.main_arg0)
      ∧ r.2.mem ((c.tc : Thread Cert.ProjPromptRefIdeal.nD Cert.ProjPromptRefIdeal.τ).loc Cert.ProjPromptRefIdeal.main_arg1) = m ((c.tc : Thread Cert.ProjPromptRefIdeal.nD Cert.ProjPromptRefIdeal.τ).loc Cert.ProjPromptRefIdeal.main_arg1)
      ∧ r.2.mem ((c.tc : Thread Cert.ProjPromptRefIdeal.nD Cert.ProjPromptRefIdeal.τ).loc Cert.ProjPromptRefIdeal.main_arg2) = m ((c.tc : Thread Cert.ProjPromptRefIdeal.nD Cert.ProjPromptRefIdeal.τ).loc Cert.ProjPromptRefIdeal.main_arg2))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2))
      ∧ r.2.sem = fun _ => 0)

def quiescent_ProjSampleRefIdeal [hProjSampleRefIdeal : Cert.ProjSampleRefIdeal.Facts] : Prop :=
  ∀ (m : (ℓ : Loc Cert.ProjSampleRefIdeal.nD Cert.ProjSampleRefIdeal.τ Cert.ProjSampleRefIdeal.sig) → Buf (Elt Ideal) ℓ) (g : Dev Cert.ProjSampleRefIdeal.nD → PrngReg), Pre_ProjSampleRefIdeal m →
    θ_run (Cert.ProjSampleRefIdeal.defs (F := Ideal)) (onTc (τ := Cert.ProjSampleRefIdeal.τ) (Cert.ProjSampleRefIdeal.main (F := Ideal))) ⟨m, fun _ => 0, g⟩ (fun r => (∀ c : Dev Cert.ProjSampleRefIdeal.nD,
      r.2.mem ((c.tc : Thread Cert.ProjSampleRefIdeal.nD Cert.ProjSampleRefIdeal.τ).loc Cert.ProjSampleRefIdeal.main_arg0) = m ((c.tc : Thread Cert.ProjSampleRefIdeal.nD Cert.ProjSampleRefIdeal.τ).loc Cert.ProjSampleRefIdeal.main_arg0)
      ∧ r.2.mem ((c.tc : Thread Cert.ProjSampleRefIdeal.nD Cert.ProjSampleRefIdeal.τ).loc Cert.ProjSampleRefIdeal.main_arg1) = m ((c.tc : Thread Cert.ProjSampleRefIdeal.nD Cert.ProjSampleRefIdeal.τ).loc Cert.ProjSampleRefIdeal.main_arg1)
      ∧ r.2.mem ((c.tc : Thread Cert.ProjSampleRefIdeal.nD Cert.ProjSampleRefIdeal.τ).loc Cert.ProjSampleRefIdeal.main_arg2) = m ((c.tc : Thread Cert.ProjSampleRefIdeal.nD Cert.ProjSampleRefIdeal.τ).loc Cert.ProjSampleRefIdeal.main_arg2))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6)
      ∧ r.2.mem ((c.tc : Thread Cert.ScanRefIdeal.nD Cert.ScanRefIdeal.τ).loc Cert.ScanRefIdeal.main_arg7) = m ((c.tc : Thread Cert.ScanRefIdeal.nD Cert.ScanRefIdeal.τ).loc Cert.ScanRefIdeal.main_arg7))
      ∧ r.2.sem = fun _ => 0)

def quiescent_ScanPrompt [hScanPrompt : Cert.ScanPrompt.Facts] : Prop :=
  ∀ (m : (ℓ : Loc Cert.ScanPrompt.nD Cert.ScanPrompt.τ Cert.ScanPrompt.sig) → Buf (Elt Bits) ℓ) (g : Dev Cert.ScanPrompt.nD → PrngReg), Pre_ScanPrompt m →
    θ_run (Cert.ScanPrompt.defs (F := Bits)) (onTc (τ := Cert.ScanPrompt.τ) (Cert.ScanPrompt.main (F := Bits))) ⟨m, fun _ => 0, g⟩ (fun r => (∀ c : Dev Cert.ScanPrompt.nD,
      r.2.mem ((c.tc : Thread Cert.ScanPrompt.nD Cert.ScanPrompt.τ).loc Cert.ScanPrompt.main_arg0) = m ((c.tc : Thread Cert.ScanPrompt.nD Cert.ScanPrompt.τ).loc Cert.ScanPrompt.main_arg0)
      ∧ r.2.mem ((c.tc : Thread Cert.ScanPrompt.nD Cert.ScanPrompt.τ).loc Cert.ScanPrompt.main_arg1) = m ((c.tc : Thread Cert.ScanPrompt.nD Cert.ScanPrompt.τ).loc Cert.ScanPrompt.main_arg1)
      ∧ r.2.mem ((c.tc : Thread Cert.ScanPrompt.nD Cert.ScanPrompt.τ).loc Cert.ScanPrompt.main_arg2) = m ((c.tc : Thread Cert.ScanPrompt.nD Cert.ScanPrompt.τ).loc Cert.ScanPrompt.main_arg2)
      ∧ r.2.mem ((c.tc : Thread Cert.ScanPrompt.nD Cert.ScanPrompt.τ).loc Cert.ScanPrompt.main_arg3) = m ((c.tc : Thread Cert.ScanPrompt.nD Cert.ScanPrompt.τ).loc Cert.ScanPrompt.main_arg3)
      ∧ r.2.mem ((c.tc : Thread Cert.ScanPrompt.nD Cert.ScanPrompt.τ).loc Cert.ScanPrompt.main_arg4) = m ((c.tc : Thread Cert.ScanPrompt.nD Cert.ScanPrompt.τ).loc Cert.ScanPrompt.main_arg4)
      ∧ r.2.mem ((c.tc : Thread Cert.ScanPrompt.nD Cert.ScanPrompt.τ).loc Cert.ScanPrompt.main_arg5) = m ((c.tc : Thread Cert.ScanPrompt.nD Cert.ScanPrompt.τ).loc Cert.ScanPrompt.main_arg5)
      ∧ r.2.mem ((c.tc : Thread Cert.ScanPrompt.nD Cert.ScanPrompt.τ).loc Cert.ScanPrompt.main_arg6) = m ((c.tc : Thread Cert.ScanPrompt.nD Cert.ScanPrompt.τ).loc Cert.ScanPrompt.main_arg6)
      ∧ r.2.mem ((c.tc : Thread Cert.ScanPrompt.nD Cert.ScanPrompt.τ).loc Cert.ScanPrompt.main_arg7) = m ((c.tc : Thread Cert.ScanPrompt.nD Cert.ScanPrompt.τ).loc Cert.ScanPrompt.main_arg7))
      ∧ r.2.sem = fun _ => 0)

def quiescent_ScanPromptIdeal [hScanPromptIdeal : Cert.ScanPromptIdeal.Facts] : Prop :=
  ∀ (m : (ℓ : Loc Cert.ScanPromptIdeal.nD Cert.ScanPromptIdeal.τ Cert.ScanPromptIdeal.sig) → Buf (Elt Ideal) ℓ) (g : Dev Cert.ScanPromptIdeal.nD → PrngReg), Pre_ScanPromptIdeal m →
    θ_run (Cert.ScanPromptIdeal.defs (F := Ideal)) (onTc (τ := Cert.ScanPromptIdeal.τ) (Cert.ScanPromptIdeal.main (F := Ideal))) ⟨m, fun _ => 0, g⟩ (fun r => (∀ c : Dev Cert.ScanPromptIdeal.nD,
      r.2.mem ((c.tc : Thread Cert.ScanPromptIdeal.nD Cert.ScanPromptIdeal.τ).loc Cert.ScanPromptIdeal.main_arg0) = m ((c.tc : Thread Cert.ScanPromptIdeal.nD Cert.ScanPromptIdeal.τ).loc Cert.ScanPromptIdeal.main_arg0)
      ∧ r.2.mem ((c.tc : Thread Cert.ScanPromptIdeal.nD Cert.ScanPromptIdeal.τ).loc Cert.ScanPromptIdeal.main_arg1) = m ((c.tc : Thread Cert.ScanPromptIdeal.nD Cert.ScanPromptIdeal.τ).loc Cert.ScanPromptIdeal.main_arg1)
      ∧ r.2.mem ((c.tc : Thread Cert.ScanPromptIdeal.nD Cert.ScanPromptIdeal.τ).loc Cert.ScanPromptIdeal.main_arg2) = m ((c.tc : Thread Cert.ScanPromptIdeal.nD Cert.ScanPromptIdeal.τ).loc Cert.ScanPromptIdeal.main_arg2)
      ∧ r.2.mem ((c.tc : Thread Cert.ScanPromptIdeal.nD Cert.ScanPromptIdeal.τ).loc Cert.ScanPromptIdeal.main_arg3) = m ((c.tc : Thread Cert.ScanPromptIdeal.nD Cert.ScanPromptIdeal.τ).loc Cert.ScanPromptIdeal.main_arg3)
      ∧ r.2.mem ((c.tc : Thread Cert.ScanPromptIdeal.nD Cert.ScanPromptIdeal.τ).loc Cert.ScanPromptIdeal.main_arg4) = m ((c.tc : Thread Cert.ScanPromptIdeal.nD Cert.ScanPromptIdeal.τ).loc Cert.ScanPromptIdeal.main_arg4)
      ∧ r.2.mem ((c.tc : Thread Cert.ScanPromptIdeal.nD Cert.ScanPromptIdeal.τ).loc Cert.ScanPromptIdeal.main_arg5) = m ((c.tc : Thread Cert.ScanPromptIdeal.nD Cert.ScanPromptIdeal.τ).loc Cert.ScanPromptIdeal.main_arg5)
      ∧ r.2.mem ((c.tc : Thread Cert.ScanPromptIdeal.nD Cert.ScanPromptIdeal.τ).loc Cert.ScanPromptIdeal.main_arg6) = m ((c.tc : Thread Cert.ScanPromptIdeal.nD Cert.ScanPromptIdeal.τ).loc Cert.ScanPromptIdeal.main_arg6)
      ∧ r.2.mem ((c.tc : Thread Cert.ScanPromptIdeal.nD Cert.ScanPromptIdeal.τ).loc Cert.ScanPromptIdeal.main_arg7) = m ((c.tc : Thread Cert.ScanPromptIdeal.nD Cert.ScanPromptIdeal.τ).loc Cert.ScanPromptIdeal.main_arg7))
      ∧ r.2.sem = fun _ => 0)

def quiescent_ScanPromptRefIdeal [hScanPromptRefIdeal : Cert.ScanPromptRefIdeal.Facts] : Prop :=
  ∀ (m : (ℓ : Loc Cert.ScanPromptRefIdeal.nD Cert.ScanPromptRefIdeal.τ Cert.ScanPromptRefIdeal.sig) → Buf (Elt Ideal) ℓ) (g : Dev Cert.ScanPromptRefIdeal.nD → PrngReg), Pre_ScanPromptRefIdeal m →
    θ_run (Cert.ScanPromptRefIdeal.defs (F := Ideal)) (onTc (τ := Cert.ScanPromptRefIdeal.τ) (Cert.ScanPromptRefIdeal.main (F := Ideal))) ⟨m, fun _ => 0, g⟩ (fun r => (∀ c : Dev Cert.ScanPromptRefIdeal.nD,
      r.2.mem ((c.tc : Thread Cert.ScanPromptRefIdeal.nD Cert.ScanPromptRefIdeal.τ).loc Cert.ScanPromptRefIdeal.main_arg0) = m ((c.tc : Thread Cert.ScanPromptRefIdeal.nD Cert.ScanPromptRefIdeal.τ).loc Cert.ScanPromptRefIdeal.main_arg0)
      ∧ r.2.mem ((c.tc : Thread Cert.ScanPromptRefIdeal.nD Cert.ScanPromptRefIdeal.τ).loc Cert.ScanPromptRefIdeal.main_arg1) = m ((c.tc : Thread Cert.ScanPromptRefIdeal.nD Cert.ScanPromptRefIdeal.τ).loc Cert.ScanPromptRefIdeal.main_arg1)
      ∧ r.2.mem ((c.tc : Thread Cert.ScanPromptRefIdeal.nD Cert.ScanPromptRefIdeal.τ).loc Cert.ScanPromptRefIdeal.main_arg2) = m ((c.tc : Thread Cert.ScanPromptRefIdeal.nD Cert.ScanPromptRefIdeal.τ).loc Cert.ScanPromptRefIdeal.main_arg2)
      ∧ r.2.mem ((c.tc : Thread Cert.ScanPromptRefIdeal.nD Cert.ScanPromptRefIdeal.τ).loc Cert.ScanPromptRefIdeal.main_arg3) = m ((c.tc : Thread Cert.ScanPromptRefIdeal.nD Cert.ScanPromptRefIdeal.τ).loc Cert.ScanPromptRefIdeal.main_arg3)
      ∧ r.2.mem ((c.tc : Thread Cert.ScanPromptRefIdeal.nD Cert.ScanPromptRefIdeal.τ).loc Cert.ScanPromptRefIdeal.main_arg4) = m ((c.tc : Thread Cert.ScanPromptRefIdeal.nD Cert.ScanPromptRefIdeal.τ).loc Cert.ScanPromptRefIdeal.main_arg4)
      ∧ r.2.mem ((c.tc : Thread Cert.ScanPromptRefIdeal.nD Cert.ScanPromptRefIdeal.τ).loc Cert.ScanPromptRefIdeal.main_arg5) = m ((c.tc : Thread Cert.ScanPromptRefIdeal.nD Cert.ScanPromptRefIdeal.τ).loc Cert.ScanPromptRefIdeal.main_arg5)
      ∧ r.2.mem ((c.tc : Thread Cert.ScanPromptRefIdeal.nD Cert.ScanPromptRefIdeal.τ).loc Cert.ScanPromptRefIdeal.main_arg6) = m ((c.tc : Thread Cert.ScanPromptRefIdeal.nD Cert.ScanPromptRefIdeal.τ).loc Cert.ScanPromptRefIdeal.main_arg6)
      ∧ r.2.mem ((c.tc : Thread Cert.ScanPromptRefIdeal.nD Cert.ScanPromptRefIdeal.τ).loc Cert.ScanPromptRefIdeal.main_arg7) = m ((c.tc : Thread Cert.ScanPromptRefIdeal.nD Cert.ScanPromptRefIdeal.τ).loc Cert.ScanPromptRefIdeal.main_arg7))
      ∧ r.2.sem = fun _ => 0)

def preserves_Experts_ExpertsIdeal : Prop :=
  True

def algebraic_ExpertsIdeal_ExpertsRefIdeal [hExpertsIdeal : Cert.ExpertsIdeal.Facts] [hExpertsRefIdeal : Cert.ExpertsRefIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v2) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v69) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7))

def preserves_MemKV_MemKVIdeal : Prop :=
  True

def algebraic_MemKVIdeal_MemKVRefIdeal [hMemKVIdeal : Cert.MemKVIdeal.Facts] [hMemKVRefIdeal : Cert.MemKVRefIdeal.Facts] : Prop :=
  ∀ (m : (ℓ : Loc Cert.MemKVIdeal.nD Cert.MemKVIdeal.τ Cert.MemKVIdeal.sig) → Buf (Elt Ideal) ℓ) (g : Dev Cert.MemKVIdeal.nD → PrngReg)
    (m' : (ℓ : Loc Cert.MemKVRefIdeal.nD Cert.MemKVRefIdeal.τ Cert.MemKVRefIdeal.sig) → Buf (Elt Ideal) ℓ) (g' : Dev Cert.MemKVRefIdeal.nD → PrngReg), Pre_MemKVIdeal m →
    (∀ c : Dev Cert.MemKVIdeal.nD,
      m' ((c.tc : Thread Cert.MemKVRefIdeal.nD Cert.MemKVRefIdeal.τ).loc Cert.MemKVRefIdeal.main_arg0) = m ((c.tc : Thread Cert.MemKVIdeal.nD Cert.MemKVIdeal.τ).loc Cert.MemKVIdeal.main_arg0)
      ∧ m' ((c.tc : Thread Cert.MemKVRefIdeal.nD Cert.MemKVRefIdeal.τ).loc Cert.MemKVRefIdeal.main_arg1) = m ((c.tc : Thread Cert.MemKVIdeal.nD Cert.MemKVIdeal.τ).loc Cert.MemKVIdeal.main_arg1)
      ∧ m' ((c.tc : Thread Cert.MemKVRefIdeal.nD Cert.MemKVRefIdeal.τ).loc Cert.MemKVRefIdeal.main_arg2) = m ((c.tc : Thread Cert.MemKVIdeal.nD Cert.MemKVIdeal.τ).loc Cert.MemKVIdeal.main_arg2)
      ∧ m' ((c.tc : Thread Cert.MemKVRefIdeal.nD Cert.MemKVRefIdeal.τ).loc Cert.MemKVRefIdeal.main_arg3) = m ((c.tc : Thread Cert.MemKVIdeal.nD Cert.MemKVIdeal.τ).loc Cert.MemKVIdeal.main_arg3)) →
    ∃ (v0 : (c : Dev Cert.MemKVIdeal.nD) → Buf (Elt Ideal) ((c.tc : Thread Cert.MemKVIdeal.nD Cert.MemKVIdeal.τ).loc Cert.MemKVIdeal.main_v7)),
      θ_run (Cert.MemKVIdeal.defs (F := Ideal)) (onTc (τ := Cert.MemKVIdeal.τ) (Cert.MemKVIdeal.main (F := Ideal))) ⟨m, fun _ => 0, g⟩ (fun r => ∀ c : Dev Cert.MemKVIdeal.nD,
          r.2.mem ((c.tc : Thread Cert.MemKVIdeal.nD Cert.MemKVIdeal.τ).loc Cert.MemKVIdeal.main_v7) = v0 c
          ∧ r.2.mem ((c.tc : Thread Cert.MemKVIdeal.nD Cert.MemKVIdeal.τ).loc Cert.MemKVIdeal.main_arg0) = m ((c.tc : Thread Cert.MemKVIdeal.nD Cert.MemKVIdeal.τ).loc Cert.MemKVIdeal.main_arg0)
          ∧ r.2.mem ((c.tc : Thread Cert.MemKVIdeal.nD Cert.MemKVIdeal.τ).loc Cert.MemKVIdeal.main_arg1) = m ((c.tc : Thread Cert.MemKVIdeal.nD Cert.MemKVIdeal.τ).loc Cert.MemKVIdeal.main_arg1)
          ∧ r.2.mem ((c.tc : Thread Cert.MemKVIdeal.nD Cert.MemKVIdeal.τ).loc Cert.MemKVIdeal.main_arg2) = m ((c.tc : Thread Cert.MemKVIdeal.nD Cert.MemKVIdeal.τ).loc Cert.MemKVIdeal.main_arg2)
          ∧ r.2.mem ((c.tc : Thread Cert.MemKVIdeal.nD Cert.MemKVIdeal.τ).loc Cert.MemKVIdeal.main_arg3) = m ((c.tc : Thread Cert.MemKVIdeal.nD Cert.MemKVIdeal.τ).loc Cert.MemKVIdeal.main_arg3))
      ∧ θ_run (Cert.MemKVRefIdeal.defs (F := Ideal)) (onTc (τ := Cert.MemKVRefIdeal.τ) (Cert.MemKVRefIdeal.main (F := Ideal))) ⟨m', fun _ => 0, g'⟩ (fun r => ∀ c : Dev Cert.MemKVRefIdeal.nD,
          r.2.mem ((c.tc : Thread Cert.MemKVRefIdeal.nD Cert.MemKVRefIdeal.τ).loc Cert.MemKVRefIdeal.main_v19) = v0 c
          ∧ r.2.mem ((c.tc : Thread Cert.MemKVRefIdeal.nD Cert.MemKVRefIdeal.τ).loc Cert.MemKVRefIdeal.main_arg0) = m' ((c.tc : Thread Cert.MemKVRefIdeal.nD Cert.MemKVRefIdeal.τ).loc Cert.MemKVRefIdeal.main_arg0)
          ∧ r.2.mem ((c.tc : Thread Cert.MemKVRefIdeal.nD Cert.MemKVRefIdeal.τ).loc Cert.MemKVRefIdeal.main_arg1) = m' ((c.tc : Thread Cert.MemKVRefIdeal.nD Cert.MemKVRefIdeal.τ).loc Cert.MemKVRefIdeal.main_arg1)
          ∧ r.2.mem ((c.tc : Thread Cert.MemKVRefIdeal.nD Cert.MemKVRefIdeal.τ).loc Cert.MemKVRefIdeal.main_arg2) = m' ((c.tc : Thread Cert.MemKVRefIdeal.nD Cert.MemKVRefIdeal.τ).loc Cert.MemKVRefIdeal.main_arg2)
          ∧ r.2.mem ((c.tc : Thread Cert.MemKVRefIdeal.nD Cert.MemKVRefIdeal.τ).loc Cert.MemKVRefIdeal.main_arg3) = m' ((c.tc : Thread Cert.MemKVRefIdeal.nD Cert.MemKVRefIdeal.τ).loc Cert.MemKVRefIdeal.main_arg3))

def preserves_ProjPrompt_ProjPromptIdeal : Prop :=
  True

def algebraic_ProjPromptIdeal_ProjPromptRefIdeal [hProjPromptIdeal : Cert.ProjPromptIdeal.Facts] [hProjPromptRefIdeal : Cert.ProjPromptRefIdeal.Facts] : Prop :=
  ∀ (m : (ℓ : Loc Cert.ProjPromptIdeal.nD Cert.ProjPromptIdeal.τ Cert.ProjPromptIdeal.sig) → Buf (Elt Ideal) ℓ) (g : Dev Cert.ProjPromptIdeal.nD → PrngReg)
    (m' : (ℓ : Loc Cert.ProjPromptRefIdeal.nD Cert.ProjPromptRefIdeal.τ Cert.ProjPromptRefIdeal.sig) → Buf (Elt Ideal) ℓ) (g' : Dev Cert.ProjPromptRefIdeal.nD → PrngReg), Pre_ProjPromptIdeal m →
    (∀ c : Dev Cert.ProjPromptIdeal.nD,
      m' ((c.tc : Thread Cert.ProjPromptRefIdeal.nD Cert.ProjPromptRefIdeal.τ).loc Cert.ProjPromptRefIdeal.main_arg0) = m ((c.tc : Thread Cert.ProjPromptIdeal.nD Cert.ProjPromptIdeal.τ).loc Cert.ProjPromptIdeal.main_arg0)
      ∧ m' ((c.tc : Thread Cert.ProjPromptRefIdeal.nD Cert.ProjPromptRefIdeal.τ).loc Cert.ProjPromptRefIdeal.main_arg1) = m ((c.tc : Thread Cert.ProjPromptIdeal.nD Cert.ProjPromptIdeal.τ).loc Cert.ProjPromptIdeal.main_arg1)
      ∧ m' ((c.tc : Thread Cert.ProjPromptRefIdeal.nD Cert.ProjPromptRefIdeal.τ).loc Cert.ProjPromptRefIdeal.main_arg2) = m ((c.tc : Thread Cert.ProjPromptIdeal.nD Cert.ProjPromptIdeal.τ).loc Cert.ProjPromptIdeal.main_arg2)) →
    ∃ (v0 : (c : Dev Cert.ProjPromptIdeal.nD) → Buf (Elt Ideal) ((c.tc : Thread Cert.ProjPromptIdeal.nD Cert.ProjPromptIdeal.τ).loc Cert.ProjPromptIdeal.main_v5)),
      θ_run (Cert.ProjPromptIdeal.defs (F := Ideal)) (onTc (τ := Cert.ProjPromptIdeal.τ) (Cert.ProjPromptIdeal.main (F := Ideal))) ⟨m, fun _ => 0, g⟩ (fun r => ∀ c : Dev Cert.ProjPromptIdeal.nD,
          r.2.mem ((c.tc : Thread Cert.ProjPromptIdeal.nD Cert.ProjPromptIdeal.τ).loc Cert.ProjPromptIdeal.main_v5) = v0 c
          ∧ r.2.mem ((c.tc : Thread Cert.ProjPromptIdeal.nD Cert.ProjPromptIdeal.τ).loc Cert.ProjPromptIdeal.main_arg0) = m ((c.tc : Thread Cert.ProjPromptIdeal.nD Cert.ProjPromptIdeal.τ).loc Cert.ProjPromptIdeal.main_arg0)
          ∧ r.2.mem ((c.tc : Thread Cert.ProjPromptIdeal.nD Cert.ProjPromptIdeal.τ).loc Cert.ProjPromptIdeal.main_arg1) = m ((c.tc : Thread Cert.ProjPromptIdeal.nD Cert.ProjPromptIdeal.τ).loc Cert.ProjPromptIdeal.main_arg1)
          ∧ r.2.mem ((c.tc : Thread Cert.ProjPromptIdeal.nD Cert.ProjPromptIdeal.τ).loc Cert.ProjPromptIdeal.main_arg2) = m ((c.tc : Thread Cert.ProjPromptIdeal.nD Cert.ProjPromptIdeal.τ).loc Cert.ProjPromptIdeal.main_arg2))
      ∧ θ_run (Cert.ProjPromptRefIdeal.defs (F := Ideal)) (onTc (τ := Cert.ProjPromptRefIdeal.τ) (Cert.ProjPromptRefIdeal.main (F := Ideal))) ⟨m', fun _ => 0, g'⟩ (fun r => ∀ c : Dev Cert.ProjPromptRefIdeal.nD,
          r.2.mem ((c.tc : Thread Cert.ProjPromptRefIdeal.nD Cert.ProjPromptRefIdeal.τ).loc Cert.ProjPromptRefIdeal.main_v16) = v0 c
          ∧ r.2.mem ((c.tc : Thread Cert.ProjPromptRefIdeal.nD Cert.ProjPromptRefIdeal.τ).loc Cert.ProjPromptRefIdeal.main_arg0) = m' ((c.tc : Thread Cert.ProjPromptRefIdeal.nD Cert.ProjPromptRefIdeal.τ).loc Cert.ProjPromptRefIdeal.main_arg0)
          ∧ r.2.mem ((c.tc : Thread Cert.ProjPromptRefIdeal.nD Cert.ProjPromptRefIdeal.τ).loc Cert.ProjPromptRefIdeal.main_arg1) = m' ((c.tc : Thread Cert.ProjPromptRefIdeal.nD Cert.ProjPromptRefIdeal.τ).loc Cert.ProjPromptRefIdeal.main_arg1)
          ∧ r.2.mem ((c.tc : Thread Cert.ProjPromptRefIdeal.nD Cert.ProjPromptRefIdeal.τ).loc Cert.ProjPromptRefIdeal.main_arg2) = m' ((c.tc : Thread Cert.ProjPromptRefIdeal.nD Cert.ProjPromptRefIdeal.τ).loc Cert.ProjPromptRefIdeal.main_arg2))

def preserves_ProjSample_ProjSampleIdeal : Prop :=
  True

def algebraic_ProjSampleIdeal_ProjSampleRefIdeal [hProjSampleIdeal : Cert.ProjSampleIdeal.Facts] [hProjSampleRefIdeal : Cert.ProjSampleRefIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleRefIdeal.nD Cert.ProjSampleRefIdeal.τ Cert.ProjSampleRefIdeal.sig) → Buf (Elt Ideal) ℓ) (g' : Dev Cert.ProjSampleRefIdeal.nD → PrngReg), Pre_ProjSampleIdeal m →
    (∀ c : Dev Cert.ProjSampleIdeal.nD,
      m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)) →
    ∃ (v0 : (c : Dev Cert.ProjSampleIdeal.nD) → Buf (Elt Ideal) ((c.tc : Thread Cert.ProjSampleIdeal.nD Cert.ProjSampleIdeal.τ).loc Cert.ProjSampleIdeal.main_v5)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v5) = v0 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2))
      ∧ θ_run (Cert.ProjSampleRefIdeal.defs (F := Ideal)) (onTc (τ := Cert.ProjSampleRefIdeal.τ) (Cert.ProjSampleRefIdeal.main (F := Ideal))) ⟨m', fun _ => 0, g'⟩ (fun r => ∀ c : Dev Cert.ProjSampleRefIdeal.nD,
          r.2.mem ((c.tc : Thread Cert.ProjSampleRefIdeal.nD Cert.ProjSampleRefIdeal.τ).loc Cert.ProjSampleRefIdeal.main_v16) = v0 c
          ∧ r.2.mem ((c.tc : Thread Cert.ProjSampleRefIdeal.nD Cert.ProjSampleRefIdeal.τ).loc Cert.ProjSampleRefIdeal.main_arg0) = m' ((c.tc : Thread Cert.ProjSampleRefIdeal.nD Cert.ProjSampleRefIdeal.τ).loc Cert.ProjSampleRefIdeal.main_arg0)
          ∧ r.2.mem ((c.tc : Thread Cert.ProjSampleRefIdeal.nD Cert.ProjSampleRefIdeal.τ).loc Cert.ProjSampleRefIdeal.main_arg1) = m' ((c.tc : Thread Cert.ProjSampleRefIdeal.nD Cert.ProjSampleRefIdeal.τ).loc Cert.ProjSampleRefIdeal.main_arg1)
          ∧ r.2.mem ((c.tc : Thread Cert.ProjSampleRefIdeal.nD Cert.ProjSampleRefIdeal.τ).loc Cert.ProjSampleRefIdeal.main_arg2) = m' ((c.tc : Thread Cert.ProjSampleRefIdeal.nD Cert.ProjSampleRefIdeal.τ).loc Cert.ProjSampleRefIdeal.main_arg2))

def preserves_Scan_ScanIdeal : Prop :=
  True

def algebraic_ScanIdeal_ScanRefIdeal [hScanIdeal : Cert.ScanIdeal.Facts] [hScanRefIdeal : Cert.ScanRefIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)
      ∧ m' ((c.tc : Thread Cert.ScanRefIdeal.nD Cert.ScanRefIdeal.τ).loc Cert.ScanRefIdeal.main_arg7) = m ((c.tc : Thread Cert.ScanIdeal.nD Cert.ScanIdeal.τ).loc Cert.ScanIdeal.main_arg7)) →
    ∃ (v0 : (c : Dev Cert.ScanIdeal.nD) → Buf (Elt Ideal) ((c.tc : Thread Cert.ScanIdeal.nD Cert.ScanIdeal.τ).loc Cert.ScanIdeal.main_v6_1)) (v1 : (c : Dev Cert.ScanIdeal.nD) → Buf (Elt Ideal) ((c.tc : Thread Cert.ScanIdeal.nD Cert.ScanIdeal.τ).loc Cert.ScanIdeal.main_v6_2)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v6_1) = v0 c
          ∧ r.2.mem ((c.tc : Thread Cert.ScanIdeal.nD Cert.ScanIdeal.τ).loc Cert.ScanIdeal.main_v6_2) = v1 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
          ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v10_6) = v0 c
          ∧ r.2.mem ((c.tc : Thread Cert.ScanRefIdeal.nD Cert.ScanRefIdeal.τ).loc Cert.ScanRefIdeal.main_v10_7) = v1 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5)
          ∧ r.2.mem ((c.tc : Thread Cert.ScanRefIdeal.nD Cert.ScanRefIdeal.τ).loc Cert.ScanRefIdeal.main_arg6) = m' ((c.tc : Thread Cert.ScanRefIdeal.nD Cert.ScanRefIdeal.τ).loc Cert.ScanRefIdeal.main_arg6)
          ∧ r.2.mem ((c.tc : Thread Cert.ScanRefIdeal.nD Cert.ScanRefIdeal.τ).loc Cert.ScanRefIdeal.main_arg7) = m' ((c.tc : Thread Cert.ScanRefIdeal.nD Cert.ScanRefIdeal.τ).loc Cert.ScanRefIdeal.main_arg7))

def preserves_ScanPrompt_ScanPromptIdeal : Prop :=
  True

def algebraic_ScanPromptIdeal_ScanPromptRefIdeal [hScanPromptIdeal : Cert.ScanPromptIdeal.Facts] [hScanPromptRefIdeal : Cert.ScanPromptRefIdeal.Facts] : Prop :=
  ∀ (m : (ℓ : Loc Cert.ScanPromptIdeal.nD Cert.ScanPromptIdeal.τ Cert.ScanPromptIdeal.sig) → Buf (Elt Ideal) ℓ) (g : Dev Cert.ScanPromptIdeal.nD → PrngReg)
    (m' : (ℓ : Loc Cert.ScanPromptRefIdeal.nD Cert.ScanPromptRefIdeal.τ Cert.ScanPromptRefIdeal.sig) → Buf (Elt Ideal) ℓ) (g' : Dev Cert.ScanPromptRefIdeal.nD → PrngReg), Pre_ScanPromptIdeal m →
    (∀ c : Dev Cert.ScanPromptIdeal.nD,
      m' ((c.tc : Thread Cert.ScanPromptRefIdeal.nD Cert.ScanPromptRefIdeal.τ).loc Cert.ScanPromptRefIdeal.main_arg0) = m ((c.tc : Thread Cert.ScanPromptIdeal.nD Cert.ScanPromptIdeal.τ).loc Cert.ScanPromptIdeal.main_arg0)
      ∧ m' ((c.tc : Thread Cert.ScanPromptRefIdeal.nD Cert.ScanPromptRefIdeal.τ).loc Cert.ScanPromptRefIdeal.main_arg1) = m ((c.tc : Thread Cert.ScanPromptIdeal.nD Cert.ScanPromptIdeal.τ).loc Cert.ScanPromptIdeal.main_arg1)
      ∧ m' ((c.tc : Thread Cert.ScanPromptRefIdeal.nD Cert.ScanPromptRefIdeal.τ).loc Cert.ScanPromptRefIdeal.main_arg2) = m ((c.tc : Thread Cert.ScanPromptIdeal.nD Cert.ScanPromptIdeal.τ).loc Cert.ScanPromptIdeal.main_arg2)
      ∧ m' ((c.tc : Thread Cert.ScanPromptRefIdeal.nD Cert.ScanPromptRefIdeal.τ).loc Cert.ScanPromptRefIdeal.main_arg3) = m ((c.tc : Thread Cert.ScanPromptIdeal.nD Cert.ScanPromptIdeal.τ).loc Cert.ScanPromptIdeal.main_arg3)
      ∧ m' ((c.tc : Thread Cert.ScanPromptRefIdeal.nD Cert.ScanPromptRefIdeal.τ).loc Cert.ScanPromptRefIdeal.main_arg4) = m ((c.tc : Thread Cert.ScanPromptIdeal.nD Cert.ScanPromptIdeal.τ).loc Cert.ScanPromptIdeal.main_arg4)
      ∧ m' ((c.tc : Thread Cert.ScanPromptRefIdeal.nD Cert.ScanPromptRefIdeal.τ).loc Cert.ScanPromptRefIdeal.main_arg5) = m ((c.tc : Thread Cert.ScanPromptIdeal.nD Cert.ScanPromptIdeal.τ).loc Cert.ScanPromptIdeal.main_arg5)
      ∧ m' ((c.tc : Thread Cert.ScanPromptRefIdeal.nD Cert.ScanPromptRefIdeal.τ).loc Cert.ScanPromptRefIdeal.main_arg6) = m ((c.tc : Thread Cert.ScanPromptIdeal.nD Cert.ScanPromptIdeal.τ).loc Cert.ScanPromptIdeal.main_arg6)
      ∧ m' ((c.tc : Thread Cert.ScanPromptRefIdeal.nD Cert.ScanPromptRefIdeal.τ).loc Cert.ScanPromptRefIdeal.main_arg7) = m ((c.tc : Thread Cert.ScanPromptIdeal.nD Cert.ScanPromptIdeal.τ).loc Cert.ScanPromptIdeal.main_arg7)) →
    ∃ (v0 : (c : Dev Cert.ScanPromptIdeal.nD) → Buf (Elt Ideal) ((c.tc : Thread Cert.ScanPromptIdeal.nD Cert.ScanPromptIdeal.τ).loc Cert.ScanPromptIdeal.main_v6_1)) (v1 : (c : Dev Cert.ScanPromptIdeal.nD) → Buf (Elt Ideal) ((c.tc : Thread Cert.ScanPromptIdeal.nD Cert.ScanPromptIdeal.τ).loc Cert.ScanPromptIdeal.main_v6_2)),
      θ_run (Cert.ScanPromptIdeal.defs (F := Ideal)) (onTc (τ := Cert.ScanPromptIdeal.τ) (Cert.ScanPromptIdeal.main (F := Ideal))) ⟨m, fun _ => 0, g⟩ (fun r => ∀ c : Dev Cert.ScanPromptIdeal.nD,
          r.2.mem ((c.tc : Thread Cert.ScanPromptIdeal.nD Cert.ScanPromptIdeal.τ).loc Cert.ScanPromptIdeal.main_v6_1) = v0 c
          ∧ r.2.mem ((c.tc : Thread Cert.ScanPromptIdeal.nD Cert.ScanPromptIdeal.τ).loc Cert.ScanPromptIdeal.main_v6_2) = v1 c
          ∧ r.2.mem ((c.tc : Thread Cert.ScanPromptIdeal.nD Cert.ScanPromptIdeal.τ).loc Cert.ScanPromptIdeal.main_arg0) = m ((c.tc : Thread Cert.ScanPromptIdeal.nD Cert.ScanPromptIdeal.τ).loc Cert.ScanPromptIdeal.main_arg0)
          ∧ r.2.mem ((c.tc : Thread Cert.ScanPromptIdeal.nD Cert.ScanPromptIdeal.τ).loc Cert.ScanPromptIdeal.main_arg1) = m ((c.tc : Thread Cert.ScanPromptIdeal.nD Cert.ScanPromptIdeal.τ).loc Cert.ScanPromptIdeal.main_arg1)
          ∧ r.2.mem ((c.tc : Thread Cert.ScanPromptIdeal.nD Cert.ScanPromptIdeal.τ).loc Cert.ScanPromptIdeal.main_arg2) = m ((c.tc : Thread Cert.ScanPromptIdeal.nD Cert.ScanPromptIdeal.τ).loc Cert.ScanPromptIdeal.main_arg2)
          ∧ r.2.mem ((c.tc : Thread Cert.ScanPromptIdeal.nD Cert.ScanPromptIdeal.τ).loc Cert.ScanPromptIdeal.main_arg3) = m ((c.tc : Thread Cert.ScanPromptIdeal.nD Cert.ScanPromptIdeal.τ).loc Cert.ScanPromptIdeal.main_arg3)
          ∧ r.2.mem ((c.tc : Thread Cert.ScanPromptIdeal.nD Cert.ScanPromptIdeal.τ).loc Cert.ScanPromptIdeal.main_arg4) = m ((c.tc : Thread Cert.ScanPromptIdeal.nD Cert.ScanPromptIdeal.τ).loc Cert.ScanPromptIdeal.main_arg4)
          ∧ r.2.mem ((c.tc : Thread Cert.ScanPromptIdeal.nD Cert.ScanPromptIdeal.τ).loc Cert.ScanPromptIdeal.main_arg5) = m ((c.tc : Thread Cert.ScanPromptIdeal.nD Cert.ScanPromptIdeal.τ).loc Cert.ScanPromptIdeal.main_arg5)
          ∧ r.2.mem ((c.tc : Thread Cert.ScanPromptIdeal.nD Cert.ScanPromptIdeal.τ).loc Cert.ScanPromptIdeal.main_arg6) = m ((c.tc : Thread Cert.ScanPromptIdeal.nD Cert.ScanPromptIdeal.τ).loc Cert.ScanPromptIdeal.main_arg6)
          ∧ r.2.mem ((c.tc : Thread Cert.ScanPromptIdeal.nD Cert.ScanPromptIdeal.τ).loc Cert.ScanPromptIdeal.main_arg7) = m ((c.tc : Thread Cert.ScanPromptIdeal.nD Cert.ScanPromptIdeal.τ).loc Cert.ScanPromptIdeal.main_arg7))
      ∧ θ_run (Cert.ScanPromptRefIdeal.defs (F := Ideal)) (onTc (τ := Cert.ScanPromptRefIdeal.τ) (Cert.ScanPromptRefIdeal.main (F := Ideal))) ⟨m', fun _ => 0, g'⟩ (fun r => ∀ c : Dev Cert.ScanPromptRefIdeal.nD,
          r.2.mem ((c.tc : Thread Cert.ScanPromptRefIdeal.nD Cert.ScanPromptRefIdeal.τ).loc Cert.ScanPromptRefIdeal.main_v10_6) = v0 c
          ∧ r.2.mem ((c.tc : Thread Cert.ScanPromptRefIdeal.nD Cert.ScanPromptRefIdeal.τ).loc Cert.ScanPromptRefIdeal.main_v10_7) = v1 c
          ∧ r.2.mem ((c.tc : Thread Cert.ScanPromptRefIdeal.nD Cert.ScanPromptRefIdeal.τ).loc Cert.ScanPromptRefIdeal.main_arg0) = m' ((c.tc : Thread Cert.ScanPromptRefIdeal.nD Cert.ScanPromptRefIdeal.τ).loc Cert.ScanPromptRefIdeal.main_arg0)
          ∧ r.2.mem ((c.tc : Thread Cert.ScanPromptRefIdeal.nD Cert.ScanPromptRefIdeal.τ).loc Cert.ScanPromptRefIdeal.main_arg1) = m' ((c.tc : Thread Cert.ScanPromptRefIdeal.nD Cert.ScanPromptRefIdeal.τ).loc Cert.ScanPromptRefIdeal.main_arg1)
          ∧ r.2.mem ((c.tc : Thread Cert.ScanPromptRefIdeal.nD Cert.ScanPromptRefIdeal.τ).loc Cert.ScanPromptRefIdeal.main_arg2) = m' ((c.tc : Thread Cert.ScanPromptRefIdeal.nD Cert.ScanPromptRefIdeal.τ).loc Cert.ScanPromptRefIdeal.main_arg2)
          ∧ r.2.mem ((c.tc : Thread Cert.ScanPromptRefIdeal.nD Cert.ScanPromptRefIdeal.τ).loc Cert.ScanPromptRefIdeal.main_arg3) = m' ((c.tc : Thread Cert.ScanPromptRefIdeal.nD Cert.ScanPromptRefIdeal.τ).loc Cert.ScanPromptRefIdeal.main_arg3)
          ∧ r.2.mem ((c.tc : Thread Cert.ScanPromptRefIdeal.nD Cert.ScanPromptRefIdeal.τ).loc Cert.ScanPromptRefIdeal.main_arg4) = m' ((c.tc : Thread Cert.ScanPromptRefIdeal.nD Cert.ScanPromptRefIdeal.τ).loc Cert.ScanPromptRefIdeal.main_arg4)
          ∧ r.2.mem ((c.tc : Thread Cert.ScanPromptRefIdeal.nD Cert.ScanPromptRefIdeal.τ).loc Cert.ScanPromptRefIdeal.main_arg5) = m' ((c.tc : Thread Cert.ScanPromptRefIdeal.nD Cert.ScanPromptRefIdeal.τ).loc Cert.ScanPromptRefIdeal.main_arg5)
          ∧ r.2.mem ((c.tc : Thread Cert.ScanPromptRefIdeal.nD Cert.ScanPromptRefIdeal.τ).loc Cert.ScanPromptRefIdeal.main_arg6) = m' ((c.tc : Thread Cert.ScanPromptRefIdeal.nD Cert.ScanPromptRefIdeal.τ).loc Cert.ScanPromptRefIdeal.main_arg6)
          ∧ r.2.mem ((c.tc : Thread Cert.ScanPromptRefIdeal.nD Cert.ScanPromptRefIdeal.τ).loc Cert.ScanPromptRefIdeal.main_arg7) = m' ((c.tc : Thread Cert.ScanPromptRefIdeal.nD Cert.ScanPromptRefIdeal.τ).loc Cert.ScanPromptRefIdeal.main_arg7))

def Claim : Prop :=
  ∃ (hExperts : Cert.Experts.Facts) (hExpertsIdeal : Cert.ExpertsIdeal.Facts) (hExpertsRefIdeal : Cert.ExpertsRefIdeal.Facts) (hMemKV : Cert.MemKV.Facts) (hMemKVIdeal : Cert.MemKVIdeal.Facts) (hMemKVRefIdeal : Cert.MemKVRefIdeal.Facts) (hProjPrompt : Cert.ProjPrompt.Facts) (hProjPromptIdeal : Cert.ProjPromptIdeal.Facts) (hProjPromptRefIdeal : Cert.ProjPromptRefIdeal.Facts) (hProjSample : Cert.ProjSample.Facts) (hProjSampleIdeal : Cert.ProjSampleIdeal.Facts) (hProjSampleRefIdeal : Cert.ProjSampleRefIdeal.Facts) (hScan : Cert.Scan.Facts) (hScanIdeal : Cert.ScanIdeal.Facts) (hScanRefIdeal : Cert.ScanRefIdeal.Facts) (hScanPrompt : Cert.ScanPrompt.Facts) (hScanPromptIdeal : Cert.ScanPromptIdeal.Facts) (hScanPromptRefIdeal : Cert.ScanPromptRefIdeal.Facts) (hPre_routed : Cert.Pre_routed.Facts),
    quiescent_Experts (hExperts := hExperts) (hPre_routed := hPre_routed)
    ∧ quiescent_ExpertsIdeal (hExpertsIdeal := hExpertsIdeal) (hPre_routed := hPre_routed)
    ∧ quiescent_ExpertsRefIdeal (hExpertsRefIdeal := hExpertsRefIdeal)
    ∧ quiescent_ExpertsRefIdeal_pre_routed (hExpertsRefIdeal := hExpertsRefIdeal) (hPre_routed := hPre_routed)
    ∧ quiescent_MemKV (hMemKV := hMemKV)
    ∧ quiescent_MemKVIdeal (hMemKVIdeal := hMemKVIdeal)
    ∧ quiescent_MemKVRefIdeal (hMemKVRefIdeal := hMemKVRefIdeal)
    ∧ quiescent_ProjPrompt (hProjPrompt := hProjPrompt)
    ∧ quiescent_ProjPromptIdeal (hProjPromptIdeal := hProjPromptIdeal)
    ∧ quiescent_ProjPromptRefIdeal (hProjPromptRefIdeal := hProjPromptRefIdeal)
    ∧ quiescent_ProjSample (hProjSample := hProjSample)
    ∧ quiescent_ProjSampleIdeal (hProjSampleIdeal := hProjSampleIdeal)
    ∧ quiescent_ProjSampleRefIdeal (hProjSampleRefIdeal := hProjSampleRefIdeal)
    ∧ quiescent_Scan (hScan := hScan)
    ∧ quiescent_ScanIdeal (hScanIdeal := hScanIdeal)
    ∧ quiescent_ScanRefIdeal (hScanRefIdeal := hScanRefIdeal)
    ∧ quiescent_ScanPrompt (hScanPrompt := hScanPrompt)
    ∧ quiescent_ScanPromptIdeal (hScanPromptIdeal := hScanPromptIdeal)
    ∧ quiescent_ScanPromptRefIdeal (hScanPromptRefIdeal := hScanPromptRefIdeal)
    ∧ preserves_Experts_ExpertsIdeal
    ∧ algebraic_ExpertsIdeal_ExpertsRefIdeal (hExpertsIdeal := hExpertsIdeal) (hExpertsRefIdeal := hExpertsRefIdeal) (hPre_routed := hPre_routed)
    ∧ preserves_MemKV_MemKVIdeal
    ∧ algebraic_MemKVIdeal_MemKVRefIdeal (hMemKVIdeal := hMemKVIdeal) (hMemKVRefIdeal := hMemKVRefIdeal)
    ∧ preserves_ProjPrompt_ProjPromptIdeal
    ∧ algebraic_ProjPromptIdeal_ProjPromptRefIdeal (hProjPromptIdeal := hProjPromptIdeal) (hProjPromptRefIdeal := hProjPromptRefIdeal)
    ∧ preserves_ProjSample_ProjSampleIdeal
    ∧ algebraic_ProjSampleIdeal_ProjSampleRefIdeal (hProjSampleIdeal := hProjSampleIdeal) (hProjSampleRefIdeal := hProjSampleRefIdeal)
    ∧ preserves_Scan_ScanIdeal
    ∧ algebraic_ScanIdeal_ScanRefIdeal (hScanIdeal := hScanIdeal) (hScanRefIdeal := hScanRefIdeal)
    ∧ preserves_ScanPrompt_ScanPromptIdeal
    ∧ algebraic_ScanPromptIdeal_ScanPromptRefIdeal (hScanPromptIdeal := hScanPromptIdeal) (hScanPromptRefIdeal := hScanPromptRefIdeal)
-- ==== Pre_routed.lean ====
abbrev S100 : Shape := ⟨1, ![100]⟩
abbrev S1 : Shape := ⟨1, ![1]⟩
abbrev S102400x2048 : Shape := ⟨2, ![102400, 2048]⟩
abbrev S1x32x2048x4096 : Shape := ⟨4, ![1, 32, 2048, 4096]⟩
abbrev S1x32x4096 : Shape := ⟨3, ![1, 32, 4096]⟩
abbrev S1x32x2048x2048 : Shape := ⟨4, ![1, 32, 2048, 2048]⟩
abbrev S1x32x2048 : Shape := ⟨3, ![1, 32, 2048]⟩
abbrev S_ : Shape := ⟨0, ![]⟩

class Facts : Prop where
  bcast_S_S100 : S_.BroadcastsInDim S100 (![] : Fin 0 → Fin S100.rank)
  reducesTo_S100_S_d0 : S100.ReducesTo [0] S_
  h_S_ : 0 < S_.numel
  bcast_S_S1 : S_.BroadcastsInDim S1 (![] : Fin 0 → Fin S1.rank)
  reducesTo_S1_S_d0 : S1.ReducesTo [0] S_
  shapeCasts_S1_S_ : S1.ShapeCasts S_

variable [Facts]

def fn_part1 {F : FTy → Type} [FloatOps F] (main_arg1 : IVec S100 32) (main_arg2 : IVec S1 32) (main_v0 : IVec S100 32) (main_v13 : IVec S_ 1) (main_v15 : IVec S1 1) (main_c_6 : IVec S_ 32) : IVec S_ 1 :=
  let main_v16 : IVec S1 32 := broadcastInDim S1 ![] bcast_S_S1 main_c_6
  let main_v17 : IVec S1 1 := cmpi .slt main_arg2 main_v16
  let main_v18 : IVec S1 1 := andi main_v15 main_v17
  let main_c_7 : IVec S_ 1 := constantI S_ 1 1#1
  let main_v19 : IVec S_ 1 := (fun x v => Host.reduce IntOp.andi x v reducesTo_S1_S_d0 h_S_) main_v18 main_c_7
  let main_v20 : IVec S_ 1 := andi main_v13 main_v19
  let main_v21 : IVec S_ 32 := shapeCast S_ main_arg2 shapeCasts_S1_S_
  let main_v22 : IVec S100 32 := broadcastInDim S100 ![] bcast_S_S100 main_v21
  let main_v23 : IVec S100 1 := cmpi .sle main_v0 main_v22
  let main_c_8 : IVec S_ 32 := constantI S_ 32 0#32
  let main_v24 : IVec S100 32 := broadcastInDim S100 ![] bcast_S_S100 main_c_8
  let main_v25 : IVec S100 1 := cmpi .eq main_arg1 main_v24
  let main_v26 : IVec S100 1 := ori main_v23 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v20 main_v27
  main_v28

def fn {F : FTy → Type} [FloatOps F] (main_arg0 : IVec S100 32) (main_arg1 : IVec S100 32) (main_arg2 : IVec S1 32) (main_arg3 : FVec F S102400x2048 .f32) (main_arg4 : FVec F S1x32x2048x4096 .f32) (main_arg5 : FVec F S1x32x4096 .f32) (main_arg6 : FVec F S1x32x2048x2048 .f32) (main_arg7 : FVec F S1x32x2048 .f32) : IVec S_ 1 :=
  let main_v0 : IVec S100 32 := iotaInDim S100 32 0
  let main_c : IVec S_ 32 := constantI S_ 32 0#32
  let main_v1 : IVec S100 32 := broadcastInDim S100 ![] bcast_S_S100 main_c
  let main_v2 : IVec S100 1 := cmpi .sge main_arg0 main_v1
  let main_c_0 : IVec S_ 32 := constantI S_ 32 32#32
  let main_v3 : IVec S100 32 := broadcastInDim S100 ![] bcast_S_S100 main_c_0
  let main_v4 : IVec S100 1 := cmpi .slt main_arg0 main_v3
  let main_v5 : IVec S100 1 := andi main_v2 main_v4
  let main_c_1 : IVec S_ 1 := constantI S_ 1 1#1
  let main_v6 : IVec S_ 1 := (fun x v => Host.reduce IntOp.andi x v reducesTo_S100_S_d0 h_S_) main_v5 main_c_1
  let main_c_2 : IVec S_ 32 := constantI S_ 32 0#32
  let main_v7 : IVec S100 32 := broadcastInDim S100 ![] bcast_S_S100 main_c_2
  let main_v8 : IVec S100 1 := cmpi .sge main_arg1 main_v7
  let main_c_3 : IVec S_ 32 := constantI S_ 32 1024#32
  let main_v9 : IVec S100 32 := broadcastInDim S100 ![] bcast_S_S100 main_c_3
  let main_v10 : IVec S100 1 := cmpi .sle main_arg1 main_v9
  let main_v11 : IVec S100 1 := andi main_v8 main_v10
  let main_c_4 : IVec S_ 1 := constantI S_ 1 1#1
  let main_v12 : IVec S_ 1 := (fun x v => Host.reduce IntOp.andi x v reducesTo_S100_S_d0 h_S_) main_v11 main_c_4
  let main_v13 : IVec S_ 1 := andi main_v6 main_v12
  let main_c_5 : IVec S_ 32 := constantI S_ 32 0#32
  let main_v14 : IVec S1 32 := broadcastInDim S1 ![] bcast_S_S1 main_c_5
  let main_v15 : IVec S1 1 := cmpi .sge main_arg2 main_v14
  let main_c_6 : IVec S_ 32 := constantI S_ 32 100#32
  fn_part1 (F := F) main_arg1 main_arg2 main_v0 main_v13 main_v15 main_c_6
-- ==== Experts.lean ====
abbrev S100 : Shape := ⟨1, ![100]⟩
abbrev S1 : Shape := ⟨1, ![1]⟩
abbrev S102400x2048 : Shape := ⟨2, ![102400, 2048]⟩
abbrev S1x32x2048x4096 : Shape := ⟨4, ![1, 32, 2048, 4096]⟩
abbrev S1x32x4096 : Shape := ⟨3, ![1, 32, 4096]⟩
abbrev S1x32x2048x2048 : Shape := ⟨4, ![1, 32, 2048, 2048]⟩
abbrev S1x32x2048 : Shape := ⟨3, ![1, 32, 2048]⟩
abbrev S1x32x1x4096 : Shape := ⟨4, ![1, 32, 1, 4096]⟩
abbrev S1x32x1x2048 : Shape := ⟨4, ![1, 32, 1, 2048]⟩
abbrev S1024x2048 : Shape := ⟨2, ![1024, 2048]⟩
abbrev S1x1x2048x256 : Shape := ⟨4, ![1, 1, 2048, 256]⟩
abbrev S1x1x1x256 : Shape := ⟨4, ![1, 1, 1, 256]⟩
abbrev S1x1x256x2048 : Shape := ⟨4, ![1, 1, 256, 2048]⟩
abbrev S1x1x1x2048 : Shape := ⟨4, ![1, 1, 1, 2048]⟩
abbrev S2048x256 : Shape := ⟨2, ![2048, 256]⟩
abbrev S256x2048 : Shape := ⟨2, ![256, 2048]⟩
abbrev S1x2048 : Shape := ⟨2, ![1, 2048]⟩
abbrev S256x256 : Shape := ⟨2, ![256, 256]⟩
abbrev S1x256 : Shape := ⟨2, ![1, 256]⟩

abbrev nBuf : Space → Nat
  | .hbm => 8
  | .vmem => 20
  | .smem => 3
  | _ => 0

abbrev bufTy : (tb : Table) → Fin (tcTables nBuf tb) → BufTy
  | .hbm, ⟨0, _⟩ => ⟨S102400x2048, .f32⟩
  | .hbm, ⟨1, _⟩ => ⟨S1x32x2048x4096, .f32⟩
  | .hbm, ⟨2, _⟩ => ⟨S1x32x4096, .f32⟩
  | .hbm, ⟨3, _⟩ => ⟨S1x32x2048x2048, .f32⟩
  | .hbm, ⟨4, _⟩ => ⟨S1x32x2048, .f32⟩
  | .hbm, ⟨5, _⟩ => ⟨S1x32x1x4096, .f32⟩
  | .hbm, ⟨6, _⟩ => ⟨S1x32x1x2048, .f32⟩
  | .hbm, ⟨7, _⟩ => ⟨S102400x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048x256, .f32⟩
  | .local _ .vmem, ⟨3, _⟩ => ⟨S1x1x2048x256, .f32⟩
  | .local _ .vmem, ⟨4, _⟩ => ⟨S1x1x2048x256, .f32⟩
  | .local _ .vmem, ⟨5, _⟩ => ⟨S1x1x2048x256, .f32⟩
  | .local _ .vmem, ⟨6, _⟩ => ⟨S1x1x1x256, .f32⟩
  | .local _ .vmem, ⟨7, _⟩ => ⟨S1x1x1x256, .f32⟩
  | .local _ .vmem, ⟨8, _⟩ => ⟨S1x1x1x256, .f32⟩
  | .local _ .vmem, ⟨9, _⟩ => ⟨S1x1x1x256, .f32⟩
  | .local _ .vmem, ⟨10, _⟩ => ⟨S1x1x256x2048, .f32⟩
  | .local _ .vmem, ⟨11, _⟩ => ⟨S1x1x256x2048, .f32⟩
  | .local _ .vmem, ⟨12, _⟩ => ⟨S1x1x1x2048, .f32⟩
  | .local _ .vmem, ⟨13, _⟩ => ⟨S1x1x1x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .bf16⟩
  | .local _ .vmem, ⟨17, _⟩ => ⟨S2048x256, .bf16⟩
  | .local _ .vmem, ⟨18, _⟩ => ⟨S2048x256, .bf16⟩
  | .local _ .vmem, ⟨19, _⟩ => ⟨S256x2048, .bf16⟩
  | .local _ .smem, ⟨0, _⟩ => ⟨S100, .i32⟩
  | .local _ .smem, ⟨1, _⟩ => ⟨S100, .i32⟩
  | .local _ .smem, ⟨2, _⟩ => ⟨S1, .i32⟩
  | _, _ => ⟨S102400x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![100, 8], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_3 : BitVec 32 := 0#32
  let v8 : BitVec 1 := Scalar.cmpi .sgt v1 c0_i32_3
  let v9 : BitVec 32 := Scalar.extui v8
  let c0_i32_4 : BitVec 32 := 0#32
  let v10 : BitVec 1 := Scalar.cmpi .ne v9 c0_i32_4
  v10

def k0_cond3 (v1 : BitVec 32) : BitVec 1 :=
  let c0_i32_5 : BitVec 32 := 0#32
  let v11 : BitVec 1 := Scalar.cmpi .sle v1 c0_i32_5
  let v12 : BitVec 32 := Scalar.extui v11
  let c0_i32_6 : BitVec 32 := 0#32
  let v13 : BitVec 1 := Scalar.cmpi .ne v12 c0_i32_6
  v13

def k0_cond4 (v1 : BitVec 32) : BitVec 1 :=
  let c256_i32 : BitVec 32 := 256#32
  let v14 : BitVec 1 := Scalar.cmpi .sgt v1 c256_i32
  let v15 : BitVec 32 := Scalar.extui v14
  let c0_i32_7 : BitVec 32 := 0#32
  let v16 : BitVec 1 := Scalar.cmpi .ne v15 c0_i32_7
  v16

def k0_cond5 (v1 : BitVec 32) : BitVec 1 :=
  let c256_i32_8 : BitVec 32 := 256#32
  let v17 : BitVec 1 := Scalar.cmpi .sle v1 c256_i32_8
  let v18 : BitVec 32 := Scalar.extui v17
  let c0_i32_9 : BitVec 32 := 0#32
  let v19 : BitVec 1 := Scalar.cmpi .ne v18 c0_i32_9
  v19

def k0_cond6 (v1 : BitVec 32) : BitVec 1 :=
  let c512_i32 : BitVec 32 := 512#32
  let v20 : BitVec 1 := Scalar.cmpi .sgt v1 c512_i32
  let v21 : BitVec 32 := Scalar.extui v20
  let c0_i32_10 : BitVec 32 := 0#32
  let v22 : BitVec 1 := Scalar.cmpi .ne v21 c0_i32_10
  v22

def k0_cond7 (v1 : BitVec 32) : BitVec 1 :=
  let c512_i32_11 : BitVec 32 := 512#32
  let v23 : BitVec 1 := Scalar.cmpi .sle v1 c512_i32_11
  let v24 : BitVec 32 := Scalar.extui v23
  let c0_i32_12 : BitVec 32 := 0#32
  let v25 : BitVec 1 := Scalar.cmpi .ne v24 c0_i32_12
  v25

def k0_cond8 (v1 : BitVec 32) : BitVec 1 :=
  let c768_i32 : BitVec 32 := 768#32
  let v26 : BitVec 1 := Scalar.cmpi .sgt v1 c768_i32
  let v27 : BitVec 32 := Scalar.extui v26
  let c0_i32_13 : BitVec 32 := 0#32
  let v28 : BitVec 1 := Scalar.cmpi .ne v27 c0_i32_13
  v28

def k0_cond9 (v1 : BitVec 32) : BitVec 1 :=
  let c768_i32_14 : BitVec 32 := 768#32
  let v29 : BitVec 1 := Scalar.cmpi .sle v1 c768_i32_14
  let v30 : BitVec 32 := Scalar.extui v29
  let c0_i32_15 : BitVec 32 := 0#32
  let v31 : BitVec 1 := Scalar.cmpi .ne v30 c0_i32_15
  v31

def k0_cond10 (v1 : BitVec 32) : BitVec 1 :=
  let c0_i32_1 : BitVec 32 := 0#32
  let v5 : BitVec 1 := Scalar.cmpi .sgt v1 c0_i32_1
  let v6 : BitVec 32 := Scalar.extui v5
  let c0_i32_2 : BitVec 32 := 0#32
  let v7 : BitVec 1 := Scalar.cmpi .ne v6 c0_i32_2
  v7

def k0_cond11 (v1 : BitVec 32) : BitVec 1 :=
  let c256_i32 : BitVec 32 := 256#32
  let v56 : BitVec 1 := Scalar.cmpi .sgt v1 c256_i32
  let v57 : BitVec 32 := Scalar.extui v56
  let c0_i32_41 : BitVec 32 := 0#32
  let v58 : BitVec 1 := Scalar.cmpi .ne v57 c0_i32_41
  v58

def k0_cond12 (v1 : BitVec 32) : BitVec 1 :=
  let c512_i32 : BitVec 32 := 512#32
  let v59 : BitVec 1 := Scalar.cmpi .sgt v1 c512_i32
  let v60 : BitVec 32 := Scalar.extui v59
  let c0_i32_42 : BitVec 32 := 0#32
  let v61 : BitVec 1 := Scalar.cmpi .ne v60 c0_i32_42
  v61

def k0_cond13 (v1 : BitVec 32) : BitVec 1 :=
  let c768_i32 : BitVec 32 := 768#32
  let v62 : BitVec 1 := Scalar.cmpi .sgt v1 c768_i32
  let v63 : BitVec 32 := Scalar.extui v62
  let c0_i32_43 : BitVec 32 := 0#32
  let v64 : BitVec 1 := Scalar.cmpi .ne v63 c0_i32_43
  v64

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let v1 : BitVec 32 := Scalar.minsi arg0 v0
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S100.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S100) ![v0.toNat] S1.size (k0_off1_inb i)) numel1_S1
  let v2 : Index := Scalar.indexCast arg0
  let v3 : BitVec 32 := pf.at 1 (Rect.unit (s := S100) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  let c0_i32_2 : BitVec 32 := 0#32
  ![c0_i32_0.toNat, v1.toNat, c0_i32_1.toNat, v5.toNat]

def cc0_transform_2 (k0_off1_inb : ∀ i : grid0.Coords, ∀ a, (k0_off1 i) a + S1.size a ≤ S100.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S100) ![v0.toNat] S1.size (k0_off1_inb i)) numel1_S1
  let v2 : Index := Scalar.indexCast arg0
  let v3 : BitVec 32 := pf.at 1 (Rect.unit (s := S100) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c8_i32 : BitVec 32 := 8#32
  let v6 : BitVec 32 := Scalar.addi c8_i32 v5
  let c0_i32_0 : BitVec 32 := 0#32
  let c0_i32_1 : BitVec 32 := 0#32
  let c0_i32_2 : BitVec 32 := 0#32
  ![c0_i32_0.toNat, v1.toNat, c0_i32_1.toNat, v6.toNat]

def cc0_transform_3 (k0_off1_inb : ∀ i : grid0.Coords, ∀ a, (k0_off1 i) a + S1.size a ≤ S100.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S100) ![v0.toNat] S1.size (k0_off1_inb i)) numel1_S1
  let v2 : Index := Scalar.indexCast arg0
  let v3 : BitVec 32 := pf.at 1 (Rect.unit (s := S100) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  let c0_i32_2 : BitVec 32 := 0#32
  ![c0_i32_0.toNat, v1.toNat, c0_i32_1.toNat, v5.toNat]

def cc0_transform_4 (k0_off1_inb : ∀ i : grid0.Coords, ∀ a, (k0_off1 i) a + S1.size a ≤ S100.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S100) ![v0.toNat] S1.size (k0_off1_inb i)) numel1_S1
  let v2 : Index := Scalar.indexCast arg0
  let v3 : BitVec 32 := pf.at 1 (Rect.unit (s := S100) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c8_i32 : BitVec 32 := 8#32
  let v6 : BitVec 32 := Scalar.addi c8_i32 v5
  let c0_i32_0 : BitVec 32 := 0#32
  let c0_i32_1 : BitVec 32 := 0#32
  let c0_i32_2 : BitVec 32 := 0#32
  ![c0_i32_0.toNat, v1.toNat, c0_i32_1.toNat, v6.toNat]

def cc0_transform_5 (k0_off1_inb : ∀ i : grid0.Coords, ∀ a, (k0_off1 i) a + S1.size a ≤ S100.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S100) ![v0.toNat] S1.size (k0_off1_inb i)) numel1_S1
  let v2 : Index := Scalar.indexCast arg0
  let v3 : BitVec 32 := pf.at 1 (Rect.unit (s := S100) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  let c0_i32_2 : BitVec 32 := 0#32
  ![c0_i32_0.toNat, v1.toNat, v5.toNat, c0_i32_1.toNat]

def cc0_transform_6 (k0_off1_inb : ∀ i : grid0.Coords, ∀ a, (k0_off1 i) a + S1.size a ≤ S100.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S100) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ExpertsRefIdeal.lean ====
abbrev S100 : Shape := ⟨1, ![100]⟩
abbrev S1 : Shape := ⟨1, ![1]⟩
abbrev S102400x2048 : Shape := ⟨2, ![102400, 2048]⟩
abbrev S1x32x2048x4096 : Shape := ⟨4, ![1, 32, 2048, 4096]⟩
abbrev S1x32x4096 : Shape := ⟨3, ![1, 32, 4096]⟩
abbrev S1x32x2048x2048 : Shape := ⟨4, ![1, 32, 2048, 2048]⟩
abbrev S1x32x2048 : Shape := ⟨3, ![1, 32, 2048]⟩
abbrev S100x1024x2048 : Shape := ⟨3, ![100, 1024, 2048]⟩
abbrev S32x2048x4096 : Shape := ⟨3, ![32, 2048, 4096]⟩
abbrev S_ : Shape := ⟨0, ![]⟩
abbrev S100x1 : Shape := ⟨2, ![100, 1]⟩
abbrev S100x2048x4096 : Shape := ⟨3, ![100, 2048, 4096]⟩
abbrev S100x1024x4096 : Shape := ⟨3, ![100, 1024, 4096]⟩
abbrev S32x4096 : Shape := ⟨2, ![32, 4096]⟩
abbrev S100x4096 : Shape := ⟨2, ![100, 4096]⟩
abbrev S100x1x4096 : Shape := ⟨3, ![100, 1, 4096]⟩
abbrev S32x2048x2048 : Shape := ⟨3, ![32, 2048, 2048]⟩
abbrev S100x2048x2048 : Shape := ⟨3, ![100, 2048, 2048]⟩
abbrev S32x2048 : Shape := ⟨2, ![32, 2048]⟩
abbrev S100x2048 : Shape := ⟨2, ![100, 2048]⟩
abbrev S100x1x2048 : Shape := ⟨3, ![100, 1, 2048]⟩
abbrev S1024 : Shape := ⟨1, ![1024]⟩
abbrev S1x1024 : Shape := ⟨2, ![1, 1024]⟩
abbrev S100x1024 : Shape := ⟨2, ![100, 1024]⟩
abbrev S100x1024x1 : Shape := ⟨3, ![100, 1024, 1]⟩

abbrev nBuf : Space → Nat
  | .hbm => 120
  | .vmem => 0
  | .smem => 0
  | _ => 0

abbrev bufTy : (tb : Table) → Fin (tcTables nBuf tb) → BufTy
  | .hbm, ⟨0, _⟩ => ⟨S100, .i32⟩
  | .hbm, ⟨1, _⟩ => ⟨S100, .i32⟩
  | .hbm, ⟨2, _⟩ => ⟨S1, .i32⟩
  | .hbm, ⟨3, _⟩ => ⟨S102400x2048, .f32⟩
  | .hbm, ⟨4, _⟩ => ⟨S1x32x2048x4096, .f32⟩
  | .hbm, ⟨5, _⟩ => ⟨S1x32x4096, .f32⟩
  | .hbm, ⟨6, _⟩ => ⟨S1x32x2048x2048, .f32⟩
  | .hbm, ⟨7, _⟩ => ⟨S1x32x2048, .f32⟩
  | .hbm, ⟨8, _⟩ => ⟨S100x1024x2048, .f32⟩
  | .hbm, ⟨9, _⟩ => ⟨S32x2048x4096, .f32⟩
  | .hbm, ⟨10, _⟩ => ⟨S_, .i32⟩
  | .hbm, ⟨11, _⟩ => ⟨S100, .i32⟩
  | .hbm, ⟨12, _⟩ => ⟨S100, .i1⟩
  | .hbm, ⟨13, _⟩ => ⟨S_, .i32⟩
  | .hbm, ⟨14, _⟩ => ⟨S100, .i32⟩
  | .hbm, ⟨15, _⟩ => ⟨S100, .i32⟩
  | .hbm, ⟨16, _⟩ => ⟨S100, .i32⟩
  | .hbm, ⟨17, _⟩ => ⟨S100x1, .i32⟩
  | .hbm, ⟨18, _⟩ => ⟨S100x2048x4096, .f32⟩
  | .hbm, ⟨19, _⟩ => ⟨S100x1024x4096, .f32⟩
  | .hbm, ⟨20, _⟩ => ⟨S32x4096, .f32⟩
  | .hbm, ⟨21, _⟩ => ⟨S_, .i32⟩
  | .hbm, ⟨22, _⟩ => ⟨S100, .i32⟩
  | .hbm, ⟨23, _⟩ => ⟨S100, .i1⟩
  | .hbm, ⟨24, _⟩ => ⟨S_, .i32⟩
  | .hbm, ⟨25, _⟩ => ⟨S100, .i32⟩
  | .hbm, ⟨26, _⟩ => ⟨S100, .i32⟩
  | .hbm, ⟨27, _⟩ => ⟨S100, .i32⟩
  | .hbm, ⟨28, _⟩ => ⟨S100x1, .i32⟩
  | .hbm, ⟨29, _⟩ => ⟨S100x4096, .f32⟩
  | .hbm, ⟨30, _⟩ => ⟨S100x1x4096, .f32⟩
  | .hbm, ⟨31, _⟩ => ⟨S100x1024x4096, .f32⟩
  | .hbm, ⟨32, _⟩ => ⟨S100x1024x4096, .f32⟩
  | .hbm, ⟨33, _⟩ => ⟨S100x1024x2048, .f32⟩
  | .hbm, ⟨34, _⟩ => ⟨S_, .f32⟩
  | .hbm, ⟨35, _⟩ => ⟨S100x1024x2048, .f32⟩
  | .hbm, ⟨36, _⟩ => ⟨S100x1024x2048, .f32⟩
  | .hbm, ⟨37, _⟩ => ⟨S100x1024x2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S100x1024x2048, .f32⟩
  | .hbm, ⟨42, _⟩ => ⟨S100x1024x2048, .f32⟩
  | .hbm, ⟨43, _⟩ => ⟨S_, .f32⟩
  | .hbm, ⟨44, _⟩ => ⟨S100x1024x2048, .f32⟩
  | .hbm, ⟨45, _⟩ => ⟨S100x1024x2048, .f32⟩
  | .hbm, ⟨46, _⟩ => ⟨S_, .f32⟩
  | .hbm, ⟨47, _⟩ => ⟨S100x1024x2048, .f32⟩
  | .hbm, ⟨48, _⟩ => ⟨S100x1024x2048, .f32⟩
  | .hbm, ⟨49, _⟩ => ⟨S100x1024x2048, .f32⟩
  | .hbm, ⟨50, _⟩ => ⟨S100x1024x2048, .f32⟩
  | .hbm, ⟨51, _⟩ => ⟨S_, .f32⟩
  | .hbm, ⟨52, _⟩ => ⟨S100x1024x2048, .f32⟩
  | .hbm, ⟨53, _⟩ => ⟨S100x1024x2048, .f32⟩
  | .hbm, ⟨54, _⟩ => ⟨S_, .f32⟩
  | .hbm, ⟨55, _⟩ => ⟨S100x1024x2048, .f32⟩
  | .hbm, ⟨56, _⟩ => ⟨S100x1024x2048, .f32⟩
  | .hbm, ⟨57, _⟩ => ⟨S100x1024x2048, .f32⟩
  | .hbm, ⟨58, _⟩ => ⟨S_, .f32⟩
  | .hbm, ⟨59, _⟩ => ⟨S100x1024x2048, .f32⟩
  | .hbm, ⟨60, _⟩ => ⟨S100x1024x2048, .f32⟩
  | .hbm, ⟨61, _⟩ => ⟨S100x1024x2048, .f32⟩
  | .hbm, ⟨62, _⟩ => ⟨S32x2048x2048, .f32⟩
  | .hbm, ⟨63, _⟩ => ⟨S_, .i32⟩
  | .hbm, ⟨64, _⟩ => ⟨S100, .i32⟩
  | .hbm, ⟨65, _⟩ => ⟨S100, .i1⟩
  | .hbm, ⟨66, _⟩ => ⟨S_, .i32⟩
  | .hbm, ⟨67, _⟩ => ⟨S100, .i32⟩
  | .hbm, ⟨68, _⟩ => ⟨S100, .i32⟩
  | .hbm, ⟨69, _⟩ => ⟨S100, .i32⟩
  | .hbm, ⟨70, _⟩ => ⟨S100x1, .i32⟩
  | .hbm, ⟨71, _⟩ => ⟨S100x2048x2048, .f32⟩
  | .hbm, ⟨72, _⟩ => ⟨S100x1024x2048, .f32⟩
  | .hbm, ⟨73, _⟩ => ⟨S32x2048, .f32⟩
  | .hbm, ⟨74, _⟩ => ⟨S_, .i32⟩
  | .hbm, ⟨75, _⟩ => ⟨S100, .i32⟩
  | .hbm, ⟨76, _⟩ => ⟨S100, .i1⟩
  | .hbm, ⟨77, _⟩ => ⟨S_, .i32⟩
  | .hbm, ⟨78, _⟩ => ⟨S100, .i32⟩
  | .hbm, ⟨79, _⟩ => ⟨S100, .i32⟩
  | .hbm, ⟨80, _⟩ => ⟨S100, .i32⟩
  | .hbm, ⟨81, _⟩ => ⟨S100x1, .i32⟩
  | .hbm, ⟨82, _⟩ => ⟨S100x2048, .f32⟩
  | .hbm, ⟨83, _⟩ => ⟨S100x1x2048, .f32⟩
  | .hbm, ⟨84, _⟩ => ⟨S100x1024x2048, .f32⟩
  | .hbm, ⟨85, _⟩ => ⟨S100x1024x2048, .f32⟩
  | .hbm, ⟨86, _⟩ => ⟨S1024, .i32⟩
  | .hbm, ⟨87, _⟩ => ⟨S_, .i32⟩
  | .hbm, ⟨88, _⟩ => ⟨S_, .i32⟩
  | .hbm, ⟨89, _⟩ => ⟨S1024, .i32⟩
  | .hbm, ⟨90, _⟩ => ⟨S1024, .i32⟩
  | .hbm, ⟨91, _⟩ => ⟨S1024, .i32⟩
  | .hbm, ⟨92, _⟩ => ⟨S_, .i32⟩
  | .hbm, ⟨93, _⟩ => ⟨S1024, .i32⟩
  | .hbm, ⟨94, _⟩ => ⟨S1024, .i1⟩
  | .hbm, ⟨95, _⟩ => ⟨S1024, .i32⟩
  | .hbm, ⟨96, _⟩ => ⟨S1024, .i32⟩
  | .hbm, ⟨97, _⟩ => ⟨S_, .i32⟩
  | .hbm, ⟨98, _⟩ => ⟨S1024, .i32⟩
  | .hbm, ⟨99, _⟩ => ⟨S1024, .i1⟩
  | .hbm, ⟨100, _⟩ => ⟨S1024, .i1⟩
  | .hbm, ⟨101, _⟩ => ⟨S_, .i32⟩
  | .hbm, ⟨102, _⟩ => ⟨S1024, .i32⟩
  | .hbm, ⟨103, _⟩ => ⟨S1024, .i32⟩
  | .hbm, ⟨104, _⟩ => ⟨S1024, .i32⟩
  | .hbm, ⟨105, _⟩ => ⟨S_, .i32⟩
  | .hbm, ⟨106, _⟩ => ⟨S1024, .i32⟩
  | .hbm, ⟨107, _⟩ => ⟨S1024, .i32⟩
  | .hbm, ⟨108, _⟩ => ⟨S1x1024, .i32⟩
  | .hbm, ⟨109, _⟩ => ⟨S100x1, .i32⟩
  | .hbm, ⟨110, _⟩ => ⟨S100x1024, .i32⟩
  | .hbm, ⟨111, _⟩ => ⟨S100x1024, .i32⟩
  | .hbm, ⟨112, _⟩ => ⟨S100x1024, .i1⟩
  | .hbm, ⟨113, _⟩ => ⟨S100x1024x1, .i1⟩
  | .hbm, ⟨114, _⟩ => ⟨S_, .f32⟩
  | .hbm, ⟨115, _⟩ => ⟨S_, .f32⟩
  | .hbm, ⟨116, _⟩ => ⟨S100x1024x2048, .i1⟩
  | .hbm, ⟨117, _⟩ => ⟨S100x1024x2048, .f32⟩
  | .hbm, ⟨118, _⟩ => ⟨S100x1024x2048, .f32⟩
  | .hbm, ⟨119, _⟩ => ⟨S102400x2048, .f32⟩
  | _, _ => ⟨S100, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_c_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_c_12 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_v5 : Ref sig .tc := ⟨.hbm, 93, rfl⟩
abbrev main_call1_v6 : Ref sig .tc := ⟨.hbm, 94, rfl⟩
abbrev main_call1_v7 : Ref sig .tc := ⟨.hbm, 95, rfl⟩
abbrev main_call1_v8 : Ref sig .tc := ⟨.hbm, 96, rfl⟩
abbrev main_call1_c : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_c_0 : Ref sig .tc := ⟨.hbm, 101, rfl⟩
abbrev main_call1_v12 : Ref sig .tc := ⟨.hbm, 102, rfl⟩
abbrev main_call1_v13 : Ref sig .tc := ⟨.hbm, 103, rfl⟩
abbrev main_v59 : Ref sig .tc := ⟨.hbm, 104, rfl⟩
abbrev main_c_14 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_cst_15 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_v68 : Ref sig .tc := ⟨.hbm, 118, rfl⟩
abbrev main_v69 : Ref sig .tc := ⟨.hbm, 119, rfl⟩

abbrev nD : Nat := 1
abbrev τ : Topo := Topo.v7x

variable {F : FTy → Type} [FloatOps F]
-- ==== MemKV.lean ====
abbrev S8x256x2048 : Shape := ⟨3, ![8, 256, 2048]⟩
abbrev S1x2048 : Shape := ⟨2, ![1, 2048]⟩
abbrev S1x2048x512 : Shape := ⟨3, ![1, 2048, 512]⟩
abbrev S2048x512 : Shape := ⟨2, ![2048, 512]⟩
abbrev S2048x1024 : Shape := ⟨2, ![2048, 1024]⟩
abbrev S2048x2048 : Shape := ⟨2, ![2048, 2048]⟩
abbrev S2048 : Shape := ⟨1, ![2048]⟩
abbrev S1024x2048 : Shape := ⟨2, ![1024, 2048]⟩
abbrev S1024x512 : Shape := ⟨2, ![1024, 512]⟩
abbrev S1024 : Shape := ⟨1, ![1024]⟩
abbrev S1024x1 : Shape := ⟨2, ![1024, 1]⟩

abbrev nBuf : Space → Nat
  | .hbm => 12
  | .vmem => 8
  | .smem => 0
  | _ => 0

abbrev bufTy : (tb : Table) → Fin (tcTables nBuf tb) → BufTy
  | .hbm, ⟨0, _⟩ => ⟨S8x256x2048, .f32⟩
  | .hbm, ⟨1, _⟩ => ⟨S1x2048, .f32⟩
  | .hbm, ⟨2, _⟩ => ⟨S1x2048x512, .f32⟩
  | .hbm, ⟨3, _⟩ => ⟨S1x2048x512, .f32⟩
  | .hbm, ⟨4, _⟩ => ⟨S2048x512, .f32⟩
  | .hbm, ⟨5, _⟩ => ⟨S2048x512, .f32⟩
  | .hbm, ⟨6, _⟩ => ⟨S2048x1024, .f32⟩
  | .hbm, ⟨7, _⟩ => ⟨S2048x1024, .bf16⟩
  | .hbm, ⟨8, _⟩ => ⟨S2048x2048, .f32⟩
  | .hbm, ⟨9, _⟩ => ⟨S2048, .f32⟩
  | .hbm, ⟨10, _⟩ => ⟨S1x2048, .f32⟩
  | .hbm, ⟨11, _⟩ => ⟨S2048x1024, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemKVRefIdeal.lean ====
abbrev S8x256x2048 : Shape := ⟨3, ![8, 256, 2048]⟩
abbrev S1x2048 : Shape := ⟨2, ![1, 2048]⟩
abbrev S1x2048x512 : Shape := ⟨3, ![1, 2048, 512]⟩
abbrev S2048 : Shape := ⟨1, ![2048]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S2048x512 : Shape := ⟨2, ![2048, 512]⟩
abbrev S8x256x512 : Shape := ⟨3, ![8, 256, 512]⟩
abbrev S8x256x1024 : Shape := ⟨3, ![8, 256, 1024]⟩
abbrev S2048x1024 : Shape := ⟨2, ![2048, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S1x2048, .f32⟩
  | .hbm, ⟨2, _⟩ => ⟨S1x2048x512, .f32⟩
  | .hbm, ⟨3, _⟩ => ⟨S1x2048x512, .f32⟩
  | .hbm, ⟨4, _⟩ => ⟨S2048, .f32⟩
  | .hbm, ⟨5, _⟩ => ⟨S8x256x2048, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x2048, .f32⟩
  | .hbm, ⟨17, _⟩ => ⟨S8x256x2048, .f32⟩
  | .hbm, ⟨18, _⟩ => ⟨S1x1x2048, .f32⟩
  | .hbm, ⟨19, _⟩ => ⟨S8x256x2048, .f32⟩
  | .hbm, ⟨20, _⟩ => ⟨S8x256x2048, .f32⟩
  | .hbm, ⟨21, _⟩ => ⟨S2048x512, .f32⟩
  | .hbm, ⟨22, _⟩ => ⟨S8x256x512, .f32⟩
  | .hbm, ⟨23, _⟩ => ⟨S2048x512, .f32⟩
  | .hbm, ⟨24, _⟩ => ⟨S8x256x512, .f32⟩
  | .hbm, ⟨25, _⟩ => ⟨S8x256x1024, .f32⟩
  | .hbm, ⟨26, _⟩ => ⟨S2048x1024, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== ProjPrompt.lean ====
abbrev S8x2048x2048 : Shape := ⟨3, ![8, 2048, 2048]⟩
abbrev S1x2048 : Shape := ⟨2, ![1, 2048]⟩
abbrev S1x2048x6656 : Shape := ⟨3, ![1, 2048, 6656]⟩
abbrev S2048x6656 : Shape := ⟨2, ![2048, 6656]⟩
abbrev S16384x2048 : Shape := ⟨2, ![16384, 2048]⟩
abbrev S2048 : Shape := ⟨1, ![2048]⟩
abbrev S16384x6656 : Shape := ⟨2, ![16384, 6656]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x6656, .f32⟩
  | .hbm, ⟨3, _⟩ => ⟨S2048x6656, .f32⟩
  | .hbm, ⟨4, _⟩ => ⟨S2048x6656, .bf16⟩
  | .hbm, ⟨5, _⟩ => ⟨S16384x2048, .f32⟩
  | .hbm, ⟨6, _⟩ => ⟨S2048, .f32⟩
  | .hbm, ⟨7, _⟩ => ⟨S1x2048, .f32⟩
  | .hbm, ⟨8, _⟩ => ⟨S16384x6656, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjPromptIdeal.lean ====
abbrev S8x2048x2048 : Shape := ⟨3, ![8, 2048, 2048]⟩
abbrev S1x2048 : Shape := ⟨2, ![1, 2048]⟩
abbrev S1x2048x6656 : Shape := ⟨3, ![1, 2048, 6656]⟩
abbrev S2048x6656 : Shape := ⟨2, ![2048, 6656]⟩
abbrev S16384x2048 : Shape := ⟨2, ![16384, 2048]⟩
abbrev S2048 : Shape := ⟨1, ![2048]⟩
abbrev S16384x6656 : Shape := ⟨2, ![16384, 6656]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x6656, .f32⟩
  | .hbm, ⟨3, _⟩ => ⟨S2048x6656, .f32⟩
  | .hbm, ⟨4, _⟩ => ⟨S2048x6656, .bf16⟩
  | .hbm, ⟨5, _⟩ => ⟨S16384x2048, .f32⟩
  | .hbm, ⟨6, _⟩ => ⟨S2048, .f32⟩
  | .hbm, ⟨7, _⟩ => ⟨S1x2048, .f32⟩
  | .hbm, ⟨8, _⟩ => ⟨S16384x6656, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjPromptRefIdeal.lean ====
abbrev S8x2048x2048 : Shape := ⟨3, ![8, 2048, 2048]⟩
abbrev S1x2048 : Shape := ⟨2, ![1, 2048]⟩
abbrev S1x2048x6656 : Shape := ⟨3, ![1, 2048, 6656]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x6656 : Shape := ⟨2, ![2048, 6656]⟩
abbrev S8x2048x6656 : Shape := ⟨3, ![8, 2048, 6656]⟩
abbrev S16384x6656 : Shape := ⟨2, ![16384, 6656]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x6656, .f32⟩
  | .hbm, ⟨3, _⟩ => ⟨S2048, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S1x1x2048, .f32⟩
  | .hbm, ⟨18, _⟩ => ⟨S8x2048x2048, .f32⟩
  | .hbm, ⟨19, _⟩ => ⟨S8x2048x2048, .f32⟩
  | .hbm, ⟨20, _⟩ => ⟨S2048x6656, .f32⟩
  | .hbm, ⟨21, _⟩ => ⟨S8x2048x6656, .f32⟩
  | .hbm, ⟨22, _⟩ => ⟨S16384x6656, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== ProjSample.lean ====
abbrev S16x64x2048 : Shape := ⟨3, ![16, 64, 2048]⟩
abbrev S1x2048 : Shape := ⟨2, ![1, 2048]⟩
abbrev S1x2048x6656 : Shape := ⟨3, ![1, 2048, 6656]⟩
abbrev S2048x6656 : Shape := ⟨2, ![2048, 6656]⟩
abbrev S1024x2048 : Shape := ⟨2, ![1024, 2048]⟩
abbrev S2048 : Shape := ⟨1, ![2048]⟩
abbrev S1024x6656 : Shape := ⟨2, ![1024, 6656]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 9
  | .vmem => 7
  | .smem => 0
  | _ => 0

abbrev bufTy : (tb : Table) → Fin (tcTables nBuf tb) → BufTy
  | .hbm, ⟨0, _⟩ => ⟨S16x64x2048, .f32⟩
  | .hbm, ⟨1, _⟩ => ⟨S1x2048, .f32⟩
  | .hbm, ⟨2, _⟩ => ⟨S1x2048x6656, .f32⟩
  | .hbm, ⟨3, _⟩ => ⟨S2048x6656, .f32⟩
  | .hbm, ⟨4, _⟩ => ⟨S2048x6656, .bf16⟩
  | .hbm, ⟨5, _⟩ => ⟨S1024x2048, .f32⟩
  | .hbm, ⟨6, _⟩ => ⟨S2048, .f32⟩
  | .hbm, ⟨7, _⟩ => ⟨S1x2048, .f32⟩
  | .hbm, ⟨8, _⟩ => ⟨S1024x6656, .f32⟩
  | .local _ .vmem, ⟨0, _⟩ => ⟨S1024x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | _, _ => ⟨S16x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjSampleRefIdeal.lean ====
abbrev S16x64x2048 : Shape := ⟨3, ![16, 64, 2048]⟩
abbrev S1x2048 : Shape := ⟨2, ![1, 2048]⟩
abbrev S1x2048x6656 : Shape := ⟨3, ![1, 2048, 6656]⟩
abbrev S2048 : Shape := ⟨1, ![2048]⟩
abbrev S_ : Shape := ⟨0, ![]⟩
abbrev S16x64 : Shape := ⟨2, ![16, 64]⟩
abbrev S16x64x1 : Shape := ⟨3, ![16, 64, 1]⟩
abbrev S1x1x2048 : Shape := ⟨3, ![1, 1, 2048]⟩
abbrev S2048x6656 : Shape := ⟨2, ![2048, 6656]⟩
abbrev S16x64x6656 : Shape := ⟨3, ![16, 64, 6656]⟩
abbrev S1024x6656 : Shape := ⟨2, ![1024, 6656]⟩

abbrev nBuf : Space → Nat
  | .hbm => 23
  | .vmem => 0
  | .smem => 0
  | _ => 0

abbrev bufTy : (tb : Table) → Fin (tcTables nBuf tb) → BufTy
  | .hbm, ⟨0, _⟩ => ⟨S16x64x2048, .f32⟩
  | .hbm, ⟨1, _⟩ => ⟨S1x2048, .f32⟩
  | .hbm, ⟨2, _⟩ => ⟨S1x2048x6656, .f32⟩
  | .hbm, ⟨3, _⟩ => ⟨S2048, .f32⟩
  | .hbm, ⟨4, _⟩ => ⟨S16x64x2048, .f32⟩
  | .hbm, ⟨5, _⟩ => ⟨S_, .f32⟩
  | .hbm, ⟨6, _⟩ => ⟨S16x64, .f32⟩
  | .hbm, ⟨7, _⟩ => ⟨S16x64x1, .f32⟩
  | .hbm, ⟨8, _⟩ => ⟨S_, .f32⟩
  | .hbm, ⟨9, _⟩ => ⟨S16x64x1, .f32⟩
  | .hbm, ⟨10, _⟩ => ⟨S16x64x1, .f32⟩
  | .hbm, ⟨11, _⟩ => ⟨S_, .f32⟩
  | .hbm, ⟨12, _⟩ => ⟨S16x64x1, .f32⟩
  | .hbm, ⟨13, _⟩ => ⟨S16x64x1, .f32⟩
  | .hbm, ⟨14, _⟩ => ⟨S16x64x1, .f32⟩
  | .hbm, ⟨15, _⟩ => ⟨S16x64x2048, .f32⟩
  | .hbm, ⟨16, _⟩ => ⟨S16x64x2048, .f32⟩
  | .hbm, ⟨17, _⟩ => ⟨S1x1x2048, .f32⟩
  | .hbm, ⟨18, _⟩ => ⟨S16x64x2048, .f32⟩
  | .hbm, ⟨19, _⟩ => ⟨S16x64x2048, .f32⟩
  | .hbm, ⟨20, _⟩ => ⟨S2048x6656, .f32⟩
  | .hbm, ⟨21, _⟩ => ⟨S16x64x6656, .f32⟩
  | .hbm, ⟨22, _⟩ => ⟨S1024x6656, .f32⟩
  | _, _ => ⟨S16x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Scan.lean ====
abbrev S1024x1024 : Shape := ⟨2, ![1024, 1024]⟩
abbrev S16x4096 : Shape := ⟨2, ![16, 4096]⟩
abbrev S8x4096 : Shape := ⟨2, ![8, 4096]⟩
abbrev S8x128x1024 : Shape := ⟨3, ![8, 128, 1024]⟩
abbrev S8x1024x128 : Shape := ⟨3, ![8, 1024, 128]⟩
abbrev S1024 : Shape := ⟨1, ![1024]⟩
abbrev S2x8x64x1024 : Shape := ⟨4, ![2, 8, 64, 1024]⟩
abbrev S2x64x8x1024 : Shape := ⟨4, ![2, 64, 8, 1024]⟩
abbrev S2x512x1024 : Shape := ⟨3, ![2, 512, 1024]⟩
abbrev S2x8x4096 : Shape := ⟨3, ![2, 8, 4096]⟩
abbrev S1x1024 : Shape := ⟨2, ![1, 1024]⟩
abbrev S1x256x1024 : Shape := ⟨3, ![1, 256, 1024]⟩
abbrev S1x8x4096 : Shape := ⟨3, ![1, 8, 4096]⟩
abbrev S256x4096 : Shape := ⟨2, ![256, 4096]⟩
abbrev S1x256x128 : Shape := ⟨3, ![1, 256, 128]⟩
abbrev S256x128 : Shape := ⟨2, ![256, 128]⟩
abbrev S1x128x1024 : Shape := ⟨3, ![1, 128, 1024]⟩
abbrev S128x1024 : Shape := ⟨2, ![128, 1024]⟩
abbrev S256x1024 : Shape := ⟨2, ![256, 1024]⟩
abbrev S256x512 : Shape := ⟨2, ![256, 512]⟩
abbrev S8x512 : Shape := ⟨2, ![8, 512]⟩
abbrev S1x1024x128 : Shape := ⟨3, ![1, 1024, 128]⟩
abbrev S1024x128 : Shape := ⟨2, ![1024, 128]⟩
abbrev S1x128 : Shape := ⟨2, ![1, 128]⟩

abbrev nBuf : Space → Nat
  | .hbm => 17
  | .vmem => 21
  | .smem => 0
  | _ => 0

abbrev bufTy : (tb : Table) → Fin (tcTables nBuf tb) → BufTy
  | .hbm, ⟨0, _⟩ => ⟨S1024x1024, .f32⟩
  | .hbm, ⟨1, _⟩ => ⟨S16x4096, .f32⟩
  | .hbm, ⟨2, _⟩ => ⟨S16x4096, .f32⟩
  | .hbm, ⟨3, _⟩ => ⟨S8x4096, .f32⟩
  | .hbm, ⟨4, _⟩ => ⟨S8x4096, .f32⟩
  | .hbm, ⟨5, _⟩ => ⟨S8x128x1024, .bf16⟩
  | .hbm, ⟨6, _⟩ => ⟨S8x1024x128, .bf16⟩
  | .hbm, ⟨7, _⟩ => ⟨S1024, .f32⟩
  | .hbm, ⟨8, _⟩ => ⟨S2x8x64x1024, .f32⟩
  | .hbm, ⟨9, _⟩ => ⟨S2x64x8x1024, .f32⟩
  | .hbm, ⟨10, _⟩ => ⟨S2x512x1024, .f32⟩
  | .hbm, ⟨11, _⟩ => ⟨S2x8x4096, .f32⟩
  | .hbm, ⟨12, _⟩ => ⟨S2x8x4096, .f32⟩
  | .hbm, ⟨13, _⟩ => ⟨S1x1024, .f32⟩
  | .hbm, ⟨14, _⟩ => ⟨S2x512x1024, .bf16⟩
  | .hbm, ⟨15, _⟩ => ⟨S2x8x4096, .f32⟩
  | .hbm, ⟨16, _⟩ => ⟨S2x8x4096, .f32⟩
  | .local _ .vmem, ⟨0, _⟩ => ⟨S1x256x1024, .f32⟩
  | .local _ .vmem, ⟨1, _⟩ => ⟨S1x256x1024, .f32⟩
  | .local _ .vmem, ⟨2, _⟩ => ⟨S1x8x4096, .f32⟩
  | .local _ .vmem, ⟨3, _⟩ => ⟨S1x8x4096, .f32⟩
  | .local _ .vmem, ⟨4, _⟩ => ⟨S1x8x4096, .f32⟩
  | .local _ .vmem, ⟨5, _⟩ => ⟨S1x8x4096, .f32⟩
  | .local _ .vmem, ⟨6, _⟩ => ⟨S8x4096, .f32⟩
  | .local _ .vmem, ⟨7, _⟩ => ⟨S8x4096, .f32⟩
  | .local _ .vmem, ⟨8, _⟩ => ⟨S8x128x1024, .bf16⟩
  | .local _ .vmem, ⟨9, _⟩ => ⟨S8x1024x128, .bf16⟩
  | .local _ .vmem, ⟨10, _⟩ => ⟨S1x1024, .f32⟩
  | .local _ .vmem, ⟨11, _⟩ => ⟨S1x256x1024, .bf16⟩
  | .local _ .vmem, ⟨12, _⟩ => ⟨S1x256x1024, .bf16⟩
  | .local _ .vmem, ⟨13, _⟩ => ⟨S1x8x4096, .f32⟩
  | .local _ .vmem, ⟨14, _⟩ => ⟨S1x8x4096, .f32⟩
  | .local _ .vmem, ⟨15, _⟩ => ⟨S1x8x4096, .f32⟩
  | .local _ .vmem, ⟨16, _⟩ => ⟨S1x8x4096, .f32⟩
  | .local _ .vmem, ⟨17, _⟩ => ⟨S256x4096, .f32⟩
  | .local _ .vmem, ⟨18, _⟩ => ⟨S256x4096, .f32⟩
  | .local _ .vmem, ⟨19, _⟩ => ⟨S8x4096, .f32⟩
  | .local _ .vmem, ⟨20, _⟩ => ⟨S8x4096, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 2], ![false, false]⟩

@[reducible] def k0_t1_loop : Scf.Loop 32 :=
  let c0_i32_75 : BitVec 32 := 0#32
  let c32_i32 : BitVec 32 := 32#32
  let v119 : BitVec 32 := Scalar.addi c0_i32_75 c32_i32
  let c1_i32 : BitVec 32 := 1#32
  ⟨c0_i32_75, v119, c1_i32⟩
def k0_mult1 (k0_t1 : Fin k0_t1_loop.trips) : BitVec 32 :=
  let c0_i32_75 : BitVec 32 := 0#32
  let c1_i32 : BitVec 32 := 1#32
  let arg17 : BitVec 32 := Scf.iv c0_i32_75 c1_i32 k0_t1
  let c8_i32 : BitVec 32 := 8#32
  let v470 : BitVec 32 := Scalar.muli arg17 c8_i32
  v470
def k0_off1 (k0_t1 : Fin k0_t1_loop.trips) : Fin 2 → Nat :=
  let c0_i32_75 : BitVec 32 := 0#32
  let c1_i32 : BitVec 32 := 1#32
  let arg17 : BitVec 32 := Scf.iv c0_i32_75 c1_i32 k0_t1
  let c8_i32 : BitVec 32 := 8#32
  let v470 : BitVec 32 := Scalar.muli arg17 c8_i32
  let v471 : BitVec 32 := v470
  let v475 : Index := Scalar.indexCast v471
  let c0_355 : Index := 0#32
  ![v475.toNat, 0]
@[reducible] def k0_t2_loop : Scf.Loop 32 :=
  let c0_i32_89 : BitVec 32 := 0#32
  let c32_i32_90 : BitVec 32 := 32#32
  let v131 : BitVec 32 := Scalar.addi c0_i32_89 c32_i32_90
  let c1_i32_91 : BitVec 32 := 1#32
  ⟨c0_i32_89, v131, c1_i32_91⟩
def k0_mult2 (k0_t2 : Fin k0_t2_loop.trips) : BitVec 32 :=
  let c0_i32_89 : BitVec 32 := 0#32
  let c1_i32_91 : BitVec 32 := 1#32
  let arg17 : BitVec 32 := Scf.iv c0_i32_89 c1_i32_91 k0_t2
  let c8_i32 : BitVec 32 := 8#32
  let v470 : BitVec 32 := Scalar.muli arg17 c8_i32
  v470
def k0_off2 (k0_t2 : Fin k0_t2_loop.trips) : Fin 2 → Nat :=
  let c0_i32_89 : BitVec 32 := 0#32
  let c1_i32_91 : BitVec 32 := 1#32
  let arg17 : BitVec 32 := Scf.iv c0_i32_89 c1_i32_91 k0_t2
  let c8_i32 : BitVec 32 := 8#32
  let v470 : BitVec 32 := Scalar.muli arg17 c8_i32
  let v471 : BitVec 32 := v470
  let v475 : Index := Scalar.indexCast v471
  let c512_355 : Index := 512#32
  ![v475.toNat, 512]
@[reducible] def k0_t3_loop : Scf.Loop 32 :=
  let c0_i32_105 : BitVec 32 := 0#32
  let c32_i32_106 : BitVec 32 := 32#32
  let v143 : BitVec 32 := Scalar.addi c0_i32_105 c32_i32_106
  let c1_i32_107 : BitVec 32 := 1#32
  ⟨c0_i32_105, v143, c1_i32_107⟩
def k0_mult3 (k0_t3 : Fin k0_t3_loop.trips) : BitVec 32 :=
  let c0_i32_105 : BitVec 32 := 0#32
  let c1_i32_107 : BitVec 32 := 1#32
  let arg17 : BitVec 32 := Scf.iv c0_i32_105 c1_i32_107 k0_t3
  let c8_i32 : BitVec 32 := 8#32
  let v470 : BitVec 32 := Scalar.muli arg17 c8_i32
  v470
def k0_off3 (k0_t3 : Fin k0_t3_loop.trips) : Fin 2 → Nat :=
  let c0_i32_105 : BitVec 32 := 0#32
  let c1_i32_107 : BitVec 32 := 1#32
  let arg17 : BitVec 32 := Scf.iv c0_i32_105 c1_i32_107 k0_t3
  let c8_i32 : BitVec 32 := 8#32
  let v470 : BitVec 32 := Scalar.muli arg17 c8_i32
  let v471 : BitVec 32 := v470
  let v475 : Index := Scalar.indexCast v471
  let c1024_355 : Index := 1024#32
  ![v475.toNat, 1024]
@[reducible] def k0_t4_loop : Scf.Loop 32 :=
  let c0_i32_121 : BitVec 32 := 0#32
  let c32_i32_122 : BitVec 32 := 32#32
  let v155 : BitVec 32 := Scalar.addi c0_i32_121 c32_i32_122
  let c1_i32_123 : BitVec 32 := 1#32
  ⟨c0_i32_121, v155, c1_i32_123⟩
def k0_mult4 (k0_t4 : Fin k0_t4_loop.trips) : BitVec 32 :=
  let c0_i32_121 : BitVec 32 := 0#32
  let c1_i32_123 : BitVec 32 := 1#32
  let arg17 : BitVec 32 := Scf.iv c0_i32_121 c1_i32_123 k0_t4
  let c8_i32 : BitVec 32 := 8#32
  let v470 : BitVec 32 := Scalar.muli arg17 c8_i32
  v470
def k0_off4 (k0_t4 : Fin k0_t4_loop.trips) : Fin 2 → Nat :=
  let c0_i32_121 : BitVec 32 := 0#32
  let c1_i32_123 : BitVec 32 := 1#32
  let arg17 : BitVec 32 := Scf.iv c0_i32_121 c1_i32_123 k0_t4
  let c8_i32 : BitVec 32 := 8#32
  let v470 : BitVec 32 := Scalar.muli arg17 c8_i32
  let v471 : BitVec 32 := v470
  let v475 : Index := Scalar.indexCast v471
  let c1536_355 : Index := 1536#32
  ![v475.toNat, 1536]
@[reducible] def k0_t5_loop : Scf.Loop 32 :=
  let c0_i32_137 : BitVec 32 := 0#32
  let c32_i32_138 : BitVec 32 := 32#32
  let v167 : BitVec 32 := Scalar.addi c0_i32_137 c32_i32_138
  let c1_i32_139 : BitVec 32 := 1#32
  ⟨c0_i32_137, v167, c1_i32_139⟩
def k0_mult5 (k0_t5 : Fin k0_t5_loop.trips) : BitVec 32 :=
  let c0_i32_137 : BitVec 32 := 0#32
  let c1_i32_139 : BitVec 32 := 1#32
  let arg17 : BitVec 32 := Scf.iv c0_i32_137 c1_i32_139 k0_t5
  let c8_i32 : BitVec 32 := 8#32
  let v470 : BitVec 32 := Scalar.muli arg17 c8_i32
  v470
def k0_off5 (k0_t5 : Fin k0_t5_loop.trips) : Fin 2 → Nat :=
  let c0_i32_137 : BitVec 32 := 0#32
  let c1_i32_139 : BitVec 32 := 1#32
  let arg17 : BitVec 32 := Scf.iv c0_i32_137 c1_i32_139 k0_t5
  let c8_i32 : BitVec 32 := 8#32
  let v470 : BitVec 32 := Scalar.muli arg17 c8_i32
  let v471 : BitVec 32 := v470
  let v475 : Index := Scalar.indexCast v471
  let c2048_355 : Index := 2048#32
  ![v475.toNat, 2048]
@[reducible] def k0_t6_loop : Scf.Loop 32 :=
  let c0_i32_153 : BitVec 32 := 0#32
  let c32_i32_154 : BitVec 32 := 32#32
  let v179 : BitVec 32 := Scalar.addi c0_i32_153 c32_i32_154
  let c1_i32_155 : BitVec 32 := 1#32
  ⟨c0_i32_153, v179, c1_i32_155⟩
def k0_mult6 (k0_t6 : Fin k0_t6_loop.trips) : BitVec 32 :=
  let c0_i32_153 : BitVec 32 := 0#32
  let c1_i32_155 : BitVec 32 := 1#32
  let arg17 : BitVec 32 := Scf.iv c0_i32_153 c1_i32_155 k0_t6
  let c8_i32 : BitVec 32 := 8#32
  let v470 : BitVec 32 := Scalar.muli arg17 c8_i32
  v470
def k0_off6 (k0_t6 : Fin k0_t6_loop.trips) : Fin 2 → Nat :=
  let c0_i32_153 : BitVec 32 := 0#32
  let c1_i32_155 : BitVec 32 := 1#32
  let arg17 : BitVec 32 := Scf.iv c0_i32_153 c1_i32_155 k0_t6
  let c8_i32 : BitVec 32 := 8#32
  let v470 : BitVec 32 := Scalar.muli arg17 c8_i32
  let v471 : BitVec 32 := v470
  let v475 : Index := Scalar.indexCast v471
  let c2560_355 : Index := 2560#32
  ![v475.toNat, 2560]
@[reducible] def k0_t7_loop : Scf.Loop 32 :=
  let c0_i32_169 : BitVec 32 := 0#32
  let c32_i32_170 : BitVec 32 := 32#32
  let v191 : BitVec 32 := Scalar.addi c0_i32_169 c32_i32_170
  let c1_i32_171 : BitVec 32 := 1#32
  ⟨c0_i32_169, v191, c1_i32_171⟩
def k0_mult7 (k0_t7 : Fin k0_t7_loop.trips) : BitVec 32 :=
  let c0_i32_169 : BitVec 32 := 0#32
  let c1_i32_171 : BitVec 32 := 1#32
  let arg17 : BitVec 32 := Scf.iv c0_i32_169 c1_i32_171 k0_t7
  let c8_i32 : BitVec 32 := 8#32
  let v470 : BitVec 32 := Scalar.muli arg17 c8_i32
  v470
def k0_off7 (k0_t7 : Fin k0_t7_loop.trips) : Fin 2 → Nat :=
  let c0_i32_169 : BitVec 32 := 0#32
  let c1_i32_171 : BitVec 32 := 1#32
  let arg17 : BitVec 32 := Scf.iv c0_i32_169 c1_i32_171 k0_t7
  let c8_i32 : BitVec 32 := 8#32
  let v470 : BitVec 32 := Scalar.muli arg17 c8_i32
  let v471 : BitVec 32 := v470
  let v475 : Index := Scalar.indexCast v471
  let c3072_355 : Index := 3072#32
  ![v475.toNat, 3072]
@[reducible] def k0_t8_loop : Scf.Loop 32 :=
  let c0_i32_185 : BitVec 32 := 0#32
  let c32_i32_186 : BitVec 32 := 32#32
  let v203 : BitVec 32 := Scalar.addi c0_i32_185 c32_i32_186
  let c1_i32_187 : BitVec 32 := 1#32
  ⟨c0_i32_185, v203, c1_i32_187⟩
def k0_mult8 (k0_t8 : Fin k0_t8_loop.trips) : BitVec 32 :=
  let c0_i32_185 : BitVec 32 := 0#32
  let c1_i32_187 : BitVec 32 := 1#32
  let arg17 : BitVec 32 := Scf.iv c0_i32_185 c1_i32_187 k0_t8
  let c8_i32 : BitVec 32 := 8#32
  let v470 : BitVec 32 := Scalar.muli arg17 c8_i32
  v470
def k0_off8 (k0_t8 : Fin k0_t8_loop.trips) : Fin 2 → Nat :=
  let c0_i32_185 : BitVec 32 := 0#32
  let c1_i32_187 : BitVec 32 := 1#32
  let arg17 : BitVec 32 := Scf.iv c0_i32_185 c1_i32_187 k0_t8
  let c8_i32 : BitVec 32 := 8#32
  let v470 : BitVec 32 := Scalar.muli arg17 c8_i32
  let v471 : BitVec 32 := v470
  let v475 : Index := Scalar.indexCast v471
  let c3584_355 : Index := 3584#32
  ![v475.toNat, 3584]
def k0_cond2 (i : grid0.Coords) : BitVec 1 :=
  let arg1 : BitVec 32 := BitVec.ofNat 32 (i 1).val
  let c1_i32_353 : BitVec 32 := 1#32
  let v467 : BitVec 1 := Scalar.cmpi .eq arg1 c1_i32_353
  let v468 : BitVec 32 := Scalar.extui v467
  let c0_i32_354 : BitVec 32 := 0#32
  let v469 : BitVec 1 := Scalar.cmpi .ne v468 c0_i32_354
  v469

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ScanRefIdeal.lean ====
abbrev S1024x1024 : Shape := ⟨2, ![1024, 1024]⟩
abbrev S16x4096 : Shape := ⟨2, ![16, 4096]⟩
abbrev S8x4096 : Shape := ⟨2, ![8, 4096]⟩
abbrev S8x128x1024 : Shape := ⟨3, ![8, 128, 1024]⟩
abbrev S8x1024x128 : Shape := ⟨3, ![8, 1024, 128]⟩
abbrev S1024 : Shape := ⟨1, ![1024]⟩
abbrev S16x64x8x128 : Shape := ⟨4, ![16, 64, 8, 128]⟩
abbrev S8x1024x16x64 : Shape := ⟨4, ![8, 1024, 16, 64]⟩
abbrev S16x64x8x1024 : Shape := ⟨4, ![16, 64, 8, 1024]⟩
abbrev S16x64x8x512 : Shape := ⟨4, ![16, 64, 8, 512]⟩
abbrev S2x8x64x4096 : Shape := ⟨4, ![2, 8, 64, 4096]⟩
abbrev S2x8x4096 : Shape := ⟨3, ![2, 8, 4096]⟩
abbrev S_ : Shape := ⟨0, ![]⟩
abbrev S1x8x4096 : Shape := ⟨3, ![1, 8, 4096]⟩
abbrev S2x8x1x4096 : Shape := ⟨4, ![2, 8, 1, 4096]⟩

abbrev nBuf : Space → Nat
  | .hbm => 114
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S16x4096, .f32⟩
  | .hbm, ⟨2, _⟩ => ⟨S16x4096, .f32⟩
  | .hbm, ⟨3, _⟩ => ⟨S8x4096, .f32⟩
  | .hbm, ⟨4, _⟩ => ⟨S8x4096, .f32⟩
  | .hbm, ⟨5, _⟩ => ⟨S8x128x1024, .bf16⟩
  | .hbm, ⟨6, _⟩ => ⟨S8x1024x128, .bf16⟩
  | .hbm, ⟨7, _⟩ => ⟨S1024, .f32⟩
  | .hbm, ⟨8, _⟩ => ⟨S16x64x8x128, .f32⟩
  | .hbm, ⟨9, _⟩ => ⟨S8x128x1024, .f32⟩
  | .hbm, ⟨10, _⟩ => ⟨S8x1024x16x64, .f32⟩
  | .hbm, ⟨11, _⟩ => ⟨S16x64x8x1024, .f32⟩
  | .hbm, ⟨12, _⟩ => ⟨S16x64x8x512, .f32⟩
  | .hbm, ⟨13, _⟩ => ⟨S2x8x64x4096, .f32⟩
  | .hbm, ⟨14, _⟩ => ⟨S16x64x8x512, .f32⟩
  | .hbm, ⟨15, _⟩ => ⟨S2x8x64x4096, .f32⟩
  | .hbm, ⟨16, _⟩ => ⟨S2x8x4096, .f32⟩
  | .hbm, ⟨17, _⟩ => ⟨S2x8x4096, .f32⟩
  | .hbm, ⟨18, _⟩ => ⟨S_, .i32⟩
  | .hbm, ⟨19, _⟩ => ⟨S_, .i32⟩
  | .hbm, ⟨20, _⟩ => ⟨S8x4096, .f32⟩
  | .hbm, ⟨21, _⟩ => ⟨S8x4096, .f32⟩
  | .hbm, ⟨22, _⟩ => ⟨S2x8x64x4096, .f32⟩
  | .hbm, ⟨23, _⟩ => ⟨S2x8x64x4096, .f32⟩
  | .hbm, ⟨24, _⟩ => ⟨S_, .i32⟩
  | .hbm, ⟨25, _⟩ => ⟨S_, .i32⟩
  | .hbm, ⟨26, _⟩ => ⟨S2x8x4096, .f32⟩
  | .hbm, ⟨27, _⟩ => ⟨S2x8x4096, .f32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S1x8x4096, .f32⟩
  | .hbm, ⟨33, _⟩ => ⟨S2x8x4096, .f32⟩
  | .hbm, ⟨34, _⟩ => ⟨S2x8x4096, .f32⟩
  | .hbm, ⟨35, _⟩ => ⟨S1x8x4096, .f32⟩
  | .hbm, ⟨36, _⟩ => ⟨S2x8x4096, .f32⟩
  | .hbm, ⟨37, _⟩ => ⟨S2x8x4096, .f32⟩
  | .hbm, ⟨38, _⟩ => ⟨S2x8x4096, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S2x8x1x4096, .f32⟩
  | .hbm, ⟨70, _⟩ => ⟨S2x8x4096, .f32⟩
  | .hbm, ⟨71, _⟩ => ⟨S2x8x4096, .f32⟩
  | .hbm, ⟨72, _⟩ => ⟨S1x8x4096, .f32⟩
  | .hbm, ⟨73, _⟩ => ⟨S2x8x4096, .f32⟩
  | .hbm, ⟨74, _⟩ => ⟨S2x8x4096, .f32⟩
  | .hbm, ⟨75, _⟩ => ⟨S1x8x4096, .f32⟩
  | .hbm, ⟨76, _⟩ => ⟨S2x8x4096, .f32⟩
  | .hbm, ⟨77, _⟩ => ⟨S2x8x4096, .f32⟩
  | .hbm, ⟨78, _⟩ => ⟨S2x8x4096, .f32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i1⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i1⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i1⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i1⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S2x8x1x4096, .f32⟩
  | .hbm, ⟨110, _⟩ => ⟨S2x8x4096, .f32⟩
  | .hbm, ⟨111, _⟩ => ⟨S2x8x4096, .f32⟩
  | .hbm, ⟨112, _⟩ => ⟨S_, .i32⟩
  | .hbm, ⟨113, _⟩ => ⟨S_, .i32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_c_0 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev main_v10_6 : Ref sig .tc := ⟨.hbm, 26, rfl⟩
abbrev main_v10_7 : Ref sig .tc := ⟨.hbm, 27, rfl⟩
abbrev main_while0c_c_8 : Ref sig .tc := ⟨.hbm, 28, rfl⟩
abbrev main_while0c_v11 : Ref sig .tc := ⟨.hbm, 29, rfl⟩
abbrev main_while0b_c_8 : Ref sig .tc := ⟨.hbm, 30, rfl⟩
abbrev main_while0b_v11 : Ref sig .tc := ⟨.hbm, 31, rfl⟩
abbrev main_while0b_v12 : Ref sig .tc := ⟨.hbm, 32, rfl⟩
abbrev main_while0b_v13 : Ref sig .tc := ⟨.hbm, 33, rfl⟩
abbrev main_while0b_v14 : Ref sig .tc := ⟨.hbm, 34, rfl⟩
abbrev main_while0b_v15 : Ref sig .tc := ⟨.hbm, 35, rfl⟩
abbrev main_while0b_v16 : Ref sig .tc := ⟨.hbm, 36, rfl⟩
abbrev main_while0b_v17 : Ref sig .tc := ⟨.hbm, 37, rfl⟩
abbrev main_while0b_v18 : Ref sig .tc := ⟨.hbm, 38, rfl⟩
abbrev main_while0b_v19 : Ref sig .tc := ⟨.hbm, 39, rfl⟩
abbrev main_while0b_c_9 : Ref sig .tc := ⟨.hbm, 40, rfl⟩
abbrev main_while0b_c_10 : Ref sig .tc := ⟨.hbm, 41, rfl⟩
abbrev main_while0b_v20 : Ref sig .tc := ⟨.hbm, 42, rfl⟩
abbrev main_while0b_c_11 : Ref sig .tc := ⟨.hbm, 43, rfl⟩
abbrev main_while0b_c_12 : Ref sig .tc := ⟨.hbm, 44, rfl⟩
abbrev main_while0b_v21 : Ref sig .tc := ⟨.hbm, 45, rfl⟩
abbrev main_while0b_c_13 : Ref sig .tc := ⟨.hbm, 46, rfl⟩
abbrev main_while0b_v22 : Ref sig .tc := ⟨.hbm, 47, rfl⟩
abbrev main_while0b_c_14 : Ref sig .tc := ⟨.hbm, 48, rfl⟩
abbrev main_while0b_c_15 : Ref sig .tc := ⟨.hbm, 49, rfl⟩
abbrev main_while0b_v23 : Ref sig .tc := ⟨.hbm, 50, rfl⟩
abbrev main_while0b_c_16 : Ref sig .tc := ⟨.hbm, 51, rfl⟩
abbrev main_while0b_c_17 : Ref sig .tc := ⟨.hbm, 52, rfl⟩
abbrev main_while0b_v24 : Ref sig .tc := ⟨.hbm, 53, rfl⟩
abbrev main_while0b_c_18 : Ref sig .tc := ⟨.hbm, 54, rfl⟩
abbrev main_while0b_v25 : Ref sig .tc := ⟨.hbm, 55, rfl⟩
abbrev main_while0b_c_19 : Ref sig .tc := ⟨.hbm, 56, rfl⟩
abbrev main_while0b_v26 : Ref sig .tc := ⟨.hbm, 57, rfl⟩
abbrev main_while0b_c_20 : Ref sig .tc := ⟨.hbm, 58, rfl⟩
abbrev main_while0b_v27 : Ref sig .tc := ⟨.hbm, 59, rfl⟩
abbrev main_while0b_v28 : Ref sig .tc := ⟨.hbm, 60, rfl⟩
abbrev main_while0b_c_21 : Ref sig .tc := ⟨.hbm, 61, rfl⟩
abbrev main_while0b_c_22 : Ref sig .tc := ⟨.hbm, 62, rfl⟩
abbrev main_while0b_v29 : Ref sig .tc := ⟨.hbm, 63, rfl⟩
abbrev main_while0b_c_23 : Ref sig .tc := ⟨.hbm, 64, rfl⟩
abbrev main_while0b_c_24 : Ref sig .tc := ⟨.hbm, 65, rfl⟩
abbrev main_while0b_v30 : Ref sig .tc := ⟨.hbm, 66, rfl⟩
abbrev main_while0b_c_25 : Ref sig .tc := ⟨.hbm, 67, rfl⟩
abbrev main_while0b_v31 : Ref sig .tc := ⟨.hbm, 68, rfl⟩
abbrev main_while0b_v32 : Ref sig .tc := ⟨.hbm, 69, rfl⟩
abbrev main_while0b_v33 : Ref sig .tc := ⟨.hbm, 70, rfl⟩
abbrev main_while0b_v34 : Ref sig .tc := ⟨.hbm, 71, rfl⟩
abbrev main_while0b_v35 : Ref sig .tc := ⟨.hbm, 72, rfl⟩
abbrev main_while0b_v36 : Ref sig .tc := ⟨.hbm, 73, rfl⟩
abbrev main_while0b_v37 : Ref sig .tc := ⟨.hbm, 74, rfl⟩
abbrev main_while0b_v38 : Ref sig .tc := ⟨.hbm, 75, rfl⟩
abbrev main_while0b_v39 : Ref sig .tc := ⟨.hbm, 76, rfl⟩
abbrev main_while0b_v40 : Ref sig .tc := ⟨.hbm, 77, rfl⟩
abbrev main_while0b_v41 : Ref sig .tc := ⟨.hbm, 78, rfl⟩
abbrev main_while0b_v42 : Ref sig .tc := ⟨.hbm, 79, rfl⟩
abbrev main_while0b_c_26 : Ref sig .tc := ⟨.hbm, 80, rfl⟩
abbrev main_while0b_c_27 : Ref sig .tc := ⟨.hbm, 81, rfl⟩
abbrev main_while0b_v43 : Ref sig .tc := ⟨.hbm, 82, rfl⟩
abbrev main_while0b_c_28 : Ref sig .tc := ⟨.hbm, 83, rfl⟩
abbrev main_while0b_c_29 : Ref sig .tc := ⟨.hbm, 84, rfl⟩
abbrev main_while0b_v44 : Ref sig .tc := ⟨.hbm, 85, rfl⟩
abbrev main_while0b_c_30 : Ref sig .tc := ⟨.hbm, 86, rfl⟩
abbrev main_while0b_v45 : Ref sig .tc := ⟨.hbm, 87, rfl⟩
abbrev main_while0b_c_31 : Ref sig .tc := ⟨.hbm, 88, rfl⟩
abbrev main_while0b_c_32 : Ref sig .tc := ⟨.hbm, 89, rfl⟩
abbrev main_while0b_v46 : Ref sig .tc := ⟨.hbm, 90, rfl⟩
abbrev main_while0b_c_33 : Ref sig .tc := ⟨.hbm, 91, rfl⟩
abbrev main_while0b_c_34 : Ref sig .tc := ⟨.hbm, 92, rfl⟩
abbrev main_while0b_v47 : Ref sig .tc := ⟨.hbm, 93, rfl⟩
abbrev main_while0b_c_35 : Ref sig .tc := ⟨.hbm, 94, rfl⟩
abbrev main_while0b_v48 : Ref sig .tc := ⟨.hbm, 95, rfl⟩
abbrev main_while0b_c_36 : Ref sig .tc := ⟨.hbm, 96, rfl⟩
abbrev main_while0b_v49 : Ref sig .tc := ⟨.hbm, 97, rfl⟩
abbrev main_while0b_c_37 : Ref sig .tc := ⟨.hbm, 98, rfl⟩
abbrev main_while0b_v50 : Ref sig .tc := ⟨.hbm, 99, rfl⟩
abbrev main_while0b_v51 : Ref sig .tc := ⟨.hbm, 100, rfl⟩
abbrev main_while0b_c_38 : Ref sig .tc := ⟨.hbm, 101, rfl⟩
abbrev main_while0b_c_39 : Ref sig .tc := ⟨.hbm, 102, rfl⟩
abbrev main_while0b_v52 : Ref sig .tc := ⟨.hbm, 103, rfl⟩
abbrev main_while0b_c_40 : Ref sig .tc := ⟨.hbm, 104, rfl⟩
abbrev main_while0b_c_41 : Ref sig .tc := ⟨.hbm, 105, rfl⟩
abbrev main_while0b_v53 : Ref sig .tc := ⟨.hbm, 106, rfl⟩
abbrev main_while0b_c_42 : Ref sig .tc := ⟨.hbm, 107, rfl⟩
abbrev main_while0b_v54 : Ref sig .tc := ⟨.hbm, 108, rfl⟩
abbrev main_while0b_v55 : Ref sig .tc := ⟨.hbm, 109, rfl⟩
abbrev main_while0b_v56 : Ref sig .tc := ⟨.hbm, 110, rfl⟩
abbrev main_while0b_v57 : Ref sig .tc := ⟨.hbm, 111, rfl⟩
abbrev main_while0b_c_43 : Ref sig .tc := ⟨.hbm, 112, rfl⟩
abbrev main_while0b_v58 : Ref sig .tc := ⟨.hbm, 113, rfl⟩

abbrev nD : Nat := 1
abbrev τ : Topo := Topo.v7x

variable {F : FTy → Type} [FloatOps F]

abbrev main_while0_count : Scf.Loop 32 := ⟨0#32, 64#32, 1#32⟩
-- ==== ScanPrompt.lean ====
abbrev S16384x1024 : Shape := ⟨2, ![16384, 1024]⟩
abbrev S8x4096 : Shape := ⟨2, ![8, 4096]⟩
abbrev S8x128x1024 : Shape := ⟨3, ![8, 128, 1024]⟩
abbrev S8x1024x128 : Shape := ⟨3, ![8, 1024, 128]⟩
abbrev S1024 : Shape := ⟨1, ![1024]⟩
abbrev S1x8x2048x1024 : Shape := ⟨4, ![1, 8, 2048, 1024]⟩
abbrev S1x2048x8x1024 : Shape := ⟨4, ![1, 2048, 8, 1024]⟩
abbrev S1x16384x1024 : Shape := ⟨3, ![1, 16384, 1024]⟩
abbrev S1x8x4096 : Shape := ⟨3, ![1, 8, 4096]⟩
abbrev S1x1024 : Shape := ⟨2, ![1, 1024]⟩
abbrev S1x256x1024 : Shape := ⟨3, ![1, 256, 1024]⟩
abbrev S256x4096 : Shape := ⟨2, ![256, 4096]⟩
abbrev S1x256x128 : Shape := ⟨3, ![1, 256, 128]⟩
abbrev S256x128 : Shape := ⟨2, ![256, 128]⟩
abbrev S1x128x1024 : Shape := ⟨3, ![1, 128, 1024]⟩
abbrev S128x1024 : Shape := ⟨2, ![128, 1024]⟩
abbrev S256x1024 : Shape := ⟨2, ![256, 1024]⟩
abbrev S256x512 : Shape := ⟨2, ![256, 512]⟩
abbrev S8x512 : Shape := ⟨2, ![8, 512]⟩
abbrev S1x1024x128 : Shape := ⟨3, ![1, 1024, 128]⟩
abbrev S1024x128 : Shape := ⟨2, ![1024, 128]⟩
abbrev S1x128 : Shape := ⟨2, ![1, 128]⟩

abbrev nBuf : Space → Nat
  | .hbm => 17
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S8x4096, .f32⟩
  | .hbm, ⟨2, _⟩ => ⟨S8x4096, .f32⟩
  | .hbm, ⟨3, _⟩ => ⟨S8x4096, .f32⟩
  | .hbm, ⟨4, _⟩ => ⟨S8x4096, .f32⟩
  | .hbm, ⟨5, _⟩ => ⟨S8x128x1024, .bf16⟩
  | .hbm, ⟨6, _⟩ => ⟨S8x1024x128, .bf16⟩
  | .hbm, ⟨7, _⟩ => ⟨S1024, .f32⟩
  | .hbm, ⟨8, _⟩ => ⟨S1x8x2048x1024, .f32⟩
  | .hbm, ⟨9, _⟩ => ⟨S1x2048x8x1024, .f32⟩
  | .hbm, ⟨10, _⟩ => ⟨S1x16384x1024, .f32⟩
  | .hbm, ⟨11, _⟩ => ⟨S1x8x4096, .f32⟩
  | .hbm, ⟨12, _⟩ => ⟨S1x8x4096, .f32⟩
  | .hbm, ⟨13, _⟩ => ⟨S1x1024, .f32⟩
  | .hbm, ⟨14, _⟩ => ⟨S1x16384x1024, .bf16⟩
  | .hbm, ⟨15, _⟩ => ⟨S1x8x4096, .f32⟩
  | .hbm, ⟨16, _⟩ => ⟨S1x8x4096, .f32⟩
  | .local _ .vmem, ⟨0, _⟩ => ⟨S1x256x1024, .f32⟩
  | .local _ .vmem, ⟨1, _⟩ => ⟨S1x256x1024, .f32⟩
  | .local _ .vmem, ⟨2, _⟩ => ⟨S1x8x4096, .f32⟩
  | .local _ .vmem, ⟨3, _⟩ => ⟨S1x8x4096, .f32⟩
  | .local _ .vmem, ⟨4, _⟩ => ⟨S8x4096, .f32⟩
  | .local _ .vmem, ⟨5, _⟩ => ⟨S8x4096, .f32⟩
  | .local _ .vmem, ⟨6, _⟩ => ⟨S8x128x1024, .bf16⟩
  | .local _ .vmem, ⟨7, _⟩ => ⟨S8x1024x128, .bf16⟩
  | .local _ .vmem, ⟨8, _⟩ => ⟨S1x1024, .f32⟩
  | .local _ .vmem, ⟨9, _⟩ => ⟨S1x256x1024, .bf16⟩
  | .local _ .vmem, ⟨10, _⟩ => ⟨S1x256x1024, .bf16⟩
  | .local _ .vmem, ⟨11, _⟩ => ⟨S1x8x4096, .f32⟩
  | .local _ .vmem, ⟨12, _⟩ => ⟨S1x8x4096, .f32⟩
  | .local _ .vmem, ⟨13, _⟩ => ⟨S256x4096, .f32⟩
  | .local _ .vmem, ⟨14, _⟩ => ⟨S256x4096, .f32⟩
  | .local _ .vmem, ⟨15, _⟩ => ⟨S8x4096, .f32⟩
  | .local _ .vmem, ⟨16, _⟩ => ⟨S8x4096, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12

abbrev nD : Nat := 1
abbrev τ : Topo := Topo.v7x

variable {F : FTy → Type} [FloatOps F]

abbrev grid0 : Pipeline.Grid := ⟨2, ![1, 64], ![false, false]⟩

@[reducible] def k0_t1_loop : Scf.Loop 32 :=
  let c0_i32_75 : BitVec 32 := 0#32
  let c32_i32 : BitVec 32 := 32#32
  let v119 : BitVec 32 := Scalar.addi c0_i32_75 c32_i32
  let c1_i32 : BitVec 32 := 1#32
  ⟨c0_i32_75, v119, c1_i32⟩
def k0_mult1 (k0_t1 : Fin k0_t1_loop.trips) : BitVec 32 :=
  let c0_i32_75 : BitVec 32 := 0#32
  let c1_i32 : BitVec 32 := 1#32
  let arg17 : BitVec 32 := Scf.iv c0_i32_75 c1_i32 k0_t1
  let c8_i32 : BitVec 32 := 8#32
  let v470 : BitVec 32 := Scalar.muli arg17 c8_i32
  v470
def k0_off1 (k0_t1 : Fin k0_t1_loop.trips) : Fin 2 → Nat :=
  let c0_i32_75 : BitVec 32 := 0#32
  let c1_i32 : BitVec 32 := 1#32
  let arg17 : BitVec 32 := Scf.iv c0_i32_75 c1_i32 k0_t1
  let c8_i32 : BitVec 32 := 8#32
  let v470 : BitVec 32 := Scalar.muli arg17 c8_i32
  let v471 : BitVec 32 := v470
  let v475 : Index := Scalar.indexCast v471
  let c0_354 : Index := 0#32
  ![v475.toNat, 0]
@[reducible] def k0_t2_loop : Scf.Loop 32 :=
  let c0_i32_89 : BitVec 32 := 0#32
  let c32_i32_90 : BitVec 32 := 32#32
  let v131 : BitVec 32 := Scalar.addi c0_i32_89 c32_i32_90
  let c1_i32_91 : BitVec 32 := 1#32
  ⟨c0_i32_89, v131, c1_i32_91⟩
def k0_mult2 (k0_t2 : Fin k0_t2_loop.trips) : BitVec 32 :=
  let c0_i32_89 : BitVec 32 := 0#32
  let c1_i32_91 : BitVec 32 := 1#32
  let arg17 : BitVec 32 := Scf.iv c0_i32_89 c1_i32_91 k0_t2
  let c8_i32 : BitVec 32 := 8#32
  let v470 : BitVec 32 := Scalar.muli arg17 c8_i32
  v470
def k0_off2 (k0_t2 : Fin k0_t2_loop.trips) : Fin 2 → Nat :=
  let c0_i32_89 : BitVec 32 := 0#32
  let c1_i32_91 : BitVec 32 := 1#32
  let arg17 : BitVec 32 := Scf.iv c0_i32_89 c1_i32_91 k0_t2
  let c8_i32 : BitVec 32 := 8#32
  let v470 : BitVec 32 := Scalar.muli arg17 c8_i32
  let v471 : BitVec 32 := v470
  let v475 : Index := Scalar.indexCast v471
  let c512_354 : Index := 512#32
  ![v475.toNat, 512]
@[reducible] def k0_t3_loop : Scf.Loop 32 :=
  let c0_i32_105 : BitVec 32 := 0#32
  let c32_i32_106 : BitVec 32 := 32#32
  let v143 : BitVec 32 := Scalar.addi c0_i32_105 c32_i32_106
  let c1_i32_107 : BitVec 32 := 1#32
  ⟨c0_i32_105, v143, c1_i32_107⟩
def k0_mult3 (k0_t3 : Fin k0_t3_loop.trips) : BitVec 32 :=
  let c0_i32_105 : BitVec 32 := 0#32
  let c1_i32_107 : BitVec 32 := 1#32
  let arg17 : BitVec 32 := Scf.iv c0_i32_105 c1_i32_107 k0_t3
  let c8_i32 : BitVec 32 := 8#32
  let v470 : BitVec 32 := Scalar.muli arg17 c8_i32
  v470
def k0_off3 (k0_t3 : Fin k0_t3_loop.trips) : Fin 2 → Nat :=
  let c0_i32_105 : BitVec 32 := 0#32
  let c1_i32_107 : BitVec 32 := 1#32
  let arg17 : BitVec 32 := Scf.iv c0_i32_105 c1_i32_107 k0_t3
  let c8_i32 : BitVec 32 := 8#32
  let v470 : BitVec 32 := Scalar.muli arg17 c8_i32
  let v471 : BitVec 32 := v470
  let v475 : Index := Scalar.indexCast v471
  let c1024_354 : Index := 1024#32
  ![v475.toNat, 1024]
@[reducible] def k0_t4_loop : Scf.Loop 32 :=
  let c0_i32_121 : BitVec 32 := 0#32
  let c32_i32_122 : BitVec 32 := 32#32
  let v155 : BitVec 32 := Scalar.addi c0_i32_121 c32_i32_122
  let c1_i32_123 : BitVec 32 := 1#32
  ⟨c0_i32_121, v155, c1_i32_123⟩
def k0_mult4 (k0_t4 : Fin k0_t4_loop.trips) : BitVec 32 :=
  let c0_i32_121 : BitVec 32 := 0#32
  let c1_i32_123 : BitVec 32 := 1#32
  let arg17 : BitVec 32 := Scf.iv c0_i32_121 c1_i32_123 k0_t4
  let c8_i32 : BitVec 32 := 8#32
  let v470 : BitVec 32 := Scalar.muli arg17 c8_i32
  v470
def k0_off4 (k0_t4 : Fin k0_t4_loop.trips) : Fin 2 → Nat :=
  let c0_i32_121 : BitVec 32 := 0#32
  let c1_i32_123 : BitVec 32 := 1#32
  let arg17 : BitVec 32 := Scf.iv c0_i32_121 c1_i32_123 k0_t4
  let c8_i32 : BitVec 32 := 8#32
  let v470 : BitVec 32 := Scalar.muli arg17 c8_i32
  let v471 : BitVec 32 := v470
  let v475 : Index := Scalar.indexCast v471
  let c1536_354 : Index := 1536#32
  ![v475.toNat, 1536]
@[reducible] def k0_t5_loop : Scf.Loop 32 :=
  let c0_i32_137 : BitVec 32 := 0#32
  let c32_i32_138 : BitVec 32 := 32#32
  let v167 : BitVec 32 := Scalar.addi c0_i32_137 c32_i32_138
  let c1_i32_139 : BitVec 32 := 1#32
  ⟨c0_i32_137, v167, c1_i32_139⟩
def k0_mult5 (k0_t5 : Fin k0_t5_loop.trips) : BitVec 32 :=
  let c0_i32_137 : BitVec 32 := 0#32
  let c1_i32_139 : BitVec 32 := 1#32
  let arg17 : BitVec 32 := Scf.iv c0_i32_137 c1_i32_139 k0_t5
  let c8_i32 : BitVec 32 := 8#32
  let v470 : BitVec 32 := Scalar.muli arg17 c8_i32
  v470
def k0_off5 (k0_t5 : Fin k0_t5_loop.trips) : Fin 2 → Nat :=
  let c0_i32_137 : BitVec 32 := 0#32
  let c1_i32_139 : BitVec 32 := 1#32
  let arg17 : BitVec 32 := Scf.iv c0_i32_137 c1_i32_139 k0_t5
  let c8_i32 : BitVec 32 := 8#32
  let v470 : BitVec 32 := Scalar.muli arg17 c8_i32
  let v471 : BitVec 32 := v470
  let v475 : Index := Scalar.indexCast v471
  let c2048_354 : Index := 2048#32
  ![v475.toNat, 2048]
@[reducible] def k0_t6_loop : Scf.Loop 32 :=
  let c0_i32_153 : BitVec 32 := 0#32
  let c32_i32_154 : BitVec 32 := 32#32
  let v179 : BitVec 32 := Scalar.addi c0_i32_153 c32_i32_154
  let c1_i32_155 : BitVec 32 := 1#32
  ⟨c0_i32_153, v179, c1_i32_155⟩
def k0_mult6 (k0_t6 : Fin k0_t6_loop.trips) : BitVec 32 :=
  let c0_i32_153 : BitVec 32 := 0#32
  let c1_i32_155 : BitVec 32 := 1#32
  let arg17 : BitVec 32 := Scf.iv c0_i32_153 c1_i32_155 k0_t6
  let c8_i32 : BitVec 32 := 8#32
  let v470 : BitVec 32 := Scalar.muli arg17 c8_i32
  v470
def k0_off6 (k0_t6 : Fin k0_t6_loop.trips) : Fin 2 → Nat :=
  let c0_i32_153 : BitVec 32 := 0#32
  let c1_i32_155 : BitVec 32 := 1#32
  let arg17 : BitVec 32 := Scf.iv c0_i32_153 c1_i32_155 k0_t6
  let c8_i32 : BitVec 32 := 8#32
  let v470 : BitVec 32 := Scalar.muli arg17 c8_i32
  let v471 : BitVec 32 := v470
  let v475 : Index := Scalar.indexCast v471
  let c2560_354 : Index := 2560#32
  ![v475.toNat, 2560]
@[reducible] def k0_t7_loop : Scf.Loop 32 :=
  let c0_i32_169 : BitVec 32 := 0#32
  let c32_i32_170 : BitVec 32 := 32#32
  let v191 : BitVec 32 := Scalar.addi c0_i32_169 c32_i32_170
  let c1_i32_171 : BitVec 32 := 1#32
  ⟨c0_i32_169, v191, c1_i32_171⟩
def k0_mult7 (k0_t7 : Fin k0_t7_loop.trips) : BitVec 32 :=
  let c0_i32_169 : BitVec 32 := 0#32
  let c1_i32_171 : BitVec 32 := 1#32
  let arg17 : BitVec 32 := Scf.iv c0_i32_169 c1_i32_171 k0_t7
  let c8_i32 : BitVec 32 := 8#32
  let v470 : BitVec 32 := Scalar.muli arg17 c8_i32
  v470
def k0_off7 (k0_t7 : Fin k0_t7_loop.trips) : Fin 2 → Nat :=
  let c0_i32_169 : BitVec 32 := 0#32
  let c1_i32_171 : BitVec 32 := 1#32
  let arg17 : BitVec 32 := Scf.iv c0_i32_169 c1_i32_171 k0_t7
  let c8_i32 : BitVec 32 := 8#32
  let v470 : BitVec 32 := Scalar.muli arg17 c8_i32
  let v471 : BitVec 32 := v470
  let v475 : Index := Scalar.indexCast v471
  let c3072_354 : Index := 3072#32
  ![v475.toNat, 3072]
@[reducible] def k0_t8_loop : Scf.Loop 32 :=
  let c0_i32_185 : BitVec 32 := 0#32
  let c32_i32_186 : BitVec 32 := 32#32
  let v203 : BitVec 32 := Scalar.addi c0_i32_185 c32_i32_186
  let c1_i32_187 : BitVec 32 := 1#32
  ⟨c0_i32_185, v203, c1_i32_187⟩
def k0_mult8 (k0_t8 : Fin k0_t8_loop.trips) : BitVec 32 :=
  let c0_i32_185 : BitVec 32 := 0#32
  let c1_i32_187 : BitVec 32 := 1#32
  let arg17 : BitVec 32 := Scf.iv c0_i32_185 c1_i32_187 k0_t8
  let c8_i32 : BitVec 32 := 8#32
  let v470 : BitVec 32 := Scalar.muli arg17 c8_i32
  v470
def k0_off8 (k0_t8 : Fin k0_t8_loop.trips) : Fin 2 → Nat :=
  let c0_i32_185 : BitVec 32 := 0#32
  let c1_i32_187 : BitVec 32 := 1#32
  let arg17 : BitVec 32 := Scf.iv c0_i32_185 c1_i32_187 k0_t8
  let c8_i32 : BitVec 32 := 8#32
  let v470 : BitVec 32 := Scalar.muli arg17 c8_i32
  let v471 : BitVec 32 := v470
  let v475 : Index := Scalar.indexCast v471
  let c3584_354 : Index := 3584#32
  ![v475.toNat, 3584]
def k0_cond2 (i : grid0.Coords) : BitVec 1 :=
  let arg1 : BitVec 32 := BitVec.ofNat 32 (i 1).val
  let c63_i32 : BitVec 32 := 63#32
  let v467 : BitVec 1 := Scalar.cmpi .eq arg1 c63_i32
  let v468 : BitVec 32 := Scalar.extui v467
  let c0_i32_353 : BitVec 32 := 0#32
  let v469 : BitVec 1 := Scalar.cmpi .ne v468 c0_i32_353
  v469

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x8x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1x8x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== ScanPromptRefIdeal.lean ====
abbrev S16384x1024 : Shape := ⟨2, ![16384, 1024]⟩
abbrev S8x4096 : Shape := ⟨2, ![8, 4096]⟩
abbrev S8x128x1024 : Shape := ⟨3, ![8, 128, 1024]⟩
abbrev S8x1024x128 : Shape := ⟨3, ![8, 1024, 128]⟩
abbrev S1024 : Shape := ⟨1, ![1024]⟩
abbrev S8x2048x8x128 : Shape := ⟨4, ![8, 2048, 8, 128]⟩
abbrev S8x1024x8x2048 : Shape := ⟨4, ![8, 1024, 8, 2048]⟩
abbrev S8x2048x8x1024 : Shape := ⟨4, ![8, 2048, 8, 1024]⟩
abbrev S8x2048x8x512 : Shape := ⟨4, ![8, 2048, 8, 512]⟩
abbrev S1x8x2048x4096 : Shape := ⟨4, ![1, 8, 2048, 4096]⟩
abbrev S1x8x4096 : Shape := ⟨3, ![1, 8, 4096]⟩
abbrev S_ : Shape := ⟨0, ![]⟩
abbrev S1x8x1x4096 : Shape := ⟨4, ![1, 8, 1, 4096]⟩

abbrev nBuf : Space → Nat
  | .hbm => 110
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x4096, .f32⟩
  | .hbm, ⟨2, _⟩ => ⟨S8x4096, .f32⟩
  | .hbm, ⟨3, _⟩ => ⟨S8x4096, .f32⟩
  | .hbm, ⟨4, _⟩ => ⟨S8x4096, .f32⟩
  | .hbm, ⟨5, _⟩ => ⟨S8x128x1024, .bf16⟩
  | .hbm, ⟨6, _⟩ => ⟨S8x1024x128, .bf16⟩
  | .hbm, ⟨7, _⟩ => ⟨S1024, .f32⟩
  | .hbm, ⟨8, _⟩ => ⟨S8x2048x8x128, .f32⟩
  | .hbm, ⟨9, _⟩ => ⟨S8x128x1024, .f32⟩
  | .hbm, ⟨10, _⟩ => ⟨S8x1024x8x2048, .f32⟩
  | .hbm, ⟨11, _⟩ => ⟨S8x2048x8x1024, .f32⟩
  | .hbm, ⟨12, _⟩ => ⟨S8x2048x8x512, .f32⟩
  | .hbm, ⟨13, _⟩ => ⟨S1x8x2048x4096, .f32⟩
  | .hbm, ⟨14, _⟩ => ⟨S8x2048x8x512, .f32⟩
  | .hbm, ⟨15, _⟩ => ⟨S1x8x2048x4096, .f32⟩
  | .hbm, ⟨16, _⟩ => ⟨S1x8x4096, .f32⟩
  | .hbm, ⟨17, _⟩ => ⟨S1x8x4096, .f32⟩
  | .hbm, ⟨18, _⟩ => ⟨S_, .i32⟩
  | .hbm, ⟨19, _⟩ => ⟨S_, .i32⟩
  | .hbm, ⟨20, _⟩ => ⟨S8x4096, .f32⟩
  | .hbm, ⟨21, _⟩ => ⟨S8x4096, .f32⟩
  | .hbm, ⟨22, _⟩ => ⟨S1x8x2048x4096, .f32⟩
  | .hbm, ⟨23, _⟩ => ⟨S1x8x2048x4096, .f32⟩
  | .hbm, ⟨24, _⟩ => ⟨S_, .i32⟩
  | .hbm, ⟨25, _⟩ => ⟨S_, .i32⟩
  | .hbm, ⟨26, _⟩ => ⟨S1x8x4096, .f32⟩
  | .hbm, ⟨27, _⟩ => ⟨S1x8x4096, .f32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S1x8x4096, .f32⟩
  | .hbm, ⟨33, _⟩ => ⟨S1x8x4096, .f32⟩
  | .hbm, ⟨34, _⟩ => ⟨S1x8x4096, .f32⟩
  | .hbm, ⟨35, _⟩ => ⟨S1x8x4096, .f32⟩
  | .hbm, ⟨36, _⟩ => ⟨S1x8x4096, .f32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1x8x1x4096, .f32⟩
  | .hbm, ⟨68, _⟩ => ⟨S1x8x4096, .f32⟩
  | .hbm, ⟨69, _⟩ => ⟨S1x8x4096, .f32⟩
  | .hbm, ⟨70, _⟩ => ⟨S1x8x4096, .f32⟩
  | .hbm, ⟨71, _⟩ => ⟨S1x8x4096, .f32⟩
  | .hbm, ⟨72, _⟩ => ⟨S1x8x4096, .f32⟩
  | .hbm, ⟨73, _⟩ => ⟨S1x8x4096, .f32⟩
  | .hbm, ⟨74, _⟩ => ⟨S1x8x4096, .f32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i1⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i1⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i1⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S1x8x1x4096, .f32⟩
  | .hbm, ⟨106, _⟩ => ⟨S1x8x4096, .f32⟩
  | .hbm, ⟨107, _⟩ => ⟨S1x8x4096, .f32⟩
  | .hbm, ⟨108, _⟩ => ⟨S_, .i32⟩
  | .hbm, ⟨109, _⟩ => ⟨S_, .i32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_c_0 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev main_v10_6 : Ref sig .tc := ⟨.hbm, 26, rfl⟩
abbrev main_v10_7 : Ref sig .tc := ⟨.hbm, 27, rfl⟩
abbrev main_while0c_c_8 : Ref sig .tc := ⟨.hbm, 28, rfl⟩
abbrev main_while0c_v11 : Ref sig .tc := ⟨.hbm, 29, rfl⟩
abbrev main_while0b_c_8 : Ref sig .tc := ⟨.hbm, 30, rfl⟩
abbrev main_while0b_v11 : Ref sig .tc := ⟨.hbm, 31, rfl⟩
abbrev main_while0b_v12 : Ref sig .tc := ⟨.hbm, 32, rfl⟩
abbrev main_while0b_v13 : Ref sig .tc := ⟨.hbm, 33, rfl⟩
abbrev main_while0b_v14 : Ref sig .tc := ⟨.hbm, 34, rfl⟩
abbrev main_while0b_v15 : Ref sig .tc := ⟨.hbm, 35, rfl⟩
abbrev main_while0b_v16 : Ref sig .tc := ⟨.hbm, 36, rfl⟩
abbrev main_while0b_v17 : Ref sig .tc := ⟨.hbm, 37, rfl⟩
abbrev main_while0b_c_9 : Ref sig .tc := ⟨.hbm, 38, rfl⟩
abbrev main_while0b_c_10 : Ref sig .tc := ⟨.hbm, 39, rfl⟩
abbrev main_while0b_v18 : Ref sig .tc := ⟨.hbm, 40, rfl⟩
abbrev main_while0b_c_11 : Ref sig .tc := ⟨.hbm, 41, rfl⟩
abbrev main_while0b_c_12 : Ref sig .tc := ⟨.hbm, 42, rfl⟩
abbrev main_while0b_v19 : Ref sig .tc := ⟨.hbm, 43, rfl⟩
abbrev main_while0b_c_13 : Ref sig .tc := ⟨.hbm, 44, rfl⟩
abbrev main_while0b_v20 : Ref sig .tc := ⟨.hbm, 45, rfl⟩
abbrev main_while0b_c_14 : Ref sig .tc := ⟨.hbm, 46, rfl⟩
abbrev main_while0b_c_15 : Ref sig .tc := ⟨.hbm, 47, rfl⟩
abbrev main_while0b_v21 : Ref sig .tc := ⟨.hbm, 48, rfl⟩
abbrev main_while0b_c_16 : Ref sig .tc := ⟨.hbm, 49, rfl⟩
abbrev main_while0b_c_17 : Ref sig .tc := ⟨.hbm, 50, rfl⟩
abbrev main_while0b_v22 : Ref sig .tc := ⟨.hbm, 51, rfl⟩
abbrev main_while0b_c_18 : Ref sig .tc := ⟨.hbm, 52, rfl⟩
abbrev main_while0b_v23 : Ref sig .tc := ⟨.hbm, 53, rfl⟩
abbrev main_while0b_c_19 : Ref sig .tc := ⟨.hbm, 54, rfl⟩
abbrev main_while0b_v24 : Ref sig .tc := ⟨.hbm, 55, rfl⟩
abbrev main_while0b_c_20 : Ref sig .tc := ⟨.hbm, 56, rfl⟩
abbrev main_while0b_v25 : Ref sig .tc := ⟨.hbm, 57, rfl⟩
abbrev main_while0b_v26 : Ref sig .tc := ⟨.hbm, 58, rfl⟩
abbrev main_while0b_c_21 : Ref sig .tc := ⟨.hbm, 59, rfl⟩
abbrev main_while0b_c_22 : Ref sig .tc := ⟨.hbm, 60, rfl⟩
abbrev main_while0b_v27 : Ref sig .tc := ⟨.hbm, 61, rfl⟩
abbrev main_while0b_c_23 : Ref sig .tc := ⟨.hbm, 62, rfl⟩
abbrev main_while0b_c_24 : Ref sig .tc := ⟨.hbm, 63, rfl⟩
abbrev main_while0b_v28 : Ref sig .tc := ⟨.hbm, 64, rfl⟩
abbrev main_while0b_c_25 : Ref sig .tc := ⟨.hbm, 65, rfl⟩
abbrev main_while0b_v29 : Ref sig .tc := ⟨.hbm, 66, rfl⟩
abbrev main_while0b_v30 : Ref sig .tc := ⟨.hbm, 67, rfl⟩
abbrev main_while0b_v31 : Ref sig .tc := ⟨.hbm, 68, rfl⟩
abbrev main_while0b_v32 : Ref sig .tc := ⟨.hbm, 69, rfl⟩
abbrev main_while0b_v33 : Ref sig .tc := ⟨.hbm, 70, rfl⟩
abbrev main_while0b_v34 : Ref sig .tc := ⟨.hbm, 71, rfl⟩
abbrev main_while0b_v35 : Ref sig .tc := ⟨.hbm, 72, rfl⟩
abbrev main_while0b_v36 : Ref sig .tc := ⟨.hbm, 73, rfl⟩
abbrev main_while0b_v37 : Ref sig .tc := ⟨.hbm, 74, rfl⟩
abbrev main_while0b_v38 : Ref sig .tc := ⟨.hbm, 75, rfl⟩
abbrev main_while0b_c_26 : Ref sig .tc := ⟨.hbm, 76, rfl⟩
abbrev main_while0b_c_27 : Ref sig .tc := ⟨.hbm, 77, rfl⟩
abbrev main_while0b_v39 : Ref sig .tc := ⟨.hbm, 78, rfl⟩
abbrev main_while0b_c_28 : Ref sig .tc := ⟨.hbm, 79, rfl⟩
abbrev main_while0b_c_29 : Ref sig .tc := ⟨.hbm, 80, rfl⟩
abbrev main_while0b_v40 : Ref sig .tc := ⟨.hbm, 81, rfl⟩
abbrev main_while0b_c_30 : Ref sig .tc := ⟨.hbm, 82, rfl⟩
abbrev main_while0b_v41 : Ref sig .tc := ⟨.hbm, 83, rfl⟩
abbrev main_while0b_c_31 : Ref sig .tc := ⟨.hbm, 84, rfl⟩
abbrev main_while0b_c_32 : Ref sig .tc := ⟨.hbm, 85, rfl⟩
abbrev main_while0b_v42 : Ref sig .tc := ⟨.hbm, 86, rfl⟩
abbrev main_while0b_c_33 : Ref sig .tc := ⟨.hbm, 87, rfl⟩
abbrev main_while0b_c_34 : Ref sig .tc := ⟨.hbm, 88, rfl⟩
abbrev main_while0b_v43 : Ref sig .tc := ⟨.hbm, 89, rfl⟩
abbrev main_while0b_c_35 : Ref sig .tc := ⟨.hbm, 90, rfl⟩
abbrev main_while0b_v44 : Ref sig .tc := ⟨.hbm, 91, rfl⟩
abbrev main_while0b_c_36 : Ref sig .tc := ⟨.hbm, 92, rfl⟩
abbrev main_while0b_v45 : Ref sig .tc := ⟨.hbm, 93, rfl⟩
abbrev main_while0b_c_37 : Ref sig .tc := ⟨.hbm, 94, rfl⟩
abbrev main_while0b_v46 : Ref sig .tc := ⟨.hbm, 95, rfl⟩
abbrev main_while0b_v47 : Ref sig .tc := ⟨.hbm, 96, rfl⟩
abbrev main_while0b_c_38 : Ref sig .tc := ⟨.hbm, 97, rfl⟩
abbrev main_while0b_c_39 : Ref sig .tc := ⟨.hbm, 98, rfl⟩
abbrev main_while0b_v48 : Ref sig .tc := ⟨.hbm, 99, rfl⟩
abbrev main_while0b_c_40 : Ref sig .tc := ⟨.hbm, 100, rfl⟩
abbrev main_while0b_c_41 : Ref sig .tc := ⟨.hbm, 101, rfl⟩
abbrev main_while0b_v49 : Ref sig .tc := ⟨.hbm, 102, rfl⟩
abbrev main_while0b_c_42 : Ref sig .tc := ⟨.hbm, 103, rfl⟩
abbrev main_while0b_v50 : Ref sig .tc := ⟨.hbm, 104, rfl⟩
abbrev main_while0b_v51 : Ref sig .tc := ⟨.hbm, 105, rfl⟩
abbrev main_while0b_v52 : Ref sig .tc := ⟨.hbm, 106, rfl⟩
abbrev main_while0b_v53 : Ref sig .tc := ⟨.hbm, 107, rfl⟩
abbrev main_while0b_c_43 : Ref sig .tc := ⟨.hbm, 108, rfl⟩
abbrev main_while0b_v54 : Ref sig .tc := ⟨.hbm, 109, rfl⟩

abbrev nD : Nat := 1
abbrev τ : Topo := Topo.v7x

variable {F : FTy → Type} [FloatOps F]

abbrev main_while0_count : Scf.Loop 32 := ⟨0#32, 2048#32, 1#32⟩
-- ==== Proof.ExpertsIdeal.Base.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

/-- The corner of block `s` of 256 rows in a tile of 1024 rows. -/
def rowOff : Fin 4 → Fin S1024x2048.rank → ℕ
  | 0 => ![0, 0]
  | 1 => ![256, 0]
  | 2 => ![512, 0]
  | 3 => ![768, 0]

/-- The four blocks lie inside the tile. -/
theorem rowOff_inb : ∀ (s : Fin 4) (a : Fin S1024x2048.rank), rowOff s a + S256x2048.size a ≤ S1024x2048.size a := by decide

/-- Block `s` of 256 rows of a tile. -/
def rows {α : Type} (X : S1024x2048.Idx → α) (s : Fin 4) : S256x2048.Idx → α :=
  VecWindow.window X (rowOff s) S256x2048.size (rowOff_inb s)

/-- What storing `w` as block `s` leaves. -/
def putRows {α : Type} (X : S1024x2048.Idx → α) (s : Fin 4) (w : S256x2048.Idx → α) : S1024x2048.Idx → α :=
  VecWindow.put X (rowOff s) S256x2048.size w

/-- The block just stored is the payload. -/
theorem rows_putRows_same {α : Type} (X : S1024x2048.Idx → α) (s : Fin 4) (w : S256x2048.Idx → α) : rows (putRows X s w) s = w :=
  VecWindow.window_put_same X (rowOff s) S256x2048.size (rowOff_inb s) w

/-- The other blocks are untouched by a store. -/
theorem rows_putRows_ne {α : Type} (X : S1024x2048.Idx → α) (s t : Fin 4) (w : S256x2048.Idx → α) (h : t ≠ s) :
    rows (putRows X s w) t = rows X t := by
  refine VecWindow.window_put_of_disjoint X (rowOff s) S256x2048.size (rowOff t) S256x2048.size (rowOff_inb t) w ⟨0, by decide⟩ ?_
  revert h; revert s t; decide

/-- A block of a tile after a store: the payload at the stored block, what was there elsewhere. -/
theorem rows_putRows {α : Type} (X : S1024x2048.Idx → α) (s t : Fin 4) (w : S256x2048.Idx → α) :
    rows (putRows X s w) t = if t = s then w else rows X t := by
  by_cases h : t = s
  · subst h; rw [if_pos rfl, rows_putRows_same]
  · rw [if_neg h, rows_putRows_ne X s t w h]

section Reads
variable {κ : Kind} {sp : Space} {e : EltTy} {Val : EltTy → Type}

/-- A load of a whole buffer, of any contents, reads what the buffer reads. -/
theorem readAt_whole {s : Shape} (v : View sig κ sp s e) (f : v.ty.Contents Val) {off : Fin s.rank → ℕ} (inb : ∀ a, off a + s.size a ≤ s.size a) :
    v.readAt Val (Rect.unit off (no_index s.size) inb).toLoadRect f = v.read Val f := View.readAt_full v f inb

/-- A load of a whole buffer after a store of all of it reads the payload. -/
theorem readCov_whole [∀ e, Nonempty (Val e)] {s : Shape} (v : View sig κ sp s e) {off off' : Fin s.rank → ℕ} (inb : ∀ a, off a + s.size a ≤ s.size a)
    (inb' : ∀ a, off' a + s.size a ≤ s.size a) (w : s.Idx → Val e) (L : List (View.Piece Val s e)) :
    v.readCov (⟨Rect.unit off' (no_index s.size) inb', w⟩ :: L) (Rect.unit off (no_index s.size) inb).toLoadRect = w := View.readCov_full v inb inb' w L

variable (v : View sig κ sp S1024x2048 e)

/-- A load of block 0 of 256 rows. -/
theorem readAt_rows0 (f : v.ty.Contents Val) (inb : ∀ a, (![0, 0] : Fin 2 → ℕ) a + (![256, 2048] : Fin 2 → ℕ) a ≤ S1024x2048.size a) :
    v.readAt Val (Rect.unit (s := S1024x2048) ![0, 0] ![256, 2048] inb).toLoadRect f = rows (v.read Val f) 0 :=
  View.readAt_unit v f inb rfl (rowOff_inb 0)

/-- A load of block 0 of 256 rows off earlier stores. -/
theorem readCov_rows0 [∀ e, Nonempty (Val e)] (L : List (View.Piece Val S1024x2048 e)) (inb : ∀ a, (![0, 0] : Fin 2 → ℕ) a + (![256, 2048] : Fin 2 → ℕ) a ≤ S1024x2048.size a) :
    v.readCov L (Rect.unit (s := S1024x2048) ![0, 0] ![256, 2048] inb).toLoadRect = rows (v.read Val (v.writes Val v.junk L)) 0 :=
  View.readAt_unit v _ inb rfl (rowOff_inb 0)

/-- A store of block 0 of 256 rows over earlier stores. -/
theorem read_writes_rows0 (f : v.ty.Contents Val) (inb : ∀ a, (![0, 0] : Fin 2 → ℕ) a + (![256, 2048] : Fin 2 → ℕ) a ≤ S1024x2048.size a)
    (w : S256x2048.Idx → Val e) (L : List (View.Piece Val S1024x2048 e)) :
    v.read Val (v.writes Val f (⟨Rect.unit (s := S1024x2048) ![0, 0] ![256, 2048] inb, w⟩ :: L)) = putRows (v.read Val (v.writes Val f L)) 0 w :=
  View.read_writes_cons_put v f inb w L rfl

/-- A load of block 1 of 256 rows. -/
theorem readAt_rows1 (f : v.ty.Contents Val) (inb : ∀ a, (![256, 0] : Fin 2 → ℕ) a + (![256, 2048] : Fin 2 → ℕ) a ≤ S1024x2048.size a) :
    v.readAt Val (Rect.unit (s := S1024x2048) ![256, 0] ![256, 2048] inb).toLoadRect f = rows (v.read Val f) 1 :=
  View.readAt_unit v f inb rfl (rowOff_inb 1)

/-- A load of block 1 of 256 rows off earlier stores. -/
theorem readCov_rows1 [∀ e, Nonempty (Val e)] (L : List (View.Piece Val S1024x2048 e)) (inb : ∀ a, (![256, 0] : Fin 2 → ℕ) a + (![256, 2048] : Fin 2 → ℕ) a ≤ S1024x2048.size a) :
    v.readCov L (Rect.unit (s := S1024x2048) ![256, 0] ![256, 2048] inb).toLoadRect = rows (v.read Val (v.writes Val v.junk L)) 1 :=
  View.readAt_unit v _ inb rfl (rowOff_inb 1)

/-- A store of block 1 of 256 rows over earlier stores. -/
theorem read_writes_rows1 (f : v.ty.Contents Val) (inb : ∀ a, (![256, 0] : Fin 2 → ℕ) a + (![256, 2048] : Fin 2 → ℕ) a ≤ S1024x2048.size a)
    (w : S256x2048.Idx → Val e) (L : List (View.Piece Val S1024x2048 e)) :
    v.read Val (v.writes Val f (⟨Rect.unit (s := S1024x2048) ![256, 0] ![256, 2048] inb, w⟩ :: L)) = putRows (v.read Val (v.writes Val f L)) 1 w :=
  View.read_writes_cons_put v f inb w L rfl

/-- A load of block 2 of 256 rows. -/
theorem readAt_rows2 (f : v.ty.Contents Val) (inb : ∀ a, (![512, 0] : Fin 2 → ℕ) a + (![256, 2048] : Fin 2 → ℕ) a ≤ S1024x2048.size a) :
    v.readAt Val (Rect.unit (s := S1024x2048) ![512, 0] ![256, 2048] inb).toLoadRect f = rows (v.read Val f) 2 :=
  View.readAt_unit v f inb rfl (rowOff_inb 2)

/-- A load of block 2 of 256 rows off earlier stores. -/
theorem readCov_rows2 [∀ e, Nonempty (Val e)] (L : List (View.Piece Val S1024x2048 e)) (inb : ∀ a, (![512, 0] : Fin 2 → ℕ) a + (![256, 2048] : Fin 2 → ℕ) a ≤ S1024x2048.size a) :
    v.readCov L (Rect.unit (s := S1024x2048) ![512, 0] ![256, 2048] inb).toLoadRect = rows (v.read Val (v.writes Val v.junk L)) 2 :=
  View.readAt_unit v _ inb rfl (rowOff_inb 2)

/-- A store of block 2 of 256 rows over earlier stores. -/
theorem read_writes_rows2 (f : v.ty.Contents Val) (inb : ∀ a, (![512, 0] : Fin 2 → ℕ) a + (![256, 2048] : Fin 2 → ℕ) a ≤ S1024x2048.size a)
    (w : S256x2048.Idx → Val e) (L : List (View.Piece Val S1024x2048 e)) :
    v.read Val (v.writes Val f (⟨Rect.unit (s := S1024x2048) ![512, 0] ![256, 2048] inb, w⟩ :: L)) = putRows (v.read Val (v.writes Val f L)) 2 w :=
  View.read_writes_cons_put v f inb w L rfl

/-- A load of block 3 of 256 rows. -/
theorem readAt_rows3 (f : v.ty.Contents Val) (inb : ∀ a, (![768, 0] : Fin 2 → ℕ) a + (![256, 2048] : Fin 2 → ℕ) a ≤ S1024x2048.size a) :
    v.readAt Val (Rect.unit (s := S1024x2048) ![768, 0] ![256, 2048] inb).toLoadRect f = rows (v.read Val f) 3 :=
  View.readAt_unit v f inb rfl (rowOff_inb 3)

/-- A load of block 3 of 256 rows off earlier stores. -/
theorem readCov_rows3 [∀ e, Nonempty (Val e)] (L : List (View.Piece Val S1024x2048 e)) (inb : ∀ a, (![768, 0] : Fin 2 → ℕ) a + (![256, 2048] : Fin 2 → ℕ) a ≤ S1024x2048.size a) :
    v.readCov L (Rect.unit (s := S1024x2048) ![768, 0] ![256, 2048] inb).toLoadRect = rows (v.read Val (v.writes Val v.junk L)) 3 :=
  View.readAt_unit v _ inb rfl (rowOff_inb 3)

/-- A store of block 3 of 256 rows over earlier stores. -/
theorem read_writes_rows3 (f : v.ty.Contents Val) (inb : ∀ a, (![768, 0] : Fin 2 → ℕ) a + (![256, 2048] : Fin 2 → ℕ) a ≤ S1024x2048.size a)
    (w : S256x2048.Idx → Val e) (L : List (View.Piece Val S1024x2048 e)) :
    v.read Val (v.writes Val f (⟨Rect.unit (s := S1024x2048) ![768, 0] ![256, 2048] inb, w⟩ :: L)) = putRows (v.read Val (v.writes Val f L)) 3 w :=
  View.read_writes_cons_put v f inb w L rfl

end Reads

/-- One ff block's contribution, added to block of rows `o`: the activated hidden columns of the bf16 rows `xb` times the down weights. -/
def stepOf (wg wl : Vec F S1x1x2048x256 .f32) (bg bl : Vec F S1x1x1x256 .f32) (wd : Vec F S1x1x256x2048 .f32)
    (xb : Vec F S256x2048 .bf16) (o : Vec F S256x2048 .f32) : Vec F S256x2048 .f32 :=
  k0_pay14 (k0_pay20 wg) (k0_pay21 wl) (k0_pay22 wd) xb bg bl o

/-- The first block's product, spelt apart in the kernel, is the same function. -/
theorem pay13_eq (wg wl : Vec F S1x1x2048x256 .f32) (bg bl : Vec F S1x1x1x256 .f32) (wd : Vec F S1x1x256x2048 .f32)
    (xb : Vec F S256x2048 .bf16) (o : Vec F S256x2048 .f32) :
    k0_pay13 (k0_pay19 wd) (k0_pay23 wg xb bg) (k0_pay24 wl xb) (k0_pay25 bl) o = stepOf wg wl bg bl wd xb o := by
  unfold stepOf k0_pay13 k0_pay14 k0_pay20 k0_pay21 k0_pay22 k0_pay23 k0_pay24 k0_pay25
  simp only [shapeCast_self]

/-- The casts of the later blocks are the first block's. -/
theorem pay4_eq : k0_pay4 (F := F) = k0_pay1 := rfl
/-- The casts of the later blocks are the first block's. -/
theorem pay7_eq : k0_pay7 (F := F) = k0_pay1 := rfl
/-- The casts of the later blocks are the first block's. -/
theorem pay10_eq : k0_pay10 (F := F) = k0_pay1 := rfl
/-- The bias of the later blocks is the first block's. -/
theorem pay5_eq : k0_pay5 (F := F) = k0_pay2 := rfl
/-- The bias of the later blocks is the first block's. -/
theorem pay8_eq : k0_pay8 (F := F) = k0_pay2 := rfl
/-- The bias of the later blocks is the first block's. -/
theorem pay11_eq : k0_pay11 (F := F) = k0_pay2 := rfl
/-- The zeros of the later blocks are the first block's. -/
theorem pay6_eq : k0_pay6 (F := F) = k0_pay3 := rfl
/-- The zeros of the later blocks are the first block's. -/
theorem pay9_eq : k0_pay9 (F := F) = k0_pay3 := rfl
/-- The zeros of the later blocks are the first block's. -/
theorem pay12_eq : k0_pay12 (F := F) = k0_pay3 := rfl
/-- The third block's product is the second's. -/
theorem pay15_eq : k0_pay15 (F := F) = k0_pay14 := rfl
/-- The fourth block's product is the second's. -/
theorem pay16_eq : k0_pay16 (F := F) = k0_pay14 := rfl

/-- The bf16 rows after a point: the first point of a tile casts the live blocks. -/
def newXb (first : Bool) (l : Fin 4 → Bool) (x : Vec F S1024x2048 .f32) (B : Vec F S1024x2048 .bf16) (s : Fin 4) : Vec F S256x2048 .bf16 :=
  if first && l s then k0_pay1 (rows x s) else rows B s

/-- The output block a point's product is added to: at the first point the bias on live blocks and zero on the others. -/
def baseOut (first : Bool) (l : Fin 4 → Bool) (bd : Vec F S1x1x1x2048 .f32) (O : Vec F S1024x2048 .f32) (s : Fin 4) : Vec F S256x2048 .f32 :=
  if first then (if l s then k0_pay2 bd else k0_pay3) else rows O s

/-- The output block after a point. -/
def newOut (first : Bool) (l : Fin 4 → Bool) (x : Vec F S1024x2048 .f32) (wg wl : Vec F S1x1x2048x256 .f32) (bg bl : Vec F S1x1x1x256 .f32)
    (wd : Vec F S1x1x256x2048 .f32) (bd : Vec F S1x1x1x2048 .f32) (B : Vec F S1024x2048 .bf16) (O : Vec F S1024x2048 .f32) (s : Fin 4) : Vec F S256x2048 .f32 :=
  if l s then stepOf wg wl bg bl wd (newXb first l x B s) (baseOut first l bd O s) else baseOut first l bd O s

/-- The word the body reads: its tile's count of live rows. -/
abbrev word (i : grid0.Coords) (arg3 : Memref sig .tc .smem S100 .i32) (f3 : arg3.view.ty.Contents (Elt F)) : Elt F .i32 :=
  View.readAt (Elt F) arg3.view (Rect.unit (s := S100) (k0_off1 i) S1.size (k0_off1_inb i)).toLoadRect f3 (Shape.Idx.first (numel1_S1.ge.trans' Nat.zero_lt_one))

end Cert.ExpertsIdeal.Run
end
-- ==== Proof.ExpertsIdeal.Body.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Tactic
public import Idealize.ShloMosaic.Lib.WordCmp
public import Idealize.ShloMosaic.Lib.VecWindow
public import Idealize.ShloMosaic.Lib.Pipeline.Value
public import proofs.«01_k».proof.Proof.ExpertsIdeal.Base

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

/-- The kernel's signed "greater" as an order of integers. -/
theorem gt_word (v n : BitVec 32) : (Scalar.cmpi .ne (Scalar.extui (Scalar.cmpi .sgt v n) : BitVec 32) 0#32 : BitVec 1) = 1#1 ↔ n.toInt < v.toInt := by
  have e : (Scalar.cmpi .sgt v n : BitVec 1) = BitVec.ofBool (n.slt v) := rfl
  rw [e, BitVec.slt]
  by_cases h : n.toInt < v.toInt
  · rw [decide_eq_true h]; exact iff_of_true (by decide) h
  · rw [decide_eq_false h]; exact iff_of_false (by decide) h

/-- The kernel's signed "at most" as an order of integers. -/
theorem le_word (v n : BitVec 32) : (Scalar.cmpi .ne (Scalar.extui (Scalar.cmpi .sle v n) : BitVec 32) 0#32 : BitVec 1) = 1#1 ↔ ¬ n.toInt < v.toInt := by
  have e : (Scalar.cmpi .sle v n : BitVec 1) = BitVec.ofBool (v.sle n) := rfl
  rw [e, BitVec.sle]
  by_cases h : v.toInt ≤ n.toInt
  · rw [decide_eq_true h]; exact iff_of_true (by decide) (by omega)
  · rw [decide_eq_false h]; exact iff_of_false (by decide) (by omega)

/-- The kernel's comparison 2 of the count of live rows. -/
theorem cond2_iff (v : BitVec 32) : k0_cond2 v = 1#1 ↔ 0 < v.toInt := by
  exact (gt_word v 0#32).trans (by rw [show (0#32 : BitVec 32).toInt = 0 from by decide])

/-- The kernel's comparison 3 of the count of live rows. -/
theorem cond3_iff (v : BitVec 32) : k0_cond3 v = 1#1 ↔ ¬ 0 < v.toInt := by
  exact (le_word v 0#32).trans (by rw [show (0#32 : BitVec 32).toInt = 0 from by decide])

/-- The kernel's comparison 4 of the count of live rows. -/
theorem cond4_iff (v : BitVec 32) : k0_cond4 v = 1#1 ↔ 256 < v.toInt := by
  exact (gt_word v 256#32).trans (by rw [show (256#32 : BitVec 32).toInt = 256 from by decide])

/-- The kernel's comparison 5 of the count of live rows. -/
theorem cond5_iff (v : BitVec 32) : k0_cond5 v = 1#1 ↔ ¬ 256 < v.toInt := by
  exact (le_word v 256#32).trans (by rw [show (256#32 : BitVec 32).toInt = 256 from by decide])

/-- The kernel's comparison 6 of the count of live rows. -/
theorem cond6_iff (v : BitVec 32) : k0_cond6 v = 1#1 ↔ 512 < v.toInt := by
  exact (gt_word v 512#32).trans (by rw [show (512#32 : BitVec 32).toInt = 512 from by decide])

/-- The kernel's comparison 7 of the count of live rows. -/
theorem cond7_iff (v : BitVec 32) : k0_cond7 v = 1#1 ↔ ¬ 512 < v.toInt := by
  exact (le_word v 512#32).trans (by rw [show (512#32 : BitVec 32).toInt = 512 from by decide])

/-- The kernel's comparison 8 of the count of live rows. -/
theorem cond8_iff (v : BitVec 32) : k0_cond8 v = 1#1 ↔ 768 < v.toInt := by
  exact (gt_word v 768#32).trans (by rw [show (768#32 : BitVec 32).toInt = 768 from by decide])

/-- The kernel's comparison 9 of the count of live rows. -/
theorem cond9_iff (v : BitVec 32) : k0_cond9 v = 1#1 ↔ ¬ 768 < v.toInt := by
  exact (le_word v 768#32).trans (by rw [show (768#32 : BitVec 32).toInt = 768 from by decide])

/-- The kernel's comparison 10 of the count of live rows. -/
theorem cond10_iff (v : BitVec 32) : k0_cond10 v = 1#1 ↔ 0 < v.toInt := by
  exact (gt_word v 0#32).trans (by rw [show (0#32 : BitVec 32).toInt = 0 from by decide])

/-- The kernel's comparison 11 of the count of live rows. -/
theorem cond11_iff (v : BitVec 32) : k0_cond11 v = 1#1 ↔ 256 < v.toInt := by
  exact (gt_word v 256#32).trans (by rw [show (256#32 : BitVec 32).toInt = 256 from by decide])

/-- The kernel's comparison 12 of the count of live rows. -/
theorem cond12_iff (v : BitVec 32) : k0_cond12 v = 1#1 ↔ 512 < v.toInt := by
  exact (gt_word v 512#32).trans (by rw [show (512#32 : BitVec 32).toInt = 512 from by decide])

/-- The kernel's comparison 13 of the count of live rows. -/
theorem cond13_iff (v : BitVec 32) : k0_cond13 v = 1#1 ↔ 768 < v.toInt := by
  exact (gt_word v 768#32).trans (by rw [show (768#32 : BitVec 32).toInt = 768 from by decide])

/-- A condition that holds, as a truth value. -/
theorem alive_iff (p : Prop) [Decidable p] : p ↔ decide p = true := ⟨fun h => decide_eq_true h, fun h => of_decide_eq_true h⟩

/-- A condition that does not hold, as a truth value. -/
theorem dead_iff (p : Prop) [Decidable p] : ¬p ↔ decide p = false := ⟨fun h => decide_eq_false h, fun h => of_decide_eq_false h⟩

/-- Which blocks of 256 rows hold live rows, of a count of live rows. -/
def live (v : BitVec 32) : Fin 4 → Bool := ![decide (0 < v.toInt), decide (256 < v.toInt), decide (512 < v.toInt), decide (768 < v.toInt)]

set_option maxHeartbeats 20000000 in
/-- The body at any point: what it leaves, block by block, by the count of live rows it reads. -/
theorem run (c : Dev nD) (i : grid0.Coords) (arg2 : Memref sig .tc .smem S100 .i32) (harg2 : arg2.IsWhole) (arg3 : Memref sig .tc .smem S100 .i32) (harg3 : arg3.IsWhole) (arg4 : Memref sig .tc .smem S1 .i32) (harg4 : arg4.IsWhole) (arg5 : Memref sig .tc .vmem S1024x2048 .f32) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x1x256 .f32) (harg8 : arg8.IsWhole) (arg9 : Memref sig .tc .vmem S1x1x1x256 .f32) (harg9 : arg9.IsWhole) (arg10 : Memref sig .tc .vmem S1x1x256x2048 .f32) (harg10 : arg10.IsWhole) (arg11 : Memref sig .tc .vmem S1x1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S256x2048 .bf16) (harg16 : arg16.IsWhole)
    (q3 : PosShare TreeShare) (f3 : arg3.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F))
    (first : Bool) (h1 : k0_cond1 i = 1#1 ↔ first = true)
    (E : Set ℕ) (K : PUnit → sProp 𝕄) :
    iprop((arg3.view.loc (c : Thread nD τ) ↦[arg3.view.set]{q3} f3) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)
        ∗ (iprop(∃ f12' f13', (∃ g14, (arg14.view.loc (c : Thread nD τ) ↦[arg14.view.set]{fullShare} g14)) ∗ (∃ g15, (arg15.view.loc (c : Thread nD τ) ↦[arg15.view.set]{fullShare} g15)) ∗ (∃ g16, (arg16.view.loc (c : Thread nD τ) ↦[arg16.view.set]{fullShare} g16)) ∗ (arg12.view.loc (c : Thread nD τ) ↦[arg12.view.set]{fullShare} f12') ∗ (arg13.view.loc (c : Thread nD τ) ↦[arg13.view.set]{fullShare} f13')
          ∗ (arg3.view.loc (c : Thread nD τ) ↦[arg3.view.set]{q3} f3) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
          ∗ ⌜∀ s : Fin 4, rows (arg12.view.read (Elt F) f12') s = newOut first (live (word i arg3 f3)) (arg5.view.read (Elt F) f5) (arg6.view.read (Elt F) f6) (arg7.view.read (Elt F) f7) (arg8.view.read (Elt F) f8) (arg9.view.read (Elt F) f9) (arg10.view.read (Elt F) f10) (arg11.view.read (Elt F) f11) (arg13.view.read (Elt F) f13) (arg12.view.read (Elt F) f12) s
              ∧ rows (arg13.view.read (Elt F) f13') s = newXb first (live (word i arg3 f3)) (arg5.view.read (Elt F) f5) (arg13.view.read (Elt F) f13) s⌝) -∗ K ⟨⟩))
      ⊢ wp frame (wpE (defs₀ (F := F)) Variants.none c none) E (cc0_moe_experts i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have h2 := (cond2_iff (word i arg3 f3)).trans (alive_iff _)
  have h3 := (cond3_iff (word i arg3 f3)).trans (dead_iff _)
  have h4 := (cond4_iff (word i arg3 f3)).trans (alive_iff _)
  have h5 := (cond5_iff (word i arg3 f3)).trans (dead_iff _)
  have h6 := (cond6_iff (word i arg3 f3)).trans (alive_iff _)
  have h7 := (cond7_iff (word i arg3 f3)).trans (dead_iff _)
  have h8 := (cond8_iff (word i arg3 f3)).trans (alive_iff _)
  have h9 := (cond9_iff (word i arg3 f3)).trans (dead_iff _)
  have h10 := (cond10_iff (word i arg3 f3)).trans (alive_iff _)
  have h11 := (cond11_iff (word i arg3 f3)).trans (alive_iff _)
  have h12 := (cond12_iff (word i arg3 f3)).trans (alive_iff _)
  have h13 := (cond13_iff (word i arg3 f3)).trans (alive_iff _)
  have g1 : decide (256 < (word i arg3 f3).toInt) = true → decide (0 < (word i arg3 f3).toInt) = true := fun h => decide_eq_true (by have := of_decide_eq_true h; omega)
  have g2 : decide (512 < (word i arg3 f3).toInt) = true → decide (256 < (word i arg3 f3).toInt) = true := fun h => decide_eq_true (by have := of_decide_eq_true h; omega)
  have g3 : decide (768 < (word i arg3 f3).toInt) = true → decide (512 < (word i arg3 f3).toInt) = true := fun h => decide_eq_true (by have := of_decide_eq_true h; omega)
  unfold live
  generalize decide (0 < (word i arg3 f3).toInt) = b0 at h2 h3 h10 g1 ⊢
  generalize decide (256 < (word i arg3 f3).toInt) = b1 at h4 h5 h11 g1 g2 ⊢
  generalize decide (512 < (word i arg3 f3).toInt) = b2 at h6 h7 h12 g2 g3 ⊢
  generalize decide (768 < (word i arg3 f3).toInt) = b3 at h8 h9 h13 g3 ⊢
  simp only [cc0_moe_experts_eq_skeleton]; unfold cc0_moe_experts_skel
  rcases first with _ | _ <;> rcases b0 with _ | _ <;> rcases b1 with _ | _ <;> rcases b2 with _ | _ <;> rcases b3 with _ | _ <;>
    first
    | exact absurd (g1 rfl) Bool.false_ne_true
    | exact absurd (g2 rfl) Bool.false_ne_true
    | exact absurd (g3 rfl) Bool.false_ne_true
    | simp only [Bool.false_eq_true, Bool.true_eq_false, iff_true, iff_false] at h1 h2 h3 h4 h5 h6 h7 h8 h9 h10 h11 h12 h13
  all_goals
    iintro ⟨H3, H5, H6, H7, H8, H9, H10, H11, H12, H13, H14, H15, H16, Hk⟩
    sl_exec (disch := first | sl_exact h1 | sl_exact h2 | sl_exact h3 | sl_exact h4 | sl_exact h5 | sl_exact h6 | sl_exact h7 | sl_exact h8 | sl_exact h9 | sl_exact h10 | sl_exact h11 | sl_exact h12 | sl_exact h13)
    sl_step
    iapply Hk
    iexists _, _
    isplitl [H14]; · iexists _; iexact H14
    isplitl [H15]; · iexists _; iexact H15
    isplitl [H16]; · iexists _; iexact H16
    isplitl [H12]; · iexact H12
    isplitl [H13]; · iexact H13
    isplitl [H3]; · iexact H3
    isplitl [H5]; · iexact H5
    isplitl [H6]; · iexact H6
    isplitl [H7]; · iexact H7
    isplitl [H8]; · iexact H8
    isplitl [H9]; · iexact H9
    isplitl [H10]; · iexact H10
    isplitl [H11]; · iexact H11
    ipureintro
    sl_unfold_words
    try simp only [readAt_rows0, readAt_rows1, readAt_rows2, readAt_rows3, readCov_rows0, readCov_rows1, readCov_rows2, readCov_rows3, read_writes_rows0, read_writes_rows1, read_writes_rows2, read_writes_rows3,
      readAt_whole, readCov_whole, View.writes_nil, pay13_eq,
      pay4_eq, pay7_eq, pay10_eq, pay5_eq, pay8_eq, pay11_eq, pay6_eq, pay9_eq, pay12_eq, pay15_eq, pay16_eq]
    intro s
    constructor
    · fin_cases s <;> simp [rows_putRows, newOut, newXb, baseOut, stepOf]
    · fin_cases s <;> simp [rows_putRows, newXb]

end Cert.ExpertsIdeal.Run
end
-- ==== Proof.ExpertsIdeal.Data.lean ====
module

public import Idealize.ShloMosaic.Lib.Pipeline.Frame
public import Idealize.ShloMosaic.Lib.Pipeline.TableIdle
public import Idealize.ShloMosaic.Lib.Pipeline.ValueKit.Geometry
public import proofs.«01_k».proof.Proof.ExpertsIdeal.Body

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable (m : (ℓ : Loc nD τ sig) → Buf (Elt F) ℓ) (a : (pcfg0 (F := F)).Adm)

/-- The arrays as the launch finds them: the two bias arrays reshaped, everything else as at entry. -/
def V (c : Dev nD) (b : Ref sig .tc) : Buf (Elt F) ((c : Thread nD τ).loc b) :=
  StableHlo.after hostOps0 (fun b => m (c, b)) b

/-- The pipeline at the tables `a`. -/
abbrev cfgA : Cfg sig Λ₀ := Pipeline.pin (pcfgs (F := F)) (fun _ => a) 0

/-- The grid has 800 points. -/
theorem cfgA_N : (cfgA a).N = 800 := N_0

/-- The block of window `w` at point `t`, read off its array. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) (V m c (Pipeline.arrRef spec0 w))

/-- The point of number `n`, the last one for larger numbers. -/
def pt (n : ℕ) : Fin (cfgA a).N := ⟨min n 799, by rw [cfgA_N]; omega⟩

/-- A point is the point of its number. -/
theorem pt_val (t : Fin (cfgA a).N) : pt a t.val = t :=
  Fin.ext (by have h : t.val < 800 := lt_of_lt_of_eq t.isLt (cfgA_N a); show min t.val 799 = t.val; omega)

/-- The number of live rows at point `n`'s tile. -/
def cnt (n : ℕ) : Elt F .i32 :=
  word ((cfgA a).grid.coords (pt a n)) (Memref.whole main_arg1) (a.1 1)

def xAt (c : Dev nD) (n : ℕ) : Vec F S1024x2048 .f32 := iblk m a c 0 (pt a n)
def wgAt (c : Dev nD) (n : ℕ) : Vec F S1x1x2048x256 .f32 := iblk m a c 1 (pt a n)
def wlAt (c : Dev nD) (n : ℕ) : Vec F S1x1x2048x256 .f32 := iblk m a c 2 (pt a n)
def bgAt (c : Dev nD) (n : ℕ) : Vec F S1x1x1x256 .f32 := iblk m a c 3 (pt a n)
def blAt (c : Dev nD) (n : ℕ) : Vec F S1x1x1x256 .f32 := iblk m a c 4 (pt a n)
def wdAt (c : Dev nD) (n : ℕ) : Vec F S1x1x256x2048 .f32 := iblk m a c 5 (pt a n)
def bdAt (c : Dev nD) (n : ℕ) : Vec F S1x1x1x2048 .f32 := iblk m a c 6 (pt a n)

/-- Point `n`'s product added to `o` on the live blocks of rows; the activations are those the tile's first point read. -/
def stepAt (c : Dev nD) (n : ℕ) (o : Vec F S256x2048 .f32) (s : Fin 4) : Vec F S256x2048 .f32 :=
  if live (cnt a n) s then stepOf (wgAt m a c n) (wlAt m a c n) (bgAt m a c n) (blAt m a c n) (wdAt m a c n) (k0_pay1 (rows (xAt m a c (8 * (n / 8))) s)) o else o

/-- What point `n` adds to: the bias on live blocks and zero on the others at a tile's first point, else what the point before left. -/
def baseAt (c : Dev nD) (n : ℕ) (prev : Vec F S256x2048 .f32) (s : Fin 4) : Vec F S256x2048 .f32 :=
  if n % 8 = 0 then (if live (cnt a n) s then k0_pay2 (bdAt m a c n) else k0_pay3) else prev

/-- Rows `256 s` to `256 s + 255` of the output block after point `n`. -/
def outRows (c : Dev nD) : ℕ → Fin 4 → Vec F S256x2048 .f32
  | 0, s => stepAt m a c 0 (baseAt m a c 0 k0_pay3 s) s
  | n + 1, s => stepAt m a c (n + 1) (baseAt m a c (n + 1) (outRows c n s) s) s

/-- The output block after point `n`. -/
def outAt (c : Dev nD) (n : ℕ) : Vec F S1024x2048 .f32 :=
  putRows (putRows (putRows (putRows (xAt m a c n) 0 (outRows m a c n 0)) 1 (outRows m a c n 1)) 2 (outRows m a c n 2)) 3 (outRows m a c n 3)

/-- The output block after a point, row block by row block. -/
theorem rows_outAt (c : Dev nD) (n : ℕ) (s : Fin 4) : rows (outAt m a c n) s = outRows m a c n s := by
  unfold outAt
  fin_cases s <;> simp [rows_putRows]

/-- The place of row `i` of a block among the rows of its part. -/
def inRows (i : S1024x2048.Idx) : S256x2048.Idx := fun k =>
  ⟨if k.val = 0 then (i 0).val % 256 else (i 1).val, by
    have h1 : (i 1).val < 2048 := (i 1).isLt
    revert k
    exact Fin.forall_fin_two.mpr ⟨by
      show (if (0 : ℕ) = 0 then (i 0).val % 256 else (i 1).val) < 256
      rw [if_pos rfl]; omega, by
      show (if (1 : ℕ) = 0 then (i 0).val % 256 else (i 1).val) < 2048
      rw [if_neg (by decide)]; exact h1⟩⟩

/-- The part of a block row `i` lies in. -/
def partOf (i : S1024x2048.Idx) : Fin 4 := ⟨(i 0).val / 256, by have h0 : (i 0).val < 1024 := (i 0).isLt; omega⟩

/-- An entry of a block read through its part. -/
theorem rows_part {α : Type} (X : S1024x2048.Idx → α) (i : S1024x2048.Idx) : rows X (partOf i) (inRows i) = X i := by
  unfold rows VecWindow.window
  refine congrArg X (funext fun k => Fin.ext ?_)
  have h0 : (i 0).val < 1024 := (i 0).isLt
  have hr : ∀ s : Fin 4, rowOff s 0 = 256 * s.val ∧ rowOff s 1 = 0 := by decide
  have hp : (partOf i).val = (i 0).val / 256 := rfl
  revert k
  refine Fin.forall_fin_two.mpr ⟨?_, ?_⟩
  · refine (ValueKit.rect_emb_unit_val _ _ _ _ _).trans ?_
    show rowOff (partOf i) 0 + (if (0 : ℕ) = 0 then (i 0).val % 256 else (i 1).val) = (i 0).val
    rw [(hr _).1, if_pos rfl, hp]; omega
  · refine (ValueKit.rect_emb_unit_val _ _ _ _ _).trans ?_
    show rowOff (partOf i) 1 + (if (1 : ℕ) = 0 then (i 0).val % 256 else (i 1).val) = (i 1).val
    rw [(hr _).2, if_neg (by decide)]; omega

/-- Two blocks with the same rows are the same block. -/
theorem ext_rows {α : Type} {X Y : S1024x2048.Idx → α} (h : ∀ s, rows X s = rows Y s) : X = Y := by
  funext i
  rw [← rows_part X i, ← rows_part Y i, h]

/-- Coordinates of a point: the tile and the block of columns. -/
theorem coords0 (t : Fin (cfgA a).N) : ((cfgA a).grid.coords t (0 : Fin 2)).val = t.val / 8 := by
  have ht : t.val < 800 := lt_of_lt_of_eq t.isLt (cfgA_N a)
  have e : (grid0.coords t 0).val = t.val / 8 % 100 := Pipeline.Grid.coords_val (G := grid0) t 0 (by decide) rfl
  exact e.trans (by omega)

/-- A point's block of hidden units. -/
theorem coords1 (t : Fin (cfgA a).N) : ((cfgA a).grid.coords t (1 : Fin 2)).val = t.val % 8 := by
  have e : (grid0.coords t 1).val = t.val / 1 % 8 := Pipeline.Grid.coords_val (G := grid0) t 1 (by decide) rfl
  exact e.trans (by omega)

/-- The kernel's test for a tile's first point. -/
theorem first_iff (t : Fin (cfgA a).N) : k0_cond1 ((cfgA a).grid.coords t) = 1#1 ↔ t.val % 8 = 0 := by
  have ht : t.val < 800 := lt_of_lt_of_eq t.isLt (cfgA_N a)
  have e1 : (grid0.coords t 1).val = t.val / 1 % 8 := Pipeline.Grid.coords_val (G := grid0) t 1 (by decide) rfl
  show k0_cond1 (grid0.coords t) = 1#1 ↔ _
  simp only [k0_cond1, e1]
  word_cmp

/-- The count of live rows depends on the tile alone. -/
theorem word_congr (i i' : grid0.Coords) (arg3 : Memref sig .tc .smem S100 .i32) (f : arg3.view.ty.Contents (Elt F)) (h : k0_off1 i = k0_off1 i') :
    word i arg3 f = word i' arg3 f := by
  have key : ∀ (o o' : Fin S100.rank → ℕ) (b : ∀ k, o k + S1.size k ≤ S100.size k) (b' : ∀ k, o' k + S1.size k ≤ S100.size k), o = o' →
      View.readAt (Elt F) arg3.view (Rect.unit (s := S100) o S1.size b).toLoadRect f (Shape.Idx.first (numel1_S1.ge.trans' Nat.zero_lt_one)) =
      View.readAt (Elt F) arg3.view (Rect.unit (s := S100) o' S1.size b').toLoadRect f (Shape.Idx.first (numel1_S1.ge.trans' Nat.zero_lt_one)) := by
    intro o o' b b' e; subst e; rfl
  exact key _ _ _ _ h

/-- The offset depends on the tile alone. -/
theorem off1_congr (i i' : grid0.Coords) (h : (i 0).val = (i' 0).val) : k0_off1 i = k0_off1 i' := by
  unfold k0_off1; rw [h]

/-- The count at any point of a tile is the count at its first point. -/
theorem cnt_tile (n : ℕ) (hn : n < 800) : cnt a n = cnt a (8 * (n / 8)) := by
  refine word_congr _ _ _ _ (off1_congr _ _ ?_)
  have e1 := coords0 a (pt a n)
  have e2 := coords0 a (pt a (8 * (n / 8)))
  refine e1.trans (Eq.trans ?_ e2.symm)
  show min n 799 / 8 = min (8 * (n / 8)) 799 / 8
  omega

/-- With no live first block there is no live block. -/
theorem live_none (v : BitVec 32) (h : ¬ 0 < v.toInt) (s : Fin 4) : live v s = false := by
  unfold live
  fin_cases s <;> simp <;> omega

/-- The table entry the pipeline reads is the one the body reads. -/
theorem atD_word (i : grid0.Coords) : a.1.atD 1 (k0_off1 i) = word i (Memref.whole main_arg1) (a.1 1) := by
  have hb : ∀ k, k0_off1 i k + 1 ≤ S100.size k := fun k => (show S1.size k = 1 by fin_cases k; rfl) ▸ k0_off1_inb i k
  have e1 : a.1.atD 1 (k0_off1 i) = a.1 1 (fun k => ⟨k0_off1 i k, hb k⟩) := dif_pos hb
  refine e1.trans ?_
  refine congrArg (a.1 1) (funext fun k => Fin.ext ?_)
  refine Eq.symm ((show _ = ((Rect.unit (s := S100) (k0_off1 i) S1.size (k0_off1_inb i)).emb (Shape.Idx.first (numel1_S1.ge.trans' Nat.zero_lt_one)) k : ℕ) from rfl).trans
    ((ValueKit.rect_emb_unit_val _ _ _ _ _).trans ?_))
  show k0_off1 i k + 0 = k0_off1 i k
  rw [Nat.add_zero]

/-- The output window is left alone exactly at a later point of a tile with no live row. -/
theorem idle_out (t : Fin (cfgA a).N) (h : (cfgA a).idle 7 ((cfgA a).grid.coords t) = true) : t.val % 8 ≠ 0 ∧ ∀ s, live (cnt a t.val) s = false := by
  have h' : idle0 a.1 7 (grid0.coords t) = true := h
  have hc : cnt a t.val = word (grid0.coords t) (Memref.whole main_arg1) (a.1 1) := by unfold cnt; rw [pt_val]
  have hf := first_iff a t
  simp only [idle0, atD_word, ← hc, Bool.and_eq_true, Bool.not_eq_true', beq_eq_false_iff_ne, Bool.and_eq_false_iff, ne_eq] at h'
  have hx : a.1.atD 1 (k0_off1 (grid0.coords t)) = cnt a t.val := (atD_word a _).trans hc.symm
  have c10 := h'.1.1.1.2
  have c2 := h'.1.1.1.1.1.1.1.1.1.1.1
  have c3 := h'.1.1.1.1.1.1.1.1.1.1.2
  have n10 : ¬ 0 < BitVec.toInt (cnt a t.val) := fun hh => c10 ((congrArg k0_cond10 hx).trans ((cond10_iff _).mpr hh))
  refine ⟨fun h0 => ?_, live_none _ n10⟩
  rcases c3 with c | c
  · exact c (hf.mpr h0)
  · exact c ((congrArg k0_cond3 hx).trans ((cond3_iff _).mpr n10))

/-- A buffer held through the view of it whole is the buffer held. -/
theorem pts_whole (c : Dev nD) (b : Ref sig .tc) (q : PosShare TreeShare) (f : Buf (Elt F) ((c : Thread nD τ).loc b)) :
    (((Memref.whole b).view.loc (c : Thread nD τ) ↦[(Memref.whole b).view.set]{q} f) : sProp 𝕄) = (((c : Thread nD τ).loc b) ↦{q} f) := by
  simp only [Memref.view_whole, View.set_whole]; try rfl

/-- The prefetched tables, each held at half a share. -/
def tabs (c : Dev nD) : sProp 𝕄 :=
  iprop(((Memref.whole main_arg0).view.loc (c : Thread nD τ) ↦[(Memref.whole main_arg0).view.set]{fullShare.right} a.1 0) ∗ ((Memref.whole main_arg1).view.loc (c : Thread nD τ) ↦[(Memref.whole main_arg1).view.set]{fullShare.right} a.1 1) ∗ ((Memref.whole main_arg2).view.loc (c : Thread nD τ) ↦[(Memref.whole main_arg2).view.set]{fullShare.right} a.1 2))

/-- The tables as the launch holds them. -/
theorem tabs_eq (c : Dev nD) : (Pipeline.ΦT pre0 a.1 c : sProp 𝕄) = tabs a c := by
  refine Eq.trans (b := iprop((((c : Thread nD τ).loc main_arg0) ↦{fullShare.right} (show Buf (Elt F) ((c : Thread nD τ).loc main_arg0) from a.1 0)) ∗ (((c : Thread nD τ).loc main_arg1) ↦{fullShare.right} (show Buf (Elt F) ((c : Thread nD τ).loc main_arg1) from a.1 1)) ∗ (((c : Thread nD τ).loc main_arg2) ↦{fullShare.right} (show Buf (Elt F) ((c : Thread nD τ).loc main_arg2) from a.1 2)))) ?_ (congrArg₂ (fun x y : sProp 𝕄 => iprop(x ∗ y)) (pts_whole c main_arg0 fullShare.right (a.1 0)).symm
    (congrArg₂ (fun x y : sProp 𝕄 => iprop(x ∗ y)) (pts_whole c main_arg1 fullShare.right (a.1 1)).symm (pts_whole c main_arg2 fullShare.right (a.1 2)).symm))
  unfold Pipeline.ΦT Pipeline.prefHeld
  rw [show (Finset.univ : Finset (Fin 3)) = insert 0 (insert 1 {2}) from by decide, bigSep_insert (by decide), bigSep_insert (by decide), bigSep_singleton]
  rfl

/-- The scratch block of activations: from a tile's first point on, its live blocks hold the tile's activations. -/
def actsOk (c : Dev nD) (n : ℕ) (B : Vec F S1024x2048 .bf16) : Prop :=
  n % 8 ≠ 0 → ∀ s : Fin 4, live (cnt a n) s = true → rows B s = k0_pay1 (rows (xAt m a c (8 * (n / 8))) s)

/-- What the region holds before point `n`: the tables, the activations' scratch, the other scratch at anything and the generator. -/
def Phi (c : Dev nD) (n : ℕ) : sProp 𝕄 :=
  iprop(tabs a c
    ∗ (∃ f, ((Memref.whole cc0_scratch0).view.loc (c : Thread nD τ) ↦[(Memref.whole cc0_scratch0).view.set]{fullShare} f) ∗ ⌜actsOk m a c n ((Memref.whole cc0_scratch0).view.read (Elt F) f)⌝)
    ∗ (∃ f, ((Memref.whole cc0_scratch1).view.loc (c : Thread nD τ) ↦[(Memref.whole cc0_scratch1).view.set]{fullShare} f))
    ∗ (∃ f, ((Memref.whole cc0_scratch2).view.loc (c : Thread nD τ) ↦[(Memref.whole cc0_scratch2).view.set]{fullShare} f))
    ∗ (∃ f, ((Memref.whole cc0_scratch3).view.loc (c : Thread nD τ) ↦[(Memref.whole cc0_scratch3).view.set]{fullShare} f))
    ∗ (∃ r, prngReg c r))

/-- The proof data of the pipeline: its arrays as the launch finds them, every input's buffer at its block, the output's at `outAt`. -/
def dats (_ : Fin 1) (c : Dev nD) : Dat τ (Elt F) Unit ℕ (UR sig nD τ) ℕ (cfgA a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => iblk m a c 5 t
    | ⟨6, _⟩ => iblk m a c 6 t
    | ⟨7, _⟩ => outAt m a c t.val
  Φ t := Phi m a c t.val
  q w := if (spec0 w).isOut then fullShare else Pipeline.shareOf spec0 w
  owed _ := 0

/-- The arrays at entry. -/
theorem A_eq (c : Dev nD) (w : Fin (cfgA a).W) : (dats m a 0 c).A w = V m c (Pipeline.arrRef spec0 w) := by
  dsimp only [dats]

/-- What a point leaves in buffer 0. -/
theorem after0 (c : Dev nD) (t : Fin (cfgA a).N) : (dats m a 0 c).after 0 t = iblk m a c 0 t := by dsimp only [dats]; try rfl
/-- What a point leaves in buffer 1. -/
theorem after1 (c : Dev nD) (t : Fin (cfgA a).N) : (dats m a 0 c).after 1 t = iblk m a c 1 t := by dsimp only [dats]; try rfl
/-- What a point leaves in buffer 2. -/
theorem after2 (c : Dev nD) (t : Fin (cfgA a).N) : (dats m a 0 c).after 2 t = iblk m a c 2 t := by dsimp only [dats]; try rfl
/-- What a point leaves in buffer 3. -/
theorem after3 (c : Dev nD) (t : Fin (cfgA a).N) : (dats m a 0 c).after 3 t = iblk m a c 3 t := by dsimp only [dats]; try rfl
/-- What a point leaves in buffer 4. -/
theorem after4 (c : Dev nD) (t : Fin (cfgA a).N) : (dats m a 0 c).after 4 t = iblk m a c 4 t := by dsimp only [dats]; try rfl
/-- What a point leaves in buffer 5. -/
theorem after5 (c : Dev nD) (t : Fin (cfgA a).N) : (dats m a 0 c).after 5 t = iblk m a c 5 t := by dsimp only [dats]; try rfl
/-- What a point leaves in buffer 6. -/
theorem after6 (c : Dev nD) (t : Fin (cfgA a).N) : (dats m a 0 c).after 6 t = iblk m a c 6 t := by dsimp only [dats]; try rfl
/-- What a point leaves in buffer 7. -/
theorem after7 (c : Dev nD) (t : Fin (cfgA a).N) : (dats m a 0 c).after 7 t = outAt m a c t.val := by dsimp only [dats]; try rfl

/-- What a point finds in buffer 0. -/
theorem before0 (c : Dev nD) (t : Fin (cfgA a).N) (d) : (dats m a 0 c).before 0 t d = iblk m a c 0 t :=
  ((dats m a 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

/-- What a point finds in buffer 1. -/
theorem before1 (c : Dev nD) (t : Fin (cfgA a).N) (d) : (dats m a 0 c).before 1 t d = iblk m a c 1 t :=
  ((dats m a 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-- What a point finds in buffer 2. -/
theorem before2 (c : Dev nD) (t : Fin (cfgA a).N) (d) : (dats m a 0 c).before 2 t d = iblk m a c 2 t :=
  ((dats m a 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- What a point finds in buffer 3. -/
theorem before3 (c : Dev nD) (t : Fin (cfgA a).N) (d) : (dats m a 0 c).before 3 t d = iblk m a c 3 t :=
  ((dats m a 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- What a point finds in buffer 4. -/
theorem before4 (c : Dev nD) (t : Fin (cfgA a).N) (d) : (dats m a 0 c).before 4 t d = iblk m a c 4 t :=
  ((dats m a 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- What a point finds in buffer 5. -/
theorem before5 (c : Dev nD) (t : Fin (cfgA a).N) (d) : (dats m a 0 c).before 5 t d = iblk m a c 5 t :=
  ((dats m a 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-- What a point finds in buffer 6. -/
theorem before6 (c : Dev nD) (t : Fin (cfgA a).N) (d) : (dats m a 0 c).before 6 t d = iblk m a c 6 t :=
  ((dats m a 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

end Cert.ExpertsIdeal.Run

end
-- ==== Proof.ExpertsIdeal.Carry.lean ====
module

public import proofs.«01_k».proof.Proof.ExpertsIdeal.Data
public import Idealize.ShloMosaic.Lib.Pipeline.TableIdle
public import Idealize.ShloMosaic.Lib.Pipeline.ValueKit.Geometry

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable (m : (ℓ : Loc nD τ sig) → Buf (Elt F) ℓ) (a : (pcfg0 (F := F)).Adm)

/-- The output block is written back after a tile's last point. -/
theorem flush_out (t : Fin (cfgA a).N) : ((cfgA a).win 7).flush t = true ↔ t.val % 8 = 7 := by
  refine Pipeline.Window.flush_reads (G := grid0) ((cfgA a).win 7) rfl (0 : Fin 2) (by decide) rfl (fun i i' h => ?_) (P := 8) (by decide) rfl t
  have h0 : (BitVec.ofNat 32 (i 0).val).toNat = (BitVec.ofNat 32 (i' 0).val).toNat := congrFun h (0 : Fin 2)
  have b : (i 0).val < 100 := (i 0).isLt
  have b' : (i' 0).val < 100 := (i' 0).isLt
  rw [BitVec.toNat_ofNat, BitVec.toNat_ofNat, Nat.mod_eq_of_lt (by omega), Nat.mod_eq_of_lt (by omega)] at h0
  exact Fin.ext h0

/-- The output's buffer is fresh at a tile's first point and only there. -/
theorem fresh_out (n : ℕ) (hn : n ≤ (cfgA a).N) : (cfgA a).fresh 7 n = (n % 8 == 0) := by
  refine Pipeline.Cfg.fresh_tab (cfgA a) 7 (fun n => n % 8 == 0) rfl (fun t => ?_) n hn
  have hfl := flush_out a t
  have hid := idle_out a t
  have hz : ((cfgA a).idle 7 ((cfgA a).grid.coords t) && (t.val % 8 == 0)) = false := by
    cases hi : (cfgA a).idle 7 ((cfgA a).grid.coords t) with
    | false => rfl
    | true => rw [Bool.true_and, beq_eq_false_iff_ne]; exact (hid hi).1
  show ((t.val + 1) % 8 == 0) = (_ || _)
  rw [hz, Bool.or_false, Bool.eq_iff_iff, hfl, beq_iff_eq]
  omega

/-- An idle point leaves the output as the point before did. -/
theorem carry_out (c : Dev nD) (t : Fin (cfgA a).N) (hi : (cfgA a).idle 7 ((cfgA a).grid.coords t) = true) :
    outAt m a c t.val = outAt m a c (t.val - 1) := by
  obtain ⟨h8, hl⟩ := idle_out a t hi
  obtain ⟨n, hn⟩ := t
  cases n with
  | zero => exact absurd rfl h8
  | succ n =>
    refine ext_rows fun s => ?_
    rw [rows_outAt, rows_outAt]
    show stepAt m a c (n + 1) (baseAt m a c (n + 1) (outRows m a c n s) s) s = outRows m a c n s
    unfold stepAt baseAt
    rw [if_neg (by rw [hl s]; decide), if_neg h8]

/-- What the output's buffer holds before a later point of a tile. -/
theorem before7 (c : Dev nD) (t : Fin (cfgA a).N) (h : t.val % 8 ≠ 0) (d) : (dats m a 0 c).before 7 t d = outAt m a c (t.val - 1) := by
  refine ((dats m a 0 c).before_out_traj 7 rfl (fun _ _ => rfl) (fun t _ hi _ => ?_) t.val t rfl d).trans ?_
  · rw [after7, after7]; exact carry_out m a c t hi
  · rw [fresh_out a t.val (Nat.le_of_lt t.isLt), if_neg (by rw [beq_iff_eq]; exact h), after7]

end Cert.ExpertsIdeal.Run

end
-- ==== Proof.ExpertsIdeal.Sound.lean ====
module

public import proofs.«01_k».proof.Proof.ExpertsIdeal.Carry
public import Idealize.ShloMosaic.Lib.Pipeline.TableIdle
public import Idealize.ShloMosaic.Lib.Pipeline.ValueKit.Geometry

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable (m : (ℓ : Loc nD τ sig) → Buf (Elt F) ℓ) (a : (pcfg0 (F := F)).Adm)

/-! The staging buffers the body is handed at a point, and that each is a whole buffer. -/

abbrev ms0 (t : Fin (cfgA a).N) : Memref sig .tc .vmem S1024x2048 .f32 := spec0_0.stage ((cfgA a).slots t 0)
/-- Buffer 0 of a point is a whole array. -/
theorem hs0 (t : Fin (cfgA a).N) : (ms0 a t).IsWhole := hstage0_0 (((cfgA a).slots t 0).cast nbuf0_0)
abbrev ms1 (t : Fin (cfgA a).N) : Memref sig .tc .vmem S1x1x2048x256 .f32 := spec0_1.stage ((cfgA a).slots t 1)
/-- Buffer 1 of a point is a whole array. -/
theorem hs1 (t : Fin (cfgA a).N) : (ms1 a t).IsWhole := hstage0_1 (((cfgA a).slots t 1).cast nbuf0_1)
abbrev ms2 (t : Fin (cfgA a).N) : Memref sig .tc .vmem S1x1x2048x256 .f32 := spec0_2.stage ((cfgA a).slots t 2)
/-- Buffer 2 of a point is a whole array. -/
theorem hs2 (t : Fin (cfgA a).N) : (ms2 a t).IsWhole := hstage0_2 (((cfgA a).slots t 2).cast nbuf0_2)
abbrev ms3 (t : Fin (cfgA a).N) : Memref sig .tc .vmem S1x1x1x256 .f32 := spec0_3.stage ((cfgA a).slots t 3)
/-- Buffer 3 of a point is a whole array. -/
theorem hs3 (t : Fin (cfgA a).N) : (ms3 a t).IsWhole := hstage0_3 (((cfgA a).slots t 3).cast nbuf0_3)
abbrev ms4 (t : Fin (cfgA a).N) : Memref sig .tc .vmem S1x1x1x256 .f32 := spec0_4.stage ((cfgA a).slots t 4)
/-- Buffer 4 of a point is a whole array. -/
theorem hs4 (t : Fin (cfgA a).N) : (ms4 a t).IsWhole := hstage0_4 (((cfgA a).slots t 4).cast nbuf0_4)
abbrev ms5 (t : Fin (cfgA a).N) : Memref sig .tc .vmem S1x1x256x2048 .f32 := spec0_5.stage ((cfgA a).slots t 5)
/-- Buffer 5 of a point is a whole array. -/
theorem hs5 (t : Fin (cfgA a).N) : (ms5 a t).IsWhole := hstage0_5 (((cfgA a).slots t 5).cast nbuf0_5)
abbrev ms6 (t : Fin (cfgA a).N) : Memref sig .tc .vmem S1x1x1x2048 .f32 := spec0_6.stage ((cfgA a).slots t 6)
/-- Buffer 6 of a point is a whole array. -/
theorem hs6 (t : Fin (cfgA a).N) : (ms6 a t).IsWhole := hstage0_6 (((cfgA a).slots t 6).cast nbuf0_6)
abbrev ms7 (t : Fin (cfgA a).N) : Memref sig .tc .vmem S1024x2048 .f32 := spec0_7.stage ((cfgA a).slots t 7)
/-- Buffer 7 of a point is a whole array. -/
theorem hs7 (t : Fin (cfgA a).N) : (ms7 a t).IsWhole := hstage0_7 (((cfgA a).slots t 7).cast nbuf0_7)

/-- The body at point `t`. -/
abbrev bodyAt (t : Fin (cfgA a).N) : Prog (TpuEff nD τ sig (Elt F) Λ₀ .tc) PUnit :=
  cc0_moe_experts (grid0.coords t) (Memref.whole main_arg0) (Memref.isWhole_whole _) (Memref.whole main_arg1) (Memref.isWhole_whole _) (Memref.whole main_arg2) (Memref.isWhole_whole _) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (Memref.whole cc0_scratch0) (Memref.isWhole_whole _) (Memref.whole cc0_scratch1) (Memref.isWhole_whole _) (Memref.whole cc0_scratch2) (Memref.isWhole_whole _) (Memref.whole cc0_scratch3) (Memref.isWhole_whole _)

/-- What point `t` leaves is the block `outAt` names, whatever the activations' scratch and the block held where they are not read. -/
theorem newOut_eq (c : Dev nD) (t : Fin (cfgA a).N) (B : Vec F S1024x2048 .bf16) (O : Vec F S1024x2048 .f32)
    (hB : actsOk m a c t.val B) (hO : t.val % 8 ≠ 0 → O = outAt m a c (t.val - 1)) (s : Fin 4) :
    newOut (decide (t.val % 8 = 0)) (live (cnt a t.val)) (xAt m a c t.val) (wgAt m a c t.val) (wlAt m a c t.val) (bgAt m a c t.val) (blAt m a c t.val)
      (wdAt m a c t.val) (bdAt m a c t.val) B O s = outRows m a c t.val s := by
  have key : outRows m a c t.val s = stepAt m a c t.val (baseAt m a c t.val (outRows m a c (t.val - 1) s) s) s := by
    obtain ⟨n, hn⟩ := t
    cases n with
    | zero => rfl
    | succ n => rfl
  rw [key]
  unfold newOut stepAt baseAt baseOut newXb
  by_cases h : t.val % 8 = 0
  · have e : 8 * (t.val / 8) = t.val := by omega
    rw [if_pos h, decide_eq_true h, if_pos rfl, e, Bool.true_and]
    by_cases hl : live (cnt a t.val) s = true
    · simp only [if_pos hl]
    · simp only [if_neg hl]
  · rw [if_neg h, decide_eq_false h, if_neg Bool.false_ne_true, Bool.false_and, if_neg Bool.false_ne_true, hO h, rows_outAt]
    by_cases hl : live (cnt a t.val) s = true
    · rw [hB h s hl]
    · simp only [if_neg hl]

/-- The activations' scratch after point `t`. -/
theorem acts_next (c : Dev nD) (t : Fin (cfgA a).N) (B B' : Vec F S1024x2048 .bf16) (hB : actsOk m a c t.val B)
    (h : ∀ s, rows B' s = newXb (decide (t.val % 8 = 0)) (live (cnt a t.val)) (xAt m a c t.val) B s) : actsOk m a c (t.val + 1) B' := by
  have ht : t.val < 800 := lt_of_lt_of_eq t.isLt (cfgA_N a)
  intro h8 s hl
  have e8 : (t.val + 1) / 8 = t.val / 8 := by omega
  rw [cnt_tile a (t.val + 1) (by omega), e8, ← cnt_tile a t.val ht] at hl
  rw [h s, e8]
  unfold newXb
  by_cases h0 : t.val % 8 = 0
  · have e : 8 * (t.val / 8) = t.val := by omega
    rw [decide_eq_true h0, hl, e]; rfl
  · rw [decide_eq_false h0, Bool.false_and, if_neg Bool.false_ne_true]
    exact hB h0 s hl

/-- What the body is called with at point `t`, window by window. -/
def bodyPre (c : Dev nD) (t : Fin (cfgA a).N) : sProp 𝕄 :=
  iprop(Phi m a c t.val ∗ (dats m a 0 c).owesAt () t.castSucc
    ∗ (∃ d, owns (c : Thread nD τ) (ms0 a t) fullShare ((dats m a 0 c).before 0 t d))
    ∗ (∃ d, owns (c : Thread nD τ) (ms1 a t) fullShare ((dats m a 0 c).before 1 t d))
    ∗ (∃ d, owns (c : Thread nD τ) (ms2 a t) fullShare ((dats m a 0 c).before 2 t d))
    ∗ (∃ d, owns (c : Thread nD τ) (ms3 a t) fullShare ((dats m a 0 c).before 3 t d))
    ∗ (∃ d, owns (c : Thread nD τ) (ms4 a t) fullShare ((dats m a 0 c).before 4 t d))
    ∗ (∃ d, owns (c : Thread nD τ) (ms5 a t) fullShare ((dats m a 0 c).before 5 t d))
    ∗ (∃ d, owns (c : Thread nD τ) (ms6 a t) fullShare ((dats m a 0 c).before 6 t d))
    ∗ (∃ d, owns (c : Thread nD τ) (ms7 a t) fullShare ((dats m a 0 c).before 7 t d)))

/-- What the body returns. -/
def bodyPost (c : Dev nD) (t : Fin (cfgA a).N) : sProp 𝕄 :=
  iprop(Phi m a c (t.val + 1) ∗ (dats m a 0 c).owesAt () t.castSucc
    ∗ owns (c : Thread nD τ) (ms0 a t) fullShare (xAt m a c t.val)
    ∗ owns (c : Thread nD τ) (ms1 a t) fullShare (wgAt m a c t.val)
    ∗ owns (c : Thread nD τ) (ms2 a t) fullShare (wlAt m a c t.val)
    ∗ owns (c : Thread nD τ) (ms3 a t) fullShare (bgAt m a c t.val)
    ∗ owns (c : Thread nD τ) (ms4 a t) fullShare (blAt m a c t.val)
    ∗ owns (c : Thread nD τ) (ms5 a t) fullShare (wdAt m a c t.val)
    ∗ owns (c : Thread nD τ) (ms6 a t) fullShare (bdAt m a c t.val)
    ∗ owns (c : Thread nD τ) (ms7 a t) fullShare (outAt m a c t.val))

/-- What a point finds in buffer 0, by its number. -/
theorem found0 (c : Dev nD) (t : Fin (cfgA a).N) (d) : (dats m a 0 c).before 0 t d = xAt m a c t.val := by
  rw [before0]; unfold xAt; rw [pt_val]

/-- What a point finds in buffer 1, by its number. -/
theorem found1 (c : Dev nD) (t : Fin (cfgA a).N) (d) : (dats m a 0 c).before 1 t d = wgAt m a c t.val := by
  rw [before1]; unfold wgAt; rw [pt_val]

/-- What a point finds in buffer 2, by its number. -/
theorem found2 (c : Dev nD) (t : Fin (cfgA a).N) (d) : (dats m a 0 c).before 2 t d = wlAt m a c t.val := by
  rw [before2]; unfold wlAt; rw [pt_val]

/-- What a point finds in buffer 3, by its number. -/
theorem found3 (c : Dev nD) (t : Fin (cfgA a).N) (d) : (dats m a 0 c).before 3 t d = bgAt m a c t.val := by
  rw [before3]; unfold bgAt; rw [pt_val]

/-- What a point finds in buffer 4, by its number. -/
theorem found4 (c : Dev nD) (t : Fin (cfgA a).N) (d) : (dats m a 0 c).before 4 t d = blAt m a c t.val := by
  rw [before4]; unfold blAt; rw [pt_val]

/-- What a point finds in buffer 5, by its number. -/
theorem found5 (c : Dev nD) (t : Fin (cfgA a).N) (d) : (dats m a 0 c).before 5 t d = wdAt m a c t.val := by
  rw [before5]; unfold wdAt; rw [pt_val]

/-- What a point finds in buffer 6, by its number. -/
theorem found6 (c : Dev nD) (t : Fin (cfgA a).N) (d) : (dats m a 0 c).before 6 t d = bdAt m a c t.val := by
  rw [before6]; unfold bdAt; rw [pt_val]

set_option maxHeartbeats 3200000 in
/-- The body at any point. -/
theorem sound_body (c : Dev nD) (t : Fin (cfgA a).N) :
    bodyPre m a c t ⊢ wp frame (wpE (defs₀ (F := F)) Variants.none c none) Set.univ (bodyAt a t) (fun _ => bodyPost m a c t) := by
  unfold bodyPre bodyPost bodyAt Phi tabs owns
  simp only [found0, found1, found2, found3, found4, found5, found6]
  have hcnt : word (grid0.coords t) (Memref.whole main_arg1) (a.1 1) = cnt a t.val := by unfold cnt; rw [pt_val]
  iintro ⟨⟨⟨T0, T1, T2⟩, ⟨%b, HB, %hB⟩, ⟨%g1, G1⟩, ⟨%g2, G2⟩, ⟨%g3, G3⟩, Hr⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩⟩
  iapply (run c (grid0.coords t) (Memref.whole main_arg0) (Memref.isWhole_whole _) (Memref.whole main_arg1) (Memref.isWhole_whole _) (Memref.whole main_arg2) (Memref.isWhole_whole _) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (Memref.whole cc0_scratch0) (Memref.isWhole_whole _) (Memref.whole cc0_scratch1) (Memref.isWhole_whole _) (Memref.whole cc0_scratch2) (Memref.isWhole_whole _) (Memref.whole cc0_scratch3) (Memref.isWhole_whole _) fullShare.right (a.1 1) f0 f1 f2 f3 f4 f5 f6 f7 b g1 g2 g3 (decide (t.val % 8 = 0)) ((first_iff a t).trans (decide_eq_true_iff).symm) Set.univ _)
  isplitl [T1]; · iexact T1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HB]; · iexact HB
  isplitl [G1]; · iexact G1
  isplitl [G2]; · iexact G2
  isplitl [G3]; · iexact G3
  iintro ⟨%f7', %b', G1, G2, G3, H7, HB, T1, H0, H1, H2, H3, H4, H5, H6, %hpost⟩
  rw [hcnt, h0, h1, h2, h3, h4, h5, h6] at hpost
  isplitl [T0 T1 T2 HB G1 G2 G3 Hr]
  · isplitl [T0 T1 T2]
    · isplitl [T0]; · iexact T0
      isplitl [T1]; · iexact T1
      iexact T2
    isplitl [HB]
    · iexists b'
      isplitl [HB]; · iexact HB
      ipureintro
      exact acts_next m a c t _ _ hB fun s => (hpost s).2
    isplitl [G1]; · iexact G1
    isplitl [G2]; · iexact G2
    isplitl [G3]; · iexact G3
    iexact Hr
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  iexists f7'; isplitr
  · ipureintro
    refine ext_rows fun s => ?_
    rw [rows_outAt, (hpost s).1]
    refine newOut_eq m a c t _ _ hB (fun h8 => ?_) s
    rw [h7]; exact before7 m a c t h8 d7
  iexact H7

end Cert.ExpertsIdeal.Run

end
-- ==== Proof.ExpertsIdeal.Start.lean ====
module

public import proofs.«01_k».proof.Proof.ExpertsIdeal.Sound
public import Idealize.ShloMosaic.Lib.Claim
public import Idealize.ShloMosaic.Lib.Pipeline.TableIdle
public import Idealize.ShloMosaic.Lib.Pipeline.ValueKit.Geometry

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable (m : (ℓ : Loc nD τ sig) → Buf (Elt F) ℓ) (a : (pcfg0 (F := F)).Adm)

/-- What the body leaves in the output's buffer is what the pipeline asks of it, at idle points too. -/
theorem post7 (c : Dev nD) (t : Fin (cfgA a).N) :
    (owns (c : Thread nD τ) (ms7 a t) fullShare (outAt m a c t.val) : sProp 𝕄) ⊢ (dats m a 0 c).leavesExact 7 t := by
  cases hi : (cfgA a).idle 7 ((cfgA a).grid.coords t) with
  | false =>
    unfold Dat.leavesExact
    rw [hi, ← after7 m a c t]
    exact .rfl
  | true =>
    cases hf : ((cfgA a).win 7).flush t with
    | true =>
      unfold Dat.leavesExact
      rw [hi, hf, ← after7 m a c t]
      exact .rfl
    | false =>
      rw [Dat.leavesExact_idle _ 7 t hi hf]
      iintro H
      iexists ((dats m a 0 c).after 7 t)
      rw [before7 m a c t (idle_out a t hi).1 ((dats m a 0 c).after 7 t), ← carry_out m a c t hi]
      iexact H

/-- The body table's row at point `t` is the body there. -/
theorem defs₀_row (t : Fin (cfgA a).N) :
    defs₀ (F := F) .tc (cfgA a).body ((cfgA a).bodyArgs t ((cfgA a).slots t)) = bodyAt a t := by
  unfold defs₀; rw [Defs.onTc_tc]

/-- What a point leaves in buffer 0, by its number. -/
theorem kept0 (c : Dev nD) (t : Fin (cfgA a).N) : (dats m a 0 c).after 0 t = xAt m a c t.val := by
  rw [after0]; unfold xAt; rw [pt_val]

/-- What a point leaves in buffer 1, by its number. -/
theorem kept1 (c : Dev nD) (t : Fin (cfgA a).N) : (dats m a 0 c).after 1 t = wgAt m a c t.val := by
  rw [after1]; unfold wgAt; rw [pt_val]

/-- What a point leaves in buffer 2, by its number. -/
theorem kept2 (c : Dev nD) (t : Fin (cfgA a).N) : (dats m a 0 c).after 2 t = wlAt m a c t.val := by
  rw [after2]; unfold wlAt; rw [pt_val]

/-- What a point leaves in buffer 3, by its number. -/
theorem kept3 (c : Dev nD) (t : Fin (cfgA a).N) : (dats m a 0 c).after 3 t = bgAt m a c t.val := by
  rw [after3]; unfold bgAt; rw [pt_val]

/-- What a point leaves in buffer 4, by its number. -/
theorem kept4 (c : Dev nD) (t : Fin (cfgA a).N) : (dats m a 0 c).after 4 t = blAt m a c t.val := by
  rw [after4]; unfold blAt; rw [pt_val]

/-- What a point leaves in buffer 5, by its number. -/
theorem kept5 (c : Dev nD) (t : Fin (cfgA a).N) : (dats m a 0 c).after 5 t = wdAt m a c t.val := by
  rw [after5]; unfold wdAt; rw [pt_val]

/-- What a point leaves in buffer 6, by its number. -/
theorem kept6 (c : Dev nD) (t : Fin (cfgA a).N) : (dats m a 0 c).after 6 t = bdAt m a c t.val := by
  rw [after6]; unfold bdAt; rw [pt_val]

/-- What the pipeline asks of the body, at every point. -/
theorem body_obligation (c : Dev nD) : BodyObligation (dats m a 0 c) (defs₀ (F := F)) Variants.none () Set.univ := fun t => by
  rw [bigSep_W0, bigSep_W0, defs₀_row]
  refine triple_restated (sound_body m a c t) rfl .rfl fun _ => ?_
  refine (show _ ⊢ iprop(Phi m a c (t.val + 1) ∗ (dats m a 0 c).owesAt () t.castSucc
    ∗ owns (c : Thread nD τ) (ms0 a t) fullShare ((dats m a 0 c).after 0 t)
    ∗ owns (c : Thread nD τ) (ms1 a t) fullShare ((dats m a 0 c).after 1 t)
    ∗ owns (c : Thread nD τ) (ms2 a t) fullShare ((dats m a 0 c).after 2 t)
    ∗ owns (c : Thread nD τ) (ms3 a t) fullShare ((dats m a 0 c).after 3 t)
    ∗ owns (c : Thread nD τ) (ms4 a t) fullShare ((dats m a 0 c).after 4 t)
    ∗ owns (c : Thread nD τ) (ms5 a t) fullShare ((dats m a 0 c).after 5 t)
    ∗ owns (c : Thread nD τ) (ms6 a t) fullShare ((dats m a 0 c).after 6 t)
    ∗ (dats m a 0 c).leavesExact 7 t) from ?_)
  unfold bodyPost
  rw [← kept0, ← kept1, ← kept2, ← kept3, ← kept4, ← kept5, ← kept6]
  iintro ⟨HP, Ho, H0, H1, H2, H3, H4, H5, H6, H7⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (post7 m a c t)
  iexact H7

/-- The host's operations before the launch write fresh buffers. -/
theorem hostOps0_fresh : (hostOps0 : List (HloOp τ sig (Elt F))).Forall fun op => op.fresh = ∅ := by
  simp only [List.Forall]
  repeat' constructor

/-- What the launch hands to the first point. -/
theorem hin (c : Dev nD) : iprop(Pipeline.ΦA spec0 c ∗ Pipeline.ΦT pre0 a.1 c) ⊢ (dats m a 0 c).Φ 0 := by
  rw [show (dats m a 0 c).Φ 0 = Phi m a c 0 from rfl, tabs_eq]
  unfold Pipeline.ΦA Phi
  rw [scopedRest0_eq]
  simp only [← pts_whole]
  iintro ⟨⟨⟨⟨%f0, H0⟩, H1, H2, H3⟩, Hr⟩, HT⟩
  isplitl [HT]; · iexact HT
  isplitl [H0]
  · iexists f0
    isplitl [H0]; · iexact H0
    ipureintro
    exact fun h => absurd rfl h
  isplitl [H1]; · iexact H1
  isplitl [H2]; · iexact H2
  isplitl [H3]; · iexact H3
  iexact Hr

/-- What the last point hands back. -/
theorem hout (c : Dev nD) : (dats m a 0 c).Φ (Fin.last (cfgA a).N) ⊢ Pipeline.ΦA spec0 c := by
  rw [show (dats m a 0 c).Φ (Fin.last (cfgA a).N) = Phi m a c (cfgA a).N from rfl]
  unfold Pipeline.ΦA Phi
  rw [scopedRest0_eq]
  simp only [← pts_whole]
  iintro ⟨HT, ⟨%f0, H0, %h0⟩, H1, H2, H3, Hr⟩
  isplitl [H0 H1 H2 H3]
  · isplitl [H0]
    · iexists f0; iexact H0
    isplitl [H1]; · iexact H1
    isplitl [H2]; · iexact H2
    iexact H3
  iexact Hr

set_option backward.isDefEq.respectTransparency.types false in
/-- The launch, from any memory whose tables are `a`'s. -/
theorem run_main (ρ : Dev nD → PrngReg) (ha : ∀ c k, V m c (pre0.ref k) = a.1 k) :
    θ_run defs (onTc (τ := τ) (main (F := F))) (s₀ m ρ) (fun r => (Pipeline.FramePost (Pipeline.pin (pcfgs (F := F)) (fun _ => a)) (dats m a) 0 (V m)) r ∧ r.2.sem = fun _ => 0) :=
  Pipeline.θ_run_frameP_track_shared (Q' := _) (pcfgs (F := F)) (fun _ => a) (dats m a) (0 : Fin 1) launch₀0 defs₀ Variants.none m ρ main
    (hbody := fun c => (body_obligation m a c).loose) (hq := fun c w hw => if_neg (by rw [hw]; decide))
    (howed := fun _ _ => rfl) (V := V m) (hmain := Pipeline.hmainP_prefix (pcfgs (F := F)) 0 defs₀ Variants.none m main hostOps0 hostOps0_sub hostOps0_fresh main_chain)
    (hA := A_eq m a) (hpf := ha) (hin := hin m a) (hout := hout m a)

/-- The host part leaves argument 0 alone. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))

/-- The host part leaves argument 1 alone. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))

/-- The host part leaves argument 2 alone. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

/-- The host part leaves argument 3 alone. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))

/-- The host part leaves argument 4 alone. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-- The host part leaves argument 5 alone. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

/-- The host part leaves argument 6 alone. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))

/-- The host part leaves argument 7 alone. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.reshape_writes, Finset.mem_singleton]
    repeat' apply And.intro
    all_goals exact StableHlo.devRef_ne_of_ne (by decide)))

/-- Every argument array ends as it began. -/
theorem args_kept (r : PUnit × MemSt nD τ sig (Elt F)) (h : Pipeline.FramePost (Pipeline.pin (pcfgs (F := F)) (fun _ => a)) (dats m a) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (show ∀ w : Fin 8, (spec0 w).arr.view.ref ≠ main_arg0 from by decide))).trans (V_main_arg0 m c),
    ((h c).2 main_arg1 (Pipeline.mem_restRefs_of main_arg1 (by decide) (show ∀ w : Fin 8, (spec0 w).arr.view.ref ≠ main_arg1 from by decide))).trans (V_main_arg1 m c),
    ((h c).2 main_arg2 (Pipeline.mem_restRefs_of main_arg2 (by decide) (show ∀ w : Fin 8, (spec0 w).arr.view.ref ≠ main_arg2 from by decide))).trans (V_main_arg2 m c),
    ((h c).1 0).trans (((dats m a 0 c).arrAt_in 0 rfl _).trans ((A_eq m a c 0).trans (V_main_arg3 m c))),
    ((h c).1 1).trans (((dats m a 0 c).arrAt_in 1 rfl _).trans ((A_eq m a c 1).trans (V_main_arg4 m c))),
    ((h c).2 main_arg5 (Pipeline.mem_restRefs_of main_arg5 (by decide) (show ∀ w : Fin 8, (spec0 w).arr.view.ref ≠ main_arg5 from by decide))).trans (V_main_arg5 m c),
    ((h c).1 5).trans (((dats m a 0 c).arrAt_in 5 rfl _).trans ((A_eq m a c 5).trans (V_main_arg6 m c))),
    ((h c).2 main_arg7 (Pipeline.mem_restRefs_of main_arg7 (by decide) (show ∀ w : Fin 8, (spec0 w).arr.view.ref ≠ main_arg7 from by decide))).trans (V_main_arg7 m c)⟩

end Cert.ExpertsIdeal.Run

end
-- ==== Proof.Shared.Routed.lean ====
module

public import proofs.«01_k».proof.Proof.Gen.Pre_routed
public import Idealize.ShloMosaic.Lib.StableHlo.Predicate
public import Idealize.ShloMosaic.Lib.ReduceAll

@[expose] public section

noncomputable section

namespace Cert.Routed

open Idealize.ShloMosaic
open Cert.Pre_routed (S100 S1)

/-- What the precondition says of the tables: each tile's expert is one of the 32, a tile holds at most 1024 live rows,
    the last live tile is one of the 100, and a tile past it holds none. -/
structure Ranges (te nv : IVec S100 32) (la : IVec S1 32) : Prop where
  te_nonneg : ∀ x, 0 ≤ (te x).toInt
  te_lt : ∀ x, (te x).toInt < 32
  nv_nonneg : ∀ x, 0 ≤ (nv x).toInt
  nv_le : ∀ x, (nv x).toInt ≤ 1024
  la_nonneg : ∀ x, 0 ≤ (la x).toInt
  la_lt : ∀ x, (la x).toInt < 100
  dead : ∀ x y, ((x 0).val : ℤ) ≤ (la y).toInt ∨ nv x = 0#32

/-- Both bits are set. -/
theorem and_one (p q : BitVec 1) : IntOp.andi p q = 1#1 ↔ p = 1#1 ∧ q = 1#1 := by revert p q; decide
/-- One of the bits is set. -/
theorem or_one (p q : BitVec 1) : IntOp.ori p q = 1#1 ↔ p = 1#1 ∨ q = 1#1 := by revert p q; decide
/-- A truth value as a bit. -/
theorem one_of (b : Bool) : BitVec.ofBool b = 1#1 ↔ b = true := by cases b <;> decide

/-- The bit of signed 'at least'. -/
theorem sge_one (v w : BitVec 32) : IntOp.cmpi .sge v w = 1#1 ↔ w.toInt ≤ v.toInt := by
  rw [show IntOp.cmpi .sge v w = BitVec.ofBool (w.sle v) from rfl, one_of, BitVec.sle, decide_eq_true_iff]
/-- The bit of signed 'less'. -/
theorem slt_one (v w : BitVec 32) : IntOp.cmpi .slt v w = 1#1 ↔ v.toInt < w.toInt := by
  rw [show IntOp.cmpi .slt v w = BitVec.ofBool (v.slt w) from rfl, one_of, BitVec.slt, decide_eq_true_iff]
/-- The bit of signed 'at most'. -/
theorem sle_one (v w : BitVec 32) : IntOp.cmpi .sle v w = 1#1 ↔ v.toInt ≤ w.toInt := by
  rw [show IntOp.cmpi .sle v w = BitVec.ofBool (v.sle w) from rfl, one_of, BitVec.sle, decide_eq_true_iff]
/-- The bit of 'equal'. -/
theorem eq_one (v w : BitVec 32) : IntOp.cmpi .eq v w = 1#1 ↔ v = w := StableHlo.Predicate.cmpi_eq_iff

instance : Subsingleton Cert.Pre_routed.S_.Idx := ⟨fun x y => funext fun k => k.elim0⟩

instance : Subsingleton S1.Idx := ⟨fun x y => funext fun k => by
  have h : ∀ k : Fin S1.rank, S1.size k = 1 := by decide
  have hx : (x k).val < 1 := lt_of_lt_of_eq (x k).isLt (h k)
  have hy : (y k).val < 1 := lt_of_lt_of_eq (y k).isLt (h k)
  exact Fin.ext (by omega)⟩

/-- The precondition read as what it says. -/
theorem ranges {F : FTy → Type} [FloatOps F] (te nv : IVec S100 32) (la : IVec S1 32) (x3) (x4) (x5) (x6) (x7)
    (h : Cert.Pre_routed.fn (F := F) te nv la x3 x4 x5 x6 x7 = constantI Cert.Pre_routed.S_ 1 1#1) : Ranges te nv la := by
  have e := congrFun h (fun k => k.elim0)
  simp only [Cert.Pre_routed.fn, Cert.Pre_routed.fn_part1, andi, constantI, and_one] at e
  obtain ⟨⟨⟨ht, hn⟩, hl⟩, hd⟩ := e
  have ht' := fun x => (and_one _ _).1 (Host.reduce_andi_all _ _ _ _ _ ht x)
  have hn' := fun x => (and_one _ _).1 (Host.reduce_andi_all _ _ _ _ _ hn x)
  have hl' := fun x => (and_one _ _).1 (Host.reduce_andi_all _ _ _ _ _ hl x)
  have hd' := fun x => (or_one _ _).1 (Host.reduce_andi_all _ _ _ _ _ hd x)
  have t0 : (0#32 : BitVec 32).toInt = 0 := by decide
  refine ⟨fun x => ?_, fun x => ?_, fun x => ?_, fun x => ?_, fun x => ?_, fun x => ?_, fun x y => ?_⟩
  · exact t0 ▸ (sge_one _ _).1 (ht' x).1
  · exact (show (32#32 : BitVec 32).toInt = 32 by decide) ▸ (slt_one _ _).1 (ht' x).2
  · exact t0 ▸ (sge_one _ _).1 (hn' x).1
  · exact (show (1024#32 : BitVec 32).toInt = 1024 by decide) ▸ (sle_one _ _).1 (hn' x).2
  · exact t0 ▸ (sge_one _ _).1 (hl' x).1
  · exact (show (100#32 : BitVec 32).toInt = 100 by decide) ▸ (slt_one _ _).1 (hl' x).2
  · rcases hd' x with h1 | h1
    · left
      have h2 := (sle_one _ _).1 h1
      have e1 : (iotaInDim S100 32 0 x).toInt = ((x 0).val : ℤ) :=
        StableHlo.Predicate.toInt_ofNat_small (x 0).val (by have : (x 0).val < 100 := (x 0).isLt; omega)
      rw [e1] at h2
      refine h2.trans (le_of_eq (congrArg (fun z => (la z).toInt) (Subsingleton.elim (α := S1.Idx) _ y)))
    · right
      exact (eq_one _ _).1 h1

end Cert.Routed

end
-- ==== Proof.ExpertsIdeal.Tables.lean ====
module

public import proofs.«01_k».proof.Proof.ExpertsIdeal.Start
public import proofs.«01_k».proof.Proof.Shared.Routed

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.ExpertsIdeal.Gen

variable {F : FTy → Type} [FloatOps F]

/-- The place in a table of the tile of point `i`. -/
def tileIdx (i : grid0.Coords) : S100.Idx := fun k => ⟨(i 0).val, lt_of_lt_of_eq (show (i 0).val < 100 from (i 0).isLt) (by revert k; decide)⟩

/-- The one place of a one-entry table. -/
def oneIdx : S1.Idx := fun k => ⟨0, by revert k; decide⟩

/-- The expert of point `i`'s tile. -/
def teOf (pf : pre0.Contents (Elt F)) (i : grid0.Coords) : BitVec 32 := (pf 0 : IVec S100 32) (tileIdx i)

/-- The number of live rows of point `i`'s tile. -/
def nvOf (pf : pre0.Contents (Elt F)) (i : grid0.Coords) : BitVec 32 := (pf 1 : IVec S100 32) (tileIdx i)

/-- The last tile with rows of its own. -/
def laOf (pf : pre0.Contents (Elt F)) : BitVec 32 := (pf 2 : IVec S1 32) oneIdx

/-- A point's tile as an offset. -/
theorem off_tile (i : grid0.Coords) : (Scalar.indexCast (BitVec.ofNat 32 (i 0).val) : Index).toNat = (i 0).val := by
  have h : (i 0).val < 100 := (i 0).isLt
  show (BitVec.ofNat 32 (i 0).val).toNat = _
  rw [BitVec.toNat_ofNat]
  exact Nat.mod_eq_of_lt (by omega)

/-- The entry of the first table the index maps read. -/
theorem at_tile0 (pf : pre0.Contents (Elt F)) (i : grid0.Coords) :
    pf.at 0 (Rect.unit (s := S100) ![(Scalar.indexCast (BitVec.ofNat 32 (i 0).val) : Index).toNat] S1.size (k0_off1_inb i)) numel1_S1 = teOf pf i := by
  refine congrArg (pf 0) (funext fun k => Fin.ext ?_)
  refine (ValueKit.rect_emb_unit_val _ _ _ _ _).trans ?_
  revert k
  exact (Fin.forall_fin_one).mpr (off_tile i)

/-- The entry of the second table the index maps read. -/
theorem at_tile1 (pf : pre0.Contents (Elt F)) (i : grid0.Coords) :
    pf.at 1 (Rect.unit (s := S100) ![(Scalar.indexCast (BitVec.ofNat 32 (i 0).val) : Index).toNat] S1.size (k0_off1_inb i)) numel1_S1 = nvOf pf i := by
  refine congrArg (pf 1) (funext fun k => Fin.ext ?_)
  refine (ValueKit.rect_emb_unit_val _ _ _ _ _).trans ?_
  revert k
  exact (Fin.forall_fin_one).mpr (off_tile i)

/-- The entry of the third table the index maps read. -/
theorem at_one (pf : pre0.Contents (Elt F)) :
    pf.at 2 (Rect.unit (s := S1) ![0] S1.size inb_S1_S1_0) numel1_S1 = laOf pf := by
  refine congrArg (pf 2) (funext fun k => Fin.ext ?_)
  refine (ValueKit.rect_emb_unit_val _ _ _ _ _).trans ?_
  revert k
  exact (Fin.forall_fin_one).mpr rfl

/-- The block of columns a tile's windows sit at: the point's own on a tile with live rows, the last one otherwise. -/
def colBlk (v : BitVec 32) (i : grid0.Coords) : ℕ := if 0 < v.toInt then (i 1).val else 7

/-- A point's block of hidden units is one of eight. -/
theorem colBlk_lt (v : BitVec 32) (i : grid0.Coords) : colBlk v i < 8 := by
  have h : (i 1).val < 8 := (i 1).isLt
  unfold colBlk
  split <;> omega

/-- The choice between the point's own block and the last one. -/
theorem sel_val (v : BitVec 32) (i : grid0.Coords) :
    (Scalar.select (Scalar.cmpi .sgt v 0#32) (BitVec.ofNat 32 (i 1).val) 7#32 : BitVec 32) = BitVec.ofNat 32 (colBlk v i) := by
  have h : Scalar.cmpi .sgt v 0#32 = if 0 < v.toInt then 1#1 else 0#1 := by
    have t0 : (0#32 : BitVec 32).toInt = 0 := by decide
    simp only [Scalar.cmpi, IntOp.cmpi, BitVec.slt, t0]
    by_cases hv : 0 < v.toInt <;> simp [hv]
  unfold colBlk
  rw [h]
  by_cases hv : 0 < v.toInt
  · simp only [hv, if_true]; rfl
  · simp only [hv, if_false]; rfl

/-- A small number as a word. -/
theorem small_toNat (n : ℕ) (h : n < 8) : (BitVec.ofNat 32 n).toNat = n := by
  rw [BitVec.toNat_ofNat]; exact Nat.mod_eq_of_lt (by omega)

/-- Eight and a small number as a word. -/
theorem eight_add (n : ℕ) (h : n < 8) : (Scalar.addi (8#32) (BitVec.ofNat 32 n) : BitVec 32).toNat = 8 + n := by
  show (8#32 + BitVec.ofNat 32 n).toNat = _
  rw [BitVec.toNat_add, BitVec.toNat_ofNat]
  show (8 + n % 2 ^ 32) % 2 ^ 32 = 8 + n
  omega

/-- The smaller of two small words. -/
theorem min_toNat (n : ℕ) (h : n < 100) (v : BitVec 32) (h0 : 0 ≤ v.toInt) (h1 : v.toInt < 100) :
    (Scalar.minsi (BitVec.ofNat 32 n) v : BitVec 32).toNat = min n v.toNat := by
  have e := StableHlo.Predicate.toInt_ofNat_small n (by omega)
  have ev : (v.toNat : ℤ) = v.toInt := by rw [BitVec.toInt_eq_toNat_cond] at h0 h1 ⊢; split at h0 <;> simp_all <;> omega
  have en : (BitVec.ofNat 32 n).toNat = n := by rw [BitVec.toNat_ofNat]; exact Nat.mod_eq_of_lt (by omega)
  simp only [Scalar.minsi, IntOp.minsi, BitVec.slt, e]
  by_cases hc : (n : ℤ) < v.toInt
  · simp [hc, en]; omega
  · simp [hc]; omega

/-- Block `x` sits at, as the index map computes it. -/
theorem ix_x (pf : pre0.Contents (Elt F)) (i : grid0.Coords) :
    cc0_transform_0 inb_S1_S1_0 numel1_S1 pf i = ![(Scalar.minsi (BitVec.ofNat 32 (i 0).val) (laOf pf) : BitVec 32).toNat, 0] := by
  unfold cc0_transform_0
  dsimp only
  rw [at_one]
  rfl

/-- The gate weights' block of a point. -/
theorem ix_gate (pf : pre0.Contents (Elt F)) (i : grid0.Coords) :
    cc0_transform_1 k0_off1_inb numel1_S1 pf i = ![0, (teOf pf i).toNat, 0, colBlk (nvOf pf i) i] := by
  unfold cc0_transform_1
  dsimp only
  rw [at_tile0, at_tile1, sel_val, small_toNat _ (colBlk_lt _ _)]
  rfl

/-- The linear weights' block of a point. -/
theorem ix_lin (pf : pre0.Contents (Elt F)) (i : grid0.Coords) :
    cc0_transform_2 k0_off1_inb numel1_S1 pf i = ![0, (teOf pf i).toNat, 0, 8 + colBlk (nvOf pf i) i] := by
  unfold cc0_transform_2
  dsimp only
  rw [at_tile0, at_tile1, sel_val, eight_add _ (colBlk_lt _ _)]
  rfl

/-- The gate bias's block of a point. -/
theorem ix_gateB (pf : pre0.Contents (Elt F)) (i : grid0.Coords) :
    cc0_transform_3 k0_off1_inb numel1_S1 pf i = ![0, (teOf pf i).toNat, 0, colBlk (nvOf pf i) i] := by
  unfold cc0_transform_3
  dsimp only
  rw [at_tile0, at_tile1, sel_val, small_toNat _ (colBlk_lt _ _)]
  rfl

/-- The linear bias's block of a point. -/
theorem ix_linB (pf : pre0.Contents (Elt F)) (i : grid0.Coords) :
    cc0_transform_4 k0_off1_inb numel1_S1 pf i = ![0, (teOf pf i).toNat, 0, 8 + colBlk (nvOf pf i) i] := by
  unfold cc0_transform_4
  dsimp only
  rw [at_tile0, at_tile1, sel_val, eight_add _ (colBlk_lt _ _)]
  rfl

/-- The lower weights' block of a point. -/
theorem ix_down (pf : pre0.Contents (Elt F)) (i : grid0.Coords) :
    cc0_transform_5 k0_off1_inb numel1_S1 pf i = ![0, (teOf pf i).toNat, colBlk (nvOf pf i) i, 0] := by
  unfold cc0_transform_5
  dsimp only
  rw [at_tile0, at_tile1, sel_val, small_toNat _ (colBlk_lt _ _)]
  rfl

/-- The lower bias's block of a point. -/
theorem ix_downB (pf : pre0.Contents (Elt F)) (i : grid0.Coords) :
    cc0_transform_6 k0_off1_inb numel1_S1 pf i = ![0, (teOf pf i).toNat, 0, 0] := by
  unfold cc0_transform_6
  dsimp only
  rw [at_tile0]
  rfl

/-- A word that is not negative and below a bound, as a number. -/
theorem toNat_lt {v : BitVec 32} {k : ℕ} (h0 : 0 ≤ v.toInt) (h1 : v.toInt < k) : v.toNat < k := by
  have h := v.isLt
  rw [BitVec.toInt_eq_toNat_cond] at h0 h1; split at h0 <;> simp_all <;> omega

/-- Tables in their ranges put every block inside its array. -/
theorem ok_of_ranges (pf : pre0.Contents (Elt F)) (h : Cert.Routed.Ranges (pf 0) (pf 1) (pf 2)) : ok0 pf := by
  have ht : ∀ i : grid0.Coords, (teOf pf i).toNat < 32 := fun i => toNat_lt (h.te_nonneg _) (h.te_lt _)
  refine ⟨fun i => ⟨?_, Or.inl rfl⟩, fun i => ⟨?_, Or.inl rfl⟩, fun i => ⟨?_, Or.inl rfl⟩, fun i => ⟨?_, Or.inl rfl⟩, fun i => ⟨?_, Or.inl rfl⟩, fun i => ⟨?_, Or.inl rfl⟩, fun i => ⟨?_, Or.inl rfl⟩⟩
  · rw [ix_x, min_toNat _ (show (i 0).val < 100 from (i 0).isLt) (laOf pf) (h.la_nonneg _) (h.la_lt _)]
    have hi : (i 0).val < 100 := (i 0).isLt
    refine Fin.forall_fin_two.mpr ⟨?_, ?_⟩
    · show (min (i 0).val _ + 1) * 1024 ≤ 102400; omega
    · show (0 + 1) * 2048 ≤ 2048; omega
  all_goals
    have hc := colBlk_lt (nvOf pf i) i
    have hti := ht i
    simp only [ix_gate, ix_lin, ix_gateB, ix_linB, ix_down, ix_downB]
    intro k
    fin_cases k <;> simp <;> omega

end Cert.ExpertsIdeal.Run

end
-- ==== Proof.ExpertsIdeal.Frame.lean ====
module

public import proofs.«01_k».proof.Proof.ExpertsIdeal.Tables

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.ExpertsIdeal.Gen

variable {F : FTy → Type} [FloatOps F]

/-- The one device. -/
abbrev dev0 : Dev nD := 0

/-- The tables as memory `m` holds them. -/
def tbl (m : (ℓ : Loc nD τ sig) → Buf (Elt F) ℓ) : pre0.Contents (Elt F) := fun k => V m dev0 (pre0.ref k)

/-- The first table is the first argument. -/
theorem tbl_te (m : (ℓ : Loc nD τ sig) → Buf (Elt F) ℓ) (c : Dev nD) : (tbl m 0 : IVec S100 32) = m ((c : Thread nD τ).loc main_arg0) := by
  obtain rfl : c = dev0 := Subsingleton.elim _ _
  exact V_main_arg0 m dev0

/-- The second table is the second argument. -/
theorem tbl_nv (m : (ℓ : Loc nD τ sig) → Buf (Elt F) ℓ) (c : Dev nD) : (tbl m 1 : IVec S100 32) = m ((c : Thread nD τ).loc main_arg1) := by
  obtain rfl : c = dev0 := Subsingleton.elim _ _
  exact V_main_arg1 m dev0

/-- The third table is the third argument. -/
theorem tbl_la (m : (ℓ : Loc nD τ sig) → Buf (Elt F) ℓ) (c : Dev nD) : (tbl m 2 : IVec S1 32) = m ((c : Thread nD τ).loc main_arg2) := by
  obtain rfl : c = dev0 := Subsingleton.elim _ _
  exact V_main_arg2 m dev0

/-- Tables in their ranges, as the memory holds them. -/
def Routed (m : (ℓ : Loc nD τ sig) → Buf (Elt F) ℓ) : Prop := Cert.Routed.Ranges (tbl m 0) (tbl m 1) (tbl m 2)

/-- The memory's tables, admitted by the pipeline. -/
def adm (m : (ℓ : Loc nD τ sig) → Buf (Elt F) ℓ) (h : Routed m) : (pcfg0 (F := F)).Adm := ⟨tbl m, ok_of_ranges _ h⟩

/-- The launch from a memory whose tables are in range. -/
theorem run_adm (m : (ℓ : Loc nD τ sig) → Buf (Elt F) ℓ) (h : Routed m) (ρ : Dev nD → PrngReg) :
    θ_run defs (onTc (τ := τ) (main (F := F))) (s₀ m ρ) (fun r => (Pipeline.FramePost (Pipeline.pin (pcfgs (F := F)) (fun _ => adm m h)) (dats m (adm m h)) 0 (V m)) r ∧ r.2.sem = fun _ => 0) :=
  run_main m (adm m h) ρ (fun c k => by obtain rfl : c = dev0 := Subsingleton.elim _ _; rfl)

end Cert.ExpertsIdeal.Run

end
-- ==== Proof.Shared.Norm.lean ====
module

public import Idealize.ShloMosaic.PureOps.Ideal

@[expose] public section

noncomputable section

namespace Cert.Norm

open Idealize.ShloMosaic

/-- The width of a row, as the mean divides by it. -/
def width : EReal := Ideal.ofBits .f32 0x45000000#32

/-- What is added to a row's mean square before its root is taken. -/
def eps : EReal := Ideal.ofBits .f32 0x3727C5AC#32

/-- A row's mean square. -/
def meanSq (x : Fin 2048 → EReal) : EReal := Ideal.div (∑ k : Fin 2048, x k * x k) width

/-- Entry `k` of a row divided by its root mean square and multiplied by the gain. -/
def normed (x g : Fin 2048 → EReal) (k : Fin 2048) : EReal := x k * Ideal.rsqrt (meanSq x + eps) * g k

/-- A normalized row times one column of the weights. -/
def project (x g w : Fin 2048 → EReal) : EReal := ∑ k : Fin 2048, normed x g k * w k

end Cert.Norm

end
-- ==== Proof.MemKVIdeal.Body.lean ====
module

public import proofs.«01_k».proof.Proof.Gen.MemKVIdeal.Value
public import proofs.«01_k».proof.Proof.Shared.Norm
public import Idealize.ShloMosaic.Lib.Pipeline.Value
public import Idealize.ShloMosaic.Lib.ValueIdxCore
public import Idealize.ShloMosaic.PureOps.Ideal.Laws

@[expose] public section

set_option maxRecDepth 16384

noncomputable section

namespace Cert.MemKVIdeal.Rows

open Idealize.ShloMosaic Idealize.ShloMosaic.TcCoe Idealize.ShloMosaic.Tactic
open Cert.MemKVIdeal Cert.MemKVIdeal.Gen Cert.Norm

/-- Entry `(r, k)` of a block of rows. -/
abbrev rowIx (r : Fin 1024) (k : Fin 2048) : S1024x2048.Idx := fun a => match a with
  | ⟨0, _⟩ => ⟨r.val, r.isLt⟩
  | ⟨1, _⟩ => ⟨k.val, k.isLt⟩

/-- Entry `k` of the gains. -/
abbrev gainIx (k : Fin 2048) : S1x2048.Idx := fun a => match a with
  | ⟨0, _⟩ => ⟨0, Nat.one_pos⟩
  | ⟨1, _⟩ => ⟨k.val, k.isLt⟩

/-- Entry `(k, q)` of a block of columns. -/
abbrev colIx (k : Fin 2048) (q : Fin 512) : S2048x512.Idx := fun a => match a with
  | ⟨0, _⟩ => ⟨k.val, k.isLt⟩
  | ⟨1, _⟩ => ⟨q.val, q.isLt⟩

/-- Entry `(r, q)` of a block of the result. -/
abbrev outIx (r : Fin 1024) (q : Fin 512) : S1024x512.Idx := fun a => match a with
  | ⟨0, _⟩ => ⟨r.val, r.isLt⟩
  | ⟨1, _⟩ => ⟨q.val, q.isLt⟩

/-- Entry `r` of a column of one number per row. -/
abbrev onlyIx (r : Fin 1024) : S1024x1.Idx := fun a => match a with
  | ⟨0, _⟩ => ⟨r.val, r.isLt⟩
  | ⟨1, _⟩ => ⟨0, Nat.one_pos⟩

abbrev flatIx (r : Fin 1024) : S1024.Idx := fun a => match a with
  | ⟨0, _⟩ => ⟨r.val, r.isLt⟩

/-- A column spread over the row's entries. -/
theorem only_spread (v : Vec Ideal S1024x1 .f32) (r : Fin 1024) (k : Fin 2048) : broadcastTo S1024x2048 v broadcasts_S1024x1_S1024x2048 (rowIx r k) = v (onlyIx r) := by
  refine broadcastTo_apply _ _ (rowIx r k) (onlyIx r) ?_
  refine Fin.forall_fin_two.mpr ⟨?_, ?_⟩
  · show r.val = if (1024 : ℕ) = 1 then 0 else r.val; rw [if_neg (by decide)]
  · show 0 = if (1 : ℕ) = 1 then 0 else _; rw [if_pos rfl]

/-- The gain spread over the rows. -/
theorem gain_spread (v : Vec Ideal S1x2048 .f32) (r : Fin 1024) (k : Fin 2048) : broadcastTo S1024x2048 v broadcasts_S1x2048_S1024x2048 (rowIx r k) = v (gainIx k) := by
  refine broadcastTo_apply _ _ (rowIx r k) (gainIx k) ?_
  refine Fin.forall_fin_two.mpr ⟨?_, ?_⟩
  · show 0 = if (1 : ℕ) = 1 then 0 else _; rw [if_pos rfl]
  · show k.val = if (2048 : ℕ) = 1 then 0 else k.val; rw [if_neg (by decide)]

/-- A flat array seen as a column. -/
theorem only_cast (v : Vec Ideal S1024 .f32) (r : Fin 1024) : shapeCast S1024x1 v shapeCasts_S1024_S1024x1 (onlyIx r) = v (flatIx r) := by
  refine shapeCast_apply v _ (onlyIx r) (flatIx r) ?_
  rw [Shape.rowMajor_val_one, Shape.rowMajor_val_two]
  show r.val = r.val * 1 + 0
  omega

/-- A sum along the rows. -/
theorem row_sum (v : FVec Ideal S1024x2048 .f32) (r : Fin 1024) :
    multiReduction (F := Ideal) .add [1] S1024 v 0x00000000#32 reduces_S1024x2048_S1024 (.inl rfl) rfl (flatIx r) = ∑ k : Fin 2048, v (rowIx r k) := by
  refine (Ideal.multiReduction_add_single _ _ _ _ _ _).trans ?_
  refine Finset.sum_congr rfl fun k _ => congrArg v (funext fun a => Fin.ext ?_)
  match a with
  | ⟨0, _⟩ => rfl
  | ⟨1, _⟩ => rfl

/-- The kept rows are the normalized rows. -/
theorem norm_apply (x : Vec Ideal S1024x2048 .f32) (g : Vec Ideal S1x2048 .f32) (r : Fin 1024) (k : Fin 2048) :
    k0_pay1 x g (rowIx r k) = normed (fun j => x (rowIx r j)) (fun j => g (gainIx j)) k := by
  unfold k0_pay1
  dsimp only
  rw [shapeCast_self, shapeCast_self, shapeCast_self]
  show x (rowIx r k) * broadcastTo S1024x2048 _ broadcasts_S1024x1_S1024x2048 (rowIx r k) * broadcastTo S1024x2048 g broadcasts_S1x2048_S1024x2048 (rowIx r k) = _
  rw [only_spread, gain_spread]
  show x (rowIx r k) * Ideal.rsqrt (Ideal.div (shapeCast S1024x1 _ shapeCasts_S1024_S1024x1 (onlyIx r)) width + eps) * g (gainIx k) = _
  rw [only_cast, row_sum]
  rfl

/-- The product takes the row of its left side from the result's row. -/
theorem lhs_row (i : S1024x512.Idx) (q : dot_S1024x2048_S2048x512_S1024x512_1_0_0_1_n_n.contr.Idx) : (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl

/-- The product takes the column of its right side from the result's column. -/
theorem rhs_col (i : S1024x512.Idx) (q : dot_S1024x2048_S2048x512_S1024x512_1_0_0_1_n_n.contr.Idx) : (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- A block of the product, entry by entry. -/
theorem product_apply (l : Vec Ideal S1024x2048 .bf16) (w : Vec Ideal S2048x512 .bf16) (r : Fin 1024) (q : Fin 512) :
    k0_pay2 (F := Ideal) l w (outIx r q) = ∑ k : Fin 2048, l (rowIx r k) * w (colIx k q) := by
  unfold k0_pay2
  rw [shapeCast_self]
  refine (Ideal.matmul_apply (φ₁ := .bf16) (φ₂ := .bf16) _ _ _ _ _ _).trans ?_
  rw [← Equiv.sum_comp (ValueIdx.contrEquiv1 dot_S1024x2048_S2048x512_S1024x512_1_0_0_1_n_n 2048 rfl rfl).symm]
  refine Eq.trans (congrArg (· + _) Ideal.ofBits_zero_f32) ?_
  rw [zero_add]
  refine Finset.sum_congr rfl fun k _ => ?_
  have hk := ValueIdx.contrEquiv1_symm_val dot_S1024x2048_S2048x512_S1024x512_1_0_0_1_n_n 2048 rfl rfl k
  refine congrArg₂ (· * ·) (congrArg l (funext fun a => Fin.ext ?_)) (congrArg w (funext fun a => Fin.ext ?_))
  · match a with
    | ⟨0, _⟩ => exact lhs_row _ _
    | ⟨1, _⟩ => exact (dot_S1024x2048_S2048x512_S1024x512_1_0_0_1_n_n.lhsIdx_val_of_single rfl _ _).trans hk
  · match a with
    | ⟨0, _⟩ => exact (dot_S1024x2048_S2048x512_S1024x512_1_0_0_1_n_n.rhsIdx_val_of_single rfl _ _).trans hk
    | ⟨1, _⟩ => exact rhs_col _ _

/-- Two zero offsets. -/
theorem start_zero : (![0, 0] : Fin 2 → Nat) = fun _ => 0 := funext fun a => by fin_cases a <;> rfl

/-- What a first column block keeps for the later ones: the normalized rows. -/
theorem kept_first (c : Dev nD) (i : grid0.Coords) (a2 : Memref sig .tc .vmem S1024x2048 .f32) (h2 : a2.IsWhole) (a3 : Memref sig .tc .vmem S1x2048 .f32) (h3 : a3.IsWhole)
    (a4 : Memref sig .tc .vmem S2048x512 .bf16) (h4 : a4.IsWhole) (a5 : Memref sig .tc .vmem S1024x512 .f32) (h5 : a5.IsWhole) (a6 : Memref sig .tc .vmem S1024x2048 .bf16) (h6 : a6.IsWhole)
    (hc : cond0_0 i) (x : Vec Ideal S1024x2048 .f32) (g : Vec Ideal S1x2048 .f32) (w : Vec Ideal S2048x512 .bf16) :
    sout0_A_0 c i a2 h2 a3 h3 a4 h4 a5 h5 a6 h6 hc x g w = k0_pay1 x g := by
  unfold sout0_A_0
  rw [View.read_writes_junk_eq_canon]
  unfold kernelRun0_A
  dsimp only
  sl_unfold_words
  rw [View.canon_unit_zero start_zero]
  simp only [View.readAt_eq_ld, h2.read_unread, h3.read_unread, View.ld_unit_zero (S := S1024x2048) start_zero, View.ld_unit_zero (S := S1x2048) start_zero]

/-- A first column block's result. -/
theorem out_first (c : Dev nD) (i : grid0.Coords) (a2 : Memref sig .tc .vmem S1024x2048 .f32) (h2 : a2.IsWhole) (a3 : Memref sig .tc .vmem S1x2048 .f32) (h3 : a3.IsWhole)
    (a4 : Memref sig .tc .vmem S2048x512 .bf16) (h4 : a4.IsWhole) (a5 : Memref sig .tc .vmem S1024x512 .f32) (h5 : a5.IsWhole) (a6 : Memref sig .tc .vmem S1024x2048 .bf16) (h6 : a6.IsWhole)
    (hc : cond0_0 i) (x : Vec Ideal S1024x2048 .f32) (g : Vec Ideal S1x2048 .f32) (w : Vec Ideal S2048x512 .bf16) :
    out0_A_3 c i a2 h2 a3 h3 a4 h4 a5 h5 a6 h6 hc x g w = k0_pay2 (k0_pay1 x g) w := by
  unfold out0_A_3
  rw [View.read_writes_junk_eq_canon]
  unfold kernelRun0_A
  dsimp only
  sl_unfold_words
  rw [View.canon_unit_zero start_zero, View.readCov_unit_zero (S := S1024x2048) _ start_zero]
  simp only [View.readAt_eq_ld, h2.read_unread, h3.read_unread, h4.read_unread, View.ld_unit_zero (S := S1024x2048) start_zero, View.ld_unit_zero (S := S1x2048) start_zero,
    View.ld_unit_zero (S := S2048x512) start_zero]

/-- A later column block keeps what it found. -/
theorem kept_later (c : Dev nD) (i : grid0.Coords) (a2 : Memref sig .tc .vmem S1024x2048 .f32) (h2 : a2.IsWhole) (a3 : Memref sig .tc .vmem S1x2048 .f32) (h3 : a3.IsWhole)
    (a4 : Memref sig .tc .vmem S2048x512 .bf16) (h4 : a4.IsWhole) (a5 : Memref sig .tc .vmem S1024x512 .f32) (h5 : a5.IsWhole) (a6 : Memref sig .tc .vmem S1024x2048 .bf16) (h6 : a6.IsWhole)
    (hc : ¬cond0_0 i) (x : Vec Ideal S1024x2048 .f32) (g : Vec Ideal S1x2048 .f32) (w : Vec Ideal S2048x512 .bf16) (l : Vec Ideal S1024x2048 .bf16) :
    sout0_B_0 c i a2 h2 a3 h3 a4 h4 a5 h5 a6 h6 hc x g w l = l := by
  unfold sout0_B_0
  rfl

/-- A later column block's result, from the rows that it finds. -/
theorem out_later (c : Dev nD) (i : grid0.Coords) (a2 : Memref sig .tc .vmem S1024x2048 .f32) (h2 : a2.IsWhole) (a3 : Memref sig .tc .vmem S1x2048 .f32) (h3 : a3.IsWhole)
    (a4 : Memref sig .tc .vmem S2048x512 .bf16) (h4 : a4.IsWhole) (a5 : Memref sig .tc .vmem S1024x512 .f32) (h5 : a5.IsWhole) (a6 : Memref sig .tc .vmem S1024x2048 .bf16) (h6 : a6.IsWhole)
    (hc : ¬cond0_0 i) (x : Vec Ideal S1024x2048 .f32) (g : Vec Ideal S1x2048 .f32) (w : Vec Ideal S2048x512 .bf16) (l : Vec Ideal S1024x2048 .bf16) :
    out0_B_3 c i a2 h2 a3 h3 a4 h4 a5 h5 a6 h6 hc x g w l = k0_pay2 l w := by
  unfold out0_B_3
  rw [View.read_writes_junk_eq_canon]
  unfold kernelRun0_B
  dsimp only
  sl_unfold_words
  rw [View.canon_unit_zero start_zero]
  simp only [View.readAt_eq_ld, h4.read_unread, h6.read_unread, View.ld_unit_zero (S := S1024x2048) start_zero, View.ld_unit_zero (S := S2048x512) start_zero]

end Cert.MemKVIdeal.Rows

end
-- ==== Proof.MemKVIdeal.Prep.lean ====
module

public import proofs.«01_k».proof.Proof.MemKVIdeal.Body

@[expose] public section

set_option maxRecDepth 16384

noncomputable section

namespace Cert.MemKVIdeal.Rows

open Idealize.ShloMosaic Idealize.ShloMosaic.TcCoe Idealize.ShloMosaic.Tactic
open Cert.MemKVIdeal Cert.MemKVIdeal.Gen Cert.Norm

variable (m : (ℓ : Loc nD τ sig) → Buf (Elt Ideal) ℓ) (c : Dev nD)

/-- Entry `(b, t, k)` of the memory. -/
abbrev memIx (r : Fin 2048) (k : Fin 2048) : S8x256x2048.Idx := fun a => match a with
  | ⟨0, _⟩ => ⟨r.val / 256, by show r.val / 256 < 8; omega⟩
  | ⟨1, _⟩ => ⟨r.val % 256, by show r.val % 256 < 256; omega⟩
  | ⟨2, _⟩ => ⟨k.val, k.isLt⟩

/-- Entry `(k, q)` of one half of the weights. -/
abbrev halfIx (k : Fin 2048) (q : Fin 512) : S1x2048x512.Idx := fun a => match a with
  | ⟨0, _⟩ => ⟨0, Nat.one_pos⟩
  | ⟨1, _⟩ => ⟨k.val, k.isLt⟩
  | ⟨2, _⟩ => ⟨q.val, q.isLt⟩

/-- Entry `(r, k)` of the rows as the call takes them. -/
abbrev xIx (r : Fin 2048) (k : Fin 2048) : S2048x2048.Idx := fun a => match a with
  | ⟨0, _⟩ => ⟨r.val, r.isLt⟩
  | ⟨1, _⟩ => ⟨k.val, k.isLt⟩

/-- Entry `(k, n)` of the weights as the call takes them. -/
abbrev wIx (k : Fin 2048) (n : Fin 1024) : S2048x1024.Idx := fun a => match a with
  | ⟨0, _⟩ => ⟨k.val, k.isLt⟩
  | ⟨1, _⟩ => ⟨n.val, n.isLt⟩

abbrev gIx (k : Fin 2048) : S2048.Idx := fun a => match a with
  | ⟨0, _⟩ => ⟨k.val, k.isLt⟩

/-- Row `r` of the memory. -/
abbrev row (x : S8x256x2048.Idx → EReal) (r : Fin 2048) (k : Fin 2048) : EReal := x (memIx r k)

/-- The gains. -/
abbrev gain (g : S1x2048.Idx → EReal) (k : Fin 2048) : EReal := g (gainIx k)

/-- Column `n` of the weights: a key's or a value's. -/
def weight (wk wv : S1x2048x512.Idx → EReal) (n : Fin 1024) (k : Fin 2048) : EReal :=
  if h : n.val < 512 then wk (halfIx k ⟨n.val, h⟩) else wv (halfIx k ⟨n.val - 512, by omega⟩)

abbrev xA : S8x256x2048.Idx → EReal := m ((c : Thread nD τ).loc main_arg0)
abbrev gA : S1x2048.Idx → EReal := m ((c : Thread nD τ).loc main_arg1)
abbrev wkA : S1x2048x512.Idx → EReal := m ((c : Thread nD τ).loc main_arg2)
abbrev wvA : S1x2048x512.Idx → EReal := m ((c : Thread nD τ).loc main_arg3)

/-- The inputs as rows. -/
theorem V_rows : (V m c main_v4 : S2048x2048.Idx → EReal) = shapeCast S2048x2048 (xA m c) shapeCasts_S8x256x2048_S2048x2048 := by
  unfold V hostOps0
  after_results
  rfl

/-- The gain as a row. -/
theorem V_gain : (V m c main_v6 : S1x2048.Idx → EReal) = shapeCast S1x2048 (shapeCast S2048 (gA m c) shapeCasts_S1x2048_S2048) shapeCasts_S2048_S1x2048 := by
  unfold V hostOps0
  after_results
  rfl

/-- The weights as the call takes them. -/
theorem V_weight : (V m c main_v3 : S2048x1024.Idx → EReal) = concatenate S2048x1024 1 [⟨S2048x512, shapeCast S2048x512 (wkA m c) shapeCasts_S1x2048x512_S2048x512⟩,
    ⟨S2048x512, shapeCast S2048x512 (wvA m c) shapeCasts_S1x2048x512_S2048x512⟩] concatenates_S2048x512_S2048x512_S2048x1024_d1 := by
  unfold V hostOps0
  after_results
  rfl

/-- The rows that the call finds are the memory's. -/
theorem rows_at (r k : Fin 2048) : (V m c main_v4 : S2048x2048.Idx → EReal) (xIx r k) = row (xA m c) r k := by
  rw [V_rows]
  refine shapeCast_apply _ _ (xIx r k) (memIx r k) ?_
  rw [Shape.rowMajor_val_three, Shape.rowMajor_val_two]
  show (r.val / 256 * 256 + r.val % 256) * 2048 + k.val = r.val * 2048 + k.val
  omega

/-- The gains that the call finds. -/
theorem gain_at (k : Fin 2048) : (V m c main_v6 : S1x2048.Idx → EReal) (gainIx k) = gain (gA m c) k := by
  rw [V_gain]
  refine (shapeCast_apply _ _ (gainIx k) (gIx k) ?_).trans (shapeCast_apply _ _ (gIx k) (gainIx k) ?_)
  · rw [Shape.rowMajor_val_one, Shape.rowMajor_val_two]
    show k.val = 0 * 2048 + k.val
    omega
  · rw [Shape.rowMajor_val_one, Shape.rowMajor_val_two]
    show 0 * 2048 + k.val = k.val
    omega

/-- One of the two weights as a matrix. -/
theorem half_at (w : S1x2048x512.Idx → EReal) (k : Fin 2048) (q : Fin 512) : shapeCast S2048x512 w shapeCasts_S1x2048x512_S2048x512 (colIx k q) = w (halfIx k q) := by
  refine shapeCast_apply _ _ (colIx k q) (halfIx k q) ?_
  rw [Shape.rowMajor_val_three, Shape.rowMajor_val_two]
  show (0 * 2048 + k.val) * 512 + q.val = k.val * 512 + q.val
  omega

/-- The weights that the call finds: the keys' and the values' side by side. -/
theorem weight_at (k : Fin 2048) (n : Fin 1024) : (V m c main_v3 : S2048x1024.Idx → EReal) (wIx k n) = weight (wkA m c) (wvA m c) n k := by
  rw [V_weight]
  unfold weight
  have hn := n.isLt
  split
  next h =>
    refine (concatenate_pair_apply_left (t := S2048x1024) (s₁ := S2048x512) (s₂ := S2048x512) 1 _ _ _ (wIx k n) rfl (colIx k ⟨n.val, h⟩) ?_).trans (half_at _ k _)
    exact Fin.forall_fin_two.mpr ⟨rfl, rfl⟩
  next h =>
    refine (concatenate_pair_apply_right (t := S2048x1024) (s₁ := S2048x512) (s₂ := S2048x512) 1 _ _ _ (wIx k n) rfl rfl (colIx k ⟨n.val - 512, by omega⟩) ?_ ?_).trans (half_at _ k _)
    · exact Fin.forall_fin_two.mpr ⟨fun _ => rfl, fun hne => absurd rfl hne⟩
    · show n.val - 512 + 512 = n.val; omega

end Cert.MemKVIdeal.Rows

end
-- ==== Proof.MemKVIdeal.Final.lean ====
module

public import proofs.«01_k».proof.Proof.MemKVIdeal.Prep

@[expose] public section

set_option maxRecDepth 16384

noncomputable section

namespace Cert.MemKVIdeal.Rows

open Idealize.ShloMosaic Idealize.ShloMosaic.TcCoe Idealize.ShloMosaic.Tactic
open Cert.MemKVIdeal Cert.MemKVIdeal.Gen Cert.MemKVIdeal.Value Cert.Norm

variable (m : (ℓ : Loc nD τ sig) → Buf (Elt Ideal) ℓ) (c : Dev nD)

/-- The blocks that each window is at, point by point. -/
theorem at_rows : ∀ t : Fin cfg0.N, win0_0.index t (0 : Fin 2) = t.val / 2 ∧ win0_0.index t (1 : Fin 2) = 0 :=
  (by decide +kernel : ∀ t : Fin grid0.N, _)
/-- Every point reads the whole gain. -/
theorem at_gain : ∀ t : Fin cfg0.N, win0_1.index t (0 : Fin 2) = 0 ∧ win0_1.index t (1 : Fin 2) = 0 :=
  (by decide +kernel : ∀ t : Fin grid0.N, _)
/-- The columns of the weights that a point reads. -/
theorem at_cols : ∀ t : Fin cfg0.N, win0_2.index t (0 : Fin 2) = 0 ∧ win0_2.index t (1 : Fin 2) = t.val % 2 :=
  (by decide +kernel : ∀ t : Fin grid0.N, _)

/-- Row `r` of the rows of point `n`. -/
abbrev rowOf (n : ℕ) (hn : n < cfg0.N) (r : Fin 1024) : Fin 2048 := ⟨1024 * (n / 2) + r.val, by have := lt_of_lt_of_eq hn (show cfg0.N = 4 from N_0); omega⟩

/-- Column `q` of the columns of point `n`. -/
abbrev colOf (n : ℕ) (q : Fin 512) : Fin 1024 := ⟨512 * (n % 2) + q.val, by omega⟩

/-- The rows that a point is given. -/
theorem block_rows (t : Fin cfg0.N) (r : Fin 1024) (k : Fin 2048) : (iblk m c 0 t : S1024x2048.Idx → EReal) (rowIx r k) = row (xA m c) (rowOf t.val t.isLt r) k := by
  obtain ⟨e0, e1⟩ := at_rows t
  unfold iblk
  have hk : ∀ a : Fin 2, (((cfg0.win 0).blk t).view.emb (rowIx r k) a).val = win0_0.index t a * S1024x2048.size a + 1 * ((rowIx r k) a).val := fun a => rfl
  refine Eq.trans ?_ (rows_at m c (rowOf t.val t.isLt r) k)
  show (V m c main_v4 : S2048x2048.Idx → EReal) (((cfg0.win 0).blk t).view.emb (rowIx r k)) = _
  refine congrArg (V m c main_v4 : S2048x2048.Idx → EReal) (funext fun a => Fin.ext ((hk a).trans ?_))
  match a with
  | ⟨0, _⟩ => show win0_0.index t (0 : Fin 2) * 1024 + 1 * r.val = 1024 * (t.val / 2) + r.val; rw [e0]; omega
  | ⟨1, _⟩ => show win0_0.index t (1 : Fin 2) * 2048 + 1 * k.val = k.val; rw [e1]; omega

/-- The gains that a point is given. -/
theorem block_gain (t : Fin cfg0.N) (k : Fin 2048) : (iblk m c 1 t : S1x2048.Idx → EReal) (gainIx k) = gain (gA m c) k := by
  obtain ⟨e0, e1⟩ := at_gain t
  unfold iblk
  have hk : ∀ a : Fin 2, (((cfg0.win 1).blk t).view.emb (gainIx k) a).val = win0_1.index t a * S1x2048.size a + 1 * ((gainIx k) a).val := fun a => rfl
  refine Eq.trans ?_ (gain_at m c k)
  show (V m c main_v6 : S1x2048.Idx → EReal) (((cfg0.win 1).blk t).view.emb (gainIx k)) = _
  refine congrArg (V m c main_v6 : S1x2048.Idx → EReal) (funext fun a => Fin.ext ((hk a).trans ?_))
  match a with
  | ⟨0, _⟩ => show win0_1.index t (0 : Fin 2) * 1 + 1 * 0 = 0; rw [e0]
  | ⟨1, _⟩ => show win0_1.index t (1 : Fin 2) * 2048 + 1 * k.val = k.val; rw [e1]; omega

/-- The columns that a point is given. -/
theorem block_cols (t : Fin cfg0.N) (k : Fin 2048) (q : Fin 512) : (iblk m c 2 t : S2048x512.Idx → EReal) (colIx k q) = weight (wkA m c) (wvA m c) (colOf t.val q) k := by
  obtain ⟨e0, e1⟩ := at_cols t
  unfold iblk
  have hk : ∀ a : Fin 2, (((cfg0.win 2).blk t).view.emb (colIx k q) a).val = win0_2.index t a * S2048x512.size a + 1 * ((colIx k q) a).val := fun a => rfl
  refine Eq.trans ?_ (weight_at m c k (colOf t.val q))
  show (V m c main_v3 : S2048x1024.Idx → EReal) (((cfg0.win 2).blk t).view.emb (colIx k q)) = _
  refine congrArg (V m c main_v3 : S2048x1024.Idx → EReal) (funext fun a => Fin.ext ((hk a).trans ?_))
  match a with
  | ⟨0, _⟩ => show win0_2.index t (0 : Fin 2) * 2048 + 1 * k.val = k.val; rw [e0]; omega
  | ⟨1, _⟩ => show win0_2.index t (1 : Fin 2) * 512 + 1 * q.val = 512 * (t.val % 2) + q.val; rw [e1]; omega

/-- A point's first product is over its own normalized rows. -/
theorem first_norm (t : Fin cfg0.N) (r : Fin 1024) (k : Fin 2048) :
    k0_pay1 (F := Ideal) (iblk m c 0 t) (iblk m c 1 t) (rowIx r k) = normed (row (xA m c) (rowOf t.val t.isLt r)) (gain (gA m c)) k := by
  rw [norm_apply]
  simp only [block_rows m c t, block_gain m c t]

/-- After a point the kept rows are the normalized rows of its block of rows. -/
theorem kept_at : ∀ (n : ℕ) (hn : n < cfg0.N) (r : Fin 1024) (k : Fin 2048),
    (outsAt0 m c n hn).2 (rowIx r k) = normed (row (xA m c) (rowOf n hn r)) (gain (gA m c)) k := by
  intro n
  induction n with
  | zero =>
    intro hn r k
    rw [outsAt0_A m c ⟨0, hn⟩ (Nat.zero_mod _)]
    dsimp only
    rw [kept_first]
    exact first_norm m c ⟨0, hn⟩ r k
  | succ n ih =>
    intro hn r k
    by_cases h : (n + 1) % 2 = 0
    · rw [outsAt0_A m c ⟨n + 1, hn⟩ h]
      dsimp only
      rw [kept_first]
      exact first_norm m c ⟨n + 1, hn⟩ r k
    · rw [outsAt0_B m c ⟨n + 1, hn⟩ h]
      dsimp only
      rw [kept_later]
      refine (ih (Nat.lt_of_succ_lt hn) r k).trans ?_
      have e : rowOf n (Nat.lt_of_succ_lt hn) r = rowOf (n + 1) hn r := Fin.ext (by show 1024 * (n / 2) + r.val = 1024 * ((n + 1) / 2) + r.val; omega)
      rw [e]

/-- A point's result. -/
theorem out_at (n : ℕ) (hn : n < cfg0.N) (r : Fin 1024) (q : Fin 512) :
    (outsAt0 m c n hn).1 (outIx r q) = project (row (xA m c) (rowOf n hn r)) (gain (gA m c)) (weight (wkA m c) (wvA m c) (colOf n q)) := by
  by_cases h : n % 2 = 0
  · rw [outsAt0_A m c ⟨n, hn⟩ h]
    dsimp only
    rw [out_first, product_apply]
    refine Finset.sum_congr rfl fun k _ => ?_
    rw [first_norm m c ⟨n, hn⟩ r k, block_cols m c ⟨n, hn⟩ k q]
  · have hp : n - 1 < cfg0.N := Nat.lt_of_le_of_lt (Nat.sub_le _ _) hn
    rw [outsAt0_B m c ⟨n, hn⟩ h]
    dsimp only
    rw [out_later, product_apply]
    refine Finset.sum_congr rfl fun k _ => ?_
    have e : rowOf (n - 1) hp r = rowOf n hn r := Fin.ext (by show 1024 * ((n - 1) / 2) + r.val = 1024 * (n / 2) + r.val; omega)
    rw [kept_at m c (n - 1) hp r k, block_cols m c ⟨n, hn⟩ k q, e]

/-- The array of the projected rows. -/
def answers (x : S8x256x2048.Idx → EReal) (g : S1x2048.Idx → EReal) (wk wv : S1x2048x512.Idx → EReal) : S2048x1024.Idx → EReal :=
  fun i => project (row x ⟨(i 0).val, (i 0).isLt⟩) (gain g) (weight wk wv ⟨(i 1).val, (i 1).isLt⟩)

/-- The call leaves the projected rows. -/
theorem final : (G3 m c : S2048x1024.Idx → EReal) = answers (xA m c) (gA m c) (wkA m c) (wvA m c) := by
  funext i
  have h0 : (i 0).val < 2048 := (i 0).isLt
  have h1 : (i 1).val < 1024 := (i 1).isLt
  have hp : pt3Of i = 2 * ((i 0).val / 1024) + (i 1).val / 512 := by show 2 * ((i 0).val / 1024 - 0) + 1 * ((i 1).val / 512 - 0) = _; omega
  have hn : pt3Of i < cfg0.N := by rw [hp, show cfg0.N = 4 from N_0]; omega
  unfold G3
  rw [dif_pos hn, ← outsAt0_sweep m c (pt3Of i) hn]
  have hl : loc3Of i = outIx ⟨(i 0).val % 1024, by omega⟩ ⟨(i 1).val % 512, by omega⟩ := funext fun a => Fin.ext (match a with
    | ⟨0, _⟩ => rfl
    | ⟨1, _⟩ => rfl)
  rw [hl, out_at]
  unfold answers
  have er : rowOf (pt3Of i) hn ⟨(i 0).val % 1024, by omega⟩ = ⟨(i 0).val, h0⟩ := Fin.ext (by show 1024 * (pt3Of i / 2) + (i 0).val % 1024 = (i 0).val; rw [hp]; omega)
  have ec : colOf (pt3Of i) ⟨(i 1).val % 512, by omega⟩ = ⟨(i 1).val, h1⟩ := Fin.ext (by show 512 * (pt3Of i % 2) + (i 1).val % 512 = (i 1).val; rw [hp]; omega)
  rw [er, ec]

end Cert.MemKVIdeal.Rows

end
-- ==== Proof.MemKVRefIdeal.Entry.lean ====
module

public import proofs.«01_k».proof.Proof.Gen.MemKVRefIdeal.Read
public import proofs.«01_k».proof.Proof.Shared.Norm
public import Idealize.ShloMosaic.Lib.Pipeline.Value

@[expose] public section

set_option maxRecDepth 16384

noncomputable section

namespace Cert.MemKVRefIdeal.Plain

open Idealize.ShloMosaic Idealize.ShloMosaic.TcCoe
open Cert.MemKVRefIdeal Cert.MemKVRefIdeal.Gen Cert.MemKVRefIdeal.Read Cert.Norm

/-- Entry `(b, t, k)` of the memory. -/
abbrev memIx (b : Fin 8) (t : Fin 256) (k : Fin 2048) : S8x256x2048.Idx := fun a => match a with
  | ⟨0, _⟩ => ⟨b.val, b.isLt⟩
  | ⟨1, _⟩ => ⟨t.val, t.isLt⟩
  | ⟨2, _⟩ => ⟨k.val, k.isLt⟩

abbrev onlyIx (b : Fin 8) (t : Fin 256) : S8x256x1.Idx := fun a => match a with
  | ⟨0, _⟩ => ⟨b.val, b.isLt⟩
  | ⟨1, _⟩ => ⟨t.val, t.isLt⟩
  | ⟨2, _⟩ => ⟨0, Nat.one_pos⟩

abbrev gainIx (k : Fin 2048) : S1x2048.Idx := fun a => match a with
  | ⟨0, _⟩ => ⟨0, Nat.one_pos⟩
  | ⟨1, _⟩ => ⟨k.val, k.isLt⟩

abbrev halfIx (k : Fin 2048) (q : Fin 512) : S1x2048x512.Idx := fun a => match a with
  | ⟨0, _⟩ => ⟨0, Nat.one_pos⟩
  | ⟨1, _⟩ => ⟨k.val, k.isLt⟩
  | ⟨2, _⟩ => ⟨q.val, q.isLt⟩

abbrev partIx (b : Fin 8) (t : Fin 256) (q : Fin 512) : S8x256x512.Idx := fun a => match a with
  | ⟨0, _⟩ => ⟨b.val, b.isLt⟩
  | ⟨1, _⟩ => ⟨t.val, t.isLt⟩
  | ⟨2, _⟩ => ⟨q.val, q.isLt⟩

abbrev wideIx (b : Fin 8) (t : Fin 256) (n : Fin 1024) : S8x256x1024.Idx := fun a => match a with
  | ⟨0, _⟩ => ⟨b.val, b.isLt⟩
  | ⟨1, _⟩ => ⟨t.val, t.isLt⟩
  | ⟨2, _⟩ => ⟨n.val, n.isLt⟩

variable (x : S8x256x2048.Idx → EReal) (g : S1x2048.Idx → EReal) (wk wv : S1x2048x512.Idx → EReal)

/-- The mean square of a row of the memory. -/
theorem mean_apply (b : Fin 8) (t : Fin 256) : val_main_v5 (F := Ideal) x (onlyIx b t) = meanSq (fun k => x (memIx b t k)) := by
  rw [val_main_v5_apply, Ideal.hostDivf_def, val_main_v3_apply, val_main_v2_apply, val_main_v4_apply, val_main_cst_0_apply, val_main_cst_apply]
  unfold meanSq
  refine congrArg (Ideal.div · width) ?_
  refine (congrArg (· + _) Ideal.ofBits_zero_f32).trans ((zero_add _).trans ?_)
  refine Finset.sum_congr rfl fun k _ => ?_
  rw [val_main_v1_apply]
  have e : idx_main_v2 (idx_main_v3 (onlyIx b t)) k = memIx b t k := funext fun a => Fin.ext (match a with
    | ⟨0, _⟩ => rfl
    | ⟨1, _⟩ => rfl
    | ⟨2, _⟩ => rfl)
  rw [e]
  rfl

/-- A normalized row of the memory. -/
theorem norm_apply (b : Fin 8) (t : Fin 256) (k : Fin 2048) :
    val_main_v13 (F := Ideal) x g (memIx b t k) = normed (fun j => x (memIx b t j)) (fun j => g (gainIx j)) k := by
  rw [val_main_v13_apply, val_main_v10_apply, val_main_v9_apply, val_main_v8_apply, val_main_v7_apply, val_main_v6_apply, val_main_cst_1_apply,
    val_main_v12_apply, val_main_v11_apply, val_main_v0_apply]
  have e : idx_main_v9 (memIx b t k) = onlyIx b t := funext fun a => Fin.ext (match a with
    | ⟨0, _⟩ => rfl
    | ⟨1, _⟩ => rfl
    | ⟨2, _⟩ => rfl)
  have eg : idx_main_v0 (idx_main_v11 (idx_main_v12 (memIx b t k))) = gainIx k := funext fun a => Fin.ext (match a with
    | ⟨0, _⟩ => rfl
    | ⟨1, _⟩ => Nat.mod_eq_of_lt k.isLt)
  rw [e, eg, mean_apply]
  rfl

/-- The key weights as the reference reads them. -/
theorem half_k (k : Fin 2048) (q : Fin 512) (i : S2048x512.Idx) (h0 : (i 0).val = k.val) (h1 : (i 1).val = q.val) : val_main_v14 (F := Ideal) wk i = wk (halfIx k q) := by
  rw [val_main_v14_apply]
  refine congrArg wk (funext fun a => Fin.ext ?_)
  match a with
  | ⟨0, _⟩ => rfl
  | ⟨1, _⟩ => show ((i 0).val * 512 + (i 1).val) / 512 % 2048 = k.val; rw [h0, h1]; omega
  | ⟨2, _⟩ => show ((i 0).val * 512 + (i 1).val) % 512 = q.val; rw [h0, h1]; omega

/-- The value weights as the reference reads them. -/
theorem half_v (k : Fin 2048) (q : Fin 512) (i : S2048x512.Idx) (h0 : (i 0).val = k.val) (h1 : (i 1).val = q.val) : val_main_v16 (F := Ideal) wv i = wv (halfIx k q) := by
  rw [val_main_v16_apply]
  refine congrArg wv (funext fun a => Fin.ext ?_)
  match a with
  | ⟨0, _⟩ => rfl
  | ⟨1, _⟩ => show ((i 0).val * 512 + (i 1).val) / 512 % 2048 = k.val; rw [h0, h1]; omega
  | ⟨2, _⟩ => show ((i 0).val * 512 + (i 1).val) % 512 = q.val; rw [h0, h1]; omega

/-- The keys. -/
theorem keys_apply (b : Fin 8) (t : Fin 256) (q : Fin 512) :
    val_main_v15 (F := Ideal) x g wk (partIx b t q) = project (fun j => x (memIx b t j)) (fun j => g (gainIx j)) (fun k => wk (halfIx k q)) := by
  rw [val_main_v15_apply]
  refine Finset.sum_congr rfl fun k _ => ?_
  have e : lidx_main_v15 (partIx b t q) k = memIx b t k := funext fun a => Fin.ext (match a with
    | ⟨0, _⟩ => rfl
    | ⟨1, _⟩ => rfl
    | ⟨2, _⟩ => rfl)
  rw [e, norm_apply, half_k wk k q _ rfl rfl]

/-- The values. -/
theorem values_apply (b : Fin 8) (t : Fin 256) (q : Fin 512) :
    val_main_v17 (F := Ideal) x g wv (partIx b t q) = project (fun j => x (memIx b t j)) (fun j => g (gainIx j)) (fun k => wv (halfIx k q)) := by
  rw [val_main_v17_apply]
  refine Finset.sum_congr rfl fun k _ => ?_
  have e : lidx_main_v17 (partIx b t q) k = memIx b t k := funext fun a => Fin.ext (match a with
    | ⟨0, _⟩ => rfl
    | ⟨1, _⟩ => rfl
    | ⟨2, _⟩ => rfl)
  rw [e, norm_apply, half_v wv k q _ rfl rfl]

/-- Column `n` of the weights: a key's or a value's. -/
def weight (n : Fin 1024) (k : Fin 2048) : EReal :=
  if h : n.val < 512 then wk (halfIx k ⟨n.val, h⟩) else wv (halfIx k ⟨n.val - 512, by omega⟩)

/-- The keys and the values side by side. -/
theorem both_apply (b : Fin 8) (t : Fin 256) (n : Fin 1024) :
    val_main_v18 (F := Ideal) x g wk wv (wideIx b t n) = project (fun j => x (memIx b t j)) (fun j => g (gainIx j)) (weight wk wv n) := by
  unfold val_main_v18
  have hn := n.isLt
  by_cases h : n.val < 512
  · have ew : weight wk wv n = fun k => wk (halfIx k ⟨n.val, h⟩) := funext fun k => dif_pos h
    rw [ew]
    refine (concatenate_pair_apply_left (t := S8x256x1024) (s₁ := S8x256x512) (s₂ := S8x256x512) 2 _ _ _ (wideIx b t n) rfl (partIx b t ⟨n.val, h⟩) ?_).trans (keys_apply x g wk b t _)
    exact fun a => match a with
      | ⟨0, _⟩ => rfl
      | ⟨1, _⟩ => rfl
      | ⟨2, _⟩ => rfl
  · have ew : weight wk wv n = fun k => wv (halfIx k ⟨n.val - 512, by omega⟩) := funext fun k => dif_neg h
    rw [ew]
    refine (concatenate_pair_apply_right (t := S8x256x1024) (s₁ := S8x256x512) (s₂ := S8x256x512) 2 _ _ _ (wideIx b t n) rfl rfl (partIx b t ⟨n.val - 512, by omega⟩) ?_ ?_).trans (values_apply x g wv b t _)
    · exact fun a => match a with
        | ⟨0, _⟩ => fun _ => rfl
        | ⟨1, _⟩ => fun _ => rfl
        | ⟨2, _⟩ => fun hne => absurd rfl hne
    · show n.val - 512 + 512 = n.val; omega

/-- Entry `(r, n)` of the reference's result. -/
theorem output_apply (i : S2048x1024.Idx) :
    val_main_v19 (F := Ideal) x g wk wv i = project (fun j => x (memIx ⟨(i 0).val / 256, by have h0 : (i 0).val < 2048 := (i 0).isLt; omega⟩ ⟨(i 0).val % 256, Nat.mod_lt _ (by decide)⟩ j)) (fun j => g (gainIx j)) (weight wk wv ⟨(i 1).val, (i 1).isLt⟩) := by
  rw [val_main_v19_apply]
  have h0 : (i 0).val < 2048 := (i 0).isLt
  have h1 : (i 1).val < 1024 := (i 1).isLt
  have e : idx_main_v19 i = wideIx ⟨(i 0).val / 256, by omega⟩ ⟨(i 0).val % 256, Nat.mod_lt _ (by decide)⟩ ⟨(i 1).val, h1⟩ := funext fun a => Fin.ext (match a with
    | ⟨0, _⟩ => by show ((i 0).val * 1024 + (i 1).val) / 262144 = (i 0).val / 256; omega
    | ⟨1, _⟩ => by show ((i 0).val * 1024 + (i 1).val) / 1024 % 256 = (i 0).val % 256; omega
    | ⟨2, _⟩ => by show ((i 0).val * 1024 + (i 1).val) % 1024 = (i 1).val; omega)
  rw [e, both_apply]

end Cert.MemKVRefIdeal.Plain

end
-- ==== Proof.ProjPromptIdeal.Body.lean ====
module

public import proofs.«01_k».proof.Proof.Gen.ProjPromptIdeal.Value
public import proofs.«01_k».proof.Proof.Shared.Norm
public import Idealize.ShloMosaic.Lib.Pipeline.Value
public import Idealize.ShloMosaic.Lib.ValueIdxCore
public import Idealize.ShloMosaic.PureOps.Ideal.Laws

@[expose] public section

set_option maxRecDepth 16384

noncomputable section

namespace Cert.ProjPromptIdeal.Rows

open Idealize.ShloMosaic Idealize.ShloMosaic.TcCoe Idealize.ShloMosaic.Tactic
open Cert.ProjPromptIdeal Cert.ProjPromptIdeal.Gen Cert.Norm

/-- Entry `(r, k)` of a block of rows. -/
abbrev rowIx (r : Fin 1024) (k : Fin 2048) : S1024x2048.Idx := fun a => match a with
  | ⟨0, _⟩ => ⟨r.val, r.isLt⟩
  | ⟨1, _⟩ => ⟨k.val, k.isLt⟩

/-- Entry `k` of the gains. -/
abbrev gainIx (k : Fin 2048) : S1x2048.Idx := fun a => match a with
  | ⟨0, _⟩ => ⟨0, Nat.one_pos⟩
  | ⟨1, _⟩ => ⟨k.val, k.isLt⟩

/-- Entry `(k, q)` of a block of columns. -/
abbrev colIx (k : Fin 2048) (q : Fin 512) : S2048x512.Idx := fun a => match a with
  | ⟨0, _⟩ => ⟨k.val, k.isLt⟩
  | ⟨1, _⟩ => ⟨q.val, q.isLt⟩

/-- Entry `(r, q)` of a block of the result. -/
abbrev outIx (r : Fin 1024) (q : Fin 512) : S1024x512.Idx := fun a => match a with
  | ⟨0, _⟩ => ⟨r.val, r.isLt⟩
  | ⟨1, _⟩ => ⟨q.val, q.isLt⟩

/-- Entry `r` of a column of one number per row. -/
abbrev onlyIx (r : Fin 1024) : S1024x1.Idx := fun a => match a with
  | ⟨0, _⟩ => ⟨r.val, r.isLt⟩
  | ⟨1, _⟩ => ⟨0, Nat.one_pos⟩

abbrev flatIx (r : Fin 1024) : S1024.Idx := fun a => match a with
  | ⟨0, _⟩ => ⟨r.val, r.isLt⟩

/-- A column spread over the row's entries. -/
theorem only_spread (v : Vec Ideal S1024x1 .f32) (r : Fin 1024) (k : Fin 2048) : broadcastTo S1024x2048 v broadcasts_S1024x1_S1024x2048 (rowIx r k) = v (onlyIx r) := by
  refine broadcastTo_apply _ _ (rowIx r k) (onlyIx r) ?_
  refine Fin.forall_fin_two.mpr ⟨?_, ?_⟩
  · show r.val = if (1024 : ℕ) = 1 then 0 else r.val; rw [if_neg (by decide)]
  · show 0 = if (1 : ℕ) = 1 then 0 else _; rw [if_pos rfl]

/-- The gain spread over the rows. -/
theorem gain_spread (v : Vec Ideal S1x2048 .f32) (r : Fin 1024) (k : Fin 2048) : broadcastTo S1024x2048 v broadcasts_S1x2048_S1024x2048 (rowIx r k) = v (gainIx k) := by
  refine broadcastTo_apply _ _ (rowIx r k) (gainIx k) ?_
  refine Fin.forall_fin_two.mpr ⟨?_, ?_⟩
  · show 0 = if (1 : ℕ) = 1 then 0 else _; rw [if_pos rfl]
  · show k.val = if (2048 : ℕ) = 1 then 0 else k.val; rw [if_neg (by decide)]

/-- A flat array seen as a column. -/
theorem only_cast (v : Vec Ideal S1024 .f32) (r : Fin 1024) : shapeCast S1024x1 v shapeCasts_S1024_S1024x1 (onlyIx r) = v (flatIx r) := by
  refine shapeCast_apply v _ (onlyIx r) (flatIx r) ?_
  rw [Shape.rowMajor_val_one, Shape.rowMajor_val_two]
  show r.val = r.val * 1 + 0
  omega

/-- A sum along the rows. -/
theorem row_sum (v : FVec Ideal S1024x2048 .f32) (r : Fin 1024) :
    multiReduction (F := Ideal) .add [1] S1024 v 0x00000000#32 reduces_S1024x2048_S1024 (.inl rfl) rfl (flatIx r) = ∑ k : Fin 2048, v (rowIx r k) := by
  refine (Ideal.multiReduction_add_single _ _ _ _ _ _).trans ?_
  refine Finset.sum_congr rfl fun k _ => congrArg v (funext fun a => Fin.ext ?_)
  match a with
  | ⟨0, _⟩ => rfl
  | ⟨1, _⟩ => rfl

/-- The kept rows are the normalized rows. -/
theorem norm_apply (x : Vec Ideal S1024x2048 .f32) (g : Vec Ideal S1x2048 .f32) (r : Fin 1024) (k : Fin 2048) :
    k0_pay1 x g (rowIx r k) = normed (fun j => x (rowIx r j)) (fun j => g (gainIx j)) k := by
  unfold k0_pay1
  dsimp only
  rw [shapeCast_self, shapeCast_self, shapeCast_self]
  show x (rowIx r k) * broadcastTo S1024x2048 _ broadcasts_S1024x1_S1024x2048 (rowIx r k) * broadcastTo S1024x2048 g broadcasts_S1x2048_S1024x2048 (rowIx r k) = _
  rw [only_spread, gain_spread]
  show x (rowIx r k) * Ideal.rsqrt (Ideal.div (shapeCast S1024x1 _ shapeCasts_S1024_S1024x1 (onlyIx r)) width + eps) * g (gainIx k) = _
  rw [only_cast, row_sum]
  rfl

/-- The product takes the row of its left side from the result's row. -/
theorem lhs_row (i : S1024x512.Idx) (q : dot_S1024x2048_S2048x512_S1024x512_1_0_0_1_n_n.contr.Idx) : (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl

/-- The product takes the column of its right side from the result's column. -/
theorem rhs_col (i : S1024x512.Idx) (q : dot_S1024x2048_S2048x512_S1024x512_1_0_0_1_n_n.contr.Idx) : (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- A block of the product, entry by entry. -/
theorem product_apply (l : Vec Ideal S1024x2048 .bf16) (w : Vec Ideal S2048x512 .bf16) (r : Fin 1024) (q : Fin 512) :
    k0_pay2 (F := Ideal) l w (outIx r q) = ∑ k : Fin 2048, l (rowIx r k) * w (colIx k q) := by
  unfold k0_pay2
  rw [shapeCast_self]
  refine (Ideal.matmul_apply (φ₁ := .bf16) (φ₂ := .bf16) _ _ _ _ _ _).trans ?_
  rw [← Equiv.sum_comp (ValueIdx.contrEquiv1 dot_S1024x2048_S2048x512_S1024x512_1_0_0_1_n_n 2048 rfl rfl).symm]
  refine Eq.trans (congrArg (· + _) Ideal.ofBits_zero_f32) ?_
  rw [zero_add]
  refine Finset.sum_congr rfl fun k _ => ?_
  have hk := ValueIdx.contrEquiv1_symm_val dot_S1024x2048_S2048x512_S1024x512_1_0_0_1_n_n 2048 rfl rfl k
  refine congrArg₂ (· * ·) (congrArg l (funext fun a => Fin.ext ?_)) (congrArg w (funext fun a => Fin.ext ?_))
  · match a with
    | ⟨0, _⟩ => exact lhs_row _ _
    | ⟨1, _⟩ => exact (dot_S1024x2048_S2048x512_S1024x512_1_0_0_1_n_n.lhsIdx_val_of_single rfl _ _).trans hk
  · match a with
    | ⟨0, _⟩ => exact (dot_S1024x2048_S2048x512_S1024x512_1_0_0_1_n_n.rhsIdx_val_of_single rfl _ _).trans hk
    | ⟨1, _⟩ => exact rhs_col _ _

/-- Two zero offsets. -/
theorem start_zero : (![0, 0] : Fin 2 → Nat) = fun _ => 0 := funext fun a => by fin_cases a <;> rfl

/-- What a first column block keeps for the later ones: the normalized rows. -/
theorem kept_first (c : Dev nD) (i : grid0.Coords) (a2 : Memref sig .tc .vmem S1024x2048 .f32) (h2 : a2.IsWhole) (a3 : Memref sig .tc .vmem S1x2048 .f32) (h3 : a3.IsWhole)
    (a4 : Memref sig .tc .vmem S2048x512 .bf16) (h4 : a4.IsWhole) (a5 : Memref sig .tc .vmem S1024x512 .f32) (h5 : a5.IsWhole) (a6 : Memref sig .tc .vmem S1024x2048 .bf16) (h6 : a6.IsWhole)
    (hc : cond0_0 i) (x : Vec Ideal S1024x2048 .f32) (g : Vec Ideal S1x2048 .f32) (w : Vec Ideal S2048x512 .bf16) :
    sout0_A_0 c i a2 h2 a3 h3 a4 h4 a5 h5 a6 h6 hc x g w = k0_pay1 x g := by
  unfold sout0_A_0
  rw [View.read_writes_junk_eq_canon]
  unfold kernelRun0_A
  dsimp only
  sl_unfold_words
  rw [View.canon_unit_zero start_zero]
  simp only [View.readAt_eq_ld, h2.read_unread, h3.read_unread, View.ld_unit_zero (S := S1024x2048) start_zero, View.ld_unit_zero (S := S1x2048) start_zero]

/-- A first column block's result. -/
theorem out_first (c : Dev nD) (i : grid0.Coords) (a2 : Memref sig .tc .vmem S1024x2048 .f32) (h2 : a2.IsWhole) (a3 : Memref sig .tc .vmem S1x2048 .f32) (h3 : a3.IsWhole)
    (a4 : Memref sig .tc .vmem S2048x512 .bf16) (h4 : a4.IsWhole) (a5 : Memref sig .tc .vmem S1024x512 .f32) (h5 : a5.IsWhole) (a6 : Memref sig .tc .vmem S1024x2048 .bf16) (h6 : a6.IsWhole)
    (hc : cond0_0 i) (x : Vec Ideal S1024x2048 .f32) (g : Vec Ideal S1x2048 .f32) (w : Vec Ideal S2048x512 .bf16) :
    out0_A_3 c i a2 h2 a3 h3 a4 h4 a5 h5 a6 h6 hc x g w = k0_pay2 (k0_pay1 x g) w := by
  unfold out0_A_3
  rw [View.read_writes_junk_eq_canon]
  unfold kernelRun0_A
  dsimp only
  sl_unfold_words
  rw [View.canon_unit_zero start_zero, View.readCov_unit_zero (S := S1024x2048) _ start_zero]
  simp only [View.readAt_eq_ld, h2.read_unread, h3.read_unread, h4.read_unread, View.ld_unit_zero (S := S1024x2048) start_zero, View.ld_unit_zero (S := S1x2048) start_zero,
    View.ld_unit_zero (S := S2048x512) start_zero]

/-- A later column block keeps what it found. -/
theorem kept_later (c : Dev nD) (i : grid0.Coords) (a2 : Memref sig .tc .vmem S1024x2048 .f32) (h2 : a2.IsWhole) (a3 : Memref sig .tc .vmem S1x2048 .f32) (h3 : a3.IsWhole)
    (a4 : Memref sig .tc .vmem S2048x512 .bf16) (h4 : a4.IsWhole) (a5 : Memref sig .tc .vmem S1024x512 .f32) (h5 : a5.IsWhole) (a6 : Memref sig .tc .vmem S1024x2048 .bf16) (h6 : a6.IsWhole)
    (hc : ¬cond0_0 i) (x : Vec Ideal S1024x2048 .f32) (g : Vec Ideal S1x2048 .f32) (w : Vec Ideal S2048x512 .bf16) (l : Vec Ideal S1024x2048 .bf16) :
    sout0_B_0 c i a2 h2 a3 h3 a4 h4 a5 h5 a6 h6 hc x g w l = l := by
  unfold sout0_B_0
  rfl

/-- A later column block's result, from the rows that it finds. -/
theorem out_later (c : Dev nD) (i : grid0.Coords) (a2 : Memref sig .tc .vmem S1024x2048 .f32) (h2 : a2.IsWhole) (a3 : Memref sig .tc .vmem S1x2048 .f32) (h3 : a3.IsWhole)
    (a4 : Memref sig .tc .vmem S2048x512 .bf16) (h4 : a4.IsWhole) (a5 : Memref sig .tc .vmem S1024x512 .f32) (h5 : a5.IsWhole) (a6 : Memref sig .tc .vmem S1024x2048 .bf16) (h6 : a6.IsWhole)
    (hc : ¬cond0_0 i) (x : Vec Ideal S1024x2048 .f32) (g : Vec Ideal S1x2048 .f32) (w : Vec Ideal S2048x512 .bf16) (l : Vec Ideal S1024x2048 .bf16) :
    out0_B_3 c i a2 h2 a3 h3 a4 h4 a5 h5 a6 h6 hc x g w l = k0_pay2 l w := by
  unfold out0_B_3
  rw [View.read_writes_junk_eq_canon]
  unfold kernelRun0_B
  dsimp only
  sl_unfold_words
  rw [View.canon_unit_zero start_zero]
  simp only [View.readAt_eq_ld, h4.read_unread, h6.read_unread, View.ld_unit_zero (S := S1024x2048) start_zero, View.ld_unit_zero (S := S2048x512) start_zero]

end Cert.ProjPromptIdeal.Rows

end
-- ==== Proof.ProjPromptIdeal.Prep.lean ====
module

public import proofs.«01_k».proof.Proof.ProjPromptIdeal.Body

@[expose] public section

set_option maxRecDepth 16384

noncomputable section

namespace Cert.ProjPromptIdeal.Rows

open Idealize.ShloMosaic Idealize.ShloMosaic.TcCoe Idealize.ShloMosaic.Tactic
open Cert.ProjPromptIdeal Cert.ProjPromptIdeal.Gen Cert.Norm

variable (m : (ℓ : Loc nD τ sig) → Buf (Elt Ideal) ℓ) (c : Dev nD)

/-- Entry `(b, t, k)` of the prompt's input. -/
abbrev entryIx (r : Fin 16384) (k : Fin 2048) : S8x2048x2048.Idx := fun a => match a with
  | ⟨0, _⟩ => ⟨r.val / 2048, by show r.val / 2048 < 8; omega⟩
  | ⟨1, _⟩ => ⟨r.val % 2048, by show r.val % 2048 < 2048; omega⟩
  | ⟨2, _⟩ => ⟨k.val, k.isLt⟩

/-- Entry `(k, n)` of the weights as they are given. -/
abbrev givenIx (k : Fin 2048) (n : Fin 6656) : S1x2048x6656.Idx := fun a => match a with
  | ⟨0, _⟩ => ⟨0, Nat.one_pos⟩
  | ⟨1, _⟩ => ⟨k.val, k.isLt⟩
  | ⟨2, _⟩ => ⟨n.val, n.isLt⟩

/-- Entry `(r, k)` of the rows as the call takes them. -/
abbrev xIx (r : Fin 16384) (k : Fin 2048) : S16384x2048.Idx := fun a => match a with
  | ⟨0, _⟩ => ⟨r.val, r.isLt⟩
  | ⟨1, _⟩ => ⟨k.val, k.isLt⟩

/-- Entry `(k, n)` of the weights as the call takes them. -/
abbrev wIx (k : Fin 2048) (n : Fin 6656) : S2048x6656.Idx := fun a => match a with
  | ⟨0, _⟩ => ⟨k.val, k.isLt⟩
  | ⟨1, _⟩ => ⟨n.val, n.isLt⟩

abbrev gIx (k : Fin 2048) : S2048.Idx := fun a => match a with
  | ⟨0, _⟩ => ⟨k.val, k.isLt⟩

/-- Row `r` of the prompt's input. -/
abbrev row (x : S8x2048x2048.Idx → EReal) (r : Fin 16384) (k : Fin 2048) : EReal := x (entryIx r k)

/-- The gains. -/
abbrev gain (g : S1x2048.Idx → EReal) (k : Fin 2048) : EReal := g (gainIx k)

/-- Column `n` of the weights. -/
abbrev weight (w : S1x2048x6656.Idx → EReal) (n : Fin 6656) (k : Fin 2048) : EReal := w (givenIx k n)

abbrev xA : S8x2048x2048.Idx → EReal := m ((c : Thread nD τ).loc main_arg0)
abbrev gA : S1x2048.Idx → EReal := m ((c : Thread nD τ).loc main_arg1)
abbrev wA : S1x2048x6656.Idx → EReal := m ((c : Thread nD τ).loc main_arg2)

/-- The inputs as rows. -/
theorem V_rows : (V m c main_v2 : S16384x2048.Idx → EReal) = shapeCast S16384x2048 (xA m c) shapeCasts_S8x2048x2048_S16384x2048 := by
  unfold V hostOps0
  after_results
  rfl

/-- The gain as a row. -/
theorem V_gain : (V m c main_v4 : S1x2048.Idx → EReal) = shapeCast S1x2048 (shapeCast S2048 (gA m c) shapeCasts_S1x2048_S2048) shapeCasts_S2048_S1x2048 := by
  unfold V hostOps0
  after_results
  rfl

/-- The weights as the call takes them. -/
theorem V_weight : (V m c main_v1 : S2048x6656.Idx → EReal) = shapeCast S2048x6656 (wA m c) shapeCasts_S1x2048x6656_S2048x6656 := by
  unfold V hostOps0
  after_results
  rfl

/-- The rows that the call finds are those of the prompt's input. -/
theorem rows_at (r : Fin 16384) (k : Fin 2048) : (V m c main_v2 : S16384x2048.Idx → EReal) (xIx r k) = row (xA m c) r k := by
  rw [V_rows]
  refine shapeCast_apply _ _ (xIx r k) (entryIx r k) ?_
  rw [Shape.rowMajor_val_three, Shape.rowMajor_val_two]
  show (r.val / 2048 * 2048 + r.val % 2048) * 2048 + k.val = r.val * 2048 + k.val
  omega

/-- The gains that the call finds. -/
theorem gain_at (k : Fin 2048) : (V m c main_v4 : S1x2048.Idx → EReal) (gainIx k) = gain (gA m c) k := by
  rw [V_gain]
  refine (shapeCast_apply _ _ (gainIx k) (gIx k) ?_).trans (shapeCast_apply _ _ (gIx k) (gainIx k) ?_)
  · rw [Shape.rowMajor_val_one, Shape.rowMajor_val_two]
    show k.val = 0 * 2048 + k.val
    omega
  · rw [Shape.rowMajor_val_one, Shape.rowMajor_val_two]
    show 0 * 2048 + k.val = k.val
    omega

/-- The weights that the call finds. -/
theorem weight_at (k : Fin 2048) (n : Fin 6656) : (V m c main_v1 : S2048x6656.Idx → EReal) (wIx k n) = weight (wA m c) n k := by
  rw [V_weight]
  refine shapeCast_apply _ _ (wIx k n) (givenIx k n) ?_
  rw [Shape.rowMajor_val_three, Shape.rowMajor_val_two]
  show (0 * 2048 + k.val) * 6656 + n.val = k.val * 6656 + n.val
  omega

end Cert.ProjPromptIdeal.Rows

end
-- ==== Proof.ProjPromptIdeal.Final.lean ====
module

public import proofs.«01_k».proof.Proof.ProjPromptIdeal.Prep

@[expose] public section

set_option maxRecDepth 16384

noncomputable section

namespace Cert.ProjPromptIdeal.Rows

open Idealize.ShloMosaic Idealize.ShloMosaic.TcCoe Idealize.ShloMosaic.Tactic
open Cert.ProjPromptIdeal Cert.ProjPromptIdeal.Gen Cert.ProjPromptIdeal.Value Cert.Norm

variable (m : (ℓ : Loc nD τ sig) → Buf (Elt Ideal) ℓ) (c : Dev nD)

/-- The blocks that each window is at, point by point. -/
theorem at_rows : ∀ t : Fin cfg0.N, win0_0.index t (0 : Fin 2) = t.val / 13 ∧ win0_0.index t (1 : Fin 2) = 0 :=
  (by decide +kernel : ∀ t : Fin grid0.N, _)
/-- Every point reads the whole gain. -/
theorem at_gain : ∀ t : Fin cfg0.N, win0_1.index t (0 : Fin 2) = 0 ∧ win0_1.index t (1 : Fin 2) = 0 :=
  (by decide +kernel : ∀ t : Fin grid0.N, _)
/-- The columns of the weights that a point reads. -/
theorem at_cols : ∀ t : Fin cfg0.N, win0_2.index t (0 : Fin 2) = 0 ∧ win0_2.index t (1 : Fin 2) = t.val % 13 :=
  (by decide +kernel : ∀ t : Fin grid0.N, _)

/-- Row `r` of the rows of point `n`. -/
abbrev rowOf (n : ℕ) (hn : n < cfg0.N) (r : Fin 1024) : Fin 16384 := ⟨1024 * (n / 13) + r.val, by have := lt_of_lt_of_eq hn (show cfg0.N = 208 from N_0); omega⟩

/-- Column `q` of the columns of point `n`. -/
abbrev colOf (n : ℕ) (q : Fin 512) : Fin 6656 := ⟨512 * (n % 13) + q.val, by omega⟩

/-- The rows that a point is given. -/
theorem block_rows (t : Fin cfg0.N) (r : Fin 1024) (k : Fin 2048) : (iblk m c 0 t : S1024x2048.Idx → EReal) (rowIx r k) = row (xA m c) (rowOf t.val t.isLt r) k := by
  obtain ⟨e0, e1⟩ := at_rows t
  unfold iblk
  have hk : ∀ a : Fin 2, (((cfg0.win 0).blk t).view.emb (rowIx r k) a).val = win0_0.index t a * S1024x2048.size a + 1 * ((rowIx r k) a).val := fun a => rfl
  refine Eq.trans ?_ (rows_at m c (rowOf t.val t.isLt r) k)
  show (V m c main_v2 : S16384x2048.Idx → EReal) (((cfg0.win 0).blk t).view.emb (rowIx r k)) = _
  refine congrArg (V m c main_v2 : S16384x2048.Idx → EReal) (funext fun a => Fin.ext ((hk a).trans ?_))
  match a with
  | ⟨0, _⟩ => show win0_0.index t (0 : Fin 2) * 1024 + 1 * r.val = 1024 * (t.val / 13) + r.val; rw [e0]; omega
  | ⟨1, _⟩ => show win0_0.index t (1 : Fin 2) * 2048 + 1 * k.val = k.val; rw [e1]; omega

/-- The gains that a point is given. -/
theorem block_gain (t : Fin cfg0.N) (k : Fin 2048) : (iblk m c 1 t : S1x2048.Idx → EReal) (gainIx k) = gain (gA m c) k := by
  obtain ⟨e0, e1⟩ := at_gain t
  unfold iblk
  have hk : ∀ a : Fin 2, (((cfg0.win 1).blk t).view.emb (gainIx k) a).val = win0_1.index t a * S1x2048.size a + 1 * ((gainIx k) a).val := fun a => rfl
  refine Eq.trans ?_ (gain_at m c k)
  show (V m c main_v4 : S1x2048.Idx → EReal) (((cfg0.win 1).blk t).view.emb (gainIx k)) = _
  refine congrArg (V m c main_v4 : S1x2048.Idx → EReal) (funext fun a => Fin.ext ((hk a).trans ?_))
  match a with
  | ⟨0, _⟩ => show win0_1.index t (0 : Fin 2) * 1 + 1 * 0 = 0; rw [e0]
  | ⟨1, _⟩ => show win0_1.index t (1 : Fin 2) * 2048 + 1 * k.val = k.val; rw [e1]; omega

/-- The columns that a point is given. -/
theorem block_cols (t : Fin cfg0.N) (k : Fin 2048) (q : Fin 512) : (iblk m c 2 t : S2048x512.Idx → EReal) (colIx k q) = weight (wA m c) (colOf t.val q) k := by
  obtain ⟨e0, e1⟩ := at_cols t
  unfold iblk
  have hk : ∀ a : Fin 2, (((cfg0.win 2).blk t).view.emb (colIx k q) a).val = win0_2.index t a * S2048x512.size a + 1 * ((colIx k q) a).val := fun a => rfl
  refine Eq.trans ?_ (weight_at m c k (colOf t.val q))
  show (V m c main_v1 : S2048x6656.Idx → EReal) (((cfg0.win 2).blk t).view.emb (colIx k q)) = _
  refine congrArg (V m c main_v1 : S2048x6656.Idx → EReal) (funext fun a => Fin.ext ((hk a).trans ?_))
  match a with
  | ⟨0, _⟩ => show win0_2.index t (0 : Fin 2) * 2048 + 1 * k.val = k.val; rw [e0]; omega
  | ⟨1, _⟩ => show win0_2.index t (1 : Fin 2) * 512 + 1 * q.val = 512 * (t.val % 13) + q.val; rw [e1]; omega

/-- A point's first product is over its own normalized rows. -/
theorem first_norm (t : Fin cfg0.N) (r : Fin 1024) (k : Fin 2048) :
    k0_pay1 (F := Ideal) (iblk m c 0 t) (iblk m c 1 t) (rowIx r k) = normed (row (xA m c) (rowOf t.val t.isLt r)) (gain (gA m c)) k := by
  rw [norm_apply]
  simp only [block_rows m c t, block_gain m c t]

/-- After a point the kept rows are the normalized rows of its block of rows. -/
theorem kept_at : ∀ (n : ℕ) (hn : n < cfg0.N) (r : Fin 1024) (k : Fin 2048),
    (outsAt0 m c n hn).2 (rowIx r k) = normed (row (xA m c) (rowOf n hn r)) (gain (gA m c)) k := by
  intro n
  induction n with
  | zero =>
    intro hn r k
    rw [outsAt0_A m c ⟨0, hn⟩ (Nat.zero_mod _)]
    dsimp only
    rw [kept_first]
    exact first_norm m c ⟨0, hn⟩ r k
  | succ n ih =>
    intro hn r k
    by_cases h : (n + 1) % 13 = 0
    · rw [outsAt0_A m c ⟨n + 1, hn⟩ h]
      dsimp only
      rw [kept_first]
      exact first_norm m c ⟨n + 1, hn⟩ r k
    · rw [outsAt0_B m c ⟨n + 1, hn⟩ h]
      dsimp only
      rw [kept_later]
      refine (ih (Nat.lt_of_succ_lt hn) r k).trans ?_
      have e : rowOf n (Nat.lt_of_succ_lt hn) r = rowOf (n + 1) hn r := Fin.ext (by show 1024 * (n / 13) + r.val = 1024 * ((n + 1) / 13) + r.val; omega)
      rw [e]

/-- A point's result. -/
theorem out_at (n : ℕ) (hn : n < cfg0.N) (r : Fin 1024) (q : Fin 512) :
    (outsAt0 m c n hn).1 (outIx r q) = project (row (xA m c) (rowOf n hn r)) (gain (gA m c)) (weight (wA m c) (colOf n q)) := by
  by_cases h : n % 13 = 0
  · rw [outsAt0_A m c ⟨n, hn⟩ h]
    dsimp only
    rw [out_first, product_apply]
    refine Finset.sum_congr rfl fun k _ => ?_
    rw [first_norm m c ⟨n, hn⟩ r k, block_cols m c ⟨n, hn⟩ k q]
  · have hp : n - 1 < cfg0.N := Nat.lt_of_le_of_lt (Nat.sub_le _ _) hn
    rw [outsAt0_B m c ⟨n, hn⟩ h]
    dsimp only
    rw [out_later, product_apply]
    refine Finset.sum_congr rfl fun k _ => ?_
    have e : rowOf (n - 1) hp r = rowOf n hn r := Fin.ext (by show 1024 * ((n - 1) / 13) + r.val = 1024 * (n / 13) + r.val; omega)
    rw [kept_at m c (n - 1) hp r k, block_cols m c ⟨n, hn⟩ k q, e]

/-- The array of the projected rows. -/
def answers (x : S8x2048x2048.Idx → EReal) (g : S1x2048.Idx → EReal) (w : S1x2048x6656.Idx → EReal) : S16384x6656.Idx → EReal :=
  fun i => project (row x ⟨(i 0).val, (i 0).isLt⟩) (gain g) (weight w ⟨(i 1).val, (i 1).isLt⟩)

/-- The call leaves the projected rows. -/
theorem final : (G3 m c : S16384x6656.Idx → EReal) = answers (xA m c) (gA m c) (wA m c) := by
  funext i
  have h0 : (i 0).val < 16384 := (i 0).isLt
  have h1 : (i 1).val < 6656 := (i 1).isLt
  have hp : pt3Of i = 13 * ((i 0).val / 1024) + (i 1).val / 512 := by show 13 * ((i 0).val / 1024 - 0) + 1 * ((i 1).val / 512 - 0) = _; omega
  have hn : pt3Of i < cfg0.N := by rw [hp, show cfg0.N = 208 from N_0]; omega
  unfold G3
  rw [dif_pos hn, ← outsAt0_sweep m c (pt3Of i) hn]
  have hl : loc3Of i = outIx ⟨(i 0).val % 1024, by omega⟩ ⟨(i 1).val % 512, by omega⟩ := funext fun a => Fin.ext (match a with
    | ⟨0, _⟩ => rfl
    | ⟨1, _⟩ => rfl)
  rw [hl, out_at]
  unfold answers
  have er : rowOf (pt3Of i) hn ⟨(i 0).val % 1024, by omega⟩ = ⟨(i 0).val, h0⟩ := Fin.ext (by show 1024 * (pt3Of i / 13) + (i 0).val % 1024 = (i 0).val; rw [hp]; omega)
  have ec : colOf (pt3Of i) ⟨(i 1).val % 512, by omega⟩ = ⟨(i 1).val, h1⟩ := Fin.ext (by show 512 * (pt3Of i % 13) + (i 1).val % 512 = (i 1).val; rw [hp]; omega)
  rw [er, ec]

end Cert.ProjPromptIdeal.Rows

end
-- ==== Proof.ProjPromptRefIdeal.Entry.lean ====
module

public import proofs.«01_k».proof.Proof.Gen.ProjPromptRefIdeal.Read
public import proofs.«01_k».proof.Proof.Shared.Norm
public import Idealize.ShloMosaic.Lib.Pipeline.Value

@[expose] public section

set_option maxRecDepth 16384

noncomputable section

namespace Cert.ProjPromptRefIdeal.Plain

open Idealize.ShloMosaic Idealize.ShloMosaic.TcCoe
open Cert.ProjPromptRefIdeal Cert.ProjPromptRefIdeal.Gen Cert.ProjPromptRefIdeal.Read Cert.Norm

/-- Entry `(b, t, k)` of the prompt's input. -/
abbrev rowIx (b : Fin 8) (t : Fin 2048) (k : Fin 2048) : S8x2048x2048.Idx := fun a => match a with
  | ⟨0, _⟩ => ⟨b.val, b.isLt⟩
  | ⟨1, _⟩ => ⟨t.val, t.isLt⟩
  | ⟨2, _⟩ => ⟨k.val, k.isLt⟩

abbrev onlyIx (b : Fin 8) (t : Fin 2048) : S8x2048x1.Idx := fun a => match a with
  | ⟨0, _⟩ => ⟨b.val, b.isLt⟩
  | ⟨1, _⟩ => ⟨t.val, t.isLt⟩
  | ⟨2, _⟩ => ⟨0, Nat.one_pos⟩

abbrev gainIx (k : Fin 2048) : S1x2048.Idx := fun a => match a with
  | ⟨0, _⟩ => ⟨0, Nat.one_pos⟩
  | ⟨1, _⟩ => ⟨k.val, k.isLt⟩

abbrev givenIx (k : Fin 2048) (n : Fin 6656) : S1x2048x6656.Idx := fun a => match a with
  | ⟨0, _⟩ => ⟨0, Nat.one_pos⟩
  | ⟨1, _⟩ => ⟨k.val, k.isLt⟩
  | ⟨2, _⟩ => ⟨n.val, n.isLt⟩

abbrev wideIx (b : Fin 8) (t : Fin 2048) (n : Fin 6656) : S8x2048x6656.Idx := fun a => match a with
  | ⟨0, _⟩ => ⟨b.val, b.isLt⟩
  | ⟨1, _⟩ => ⟨t.val, t.isLt⟩
  | ⟨2, _⟩ => ⟨n.val, n.isLt⟩

variable (x : S8x2048x2048.Idx → EReal) (g : S1x2048.Idx → EReal) (w : S1x2048x6656.Idx → EReal)

/-- The mean square of a row of the prompt's input. -/
theorem mean_apply (b : Fin 8) (t : Fin 2048) : val_main_v5 (F := Ideal) x (onlyIx b t) = meanSq (fun k => x (rowIx b t k)) := by
  rw [val_main_v5_apply, Ideal.hostDivf_def, val_main_v3_apply, val_main_v2_apply, val_main_v4_apply, val_main_cst_0_apply, val_main_cst_apply]
  unfold meanSq
  refine congrArg (Ideal.div · width) ?_
  refine (congrArg (· + _) Ideal.ofBits_zero_f32).trans ((zero_add _).trans ?_)
  refine Finset.sum_congr rfl fun k _ => ?_
  rw [val_main_v1_apply]
  have e : idx_main_v2 (idx_main_v3 (onlyIx b t)) k = rowIx b t k := funext fun a => Fin.ext (match a with
    | ⟨0, _⟩ => rfl
    | ⟨1, _⟩ => rfl
    | ⟨2, _⟩ => rfl)
  rw [e]
  rfl

/-- A normalized row of the prompt's input. -/
theorem norm_apply (b : Fin 8) (t : Fin 2048) (k : Fin 2048) :
    val_main_v13 (F := Ideal) x g (rowIx b t k) = normed (fun j => x (rowIx b t j)) (fun j => g (gainIx j)) k := by
  rw [val_main_v13_apply, val_main_v10_apply, val_main_v9_apply, val_main_v8_apply, val_main_v7_apply, val_main_v6_apply, val_main_cst_1_apply,
    val_main_v12_apply, val_main_v11_apply, val_main_v0_apply]
  have e : idx_main_v9 (rowIx b t k) = onlyIx b t := funext fun a => Fin.ext (match a with
    | ⟨0, _⟩ => rfl
    | ⟨1, _⟩ => rfl
    | ⟨2, _⟩ => rfl)
  have eg : idx_main_v0 (idx_main_v11 (idx_main_v12 (rowIx b t k))) = gainIx k := funext fun a => Fin.ext (match a with
    | ⟨0, _⟩ => rfl
    | ⟨1, _⟩ => Nat.mod_eq_of_lt k.isLt)
  rw [e, eg, mean_apply]
  rfl

/-- The weights as the reference reads them. -/
theorem given_at (k : Fin 2048) (n : Fin 6656) (i : S2048x6656.Idx) (h0 : (i 0).val = k.val) (h1 : (i 1).val = n.val) : val_main_v14 (F := Ideal) w i = w (givenIx k n) := by
  rw [val_main_v14_apply]
  refine congrArg w (funext fun a => Fin.ext ?_)
  match a with
  | ⟨0, _⟩ => rfl
  | ⟨1, _⟩ => show ((i 0).val * 6656 + (i 1).val) / 6656 % 2048 = k.val; rw [h0, h1]; omega
  | ⟨2, _⟩ => show ((i 0).val * 6656 + (i 1).val) % 6656 = n.val; rw [h0, h1]; omega

/-- The product of the normalized rows and the weights. -/
theorem wide_apply (b : Fin 8) (t : Fin 2048) (n : Fin 6656) :
    val_main_v15 (F := Ideal) x g w (wideIx b t n) = project (fun j => x (rowIx b t j)) (fun j => g (gainIx j)) (fun k => w (givenIx k n)) := by
  rw [val_main_v15_apply]
  refine Finset.sum_congr rfl fun k _ => ?_
  have e : lidx_main_v15 (wideIx b t n) k = rowIx b t k := funext fun a => Fin.ext (match a with
    | ⟨0, _⟩ => rfl
    | ⟨1, _⟩ => rfl
    | ⟨2, _⟩ => rfl)
  rw [e, norm_apply, given_at w k n _ rfl rfl]

/-- Entry `(r, n)` of the reference's result. -/
theorem output_apply (i : S16384x6656.Idx) :
    val_main_v16 (F := Ideal) x g w i = project (fun j => x (rowIx ⟨(i 0).val / 2048, by have h0 : (i 0).val < 16384 := (i 0).isLt; omega⟩ ⟨(i 0).val % 2048, Nat.mod_lt _ (by decide)⟩ j)) (fun j => g (gainIx j)) (fun k => w (givenIx k ⟨(i 1).val, (i 1).isLt⟩)) := by
  rw [val_main_v16_apply]
  have h0 : (i 0).val < 16384 := (i 0).isLt
  have h1 : (i 1).val < 6656 := (i 1).isLt
  have e : idx_main_v16 i = wideIx ⟨(i 0).val / 2048, by omega⟩ ⟨(i 0).val % 2048, Nat.mod_lt _ (by decide)⟩ ⟨(i 1).val, h1⟩ := funext fun a => Fin.ext (match a with
    | ⟨0, _⟩ => by show ((i 0).val * 6656 + (i 1).val) / 13631488 = (i 0).val / 2048; omega
    | ⟨1, _⟩ => by show ((i 0).val * 6656 + (i 1).val) / 6656 % 2048 = (i 0).val % 2048; omega
    | ⟨2, _⟩ => by show ((i 0).val * 6656 + (i 1).val) % 6656 = (i 1).val; omega)
  rw [e, wide_apply]

end Cert.ProjPromptRefIdeal.Plain

end
-- ==== Proof.ProjSampleIdeal.Body.lean ====
module

public import proofs.«01_k».proof.Proof.Gen.ProjSampleIdeal.Value
public import proofs.«01_k».proof.Proof.Shared.Norm
public import Idealize.ShloMosaic.Lib.Pipeline.Value
public import Idealize.ShloMosaic.Lib.ValueIdxCore
public import Idealize.ShloMosaic.PureOps.Ideal.Laws

@[expose] public section

set_option maxRecDepth 16384

noncomputable section

namespace Cert.ProjSampleIdeal.Rows

open Idealize.ShloMosaic Idealize.ShloMosaic.TcCoe Idealize.ShloMosaic.Tactic
open Cert.ProjSampleIdeal Cert.ProjSampleIdeal.Gen Cert.Norm

/-- Entry `(r, k)` of a block of rows. -/
abbrev rowIx (r : Fin 1024) (k : Fin 2048) : S1024x2048.Idx := fun a => match a with
  | ⟨0, _⟩ => ⟨r.val, r.isLt⟩
  | ⟨1, _⟩ => ⟨k.val, k.isLt⟩

/-- Entry `k` of the gains. -/
abbrev gainIx (k : Fin 2048) : S1x2048.Idx := fun a => match a with
  | ⟨0, _⟩ => ⟨0, Nat.one_pos⟩
  | ⟨1, _⟩ => ⟨k.val, k.isLt⟩

/-- Entry `(k, q)` of a block of columns. -/
abbrev colIx (k : Fin 2048) (q : Fin 512) : S2048x512.Idx := fun a => match a with
  | ⟨0, _⟩ => ⟨k.val, k.isLt⟩
  | ⟨1, _⟩ => ⟨q.val, q.isLt⟩

/-- Entry `(r, q)` of a block of the result. -/
abbrev outIx (r : Fin 1024) (q : Fin 512) : S1024x512.Idx := fun a => match a with
  | ⟨0, _⟩ => ⟨r.val, r.isLt⟩
  | ⟨1, _⟩ => ⟨q.val, q.isLt⟩

/-- Entry `r` of a column of one number per row. -/
abbrev onlyIx (r : Fin 1024) : S1024x1.Idx := fun a => match a with
  | ⟨0, _⟩ => ⟨r.val, r.isLt⟩
  | ⟨1, _⟩ => ⟨0, Nat.one_pos⟩

abbrev flatIx (r : Fin 1024) : S1024.Idx := fun a => match a with
  | ⟨0, _⟩ => ⟨r.val, r.isLt⟩

/-- A column spread over the row's entries. -/
theorem only_spread (v : Vec Ideal S1024x1 .f32) (r : Fin 1024) (k : Fin 2048) : broadcastTo S1024x2048 v broadcasts_S1024x1_S1024x2048 (rowIx r k) = v (onlyIx r) := by
  refine broadcastTo_apply _ _ (rowIx r k) (onlyIx r) ?_
  refine Fin.forall_fin_two.mpr ⟨?_, ?_⟩
  · show r.val = if (1024 : ℕ) = 1 then 0 else r.val; rw [if_neg (by decide)]
  · show 0 = if (1 : ℕ) = 1 then 0 else _; rw [if_pos rfl]

/-- The gain spread over the rows. -/
theorem gain_spread (v : Vec Ideal S1x2048 .f32) (r : Fin 1024) (k : Fin 2048) : broadcastTo S1024x2048 v broadcasts_S1x2048_S1024x2048 (rowIx r k) = v (gainIx k) := by
  refine broadcastTo_apply _ _ (rowIx r k) (gainIx k) ?_
  refine Fin.forall_fin_two.mpr ⟨?_, ?_⟩
  · show 0 = if (1 : ℕ) = 1 then 0 else _; rw [if_pos rfl]
  · show k.val = if (2048 : ℕ) = 1 then 0 else k.val; rw [if_neg (by decide)]

/-- A flat array seen as a column. -/
theorem only_cast (v : Vec Ideal S1024 .f32) (r : Fin 1024) : shapeCast S1024x1 v shapeCasts_S1024_S1024x1 (onlyIx r) = v (flatIx r) := by
  refine shapeCast_apply v _ (onlyIx r) (flatIx r) ?_
  rw [Shape.rowMajor_val_one, Shape.rowMajor_val_two]
  show r.val = r.val * 1 + 0
  omega

/-- A sum along the rows. -/
theorem row_sum (v : FVec Ideal S1024x2048 .f32) (r : Fin 1024) :
    multiReduction (F := Ideal) .add [1] S1024 v 0x00000000#32 reduces_S1024x2048_S1024 (.inl rfl) rfl (flatIx r) = ∑ k : Fin 2048, v (rowIx r k) := by
  refine (Ideal.multiReduction_add_single _ _ _ _ _ _).trans ?_
  refine Finset.sum_congr rfl fun k _ => congrArg v (funext fun a => Fin.ext ?_)
  match a with
  | ⟨0, _⟩ => rfl
  | ⟨1, _⟩ => rfl

/-- The kept rows are the normalized rows. -/
theorem norm_apply (x : Vec Ideal S1024x2048 .f32) (g : Vec Ideal S1x2048 .f32) (r : Fin 1024) (k : Fin 2048) :
    k0_pay1 x g (rowIx r k) = normed (fun j => x (rowIx r j)) (fun j => g (gainIx j)) k := by
  unfold k0_pay1
  dsimp only
  rw [shapeCast_self, shapeCast_self, shapeCast_self]
  show x (rowIx r k) * broadcastTo S1024x2048 _ broadcasts_S1024x1_S1024x2048 (rowIx r k) * broadcastTo S1024x2048 g broadcasts_S1x2048_S1024x2048 (rowIx r k) = _
  rw [only_spread, gain_spread]
  show x (rowIx r k) * Ideal.rsqrt (Ideal.div (shapeCast S1024x1 _ shapeCasts_S1024_S1024x1 (onlyIx r)) width + eps) * g (gainIx k) = _
  rw [only_cast, row_sum]
  rfl

/-- The product takes the row of its left side from the result's row. -/
theorem lhs_row (i : S1024x512.Idx) (q : dot_S1024x2048_S2048x512_S1024x512_1_0_0_1_n_n.contr.Idx) : (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl

/-- The product takes the column of its right side from the result's column. -/
theorem rhs_col (i : S1024x512.Idx) (q : dot_S1024x2048_S2048x512_S1024x512_1_0_0_1_n_n.contr.Idx) : (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- A block of the product, entry by entry. -/
theorem product_apply (l : Vec Ideal S1024x2048 .bf16) (w : Vec Ideal S2048x512 .bf16) (r : Fin 1024) (q : Fin 512) :
    k0_pay2 (F := Ideal) l w (outIx r q) = ∑ k : Fin 2048, l (rowIx r k) * w (colIx k q) := by
  unfold k0_pay2
  rw [shapeCast_self]
  refine (Ideal.matmul_apply (φ₁ := .bf16) (φ₂ := .bf16) _ _ _ _ _ _).trans ?_
  rw [← Equiv.sum_comp (ValueIdx.contrEquiv1 dot_S1024x2048_S2048x512_S1024x512_1_0_0_1_n_n 2048 rfl rfl).symm]
  refine Eq.trans (congrArg (· + _) Ideal.ofBits_zero_f32) ?_
  rw [zero_add]
  refine Finset.sum_congr rfl fun k _ => ?_
  have hk := ValueIdx.contrEquiv1_symm_val dot_S1024x2048_S2048x512_S1024x512_1_0_0_1_n_n 2048 rfl rfl k
  refine congrArg₂ (· * ·) (congrArg l (funext fun a => Fin.ext ?_)) (congrArg w (funext fun a => Fin.ext ?_))
  · match a with
    | ⟨0, _⟩ => exact lhs_row _ _
    | ⟨1, _⟩ => exact (dot_S1024x2048_S2048x512_S1024x512_1_0_0_1_n_n.lhsIdx_val_of_single rfl _ _).trans hk
  · match a with
    | ⟨0, _⟩ => exact (dot_S1024x2048_S2048x512_S1024x512_1_0_0_1_n_n.rhsIdx_val_of_single rfl _ _).trans hk
    | ⟨1, _⟩ => exact rhs_col _ _

/-- Two zero offsets. -/
theorem start_zero : (![0, 0] : Fin 2 → Nat) = fun _ => 0 := funext fun a => by fin_cases a <;> rfl

/-- What a first column block keeps for the later ones: the normalized rows. -/
theorem kept_first (c : Dev nD) (i : grid0.Coords) (a2 : Memref sig .tc .vmem S1024x2048 .f32) (h2 : a2.IsWhole) (a3 : Memref sig .tc .vmem S1x2048 .f32) (h3 : a3.IsWhole)
    (a4 : Memref sig .tc .vmem S2048x512 .bf16) (h4 : a4.IsWhole) (a5 : Memref sig .tc .vmem S1024x512 .f32) (h5 : a5.IsWhole) (a6 : Memref sig .tc .vmem S1024x2048 .bf16) (h6 : a6.IsWhole)
    (hc : cond0_0 i) (x : Vec Ideal S1024x2048 .f32) (g : Vec Ideal S1x2048 .f32) (w : Vec Ideal S2048x512 .bf16) :
    sout0_A_0 c i a2 h2 a3 h3 a4 h4 a5 h5 a6 h6 hc x g w = k0_pay1 x g := by
  unfold sout0_A_0
  rw [View.read_writes_junk_eq_canon]
  unfold kernelRun0_A
  dsimp only
  sl_unfold_words
  rw [View.canon_unit_zero start_zero]
  simp only [View.readAt_eq_ld, h2.read_unread, h3.read_unread, View.ld_unit_zero (S := S1024x2048) start_zero, View.ld_unit_zero (S := S1x2048) start_zero]

/-- A first column block's result. -/
theorem out_first (c : Dev nD) (i : grid0.Coords) (a2 : Memref sig .tc .vmem S1024x2048 .f32) (h2 : a2.IsWhole) (a3 : Memref sig .tc .vmem S1x2048 .f32) (h3 : a3.IsWhole)
    (a4 : Memref sig .tc .vmem S2048x512 .bf16) (h4 : a4.IsWhole) (a5 : Memref sig .tc .vmem S1024x512 .f32) (h5 : a5.IsWhole) (a6 : Memref sig .tc .vmem S1024x2048 .bf16) (h6 : a6.IsWhole)
    (hc : cond0_0 i) (x : Vec Ideal S1024x2048 .f32) (g : Vec Ideal S1x2048 .f32) (w : Vec Ideal S2048x512 .bf16) :
    out0_A_3 c i a2 h2 a3 h3 a4 h4 a5 h5 a6 h6 hc x g w = k0_pay2 (k0_pay1 x g) w := by
  unfold out0_A_3
  rw [View.read_writes_junk_eq_canon]
  unfold kernelRun0_A
  dsimp only
  sl_unfold_words
  rw [View.canon_unit_zero start_zero, View.readCov_unit_zero (S := S1024x2048) _ start_zero]
  simp only [View.readAt_eq_ld, h2.read_unread, h3.read_unread, h4.read_unread, View.ld_unit_zero (S := S1024x2048) start_zero, View.ld_unit_zero (S := S1x2048) start_zero,
    View.ld_unit_zero (S := S2048x512) start_zero]

/-- A later column block keeps what it found. -/
theorem kept_later (c : Dev nD) (i : grid0.Coords) (a2 : Memref sig .tc .vmem S1024x2048 .f32) (h2 : a2.IsWhole) (a3 : Memref sig .tc .vmem S1x2048 .f32) (h3 : a3.IsWhole)
    (a4 : Memref sig .tc .vmem S2048x512 .bf16) (h4 : a4.IsWhole) (a5 : Memref sig .tc .vmem S1024x512 .f32) (h5 : a5.IsWhole) (a6 : Memref sig .tc .vmem S1024x2048 .bf16) (h6 : a6.IsWhole)
    (hc : ¬cond0_0 i) (x : Vec Ideal S1024x2048 .f32) (g : Vec Ideal S1x2048 .f32) (w : Vec Ideal S2048x512 .bf16) (l : Vec Ideal S1024x2048 .bf16) :
    sout0_B_0 c i a2 h2 a3 h3 a4 h4 a5 h5 a6 h6 hc x g w l = l := by
  unfold sout0_B_0
  rfl

/-- A later column block's result, from the rows that it finds. -/
theorem out_later (c : Dev nD) (i : grid0.Coords) (a2 : Memref sig .tc .vmem S1024x2048 .f32) (h2 : a2.IsWhole) (a3 : Memref sig .tc .vmem S1x2048 .f32) (h3 : a3.IsWhole)
    (a4 : Memref sig .tc .vmem S2048x512 .bf16) (h4 : a4.IsWhole) (a5 : Memref sig .tc .vmem S1024x512 .f32) (h5 : a5.IsWhole) (a6 : Memref sig .tc .vmem S1024x2048 .bf16) (h6 : a6.IsWhole)
    (hc : ¬cond0_0 i) (x : Vec Ideal S1024x2048 .f32) (g : Vec Ideal S1x2048 .f32) (w : Vec Ideal S2048x512 .bf16) (l : Vec Ideal S1024x2048 .bf16) :
    out0_B_3 c i a2 h2 a3 h3 a4 h4 a5 h5 a6 h6 hc x g w l = k0_pay2 l w := by
  unfold out0_B_3
  rw [View.read_writes_junk_eq_canon]
  unfold kernelRun0_B
  dsimp only
  sl_unfold_words
  rw [View.canon_unit_zero start_zero]
  simp only [View.readAt_eq_ld, h4.read_unread, h6.read_unread, View.ld_unit_zero (S := S1024x2048) start_zero, View.ld_unit_zero (S := S2048x512) start_zero]

end Cert.ProjSampleIdeal.Rows

end
-- ==== Proof.ProjSampleIdeal.Prep.lean ====
module

public import proofs.«01_k».proof.Proof.ProjSampleIdeal.Body

@[expose] public section

set_option maxRecDepth 16384

noncomputable section

namespace Cert.ProjSampleIdeal.Rows

open Idealize.ShloMosaic Idealize.ShloMosaic.TcCoe Idealize.ShloMosaic.Tactic
open Cert.ProjSampleIdeal Cert.ProjSampleIdeal.Gen Cert.Norm

variable (m : (ℓ : Loc nD τ sig) → Buf (Elt Ideal) ℓ) (c : Dev nD)

/-- Entry `(b, t, k)` of the sample's input. -/
abbrev entryIx (r : Fin 1024) (k : Fin 2048) : S16x64x2048.Idx := fun a => match a with
  | ⟨0, _⟩ => ⟨r.val / 64, by show r.val / 64 < 16; omega⟩
  | ⟨1, _⟩ => ⟨r.val % 64, by show r.val % 64 < 64; omega⟩
  | ⟨2, _⟩ => ⟨k.val, k.isLt⟩

/-- Entry `(k, n)` of the weights as they are given. -/
abbrev givenIx (k : Fin 2048) (n : Fin 6656) : S1x2048x6656.Idx := fun a => match a with
  | ⟨0, _⟩ => ⟨0, Nat.one_pos⟩
  | ⟨1, _⟩ => ⟨k.val, k.isLt⟩
  | ⟨2, _⟩ => ⟨n.val, n.isLt⟩

/-- Entry `(r, k)` of the rows as the call takes them. -/
abbrev xIx (r : Fin 1024) (k : Fin 2048) : S1024x2048.Idx := fun a => match a with
  | ⟨0, _⟩ => ⟨r.val, r.isLt⟩
  | ⟨1, _⟩ => ⟨k.val, k.isLt⟩

/-- Entry `(k, n)` of the weights as the call takes them. -/
abbrev wIx (k : Fin 2048) (n : Fin 6656) : S2048x6656.Idx := fun a => match a with
  | ⟨0, _⟩ => ⟨k.val, k.isLt⟩
  | ⟨1, _⟩ => ⟨n.val, n.isLt⟩

abbrev gIx (k : Fin 2048) : S2048.Idx := fun a => match a with
  | ⟨0, _⟩ => ⟨k.val, k.isLt⟩

/-- Row `r` of the sample's input. -/
abbrev row (x : S16x64x2048.Idx → EReal) (r : Fin 1024) (k : Fin 2048) : EReal := x (entryIx r k)

/-- The gains. -/
abbrev gain (g : S1x2048.Idx → EReal) (k : Fin 2048) : EReal := g (gainIx k)

/-- Column `n` of the weights. -/
abbrev weight (w : S1x2048x6656.Idx → EReal) (n : Fin 6656) (k : Fin 2048) : EReal := w (givenIx k n)

abbrev xA : S16x64x2048.Idx → EReal := m ((c : Thread nD τ).loc main_arg0)
abbrev gA : S1x2048.Idx → EReal := m ((c : Thread nD τ).loc main_arg1)
abbrev wA : S1x2048x6656.Idx → EReal := m ((c : Thread nD τ).loc main_arg2)

/-- The inputs as rows. -/
theorem V_rows : (V m c main_v2 : S1024x2048.Idx → EReal) = shapeCast S1024x2048 (xA m c) shapeCasts_S16x64x2048_S1024x2048 := by
  unfold V hostOps0
  after_results
  rfl

/-- The gain as a row. -/
theorem V_gain : (V m c main_v4 : S1x2048.Idx → EReal) = shapeCast S1x2048 (shapeCast S2048 (gA m c) shapeCasts_S1x2048_S2048) shapeCasts_S2048_S1x2048 := by
  unfold V hostOps0
  after_results
  rfl

/-- The weights as the call takes them. -/
theorem V_weight : (V m c main_v1 : S2048x6656.Idx → EReal) = shapeCast S2048x6656 (wA m c) shapeCasts_S1x2048x6656_S2048x6656 := by
  unfold V hostOps0
  after_results
  rfl

/-- The rows that the call finds are those of the sample's input. -/
theorem rows_at (r : Fin 1024) (k : Fin 2048) : (V m c main_v2 : S1024x2048.Idx → EReal) (xIx r k) = row (xA m c) r k := by
  rw [V_rows]
  refine shapeCast_apply _ _ (xIx r k) (entryIx r k) ?_
  rw [Shape.rowMajor_val_three, Shape.rowMajor_val_two]
  show (r.val / 64 * 64 + r.val % 64) * 2048 + k.val = r.val * 2048 + k.val
  omega

/-- The gains that the call finds. -/
theorem gain_at (k : Fin 2048) : (V m c main_v4 : S1x2048.Idx → EReal) (gainIx k) = gain (gA m c) k := by
  rw [V_gain]
  refine (shapeCast_apply _ _ (gainIx k) (gIx k) ?_).trans (shapeCast_apply _ _ (gIx k) (gainIx k) ?_)
  · rw [Shape.rowMajor_val_one, Shape.rowMajor_val_two]
    show k.val = 0 * 2048 + k.val
    omega
  · rw [Shape.rowMajor_val_one, Shape.rowMajor_val_two]
    show 0 * 2048 + k.val = k.val
    omega

/-- The weights that the call finds. -/
theorem weight_at (k : Fin 2048) (n : Fin 6656) : (V m c main_v1 : S2048x6656.Idx → EReal) (wIx k n) = weight (wA m c) n k := by
  rw [V_weight]
  refine shapeCast_apply _ _ (wIx k n) (givenIx k n) ?_
  rw [Shape.rowMajor_val_three, Shape.rowMajor_val_two]
  show (0 * 2048 + k.val) * 6656 + n.val = k.val * 6656 + n.val
  omega

end Cert.ProjSampleIdeal.Rows

end
-- ==== Proof.ProjSampleIdeal.Final.lean ====
module

public import proofs.«01_k».proof.Proof.ProjSampleIdeal.Prep

@[expose] public section

set_option maxRecDepth 16384

noncomputable section

namespace Cert.ProjSampleIdeal.Rows

open Idealize.ShloMosaic Idealize.ShloMosaic.TcCoe Idealize.ShloMosaic.Tactic
open Cert.ProjSampleIdeal Cert.ProjSampleIdeal.Gen Cert.ProjSampleIdeal.Value Cert.Norm

variable (m : (ℓ : Loc nD τ sig) → Buf (Elt Ideal) ℓ) (c : Dev nD)

/-- The blocks that each window is at, point by point. -/
theorem at_rows : ∀ t : Fin cfg0.N, win0_0.index t (0 : Fin 2) = t.val / 13 ∧ win0_0.index t (1 : Fin 2) = 0 :=
  (by decide +kernel : ∀ t : Fin grid0.N, _)
/-- Every point reads the whole gain. -/
theorem at_gain : ∀ t : Fin cfg0.N, win0_1.index t (0 : Fin 2) = 0 ∧ win0_1.index t (1 : Fin 2) = 0 :=
  (by decide +kernel : ∀ t : Fin grid0.N, _)
/-- The columns of the weights that a point reads. -/
theorem at_cols : ∀ t : Fin cfg0.N, win0_2.index t (0 : Fin 2) = 0 ∧ win0_2.index t (1 : Fin 2) = t.val % 13 :=
  (by decide +kernel : ∀ t : Fin grid0.N, _)

/-- Row `r` of the rows of point `n`. -/
abbrev rowOf (n : ℕ) (hn : n < cfg0.N) (r : Fin 1024) : Fin 1024 := ⟨1024 * (n / 13) + r.val, by have := lt_of_lt_of_eq hn (show cfg0.N = 13 from N_0); omega⟩

/-- Column `q` of the columns of point `n`. -/
abbrev colOf (n : ℕ) (q : Fin 512) : Fin 6656 := ⟨512 * (n % 13) + q.val, by omega⟩

/-- The rows that a point is given. -/
theorem block_rows (t : Fin cfg0.N) (r : Fin 1024) (k : Fin 2048) : (iblk m c 0 t : S1024x2048.Idx → EReal) (rowIx r k) = row (xA m c) (rowOf t.val t.isLt r) k := by
  obtain ⟨e0, e1⟩ := at_rows t
  unfold iblk
  have hk : ∀ a : Fin 2, (((cfg0.win 0).blk t).view.emb (rowIx r k) a).val = win0_0.index t a * S1024x2048.size a + 1 * ((rowIx r k) a).val := fun a => rfl
  refine Eq.trans ?_ (rows_at m c (rowOf t.val t.isLt r) k)
  show (V m c main_v2 : S1024x2048.Idx → EReal) (((cfg0.win 0).blk t).view.emb (rowIx r k)) = _
  refine congrArg (V m c main_v2 : S1024x2048.Idx → EReal) (funext fun a => Fin.ext ((hk a).trans ?_))
  match a with
  | ⟨0, _⟩ => show win0_0.index t (0 : Fin 2) * 1024 + 1 * r.val = 1024 * (t.val / 13) + r.val; rw [e0]; omega
  | ⟨1, _⟩ => show win0_0.index t (1 : Fin 2) * 2048 + 1 * k.val = k.val; rw [e1]; omega

/-- The gains that a point is given. -/
theorem block_gain (t : Fin cfg0.N) (k : Fin 2048) : (iblk m c 1 t : S1x2048.Idx → EReal) (gainIx k) = gain (gA m c) k := by
  obtain ⟨e0, e1⟩ := at_gain t
  unfold iblk
  have hk : ∀ a : Fin 2, (((cfg0.win 1).blk t).view.emb (gainIx k) a).val = win0_1.index t a * S1x2048.size a + 1 * ((gainIx k) a).val := fun a => rfl
  refine Eq.trans ?_ (gain_at m c k)
  show (V m c main_v4 : S1x2048.Idx → EReal) (((cfg0.win 1).blk t).view.emb (gainIx k)) = _
  refine congrArg (V m c main_v4 : S1x2048.Idx → EReal) (funext fun a => Fin.ext ((hk a).trans ?_))
  match a with
  | ⟨0, _⟩ => show win0_1.index t (0 : Fin 2) * 1 + 1 * 0 = 0; rw [e0]
  | ⟨1, _⟩ => show win0_1.index t (1 : Fin 2) * 2048 + 1 * k.val = k.val; rw [e1]; omega

/-- The columns that a point is given. -/
theorem block_cols (t : Fin cfg0.N) (k : Fin 2048) (q : Fin 512) : (iblk m c 2 t : S2048x512.Idx → EReal) (colIx k q) = weight (wA m c) (colOf t.val q) k := by
  obtain ⟨e0, e1⟩ := at_cols t
  unfold iblk
  have hk : ∀ a : Fin 2, (((cfg0.win 2).blk t).view.emb (colIx k q) a).val = win0_2.index t a * S2048x512.size a + 1 * ((colIx k q) a).val := fun a => rfl
  refine Eq.trans ?_ (weight_at m c k (colOf t.val q))
  show (V m c main_v1 : S2048x6656.Idx → EReal) (((cfg0.win 2).blk t).view.emb (colIx k q)) = _
  refine congrArg (V m c main_v1 : S2048x6656.Idx → EReal) (funext fun a => Fin.ext ((hk a).trans ?_))
  match a with
  | ⟨0, _⟩ => show win0_2.index t (0 : Fin 2) * 2048 + 1 * k.val = k.val; rw [e0]; omega
  | ⟨1, _⟩ => show win0_2.index t (1 : Fin 2) * 512 + 1 * q.val = 512 * (t.val % 13) + q.val; rw [e1]; omega

/-- A point's first product is over its own normalized rows. -/
theorem first_norm (t : Fin cfg0.N) (r : Fin 1024) (k : Fin 2048) :
    k0_pay1 (F := Ideal) (iblk m c 0 t) (iblk m c 1 t) (rowIx r k) = normed (row (xA m c) (rowOf t.val t.isLt r)) (gain (gA m c)) k := by
  rw [norm_apply]
  simp only [block_rows m c t, block_gain m c t]

/-- After a point the kept rows are the normalized rows of its block of rows. -/
theorem kept_at : ∀ (n : ℕ) (hn : n < cfg0.N) (r : Fin 1024) (k : Fin 2048),
    (outsAt0 m c n hn).2 (rowIx r k) = normed (row (xA m c) (rowOf n hn r)) (gain (gA m c)) k := by
  intro n
  induction n with
  | zero =>
    intro hn r k
    rw [outsAt0_A m c ⟨0, hn⟩ (Nat.zero_mod _)]
    dsimp only
    rw [kept_first]
    exact first_norm m c ⟨0, hn⟩ r k
  | succ n ih =>
    intro hn r k
    by_cases h : (n + 1) % 13 = 0
    · rw [outsAt0_A m c ⟨n + 1, hn⟩ h]
      dsimp only
      rw [kept_first]
      exact first_norm m c ⟨n + 1, hn⟩ r k
    · rw [outsAt0_B m c ⟨n + 1, hn⟩ h]
      dsimp only
      rw [kept_later]
      refine (ih (Nat.lt_of_succ_lt hn) r k).trans ?_
      have e : rowOf n (Nat.lt_of_succ_lt hn) r = rowOf (n + 1) hn r := Fin.ext (by show 1024 * (n / 13) + r.val = 1024 * ((n + 1) / 13) + r.val; omega)
      rw [e]

/-- A point's result. -/
theorem out_at (n : ℕ) (hn : n < cfg0.N) (r : Fin 1024) (q : Fin 512) :
    (outsAt0 m c n hn).1 (outIx r q) = project (row (xA m c) (rowOf n hn r)) (gain (gA m c)) (weight (wA m c) (colOf n q)) := by
  by_cases h : n % 13 = 0
  · rw [outsAt0_A m c ⟨n, hn⟩ h]
    dsimp only
    rw [out_first, product_apply]
    refine Finset.sum_congr rfl fun k _ => ?_
    rw [first_norm m c ⟨n, hn⟩ r k, block_cols m c ⟨n, hn⟩ k q]
  · have hp : n - 1 < cfg0.N := Nat.lt_of_le_of_lt (Nat.sub_le _ _) hn
    rw [outsAt0_B m c ⟨n, hn⟩ h]
    dsimp only
    rw [out_later, product_apply]
    refine Finset.sum_congr rfl fun k _ => ?_
    have e : rowOf (n - 1) hp r = rowOf n hn r := Fin.ext (by show 1024 * ((n - 1) / 13) + r.val = 1024 * (n / 13) + r.val; omega)
    rw [kept_at m c (n - 1) hp r k, block_cols m c ⟨n, hn⟩ k q, e]

/-- The array of the projected rows. -/
def answers (x : S16x64x2048.Idx → EReal) (g : S1x2048.Idx → EReal) (w : S1x2048x6656.Idx → EReal) : S1024x6656.Idx → EReal :=
  fun i => project (row x ⟨(i 0).val, (i 0).isLt⟩) (gain g) (weight w ⟨(i 1).val, (i 1).isLt⟩)

/-- The call leaves the projected rows. -/
theorem final : (G3 m c : S1024x6656.Idx → EReal) = answers (xA m c) (gA m c) (wA m c) := by
  funext i
  have h0 : (i 0).val < 1024 := (i 0).isLt
  have h1 : (i 1).val < 6656 := (i 1).isLt
  have hp : pt3Of i = 13 * ((i 0).val / 1024) + (i 1).val / 512 := by show 13 * ((i 0).val / 1024 - 0) + 1 * ((i 1).val / 512 - 0) = _; omega
  have hn : pt3Of i < cfg0.N := by rw [hp, show cfg0.N = 13 from N_0]; omega
  unfold G3
  rw [dif_pos hn, ← outsAt0_sweep m c (pt3Of i) hn]
  have hl : loc3Of i = outIx ⟨(i 0).val % 1024, by omega⟩ ⟨(i 1).val % 512, by omega⟩ := funext fun a => Fin.ext (match a with
    | ⟨0, _⟩ => rfl
    | ⟨1, _⟩ => rfl)
  rw [hl, out_at]
  unfold answers
  have er : rowOf (pt3Of i) hn ⟨(i 0).val % 1024, by omega⟩ = ⟨(i 0).val, h0⟩ := Fin.ext (by show 1024 * (pt3Of i / 13) + (i 0).val % 1024 = (i 0).val; rw [hp]; omega)
  have ec : colOf (pt3Of i) ⟨(i 1).val % 512, by omega⟩ = ⟨(i 1).val, h1⟩ := Fin.ext (by show 512 * (pt3Of i % 13) + (i 1).val % 512 = (i 1).val; rw [hp]; omega)
  rw [er, ec]

end Cert.ProjSampleIdeal.Rows

end
-- ==== Proof.ProjSampleRefIdeal.Entry.lean ====
module

public import proofs.«01_k».proof.Proof.Gen.ProjSampleRefIdeal.Read
public import proofs.«01_k».proof.Proof.Shared.Norm
public import Idealize.ShloMosaic.Lib.Pipeline.Value

@[expose] public section

set_option maxRecDepth 16384

noncomputable section

namespace Cert.ProjSampleRefIdeal.Plain

open Idealize.ShloMosaic Idealize.ShloMosaic.TcCoe
open Cert.ProjSampleRefIdeal Cert.ProjSampleRefIdeal.Gen Cert.ProjSampleRefIdeal.Read Cert.Norm

/-- Entry `(b, t, k)` of the sample's input. -/
abbrev rowIx (b : Fin 16) (t : Fin 64) (k : Fin 2048) : S16x64x2048.Idx := fun a => match a with
  | ⟨0, _⟩ => ⟨b.val, b.isLt⟩
  | ⟨1, _⟩ => ⟨t.val, t.isLt⟩
  | ⟨2, _⟩ => ⟨k.val, k.isLt⟩

abbrev onlyIx (b : Fin 16) (t : Fin 64) : S16x64x1.Idx := fun a => match a with
  | ⟨0, _⟩ => ⟨b.val, b.isLt⟩
  | ⟨1, _⟩ => ⟨t.val, t.isLt⟩
  | ⟨2, _⟩ => ⟨0, Nat.one_pos⟩

abbrev gainIx (k : Fin 2048) : S1x2048.Idx := fun a => match a with
  | ⟨0, _⟩ => ⟨0, Nat.one_pos⟩
  | ⟨1, _⟩ => ⟨k.val, k.isLt⟩

abbrev givenIx (k : Fin 2048) (n : Fin 6656) : S1x2048x6656.Idx := fun a => match a with
  | ⟨0, _⟩ => ⟨0, Nat.one_pos⟩
  | ⟨1, _⟩ => ⟨k.val, k.isLt⟩
  | ⟨2, _⟩ => ⟨n.val, n.isLt⟩

abbrev wideIx (b : Fin 16) (t : Fin 64) (n : Fin 6656) : S16x64x6656.Idx := fun a => match a with
  | ⟨0, _⟩ => ⟨b.val, b.isLt⟩
  | ⟨1, _⟩ => ⟨t.val, t.isLt⟩
  | ⟨2, _⟩ => ⟨n.val, n.isLt⟩

variable (x : S16x64x2048.Idx → EReal) (g : S1x2048.Idx → EReal) (w : S1x2048x6656.Idx → EReal)

/-- The mean square of a row of the sample's input. -/
theorem mean_apply (b : Fin 16) (t : Fin 64) : val_main_v5 (F := Ideal) x (onlyIx b t) = meanSq (fun k => x (rowIx b t k)) := by
  rw [val_main_v5_apply, Ideal.hostDivf_def, val_main_v3_apply, val_main_v2_apply, val_main_v4_apply, val_main_cst_0_apply, val_main_cst_apply]
  unfold meanSq
  refine congrArg (Ideal.div · width) ?_
  refine (congrArg (· + _) Ideal.ofBits_zero_f32).trans ((zero_add _).trans ?_)
  refine Finset.sum_congr rfl fun k _ => ?_
  rw [val_main_v1_apply]
  have e : idx_main_v2 (idx_main_v3 (onlyIx b t)) k = rowIx b t k := funext fun a => Fin.ext (match a with
    | ⟨0, _⟩ => rfl
    | ⟨1, _⟩ => rfl
    | ⟨2, _⟩ => rfl)
  rw [e]
  rfl

/-- A normalized row of the sample's input. -/
theorem norm_apply (b : Fin 16) (t : Fin 64) (k : Fin 2048) :
    val_main_v13 (F := Ideal) x g (rowIx b t k) = normed (fun j => x (rowIx b t j)) (fun j => g (gainIx j)) k := by
  rw [val_main_v13_apply, val_main_v10_apply, val_main_v9_apply, val_main_v8_apply, val_main_v7_apply, val_main_v6_apply, val_main_cst_1_apply,
    val_main_v12_apply, val_main_v11_apply, val_main_v0_apply]
  have e : idx_main_v9 (rowIx b t k) = onlyIx b t := funext fun a => Fin.ext (match a with
    | ⟨0, _⟩ => rfl
    | ⟨1, _⟩ => rfl
    | ⟨2, _⟩ => rfl)
  have eg : idx_main_v0 (idx_main_v11 (idx_main_v12 (rowIx b t k))) = gainIx k := funext fun a => Fin.ext (match a with
    | ⟨0, _⟩ => rfl
    | ⟨1, _⟩ => Nat.mod_eq_of_lt k.isLt)
  rw [e, eg, mean_apply]
  rfl

/-- The weights as the reference reads them. -/
theorem given_at (k : Fin 2048) (n : Fin 6656) (i : S2048x6656.Idx) (h0 : (i 0).val = k.val) (h1 : (i 1).val = n.val) : val_main_v14 (F := Ideal) w i = w (givenIx k n) := by
  rw [val_main_v14_apply]
  refine congrArg w (funext fun a => Fin.ext ?_)
  match a with
  | ⟨0, _⟩ => rfl
  | ⟨1, _⟩ => show ((i 0).val * 6656 + (i 1).val) / 6656 % 2048 = k.val; rw [h0, h1]; omega
  | ⟨2, _⟩ => show ((i 0).val * 6656 + (i 1).val) % 6656 = n.val; rw [h0, h1]; omega

/-- The product of the normalized rows and the weights. -/
theorem wide_apply (b : Fin 16) (t : Fin 64) (n : Fin 6656) :
    val_main_v15 (F := Ideal) x g w (wideIx b t n) = project (fun j => x (rowIx b t j)) (fun j => g (gainIx j)) (fun k => w (givenIx k n)) := by
  rw [val_main_v15_apply]
  refine Finset.sum_congr rfl fun k _ => ?_
  have e : lidx_main_v15 (wideIx b t n) k = rowIx b t k := funext fun a => Fin.ext (match a with
    | ⟨0, _⟩ => rfl
    | ⟨1, _⟩ => rfl
    | ⟨2, _⟩ => rfl)
  rw [e, norm_apply, given_at w k n _ rfl rfl]

/-- Entry `(r, n)` of the reference's result. -/
theorem output_apply (i : S1024x6656.Idx) :
    val_main_v16 (F := Ideal) x g w i = project (fun j => x (rowIx ⟨(i 0).val / 64, by have h0 : (i 0).val < 1024 := (i 0).isLt; omega⟩ ⟨(i 0).val % 64, Nat.mod_lt _ (by decide)⟩ j)) (fun j => g (gainIx j)) (fun k => w (givenIx k ⟨(i 1).val, (i 1).isLt⟩)) := by
  rw [val_main_v16_apply]
  have h0 : (i 0).val < 1024 := (i 0).isLt
  have h1 : (i 1).val < 6656 := (i 1).isLt
  have e : idx_main_v16 i = wideIx ⟨(i 0).val / 64, by omega⟩ ⟨(i 0).val % 64, Nat.mod_lt _ (by decide)⟩ ⟨(i 1).val, h1⟩ := funext fun a => Fin.ext (match a with
    | ⟨0, _⟩ => by show ((i 0).val * 6656 + (i 1).val) / 425984 = (i 0).val / 64; omega
    | ⟨1, _⟩ => by show ((i 0).val * 6656 + (i 1).val) / 6656 % 64 = (i 0).val % 64; omega
    | ⟨2, _⟩ => by show ((i 0).val * 6656 + (i 1).val) % 6656 = (i 1).val; omega)
  rw [e, wide_apply]

end Cert.ProjSampleRefIdeal.Plain

end
-- ==== Proof.Shared.Layer.lean ====
module

public import Idealize.ShloMosaic.Lib.IdealHost
public import Idealize.ShloMosaic.Lib.Pointwise.Tactic
public import Mathlib.Algebra.BigOperators.Fin

@[expose] public section

noncomputable section

namespace Cert.Layer

open Idealize.ShloMosaic

/-- The limit of the clamps, as an extended real. -/
def lim : EReal := Ideal.ofBits .f32 0x40E00000#32

/-- The lower limit. -/
def limNeg : EReal := Ideal.ofBits .f32 0xC0E00000#32

/-- The slope of the gate. -/
def slope : EReal := Ideal.ofBits .f32 0x3FD9DB23#32

/-- One activated hidden unit, of its gate and its linear part. -/
def gated (g l : EReal) : EReal :=
  min g lim * Ideal.logistic (slope * min g lim) * (min lim (max limNeg l) + 1)

/-- A hidden unit before activation. -/
def hidden (x w : Fin 2048 → EReal) (b : EReal) : EReal := (∑ k, x k * w k) + b

/-- The gate's column of unit `f`. -/
def gateCol (f : Fin 2048) : Fin 4096 := ⟨f.val, by omega⟩

/-- The linear part's column of unit `f`. -/
def linCol (f : Fin 2048) : Fin 4096 := ⟨2048 + f.val, by omega⟩

/-- Hidden unit `f` of one row, activated. -/
def unit (x : Fin 2048 → EReal) (wu : Fin 2048 → Fin 4096 → EReal) (bu : Fin 4096 → EReal) (f : Fin 2048) : EReal :=
  gated (hidden x (fun k => wu k (gateCol f)) (bu (gateCol f))) (hidden x (fun k => wu k (linCol f)) (bu (linCol f)))

/-- One entry of the expert's answer to one row. -/
def answer (x : Fin 2048 → EReal) (wu : Fin 2048 → Fin 4096 → EReal) (bu : Fin 4096 → EReal) (wd : Fin 2048 → EReal) (bd : EReal) : EReal :=
  (∑ f, unit x wu bu f * wd f) + bd

/-- Unit `q` of block `j` of the hidden units. -/
def col (j : ℕ) (q : Fin 256) : Fin 2048 := ⟨(256 * j + q.val) % 2048, Nat.mod_lt _ (by decide)⟩

/-- The sum over one block of hidden units. -/
def blockSum (t : Fin 2048 → EReal) (j : ℕ) : EReal := ∑ q : Fin 256, t (col j q)

/-- A sum over the hidden units, block of columns by block of columns. -/
theorem sum_blocks (t : Fin 2048 → EReal) : ∑ f, t f = ∑ j : Fin 8, blockSum t j.val := by
  unfold blockSum
  rw [← Fintype.sum_prod_type']
  refine (Equiv.sum_comp (finProdFinEquiv (m := 8) (n := 256)) t).symm.trans ?_
  refine Finset.sum_congr rfl fun p _ => congrArg t (Fin.ext ?_)
  show p.2.val + 256 * p.1.val = (256 * p.1.val + p.2.val) % 2048
  omega

/-- Adding the blocks one at a time to a start is adding their sum. -/
def upTo (s : ℕ → EReal) (b : EReal) : ℕ → EReal
  | 0 => b + s 0
  | n + 1 => upTo s b n + s (n + 1)

/-- All eight blocks' sum, and the bias. -/
theorem upTo_seven (s : ℕ → EReal) (b : EReal) : upTo s b 7 = (∑ j : Fin 8, s j.val) + b := by
  simp only [upTo, Fin.sum_univ_eight]
  show _ = s 0 + s 1 + s 2 + s 3 + s 4 + s 5 + s 6 + s 7 + b
  rw [add_comm (s 0 + s 1 + s 2 + s 3 + s 4 + s 5 + s 6 + s 7) b]
  simp only [← add_assoc]

abbrev T1 : Shape := ⟨1, ![100]⟩
abbrev TX : Shape := ⟨2, ![102400, 2048]⟩
abbrev TU : Shape := ⟨4, ![1, 32, 2048, 4096]⟩
abbrev TUB : Shape := ⟨3, ![1, 32, 4096]⟩
abbrev TD : Shape := ⟨4, ![1, 32, 2048, 2048]⟩
abbrev TDB : Shape := ⟨3, ![1, 32, 2048]⟩

/-- Tile `t`'s place in a table. -/
abbrev tileAt (t : Fin 100) : T1.Idx := fun a => match a with
  | ⟨0, _⟩ => ⟨t.val, t.isLt⟩

/-- Entry `(1024 t + r, k)` of the rows. -/
abbrev xsAt (t : Fin 100) (r : Fin 1024) (k : Fin 2048) : TX.Idx := fun a => match a with
  | ⟨0, _⟩ => ⟨1024 * t.val + r.val, by have h1 := t.isLt; have h2 := r.isLt; show 1024 * t.val + r.val < 102400; omega⟩
  | ⟨1, _⟩ => ⟨k.val, k.isLt⟩

abbrev upAt (e : Fin 32) (k : Fin 2048) (f : Fin 4096) : TU.Idx := fun a => match a with
  | ⟨0, _⟩ => ⟨0, Nat.one_pos⟩
  | ⟨1, _⟩ => ⟨e.val, e.isLt⟩
  | ⟨2, _⟩ => ⟨k.val, k.isLt⟩
  | ⟨3, _⟩ => ⟨f.val, f.isLt⟩

abbrev upbAt (e : Fin 32) (f : Fin 4096) : TUB.Idx := fun a => match a with
  | ⟨0, _⟩ => ⟨0, Nat.one_pos⟩
  | ⟨1, _⟩ => ⟨e.val, e.isLt⟩
  | ⟨2, _⟩ => ⟨f.val, f.isLt⟩

abbrev dnAt (e : Fin 32) (f d : Fin 2048) : TD.Idx := fun a => match a with
  | ⟨0, _⟩ => ⟨0, Nat.one_pos⟩
  | ⟨1, _⟩ => ⟨e.val, e.isLt⟩
  | ⟨2, _⟩ => ⟨f.val, f.isLt⟩
  | ⟨3, _⟩ => ⟨d.val, d.isLt⟩

abbrev dnbAt (e : Fin 32) (d : Fin 2048) : TDB.Idx := fun a => match a with
  | ⟨0, _⟩ => ⟨0, Nat.one_pos⟩
  | ⟨1, _⟩ => ⟨e.val, e.isLt⟩
  | ⟨2, _⟩ => ⟨d.val, d.isLt⟩

/-- The expert a table entry names, the nearest one for an entry out of range. -/
def expert (v : BitVec 32) : Fin 32 := ⟨min v.toInt.toNat 31, by omega⟩

/-- Row `r` of tile `t`, column `d`: the tile's expert's answer while the row's block of 256 holds a live row, zero past it. -/
def entry (te nv : IVec T1 32) (xs : TX.Idx → EReal) (wu : TU.Idx → EReal) (bu : TUB.Idx → EReal) (wd : TD.Idx → EReal) (bd : TDB.Idx → EReal)
    (t : Fin 100) (r : Fin 1024) (d : Fin 2048) : EReal :=
  if ((256 * (r.val / 256) : ℕ) : ℤ) < (nv (tileAt t)).toInt then
    answer (fun k => xs (xsAt t r k)) (fun k f => wu (upAt (expert (te (tileAt t))) k f)) (fun f => bu (upbAt (expert (te (tileAt t))) f))
      (fun f => wd (dnAt (expert (te (tileAt t))) f d)) (bd (dnbAt (expert (te (tileAt t))) d))
  else 0

/-- A hidden unit's share of one entry of an expert's answer. -/
def share (te : IVec T1 32) (xs : TX.Idx → EReal) (wu : TU.Idx → EReal) (bu : TUB.Idx → EReal) (wd : TD.Idx → EReal)
    (t : Fin 100) (r : Fin 1024) (d : Fin 2048) (f : Fin 2048) : EReal :=
  unit (fun k => xs (xsAt t r k)) (fun k f => wu (upAt (expert (te (tileAt t))) k f)) (fun f => bu (upbAt (expert (te (tileAt t))) f)) f * wd (dnAt (expert (te (tileAt t))) f d)

/-- An entry as the start and the eight blocks of hidden units added to it in turn. -/
theorem entry_blocks (te nv : IVec T1 32) (xs : TX.Idx → EReal) (wu : TU.Idx → EReal) (bu : TUB.Idx → EReal) (wd : TD.Idx → EReal) (bd : TDB.Idx → EReal)
    (t : Fin 100) (r : Fin 1024) (d : Fin 2048) (h : ((256 * (r.val / 256) : ℕ) : ℤ) < (nv (tileAt t)).toInt) :
    entry te nv xs wu bu wd bd t r d = upTo (blockSum (share te xs wu bu wd t r d)) (bd (dnbAt (expert (te (tileAt t))) d)) 7 := by
  unfold entry answer
  rw [if_pos h, upTo_seven, ← sum_blocks]
  rfl

end Cert.Layer

end
-- ==== Proof.ExpertsIdeal.Step.lean ====
module

public import proofs.«01_k».proof.Proof.ExpertsIdeal.Frame
public import proofs.«01_k».proof.Proof.Shared.Layer
public import Idealize.ShloMosaic.Lib.Pipeline.Value
public import Idealize.ShloMosaic.Lib.ValueIdxCore

@[expose] public section

set_option maxRecDepth 16384

noncomputable section

namespace Cert.ExpertsIdeal.Run

open Idealize.ShloMosaic Idealize.ShloMosaic.TcCoe Idealize.ShloMosaic.Tactic
open Cert.ExpertsIdeal.Gen Cert.Layer

/-- Entry `(k, q)` of a block of up weights. -/
abbrev upIx (k : Fin 2048) (q : Fin 256) : S1x1x2048x256.Idx := fun a => match a with
  | ⟨0, _⟩ => ⟨0, Nat.one_pos⟩
  | ⟨1, _⟩ => ⟨0, Nat.one_pos⟩
  | ⟨2, _⟩ => ⟨k.val, k.isLt⟩
  | ⟨3, _⟩ => ⟨q.val, q.isLt⟩

/-- Entry `q` of a block of up biases. -/
abbrev upbIx (q : Fin 256) : S1x1x1x256.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨q.val, q.isLt⟩

/-- Entry `(q, d)` of a block of down weights. -/
abbrev dnIx (q : Fin 256) (d : Fin 2048) : S1x1x256x2048.Idx := fun a => match a with
  | ⟨0, _⟩ => ⟨0, Nat.one_pos⟩
  | ⟨1, _⟩ => ⟨0, Nat.one_pos⟩
  | ⟨2, _⟩ => ⟨q.val, q.isLt⟩
  | ⟨3, _⟩ => ⟨d.val, d.isLt⟩

/-- Entry `d` of a block of down biases. -/
abbrev dnbIx (d : Fin 2048) : S1x1x1x2048.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨d.val, d.isLt⟩

/-- Entry `(r, d)` of a block of rows. -/
abbrev rowIx (r : Fin 256) (d : Fin 2048) : S256x2048.Idx := fun a => match a with
  | ⟨0, _⟩ => ⟨r.val, r.isLt⟩
  | ⟨1, _⟩ => ⟨d.val, d.isLt⟩

abbrev hidIx (r q : Fin 256) : S256x256.Idx := fun a => match a with
  | ⟨0, _⟩ => ⟨r.val, r.isLt⟩
  | ⟨1, _⟩ => ⟨q.val, q.isLt⟩

abbrev wIx (k : Fin 2048) (q : Fin 256) : S2048x256.Idx := fun a => match a with
  | ⟨0, _⟩ => ⟨k.val, k.isLt⟩
  | ⟨1, _⟩ => ⟨q.val, q.isLt⟩

/-- The upper product takes the row of its left side from the result's row. -/
theorem up_lhs (i : S256x256.Idx) (q : dot_S256x2048_S2048x256_S256x256_1_0_0_1_n_n.contr.Idx) : (dot_S256x2048_S2048x256_S256x256_1_0_0_1_n_n.lhsIdx i q 0).val = (i 0).val := by
  unfold DotDims.lhsIdx
  rw [dif_neg (show ¬(0 : Fin S256x2048.rank) ∈ dot_S256x2048_S2048x256_S256x256_1_0_0_1_n_n.lhsBatch by decide), dif_pos (show (0 : Fin S256x2048.rank) ∈ dot_S256x2048_S2048x256_S256x256_1_0_0_1_n_n.lhsNonContracting by decide)]
  rfl

/-- The upper product takes the column of its right side from the result's column. -/
theorem up_rhs (i : S256x256.Idx) (q : dot_S256x2048_S2048x256_S256x256_1_0_0_1_n_n.contr.Idx) : (dot_S256x2048_S2048x256_S256x256_1_0_0_1_n_n.rhsIdx i q 1).val = (i 1).val := by
  unfold DotDims.rhsIdx
  rw [dif_neg (show ¬(1 : Fin S2048x256.rank) ∈ dot_S256x2048_S2048x256_S256x256_1_0_0_1_n_n.rhsBatch by decide), dif_pos (show (1 : Fin S2048x256.rank) ∈ dot_S256x2048_S2048x256_S256x256_1_0_0_1_n_n.rhsNonContracting by decide)]
  rfl

/-- The first product of the body, entry by entry. -/
theorem up_apply {φ₁ φ₂ : FTy} (l : FVec Ideal S256x2048 φ₁) (w : FVec Ideal S2048x256 φ₂) (acc : FVec Ideal S256x256 .f32) (r q : Fin 256) :
    FloatOps.matmul dot_S256x2048_S2048x256_S256x256_1_0_0_1_n_n none l w acc (hidIx r q) = acc (hidIx r q) + ∑ k : Fin 2048, l (rowIx r k) * w (wIx k q) := by
  rw [Ideal.matmul_apply, ← Equiv.sum_comp (ValueIdx.contrEquiv1 dot_S256x2048_S2048x256_S256x256_1_0_0_1_n_n 2048 rfl rfl).symm]
  refine congrArg (acc (hidIx r q) + ·) (Finset.sum_congr rfl fun k _ => ?_)
  have hk := ValueIdx.contrEquiv1_symm_val dot_S256x2048_S2048x256_S256x256_1_0_0_1_n_n 2048 rfl rfl k
  refine congrArg₂ (· * ·) (congrArg l (funext fun a => Fin.ext ?_)) (congrArg w (funext fun a => Fin.ext ?_))
  · match a with
    | ⟨0, _⟩ => exact up_lhs _ _
    | ⟨1, _⟩ => exact (dot_S256x2048_S2048x256_S256x256_1_0_0_1_n_n.lhsIdx_val_of_single rfl _ _).trans hk
  · match a with
    | ⟨0, _⟩ => exact (dot_S256x2048_S2048x256_S256x256_1_0_0_1_n_n.rhsIdx_val_of_single rfl _ _).trans hk
    | ⟨1, _⟩ => exact up_rhs _ _

/-- The lower product takes the row of its left side from the result's row. -/
theorem down_lhs (i : S256x2048.Idx) (q : dot_S256x256_S256x2048_S256x2048_1_0_0_1_n_n.contr.Idx) : (dot_S256x256_S256x2048_S256x2048_1_0_0_1_n_n.lhsIdx i q 0).val = (i 0).val := by
  unfold DotDims.lhsIdx
  rw [dif_neg (show ¬(0 : Fin S256x256.rank) ∈ dot_S256x256_S256x2048_S256x2048_1_0_0_1_n_n.lhsBatch by decide), dif_pos (show (0 : Fin S256x256.rank) ∈ dot_S256x256_S256x2048_S256x2048_1_0_0_1_n_n.lhsNonContracting by decide)]
  rfl

/-- The lower product takes the column of its right side from the result's column. -/
theorem down_rhs (i : S256x2048.Idx) (q : dot_S256x256_S256x2048_S256x2048_1_0_0_1_n_n.contr.Idx) : (dot_S256x256_S256x2048_S256x2048_1_0_0_1_n_n.rhsIdx i q 1).val = (i 1).val := by
  unfold DotDims.rhsIdx
  rw [dif_neg (show ¬(1 : Fin S256x2048.rank) ∈ dot_S256x256_S256x2048_S256x2048_1_0_0_1_n_n.rhsBatch by decide), dif_pos (show (1 : Fin S256x2048.rank) ∈ dot_S256x256_S256x2048_S256x2048_1_0_0_1_n_n.rhsNonContracting by decide)]
  rfl

/-- The second product of the body, entry by entry. -/
theorem down_apply {φ₁ φ₂ : FTy} (l : FVec Ideal S256x256 φ₁) (w : FVec Ideal S256x2048 φ₂) (acc : FVec Ideal S256x2048 .f32) (r : Fin 256) (d : Fin 2048) :
    FloatOps.matmul dot_S256x256_S256x2048_S256x2048_1_0_0_1_n_n none l w acc (rowIx r d) = acc (rowIx r d) + ∑ q : Fin 256, l (hidIx r q) * w (rowIx q d) := by
  rw [Ideal.matmul_apply, ← Equiv.sum_comp (ValueIdx.contrEquiv1 dot_S256x256_S256x2048_S256x2048_1_0_0_1_n_n 256 rfl rfl).symm]
  refine congrArg (acc (rowIx r d) + ·) (Finset.sum_congr rfl fun k _ => ?_)
  have hk := ValueIdx.contrEquiv1_symm_val dot_S256x256_S256x2048_S256x2048_1_0_0_1_n_n 256 rfl rfl k
  refine congrArg₂ (· * ·) (congrArg l (funext fun a => Fin.ext ?_)) (congrArg w (funext fun a => Fin.ext ?_))
  · match a with
    | ⟨0, _⟩ => exact down_lhs _ _
    | ⟨1, _⟩ => exact (dot_S256x256_S256x2048_S256x2048_1_0_0_1_n_n.lhsIdx_val_of_single rfl _ _).trans hk
  · match a with
    | ⟨0, _⟩ => exact (dot_S256x256_S256x2048_S256x2048_1_0_0_1_n_n.rhsIdx_val_of_single rfl _ _).trans hk
    | ⟨1, _⟩ => exact down_rhs _ _

/-- The rows the body keeps are the rows it reads. -/
theorem act_apply (v : Vec Ideal S256x2048 .f32) (y : S256x2048.Idx) : k0_pay1 (F := Ideal) v y = v y := by
  unfold k0_pay1
  rw [shapeCast_self]
  rfl

/-- The gate weights as a matrix. -/
theorem gate_apply (v : Vec Ideal S1x1x2048x256 .f32) (k : Fin 2048) (q : Fin 256) : k0_pay20 (F := Ideal) v (wIx k q) = v (upIx k q) := by
  unfold k0_pay20 k0_pay17
  dsimp only
  rw [shapeCast_self]
  refine shapeCast_apply v _ (wIx k q) (upIx k q) ?_
  rw [Shape.rowMajor_val_four, Shape.rowMajor_val_two]
  show ((0 * 1 + 0) * 2048 + k.val) * 256 + q.val = k.val * 256 + q.val
  omega

/-- The linear weights as a matrix. -/
theorem lin_apply (v : Vec Ideal S1x1x2048x256 .f32) (k : Fin 2048) (q : Fin 256) : k0_pay21 (F := Ideal) v (wIx k q) = v (upIx k q) := by
  unfold k0_pay21 k0_pay18
  dsimp only
  rw [shapeCast_self]
  refine shapeCast_apply v _ (wIx k q) (upIx k q) ?_
  rw [Shape.rowMajor_val_four, Shape.rowMajor_val_two]
  show ((0 * 1 + 0) * 2048 + k.val) * 256 + q.val = k.val * 256 + q.val
  omega

/-- The lower weights as a matrix. -/
theorem dn_apply (v : Vec Ideal S1x1x256x2048 .f32) (q : Fin 256) (d : Fin 2048) : k0_pay22 (F := Ideal) v (rowIx q d) = v (dnIx q d) := by
  unfold k0_pay22 k0_pay19
  dsimp only
  rw [shapeCast_self]
  refine shapeCast_apply v _ (rowIx q d) (dnIx q d) ?_
  rw [Shape.rowMajor_val_four, Shape.rowMajor_val_two]
  show ((0 * 1 + 0) * 256 + q.val) * 2048 + d.val = q.val * 2048 + d.val
  omega

/-- A tile's rows start at the down bias. -/
theorem bias_apply (v : Vec Ideal S1x1x1x2048 .f32) (r : Fin 256) (d : Fin 2048) : k0_pay2 (F := Ideal) v (rowIx r d) = v (dnbIx d) := by
  unfold k0_pay2
  rw [shapeCast_self]
  let m : S1x2048.Idx := fun a => match a with
    | ⟨0, _⟩ => ⟨0, Nat.one_pos⟩
    | ⟨1, _⟩ => ⟨d.val, d.isLt⟩
  refine (broadcastTo_apply _ _ (rowIx r d) m ?_).trans (shapeCast_apply v _ m (dnbIx d) ?_)
  · refine Fin.forall_fin_two.mpr ⟨?_, ?_⟩
    · show 0 = if (1 : ℕ) = 1 then 0 else _; rw [if_pos rfl]
    · show d.val = if (2048 : ℕ) = 1 then 0 else d.val; rw [if_neg (by decide)]
  · rw [Shape.rowMajor_val_four, Shape.rowMajor_val_two]
    show ((0 * 1 + 0) * 1 + 0) * 2048 + d.val = 0 * 2048 + d.val
    omega

/-- The zero block. -/
theorem zero_apply (y : S256x2048.Idx) : k0_pay3 (F := Ideal) y = 0 := by
  unfold k0_pay3
  exact Ideal.ofBits_zero_f32

/-- A row of up biases laid over the rows. -/
theorem over_apply (v : Vec Ideal S1x1x1x256 .f32) (r q : Fin 256) :
    broadcastTo S256x256 (shapeCast S1x256 v shapeCasts_S1x1x1x256_S1x256) broadcasts_S1x256_S256x256 (hidIx r q) = v (upbIx q) := by
  let m : S1x256.Idx := fun a => match a with
    | ⟨0, _⟩ => ⟨0, Nat.one_pos⟩
    | ⟨1, _⟩ => ⟨q.val, q.isLt⟩
  refine (broadcastTo_apply _ _ (hidIx r q) m ?_).trans (shapeCast_apply v _ m (upbIx q) ?_)
  · refine Fin.forall_fin_two.mpr ⟨?_, ?_⟩
    · show 0 = if (1 : ℕ) = 1 then 0 else _; rw [if_pos rfl]
    · show q.val = if (256 : ℕ) = 1 then 0 else q.val; rw [if_neg (by decide)]
  · rw [Shape.rowMajor_val_four, Shape.rowMajor_val_two]
    show ((0 * 1 + 0) * 1 + 0) * 256 + q.val = 0 * 256 + q.val
    omega

/-- One block's contribution, entry by entry. -/
theorem step_apply (wg wl : Vec Ideal S1x1x2048x256 .f32) (bg bl : Vec Ideal S1x1x1x256 .f32) (wd : Vec Ideal S1x1x256x2048 .f32)
    (x : Vec Ideal S256x2048 .f32) (o : Vec Ideal S256x2048 .f32) (r : Fin 256) (d : Fin 2048) :
    stepOf wg wl bg bl wd (k0_pay1 x) o (rowIx r d) = o (rowIx r d) + ∑ q : Fin 256,
      gated (hidden (fun k => x (rowIx r k)) (fun k => wg (upIx k q)) (bg (upbIx q))) (hidden (fun k => x (rowIx r k)) (fun k => wl (upIx k q)) (bl (upbIx q))) * wd (dnIx q d) := by
  unfold stepOf k0_pay14
  rw [shapeCast_self]
  refine congrArg (o (rowIx r d) + ·) ?_
  refine (down_apply _ _ _ r d).trans ?_
  refine (congrArg (· + _) (Ideal.ofBits_zero_f32)).trans ((zero_add _).trans ?_)
  refine Finset.sum_congr rfl fun q _ => ?_
  rw [dn_apply]
  refine congrArg (· * wd (dnIx q d)) ?_
  have eg : ∀ (w : FVec Ideal S2048x256 .bf16) (u : Vec Ideal S1x1x2048x256 .f32) (b : Vec Ideal S1x1x1x256 .f32), (∀ k, w (wIx k q) = u (upIx k q)) →
      addf (matmul dot_S256x2048_S2048x256_S256x256_1_0_0_1_n_n none (k0_pay1 (F := Ideal) x) w (constant S256x256 .f32 0x00000000#32)) (broadcastTo S256x256 (shapeCast S1x256 b shapeCasts_S1x1x1x256_S1x256) broadcasts_S1x256_S256x256) (hidIx r q)
        = hidden (fun k => x (rowIx r k)) (fun k => u (upIx k q)) (b (upbIx q)) := by
    intro w u b hw
    refine congrArg₂ (· + ·) ((up_apply _ _ _ r q).trans ?_) (over_apply b r q)
    refine (congrArg (· + _) (Ideal.ofBits_zero_f32)).trans ((zero_add _).trans (Finset.sum_congr rfl fun k _ => ?_))
    rw [act_apply, hw]
  have e1 := eg (k0_pay20 (F := Ideal) wg) wg bg (fun k => gate_apply wg k q)
  have e2 := eg (k0_pay21 (F := Ideal) wl) wl bl (fun k => lin_apply wl k q)
  unfold gated
  rw [← e1, ← e2, ← Ideal.ofBits_one_f32]
  rfl

end Cert.ExpertsIdeal.Run

end
-- ==== Proof.ExpertsIdeal.Blocks.lean ====
module

public import proofs.«01_k».proof.Proof.ExpertsIdeal.Step

@[expose] public section

set_option maxRecDepth 16384

noncomputable section

namespace Cert.ExpertsIdeal.Run

open Idealize.ShloMosaic Idealize.ShloMosaic.TcCoe Idealize.ShloMosaic.Tactic
open Cert.ExpertsIdeal.Gen Cert.Layer

variable (m : (ℓ : Loc nD τ sig) → Buf (Elt Ideal) ℓ) (h : Routed m) (c : Dev nD)

/-- The arrays at entry. -/
abbrev teA : IVec T1 32 := m ((c : Thread nD τ).loc main_arg0)
abbrev nvA : IVec T1 32 := m ((c : Thread nD τ).loc main_arg1)
abbrev xsA : TX.Idx → EReal := m ((c : Thread nD τ).loc main_arg3)
abbrev wuA : TU.Idx → EReal := m ((c : Thread nD τ).loc main_arg4)
abbrev buA : TUB.Idx → EReal := m ((c : Thread nD τ).loc main_arg5)
abbrev wdA : TD.Idx → EReal := m ((c : Thread nD τ).loc main_arg6)
abbrev bdA : TDB.Idx → EReal := m ((c : Thread nD τ).loc main_arg7)

/-- Point `8 g + j`. -/
def ptn (g : Fin 100) (j : ℕ) : ℕ := 8 * g.val + j

/-- The tile of a point. -/
theorem c0 (g : Fin 100) (j : ℕ) (hj : j < 8) : ((cfgA (adm m h)).grid.coords (pt (adm m h) (ptn g j)) (0 : Fin 2)).val = g.val := by
  refine (coords0 _ _).trans ?_
  have := g.isLt
  show min (8 * g.val + j) 799 / 8 = g.val
  omega

/-- The block of hidden units of a point. -/
theorem c1 (g : Fin 100) (j : ℕ) (hj : j < 8) : ((cfgA (adm m h)).grid.coords (pt (adm m h) (ptn g j)) (1 : Fin 2)).val = j := by
  refine (coords1 _ _).trans ?_
  have := g.isLt
  show min (8 * g.val + j) 799 % 8 = j
  omega

/-- The expert that the table names for a point's tile. -/
theorem te_at (g : Fin 100) (j : ℕ) (hj : j < 8) : teOf (tbl m) (grid0.coords (pt (adm m h) (ptn g j))) = teA m c (tileAt g) := by
  unfold teOf
  rw [tbl_te m c]
  refine congrArg _ (funext fun a => Fin.ext ?_)
  match a with
  | ⟨0, _⟩ => exact c0 m h g j hj

/-- The row count that the table names for a point's tile. -/
theorem nv_at (g : Fin 100) (j : ℕ) (hj : j < 8) : nvOf (tbl m) (grid0.coords (pt (adm m h) (ptn g j))) = nvA m c (tileAt g) := by
  unfold nvOf
  rw [tbl_nv m c]
  refine congrArg _ (funext fun a => Fin.ext ?_)
  match a with
  | ⟨0, _⟩ => exact c0 m h g j hj

/-- An expert in range is the one its table entry names. -/
theorem te_expert (g : Fin 100) (h : Routed m) : (teA m c (tileAt g)).toNat = (expert (teA m c (tileAt g))).val := by
  have h0 : 0 ≤ (teA m c (tileAt g)).toInt := by have := h.te_nonneg (tileAt g); rwa [tbl_te m c] at this
  have h1 : (teA m c (tileAt g)).toInt < 32 := by have := h.te_lt (tileAt g); rwa [tbl_te m c] at this
  show _ = min (teA m c (tileAt g)).toInt.toNat 31
  generalize teA m c (tileAt g) = v at *
  have hv := v.isLt
  rw [BitVec.toInt_eq_toNat_cond] at h0 h1 ⊢
  split at h0 <;> simp_all <;> omega

/-- Entry `(e, f)` of the up biases as the launch lays them out. -/
abbrev biasIx (e : Fin 32) (f : Fin 4096) : S1x32x1x4096.Idx := fun a => match a with
  | ⟨0, _⟩ => ⟨0, Nat.one_pos⟩
  | ⟨1, _⟩ => ⟨e.val, e.isLt⟩
  | ⟨2, _⟩ => ⟨0, Nat.one_pos⟩
  | ⟨3, _⟩ => ⟨f.val, f.isLt⟩

/-- Entry `(e, d)` of the down biases as the launch lays them out. -/
abbrev biasDIx (e : Fin 32) (d : Fin 2048) : S1x32x1x2048.Idx := fun a => match a with
  | ⟨0, _⟩ => ⟨0, Nat.one_pos⟩
  | ⟨1, _⟩ => ⟨e.val, e.isLt⟩
  | ⟨2, _⟩ => ⟨0, Nat.one_pos⟩
  | ⟨3, _⟩ => ⟨d.val, d.isLt⟩

/-- The reshaped upper bias. -/
theorem V_b (c : Dev nD) : (V m c main_v0 : S1x32x1x4096.Idx → EReal) = shapeCast S1x32x1x4096 (buA m c) shapeCasts_S1x32x4096_S1x32x1x4096 := by
  unfold V hostOps0
  after_results
  rfl

/-- The reshaped lower bias. -/
theorem V_d (c : Dev nD) : (V m c main_v1 : S1x32x1x2048.Idx → EReal) = shapeCast S1x32x1x2048 (bdA m c) shapeCasts_S1x32x2048_S1x32x1x2048 := by
  unfold V hostOps0
  after_results
  rfl

/-- The block window 1 sits at. -/
theorem at_gate (g : Fin 100) (j : ℕ) (hj : j < 8) (hv : 0 < (nvA m c (tileAt g)).toInt) :
    ((cfgA (adm m h)).win 1).index (pt (adm m h) (ptn g j)) = ![0, (expert (teA m c (tileAt g))).val, 0, j] := by
  refine (ix_gate (tbl m) (grid0.coords (pt (adm m h) (ptn g j)))).trans ?_
  rw [te_at m h c g j hj, te_expert m c g h]
  rw [nv_at m h c g j hj]
  unfold colBlk
  rw [if_pos hv, show (grid0.coords (pt (adm m h) (ptn g j)) 1).val = j from c1 m h g j hj]

/-- What the block of window 1 holds. -/
theorem gate_at (g : Fin 100) (j : ℕ) (hj : j < 8) (hv : 0 < (nvA m c (tileAt g)).toInt) (k : Fin 2048) (q : Fin 256) :
    wgAt m (adm m h) c (ptn g j) (upIx k q) = wuA m c (upAt (expert (teA m c (tileAt g))) k (gateCol (col j q))) := by
  have e := at_gate m h c g j hj hv
  unfold wgAt iblk
  have hk : ∀ a : Fin 4, ((((cfgA (adm m h)).win 1).blk (pt (adm m h) (ptn g j))).view.emb (upIx k q) a).val
      = ((cfgA (adm m h)).win 1).index (pt (adm m h) (ptn g j)) a * S1x1x2048x256.size a + 1 * ((upIx k q) a).val := fun a => rfl
  show V m c main_arg4 ((((cfgA (adm m h)).win 1).blk (pt (adm m h) (ptn g j))).view.emb (upIx k q)) = _
  rw [V_main_arg4]
  refine congrArg (wuA m c) (funext fun a => Fin.ext ((hk a).trans ?_))
  rw [e]
  have hq : q.val < 256 := q.isLt
  match a with
  | ⟨0, _⟩ => rfl
  | ⟨1, _⟩ => show (expert (teA m c (tileAt g))).val * 1 + 1 * 0 = (expert (teA m c (tileAt g))).val; omega
  | ⟨2, _⟩ => show 0 * 2048 + 1 * k.val = k.val; omega
  | ⟨3, _⟩ => show j * 256 + 1 * q.val = (256 * j + q.val) % 2048; omega

/-- The block window 2 sits at. -/
theorem at_lin (g : Fin 100) (j : ℕ) (hj : j < 8) (hv : 0 < (nvA m c (tileAt g)).toInt) :
    ((cfgA (adm m h)).win 2).index (pt (adm m h) (ptn g j)) = ![0, (expert (teA m c (tileAt g))).val, 0, 8 + j] := by
  refine (ix_lin (tbl m) (grid0.coords (pt (adm m h) (ptn g j)))).trans ?_
  rw [te_at m h c g j hj, te_expert m c g h]
  rw [nv_at m h c g j hj]
  unfold colBlk
  rw [if_pos hv, show (grid0.coords (pt (adm m h) (ptn g j)) 1).val = j from c1 m h g j hj]

/-- What the block of window 2 holds. -/
theorem lin_at (g : Fin 100) (j : ℕ) (hj : j < 8) (hv : 0 < (nvA m c (tileAt g)).toInt) (k : Fin 2048) (q : Fin 256) :
    wlAt m (adm m h) c (ptn g j) (upIx k q) = wuA m c (upAt (expert (teA m c (tileAt g))) k (linCol (col j q))) := by
  have e := at_lin m h c g j hj hv
  unfold wlAt iblk
  have hk : ∀ a : Fin 4, ((((cfgA (adm m h)).win 2).blk (pt (adm m h) (ptn g j))).view.emb (upIx k q) a).val
      = ((cfgA (adm m h)).win 2).index (pt (adm m h) (ptn g j)) a * S1x1x2048x256.size a + 1 * ((upIx k q) a).val := fun a => rfl
  show V m c main_arg4 ((((cfgA (adm m h)).win 2).blk (pt (adm m h) (ptn g j))).view.emb (upIx k q)) = _
  rw [V_main_arg4]
  refine congrArg (wuA m c) (funext fun a => Fin.ext ((hk a).trans ?_))
  rw [e]
  have hq : q.val < 256 := q.isLt
  match a with
  | ⟨0, _⟩ => rfl
  | ⟨1, _⟩ => show (expert (teA m c (tileAt g))).val * 1 + 1 * 0 = (expert (teA m c (tileAt g))).val; omega
  | ⟨2, _⟩ => show 0 * 2048 + 1 * k.val = k.val; omega
  | ⟨3, _⟩ => show (8 + j) * 256 + 1 * q.val = 2048 + (256 * j + q.val) % 2048; omega

/-- The block window 3 sits at. -/
theorem at_gateB (g : Fin 100) (j : ℕ) (hj : j < 8) (hv : 0 < (nvA m c (tileAt g)).toInt) :
    ((cfgA (adm m h)).win 3).index (pt (adm m h) (ptn g j)) = ![0, (expert (teA m c (tileAt g))).val, 0, j] := by
  refine (ix_gateB (tbl m) (grid0.coords (pt (adm m h) (ptn g j)))).trans ?_
  rw [te_at m h c g j hj, te_expert m c g h]
  rw [nv_at m h c g j hj]
  unfold colBlk
  rw [if_pos hv, show (grid0.coords (pt (adm m h) (ptn g j)) 1).val = j from c1 m h g j hj]

/-- What the block of window 3 holds. -/
theorem gateB_at (g : Fin 100) (j : ℕ) (hj : j < 8) (hv : 0 < (nvA m c (tileAt g)).toInt) (q : Fin 256) :
    bgAt m (adm m h) c (ptn g j) (upbIx q) = buA m c (upbAt (expert (teA m c (tileAt g))) (gateCol (col j q))) := by
  have e := at_gateB m h c g j hj hv
  unfold bgAt iblk
  have hk : ∀ a : Fin 4, ((((cfgA (adm m h)).win 3).blk (pt (adm m h) (ptn g j))).view.emb (upbIx q) a).val
      = ((cfgA (adm m h)).win 3).index (pt (adm m h) (ptn g j)) a * S1x1x1x256.size a + 1 * ((upbIx q) a).val := fun a => rfl
  show V m c main_v0 ((((cfgA (adm m h)).win 3).blk (pt (adm m h) (ptn g j))).view.emb (upbIx q)) = _
  have ei : (((cfgA (adm m h)).win 3).blk (pt (adm m h) (ptn g j))).view.emb (upbIx q) = (biasIx (expert (teA m c (tileAt g))) (gateCol (col j q)) : S1x32x1x4096.Idx) := by
    refine funext fun a => Fin.ext ((hk a).trans ?_)
    rw [e]
    have hq : q.val < 256 := q.isLt
    match a with
    | ⟨0, _⟩ => rfl
    | ⟨1, _⟩ => show (expert (teA m c (tileAt g))).val * 1 + 1 * 0 = (expert (teA m c (tileAt g))).val; omega
    | ⟨2, _⟩ => rfl
    | ⟨3, _⟩ => show j * 256 + 1 * q.val = (256 * j + q.val) % 2048; omega
  refine (congrFun (V_b m c) _).trans ((congrArg _ ei).trans ?_)
  refine shapeCast_apply (buA m c) _ _ (upbAt (expert (teA m c (tileAt g))) (gateCol (col j q))) ?_
  rw [Shape.rowMajor_val_four, Shape.rowMajor_val_three]
  show (0 * 32 + (expert (teA m c (tileAt g))).val) * 4096 + (gateCol (col j q)).val = ((0 * 32 + (expert (teA m c (tileAt g))).val) * 1 + 0) * 4096 + (gateCol (col j q)).val; omega

/-- The block window 4 sits at. -/
theorem at_linB (g : Fin 100) (j : ℕ) (hj : j < 8) (hv : 0 < (nvA m c (tileAt g)).toInt) :
    ((cfgA (adm m h)).win 4).index (pt (adm m h) (ptn g j)) = ![0, (expert (teA m c (tileAt g))).val, 0, 8 + j] := by
  refine (ix_linB (tbl m) (grid0.coords (pt (adm m h) (ptn g j)))).trans ?_
  rw [te_at m h c g j hj, te_expert m c g h]
  rw [nv_at m h c g j hj]
  unfold colBlk
  rw [if_pos hv, show (grid0.coords (pt (adm m h) (ptn g j)) 1).val = j from c1 m h g j hj]

/-- What the block of window 4 holds. -/
theorem linB_at (g : Fin 100) (j : ℕ) (hj : j < 8) (hv : 0 < (nvA m c (tileAt g)).toInt) (q : Fin 256) :
    blAt m (adm m h) c (ptn g j) (upbIx q) = buA m c (upbAt (expert (teA m c (tileAt g))) (linCol (col j q))) := by
  have e := at_linB m h c g j hj hv
  unfold blAt iblk
  have hk : ∀ a : Fin 4, ((((cfgA (adm m h)).win 4).blk (pt (adm m h) (ptn g j))).view.emb (upbIx q) a).val
      = ((cfgA (adm m h)).win 4).index (pt (adm m h) (ptn g j)) a * S1x1x1x256.size a + 1 * ((upbIx q) a).val := fun a => rfl
  show V m c main_v0 ((((cfgA (adm m h)).win 4).blk (pt (adm m h) (ptn g j))).view.emb (upbIx q)) = _
  have ei : (((cfgA (adm m h)).win 4).blk (pt (adm m h) (ptn g j))).view.emb (upbIx q) = (biasIx (expert (teA m c (tileAt g))) (linCol (col j q)) : S1x32x1x4096.Idx) := by
    refine funext fun a => Fin.ext ((hk a).trans ?_)
    rw [e]
    have hq : q.val < 256 := q.isLt
    match a with
    | ⟨0, _⟩ => rfl
    | ⟨1, _⟩ => show (expert (teA m c (tileAt g))).val * 1 + 1 * 0 = (expert (teA m c (tileAt g))).val; omega
    | ⟨2, _⟩ => rfl
    | ⟨3, _⟩ => show (8 + j) * 256 + 1 * q.val = 2048 + (256 * j + q.val) % 2048; omega
  refine (congrFun (V_b m c) _).trans ((congrArg _ ei).trans ?_)
  refine shapeCast_apply (buA m c) _ _ (upbAt (expert (teA m c (tileAt g))) (linCol (col j q))) ?_
  rw [Shape.rowMajor_val_four, Shape.rowMajor_val_three]
  show (0 * 32 + (expert (teA m c (tileAt g))).val) * 4096 + (linCol (col j q)).val = ((0 * 32 + (expert (teA m c (tileAt g))).val) * 1 + 0) * 4096 + (linCol (col j q)).val; omega

/-- The block window 5 sits at. -/
theorem at_down (g : Fin 100) (j : ℕ) (hj : j < 8) (hv : 0 < (nvA m c (tileAt g)).toInt) :
    ((cfgA (adm m h)).win 5).index (pt (adm m h) (ptn g j)) = ![0, (expert (teA m c (tileAt g))).val, j, 0] := by
  refine (ix_down (tbl m) (grid0.coords (pt (adm m h) (ptn g j)))).trans ?_
  rw [te_at m h c g j hj, te_expert m c g h]
  rw [nv_at m h c g j hj]
  unfold colBlk
  rw [if_pos hv, show (grid0.coords (pt (adm m h) (ptn g j)) 1).val = j from c1 m h g j hj]

/-- What the block of window 5 holds. -/
theorem down_at (g : Fin 100) (j : ℕ) (hj : j < 8) (hv : 0 < (nvA m c (tileAt g)).toInt) (q : Fin 256) (d : Fin 2048) :
    wdAt m (adm m h) c (ptn g j) (dnIx q d) = wdA m c (dnAt (expert (teA m c (tileAt g))) (col j q) d) := by
  have e := at_down m h c g j hj hv
  unfold wdAt iblk
  have hk : ∀ a : Fin 4, ((((cfgA (adm m h)).win 5).blk (pt (adm m h) (ptn g j))).view.emb (dnIx q d) a).val
      = ((cfgA (adm m h)).win 5).index (pt (adm m h) (ptn g j)) a * S1x1x256x2048.size a + 1 * ((dnIx q d) a).val := fun a => rfl
  show V m c main_arg6 ((((cfgA (adm m h)).win 5).blk (pt (adm m h) (ptn g j))).view.emb (dnIx q d)) = _
  rw [V_main_arg6]
  refine congrArg (wdA m c) (funext fun a => Fin.ext ((hk a).trans ?_))
  rw [e]
  have hq : q.val < 256 := q.isLt
  match a with
  | ⟨0, _⟩ => rfl
  | ⟨1, _⟩ => show (expert (teA m c (tileAt g))).val * 1 + 1 * 0 = (expert (teA m c (tileAt g))).val; omega
  | ⟨2, _⟩ => show j * 256 + 1 * q.val = (256 * j + q.val) % 2048; omega
  | ⟨3, _⟩ => show 0 * 2048 + 1 * d.val = d.val; omega

/-- The block window 6 sits at. -/
theorem at_downB (g : Fin 100) (j : ℕ) (hj : j < 8) :
    ((cfgA (adm m h)).win 6).index (pt (adm m h) (ptn g j)) = ![0, (expert (teA m c (tileAt g))).val, 0, 0] := by
  refine (ix_downB (tbl m) (grid0.coords (pt (adm m h) (ptn g j)))).trans ?_
  rw [te_at m h c g j hj, te_expert m c g h]

/-- What the block of window 6 holds. -/
theorem downB_at (g : Fin 100) (j : ℕ) (hj : j < 8) (d : Fin 2048) :
    bdAt m (adm m h) c (ptn g j) (dnbIx d) = bdA m c (dnbAt (expert (teA m c (tileAt g))) d) := by
  have e := at_downB m h c g j hj
  unfold bdAt iblk
  have hk : ∀ a : Fin 4, ((((cfgA (adm m h)).win 6).blk (pt (adm m h) (ptn g j))).view.emb (dnbIx d) a).val
      = ((cfgA (adm m h)).win 6).index (pt (adm m h) (ptn g j)) a * S1x1x1x2048.size a + 1 * ((dnbIx d) a).val := fun a => rfl
  show V m c main_v1 ((((cfgA (adm m h)).win 6).blk (pt (adm m h) (ptn g j))).view.emb (dnbIx d)) = _
  have ei : (((cfgA (adm m h)).win 6).blk (pt (adm m h) (ptn g j))).view.emb (dnbIx d) = (biasDIx (expert (teA m c (tileAt g))) d : S1x32x1x2048.Idx) := by
    refine funext fun a => Fin.ext ((hk a).trans ?_)
    rw [e]
    have hq : d.val < 2048 := d.isLt
    match a with
    | ⟨0, _⟩ => rfl
    | ⟨1, _⟩ => show (expert (teA m c (tileAt g))).val * 1 + 1 * 0 = (expert (teA m c (tileAt g))).val; omega
    | ⟨2, _⟩ => rfl
    | ⟨3, _⟩ => show 0 * 2048 + 1 * d.val = d.val; omega
  refine (congrFun (V_d m c) _).trans ((congrArg _ ei).trans ?_)
  refine shapeCast_apply (bdA m c) _ _ (dnbAt (expert (teA m c (tileAt g))) d) ?_
  rw [Shape.rowMajor_val_four, Shape.rowMajor_val_three]
  show (0 * 32 + (expert (teA m c (tileAt g))).val) * 2048 + d.val = ((0 * 32 + (expert (teA m c (tileAt g))).val) * 1 + 0) * 2048 + d.val; omega

/-- A live tile is at most the last one. -/
theorem live_le (g : Fin 100) (h : Routed m) (hv : 0 < (nvA m c (tileAt g)).toInt) : g.val ≤ (laOf (tbl m)).toNat := by
  have hd := h.dead (tileAt g) oneIdx
  rw [tbl_nv m c] at hd
  have h0 := h.la_nonneg oneIdx
  rcases hd with hd | hd
  · have e : ((laOf (tbl m)).toNat : ℤ) = (laOf (tbl m)).toInt := by
      have h0' : 0 ≤ (laOf (tbl m)).toInt := h0
      generalize laOf (tbl m) = v at *
      have := v.isLt
      rw [BitVec.toInt_eq_toNat_cond] at h0' ⊢; split at h0' <;> simp_all <;> omega
    have hd' : (g.val : ℤ) ≤ (laOf (tbl m)).toInt := hd
    omega
  · have hv' : 0 < (nvA m c (tileAt g)).toInt := hv
    rw [show nvA m c (tileAt g) = 0#32 from hd] at hv'
    exact absurd hv' (by decide)

/-- The block of rows of a live tile is the tile's own. -/
theorem at_x (g : Fin 100) (j : ℕ) (hj : j < 8) (hv : 0 < (nvA m c (tileAt g)).toInt) :
    ((cfgA (adm m h)).win 0).index (pt (adm m h) (ptn g j)) = ![g.val, 0] := by
  refine (ix_x (tbl m) (grid0.coords (pt (adm m h) (ptn g j)))).trans ?_
  have hg : (grid0.coords (pt (adm m h) (ptn g j)) 0).val = g.val := c0 m h g j hj
  rw [hg, min_toNat _ g.isLt (laOf (tbl m)) (h.la_nonneg oneIdx) (h.la_lt oneIdx), Nat.min_eq_left (live_le m c g h hv)]

/-- Row `r` of a live tile's block of rows. -/
theorem x_at (g : Fin 100) (j : ℕ) (hj : j < 8) (hv : 0 < (nvA m c (tileAt g)).toInt) (i : S1024x2048.Idx) :
    xAt m (adm m h) c (ptn g j) i = xsA m c (xsAt g ⟨(i 0).val, (i 0).isLt⟩ ⟨(i 1).val, (i 1).isLt⟩) := by
  have e := at_x m h c g j hj hv
  unfold xAt iblk
  have hk : ∀ a : Fin 2, ((((cfgA (adm m h)).win 0).blk (pt (adm m h) (ptn g j))).view.emb i a).val
      = ((cfgA (adm m h)).win 0).index (pt (adm m h) (ptn g j)) a * S1024x2048.size a + 1 * (i a).val := fun a => rfl
  show V m c main_arg3 ((((cfgA (adm m h)).win 0).blk (pt (adm m h) (ptn g j))).view.emb i) = _
  rw [V_main_arg3]
  refine congrArg (xsA m c) (funext fun a => Fin.ext ((hk a).trans ?_))
  rw [e]
  match a with
  | ⟨0, _⟩ => show g.val * 1024 + 1 * (i 0).val = 1024 * g.val + (i 0).val; omega
  | ⟨1, _⟩ => show 0 * 2048 + 1 * (i 1).val = (i 1).val; omega

end Cert.ExpertsIdeal.Run

end
-- ==== Proof.ExpertsIdeal.Rows.lean ====
module

public import proofs.«01_k».proof.Proof.ExpertsIdeal.Blocks

@[expose] public section

set_option maxRecDepth 16384

noncomputable section

namespace Cert.ExpertsIdeal.Run

open Idealize.ShloMosaic Idealize.ShloMosaic.TcCoe Idealize.ShloMosaic.Tactic
open Cert.ExpertsIdeal.Gen Cert.Layer

variable (m : (ℓ : Loc nD τ sig) → Buf (Elt Ideal) ℓ) (h : Routed m) (c : Dev nD)

/-- The count the body reads at a point is its tile's entry. -/
theorem cnt_at (g : Fin 100) (j : ℕ) (hj : j < 8) : cnt (adm m h) (ptn g j) = nvA m c (tileAt g) := by
  refine Eq.trans ?_ (nv_at m h c g j hj)
  unfold cnt nvOf
  refine congrArg (tbl m 1) (funext fun k => Fin.ext ?_)
  refine (ValueKit.rect_emb_unit_val _ _ _ _ _).trans ?_
  revert k
  exact (Fin.forall_fin_one).mpr (off_tile _)

/-- Part `s` of a tile is live when its first row is. -/
theorem live_eq (v : BitVec 32) (s : Fin 4) : live v s = true ↔ ((256 * s.val : ℕ) : ℤ) < v.toInt := by
  unfold live
  fin_cases s <;> simp

/-- A tile's first point. -/
theorem first_rows (g : Fin 100) (s : Fin 4) : outRows m (adm m h) c (ptn g 0) s = stepAt m (adm m h) c (ptn g 0) (if live (cnt (adm m h) (ptn g 0)) s then k0_pay2 (bdAt m (adm m h) c (ptn g 0)) else k0_pay3 (F := Ideal)) s := by
  have h8 : ptn g 0 % 8 = 0 := by show (8 * g.val + 0) % 8 = 0; omega
  generalize ptn g 0 = n at *
  have hb : ∀ p, baseAt m (adm m h) c n p s = if live (cnt (adm m h) n) s then k0_pay2 (bdAt m (adm m h) c n) else k0_pay3 (F := Ideal) := fun p => by unfold baseAt; rw [if_pos h8]
  cases n with
  | zero => unfold outRows; rw [hb]
  | succ n => unfold outRows; rw [hb]

/-- A tile's later points. -/
theorem next_rows (g : Fin 100) (j : ℕ) (hj : j + 1 < 8) (s : Fin 4) :
    outRows m (adm m h) c (ptn g (j + 1)) s = stepAt m (adm m h) c (ptn g (j + 1)) (outRows m (adm m h) c (ptn g j) s) s := by
  have h8 : ¬ (ptn g j + 1) % 8 = 0 := by show ¬ (8 * g.val + j + 1) % 8 = 0; omega
  show outRows m (adm m h) c (ptn g j + 1) s = stepAt m (adm m h) c (ptn g j + 1) _ s
  rw [outRows]
  unfold baseAt
  rw [if_neg h8]

/-- Past the live blocks a tile's rows stay zero. -/
theorem dead_rows (g : Fin 100) (s : Fin 4) (hs : ¬ ((256 * s.val : ℕ) : ℤ) < (nvA m c (tileAt g)).toInt) (j : ℕ) (hj : j < 8) :
    outRows m (adm m h) c (ptn g j) s = k0_pay3 (F := Ideal) := by
  have hl : ∀ j, j < 8 → ¬ live (cnt (adm m h) (ptn g j)) s = true := fun j hj => by rw [cnt_at m h c g j hj, live_eq]; exact hs
  induction j with
  | zero => rw [first_rows]; unfold stepAt; rw [if_neg (hl 0 hj), if_neg (hl 0 hj)]
  | succ j ih => rw [next_rows m h c g j hj]; unfold stepAt; rw [if_neg (hl (j + 1) hj)]; exact ih (by omega)

/-- Row `r` of part `s`. -/
abbrev partRow (s : Fin 4) (r : Fin 256) : Fin 1024 := ⟨256 * s.val + r.val, by omega⟩

/-- The rows of a part. -/
theorem rows_apply (X : S1024x2048.Idx → EReal) (s : Fin 4) (r : Fin 256) (k : Fin 2048) (i : S1024x2048.Idx) (h0 : (i 0).val = 256 * s.val + r.val) (h1 : (i 1).val = k.val) :
    rows X s (rowIx r k) = X i := by
  rw [← rows_part X i]
  have hp : partOf i = s := Fin.ext (by show (i 0).val / 256 = s.val; omega)
  rw [hp]
  refine congrArg _ (funext fun a => Fin.ext ?_)
  match a with
  | ⟨0, _⟩ => show r.val = if (0 : ℕ) = 0 then (i 0).val % 256 else (i 1).val; rw [if_pos rfl]; omega
  | ⟨1, _⟩ => show k.val = if (1 : ℕ) = 0 then (i 0).val % 256 else (i 1).val; rw [if_neg (by decide)]; omega

/-- A live part of a tile's rows, as the tile's first point reads it. -/
theorem tile_rows (g : Fin 100) (j : ℕ) (hj : j < 8) (hv : 0 < (nvA m c (tileAt g)).toInt) (s : Fin 4) (r : Fin 256) (k : Fin 2048) :
    rows (xAt m (adm m h) c (8 * (ptn g j / 8))) s (rowIx r k) = xsA m c (xsAt g (partRow s r) k) := by
  have e : 8 * (ptn g j / 8) = ptn g 0 := by show 8 * ((8 * g.val + j) / 8) = 8 * g.val + 0; omega
  rw [e]
  let i : S1024x2048.Idx := fun a => match a with
    | ⟨0, _⟩ => ⟨256 * s.val + r.val, by show 256 * s.val + r.val < 1024; omega⟩
    | ⟨1, _⟩ => ⟨k.val, k.isLt⟩
  exact (rows_apply (xAt m (adm m h) c (ptn g 0)) s r k i rfl rfl).trans (x_at m h c g 0 (by decide) hv i)

/-- One point's addition to an entry of a live part. -/
theorem step_live (g : Fin 100) (s : Fin 4) (hs : ((256 * s.val : ℕ) : ℤ) < (nvA m c (tileAt g)).toInt) (j : ℕ) (hj : j < 8) (o : Vec Ideal S256x2048 .f32) (r : Fin 256) (d : Fin 2048) :
    stepAt m (adm m h) c (ptn g j) o s (rowIx r d) = o (rowIx r d) + blockSum (share (teA m c) (xsA m c) (wuA m c) (buA m c) (wdA m c) g (partRow s r) d) j := by
  have hl : live (cnt (adm m h) (ptn g j)) s = true := by rw [cnt_at m h c g j hj, live_eq]; exact hs
  have hv : 0 < (nvA m c (tileAt g)).toInt := lt_of_le_of_lt (Int.natCast_nonneg _) hs
  unfold stepAt
  rw [if_pos hl, step_apply]
  unfold blockSum
  refine congrArg (o (rowIx r d) + ·) (Finset.sum_congr rfl fun q _ => ?_)
  rw [down_at m h c g j hj hv, gateB_at m h c g j hj hv, linB_at m h c g j hj hv]
  simp only [tile_rows m h c g j hj hv, gate_at m h c g j hj hv, lin_at m h c g j hj hv]
  rfl

/-- A live part of a tile after its point `j`: the bias and the blocks of hidden units up to `j`. -/
theorem live_rows (g : Fin 100) (s : Fin 4) (hs : ((256 * s.val : ℕ) : ℤ) < (nvA m c (tileAt g)).toInt) (j : ℕ) (hj : j < 8) (r : Fin 256) (d : Fin 2048) :
    outRows m (adm m h) c (ptn g j) s (rowIx r d) = upTo (blockSum (share (teA m c) (xsA m c) (wuA m c) (buA m c) (wdA m c) g (partRow s r) d)) (bdA m c (dnbAt (expert (teA m c (tileAt g))) d)) j := by
  induction j with
  | zero =>
    have hl : live (cnt (adm m h) (ptn g 0)) s = true := by rw [cnt_at m h c g 0 hj, live_eq]; exact hs
    rw [first_rows, if_pos hl, step_live m h c g s hs 0 hj, bias_apply, downB_at m h c g 0 hj]
    rfl
  | succ j ih =>
    rw [next_rows m h c g j hj, step_live m h c g s hs (j + 1) hj, ih (by omega)]
    rfl

/-- A tile's block after its last point. -/
theorem tile_entry (g : Fin 100) (i : S1024x2048.Idx) :
    outAt m (adm m h) c (ptn g 7) i = entry (teA m c) (nvA m c) (xsA m c) (wuA m c) (buA m c) (wdA m c) (bdA m c) g ⟨(i 0).val, (i 0).isLt⟩ ⟨(i 1).val, (i 1).isLt⟩ := by
  have h0 : (i 0).val < 1024 := (i 0).isLt
  have h1 : (i 1).val < 2048 := (i 1).isLt
  have hi : inRows i = rowIx ⟨(i 0).val % 256, by omega⟩ ⟨(i 1).val, h1⟩ := funext fun a => Fin.ext (match a with
    | ⟨0, _⟩ => by show (if (0 : ℕ) = 0 then (i 0).val % 256 else (i 1).val) = _; rw [if_pos rfl]
    | ⟨1, _⟩ => by show (if (1 : ℕ) = 0 then (i 0).val % 256 else (i 1).val) = _; rw [if_neg (by decide)])
  rw [← rows_part (outAt m (adm m h) c (ptn g 7)) i, rows_outAt, hi]
  have hr : partRow (partOf i) ⟨(i 0).val % 256, by omega⟩ = ⟨(i 0).val, h0⟩ := Fin.ext (by show 256 * ((i 0).val / 256) + (i 0).val % 256 = (i 0).val; omega)
  by_cases hs : ((256 * (partOf i).val : ℕ) : ℤ) < (nvA m c (tileAt g)).toInt
  · rw [live_rows m h c g _ hs 7 (by decide), hr]
    exact (entry_blocks _ _ _ _ _ _ _ g ⟨(i 0).val, h0⟩ ⟨(i 1).val, h1⟩ hs).symm
  · rw [dead_rows m h c g _ hs 7 (by decide), zero_apply]
    exact (if_neg hs).symm

end Cert.ExpertsIdeal.Run

end
-- ==== Proof.ExpertsIdeal.Final.lean ====
module

public import proofs.«01_k».proof.Proof.ExpertsIdeal.Rows

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.ExpertsIdeal.Gen Cert.Layer

variable (m : (ℓ : Loc nD τ sig) → Buf (Elt Ideal) ℓ) (h : Routed m)

/-- The expert outputs over the whole sorted list of tokens: row `1024 t + r` is row `r` of tile `t`. -/
def answers (te nv : IVec T1 32) (xs : TX.Idx → EReal) (wu : TU.Idx → EReal) (bu : TUB.Idx → EReal) (wd : TD.Idx → EReal) (bd : TDB.Idx → EReal) : TX.Idx → EReal :=
  fun p => entry te nv xs wu bu wd bd
    ⟨(p 0).val / 1024, by have h0 : (p 0).val < 102400 := (p 0).isLt; omega⟩
    ⟨(p 0).val % 1024, by omega⟩ ⟨(p 1).val, (p 1).isLt⟩

/-- Entries at equal places. -/
theorem entry_congr (te nv : IVec T1 32) (xs : TX.Idx → EReal) (wu : TU.Idx → EReal) (bu : TUB.Idx → EReal) (wd : TD.Idx → EReal) (bd : TDB.Idx → EReal)
    {t t' : Fin 100} {r r' : Fin 1024} {d d' : Fin 2048} (ht : t = t') (hr : r = r') (hd : d = d') :
    entry te nv xs wu bu wd bd t r d = entry te nv xs wu bu wd bd t' r' d' := by rw [ht, hr, hd]

/-- The output's block at point `t` is tile `t / 8`. -/
theorem out_index (a : (pcfg0 (F := Ideal)).Adm) (t : Fin (cfgA a).N) :
    ((cfgA a).win 7).index t (0 : Fin 2) = t.val / 8 ∧ ((cfgA a).win 7).index t (1 : Fin 2) = 0 := by
  have hb : t.val < 800 := lt_of_lt_of_eq t.isLt N_0
  refine ⟨?_, rfl⟩
  show (BitVec.ofNat 32 ((grid0.coords t) 0).val).toNat = _
  rw [BitVec.toNat_ofNat, coords0, Nat.mod_eq_of_lt (by omega)]

/-- What a tile's last point writes back is that tile of the answers. -/
theorem flushed_answers (c : Dev nD) (t : Fin (cfgA (adm m h)).N) (hf : ((cfgA (adm m h)).win 7).flush t = true) :
    (dats m (adm m h) 0 c).flushed 7 t = (((cfgA (adm m h)).win 7).blk t).view.read (Elt Ideal) (answers (teA m c) (nvA m c) (xsA m c) (wuA m c) (buA m c) (wdA m c) (bdA m c)) := by
  have hb : t.val < 800 := lt_of_lt_of_eq t.isLt N_0
  have h7 := (flush_out (adm m h) t).mp hf
  obtain ⟨e0, e1⟩ := out_index (adm m h) t
  show ((cfgA (adm m h)).win 7).cut ((cfgA (adm m h)).grid.coords t) ((dats m (adm m h) 0 c).after 7 t) = _
  rw [after7]
  refine funext fun (y : S1024x2048.Idx) => ?_
  have hy0 : (y 0).val < 1024 := (y 0).isLt
  have hy1 : (y 1).val < 2048 := (y 1).isLt
  let p : S102400x2048.Idx := (((cfgA (adm m h)).win 7).blk t).view.emb y
  have hb0 : (p 0).val = ((cfgA (adm m h)).win 7).index t (0 : Fin 2) * 1024 + 1 * (y 0).val := rfl
  have hb1 : (p 1).val = ((cfgA (adm m h)).win 7).index t (1 : Fin 2) * 2048 + 1 * (y 1).val := rfl
  have ht : t.val = ptn (⟨t.val / 8, by omega⟩ : Fin 100) 7 := by show t.val = 8 * (t.val / 8) + 7; omega
  show outAt m (adm m h) c t.val y = answers (teA m c) (nvA m c) (xsA m c) (wuA m c) (buA m c) (wdA m c) (bdA m c) p
  rw [ht]
  refine (tile_entry m h c _ _).trans ?_
  rw [e0] at hb0
  rw [e1] at hb1
  have k0 : (⟨t.val / 8, by omega⟩ : Fin 100) = ⟨(p 0).val / 1024, by omega⟩ := Fin.ext (by show t.val / 8 = (p 0).val / 1024; omega)
  have k1 : (⟨(y 0).val, (y 0).isLt⟩ : Fin 1024) = ⟨(p 0).val % 1024, by omega⟩ := Fin.ext (by show (y 0).val = (p 0).val % 1024; omega)
  have k2 : (⟨(y 1).val, (y 1).isLt⟩ : Fin 2048) = ⟨(p 1).val, by omega⟩ := Fin.ext (by show (y 1).val = (p 1).val; omega)
  exact entry_congr _ _ _ _ _ _ _ k0 k1 k2

/-- Membership carried along an equality. -/
theorem mem_of_eq {α : Type} {S : Finset α} {a b : α} (e : a = b) (h : a ∈ S) : b ∈ S := e ▸ h

/-- Every entry of the output lies in some tile. -/
theorem covered (p : S102400x2048.Idx) : ∃ t : Fin (cfgA (adm m h)).N, ((cfgA (adm m h)).win 7).flush t = true ∧ p ∈ (((cfgA (adm m h)).win 7).blk t).view.set := by
  have h0 : (p 0).val < 102400 := (p 0).isLt
  have h1 : (p 1).val < 2048 := (p 1).isLt
  have hN : 8 * ((p 0).val / 1024) + 7 < (cfgA (adm m h)).N := lt_of_lt_of_eq (by omega) N_0.symm
  obtain ⟨e0, e1⟩ := out_index (adm m h) ⟨8 * ((p 0).val / 1024) + 7, hN⟩
  refine ⟨⟨8 * ((p 0).val / 1024) + 7, hN⟩, (flush_out (adm m h) _).mpr (by show (8 * ((p 0).val / 1024) + 7) % 8 = 7; omega), ?_⟩
  let y : S1024x2048.Idx := fun a => match a with
    | ⟨0, _⟩ => ⟨(p 0).val % 1024, Nat.mod_lt _ (by decide)⟩
    | ⟨1, _⟩ => ⟨(p 1).val, h1⟩
  let q : S102400x2048.Idx := (((cfgA (adm m h)).win 7).blk ⟨8 * ((p 0).val / 1024) + 7, hN⟩).view.emb y
  have hb0 : (q 0).val = ((cfgA (adm m h)).win 7).index ⟨8 * ((p 0).val / 1024) + 7, hN⟩ (0 : Fin 2) * 1024 + 1 * ((p 0).val % 1024) := rfl
  have hb1 : (q 1).val = ((cfgA (adm m h)).win 7).index ⟨8 * ((p 0).val / 1024) + 7, hN⟩ (1 : Fin 2) * 2048 + 1 * (p 1).val := rfl
  have e0' : ((cfgA (adm m h)).win 7).index ⟨8 * ((p 0).val / 1024) + 7, hN⟩ (0 : Fin 2) = (8 * ((p 0).val / 1024) + 7) / 8 := e0
  rw [e0'] at hb0
  rw [e1] at hb1
  have hq : q = p := funext fun a => Fin.ext (match a with
    | ⟨0, _⟩ => by show (q 0).val = (p 0).val; omega
    | ⟨1, _⟩ => by show (q 1).val = (p 1).val; omega)
  have hm : q ∈ (((cfgA (adm m h)).win 7).blk ⟨8 * ((p 0).val / 1024) + 7, hN⟩).view.set := (((cfgA (adm m h)).win 7).blk ⟨8 * ((p 0).val / 1024) + 7, hN⟩).view.emb_mem_set y
  exact mem_of_eq hq hm

/-- The output array after the run. -/
theorem final (c : Dev nD) : (dats m (adm m h) 0 c).arrAt 7 (cfgA (adm m h)).N = answers (teA m c) (nvA m c) (xsA m c) (wuA m c) (buA m c) (wdA m c) (bdA m c) :=
  (dats m (adm m h) 0 c).arrAt_eq_of_cover 7 _ (fun t hf => flushed_answers m h c t hf) (fun p => covered m h p)

end Cert.ExpertsIdeal.Run

end
-- ==== Proof.ExpertsRefIdeal.Pick.lean ====
module

public import proofs.«01_k».proof.Proof.Gen.ExpertsRefIdeal.Read
public import proofs.«01_k».proof.Proof.Shared.Layer

@[expose] public section

set_option maxRecDepth 16384

noncomputable section

namespace Cert.ExpertsRefIdeal.Plain

open Idealize.ShloMosaic Idealize.ShloMosaic.TcCoe Idealize.SL.Sem
open Cert.ExpertsRefIdeal Cert.ExpertsRefIdeal.Gen Cert.ExpertsRefIdeal.Read Cert.Layer

/-- An expert named by a number that is not negative is looked up under that number. -/
theorem wrap_eq (v : BitVec 32) (hv : 0 ≤ v.toInt) : Scalar.select (IntOp.cmpi .slt v 0#32) (IntOp.addi v 32#32) v = v := by
  have hs : IntOp.cmpi .slt v 0#32 = 0#1 := by
    have : ¬ v.toInt < (0#32 : BitVec 32).toInt := by rw [show (0#32 : BitVec 32).toInt = 0 by decide]; omega
    have hb : v.slt 0#32 = false := by rw [BitVec.slt]; exact decide_eq_false this
    show BitVec.ofBool (v.slt 0#32) = 0#1
    rw [hb]
    rfl
  rw [hs]
  rfl

/-- The place of tile `t`'s entry in a table laid out as a column. -/
abbrev colAt (t : Fin 100) : S100x1.Idx := fun a => match a with
  | ⟨0, _⟩ => ⟨t.val, t.isLt⟩
  | ⟨1, _⟩ => ⟨0, Nat.one_pos⟩

abbrev upRow (e : Fin 32) (k : Fin 2048) (f : Fin 4096) : S32x2048x4096.Idx := fun a => match a with
  | ⟨0, _⟩ => ⟨e.val, e.isLt⟩
  | ⟨1, _⟩ => ⟨k.val, k.isLt⟩
  | ⟨2, _⟩ => ⟨f.val, f.isLt⟩

/-- The lookup of the upper weights takes the named expert. -/
theorem up_pick0 (idx : IVec S100x1 32) (y : S100x2048x4096.Idx) :
    gather_S32x2048x4096_S100x1_S100x2048x4096_12_0_n_n_0_1_120484096.start y idx 0 + gather_S32x2048x4096_S100x1_S100x2048x4096_12_0_n_n_0_1_120484096.offCoord y 0 = (expert (idx (colAt ⟨(y 0).val, (y 0).isLt⟩))).val := by
  rw [GatherDims.offCoord_eq_zero _ _ _ (fun h => ((GatherDims.mem_sKept _ _).mp h).1 (List.mem_singleton.mpr rfl)), Nat.add_zero]
  unfold GatherDims.start
  rw [dif_pos (show (0 : Fin 3) ∈ gather_S32x2048x4096_S100x1_S100x2048x4096_12_0_n_n_0_1_120484096.startIndexMap from List.mem_singleton.mpr rfl)]
  have hsi : gather_S32x2048x4096_S100x1_S100x2048x4096_12_0_n_n_0_1_120484096.siIdx y ⟨List.idxOf (0 : Fin 3) gather_S32x2048x4096_S100x1_S100x2048x4096_12_0_n_n_0_1_120484096.startIndexMap, List.idxOf_lt_length_iff.2 (List.mem_singleton.mpr rfl)⟩ = colAt ⟨(y 0).val, (y 0).isLt⟩ := by
    funext b; refine Fin.ext ?_
    match b with
    | ⟨0, _⟩ => rfl
    | ⟨1, _⟩ => rfl
  rw [hsi]
  rfl

/-- The lookup of the upper weights keeps the row. -/
theorem up_pick1 (idx : IVec S100x1 32) (y : S100x2048x4096.Idx) :
    gather_S32x2048x4096_S100x1_S100x2048x4096_12_0_n_n_0_1_120484096.start y idx 1 + gather_S32x2048x4096_S100x1_S100x2048x4096_12_0_n_n_0_1_120484096.offCoord y 1 = (y 1).val := by
  unfold GatherDims.start
  rw [dif_neg (show ¬ (1 : Fin 3) ∈ gather_S32x2048x4096_S100x1_S100x2048x4096_12_0_n_n_0_1_120484096.startIndexMap by decide), Nat.zero_add]
  unfold GatherDims.offCoord
  rw [dif_pos (show (1 : Fin 3) ∈ gather_S32x2048x4096_S100x1_S100x2048x4096_12_0_n_n_0_1_120484096.sKept by decide)]
  rfl

/-- The lookup of the upper weights keeps the column. -/
theorem up_pick2 (idx : IVec S100x1 32) (y : S100x2048x4096.Idx) :
    gather_S32x2048x4096_S100x1_S100x2048x4096_12_0_n_n_0_1_120484096.start y idx 2 + gather_S32x2048x4096_S100x1_S100x2048x4096_12_0_n_n_0_1_120484096.offCoord y 2 = (y 2).val := by
  unfold GatherDims.start
  rw [dif_neg (show ¬ (2 : Fin 3) ∈ gather_S32x2048x4096_S100x1_S100x2048x4096_12_0_n_n_0_1_120484096.startIndexMap by decide), Nat.zero_add]
  unfold GatherDims.offCoord
  rw [dif_pos (show (2 : Fin 3) ∈ gather_S32x2048x4096_S100x1_S100x2048x4096_12_0_n_n_0_1_120484096.sKept by decide)]
  rfl

/-- A tile reads what belongs to the expert its table entry names. -/
theorem up_pick (x : S32x2048x4096.Idx → EReal) (idx : IVec S100x1 32) (y : S100x2048x4096.Idx) :
    Host.gather gather_S32x2048x4096_S100x1_S100x2048x4096_12_0_n_n_0_1_120484096 x idx y = x (upRow (expert (idx (colAt ⟨(y 0).val, (y 0).isLt⟩))) ⟨(y 1).val, (y 1).isLt⟩ ⟨(y 2).val, (y 2).isLt⟩) := by
  unfold Host.gather
  congr 1
  funext a
  refine Fin.ext ?_
  show gather_S32x2048x4096_S100x1_S100x2048x4096_12_0_n_n_0_1_120484096.start y idx a + gather_S32x2048x4096_S100x1_S100x2048x4096_12_0_n_n_0_1_120484096.batchCoord y a + gather_S32x2048x4096_S100x1_S100x2048x4096_12_0_n_n_0_1_120484096.offCoord y a = _
  rw [GatherDims.batchCoord_eq_zero _ _ _ List.not_mem_nil, Nat.add_zero]
  match a with
  | ⟨0, _⟩ => exact up_pick0 idx y
  | ⟨1, _⟩ => exact up_pick1 idx y
  | ⟨2, _⟩ => exact up_pick2 idx y

abbrev upbRow (e : Fin 32) (f : Fin 4096) : S32x4096.Idx := fun a => match a with
  | ⟨0, _⟩ => ⟨e.val, e.isLt⟩
  | ⟨1, _⟩ => ⟨f.val, f.isLt⟩

/-- The lookup of the upper bias takes the named expert. -/
theorem upb_pick0 (idx : IVec S100x1 32) (y : S100x4096.Idx) :
    gather_S32x4096_S100x1_S100x4096_1_0_n_n_0_1_14096.start y idx 0 + gather_S32x4096_S100x1_S100x4096_1_0_n_n_0_1_14096.offCoord y 0 = (expert (idx (colAt ⟨(y 0).val, (y 0).isLt⟩))).val := by
  rw [GatherDims.offCoord_eq_zero _ _ _ (fun h => ((GatherDims.mem_sKept _ _).mp h).1 (List.mem_singleton.mpr rfl)), Nat.add_zero]
  unfold GatherDims.start
  rw [dif_pos (show (0 : Fin 2) ∈ gather_S32x4096_S100x1_S100x4096_1_0_n_n_0_1_14096.startIndexMap from List.mem_singleton.mpr rfl)]
  have hsi : gather_S32x4096_S100x1_S100x4096_1_0_n_n_0_1_14096.siIdx y ⟨List.idxOf (0 : Fin 2) gather_S32x4096_S100x1_S100x4096_1_0_n_n_0_1_14096.startIndexMap, List.idxOf_lt_length_iff.2 (List.mem_singleton.mpr rfl)⟩ = colAt ⟨(y 0).val, (y 0).isLt⟩ := by
    funext b; refine Fin.ext ?_
    match b with
    | ⟨0, _⟩ => rfl
    | ⟨1, _⟩ => rfl
  rw [hsi]
  rfl

/-- The lookup of the upper bias keeps the column. -/
theorem upb_pick1 (idx : IVec S100x1 32) (y : S100x4096.Idx) :
    gather_S32x4096_S100x1_S100x4096_1_0_n_n_0_1_14096.start y idx 1 + gather_S32x4096_S100x1_S100x4096_1_0_n_n_0_1_14096.offCoord y 1 = (y 1).val := by
  unfold GatherDims.start
  rw [dif_neg (show ¬ (1 : Fin 2) ∈ gather_S32x4096_S100x1_S100x4096_1_0_n_n_0_1_14096.startIndexMap by decide), Nat.zero_add]
  unfold GatherDims.offCoord
  rw [dif_pos (show (1 : Fin 2) ∈ gather_S32x4096_S100x1_S100x4096_1_0_n_n_0_1_14096.sKept by decide)]
  rfl

/-- A tile reads what belongs to the expert its table entry names. -/
theorem upb_pick (x : S32x4096.Idx → EReal) (idx : IVec S100x1 32) (y : S100x4096.Idx) :
    Host.gather gather_S32x4096_S100x1_S100x4096_1_0_n_n_0_1_14096 x idx y = x (upbRow (expert (idx (colAt ⟨(y 0).val, (y 0).isLt⟩))) ⟨(y 1).val, (y 1).isLt⟩) := by
  unfold Host.gather
  congr 1
  funext a
  refine Fin.ext ?_
  show gather_S32x4096_S100x1_S100x4096_1_0_n_n_0_1_14096.start y idx a + gather_S32x4096_S100x1_S100x4096_1_0_n_n_0_1_14096.batchCoord y a + gather_S32x4096_S100x1_S100x4096_1_0_n_n_0_1_14096.offCoord y a = _
  rw [GatherDims.batchCoord_eq_zero _ _ _ List.not_mem_nil, Nat.add_zero]
  match a with
  | ⟨0, _⟩ => exact upb_pick0 idx y
  | ⟨1, _⟩ => exact upb_pick1 idx y

abbrev dnRow (e : Fin 32) (k : Fin 2048) (f : Fin 2048) : S32x2048x2048.Idx := fun a => match a with
  | ⟨0, _⟩ => ⟨e.val, e.isLt⟩
  | ⟨1, _⟩ => ⟨k.val, k.isLt⟩
  | ⟨2, _⟩ => ⟨f.val, f.isLt⟩

/-- The lookup of the lower weights takes the named expert. -/
theorem dn_pick0 (idx : IVec S100x1 32) (y : S100x2048x2048.Idx) :
    gather_S32x2048x2048_S100x1_S100x2048x2048_12_0_n_n_0_1_120482048.start y idx 0 + gather_S32x2048x2048_S100x1_S100x2048x2048_12_0_n_n_0_1_120482048.offCoord y 0 = (expert (idx (colAt ⟨(y 0).val, (y 0).isLt⟩))).val := by
  rw [GatherDims.offCoord_eq_zero _ _ _ (fun h => ((GatherDims.mem_sKept _ _).mp h).1 (List.mem_singleton.mpr rfl)), Nat.add_zero]
  unfold GatherDims.start
  rw [dif_pos (show (0 : Fin 3) ∈ gather_S32x2048x2048_S100x1_S100x2048x2048_12_0_n_n_0_1_120482048.startIndexMap from List.mem_singleton.mpr rfl)]
  have hsi : gather_S32x2048x2048_S100x1_S100x2048x2048_12_0_n_n_0_1_120482048.siIdx y ⟨List.idxOf (0 : Fin 3) gather_S32x2048x2048_S100x1_S100x2048x2048_12_0_n_n_0_1_120482048.startIndexMap, List.idxOf_lt_length_iff.2 (List.mem_singleton.mpr rfl)⟩ = colAt ⟨(y 0).val, (y 0).isLt⟩ := by
    funext b; refine Fin.ext ?_
    match b with
    | ⟨0, _⟩ => rfl
    | ⟨1, _⟩ => rfl
  rw [hsi]
  rfl

/-- The lookup of the lower weights keeps the row. -/
theorem dn_pick1 (idx : IVec S100x1 32) (y : S100x2048x2048.Idx) :
    gather_S32x2048x2048_S100x1_S100x2048x2048_12_0_n_n_0_1_120482048.start y idx 1 + gather_S32x2048x2048_S100x1_S100x2048x2048_12_0_n_n_0_1_120482048.offCoord y 1 = (y 1).val := by
  unfold GatherDims.start
  rw [dif_neg (show ¬ (1 : Fin 3) ∈ gather_S32x2048x2048_S100x1_S100x2048x2048_12_0_n_n_0_1_120482048.startIndexMap by decide), Nat.zero_add]
  unfold GatherDims.offCoord
  rw [dif_pos (show (1 : Fin 3) ∈ gather_S32x2048x2048_S100x1_S100x2048x2048_12_0_n_n_0_1_120482048.sKept by decide)]
  rfl

/-- The lookup of the lower weights keeps the column. -/
theorem dn_pick2 (idx : IVec S100x1 32) (y : S100x2048x2048.Idx) :
    gather_S32x2048x2048_S100x1_S100x2048x2048_12_0_n_n_0_1_120482048.start y idx 2 + gather_S32x2048x2048_S100x1_S100x2048x2048_12_0_n_n_0_1_120482048.offCoord y 2 = (y 2).val := by
  unfold GatherDims.start
  rw [dif_neg (show ¬ (2 : Fin 3) ∈ gather_S32x2048x2048_S100x1_S100x2048x2048_12_0_n_n_0_1_120482048.startIndexMap by decide), Nat.zero_add]
  unfold GatherDims.offCoord
  rw [dif_pos (show (2 : Fin 3) ∈ gather_S32x2048x2048_S100x1_S100x2048x2048_12_0_n_n_0_1_120482048.sKept by decide)]
  rfl

/-- A tile reads what belongs to the expert its table entry names. -/
theorem dn_pick (x : S32x2048x2048.Idx → EReal) (idx : IVec S100x1 32) (y : S100x2048x2048.Idx) :
    Host.gather gather_S32x2048x2048_S100x1_S100x2048x2048_12_0_n_n_0_1_120482048 x idx y = x (dnRow (expert (idx (colAt ⟨(y 0).val, (y 0).isLt⟩))) ⟨(y 1).val, (y 1).isLt⟩ ⟨(y 2).val, (y 2).isLt⟩) := by
  unfold Host.gather
  congr 1
  funext a
  refine Fin.ext ?_
  show gather_S32x2048x2048_S100x1_S100x2048x2048_12_0_n_n_0_1_120482048.start y idx a + gather_S32x2048x2048_S100x1_S100x2048x2048_12_0_n_n_0_1_120482048.batchCoord y a + gather_S32x2048x2048_S100x1_S100x2048x2048_12_0_n_n_0_1_120482048.offCoord y a = _
  rw [GatherDims.batchCoord_eq_zero _ _ _ List.not_mem_nil, Nat.add_zero]
  match a with
  | ⟨0, _⟩ => exact dn_pick0 idx y
  | ⟨1, _⟩ => exact dn_pick1 idx y
  | ⟨2, _⟩ => exact dn_pick2 idx y

abbrev dnbRow (e : Fin 32) (f : Fin 2048) : S32x2048.Idx := fun a => match a with
  | ⟨0, _⟩ => ⟨e.val, e.isLt⟩
  | ⟨1, _⟩ => ⟨f.val, f.isLt⟩

/-- The lookup of the lower bias takes the named expert. -/
theorem dnb_pick0 (idx : IVec S100x1 32) (y : S100x2048.Idx) :
    gather_S32x2048_S100x1_S100x2048_1_0_n_n_0_1_12048.start y idx 0 + gather_S32x2048_S100x1_S100x2048_1_0_n_n_0_1_12048.offCoord y 0 = (expert (idx (colAt ⟨(y 0).val, (y 0).isLt⟩))).val := by
  rw [GatherDims.offCoord_eq_zero _ _ _ (fun h => ((GatherDims.mem_sKept _ _).mp h).1 (List.mem_singleton.mpr rfl)), Nat.add_zero]
  unfold GatherDims.start
  rw [dif_pos (show (0 : Fin 2) ∈ gather_S32x2048_S100x1_S100x2048_1_0_n_n_0_1_12048.startIndexMap from List.mem_singleton.mpr rfl)]
  have hsi : gather_S32x2048_S100x1_S100x2048_1_0_n_n_0_1_12048.siIdx y ⟨List.idxOf (0 : Fin 2) gather_S32x2048_S100x1_S100x2048_1_0_n_n_0_1_12048.startIndexMap, List.idxOf_lt_length_iff.2 (List.mem_singleton.mpr rfl)⟩ = colAt ⟨(y 0).val, (y 0).isLt⟩ := by
    funext b; refine Fin.ext ?_
    match b with
    | ⟨0, _⟩ => rfl
    | ⟨1, _⟩ => rfl
  rw [hsi]
  rfl

/-- The lookup of the lower bias keeps the column. -/
theorem dnb_pick1 (idx : IVec S100x1 32) (y : S100x2048.Idx) :
    gather_S32x2048_S100x1_S100x2048_1_0_n_n_0_1_12048.start y idx 1 + gather_S32x2048_S100x1_S100x2048_1_0_n_n_0_1_12048.offCoord y 1 = (y 1).val := by
  unfold GatherDims.start
  rw [dif_neg (show ¬ (1 : Fin 2) ∈ gather_S32x2048_S100x1_S100x2048_1_0_n_n_0_1_12048.startIndexMap by decide), Nat.zero_add]
  unfold GatherDims.offCoord
  rw [dif_pos (show (1 : Fin 2) ∈ gather_S32x2048_S100x1_S100x2048_1_0_n_n_0_1_12048.sKept by decide)]
  rfl

/-- A tile reads what belongs to the expert its table entry names. -/
theorem dnb_pick (x : S32x2048.Idx → EReal) (idx : IVec S100x1 32) (y : S100x2048.Idx) :
    Host.gather gather_S32x2048_S100x1_S100x2048_1_0_n_n_0_1_12048 x idx y = x (dnbRow (expert (idx (colAt ⟨(y 0).val, (y 0).isLt⟩))) ⟨(y 1).val, (y 1).isLt⟩) := by
  unfold Host.gather
  congr 1
  funext a
  refine Fin.ext ?_
  show gather_S32x2048_S100x1_S100x2048_1_0_n_n_0_1_12048.start y idx a + gather_S32x2048_S100x1_S100x2048_1_0_n_n_0_1_12048.batchCoord y a + gather_S32x2048_S100x1_S100x2048_1_0_n_n_0_1_12048.offCoord y a = _
  rw [GatherDims.batchCoord_eq_zero _ _ _ List.not_mem_nil, Nat.add_zero]
  match a with
  | ⟨0, _⟩ => exact dnb_pick0 idx y
  | ⟨1, _⟩ => exact dnb_pick1 idx y

end Cert.ExpertsRefIdeal.Plain

end
-- ==== Proof.ExpertsRefIdeal.Entry.lean ====
module

public import proofs.«01_k».proof.Proof.ExpertsRefIdeal.Pick

@[expose] public section

set_option maxRecDepth 16384

noncomputable section

namespace Cert.ExpertsRefIdeal.Plain

open Idealize.ShloMosaic Idealize.ShloMosaic.TcCoe Idealize.SL.Sem
open Cert.ExpertsRefIdeal Cert.ExpertsRefIdeal.Gen Cert.ExpertsRefIdeal.Read Cert.Layer

/-- The sign of a word, as the reference's floor division computes it. -/
def signOf (v : BitVec 32) : BitVec 32 := if v = 0 then 0 else if v.msb then -1 else 1

/-- The first row of a row's block of 256, as the reference computes it. -/
def startOf (v : BitVec 32) : BitVec 32 :=
  IntOp.muli (Scalar.select (IntOp.andi (IntOp.cmpi .ne (signOf v) (signOf 256#32)) (IntOp.cmpi .ne (IntOp.remsi .host v 256#32) 0#32))
    (IntOp.subi (IntOp.divsi .host v 256#32) 1#32) (IntOp.divsi .host v 256#32)) 256#32

/-- The first row of a row's block, checked row by row. -/
theorem startOf_all : ∀ r : Fin 1024, (startOf (BitVec.ofNat 32 r.val)).toInt = ((256 * (r.val / 256) : ℕ) : ℤ) := by decide +kernel

/-- The first row of every row's block. -/
theorem start_apply (i : S1024.Idx) : val_main_v61 (F := Ideal) i = startOf (BitVec.ofNat 32 (i 0).val) := by
  simp only [val_main_v61_apply, val_main_v59_apply, val_main_call1_v11_apply, val_main_call1_v6_apply, val_main_call1_v5_apply, val_main_call1_v10_apply,
    val_main_call1_v8_apply, val_main_call1_v7_apply, val_main_call1_v9_apply, val_main_call1_v13_apply, val_main_call1_v12_apply, val_main_call1_v2_apply,
    val_main_call1_v1_apply, val_main_call1_v0_apply, val_main_c_13_apply, val_main_v60_apply, val_main_c_14_apply, val_main_call1_c_apply, val_main_call1_c_0_apply,
    val_main_v58_apply]
  unfold val_main_call1_v3 val_main_call1_v4 signi
  simp only [val_main_v58_apply, val_main_call1_v0_apply, val_main_c_13_apply]
  rfl

/-- A row takes part when its block of 256 rows begins before the tile's count. -/
theorem mask_apply (x1 : IVec S100 32) (i : S100x1024x2048.Idx) :
    val_main_call2_v1 (F := Ideal) x1 i = IntOp.cmpi .slt (startOf (BitVec.ofNat 32 (i 1).val)) (x1 (tileAt ⟨(i 0).val, (i 0).isLt⟩)) := by
  rw [val_main_call2_v1_apply, val_main_v67_apply, val_main_v66_apply, val_main_v64_apply, val_main_v62_apply, start_apply, val_main_v65_apply, val_main_v63_apply]
  refine congrArg (fun z => IntOp.cmpi .slt (startOf (BitVec.ofNat 32 (i 1).val)) (x1 z)) (funext fun a => Fin.ext ?_)
  match a with
  | ⟨0, _⟩ => rfl

/-- The stacked weights and biases, one expert's entry at a time. -/
theorem up_row (E : Fin 32) (k : Fin 2048) (f : Fin 4096) : idx_main_v1 (upRow E k f) = upAt E k f := by
  have hE := E.isLt; have hk := k.isLt; have hf := f.isLt
  refine funext fun a => Fin.ext ?_
  match a with
  | ⟨0, _⟩ => rfl
  | ⟨1, _⟩ => show ((E.val * 2048 + k.val) * 4096 + f.val) / 8388608 % 32 = E.val; omega
  | ⟨2, _⟩ => show ((E.val * 2048 + k.val) * 4096 + f.val) / 4096 % 2048 = k.val; omega
  | ⟨3, _⟩ => show ((E.val * 2048 + k.val) * 4096 + f.val) % 4096 = f.val; omega

/-- An expert's upper bias as a row of the reference's reshaped biases. -/
theorem upb_row (E : Fin 32) (f : Fin 4096) : idx_main_v10 (upbRow E f) = upbAt E f := by
  have hE := E.isLt; have hf := f.isLt
  refine funext fun a => Fin.ext ?_
  match a with
  | ⟨0, _⟩ => rfl
  | ⟨1, _⟩ => show (E.val * 4096 + f.val) / 4096 % 32 = E.val; omega
  | ⟨2, _⟩ => show (E.val * 4096 + f.val) % 4096 = f.val; omega

/-- An expert's lower weights as a row of the reference's reshaped weights. -/
theorem dn_row (E : Fin 32) (f d : Fin 2048) : idx_main_v38 (dnRow E f d) = dnAt E f d := by
  have hE := E.isLt; have hk := f.isLt; have hf := d.isLt
  refine funext fun a => Fin.ext ?_
  match a with
  | ⟨0, _⟩ => rfl
  | ⟨1, _⟩ => show ((E.val * 2048 + f.val) * 2048 + d.val) / 4194304 % 32 = E.val; omega
  | ⟨2, _⟩ => show ((E.val * 2048 + f.val) * 2048 + d.val) / 2048 % 2048 = f.val; omega
  | ⟨3, _⟩ => show ((E.val * 2048 + f.val) * 2048 + d.val) % 2048 = d.val; omega

/-- An expert's lower bias as a row of the reference's reshaped biases. -/
theorem dnb_row (E : Fin 32) (d : Fin 2048) : idx_main_v47 (dnbRow E d) = dnbAt E d := by
  have hE := E.isLt; have hf := d.isLt
  refine funext fun a => Fin.ext ?_
  match a with
  | ⟨0, _⟩ => rfl
  | ⟨1, _⟩ => show (E.val * 2048 + d.val) / 2048 % 32 = E.val; omega
  | ⟨2, _⟩ => show (E.val * 2048 + d.val) % 2048 = d.val; omega

section Tables

variable (x0 : IVec S100 32) (hx : ∀ j, 0 ≤ (x0 j).toInt)

include hx

/-- The index of the lookup of the upper weights: no entry is negative, so none is wrapped. -/
theorem tab7 (j : S100x1.Idx) : val_main_v7 (F := Ideal) x0 j = x0 (tileAt ⟨(j 0).val, (j 0).isLt⟩) := by
  rw [val_main_v7_apply, val_main_v6_apply, val_main_v3_apply, val_main_v2_apply, val_main_c_apply, val_main_v5_apply, val_main_v4_apply, val_main_c_0_apply, wrap_eq _ (hx _)]
  exact congrArg x0 (funext fun a => Fin.ext (match a with | ⟨0, _⟩ => rfl))

/-- The same of the lookup of the upper bias. -/
theorem tab16 (j : S100x1.Idx) : val_main_v16 (F := Ideal) x0 j = x0 (tileAt ⟨(j 0).val, (j 0).isLt⟩) := by
  rw [val_main_v16_apply, val_main_v15_apply, val_main_v12_apply, val_main_v11_apply, val_main_c_1_apply, val_main_v14_apply, val_main_v13_apply, val_main_c_2_apply, wrap_eq _ (hx _)]
  exact congrArg x0 (funext fun a => Fin.ext (match a with | ⟨0, _⟩ => rfl))

/-- The same of the lookup of the lower weights. -/
theorem tab44 (j : S100x1.Idx) : val_main_v44 (F := Ideal) x0 j = x0 (tileAt ⟨(j 0).val, (j 0).isLt⟩) := by
  rw [val_main_v44_apply, val_main_v43_apply, val_main_v40_apply, val_main_v39_apply, val_main_c_9_apply, val_main_v42_apply, val_main_v41_apply, val_main_c_10_apply, wrap_eq _ (hx _)]
  exact congrArg x0 (funext fun a => Fin.ext (match a with | ⟨0, _⟩ => rfl))

/-- The same of the lookup of the lower bias. -/
theorem tab53 (j : S100x1.Idx) : val_main_v53 (F := Ideal) x0 j = x0 (tileAt ⟨(j 0).val, (j 0).isLt⟩) := by
  rw [val_main_v53_apply, val_main_v52_apply, val_main_v49_apply, val_main_v48_apply, val_main_c_11_apply, val_main_v51_apply, val_main_v50_apply, val_main_c_12_apply, wrap_eq _ (hx _)]
  exact congrArg x0 (funext fun a => Fin.ext (match a with | ⟨0, _⟩ => rfl))

/-- The upward weights a tile uses. -/
theorem w_up (x4 : TU.Idx → EReal) (y : S100x2048x4096.Idx) :
    val_main_v8 (F := Ideal) x0 x4 y = x4 (upAt (expert (x0 (tileAt ⟨(y 0).val, (y 0).isLt⟩))) ⟨(y 1).val, (y 1).isLt⟩ ⟨(y 2).val, (y 2).isLt⟩) := by
  unfold val_main_v8
  rw [up_pick, tab7 x0 hx, val_main_v1_apply, up_row]

/-- The upward bias a tile uses. -/
theorem b_up (x5 : TUB.Idx → EReal) (y : S100x4096.Idx) :
    val_main_v17 (F := Ideal) x0 x5 y = x5 (upbAt (expert (x0 (tileAt ⟨(y 0).val, (y 0).isLt⟩))) ⟨(y 1).val, (y 1).isLt⟩) := by
  unfold val_main_v17
  rw [upb_pick, tab16 x0 hx, val_main_v10_apply, upb_row]

/-- The downward weights a tile uses. -/
theorem w_down (x6 : TD.Idx → EReal) (y : S100x2048x2048.Idx) :
    val_main_v45 (F := Ideal) x0 x6 y = x6 (dnAt (expert (x0 (tileAt ⟨(y 0).val, (y 0).isLt⟩))) ⟨(y 1).val, (y 1).isLt⟩ ⟨(y 2).val, (y 2).isLt⟩) := by
  unfold val_main_v45
  rw [dn_pick, tab44 x0 hx, val_main_v38_apply, dn_row]

/-- The downward bias a tile uses. -/
theorem b_down (x7 : TDB.Idx → EReal) (y : S100x2048.Idx) :
    val_main_v54 (F := Ideal) x0 x7 y = x7 (dnbAt (expert (x0 (tileAt ⟨(y 0).val, (y 0).isLt⟩))) ⟨(y 1).val, (y 1).isLt⟩) := by
  unfold val_main_v54
  rw [dnb_pick, tab53 x0 hx, val_main_v47_apply, dnb_row]

/-- A row's hidden units before activation. -/
theorem pre_act (x3 : TX.Idx → EReal) (x4 : TU.Idx → EReal) (x5 : TUB.Idx → EReal) (i : S100x1024x4096.Idx) (t : Fin 100) (r : Fin 1024) (f : Fin 4096)
    (h0 : (i 0).val = t.val) (h1 : (i 1).val = r.val) (h2 : (i 2).val = f.val) :
    val_main_v20 (F := Ideal) x0 x3 x4 x5 i = Layer.hidden (fun k => x3 (xsAt t r k)) (fun k => x4 (upAt (expert (x0 (tileAt t))) k f)) (x5 (upbAt (expert (x0 (tileAt t))) f)) := by
  have ht : (⟨(i 0).val, (i 0).isLt⟩ : Fin 100) = t := Fin.ext h0
  have hf : (⟨(i 2).val, (i 2).isLt⟩ : Fin 4096) = f := Fin.ext h2
  have e : val_main_v20 (F := Ideal) x0 x3 x4 x5 i = val_main_v9 (F := Ideal) x0 x3 x4 i + val_main_v19 (F := Ideal) x0 x5 i := rfl
  rw [e, val_main_v9_apply, val_main_v19_apply, val_main_v18_apply, b_up x0 hx]
  unfold Layer.hidden
  refine congrArg₂ (· + ·) (Finset.sum_congr rfl fun k _ => ?_) ?_
  · rw [w_up x0 hx, val_main_v0_apply]
    refine congrArg₂ (· * ·) (congrArg x3 (funext fun a => Fin.ext ?_)) ?_
    · have hk := k.isLt
      have hr := r.isLt
      match a with
      | ⟨0, _⟩ => show (((i 0).val * 1024 + (i 1).val) * 2048 + k.val) / 2048 = 1024 * t.val + r.val; omega
      | ⟨1, _⟩ => show (((i 0).val * 1024 + (i 1).val) * 2048 + k.val) % 2048 = k.val; omega
    · show x4 (upAt (expert (x0 (tileAt ⟨(i 0).val, (i 0).isLt⟩))) ⟨k.val, k.isLt⟩ ⟨(i 2).val, (i 2).isLt⟩) = _
      rw [ht, hf]
  · show x5 (upbAt (expert (x0 (tileAt ⟨(i 0).val, (i 0).isLt⟩))) ⟨(i 2).val, (i 2).isLt⟩) = _
    rw [ht, hf]

/-- A row's hidden units, activated. -/
theorem act (x3 : TX.Idx → EReal) (x4 : TU.Idx → EReal) (x5 : TUB.Idx → EReal) (i : S100x1024x2048.Idx) (t : Fin 100) (r : Fin 1024) (f : Fin 2048)
    (h0 : (i 0).val = t.val) (h1 : (i 1).val = r.val) (h2 : (i 2).val = f.val) :
    val_main_v37 (F := Ideal) x0 x3 x4 x5 i = unit (fun k => x3 (xsAt t r k)) (fun k f => x4 (upAt (expert (x0 (tileAt t))) k f)) (fun f => x5 (upbAt (expert (x0 (tileAt t))) f)) f := by
  have g2 : ((idx_main_v21 i) 2).val = (gateCol f).val := h2
  have l2 : ((idx_main_v24 i) 2).val = (linCol f).val := by show 2048 + (i 2).val = 2048 + f.val; rw [h2]
  have hg := pre_act x0 hx x3 x4 x5 (idx_main_v21 i) t r (gateCol f) h0 h1 g2
  have hl := pre_act x0 hx x3 x4 x5 (idx_main_v24 i) t r (linCol f) h0 h1 l2
  rw [← val_main_v21_apply] at hg
  rw [← val_main_v24_apply] at hl
  have e23 : val_main_v23 (F := Ideal) x0 x3 x4 x5 i = min (val_main_v21 (F := Ideal) x0 x3 x4 x5 i) lim := by
    rw [val_main_v23_apply, val_main_v22_apply, val_main_cst_apply]; rfl
  have e25 : val_main_v25 (F := Ideal) x0 x3 x4 x5 i = min lim (max limNeg (val_main_v24 (F := Ideal) x0 x3 x4 x5 i)) := by
    rw [val_main_v25_apply, val_main_call0_v4_apply, val_main_call0_v3_apply, val_main_cst_4_apply, val_main_call0_v2_apply, val_main_call0_v1_apply, val_main_call0_v0_apply, val_main_cst_3_apply]; rfl
  have e33 : val_main_v33 (F := Ideal) x0 x3 x4 x5 i = Ideal.logistic (slope * val_main_v23 (F := Ideal) x0 x3 x4 x5 i) := by
    rw [val_main_v33_apply, val_main_v32_apply, val_main_cst_7_apply, val_main_v31_apply, val_main_v30_apply, val_main_cst_6_apply, val_main_v29_apply, val_main_v28_apply, val_main_v27_apply, val_main_v26_apply, val_main_cst_5_apply]
    rw [Ideal.hostDivf_def, Ideal.hostUnary_exp_def, Ideal.hostNegf_def, Ideal.ofBits_def, Ideal.ofBits_one_f32]
    rfl
  have e36 : val_main_v36 (F := Ideal) x0 x3 x4 x5 i = val_main_v25 (F := Ideal) x0 x3 x4 x5 i + 1 := by
    rw [val_main_v36_apply, val_main_v35_apply, val_main_cst_8_apply, Ideal.ofBits_def, Ideal.ofBits_one_f32]; rfl
  have e37 : val_main_v37 (F := Ideal) x0 x3 x4 x5 i = val_main_v23 (F := Ideal) x0 x3 x4 x5 i * val_main_v33 (F := Ideal) x0 x3 x4 x5 i * val_main_v36 (F := Ideal) x0 x3 x4 x5 i := rfl
  rw [e37, e36, e33, e25, e23, hg, hl]
  rfl

/-- The reference's entry. -/
theorem entry_apply (x1 : IVec S100 32) (x3 : TX.Idx → EReal) (x4 : TU.Idx → EReal) (x5 : TUB.Idx → EReal) (x6 : TD.Idx → EReal) (x7 : TDB.Idx → EReal)
    (i : S100x1024x2048.Idx) (t : Fin 100) (r : Fin 1024) (d : Fin 2048) (h0 : (i 0).val = t.val) (h1 : (i 1).val = r.val) (h2 : (i 2).val = d.val) :
    val_main_v68 (F := Ideal) x0 x1 x3 x4 x5 x6 x7 i = entry x0 x1 x3 x4 x5 x6 x7 t r d := by
  have ht : (⟨(i 0).val, (i 0).isLt⟩ : Fin 100) = t := Fin.ext h0
  have hd : (⟨(i 2).val, (i 2).isLt⟩ : Fin 2048) = d := Fin.ext h2
  have e57 : val_main_v57 (F := Ideal) x0 x3 x4 x5 x6 x7 i = answer (fun k => x3 (xsAt t r k)) (fun k f => x4 (upAt (expert (x0 (tileAt t))) k f)) (fun f => x5 (upbAt (expert (x0 (tileAt t))) f))
      (fun f => x6 (dnAt (expert (x0 (tileAt t))) f d)) (x7 (dnbAt (expert (x0 (tileAt t))) d)) := by
    have e : val_main_v57 (F := Ideal) x0 x3 x4 x5 x6 x7 i = val_main_v46 (F := Ideal) x0 x3 x4 x5 x6 i + val_main_v56 (F := Ideal) x0 x7 i := rfl
    rw [e, val_main_v46_apply, val_main_v56_apply, val_main_v55_apply, b_down x0 hx]
    unfold answer
    refine congrArg₂ (· + ·) (Finset.sum_congr rfl fun k _ => ?_) ?_
    · rw [act x0 hx x3 x4 x5 (lidx_main_v46 i k) t r k h0 h1 rfl, w_down x0 hx]
      refine congrArg₂ (· * ·) rfl ?_
      show x6 (dnAt (expert (x0 (tileAt ⟨(i 0).val, (i 0).isLt⟩))) ⟨k.val, k.isLt⟩ ⟨(i 2).val, (i 2).isLt⟩) = _
      rw [ht, hd]
    · show x7 (dnbAt (expert (x0 (tileAt ⟨(i 0).val, (i 0).isLt⟩))) ⟨(i 2).val, (i 2).isLt⟩) = _
      rw [ht, hd]
  rw [val_main_v68_apply, mask_apply, e57, ht, h1, val_main_call2_v2_apply, val_main_call2_v0_apply, val_main_cst_15_apply, Ideal.ofBits_def, Ideal.ofBits_zero_f32]
  unfold entry
  have hs : IntOp.cmpi .slt (startOf (BitVec.ofNat 32 r.val)) (x1 (tileAt t)) = BitVec.ofBool (decide ((startOf (BitVec.ofNat 32 r.val)).toInt < (x1 (tileAt t)).toInt)) := rfl
  rw [hs, startOf_all r]
  by_cases hc : ((256 * (r.val / 256) : ℕ) : ℤ) < (x1 (tileAt t)).toInt
  · rw [if_pos hc, decide_eq_true hc]; rfl
  · rw [if_neg hc, decide_eq_false hc]; rfl

/-- The reference's output at row `p`. -/
theorem output_apply (x1 : IVec S100 32) (x3 : TX.Idx → EReal) (x4 : TU.Idx → EReal) (x5 : TUB.Idx → EReal) (x6 : TD.Idx → EReal) (x7 : TDB.Idx → EReal) (p : S102400x2048.Idx) :
    val_main_v69 (F := Ideal) x0 x1 x3 x4 x5 x6 x7 p = entry x0 x1 x3 x4 x5 x6 x7
      ⟨(p 0).val / 1024, by have h0 : (p 0).val < 102400 := (p 0).isLt; omega⟩ ⟨(p 0).val % 1024, by omega⟩ ⟨(p 1).val, (p 1).isLt⟩ := by
  have h1 : (p 1).val < 2048 := (p 1).isLt
  rw [val_main_v69_apply]
  refine entry_apply x0 hx x1 x3 x4 x5 x6 x7 (idx_main_v69 p) _ _ _ ?_ ?_ ?_
  · show ((p 0).val * 2048 + (p 1).val) / 2097152 = (p 0).val / 1024; omega
  · show ((p 0).val * 2048 + (p 1).val) / 2048 % 1024 = (p 0).val % 1024; omega
  · show ((p 0).val * 2048 + (p 1).val) % 2048 = (p 1).val; omega

end Tables

end Cert.ExpertsRefIdeal.Plain

end
-- ==== Proof.ScanIdeal.Runs.lean ====
module

public import proofs.«01_k».proof.Proof.Gen.ScanIdeal.Launch
public import proofs.«01_k».proof.Proof.Gen.ScanIdeal.Skeleton
public import proofs.«01_k».proof.Proof.Gen.ScanIdeal.Loops
public import proofs.«01_k».proof.Proof.Gen.ScanIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- What a core's buffers hold once the reshapes before the launch are done. -/
abbrev V (c : Dev nD) (b : Ref sig .tc) : Buf (Elt F) ((c : Thread nD τ).loc b) := StableHlo.after hostOps0 (fun b => m (c, b)) b

/-- The host part makes no new array. -/
theorem hostOps0_fresh : (hostOps0 : List (HloOp τ sig (Elt F))).Forall fun op => op.fresh = ∅ := by
  simp only [List.Forall]; repeat' constructor

set_option maxHeartbeats 800000 in
/-- The program is its host reshapes followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshapes leave every array alone that is not one of their six results. -/
theorem V_keep (c : Dev nD) (b : Ref sig .tc) (h : b ∉ [main_v0, main_v1, main_v2, main_v3, main_v4, main_v5]) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    repeat' apply And.intro
    all_goals exact StableHlo.devRef_ne_of_ne (fun e => h (by rw [e]; decide))))

/-! ## The windows' blocks -/

/-- The part of window `w`'s array that step `t` of the grid works on. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body finds window 0's part of step `t` in its buffer. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The body finds window 1's part of step `t` in its buffer. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The body finds window 2's part of step `t` in its buffer. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The body finds window 3's part of step `t` in its buffer. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The body finds window 4's part of step `t` in its buffer. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- The body finds window 5's part of step `t` in its buffer. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- The body finds window 6's part of step `t` in its buffer. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- The body finds window 7's part of step `t` in its buffer. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run -/

/-- A run of the launch that leaves every array it only reads, and every array it does not touch, as it found them leaves the eight arguments as they were. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_keep m c main_arg0 (by decide)),
      ((h c).2 main_arg1 (Pipeline.mem_restRefs_of main_arg1 (by decide) (by decide))).trans (V_keep m c main_arg1 (by decide)),
      ((h c).2 main_arg2 (Pipeline.mem_restRefs_of main_arg2 (by decide) (by decide))).trans (V_keep m c main_arg2 (by decide)),
      ((h c).1 3).trans (((dats 0 c).arrAt_in 3 rfl _).trans ((hA c 3).trans (V_keep m c main_arg3 (by decide)))),
      ((h c).1 4).trans (((dats 0 c).arrAt_in 4 rfl _).trans ((hA c 4).trans (V_keep m c main_arg4 (by decide)))),
      ((h c).1 5).trans (((dats 0 c).arrAt_in 5 rfl _).trans ((hA c 5).trans (V_keep m c main_arg5 (by decide)))),
      ((h c).1 6).trans (((dats 0 c).arrAt_in 6 rfl _).trans ((hA c 6).trans (V_keep m c main_arg6 (by decide)))),
      ((h c).2 main_arg7 (Pipeline.mem_restRefs_of main_arg7 (by decide) (by decide))).trans (V_keep m c main_arg7 (by decide))⟩) h

/-! ## The body's branch conditions -/

/-- The body starts its carried state anew. -/
abbrev cond0_0 (i : grid0.Coords) : Prop := (Scalar.cmpi .ne (Scalar.extui (Scalar.cmpi .eq (BitVec.ofNat 32 (i 1).val) 0#32)) 0#32) = 1#1
/-- That is at a sequence's first chunk. -/
theorem hcond0_0 : ∀ t : Fin cfg0.N, cond0_0 (grid0.coords t) ↔ t.val % 2 = 0 :=
  (fun t => by
    have ht : t.val < 4 := Nat.lt_of_lt_of_eq t.isLt N_0
    have e0 : (grid0.coords t 0).val = t.val / 2 % 2 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 2 = 0)

/-- The body writes its state out. -/
abbrev cond0_1 (i : grid0.Coords) : Prop := k0_cond2 i = 1#1
/-- That is at a sequence's last chunk. -/
theorem hcond0_1 : ∀ t : Fin cfg0.N, cond0_1 (grid0.coords t) ↔ t.val % 2 = 1 :=
  (fun t => by
    have ht : t.val < 4 := Nat.lt_of_lt_of_eq t.isLt N_0
    have e0 : (grid0.coords t 0).val = t.val / 2 % 2 := Pipeline.Grid.coords_val t 0 (by decide) rfl
    have e1 : (grid0.coords t 1).val = t.val / 1 % 2 := Pipeline.Grid.coords_val t 1 (by decide) rfl
    simp only [cond0_1, k0_cond2, e0, e1]
    word_cmp
   : ∀ t : Fin grid0.N, cond0_1 (grid0.coords t) ↔ t.val % 2 = 1)

/-! ## Which windows a chunk touches -/

/-- Every chunk reads window 0. -/
theorem liveAt0_0 : ∀ t : Fin cfg0.N, cfg0.idle 0 (grid0.coords t) = false := fun _ => rfl
/-- Every chunk reads window 1. -/
theorem liveAt0_1 : ∀ t : Fin cfg0.N, cfg0.idle 1 (grid0.coords t) = false := fun _ => rfl
/-- Every chunk reads window 2. -/
theorem liveAt0_2 : ∀ t : Fin cfg0.N, cfg0.idle 2 (grid0.coords t) = false := fun _ => rfl
/-- Every chunk reads window 3. -/
theorem liveAt0_3 : ∀ t : Fin cfg0.N, cfg0.idle 3 (grid0.coords t) = false := fun _ => rfl
/-- Every chunk reads window 4. -/
theorem liveAt0_4 : ∀ t : Fin cfg0.N, cfg0.idle 4 (grid0.coords t) = false := fun _ => rfl
/-- Every chunk reads window 5. -/
theorem liveAt0_5 : ∀ t : Fin cfg0.N, cfg0.idle 5 (grid0.coords t) = false := fun _ => rfl
/-- Every chunk reads window 6. -/
theorem liveAt0_6 : ∀ t : Fin cfg0.N, cfg0.idle 6 (grid0.coords t) = false := fun _ => rfl
/-- Every chunk reads window 7. -/
theorem liveAt0_7 : ∀ t : Fin cfg0.N, cfg0.idle 7 (grid0.coords t) = false := fun _ => rfl
/-- Every chunk writes window 8. -/
theorem liveAt0_8 : ∀ t : Fin cfg0.N, cfg0.idle 8 (grid0.coords t) = false := fun _ => rfl
/-- A first chunk does not touch output 9. -/
theorem idleAt0_9_A : ∀ t : Fin cfg0.N, cond0_0 (grid0.coords t) → ¬cond0_1 (grid0.coords t) → cfg0.idle 9 (grid0.coords t) = true := by decide +kernel
/-- After a first chunk output 9 is not copied out. -/
theorem noFlush0_9_A : ∀ t : Fin cfg0.N, cond0_0 (grid0.coords t) → ¬cond0_1 (grid0.coords t) → (cfg0.win 9).flush t = false := by decide +kernel
/-- A last chunk writes output 9. -/
theorem liveAt0_9_B : ∀ t : Fin cfg0.N, ¬cond0_0 (grid0.coords t) → cond0_1 (grid0.coords t) → cfg0.idle 9 (grid0.coords t) = false := by decide +kernel
/-- A first chunk does not touch output 10. -/
theorem idleAt0_10_A : ∀ t : Fin cfg0.N, cond0_0 (grid0.coords t) → ¬cond0_1 (grid0.coords t) → cfg0.idle 10 (grid0.coords t) = true := by decide +kernel
/-- After a first chunk output 10 is not copied out. -/
theorem noFlush0_10_A : ∀ t : Fin cfg0.N, cond0_0 (grid0.coords t) → ¬cond0_1 (grid0.coords t) → (cfg0.win 10).flush t = false := by decide +kernel
/-- A last chunk writes output 10. -/
theorem liveAt0_10_B : ∀ t : Fin cfg0.N, ¬cond0_0 (grid0.coords t) → cond0_1 (grid0.coords t) → cfg0.idle 10 (grid0.coords t) = false := by decide +kernel

/-! ## The buffers the body is handed -/

/-- A buffer of output 8, to say what the body leaves there. -/
abbrev VO0_8 : View sig .tc .vmem S1x256x1024 .bf16 := (Memref.whole cc0_stg8_0 : Memref sig .tc .vmem S1x256x1024 .bf16).view
/-- A buffer of output 9, to say what the body leaves there. -/
abbrev VO0_9 : View sig .tc .vmem S1x8x4096 .f32 := (Memref.whole cc0_stg9_0 : Memref sig .tc .vmem S1x8x4096 .f32).view
/-- A buffer of output 10, to say what the body leaves there. -/
abbrev VO0_10 : View sig .tc .vmem S1x8x4096 .f32 := (Memref.whole cc0_stg10_0 : Memref sig .tc .vmem S1x8x4096 .f32).view
/-- The buffers of the eleven windows at step `t`. -/
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x1024x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x4096 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x8x4096 .f32 := win0_10.stage (cfg0.slots t 10)
abbrev hs0_10 (t : Fin cfg0.N) : (ms0_10 t).IsWhole := hstage0_10 ((cfg0.slots t 10).cast nbuf0_10)
/-- The kernel's four scratch buffers. -/
abbrev scM0_0 : Memref sig .tc .vmem S256x4096 .f32 := Memref.whole cc0_scratch0
abbrev scM0_1 : Memref sig .tc .vmem S256x4096 .f32 := Memref.whole cc0_scratch1
abbrev scM0_2 : Memref sig .tc .vmem S8x4096 .f32 := Memref.whole cc0_scratch2
abbrev scM0_3 : Memref sig .tc .vmem S8x4096 .f32 := Memref.whole cc0_scratch3

/-- What the steps pass on: the four scratch buffers and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.ScanIdeal.Gen

end
-- ==== Proof.ScanIdeal.RunA.lean ====
module

public import proofs.«01_k».proof.Proof.ScanIdeal.Runs

@[expose] public section

set_option maxRecDepth 16384

noncomputable section

namespace Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1772000 in
/-- A first chunk of a sequence, on any buffers that hold the inputs: the body runs, leaves the inputs as they were, and leaves in the outputs and in the carried state the pieces that the run names. -/
noncomputable def kernelRun0_A (c : Dev nD) (i : grid0.Coords) (arg2 : Memref sig .tc .vmem S1x256x1024 .f32) (harg2 : arg2.IsWhole) (arg3 : Memref sig .tc .vmem S1x8x4096 .f32) (harg3 : arg3.IsWhole) (arg4 : Memref sig .tc .vmem S1x8x4096 .f32) (harg4 : arg4.IsWhole) (arg5 : Memref sig .tc .vmem S8x4096 .f32) (harg5 : arg5.IsWhole) (arg6 : Memref sig .tc .vmem S8x4096 .f32) (harg6 : arg6.IsWhole) (arg7 : Memref sig .tc .vmem S8x128x1024 .bf16) (harg7 : arg7.IsWhole) (arg8 : Memref sig .tc .vmem S8x1024x128 .bf16) (harg8 : arg8.IsWhole) (arg9 : Memref sig .tc .vmem S1x1024 .f32) (harg9 : arg9.IsWhole) (arg10 : Memref sig .tc .vmem S1x256x1024 .bf16) (harg10 : arg10.IsWhole) (arg11 : Memref sig .tc .vmem S1x8x4096 .f32) (harg11 : arg11.IsWhole) (arg12 : Memref sig .tc .vmem S1x8x4096 .f32) (harg12 : arg12.IsWhole) (arg13 : Memref sig .tc .vmem S256x4096 .f32) (harg13 : arg13.IsWhole) (arg14 : Memref sig .tc .vmem S256x4096 .f32) (harg14 : arg14.IsWhole) (arg15 : Memref sig .tc .vmem S8x4096 .f32) (harg15 : arg15.IsWhole) (arg16 : Memref sig .tc .vmem S8x4096 .f32) (harg16 : arg16.IsWhole) (hc0 : cond0_0 i) (hc1 : ¬cond0_1 i)
    (x0 : Vec F S1x256x1024 .f32) (x1 : Vec F S1x8x4096 .f32) (x2 : Vec F S1x8x4096 .f32) (x3 : Vec F S8x4096 .f32) (x4 : Vec F S8x4096 .f32) (x5 : Vec F S8x128x1024 .bf16) (x6 : Vec F S8x1024x128 .bf16) (x7 : Vec F S1x1024 .f32) :
    Σ' (L8 : List (View.Piece (Elt F) S1x256x1024 .bf16)), Σ' (L9 : List (View.Piece (Elt F) S1x8x4096 .f32)), Σ' (L10 : List (View.Piece (Elt F) S1x8x4096 .f32)), Σ' (LT2 : List (View.Piece (Elt F) S8x4096 .f32)), { LT3 : List (View.Piece (Elt F) S8x4096 .f32) //
      ∀ (xi9 : Vec F S1x8x4096 .f32) (xi10 : Vec F S1x8x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xi10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ owns (c : Thread nD τ) arg12 fullShare xi10 ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LT2) ∗ (∃ f, arg16.view.loc (c : Thread nD τ) ↦[arg16.view.set]{fullShare} arg16.view.writes (Elt F) f LT3)) -∗ K ⟨⟩))
          ⊢ wp frame (wpE (defs₀ (F := F)) Variants.none c none) E (cc0_s5_scan i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], [], ?_, ?_, fun xi9 xi10 E K => ?run⟩
  case run =>
    simp only [cc0_s5_scan_eq_skeleton]; unfold cc0_s5_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [HS0]
    · iexists _, _; isplitr; swap; · iexact HS0
      ipureintro; rfl
    isplitl [HS1]
    · iexists _, _; isplitr; swap; · iexact HS1
      ipureintro; rfl
    isplitl [HS2]; · iexists _; iexact HS2
    iexists _; iexact HS3

end Cert.ScanIdeal.Gen

end
-- ==== Proof.ScanIdeal.RunB.lean ====
module

public import proofs.«01_k».proof.Proof.ScanIdeal.RunA

@[expose] public section

set_option maxRecDepth 16384

noncomputable section

namespace Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1772000 in
/-- A last chunk of a sequence, on any buffers that hold the inputs: the body runs, leaves the inputs as they were, and leaves in the outputs and in the carried state the pieces that the run names. -/
noncomputable def kernelRun0_B (c : Dev nD) (i : grid0.Coords) (arg2 : Memref sig .tc .vmem S1x256x1024 .f32) (harg2 : arg2.IsWhole) (arg3 : Memref sig .tc .vmem S1x8x4096 .f32) (harg3 : arg3.IsWhole) (arg4 : Memref sig .tc .vmem S1x8x4096 .f32) (harg4 : arg4.IsWhole) (arg5 : Memref sig .tc .vmem S8x4096 .f32) (harg5 : arg5.IsWhole) (arg6 : Memref sig .tc .vmem S8x4096 .f32) (harg6 : arg6.IsWhole) (arg7 : Memref sig .tc .vmem S8x128x1024 .bf16) (harg7 : arg7.IsWhole) (arg8 : Memref sig .tc .vmem S8x1024x128 .bf16) (harg8 : arg8.IsWhole) (arg9 : Memref sig .tc .vmem S1x1024 .f32) (harg9 : arg9.IsWhole) (arg10 : Memref sig .tc .vmem S1x256x1024 .bf16) (harg10 : arg10.IsWhole) (arg11 : Memref sig .tc .vmem S1x8x4096 .f32) (harg11 : arg11.IsWhole) (arg12 : Memref sig .tc .vmem S1x8x4096 .f32) (harg12 : arg12.IsWhole) (arg13 : Memref sig .tc .vmem S256x4096 .f32) (harg13 : arg13.IsWhole) (arg14 : Memref sig .tc .vmem S256x4096 .f32) (harg14 : arg14.IsWhole) (arg15 : Memref sig .tc .vmem S8x4096 .f32) (harg15 : arg15.IsWhole) (arg16 : Memref sig .tc .vmem S8x4096 .f32) (harg16 : arg16.IsWhole) (hc0 : ¬cond0_0 i) (hc1 : cond0_1 i)
    (x0 : Vec F S1x256x1024 .f32) (x1 : Vec F S1x8x4096 .f32) (x2 : Vec F S1x8x4096 .f32) (x3 : Vec F S8x4096 .f32) (x4 : Vec F S8x4096 .f32) (x5 : Vec F S8x128x1024 .bf16) (x6 : Vec F S8x1024x128 .bf16) (x7 : Vec F S1x1024 .f32) (x15 x16 : Vec F S8x4096 .f32) :
    Σ' (L8 : List (View.Piece (Elt F) S1x256x1024 .bf16)), Σ' (L9 : List (View.Piece (Elt F) S1x8x4096 .f32)), Σ' (L10 : List (View.Piece (Elt F) S1x8x4096 .f32)), Σ' (LT2 : List (View.Piece (Elt F) S8x4096 .f32)), { LT3 : List (View.Piece (Elt F) S8x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare x15 ∗ owns (c : Thread nD τ) arg16 fullShare x16
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LT2) ∗ (∃ f, arg16.view.loc (c : Thread nD τ) ↦[arg16.view.set]{fullShare} arg16.view.writes (Elt F) f LT3)) -∗ K ⟨⟩))
          ⊢ wp frame (wpE (defs₀ (F := F)) Variants.none c none) E (cc0_s5_scan i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_s5_scan_eq_skeleton]; unfold cc0_s5_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%fs2, %hs2, HS2⟩, ⟨%fs3, %hs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg15.eq_unread hs2; obtain rfl := harg16.eq_unread hs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [HS0]
    · iexists _, _; isplitr; swap; · iexact HS0
      ipureintro; rfl
    isplitl [HS1]
    · iexists _, _; isplitr; swap; · iexact HS1
      ipureintro; rfl
    isplitl [HS2]; · iexists _; iexact HS2
    iexists _; iexact HS3

end Cert.ScanIdeal.Gen

end
-- ==== Proof.ScanIdeal.Frame.lean ====
module

public import proofs.«01_k».proof.Proof.ScanIdeal.RunB
public import Idealize.ShloMosaic.Lib.Claim

@[expose] public section

set_option maxRecDepth 16384

noncomputable section

namespace Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents that a state has: one array of real parts, one of imaginary parts. -/
abbrev StateOf (F : FTy → Type) := Vec F S8x4096 .f32 × Vec F S8x4096 .f32

/-- A sequence's first chunk is not its last. -/
theorem not_last (t : Fin cfg0.N) (h : t.val % 2 = 0) : ¬cond0_1 (grid0.coords t) := fun e => by
  have := (hcond0_1 t).mp e; omega

/-- A sequence's last chunk is not its first. -/
theorem not_first (t : Fin cfg0.N) (h : t.val % 2 = 1) : ¬cond0_0 (grid0.coords t) := fun e => by
  have := (hcond0_0 t).mp e; omega

/-- The body's run at a sequence group's first chunk, on that point's buffers and blocks. -/
def runA (c : Dev nD) (t : Fin cfg0.N) (h : t.val % 2 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h) (not_last t h) (iblk m c 0 t) (iblk m c 1 t) (iblk m c 2 t) (iblk m c 3 t) (iblk m c 4 t) (iblk m c 5 t) (iblk m c 6 t) (iblk m c 7 t)

/-- The body's run at a group's second chunk, started in the state `s`. -/
def runB (c : Dev nD) (t : Fin cfg0.N) (h : t.val % 2 = 1) (s : StateOf F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (not_first t h) ((hcond0_1 t).mpr h) (iblk m c 0 t) (iblk m c 1 t) (iblk m c 2 t) (iblk m c 3 t) (iblk m c 4 t) (iblk m c 5 t) (iblk m c 6 t) (iblk m c 7 t) s.1 s.2

/-- The pieces of a first chunk cover its part of the sequence output. -/
theorem cover8_A (c : Dev nD) (t : Fin cfg0.N) (h : t.val % 2 = 0) (y : S1x256x1024.Idx) : ∃ pc ∈ (runA m c t h).1, y ∈ pc.1.set :=
  View.cover_of_tiledL (runA m c t h).1 S1x256x128.size (by sl_kernel_rfl) y

/-- The pieces of a first chunk cover the carried real states. -/
theorem coverRe_A (c : Dev nD) (t : Fin cfg0.N) (h : t.val % 2 = 0) (y : S8x4096.Idx) : ∃ pc ∈ (runA m c t h).2.2.2.1, y ∈ pc.1.set :=
  View.cover_of_tiledL (runA m c t h).2.2.2.1 S8x512.size (by sl_kernel_rfl) y

/-- The pieces of a first chunk cover the carried imaginary states. -/
theorem coverIm_A (c : Dev nD) (t : Fin cfg0.N) (h : t.val % 2 = 0) (y : S8x4096.Idx) : ∃ pc ∈ (runA m c t h).2.2.2.2.1, y ∈ pc.1.set :=
  View.cover_of_tiledL (runA m c t h).2.2.2.2.1 S8x512.size (by sl_kernel_rfl) y

/-- The pieces of a last chunk cover its part of the sequence output. -/
theorem cover8_B (c : Dev nD) (t : Fin cfg0.N) (h : t.val % 2 = 1) (s : StateOf F) (y : S1x256x1024.Idx) : ∃ pc ∈ (runB m c t h s).1, y ∈ pc.1.set :=
  View.cover_of_tiledL (runB m c t h s).1 S1x256x128.size (by sl_kernel_rfl) y

/-- The pieces of a last chunk cover its part of the real final states. -/
theorem cover9_B (c : Dev nD) (t : Fin cfg0.N) (h : t.val % 2 = 1) (s : StateOf F) (y : S1x8x4096.Idx) : ∃ pc ∈ (runB m c t h s).2.1, y ∈ pc.1.set :=
  View.cover_of_tiledL (runB m c t h s).2.1 S1x8x4096.size (by sl_kernel_rfl) y

/-- The pieces of a last chunk cover its part of the imaginary final states. -/
theorem cover10_B (c : Dev nD) (t : Fin cfg0.N) (h : t.val % 2 = 1) (s : StateOf F) (y : S1x8x4096.Idx) : ∃ pc ∈ (runB m c t h s).2.2.1, y ∈ pc.1.set :=
  View.cover_of_tiledL (runB m c t h s).2.2.1 S1x8x4096.size (by sl_kernel_rfl) y

/-- The pieces of a last chunk cover the carried real states. -/
theorem coverRe_B (c : Dev nD) (t : Fin cfg0.N) (h : t.val % 2 = 1) (s : StateOf F) (y : S8x4096.Idx) : ∃ pc ∈ (runB m c t h s).2.2.2.1, y ∈ pc.1.set :=
  View.cover_of_tiledL (runB m c t h s).2.2.2.1 S8x512.size (by sl_kernel_rfl) y

/-- The pieces of a last chunk cover the carried imaginary states. -/
theorem coverIm_B (c : Dev nD) (t : Fin cfg0.N) (h : t.val % 2 = 1) (s : StateOf F) (y : S8x4096.Idx) : ∃ pc ∈ (runB m c t h s).2.2.2.2.1, y ∈ pc.1.set :=
  View.cover_of_tiledL (runB m c t h s).2.2.2.2.1 S8x512.size (by sl_kernel_rfl) y

/-- The state that a first chunk leaves. -/
def stateA (c : Dev nD) (t : Fin cfg0.N) (h : t.val % 2 = 0) : StateOf F :=
  (scM0_2.view.read (Elt F) (scM0_2.view.writes (Elt F) scM0_2.view.junk (runA m c t h).2.2.2.1),
    scM0_3.view.read (Elt F) (scM0_3.view.writes (Elt F) scM0_3.view.junk (runA m c t h).2.2.2.2.1))

/-- The state that a second chunk leaves when it starts in `s`. -/
def stateB (c : Dev nD) (t : Fin cfg0.N) (h : t.val % 2 = 1) (s : StateOf F) : StateOf F :=
  (scM0_2.view.read (Elt F) (scM0_2.view.writes (Elt F) scM0_2.view.junk (runB m c t h s).2.2.2.1),
    scM0_3.view.read (Elt F) (scM0_3.view.writes (Elt F) scM0_3.view.junk (runB m c t h s).2.2.2.2.1))

/-- The point before an odd one is even. -/
theorem prev_even (t : Fin cfg0.N) (h : t.val % 2 = 1) : (⟨t.val - 1, by omega⟩ : Fin cfg0.N).val % 2 = 0 := by
  show (t.val - 1) % 2 = 0
  omega

/-- The state that a second chunk starts in: what its group's first chunk left. -/
def mid (c : Dev nD) (t : Fin cfg0.N) (h : t.val % 2 = 1) : StateOf F := stateA m c ⟨t.val - 1, by omega⟩ (prev_even t h)

/-- A number that is not even is odd. -/
theorem odd_of {n : ℕ} (h : ¬n % 2 = 0) : n % 2 = 1 := by omega

/-- The state after point `t`. -/
def stateAt (c : Dev nD) (t : Fin cfg0.N) : StateOf F :=
  if h : t.val % 2 = 0 then stateA m c t h else stateB m c t (odd_of h) (mid m c t (odd_of h))

/-- The state after a first chunk. -/
theorem stateAt_even (c : Dev nD) (t : Fin cfg0.N) (h : t.val % 2 = 0) : stateAt m c t = stateA m c t h := dif_pos h

/-- The state after a last chunk. -/
theorem stateAt_odd (c : Dev nD) (t : Fin cfg0.N) (h : t.val % 2 = 1) : stateAt m c t = stateB m c t h (mid m c t h) :=
  dif_neg (by omega)

/-- What point `t` leaves in the sequence output's buffer. -/
def seqAt (c : Dev nD) (t : Fin cfg0.N) : Vec F S1x256x1024 .bf16 :=
  VO0_8.read (Elt F) (VO0_8.writes (Elt F) VO0_8.junk
    (if h : t.val % 2 = 0 then (runA m c t h).1 else (runB m c t (odd_of h) (mid m c t (odd_of h))).1))

/-- What point `t` leaves in the two final states' buffers: a second chunk stores them, a first chunk does not. -/
def lastAt (c : Dev nD) (t : Fin cfg0.N) : Vec F S1x8x4096 .f32 × Vec F S1x8x4096 .f32 :=
  (VO0_9.read (Elt F) (VO0_9.writes (Elt F) VO0_9.junk
      (if h : t.val % 2 = 0 then [] else (runB m c t (odd_of h) (mid m c t (odd_of h))).2.1)),
    VO0_10.read (Elt F) (VO0_10.writes (Elt F) VO0_10.junk
      (if h : t.val % 2 = 0 then [] else (runB m c t (odd_of h) (mid m c t (odd_of h))).2.2.1)))

/-- What holds between points: the two scratch arrays of the state at what the point before left (anything before the
    first point), the other two scratch arrays at anything. -/
def PhiS (c : Dev nD) : (n : ℕ) → n ≤ cfg0.N → sProp 𝕄
  | 0, _ => Pipeline.ΦA spec0 c
  | n + 1, hn => iprop(((∃ d, owns (c : Thread nD τ) scM0_0 fullShare d) ∗ (∃ d, owns (c : Thread nD τ) scM0_1 fullShare d)
      ∗ owns (c : Thread nD τ) scM0_2 fullShare (stateAt m c ⟨n, hn⟩).1
      ∗ owns (c : Thread nD τ) scM0_3 fullShare (stateAt m c ⟨n, hn⟩).2) ∗ (∃ r, prngReg c r))

/-- Before the first point the scratch arrays hold anything. -/
theorem PhiS_zero (c : Dev nD) (n : ℕ) (h : n ≤ cfg0.N) (hz : n = 0) : PhiS m c n h = Pipeline.ΦA spec0 c := by
  subst hz; rfl

/-- After a point they hold the state it left. -/
theorem PhiS_succ (c : Dev nD) (n : ℕ) (hn : n < cfg0.N) :
    PhiS m c (n + 1) hn = iprop(((∃ d, owns (c : Thread nD τ) scM0_0 fullShare d) ∗ (∃ d, owns (c : Thread nD τ) scM0_1 fullShare d)
      ∗ owns (c : Thread nD τ) scM0_2 fullShare (stateAt m c ⟨n, hn⟩).1
      ∗ owns (c : Thread nD τ) scM0_3 fullShare (stateAt m c ⟨n, hn⟩).2) ∗ (∃ r, prngReg c r)) := rfl

/-- Before a later point they hold the state the point before it left. -/
theorem PhiS_pos (c : Dev nD) (n : ℕ) (h : n ≤ cfg0.N) (hz : n ≠ 0) :
    PhiS m c n h = iprop(((∃ d, owns (c : Thread nD τ) scM0_0 fullShare d) ∗ (∃ d, owns (c : Thread nD τ) scM0_1 fullShare d)
      ∗ owns (c : Thread nD τ) scM0_2 fullShare (stateAt m c ⟨n - 1, by omega⟩).1
      ∗ owns (c : Thread nD τ) scM0_3 fullShare (stateAt m c ⟨n - 1, by omega⟩).2) ∗ (∃ r, prngReg c r)) := by
  cases n with
  | zero => exact absurd rfl hz
  | succ n => rfl

/-- The arrays at entry, and what each point leaves in the eleven buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => seqAt m c t
    | ⟨9, _⟩ => (lastAt m c t).1
    | ⟨10, _⟩ => (lastAt m c t).2
  Φ t := PhiS m c t.val (Nat.le_of_lt_succ t.isLt)
  q _ := fullShare
  owed _ := 0

/-- The arrays at entry. -/
theorem A_eq (c : Dev nD) (w : Fin cfg0.W) : (dats m 0 c).A w = V m c (Pipeline.arrRef spec0 w) := by
  dsimp only [dats]

/-- What is passed on to a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What a point leaves in buffer 0. -/
theorem after0_0 (c : Dev nD) (t : Fin cfg0.N) : (dats m 0 c).after 0 t = iblk m c 0 t := by dsimp only [dats]
/-- What a point leaves in buffer 1. -/
theorem after0_1 (c : Dev nD) (t : Fin cfg0.N) : (dats m 0 c).after 1 t = iblk m c 1 t := by dsimp only [dats]
/-- What a point leaves in buffer 2. -/
theorem after0_2 (c : Dev nD) (t : Fin cfg0.N) : (dats m 0 c).after 2 t = iblk m c 2 t := by dsimp only [dats]
/-- What a point leaves in buffer 3. -/
theorem after0_3 (c : Dev nD) (t : Fin cfg0.N) : (dats m 0 c).after 3 t = iblk m c 3 t := by dsimp only [dats]
/-- What a point leaves in buffer 4. -/
theorem after0_4 (c : Dev nD) (t : Fin cfg0.N) : (dats m 0 c).after 4 t = iblk m c 4 t := by dsimp only [dats]
/-- What a point leaves in buffer 5. -/
theorem after0_5 (c : Dev nD) (t : Fin cfg0.N) : (dats m 0 c).after 5 t = iblk m c 5 t := by dsimp only [dats]
/-- What a point leaves in buffer 6. -/
theorem after0_6 (c : Dev nD) (t : Fin cfg0.N) : (dats m 0 c).after 6 t = iblk m c 6 t := by dsimp only [dats]
/-- What a point leaves in buffer 7. -/
theorem after0_7 (c : Dev nD) (t : Fin cfg0.N) : (dats m 0 c).after 7 t = iblk m c 7 t := by dsimp only [dats]
/-- What a point leaves in buffer 8. -/
theorem after0_8 (c : Dev nD) (t : Fin cfg0.N) : (dats m 0 c).after 8 t = seqAt m c t := by dsimp only [dats]
/-- What a point leaves in buffer 9. -/
theorem after0_9 (c : Dev nD) (t : Fin cfg0.N) : (dats m 0 c).after 9 t = (lastAt m c t).1 := by dsimp only [dats]
/-- What a point leaves in buffer 10. -/
theorem after0_10 (c : Dev nD) (t : Fin cfg0.N) : (dats m 0 c).after 10 t = (lastAt m c t).2 := by dsimp only [dats]

/-- What a point finds in buffer 0. -/
theorem before0_0 (c : Dev nD) (t : Fin cfg0.N) (d) : (dats m 0 c).before 0 t d = iblk m c 0 t :=
  before0_0_of m (dats m 0 c) (A_eq m c 0) (after0_0 m c) t d
/-- What a point finds in buffer 1. -/
theorem before0_1 (c : Dev nD) (t : Fin cfg0.N) (d) : (dats m 0 c).before 1 t d = iblk m c 1 t :=
  before0_1_of m (dats m 0 c) (A_eq m c 1) (after0_1 m c) t d
/-- What a point finds in buffer 2. -/
theorem before0_2 (c : Dev nD) (t : Fin cfg0.N) (d) : (dats m 0 c).before 2 t d = iblk m c 2 t :=
  before0_2_of m (dats m 0 c) (A_eq m c 2) (after0_2 m c) t d
/-- What a point finds in buffer 3. -/
theorem before0_3 (c : Dev nD) (t : Fin cfg0.N) (d) : (dats m 0 c).before 3 t d = iblk m c 3 t :=
  before0_3_of m (dats m 0 c) (A_eq m c 3) (after0_3 m c) t d
/-- What a point finds in buffer 4. -/
theorem before0_4 (c : Dev nD) (t : Fin cfg0.N) (d) : (dats m 0 c).before 4 t d = iblk m c 4 t :=
  before0_4_of m (dats m 0 c) (A_eq m c 4) (after0_4 m c) t d
/-- What a point finds in buffer 5. -/
theorem before0_5 (c : Dev nD) (t : Fin cfg0.N) (d) : (dats m 0 c).before 5 t d = iblk m c 5 t :=
  before0_5_of m (dats m 0 c) (A_eq m c 5) (after0_5 m c) t d
/-- What a point finds in buffer 6. -/
theorem before0_6 (c : Dev nD) (t : Fin cfg0.N) (d) : (dats m 0 c).before 6 t d = iblk m c 6 t :=
  before0_6_of m (dats m 0 c) (A_eq m c 6) (after0_6 m c) t d
/-- What a point finds in buffer 7. -/
theorem before0_7 (c : Dev nD) (t : Fin cfg0.N) (d) : (dats m 0 c).before 7 t d = iblk m c 7 t :=
  before0_7_of m (dats m 0 c) (A_eq m c 7) (after0_7 m c) t d

/-- What a point's body finds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- Buffer 0 after a point. -/
theorem leaves0 (c : Dev nD) (t : Fin cfg0.N) : (dats m 0 c).leavesExact 0 t = owns (c : Thread nD τ) (ms0_0 t) fullShare (iblk m c 0 t) := by
  rw [← after0_0]
/-- Buffer 1 after a point. -/
theorem leaves1 (c : Dev nD) (t : Fin cfg0.N) : (dats m 0 c).leavesExact 1 t = owns (c : Thread nD τ) (ms0_1 t) fullShare (iblk m c 1 t) := by
  rw [← after0_1]
/-- Buffer 2 after a point. -/
theorem leaves2 (c : Dev nD) (t : Fin cfg0.N) : (dats m 0 c).leavesExact 2 t = owns (c : Thread nD τ) (ms0_2 t) fullShare (iblk m c 2 t) := by
  rw [← after0_2]
/-- Buffer 3 after a point. -/
theorem leaves3 (c : Dev nD) (t : Fin cfg0.N) : (dats m 0 c).leavesExact 3 t = owns (c : Thread nD τ) (ms0_3 t) fullShare (iblk m c 3 t) := by
  rw [← after0_3]
/-- Buffer 4 after a point. -/
theorem leaves4 (c : Dev nD) (t : Fin cfg0.N) : (dats m 0 c).leavesExact 4 t = owns (c : Thread nD τ) (ms0_4 t) fullShare (iblk m c 4 t) := by
  rw [← after0_4]
/-- Buffer 5 after a point. -/
theorem leaves5 (c : Dev nD) (t : Fin cfg0.N) : (dats m 0 c).leavesExact 5 t = owns (c : Thread nD τ) (ms0_5 t) fullShare (iblk m c 5 t) := by
  rw [← after0_5]
/-- Buffer 6 after a point. -/
theorem leaves6 (c : Dev nD) (t : Fin cfg0.N) : (dats m 0 c).leavesExact 6 t = owns (c : Thread nD τ) (ms0_6 t) fullShare (iblk m c 6 t) := by
  rw [← after0_6]
/-- Buffer 7 after a point. -/
theorem leaves7 (c : Dev nD) (t : Fin cfg0.N) : (dats m 0 c).leavesExact 7 t = owns (c : Thread nD τ) (ms0_7 t) fullShare (iblk m c 7 t) := by
  rw [← after0_7]
/-- Buffer 8 after a point. -/
theorem leaves8 (c : Dev nD) (t : Fin cfg0.N) : (dats m 0 c).leavesExact 8 t = owns (c : Thread nD τ) (ms0_8 t) fullShare (seqAt m c t) := by
  rw [← after0_8]

set_option maxHeartbeats 2400000 in
/-- The very first point: the scratch arrays hold anything. -/
theorem body_first (c : Dev nD) (t : Fin cfg0.N) (h : t.val % 2 = 0) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.succ = PhiS m c (t.val + 1) t.isLt from rfl, PhiS_succ, leaves0, leaves1, leaves2, leaves3, leaves4, leaves5, leaves6, leaves7, leaves8]
  rw [Dat.leavesExact_idle (dats m 0 c) 9 t (idleAt0_9_A t ((hcond0_0 t).mpr h) (not_last t h)) (noFlush0_9_A t ((hcond0_0 t).mpr h) (not_last t h)),
    Dat.leavesExact_idle (dats m 0 c) 10 t (idleAt0_10_A t ((hcond0_0 t).mpr h) (not_last t h)) (noFlush0_10_A t ((hcond0_0 t).mpr h) (not_last t h)),
    show (⟨t.val, t.isLt⟩ : Fin cfg0.N) = t from rfl, stateAt_even m c t h, seqAt, dif_pos h, stateA]
  rw [PhiS_castSucc m c t, PhiS_zero m c _ _ hz, PhiA0_eq]
  dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runA m c t h).2.2.2.2.2 _ _ Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [HS0]; · iexact HS0
  isplitl [HS1]; · iexact HS1
  isplitl [HS2]; · iexact HS2
  isplitl [HS3]; · iexact HS3
  iintro ⟨H0, H1, H2, H3, H4, H5, H6, H7, ⟨%e8, H8⟩, H9, H10, HS0, HS1, ⟨%fT2, HS2⟩, ⟨%fT3, HS3⟩⟩
  isplitl [HS0 HS1 HS2 HS3 Hg]
  · isplitl [HS0 HS1 HS2 HS3]
    · isplitl [HS0]; · iexact HS0
      isplitl [HS1]; · iexact HS1
      isplitl [HS2]
      · unfold owns; iexists _; isplitr
        swap; · iexact HS2
        ipureintro; exact View.read_writes_of_cover _ _ _ _ _ (coverRe_A m c t h)
      unfold owns; iexists _; isplitr
      swap; · iexact HS3
      ipureintro; exact View.read_writes_of_cover _ _ _ _ _ (coverIm_A m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover8_A m c t h)
  isplitl [H9]; · iexists _; iexact H9
  iexists _; iexact H10

set_option maxHeartbeats 2400000 in
/-- A later group's first chunk: the state is started afresh. -/
theorem body_even (c : Dev nD) (t : Fin cfg0.N) (h : t.val % 2 = 0) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.succ = PhiS m c (t.val + 1) t.isLt from rfl, PhiS_succ, leaves0, leaves1, leaves2, leaves3, leaves4, leaves5, leaves6, leaves7, leaves8]
  rw [Dat.leavesExact_idle (dats m 0 c) 9 t (idleAt0_9_A t ((hcond0_0 t).mpr h) (not_last t h)) (noFlush0_9_A t ((hcond0_0 t).mpr h) (not_last t h)),
    Dat.leavesExact_idle (dats m 0 c) 10 t (idleAt0_10_A t ((hcond0_0 t).mpr h) (not_last t h)) (noFlush0_10_A t ((hcond0_0 t).mpr h) (not_last t h)),
    show (⟨t.val, t.isLt⟩ : Fin cfg0.N) = t from rfl, stateAt_even m c t h, seqAt, dif_pos h, stateA]
  rw [PhiS_castSucc m c t, PhiS_pos m c _ _ hz]
  dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runA m c t h).2.2.2.2.2 _ _ Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [HS0]; · iexact HS0
  isplitl [HS1]; · iexact HS1
  isplitl [HS2]; · iexists _; iexact HS2
  isplitl [HS3]; · iexists _; iexact HS3
  iintro ⟨H0, H1, H2, H3, H4, H5, H6, H7, ⟨%e8, H8⟩, H9, H10, HS0, HS1, ⟨%fT2, HS2⟩, ⟨%fT3, HS3⟩⟩
  isplitl [HS0 HS1 HS2 HS3 Hg]
  · isplitl [HS0 HS1 HS2 HS3]
    · isplitl [HS0]; · iexact HS0
      isplitl [HS1]; · iexact HS1
      isplitl [HS2]
      · unfold owns; iexists _; isplitr
        swap; · iexact HS2
        ipureintro; exact View.read_writes_of_cover _ _ _ _ _ (coverRe_A m c t h)
      unfold owns; iexists _; isplitr
      swap; · iexact HS3
      ipureintro; exact View.read_writes_of_cover _ _ _ _ _ (coverIm_A m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover8_A m c t h)
  isplitl [H9]; · iexists _; iexact H9
  iexists _; iexact H10

set_option maxHeartbeats 2400000 in
/-- A second chunk: the state is carried on. -/
theorem body_odd (c : Dev nD) (t : Fin cfg0.N) (h : t.val % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.succ = PhiS m c (t.val + 1) t.isLt from rfl, PhiS_succ, leaves0, leaves1, leaves2, leaves3, leaves4, leaves5, leaves6, leaves7, leaves8]
  rw [show (dats m 0 c).leavesExact 9 t = owns (c : Thread nD τ) (ms0_9 t) fullShare ((dats m 0 c).after 9 t) from by
      unfold Dat.leavesExact; rw [liveAt0_9_B t (not_first t h) ((hcond0_1 t).mpr h)],
    show (dats m 0 c).leavesExact 10 t = owns (c : Thread nD τ) (ms0_10 t) fullShare ((dats m 0 c).after 10 t) from by
      unfold Dat.leavesExact; rw [liveAt0_10_B t (not_first t h) ((hcond0_1 t).mpr h)], after0_9, after0_10,
    show (⟨t.val, t.isLt⟩ : Fin cfg0.N) = t from rfl, stateAt_odd m c t h, seqAt, lastAt, dif_neg (show ¬t.val % 2 = 0 by omega),
    dif_neg (show ¬t.val % 2 = 0 by omega), dif_neg (show ¬t.val % 2 = 0 by omega), stateB,
    PhiS_castSucc m c t, PhiS_pos m c _ _ (by omega), stateAt_even m c _ (prev_even t h)]
  dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runB m c t h (mid m c t h)).2.2.2.2.2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  iintro ⟨H0, H1, H2, H3, H4, H5, H6, H7, ⟨%e8, H8⟩, ⟨%e9, H9⟩, ⟨%e10, H10⟩, HS0, HS1, ⟨%fT2, HS2⟩, ⟨%fT3, HS3⟩⟩
  isplitl [HS0 HS1 HS2 HS3 Hg]
  · isplitl [HS0 HS1 HS2 HS3]
    · isplitl [HS0]; · iexact HS0
      isplitl [HS1]; · iexact HS1
      isplitl [HS2]
      · unfold owns; iexists _; isplitr
        swap; · iexact HS2
        ipureintro; exact View.read_writes_of_cover _ _ _ _ _ (coverRe_B m c t h (mid m c t h))
      unfold owns; iexists _; isplitr
      swap; · iexact HS3
      ipureintro; exact View.read_writes_of_cover _ _ _ _ _ (coverIm_B m c t h (mid m c t h))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover8_B m c t h (mid m c t h))
  isplitl [H9]
  · unfold owns; iexists _; isplitr
    swap; · iexact H9
    ipureintro; exact View.read_writes_of_cover _ _ _ _ _ (cover9_B m c t h (mid m c t h))
  unfold owns; iexists _; isplitr
  swap; · iexact H10
  ipureintro; exact View.read_writes_of_cover _ _ _ _ _ (cover10_B m c t h (mid m c t h))

/-- Every point's body runs from what it finds to what it is said to leave. -/
theorem sound_body (c : Dev nD) (t : Fin cfg0.N) :
    bodyPre m c t ⊢ wp frame (wpE (defs₀ (F := F)) Variants.none c none) Set.univ (bodyAt0 t) (fun _ => bodyPost m c t) := by
  by_cases h : t.val % 2 = 0
  · by_cases hz : t.val = 0
    · exact body_first m c t h hz
    · exact body_even m c t h hz
  · exact body_odd m c t (by omega)

/-- The kernel's body at a point, on that point's buffers. -/
theorem defs₀_row (t : Fin cfg0.N) :
    defs₀ (F := F) .tc cfg0.body (cfg0.bodyArgs t (cfg0.slots t)) = bodyAt0 t := by
  unfold defs₀; rw [Defs.onTc_tc]

/-- The same, as the launch asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands to the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- What the last point hands back. -/
theorem hout (c : Dev nD) : (dats m 0 c).Φ (Fin.last cfg0.N) ⊢ Pipeline.ΦA spec0 c := by
  have hN : cfg0.N = 4 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  iintro ⟨⟨HS0, HS1, HS2, HS3⟩, Hg⟩
  isplitl [HS0 HS1 HS2 HS3]
  · isplitl [HS0]; · iexact HS0
    isplitl [HS1]; · iexact HS1
    isplitl [HS2]; · iexists _; iexact HS2
    iexists _; iexact HS3
  iexact Hg

set_option backward.isDefEq.respectTransparency.types false in
/-- The program runs, and no semaphore is left raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every execution ends, with the call's arrays as `dats` says and the rest as the call found it. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The arguments end as they began, and no semaphore count is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.ScanIdeal.Gen

end
-- ==== Proof.ScanIdeal.Sweep.lean ====
module

public import proofs.«01_k».proof.Proof.Gen.ScanIdeal.Loops
public import Idealize.ShloMosaic.Lib.WritesUnit
public import Idealize.ShloMosaic.Lib.VecWindow

@[expose] public section

noncomputable section

namespace Cert.ScanIdeal.Gen

open Idealize.ShloMosaic Idealize.ShloMosaic.TcCoe

variable {F : FTy → Type} [FloatOps F] {sig : RefSig}

/-- One step of the recurrence at one entry: the complex state `s` times the complex factor, plus the complex input. -/
def stepAt (ar ai x y : F .f32) (s : F .f32 × F .f32) : F .f32 × F .f32 :=
  (FloatOps.addf (FloatOps.subf (FloatOps.mulf ar s.1) (FloatOps.mulf ai s.2)) x,
    FloatOps.addf (FloatOps.addf (FloatOps.mulf ar s.2) (FloatOps.mulf ai s.1)) y)

/-- The recurrence at one entry: the state after `k` steps from `s`, the inputs taken from two sequences. -/
def cellAt (ar ai : F .f32) (x y : ℕ → F .f32) (s : F .f32 × F .f32) : ℕ → F .f32 × F .f32
  | 0 => s
  | k + 1 => stepAt ar ai (x k) (y k) (cellAt ar ai x y s k)

/-- The first `n` steps only look at the first `n` inputs. -/
theorem cellAt_congr (ar ai : F .f32) (x y x' y' : ℕ → F .f32) (s : F .f32 × F .f32) (n : ℕ)
    (hx : ∀ k < n, x k = x' k) (hy : ∀ k < n, y k = y' k) : cellAt ar ai x y s n = cellAt ar ai x' y' s n := by
  induction n with
  | zero => rfl
  | succ n ih =>
    show stepAt ar ai (x n) (y n) _ = stepAt ar ai (x' n) (y' n) _
    rw [hx n (by omega), hy n (by omega), ih (fun k hk => hx k (by omega)) (fun k hk => hy k (by omega))]

/-- Steps taken in two parts. -/
theorem cellAt_add (ar ai : F .f32) (x y : ℕ → F .f32) (s : F .f32 × F .f32) (p n : ℕ) :
    cellAt ar ai x y s (p + n) = cellAt ar ai (fun k => x (p + k)) (fun k => y (p + k)) (cellAt ar ai x y s p) n := by
  induction n with
  | zero => rfl
  | succ n ih => show stepAt _ _ _ _ (cellAt ar ai x y s (p + n)) = stepAt _ _ _ _ _; rw [ih]; rfl

variable (v13 v14 : View sig .tc .vmem S256x4096 .f32)

/-- A loop over one strip of 512 columns from column `o`: it starts with nothing stored, and trip `k` steps the carried
    pair of vectors with what eight rows of the strip hold and stores something over those rows. -/
structure Sweep (o : ℕ) (ar ai : Vec F S8x512 .f32) (G13 : v13.ty.Contents (Elt F)) (G14 : v14.ty.Contents (Elt F))
    (init : Vec F S8x512 .f32 × Vec F S8x512 .f32)
    (st : ℕ → (Vec F S8x512 .f32 × Vec F S8x512 .f32) × List (View.Piece (Elt F) S256x4096 .f32) × List (View.Piece (Elt F) S256x4096 .f32)) : Prop where
  zero : st 0 = (init, [], [])
  succ : ∀ k < 32, ∃ (off : Fin S256x4096.rank → ℕ) (inb : ∀ a, off a + S8x512.size a ≤ S256x4096.size a)
    (w13 w14 : Vec F S8x512 .f32), off = ![8 * k, o] ∧
    st (k + 1) = ((k0_pay32 ar ai (st k).1.1 (st k).1.2
          (v13.readAt (Elt F) (Rect.unit (s := S256x4096) off S8x512.size inb).toLoadRect (v13.writes (Elt F) G13 (st k).2.1)),
        k0_pay33 ar ai (st k).1.1 (st k).1.2
          (v14.readAt (Elt F) (Rect.unit (s := S256x4096) off S8x512.size inb).toLoadRect (v14.writes (Elt F) G14 (st k).2.2))),
      ⟨Rect.unit (s := S256x4096) off S8x512.size inb, w13⟩ :: (st k).2.1,
      ⟨Rect.unit (s := S256x4096) off S8x512.size inb, w14⟩ :: (st k).2.2)

variable {v13 v14}
variable {o : ℕ} {ar ai : Vec F S8x512 .f32} {G13 : v13.ty.Contents (Elt F)} {G14 : v14.ty.Contents (Elt F)}
variable {init : Vec F S8x512 .f32 × Vec F S8x512 .f32}
variable {st : ℕ → (Vec F S8x512 .f32 × Vec F S8x512 .f32) × List (View.Piece (Elt F) S256x4096 .f32) × List (View.Piece (Elt F) S256x4096 .f32)}

/-- The first `k` trips leave everything outside the strip, and the rows not reached yet, as they were. -/
theorem Sweep.keeps (sw : Sweep v13 v14 o ar ai G13 G14 init st) (y : S256x4096.Idx) (k : ℕ) (hk : k ≤ 32)
    (hy : (y 1).val < o ∨ o + 512 ≤ (y 1).val ∨ 8 * k ≤ (y 0).val) :
    v13.read (Elt F) (v13.writes (Elt F) G13 (st k).2.1) y = v13.read (Elt F) G13 y ∧
    v14.read (Elt F) (v14.writes (Elt F) G14 (st k).2.2) y = v14.read (Elt F) G14 y := by
  induction k with
  | zero => rw [sw.zero]; exact ⟨rfl, rfl⟩
  | succ k ih =>
    obtain ⟨off, inb, w13, w14, heq, e⟩ := sw.succ k (by omega)
    have ih := ih (by omega) (by omega)
    rw [e]
    have out : ∃ a : Fin S256x4096.rank, (y a).val < (![8 * k, o] : Fin S256x4096.rank → ℕ) a ∨
        (![8 * k, o] : Fin S256x4096.rank → ℕ) a + S8x512.size a ≤ (y a).val := by
      rcases hy with h | h | h
      · exact ⟨1, Or.inl h⟩
      · exact ⟨1, Or.inr h⟩
      · exact ⟨0, Or.inr (show 8 * k + 8 ≤ _ by omega)⟩
    obtain ⟨a, ha⟩ := out
    exact ⟨(View.read_writes_cons_unit_of_not_mem v13 G13 inb w13 _ y heq a ha).trans ih.1,
      (View.read_writes_cons_unit_of_not_mem v14 G14 inb w14 _ y heq a ha).trans ih.2⟩

/-- What the loop carries after `k` trips, entry by entry: `k` steps of the recurrence over what the strip held. -/
theorem Sweep.carried (sw : Sweep v13 v14 o ar ai G13 G14 init st) (x : S8x512.Idx) (p q : ℕ → F .f32)
    (hp : ∀ t < 32, ∀ y : S256x4096.Idx, (y 0).val = 8 * t + (x 0).val → (y 1).val = o + (x 1).val → v13.read (Elt F) G13 y = p t)
    (hq : ∀ t < 32, ∀ y : S256x4096.Idx, (y 0).val = 8 * t + (x 0).val → (y 1).val = o + (x 1).val → v14.read (Elt F) G14 y = q t)
    (k : ℕ) (hk : k ≤ 32) :
    ((st k).1.1 x, (st k).1.2 x) = cellAt (ar x) (ai x) p q (init.1 x, init.2 x) k := by
  induction k with
  | zero => rw [sw.zero]; rfl
  | succ k ih =>
    obtain ⟨off, inb, w13, w14, heq, e⟩ := sw.succ k (by omega)
    have ih := ih (by omega)
    subst heq
    have h0 : (((Rect.unit (s := S256x4096) ![8 * k, o] S8x512.size inb).toLoadRect.idx x) 0).val = 8 * k + (x 0).val := by
      show 8 * k + 1 * (x 0).val = _; omega
    have h1 : (((Rect.unit (s := S256x4096) ![8 * k, o] S8x512.size inb).toLoadRect.idx x) 1).val = o + (x 1).val := by
      show o + 1 * (x 1).val = _; omega
    have kp := sw.keeps ((Rect.unit (s := S256x4096) ![8 * k, o] S8x512.size inb).toLoadRect.idx x) k (by omega) (by omega)
    have r13 := kp.1.trans (hp k (by omega) _ h0 h1)
    have r14 := kp.2.trans (hq k (by omega) _ h0 h1)
    rw [e]
    show stepAt (ar x) (ai x)
        (v13.read (Elt F) (v13.writes (Elt F) G13 (st k).2.1) ((Rect.unit (s := S256x4096) ![8 * k, o] S8x512.size inb).toLoadRect.idx x))
        (v14.read (Elt F) (v14.writes (Elt F) G14 (st k).2.2) ((Rect.unit (s := S256x4096) ![8 * k, o] S8x512.size inb).toLoadRect.idx x))
        ((st k).1.1 x, (st k).1.2 x) = stepAt (ar x) (ai x) (p k) (q k) _
    rw [r13, r14, ih]

end Cert.ScanIdeal.Gen
-- ==== Proof.ScanIdeal.Input.lean ====
module

public import proofs.«01_k».proof.Proof.ScanIdeal.Sweep
public import Idealize.ShloMosaic.Lib.Pipeline.Value
public import Idealize.ShloMosaic.Lib.ValueIdxCore
public import Idealize.ShloMosaic.Lib.Pipeline.Kit
public import Idealize.ShloMosaic.PureOps.Ideal.Laws

@[expose] public section

set_option maxRecDepth 16384

noncomputable section

namespace Cert.ScanIdeal.Gen

open Idealize.ShloMosaic Idealize.ShloMosaic.TcCoe

variable {sig : RefSig}

/-- Entry `(r, k)` of a chunk's inputs. -/
abbrev uIx (r : Fin 256) (k : Fin 1024) : S1x256x1024.Idx := fun a => match a with
  | ⟨0, _⟩ => ⟨0, Nat.one_pos⟩
  | ⟨1, _⟩ => ⟨r.val, r.isLt⟩
  | ⟨2, _⟩ => ⟨k.val, k.isLt⟩

/-- Entry `(b, l, q)` of the input matrices. -/
abbrev bIx (b : Fin 8) (l : Fin 128) (q : Fin 1024) : S8x128x1024.Idx := fun a => match a with
  | ⟨0, _⟩ => ⟨b.val, b.isLt⟩
  | ⟨1, _⟩ => ⟨l.val, l.isLt⟩
  | ⟨2, _⟩ => ⟨q.val, q.isLt⟩

abbrev lIx (r : Fin 256) (l : Fin 128) : S256x128.Idx := fun a => match a with
  | ⟨0, _⟩ => ⟨r.val, r.isLt⟩
  | ⟨1, _⟩ => ⟨l.val, l.isLt⟩

abbrev mIx (l : Fin 128) (q : Fin 1024) : S128x1024.Idx := fun a => match a with
  | ⟨0, _⟩ => ⟨l.val, l.isLt⟩
  | ⟨1, _⟩ => ⟨q.val, q.isLt⟩

abbrev pIx (r : Fin 256) (q : Fin 1024) : S256x1024.Idx := fun a => match a with
  | ⟨0, _⟩ => ⟨r.val, r.isLt⟩
  | ⟨1, _⟩ => ⟨q.val, q.isLt⟩

abbrev luIx (r : Fin 256) (l : Fin 128) : S1x256x128.Idx := fun a => match a with
  | ⟨0, _⟩ => ⟨0, Nat.one_pos⟩
  | ⟨1, _⟩ => ⟨r.val, r.isLt⟩
  | ⟨2, _⟩ => ⟨l.val, l.isLt⟩

abbrev mbIx (l : Fin 128) (q : Fin 1024) : S1x128x1024.Idx := fun a => match a with
  | ⟨0, _⟩ => ⟨0, Nat.one_pos⟩
  | ⟨1, _⟩ => ⟨l.val, l.isLt⟩
  | ⟨2, _⟩ => ⟨q.val, q.isLt⟩

/-- A part (from column `q`: the real part at 0, the imaginary part at 512) of the state's input at row `r` and column
    `n`: the row's 128 inputs of the column's block times the block's matrix. -/
def inAt (u : S1x256x1024.Idx → EReal) (w : S8x128x1024.Idx → EReal) (q : Fin 513) (r : Fin 256) (n : Fin 4096) : EReal :=
  ∑ l : Fin 128, u (uIx r ⟨128 * (n.val / 512) + l.val, by omega⟩) * w (bIx ⟨n.val / 512, by omega⟩ l ⟨q.val + n.val % 512, by omega⟩)

/-- The input product takes the row of its left side from the result's row. -/
theorem prod_lhs (i : S256x1024.Idx) (q : dot_S256x128_S128x1024_S256x1024_1_0_0_1_n_n.contr.Idx) : (dot_S256x128_S128x1024_S256x1024_1_0_0_1_n_n.lhsIdx i q 0).val = (i 0).val := by
  unfold DotDims.lhsIdx
  rw [dif_neg (show ¬(0 : Fin S256x128.rank) ∈ dot_S256x128_S128x1024_S256x1024_1_0_0_1_n_n.lhsBatch by decide), dif_pos (show (0 : Fin S256x128.rank) ∈ dot_S256x128_S128x1024_S256x1024_1_0_0_1_n_n.lhsNonContracting by decide)]
  rfl

/-- The input product takes the column of its right side from the result's column. -/
theorem prod_rhs (i : S256x1024.Idx) (q : dot_S256x128_S128x1024_S256x1024_1_0_0_1_n_n.contr.Idx) : (dot_S256x128_S128x1024_S256x1024_1_0_0_1_n_n.rhsIdx i q 1).val = (i 1).val := by
  unfold DotDims.rhsIdx
  rw [dif_neg (show ¬(1 : Fin S128x1024.rank) ∈ dot_S256x128_S128x1024_S256x1024_1_0_0_1_n_n.rhsBatch by decide), dif_pos (show (1 : Fin S128x1024.rank) ∈ dot_S256x128_S128x1024_S256x1024_1_0_0_1_n_n.rhsNonContracting by decide)]
  rfl

/-- The product of a block's inputs and its matrix, entry by entry. -/
theorem prod_apply (l : FVec Ideal S256x128 .bf16) (w : FVec Ideal S128x1024 .bf16) (acc : FVec Ideal S256x1024 .f32) (r : Fin 256) (q : Fin 1024) :
    FloatOps.matmul dot_S256x128_S128x1024_S256x1024_1_0_0_1_n_n none l w acc (pIx r q) = acc (pIx r q) + ∑ k : Fin 128, l (lIx r k) * w (mIx k q) := by
  rw [Ideal.matmul_apply, ← Equiv.sum_comp (ValueIdx.contrEquiv1 dot_S256x128_S128x1024_S256x1024_1_0_0_1_n_n 128 rfl rfl).symm]
  refine congrArg (acc (pIx r q) + ·) (Finset.sum_congr rfl fun k _ => ?_)
  have hk := ValueIdx.contrEquiv1_symm_val dot_S256x128_S128x1024_S256x1024_1_0_0_1_n_n 128 rfl rfl k
  refine congrArg₂ (· * ·) (congrArg l (funext fun a => Fin.ext ?_)) (congrArg w (funext fun a => Fin.ext ?_))
  · match a with
    | ⟨0, _⟩ => exact prod_lhs _ _
    | ⟨1, _⟩ => exact (dot_S256x128_S128x1024_S256x1024_1_0_0_1_n_n.lhsIdx_val_of_single rfl _ _).trans hk
  · match a with
    | ⟨0, _⟩ => exact (dot_S256x128_S128x1024_S256x1024_1_0_0_1_n_n.rhsIdx_val_of_single rfl _ _).trans hk
    | ⟨1, _⟩ => exact prod_rhs _ _

/-- The kernel's product of a block, from the loaded inputs and the loaded matrix. -/
theorem block_apply (u : Vec Ideal S1x256x128 .f32) (w : Vec Ideal S1x128x1024 .bf16) (r : Fin 256) (q : Fin 1024) :
    k0_pay6 (F := Ideal) u w (pIx r q) = ∑ l : Fin 128, u (luIx r l) * w (mbIx l q) := by
  unfold k0_pay6
  refine (prod_apply _ _ _ r q).trans ?_
  refine (congrArg (· + _) Ideal.ofBits_zero_f32).trans ((zero_add _).trans ?_)
  refine Finset.sum_congr rfl fun l _ => congrArg₂ (· * ·) ?_ ?_
  · refine shapeCast_apply u _ (lIx r l) (luIx r l) ?_
    rw [Shape.rowMajor_val_three, Shape.rowMajor_val_two]
    show (0 * 256 + r.val) * 128 + l.val = r.val * 128 + l.val
    omega
  · refine shapeCast_apply w _ (mIx l q) (mbIx l q) ?_
    rw [Shape.rowMajor_val_three, Shape.rowMajor_val_two]
    show (0 * 128 + l.val) * 1024 + q.val = l.val * 1024 + q.val
    omega

variable {s : Shape} {e : EltTy}

/-- A load from a whole array that holds `x` reads `x` at the offset position. -/
theorem load_at {κ : Kind} {sp : Space} {v : Memref sig κ sp s e} (h : v.IsWhole) (x : Vec Ideal s e) {off size : Fin s.rank → ℕ}
    (inb : ∀ a, off a + size a ≤ s.size a) (z : (Rect.unit (s := s) off size inb).toLoadRect.shape.Idx) (z' : s.Idx)
    (hz : ∀ a, (z' a).val = off a + (z a).val) :
    v.view.readAt (Elt Ideal) (Rect.unit (s := s) off size inb).toLoadRect (h.unread x) z = x z' := by
  refine (congrFun (h.read_unread x) _).trans (congrArg x (funext fun a => Fin.ext ?_))
  show off a + 1 * (z a).val = _
  rw [hz a, Nat.one_mul]

variable (x0 : Vec Ideal S1x256x1024 .f32) (x5 : Vec Ideal S8x128x1024 .bf16)

/-- The part from column `q` of a block's product, where the block's inputs and matrix are those of strip `b`. -/
theorem part_apply (u : Vec Ideal S1x256x128 .f32) (w : Vec Ideal S1x128x1024 .bf16) (b : ℕ) (hb : b < 8) (q : Fin 513)
    (hu : ∀ (r : Fin 256) (l : Fin 128), u (luIx r l) = x0 (uIx r ⟨128 * b + l.val, by omega⟩))
    (hw : ∀ (l : Fin 128) (c : Fin 1024), w (mbIx l c) = x5 (bIx ⟨b, hb⟩ l c))
    (hs : S256x1024.Slices ![0, q.val] S256x512)
    (x : S256x512.Idx) (y : S256x4096.Idx) (h0 : (y 0).val = (x 0).val) (h1 : (y 1).val = 512 * b + (x 1).val) :
    extractStridedSlice S256x512 ![0, q.val] (k0_pay6 (F := Ideal) u w) hs x = inAt x0 x5 q (y 0) (y 1) := by
  have hx : (x 1).val < 512 := (x 1).isLt
  have hx0 : (x 0).val < 256 := (x 0).isLt
  refine (extractStridedSlice_apply ![0, q.val] _ hs x (pIx ⟨(x 0).val, hx0⟩ ⟨q.val + (x 1).val, by omega⟩) fun a => ?_).trans ?_
  · match a with
    | ⟨0, _⟩ => exact (Nat.zero_add _).symm
    | ⟨1, _⟩ => rfl
  rw [block_apply]
  unfold inAt
  have e1 : (y 1).val / 512 = b := by omega
  have e2 : (y 1).val % 512 = (x 1).val := by omega
  refine Finset.sum_congr rfl fun l _ => congrArg₂ (· * ·) ((hu _ l).trans (congrArg x0 (funext fun a => Fin.ext ?_))) ((hw l _).trans (congrArg x5 (funext fun a => Fin.ext ?_)))
  · match a with
    | ⟨0, _⟩ => rfl
    | ⟨1, _⟩ => exact h0.symm
    | ⟨2, _⟩ => show 128 * b + l.val = 128 * ((y 1).val / 512) + l.val; rw [e1]
  · match a with
    | ⟨0, _⟩ => exact e1.symm
    | ⟨1, _⟩ => rfl
    | ⟨2, _⟩ => show q.val + (x 1).val = q.val + (y 1).val % 512; rw [e2]

variable {arg2 : Memref sig .tc .vmem S1x256x1024 .f32} (harg2 : arg2.IsWhole) {arg7 : Memref sig .tc .vmem S8x128x1024 .bf16} (harg7 : arg7.IsWhole)

/-- The real part that the kernel stores for strip `b`. -/
theorem re_apply (b : ℕ) (hb : b < 8) (o2 : Fin S1x256x1024.rank → ℕ) (o7 : Fin S8x128x1024.rank → ℕ) (h2 : o2 = ![0, 0, 128 * b]) (h7 : o7 = ![b, 0, 0])
    (i2 : ∀ a, o2 a + S1x256x128.size a ≤ S1x256x1024.size a) (i7 : ∀ a, o7 a + S1x128x1024.size a ≤ S8x128x1024.size a)
    (x : S256x512.Idx) (y : S256x4096.Idx) (h0 : (y 0).val = (x 0).val) (h1 : (y 1).val = 512 * b + (x 1).val) :
    k0_pay7 (F := Ideal) (arg2.view.readAt (Elt Ideal) (Rect.unit (s := S1x256x1024) o2 S1x256x128.size i2).toLoadRect (harg2.unread x0))
      (arg7.view.readAt (Elt Ideal) (Rect.unit (s := S8x128x1024) o7 S1x128x1024.size i7).toLoadRect (harg7.unread x5)) x = inAt x0 x5 0 (y 0) (y 1) := by
  subst h2 h7
  unfold k0_pay7
  rw [shapeCast_self]
  refine part_apply x0 x5 _ _ b hb 0 (fun r l => load_at harg2 x0 i2 _ _ fun a => ?_) (fun l c => load_at harg7 x5 i7 _ _ fun a => ?_) _ x y h0 h1
  · match a with
    | ⟨0, _⟩ => rfl
    | ⟨1, _⟩ => exact (Nat.zero_add _).symm
    | ⟨2, _⟩ => rfl
  · match a with
    | ⟨0, _⟩ => rfl
    | ⟨1, _⟩ => exact (Nat.zero_add _).symm
    | ⟨2, _⟩ => exact (Nat.zero_add _).symm

/-- The imaginary part that the kernel stores for strip `b`. -/
theorem im_apply (b : ℕ) (hb : b < 8) (o2 : Fin S1x256x1024.rank → ℕ) (o7 : Fin S8x128x1024.rank → ℕ) (h2 : o2 = ![0, 0, 128 * b]) (h7 : o7 = ![b, 0, 0])
    (i2 : ∀ a, o2 a + S1x256x128.size a ≤ S1x256x1024.size a) (i7 : ∀ a, o7 a + S1x128x1024.size a ≤ S8x128x1024.size a)
    (x : S256x512.Idx) (y : S256x4096.Idx) (h0 : (y 0).val = (x 0).val) (h1 : (y 1).val = 512 * b + (x 1).val) :
    k0_pay8 (F := Ideal) (arg2.view.readAt (Elt Ideal) (Rect.unit (s := S1x256x1024) o2 S1x256x128.size i2).toLoadRect (harg2.unread x0))
      (arg7.view.readAt (Elt Ideal) (Rect.unit (s := S8x128x1024) o7 S1x128x1024.size i7).toLoadRect (harg7.unread x5)) x = inAt x0 x5 512 (y 0) (y 1) := by
  subst h2 h7
  unfold k0_pay8
  rw [shapeCast_self]
  refine part_apply x0 x5 _ _ b hb 512 (fun r l => load_at harg2 x0 i2 _ _ fun a => ?_) (fun l c => load_at harg7 x5 i7 _ _ fun a => ?_) _ x y h0 h1
  · match a with
    | ⟨0, _⟩ => rfl
    | ⟨1, _⟩ => exact (Nat.zero_add _).symm
    | ⟨2, _⟩ => rfl
  · match a with
    | ⟨0, _⟩ => rfl
    | ⟨1, _⟩ => exact (Nat.zero_add _).symm
    | ⟨2, _⟩ => exact (Nat.zero_add _).symm

/-- One more strip in a list of stores that fills an array strip by strip: where the entry lies in it the strip's
    contents count, and where it lies before it the earlier stores do. -/
theorem strip_cons {R : ℕ} {v : View sig .tc .vmem ⟨2, ![R, 4096]⟩ .f32} {f : v.ty.Contents (Elt Ideal)}
    {off : Fin 2 → ℕ} {inb : ∀ a, off a + (⟨2, ![R, 512]⟩ : Shape).size a ≤ (⟨2, ![R, 4096]⟩ : Shape).size a}
    {w : (⟨2, ![R, 512]⟩ : Shape).Idx → EReal} {L : List (View.Piece (Elt Ideal) ⟨2, ![R, 4096]⟩ .f32)} {y : (⟨2, ![R, 4096]⟩ : Shape).Idx} {E : EReal}
    (b : ℕ) (heq : off = ![0, 512 * b]) (hy : (y 1).val < 512 * b + 512)
    (hw : ∀ x : (⟨2, ![R, 512]⟩ : Shape).Idx, (y 0).val = (x 0).val → (y 1).val = 512 * b + (x 1).val → w x = E)
    (hL : (y 1).val < 512 * b → v.read (Elt Ideal) (v.writes (Elt Ideal) f L) y = E) :
    v.read (Elt Ideal) (v.writes (Elt Ideal) f ((⟨Rect.unit (s := ⟨2, ![R, 4096]⟩) off (⟨2, ![R, 512]⟩ : Shape).size inb, w⟩ : View.Piece (Elt Ideal) ⟨2, ![R, 4096]⟩ .f32) :: L)) y = E := by
  by_cases h : (y 1).val < 512 * b
  · exact (View.read_writes_cons_unit_of_not_mem v f inb w L y heq 1 (Or.inl h)).trans (hL h)
  · let x : (⟨2, ![R, 512]⟩ : Shape).Idx := fun a => match a with
      | ⟨0, _⟩ => ⟨(y 0).val, (y 0).isLt⟩
      | ⟨1, _⟩ => ⟨(y 1).val - 512 * b, by show _ < 512; omega⟩
    have hx : (y 1).val = 512 * b + (x 1).val := by show _ = 512 * b + ((y 1).val - 512 * b); omega
    exact (View.read_writes_cons_unit_of_mem v f inb w L y x heq fun a => match a with
      | ⟨0, _⟩ => (Nat.zero_add _).symm
      | ⟨1, _⟩ => hx).trans (hw x rfl hx)

end Cert.ScanIdeal.Gen
-- ==== Proof.ScanIdeal.Strip.lean ====
module

public import proofs.«01_k».proof.Proof.ScanIdeal.Sweep
public import proofs.«01_k».proof.Proof.ScanIdeal.Input

@[expose] public section

set_option maxRecDepth 16384

noncomputable section

namespace Cert.ScanIdeal.Gen

open Idealize.ShloMosaic Idealize.ShloMosaic.TcCoe

variable {sig : RefSig}

/-- The state after a chunk at entry `y`: 32 steps from `s`, step `t` with the input of row `8 t` plus the entry's row. -/
def chunkAt (x0 : Vec Ideal S1x256x1024 .f32) (x3 x4 : Vec Ideal S8x4096 .f32) (x5 : Vec Ideal S8x128x1024 .bf16)
    (s : Vec Ideal S8x4096 .f32 × Vec Ideal S8x4096 .f32) (y : S8x4096.Idx) : EReal × EReal :=
  cellAt (F := Ideal) (x3 y) (x4 y) (fun t => inAt x0 x5 0 ⟨(8 * t + (y 0).val) % 256, Nat.mod_lt _ (by decide)⟩ (y 1))
    (fun t => inAt x0 x5 512 ⟨(8 * t + (y 0).val) % 256, Nat.mod_lt _ (by decide)⟩ (y 1)) (s.1 y, s.2 y) 32

section
variable {v13 v14 : View sig .tc .vmem S256x4096 .f32} {o n : ℕ} {ar ai : Vec Ideal S8x512 .f32}
variable {init : Vec Ideal S8x512 .f32 × Vec Ideal S8x512 .f32}
variable {st : ℕ → (Vec Ideal S8x512 .f32 × Vec Ideal S8x512 .f32) × List (View.Piece (Elt Ideal) S256x4096 .f32) × List (View.Piece (Elt Ideal) S256x4096 .f32)}
variable {x0 : Vec Ideal S1x256x1024 .f32} {x3 x4 : Vec Ideal S8x4096 .f32} {x5 : Vec Ideal S8x128x1024 .bf16} {s : Vec Ideal S8x4096 .f32 × Vec Ideal S8x4096 .f32}

/-- A loop over an earlier strip does not change what the two inputs' arrays hold further to the right. -/
theorem Sweep.pass {f : v13.ty.Contents (Elt Ideal)} {f' : v14.ty.Contents (Elt Ideal)} {K K' : List (View.Piece (Elt Ideal) S256x4096 .f32)} {E E' : EReal}
    (sw : Sweep v13 v14 o ar ai (v13.writes (Elt Ideal) f K) (v14.writes (Elt Ideal) f' K') init st) (hn : n = 32) (z : S256x4096.Idx) (hz : o + 512 ≤ (z 1).val)
    (h : v13.read (Elt Ideal) (v13.writes (Elt Ideal) f K) z = E ∧ v14.read (Elt Ideal) (v14.writes (Elt Ideal) f' K') z = E') :
    v13.read (Elt Ideal) (v13.writes (Elt Ideal) f ((st n).2.1 ++ K)) z = E ∧ v14.read (Elt Ideal) (v14.writes (Elt Ideal) f' ((st n).2.2 ++ K')) z = E' := by
  subst hn
  rw [View.writes_append, View.writes_append]
  have k := sw.keeps z 32 le_rfl (Or.inr (Or.inl hz))
  exact ⟨k.1.trans h.1, k.2.trans h.2⟩

/-- What a strip's loop carries at its end is the state after the chunk, where the two arrays hold the inputs over the strip. -/
theorem Sweep.result {G13 : v13.ty.Contents (Elt Ideal)} {G14 : v14.ty.Contents (Elt Ideal)} (sw : Sweep v13 v14 o ar ai G13 G14 init st) (hn : n = 32)
    (x : S8x512.Idx) (y : S8x4096.Idx) (h0 : (y 0).val = (x 0).val) (h1 : (y 1).val = o + (x 1).val)
    (h : ∀ z : S256x4096.Idx, o ≤ (z 1).val → v13.read (Elt Ideal) G13 z = inAt x0 x5 0 (z 0) (z 1) ∧ v14.read (Elt Ideal) G14 z = inAt x0 x5 512 (z 0) (z 1))
    (ha : ar x = x3 y) (hb : ai x = x4 y) (hs : init.1 x = s.1 y) (ht : init.2 x = s.2 y) :
    ((st n).1.1 x, (st n).1.2 x) = chunkAt x0 x3 x4 x5 s y := by
  subst hn
  have hx0 : (x 0).val < 8 := (x 0).isLt
  have row : ∀ t < 32, ∀ z : S256x4096.Idx, (z 0).val = 8 * t + (x 0).val → z 0 = (⟨(8 * t + (y 0).val) % 256, Nat.mod_lt _ (by decide)⟩ : Fin 256) :=
    fun t ht z h => Fin.ext (by show (z 0).val = (8 * t + (y 0).val) % 256; omega)
  have col : ∀ z : S256x4096.Idx, (z 1).val = o + (x 1).val → z 1 = y 1 := fun z h => Fin.ext (by rw [h, h1])
  refine (sw.carried x (fun t => inAt x0 x5 0 ⟨(8 * t + (y 0).val) % 256, Nat.mod_lt _ (by decide)⟩ (y 1))
    (fun t => inAt x0 x5 512 ⟨(8 * t + (y 0).val) % 256, Nat.mod_lt _ (by decide)⟩ (y 1))
    (fun t ht z e0 e1 => (h z (by omega)).1.trans (congrArg₂ (inAt x0 x5 0) (row t ht z e0) (col z e1)))
    (fun t ht z e0 e1 => (h z (by omega)).2.trans (congrArg₂ (inAt x0 x5 512) (row t ht z e0) (col z e1))) 32 le_rfl).trans ?_
  unfold chunkAt
  rw [ha, hb, hs, ht]

/-- A position of a strip, on each axis. -/
theorem strip_pos {x : S8x512.Idx} {y : S8x4096.Idx} (h0 : (y 0).val = (x 0).val) (h1 : (y 1).val = o + (x 1).val) (a : Fin S8x4096.rank) :
    (y a).val = (![0, o] : Fin 2 → ℕ) a + (x a).val := match a with
  | ⟨0, _⟩ => h0.trans (Nat.zero_add _).symm
  | ⟨1, _⟩ => h1

/-- A strip stored before an entry does not count for it. -/
theorem strip_skip {v : View sig .tc .vmem S8x4096 .f32} {f : v.ty.Contents (Elt Ideal)} {off : Fin S8x4096.rank → ℕ}
    {inb : ∀ a, off a + S8x512.size a ≤ S8x4096.size a} {w : S8x512.Idx → EReal} {K : List (View.Piece (Elt Ideal) S8x4096 .f32)} {y : S8x4096.Idx} {E : EReal}
    (b : ℕ) (heq : off = ![0, 512 * b]) (hy : 512 * b + 512 ≤ (y 1).val) (h : v.read (Elt Ideal) (v.writes (Elt Ideal) f K) y = E) :
    v.read (Elt Ideal) (v.writes (Elt Ideal) f ((⟨Rect.unit (s := S8x4096) off S8x512.size inb, w⟩ : View.Piece (Elt Ideal) S8x4096 .f32) :: K)) y = E :=
  (View.read_writes_cons_unit_of_not_mem v f inb w K y heq 1 (Or.inr hy)).trans h

/-- One more strip in the stores to both of the state's arrays. -/
theorem strip_two {v v' : View sig .tc .vmem S8x4096 .f32} {f : v.ty.Contents (Elt Ideal)} {f' : v'.ty.Contents (Elt Ideal)} {off : Fin S8x4096.rank → ℕ}
    {inb inb' : ∀ a, off a + S8x512.size a ≤ S8x4096.size a} {w w' : S8x512.Idx → EReal} {K K' : List (View.Piece (Elt Ideal) S8x4096 .f32)} {y : S8x4096.Idx} {E : EReal × EReal}
    (b : ℕ) (heq : off = ![0, 512 * b]) (hy : (y 1).val < 512 * b + 512)
    (hw : ∀ x : S8x512.Idx, (y 0).val = (x 0).val → (y 1).val = 512 * b + (x 1).val → (w x, w' x) = E)
    (h : (y 1).val < 512 * b → (v.read (Elt Ideal) (v.writes (Elt Ideal) f K) y, v'.read (Elt Ideal) (v'.writes (Elt Ideal) f' K') y) = E) :
    (v.read (Elt Ideal) (v.writes (Elt Ideal) f ((⟨Rect.unit (s := S8x4096) off S8x512.size inb, shapeCast S8x512 w shapeCasts_S8x512_S8x512⟩ : View.Piece (Elt Ideal) S8x4096 .f32) :: K)) y,
      v'.read (Elt Ideal) (v'.writes (Elt Ideal) f' ((⟨Rect.unit (s := S8x4096) off S8x512.size inb', shapeCast S8x512 w' shapeCasts_S8x512_S8x512⟩ : View.Piece (Elt Ideal) S8x4096 .f32) :: K')) y) = E := by
  rw [shapeCast_self, shapeCast_self]
  exact Prod.ext
    (strip_cons (R := 8) b heq hy (fun x h0 h1 => congrArg Prod.fst (hw x h0 h1)) fun k => congrArg Prod.fst (h k))
    (strip_cons (R := 8) b heq hy (fun x h0 h1 => congrArg Prod.snd (hw x h0 h1)) fun k => congrArg Prod.snd (h k))
end

/-- A group's starting states, as an array without the leading axis of length 1. -/
def startAt (x : Vec Ideal S1x8x4096 .f32) : Vec Ideal S8x4096 .f32 := fun y =>
  x (fun a => match a with
    | ⟨0, _⟩ => ⟨0, Nat.one_pos⟩
    | ⟨1, _⟩ => y 0
    | ⟨2, _⟩ => y 1)

/-- Under the first store the array holds the starting states. -/
theorem whole_at {v : View sig .tc .vmem S8x4096 .f32} {f : v.ty.Contents (Elt Ideal)} {a3 : Memref sig .tc .vmem S1x8x4096 .f32} (h3 : a3.IsWhole) (x : Vec Ideal S1x8x4096 .f32)
    (inb : ∀ a, (![0, 0] : Fin 2 → ℕ) a + S8x4096.size a ≤ S8x4096.size a) (i3 : ∀ a, (![0, 0, 0] : Fin 3 → ℕ) a + S1x8x4096.size a ≤ S1x8x4096.size a) (y : S8x4096.Idx) :
    v.read (Elt Ideal) (v.writes (Elt Ideal) f [(⟨Rect.unit (s := S8x4096) ![0, 0] S8x4096.size inb,
      k0_pay4 (F := Ideal) (a3.view.readAt (Elt Ideal) (Rect.unit (s := S1x8x4096) ![0, 0, 0] S1x8x4096.size i3).toLoadRect (h3.unread x))⟩ : View.Piece (Elt Ideal) S8x4096 .f32)]) y = startAt x y := by
  refine (View.read_writes_cons_unit_of_mem v f inb _ [] y y rfl fun a => match a with
    | ⟨0, _⟩ => (Nat.zero_add _).symm
    | ⟨1, _⟩ => (Nat.zero_add _).symm).trans ?_
  unfold k0_pay4
  rw [shapeCast_self]
  let z : S1x8x4096.Idx := fun a => match a with
    | ⟨0, _⟩ => ⟨0, Nat.one_pos⟩
    | ⟨1, _⟩ => y 0
    | ⟨2, _⟩ => y 1
  refine (shapeCast_apply _ _ y z ?_).trans (load_at h3 x i3 z z fun a => ?_)
  · rw [Shape.rowMajor_val_three, Shape.rowMajor_val_two]
    show (0 * 8 + (y 0).val) * 4096 + (y 1).val = (y 0).val * 4096 + (y 1).val
    omega
  · match a with
    | ⟨0, _⟩ => rfl
    | ⟨1, _⟩ => exact (Nat.zero_add _).symm
    | ⟨2, _⟩ => exact (Nat.zero_add _).symm

/-- A strip's load from the state's array, from what the array holds at the position. -/
theorem start_at {v : View sig .tc .vmem S8x4096 .f32} {f : v.ty.Contents (Elt Ideal)} {o : ℕ} {inb : ∀ a, (![0, o] : Fin 2 → ℕ) a + S8x512.size a ≤ S8x4096.size a}
    {x : S8x512.Idx} {y : S8x4096.Idx} {E : EReal} (h0 : (y 0).val = (x 0).val) (h1 : (y 1).val = o + (x 1).val) (h : v.read (Elt Ideal) f y = E) :
    v.readAt (Elt Ideal) (Rect.unit (s := S8x4096) ![0, o] S8x512.size inb).toLoadRect f x = E := by
  refine (congrArg (v.read (Elt Ideal) f) (funext fun a => Fin.ext ?_)).trans h
  show (![0, o] : Fin 2 → ℕ) a + 1 * (x a).val = _
  rw [strip_pos h0 h1 a, Nat.one_mul]

/-- Entry `(0, r, n)` of a group's block of states. -/
abbrev wIx (y : S8x4096.Idx) : S1x8x4096.Idx := fun a => match a with
  | ⟨0, _⟩ => ⟨0, Nat.one_pos⟩
  | ⟨1, _⟩ => y 0
  | ⟨2, _⟩ => y 1

/-- The one store of a final state copies the whole of the state's scratch array. -/
theorem out_at (v : View sig .tc .vmem S1x8x4096 .f32) (f : v.ty.Contents (Elt Ideal)) (a : View sig .tc .vmem S8x4096 .f32) (L : List (View.Piece (Elt Ideal) S8x4096 .f32))
    (inb : ∀ d, (![0, 0, 0] : Fin 3 → ℕ) d + S1x8x4096.size d ≤ S1x8x4096.size d) (inb' : ∀ d, (![0, 0] : Fin 2 → ℕ) d + S8x4096.size d ≤ S8x4096.size d) (y : S8x4096.Idx) :
    v.read (Elt Ideal) (v.writes (Elt Ideal) f [(⟨Rect.unit (s := S1x8x4096) ![0, 0, 0] S1x8x4096.size inb,
      shapeCast S1x8x4096 (a.readAt (Elt Ideal) (Rect.unit (s := S8x4096) ![0, 0] S8x4096.size inb').toLoadRect (a.writes (Elt Ideal) a.junk L)) shapeCasts_S8x4096_S1x8x4096⟩ : View.Piece (Elt Ideal) S1x8x4096 .f32)]) (wIx y)
      = a.read (Elt Ideal) (a.writes (Elt Ideal) a.junk L) y := by
  refine (View.read_writes_cons_unit_of_mem v f inb _ [] (wIx y) (wIx y) rfl fun d => match d with
    | ⟨0, _⟩ => (Nat.zero_add _).symm
    | ⟨1, _⟩ => (Nat.zero_add _).symm
    | ⟨2, _⟩ => (Nat.zero_add _).symm).trans ?_
  refine (shapeCast_apply _ _ (wIx y) y ?_).trans ?_
  · rw [Shape.rowMajor_val_three, Shape.rowMajor_val_two]
    show (y 0).val * 4096 + (y 1).val = (0 * 8 + (y 0).val) * 4096 + (y 1).val
    omega
  · refine congrArg (a.read (Elt Ideal) (a.writes (Elt Ideal) a.junk L)) (funext fun d => Fin.ext ?_)
    match d with
    | ⟨0, _⟩ => show 0 + 1 * (y 0).val = (y 0).val; omega
    | ⟨1, _⟩ => show 0 + 1 * (y 1).val = (y 1).val; omega

end Cert.ScanIdeal.Gen
-- ==== Proof.ScanIdeal.Chunk.lean ====
module

public import proofs.«01_k».proof.Proof.ScanIdeal.Loops
public import proofs.«01_k».proof.Proof.ScanIdeal.Strip
public import proofs.«01_k».proof.Proof.ScanIdeal.RunB

@[expose] public section

set_option maxRecDepth 16384

noncomputable section

namespace Cert.ScanIdeal.Gen

open Idealize.ShloMosaic Idealize.ShloMosaic.TcCoe

/-- Loop 1 makes 32 trips. -/
theorem trips1 : Scf.trips k0_t1_loop.lb k0_t1_loop.ub k0_t1_loop.st = 32 := by decide +kernel
/-- Loop 2 makes 32 trips. -/
theorem trips2 : Scf.trips k0_t2_loop.lb k0_t2_loop.ub k0_t2_loop.st = 32 := by decide +kernel
/-- Loop 3 makes 32 trips. -/
theorem trips3 : Scf.trips k0_t3_loop.lb k0_t3_loop.ub k0_t3_loop.st = 32 := by decide +kernel
/-- Loop 4 makes 32 trips. -/
theorem trips4 : Scf.trips k0_t4_loop.lb k0_t4_loop.ub k0_t4_loop.st = 32 := by decide +kernel
/-- Loop 5 makes 32 trips. -/
theorem trips5 : Scf.trips k0_t5_loop.lb k0_t5_loop.ub k0_t5_loop.st = 32 := by decide +kernel
/-- Loop 6 makes 32 trips. -/
theorem trips6 : Scf.trips k0_t6_loop.lb k0_t6_loop.ub k0_t6_loop.st = 32 := by decide +kernel
/-- Loop 7 makes 32 trips. -/
theorem trips7 : Scf.trips k0_t7_loop.lb k0_t7_loop.ub k0_t7_loop.st = 32 := by decide +kernel
/-- Loop 8 makes 32 trips. -/
theorem trips8 : Scf.trips k0_t8_loop.lb k0_t8_loop.ub k0_t8_loop.st = 32 := by decide +kernel

set_option maxHeartbeats 4000000

variable (c : Dev nD) (i : grid0.Coords) (arg2 : Memref sig .tc .vmem S1x256x1024 .f32) (harg2 : arg2.IsWhole) (arg3 : Memref sig .tc .vmem S1x8x4096 .f32) (harg3 : arg3.IsWhole) (arg4 : Memref sig .tc .vmem S1x8x4096 .f32) (harg4 : arg4.IsWhole) (arg5 : Memref sig .tc .vmem S8x4096 .f32) (harg5 : arg5.IsWhole) (arg6 : Memref sig .tc .vmem S8x4096 .f32) (harg6 : arg6.IsWhole) (arg7 : Memref sig .tc .vmem S8x128x1024 .bf16) (harg7 : arg7.IsWhole) (arg8 : Memref sig .tc .vmem S8x1024x128 .bf16) (harg8 : arg8.IsWhole) (arg9 : Memref sig .tc .vmem S1x1024 .f32) (harg9 : arg9.IsWhole) (arg10 : Memref sig .tc .vmem S1x256x1024 .bf16) (harg10 : arg10.IsWhole) (arg11 : Memref sig .tc .vmem S1x8x4096 .f32) (harg11 : arg11.IsWhole) (arg12 : Memref sig .tc .vmem S1x8x4096 .f32) (harg12 : arg12.IsWhole) (arg13 : Memref sig .tc .vmem S256x4096 .f32) (harg13 : arg13.IsWhole) (arg14 : Memref sig .tc .vmem S256x4096 .f32) (harg14 : arg14.IsWhole) (arg15 : Memref sig .tc .vmem S8x4096 .f32) (harg15 : arg15.IsWhole) (arg16 : Memref sig .tc .vmem S8x4096 .f32) (harg16 : arg16.IsWhole)
variable (x0 : Vec Ideal S1x256x1024 .f32) (x1 x2 : Vec Ideal S1x8x4096 .f32) (x3 x4 : Vec Ideal S8x4096 .f32) (x5 : Vec Ideal S8x128x1024 .bf16) (x6 : Vec Ideal S8x1024x128 .bf16) (x7 : Vec Ideal S1x1024 .f32) (x15 x16 : Vec Ideal S8x4096 .f32)

/-- The real inputs' array holds the inputs, in a first chunk. -/
theorem in13A (f : BufTy.Contents (Elt Ideal) arg13.view.ty) (z : S256x4096.Idx) :
    arg13.view.read (Elt Ideal) (arg13.view.writes (Elt Ideal) f (kernelRun0_A.sl.HS0_8 (F := Ideal) c arg2 harg2 arg7 harg7 x0 x5)) z = inAt x0 x5 0 (z 0) (z 1) := by
  have hz : (z 1).val < 4096 := (z 1).isLt
  exact strip_cons 7 rfl (by omega) (fun x h0 h1 => re_apply x0 x5 harg2 harg7 7 (by decide) _ _ rfl rfl _ _ x z h0 h1) fun h =>
    strip_cons 6 rfl (by omega) (fun x h0 h1 => re_apply x0 x5 harg2 harg7 6 (by decide) _ _ rfl rfl _ _ x z h0 h1) fun h =>
    strip_cons 5 rfl (by omega) (fun x h0 h1 => re_apply x0 x5 harg2 harg7 5 (by decide) _ _ rfl rfl _ _ x z h0 h1) fun h =>
    strip_cons 4 rfl (by omega) (fun x h0 h1 => re_apply x0 x5 harg2 harg7 4 (by decide) _ _ rfl rfl _ _ x z h0 h1) fun h =>
    strip_cons 3 rfl (by omega) (fun x h0 h1 => re_apply x0 x5 harg2 harg7 3 (by decide) _ _ rfl rfl _ _ x z h0 h1) fun h =>
    strip_cons 2 rfl (by omega) (fun x h0 h1 => re_apply x0 x5 harg2 harg7 2 (by decide) _ _ rfl rfl _ _ x z h0 h1) fun h =>
    strip_cons 1 rfl (by omega) (fun x h0 h1 => re_apply x0 x5 harg2 harg7 1 (by decide) _ _ rfl rfl _ _ x z h0 h1) fun h =>
    strip_cons 0 rfl (by omega) (fun x h0 h1 => re_apply x0 x5 harg2 harg7 0 (by decide) _ _ rfl rfl _ _ x z h0 h1) fun h => absurd h (by omega)

/-- The imaginary inputs' array holds the inputs, in a first chunk. -/
theorem in14A (f : BufTy.Contents (Elt Ideal) arg14.view.ty) (z : S256x4096.Idx) :
    arg14.view.read (Elt Ideal) (arg14.view.writes (Elt Ideal) f (kernelRun0_A.sl.HS1_8 (F := Ideal) c arg2 harg2 arg7 harg7 x0 x5)) z = inAt x0 x5 512 (z 0) (z 1) := by
  have hz : (z 1).val < 4096 := (z 1).isLt
  exact strip_cons 7 rfl (by omega) (fun x h0 h1 => im_apply x0 x5 harg2 harg7 7 (by decide) _ _ rfl rfl _ _ x z h0 h1) fun h =>
    strip_cons 6 rfl (by omega) (fun x h0 h1 => im_apply x0 x5 harg2 harg7 6 (by decide) _ _ rfl rfl _ _ x z h0 h1) fun h =>
    strip_cons 5 rfl (by omega) (fun x h0 h1 => im_apply x0 x5 harg2 harg7 5 (by decide) _ _ rfl rfl _ _ x z h0 h1) fun h =>
    strip_cons 4 rfl (by omega) (fun x h0 h1 => im_apply x0 x5 harg2 harg7 4 (by decide) _ _ rfl rfl _ _ x z h0 h1) fun h =>
    strip_cons 3 rfl (by omega) (fun x h0 h1 => im_apply x0 x5 harg2 harg7 3 (by decide) _ _ rfl rfl _ _ x z h0 h1) fun h =>
    strip_cons 2 rfl (by omega) (fun x h0 h1 => im_apply x0 x5 harg2 harg7 2 (by decide) _ _ rfl rfl _ _ x z h0 h1) fun h =>
    strip_cons 1 rfl (by omega) (fun x h0 h1 => im_apply x0 x5 harg2 harg7 1 (by decide) _ _ rfl rfl _ _ x z h0 h1) fun h =>
    strip_cons 0 rfl (by omega) (fun x h0 h1 => im_apply x0 x5 harg2 harg7 0 (by decide) _ _ rfl rfl _ _ x z h0 h1) fun h => absurd h (by omega)

/-- The real inputs' array holds the inputs, in a second chunk. -/
theorem in13B (f : BufTy.Contents (Elt Ideal) arg13.view.ty) (z : S256x4096.Idx) :
    arg13.view.read (Elt Ideal) (arg13.view.writes (Elt Ideal) f (kernelRun0_B.sl.HS0_8 (F := Ideal) c arg2 harg2 arg7 harg7 x0 x5)) z = inAt x0 x5 0 (z 0) (z 1) :=
  in13A c arg2 harg2 arg7 harg7 arg13 x0 x5 f z

/-- The imaginary inputs' array holds the inputs, in a second chunk. -/
theorem in14B (f : BufTy.Contents (Elt Ideal) arg14.view.ty) (z : S256x4096.Idx) :
    arg14.view.read (Elt Ideal) (arg14.view.writes (Elt Ideal) f (kernelRun0_B.sl.HS1_8 (F := Ideal) c arg2 harg2 arg7 harg7 x0 x5)) z = inAt x0 x5 512 (z 0) (z 1) :=
  in14A c arg2 harg2 arg7 harg7 arg14 x0 x5 f z

/-- The state that a first chunk leaves. -/
theorem statesA (hc0 : cond0_0 i) (hc1 : ¬cond0_1 i) (f : BufTy.Contents (Elt Ideal) arg15.view.ty) (f' : BufTy.Contents (Elt Ideal) arg16.view.ty) (y : S8x4096.Idx) :
    (arg15.view.read (Elt Ideal) (arg15.view.writes (Elt Ideal) f (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.1) y,
      arg16.view.read (Elt Ideal) (arg16.view.writes (Elt Ideal) f' (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.2.1) y) = chunkAt x0 x3 x4 x5 (startAt x1, startAt x2) y := by
  have hy : (y 1).val < 4096 := (y 1).isLt
  unfold kernelRun0_A
  dsimp only
  exact strip_two 7 rfl (by omega) (fun x h0 h1 => sweep8.result trips8 x y h0 h1
        (fun z hz => sweep7.pass trips7 z (by omega) (sweep6.pass trips6 z (by omega) (sweep5.pass trips5 z (by omega) (sweep4.pass trips4 z (by omega) (sweep3.pass trips3 z (by omega) (sweep2.pass trips2 z (by omega) (sweep1.pass trips1 z (by omega) ⟨in13A c arg2 harg2 arg7 harg7 arg13 x0 x5 _ z, in14A c arg2 harg2 arg7 harg7 arg14 x0 x5 _ z⟩)))))))
        (load_at harg5 x3 _ x y (strip_pos h0 h1)) (load_at harg6 x4 _ x y (strip_pos h0 h1)) (start_at h0 h1 (strip_skip 6 rfl (by omega) (strip_skip 5 rfl (by omega) (strip_skip 4 rfl (by omega) (strip_skip 3 rfl (by omega) (strip_skip 2 rfl (by omega) (strip_skip 1 rfl (by omega) (strip_skip 0 rfl (by omega) (whole_at harg3 x1 _ _ y))))))))) (start_at h0 h1 (strip_skip 6 rfl (by omega) (strip_skip 5 rfl (by omega) (strip_skip 4 rfl (by omega) (strip_skip 3 rfl (by omega) (strip_skip 2 rfl (by omega) (strip_skip 1 rfl (by omega) (strip_skip 0 rfl (by omega) (whole_at harg4 x2 _ _ y)))))))))) fun h =>
    strip_two 6 rfl (by omega) (fun x h0 h1 => sweep7.result trips7 x y h0 h1
        (fun z hz => sweep6.pass trips6 z (by omega) (sweep5.pass trips5 z (by omega) (sweep4.pass trips4 z (by omega) (sweep3.pass trips3 z (by omega) (sweep2.pass trips2 z (by omega) (sweep1.pass trips1 z (by omega) ⟨in13A c arg2 harg2 arg7 harg7 arg13 x0 x5 _ z, in14A c arg2 harg2 arg7 harg7 arg14 x0 x5 _ z⟩))))))
        (load_at harg5 x3 _ x y (strip_pos h0 h1)) (load_at harg6 x4 _ x y (strip_pos h0 h1)) (start_at h0 h1 (strip_skip 5 rfl (by omega) (strip_skip 4 rfl (by omega) (strip_skip 3 rfl (by omega) (strip_skip 2 rfl (by omega) (strip_skip 1 rfl (by omega) (strip_skip 0 rfl (by omega) (whole_at harg3 x1 _ _ y)))))))) (start_at h0 h1 (strip_skip 5 rfl (by omega) (strip_skip 4 rfl (by omega) (strip_skip 3 rfl (by omega) (strip_skip 2 rfl (by omega) (strip_skip 1 rfl (by omega) (strip_skip 0 rfl (by omega) (whole_at harg4 x2 _ _ y))))))))) fun h =>
    strip_two 5 rfl (by omega) (fun x h0 h1 => sweep6.result trips6 x y h0 h1
        (fun z hz => sweep5.pass trips5 z (by omega) (sweep4.pass trips4 z (by omega) (sweep3.pass trips3 z (by omega) (sweep2.pass trips2 z (by omega) (sweep1.pass trips1 z (by omega) ⟨in13A c arg2 harg2 arg7 harg7 arg13 x0 x5 _ z, in14A c arg2 harg2 arg7 harg7 arg14 x0 x5 _ z⟩)))))
        (load_at harg5 x3 _ x y (strip_pos h0 h1)) (load_at harg6 x4 _ x y (strip_pos h0 h1)) (start_at h0 h1 (strip_skip 4 rfl (by omega) (strip_skip 3 rfl (by omega) (strip_skip 2 rfl (by omega) (strip_skip 1 rfl (by omega) (strip_skip 0 rfl (by omega) (whole_at harg3 x1 _ _ y))))))) (start_at h0 h1 (strip_skip 4 rfl (by omega) (strip_skip 3 rfl (by omega) (strip_skip 2 rfl (by omega) (strip_skip 1 rfl (by omega) (strip_skip 0 rfl (by omega) (whole_at harg4 x2 _ _ y)))))))) fun h =>
    strip_two 4 rfl (by omega) (fun x h0 h1 => sweep5.result trips5 x y h0 h1
        (fun z hz => sweep4.pass trips4 z (by omega) (sweep3.pass trips3 z (by omega) (sweep2.pass trips2 z (by omega) (sweep1.pass trips1 z (by omega) ⟨in13A c arg2 harg2 arg7 harg7 arg13 x0 x5 _ z, in14A c arg2 harg2 arg7 harg7 arg14 x0 x5 _ z⟩))))
        (load_at harg5 x3 _ x y (strip_pos h0 h1)) (load_at harg6 x4 _ x y (strip_pos h0 h1)) (start_at h0 h1 (strip_skip 3 rfl (by omega) (strip_skip 2 rfl (by omega) (strip_skip 1 rfl (by omega) (strip_skip 0 rfl (by omega) (whole_at harg3 x1 _ _ y)))))) (start_at h0 h1 (strip_skip 3 rfl (by omega) (strip_skip 2 rfl (by omega) (strip_skip 1 rfl (by omega) (strip_skip 0 rfl (by omega) (whole_at harg4 x2 _ _ y))))))) fun h =>
    strip_two 3 rfl (by omega) (fun x h0 h1 => sweep4.result trips4 x y h0 h1
        (fun z hz => sweep3.pass trips3 z (by omega) (sweep2.pass trips2 z (by omega) (sweep1.pass trips1 z (by omega) ⟨in13A c arg2 harg2 arg7 harg7 arg13 x0 x5 _ z, in14A c arg2 harg2 arg7 harg7 arg14 x0 x5 _ z⟩)))
        (load_at harg5 x3 _ x y (strip_pos h0 h1)) (load_at harg6 x4 _ x y (strip_pos h0 h1)) (start_at h0 h1 (strip_skip 2 rfl (by omega) (strip_skip 1 rfl (by omega) (strip_skip 0 rfl (by omega) (whole_at harg3 x1 _ _ y))))) (start_at h0 h1 (strip_skip 2 rfl (by omega) (strip_skip 1 rfl (by omega) (strip_skip 0 rfl (by omega) (whole_at harg4 x2 _ _ y)))))) fun h =>
    strip_two 2 rfl (by omega) (fun x h0 h1 => sweep3.result trips3 x y h0 h1
        (fun z hz => sweep2.pass trips2 z (by omega) (sweep1.pass trips1 z (by omega) ⟨in13A c arg2 harg2 arg7 harg7 arg13 x0 x5 _ z, in14A c arg2 harg2 arg7 harg7 arg14 x0 x5 _ z⟩))
        (load_at harg5 x3 _ x y (strip_pos h0 h1)) (load_at harg6 x4 _ x y (strip_pos h0 h1)) (start_at h0 h1 (strip_skip 1 rfl (by omega) (strip_skip 0 rfl (by omega) (whole_at harg3 x1 _ _ y)))) (start_at h0 h1 (strip_skip 1 rfl (by omega) (strip_skip 0 rfl (by omega) (whole_at harg4 x2 _ _ y))))) fun h =>
    strip_two 1 rfl (by omega) (fun x h0 h1 => sweep2.result trips2 x y h0 h1
        (fun z hz => sweep1.pass trips1 z (by omega) ⟨in13A c arg2 harg2 arg7 harg7 arg13 x0 x5 _ z, in14A c arg2 harg2 arg7 harg7 arg14 x0 x5 _ z⟩)
        (load_at harg5 x3 _ x y (strip_pos h0 h1)) (load_at harg6 x4 _ x y (strip_pos h0 h1)) (start_at h0 h1 (strip_skip 0 rfl (by omega) (whole_at harg3 x1 _ _ y))) (start_at h0 h1 (strip_skip 0 rfl (by omega) (whole_at harg4 x2 _ _ y)))) fun h =>
    strip_two 0 rfl (by omega) (fun x h0 h1 => sweep1.result trips1 x y h0 h1
        (fun z hz => ⟨in13A c arg2 harg2 arg7 harg7 arg13 x0 x5 _ z, in14A c arg2 harg2 arg7 harg7 arg14 x0 x5 _ z⟩)
        (load_at harg5 x3 _ x y (strip_pos h0 h1)) (load_at harg6 x4 _ x y (strip_pos h0 h1)) (start_at h0 h1 (whole_at harg3 x1 _ _ y)) (start_at h0 h1 (whole_at harg4 x2 _ _ y))) fun h => absurd h (by omega)

/-- The state that a second chunk leaves. -/
theorem statesB (hc0 : ¬cond0_0 i) (hc1 : cond0_1 i) (f : BufTy.Contents (Elt Ideal) arg15.view.ty) (f' : BufTy.Contents (Elt Ideal) arg16.view.ty) (y : S8x4096.Idx) :
    (arg15.view.read (Elt Ideal) (arg15.view.writes (Elt Ideal) f (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x15 x16).2.2.2.1) y,
      arg16.view.read (Elt Ideal) (arg16.view.writes (Elt Ideal) f' (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x15 x16).2.2.2.2.1) y) = chunkAt x0 x3 x4 x5 (x15, x16) y := by
  have hy : (y 1).val < 4096 := (y 1).isLt
  unfold kernelRun0_B
  dsimp only
  exact strip_two 7 rfl (by omega) (fun x h0 h1 => sweep8.result trips8 x y h0 h1
        (fun z hz => sweep7.pass trips7 z (by omega) (sweep6.pass trips6 z (by omega) (sweep5.pass trips5 z (by omega) (sweep4.pass trips4 z (by omega) (sweep3.pass trips3 z (by omega) (sweep2.pass trips2 z (by omega) (sweep1.pass trips1 z (by omega) ⟨in13B c arg2 harg2 arg7 harg7 arg13 x0 x5 _ z, in14B c arg2 harg2 arg7 harg7 arg14 x0 x5 _ z⟩)))))))
        (load_at harg5 x3 _ x y (strip_pos h0 h1)) (load_at harg6 x4 _ x y (strip_pos h0 h1)) (load_at harg15 x15 _ x y (strip_pos h0 h1)) (load_at harg16 x16 _ x y (strip_pos h0 h1))) fun h =>
    strip_two 6 rfl (by omega) (fun x h0 h1 => sweep7.result trips7 x y h0 h1
        (fun z hz => sweep6.pass trips6 z (by omega) (sweep5.pass trips5 z (by omega) (sweep4.pass trips4 z (by omega) (sweep3.pass trips3 z (by omega) (sweep2.pass trips2 z (by omega) (sweep1.pass trips1 z (by omega) ⟨in13B c arg2 harg2 arg7 harg7 arg13 x0 x5 _ z, in14B c arg2 harg2 arg7 harg7 arg14 x0 x5 _ z⟩))))))
        (load_at harg5 x3 _ x y (strip_pos h0 h1)) (load_at harg6 x4 _ x y (strip_pos h0 h1)) (load_at harg15 x15 _ x y (strip_pos h0 h1)) (load_at harg16 x16 _ x y (strip_pos h0 h1))) fun h =>
    strip_two 5 rfl (by omega) (fun x h0 h1 => sweep6.result trips6 x y h0 h1
        (fun z hz => sweep5.pass trips5 z (by omega) (sweep4.pass trips4 z (by omega) (sweep3.pass trips3 z (by omega) (sweep2.pass trips2 z (by omega) (sweep1.pass trips1 z (by omega) ⟨in13B c arg2 harg2 arg7 harg7 arg13 x0 x5 _ z, in14B c arg2 harg2 arg7 harg7 arg14 x0 x5 _ z⟩)))))
        (load_at harg5 x3 _ x y (strip_pos h0 h1)) (load_at harg6 x4 _ x y (strip_pos h0 h1)) (load_at harg15 x15 _ x y (strip_pos h0 h1)) (load_at harg16 x16 _ x y (strip_pos h0 h1))) fun h =>
    strip_two 4 rfl (by omega) (fun x h0 h1 => sweep5.result trips5 x y h0 h1
        (fun z hz => sweep4.pass trips4 z (by omega) (sweep3.pass trips3 z (by omega) (sweep2.pass trips2 z (by omega) (sweep1.pass trips1 z (by omega) ⟨in13B c arg2 harg2 arg7 harg7 arg13 x0 x5 _ z, in14B c arg2 harg2 arg7 harg7 arg14 x0 x5 _ z⟩))))
        (load_at harg5 x3 _ x y (strip_pos h0 h1)) (load_at harg6 x4 _ x y (strip_pos h0 h1)) (load_at harg15 x15 _ x y (strip_pos h0 h1)) (load_at harg16 x16 _ x y (strip_pos h0 h1))) fun h =>
    strip_two 3 rfl (by omega) (fun x h0 h1 => sweep4.result trips4 x y h0 h1
        (fun z hz => sweep3.pass trips3 z (by omega) (sweep2.pass trips2 z (by omega) (sweep1.pass trips1 z (by omega) ⟨in13B c arg2 harg2 arg7 harg7 arg13 x0 x5 _ z, in14B c arg2 harg2 arg7 harg7 arg14 x0 x5 _ z⟩)))
        (load_at harg5 x3 _ x y (strip_pos h0 h1)) (load_at harg6 x4 _ x y (strip_pos h0 h1)) (load_at harg15 x15 _ x y (strip_pos h0 h1)) (load_at harg16 x16 _ x y (strip_pos h0 h1))) fun h =>
    strip_two 2 rfl (by omega) (fun x h0 h1 => sweep3.result trips3 x y h0 h1
        (fun z hz => sweep2.pass trips2 z (by omega) (sweep1.pass trips1 z (by omega) ⟨in13B c arg2 harg2 arg7 harg7 arg13 x0 x5 _ z, in14B c arg2 harg2 arg7 harg7 arg14 x0 x5 _ z⟩))
        (load_at harg5 x3 _ x y (strip_pos h0 h1)) (load_at harg6 x4 _ x y (strip_pos h0 h1)) (load_at harg15 x15 _ x y (strip_pos h0 h1)) (load_at harg16 x16 _ x y (strip_pos h0 h1))) fun h =>
    strip_two 1 rfl (by omega) (fun x h0 h1 => sweep2.result trips2 x y h0 h1
        (fun z hz => sweep1.pass trips1 z (by omega) ⟨in13B c arg2 harg2 arg7 harg7 arg13 x0 x5 _ z, in14B c arg2 harg2 arg7 harg7 arg14 x0 x5 _ z⟩)
        (load_at harg5 x3 _ x y (strip_pos h0 h1)) (load_at harg6 x4 _ x y (strip_pos h0 h1)) (load_at harg15 x15 _ x y (strip_pos h0 h1)) (load_at harg16 x16 _ x y (strip_pos h0 h1))) fun h =>
    strip_two 0 rfl (by omega) (fun x h0 h1 => sweep1.result trips1 x y h0 h1
        (fun z hz => ⟨in13B c arg2 harg2 arg7 harg7 arg13 x0 x5 _ z, in14B c arg2 harg2 arg7 harg7 arg14 x0 x5 _ z⟩)
        (load_at harg5 x3 _ x y (strip_pos h0 h1)) (load_at harg6 x4 _ x y (strip_pos h0 h1)) (load_at harg15 x15 _ x y (strip_pos h0 h1)) (load_at harg16 x16 _ x y (strip_pos h0 h1))) fun h => absurd h (by omega)

end Cert.ScanIdeal.Gen
-- ==== Proof.ScanIdeal.Total.lean ====
module

public import proofs.«01_k».proof.Proof.ScanIdeal.Input

@[expose] public section

noncomputable section

namespace Cert.ScanIdeal.Gen

open Idealize.ShloMosaic

/-- Entry `(p, k)` of the inputs, `p` counting the times of all sequences. -/
abbrev tIx (p : Fin 1024) (k : Fin 1024) : S1024x1024.Idx := fun a => match a with
  | ⟨0, _⟩ => ⟨p.val, p.isLt⟩
  | ⟨1, _⟩ => ⟨k.val, k.isLt⟩

/-- Entry `(s, n)` of the starting states. -/
abbrev sIx (s : Fin 16) (n : Fin 4096) : S16x4096.Idx := fun a => match a with
  | ⟨0, _⟩ => ⟨s.val, s.isLt⟩
  | ⟨1, _⟩ => ⟨n.val, n.isLt⟩

/-- Entry `(r, n)` of the factors. -/
abbrev aIx (r : Fin 8) (n : Fin 4096) : S8x4096.Idx := fun a => match a with
  | ⟨0, _⟩ => ⟨r.val, r.isLt⟩
  | ⟨1, _⟩ => ⟨n.val, n.isLt⟩

/-- A part (from column `q`) of the input of sequence `s`'s state at time `t` and column `n`. -/
def seqIn (u : S1024x1024.Idx → EReal) (w : S8x128x1024.Idx → EReal) (q : Fin 513) (s : Fin 16) (n : Fin 4096) (t : ℕ) : EReal :=
  ∑ l : Fin 128, u (tIx ⟨64 * s.val + t % 64, by omega⟩ ⟨128 * (n.val / 512) + l.val, by omega⟩) * w (bIx ⟨n.val / 512, by omega⟩ l ⟨q.val + n.val % 512, by omega⟩)

/-- Column `n` of sequence `s`'s state after `k` steps. -/
def seqState (u : S1024x1024.Idx → EReal) (s0 s1 : S16x4096.Idx → EReal) (ar ai : S8x4096.Idx → EReal) (w : S8x128x1024.Idx → EReal)
    (s : Fin 16) (n : Fin 4096) (k : ℕ) : EReal × EReal :=
  cellAt (F := Ideal) (ar (aIx ⟨s.val % 8, Nat.mod_lt _ (by decide)⟩ n)) (ai (aIx ⟨s.val % 8, Nat.mod_lt _ (by decide)⟩ n))
    (seqIn u w 0 s n) (seqIn u w 512 s n) (s0 (sIx s n), s1 (sIx s n)) k

/-- The states that all sequences end in, in two groups of eight: entry `(g, r, n)` is that of sequence `8 g + r`. -/
def endState (u : S1024x1024.Idx → EReal) (s0 s1 : S16x4096.Idx → EReal) (ar ai : S8x4096.Idx → EReal) (w : S8x128x1024.Idx → EReal)
    (i : S2x8x4096.Idx) : EReal × EReal :=
  seqState u s0 s1 ar ai w ⟨8 * (i 0).val + (i 1).val, by have h0 : (i 0).val < 2 := (i 0).isLt; have h1 : (i 1).val < 8 := (i 1).isLt; omega⟩ (i 2) 64

end Cert.ScanIdeal.Gen

end
-- ==== Proof.ScanIdeal.Value.lean ====
module

public import proofs.«01_k».proof.Proof.ScanIdeal.Frame
public import proofs.«01_k».proof.Proof.ScanIdeal.Chunk
public import proofs.«01_k».proof.Proof.ScanIdeal.Total

@[expose] public section

set_option maxRecDepth 16384

noncomputable section

namespace Cert.ScanIdeal.Gen

open Idealize.ShloMosaic Idealize.ShloMosaic.TcCoe Idealize.ShloMosaic.Tactic

section
variable (c : Dev nD) (i : grid0.Coords) (arg2 : Memref sig .tc .vmem S1x256x1024 .f32) (harg2 : arg2.IsWhole) (arg3 : Memref sig .tc .vmem S1x8x4096 .f32) (harg3 : arg3.IsWhole) (arg4 : Memref sig .tc .vmem S1x8x4096 .f32) (harg4 : arg4.IsWhole) (arg5 : Memref sig .tc .vmem S8x4096 .f32) (harg5 : arg5.IsWhole) (arg6 : Memref sig .tc .vmem S8x4096 .f32) (harg6 : arg6.IsWhole) (arg7 : Memref sig .tc .vmem S8x128x1024 .bf16) (harg7 : arg7.IsWhole) (arg8 : Memref sig .tc .vmem S8x1024x128 .bf16) (harg8 : arg8.IsWhole) (arg9 : Memref sig .tc .vmem S1x1024 .f32) (harg9 : arg9.IsWhole) (arg10 : Memref sig .tc .vmem S1x256x1024 .bf16) (harg10 : arg10.IsWhole) (arg11 : Memref sig .tc .vmem S1x8x4096 .f32) (harg11 : arg11.IsWhole) (arg12 : Memref sig .tc .vmem S1x8x4096 .f32) (harg12 : arg12.IsWhole) (arg13 : Memref sig .tc .vmem S256x4096 .f32) (harg13 : arg13.IsWhole) (arg14 : Memref sig .tc .vmem S256x4096 .f32) (harg14 : arg14.IsWhole) (arg15 : Memref sig .tc .vmem S8x4096 .f32) (harg15 : arg15.IsWhole) (arg16 : Memref sig .tc .vmem S8x4096 .f32) (harg16 : arg16.IsWhole)
variable (x0 : Vec Ideal S1x256x1024 .f32) (x1 x2 : Vec Ideal S1x8x4096 .f32) (x3 x4 : Vec Ideal S8x4096 .f32) (x5 : Vec Ideal S8x128x1024 .bf16) (x6 : Vec Ideal S8x1024x128 .bf16) (x7 : Vec Ideal S1x1024 .f32) (x15 x16 : Vec Ideal S8x4096 .f32)

/-- A second chunk's outputs hold the state that it leaves. -/
theorem outsB (hc0 : ¬cond0_0 i) (hc1 : cond0_1 i) (v v' : View sig .tc .vmem S1x8x4096 .f32) (f : v.ty.Contents (Elt Ideal)) (f' : v'.ty.Contents (Elt Ideal)) (y : S8x4096.Idx) :
    (v.read (Elt Ideal) (v.writes (Elt Ideal) f (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x15 x16).2.1) (wIx y),
      v'.read (Elt Ideal) (v'.writes (Elt Ideal) f' (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x15 x16).2.2.1) (wIx y)) = chunkAt x0 x3 x4 x5 (x15, x16) y := by
  refine Eq.trans ?_ (statesB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x15 x16 hc0 hc1 arg15.view.junk arg16.view.junk y)
  unfold kernelRun0_B
  dsimp only
  exact congrArg₂ Prod.mk (out_at v f arg15.view _ _ _ y) (out_at v' f' arg16.view _ _ _ y)
end

variable (m : (ℓ : Loc nD τ sig) → Buf (Elt Ideal) ℓ) (c : Dev nD)

/-- The blocks that each window is at, point by point. -/
theorem at_u : ∀ t : Fin cfg0.N, win0_0.index t (0 : Fin 3) = t.val / 2 ∧ win0_0.index t (1 : Fin 3) = t.val % 2 ∧ win0_0.index t (2 : Fin 3) = 0 :=
  (by decide +kernel : ∀ t : Fin grid0.N, _)
/-- The part of the real start states that a point reads. -/
theorem at_s0 : ∀ t : Fin cfg0.N, win0_1.index t (0 : Fin 3) = t.val / 2 ∧ win0_1.index t (1 : Fin 3) = 0 ∧ win0_1.index t (2 : Fin 3) = 0 :=
  (by decide +kernel : ∀ t : Fin grid0.N, _)
/-- The part of the imaginary start states that a point reads. -/
theorem at_s1 : ∀ t : Fin cfg0.N, win0_2.index t (0 : Fin 3) = t.val / 2 ∧ win0_2.index t (1 : Fin 3) = 0 ∧ win0_2.index t (2 : Fin 3) = 0 :=
  (by decide +kernel : ∀ t : Fin grid0.N, _)
/-- Every point reads the real factors whole. -/
theorem at_ar : ∀ t : Fin cfg0.N, win0_3.index t (0 : Fin 2) = 0 ∧ win0_3.index t (1 : Fin 2) = 0 :=
  (by decide +kernel : ∀ t : Fin grid0.N, _)
/-- Every point reads the imaginary factors whole. -/
theorem at_ai : ∀ t : Fin cfg0.N, win0_4.index t (0 : Fin 2) = 0 ∧ win0_4.index t (1 : Fin 2) = 0 :=
  (by decide +kernel : ∀ t : Fin grid0.N, _)
/-- Every point reads the input matrices whole. -/
theorem at_b : ∀ t : Fin cfg0.N, win0_5.index t (0 : Fin 3) = 0 ∧ win0_5.index t (1 : Fin 3) = 0 ∧ win0_5.index t (2 : Fin 3) = 0 :=
  (by decide +kernel : ∀ t : Fin grid0.N, _)
/-- The part of the real final states that a point works on. -/
theorem at_re : ∀ t : Fin cfg0.N, win0_9.index t (0 : Fin 3) = t.val / 2 ∧ win0_9.index t (1 : Fin 3) = 0 ∧ win0_9.index t (2 : Fin 3) = 0 :=
  (by decide +kernel : ∀ t : Fin grid0.N, _)
/-- The part of the imaginary final states that a point works on. -/
theorem at_im : ∀ t : Fin cfg0.N, win0_10.index t (0 : Fin 3) = t.val / 2 ∧ win0_10.index t (1 : Fin 3) = 0 ∧ win0_10.index t (2 : Fin 3) = 0 :=
  (by decide +kernel : ∀ t : Fin grid0.N, _)

/-- The call's arguments. -/
abbrev uA : S1024x1024.Idx → EReal := m ((c : Thread nD τ).loc main_arg0)
abbrev s0A : S16x4096.Idx → EReal := m ((c : Thread nD τ).loc main_arg1)
abbrev s1A : S16x4096.Idx → EReal := m ((c : Thread nD τ).loc main_arg2)
abbrev arA : S8x4096.Idx → EReal := m ((c : Thread nD τ).loc main_arg3)
abbrev aiA : S8x4096.Idx → EReal := m ((c : Thread nD τ).loc main_arg4)
abbrev bA : S8x128x1024.Idx → EReal := m ((c : Thread nD τ).loc main_arg5)

/-- Entry `(g, p, k)` of the inputs put in order of time, `p = 8 t + r`. -/
abbrev gIx (g : Fin 2) (p : Fin 512) (k : Fin 1024) : S2x512x1024.Idx := fun a => match a with
  | ⟨0, _⟩ => ⟨g.val, g.isLt⟩
  | ⟨1, _⟩ => ⟨p.val, p.isLt⟩
  | ⟨2, _⟩ => ⟨k.val, k.isLt⟩
abbrev g4Ix (g : Fin 2) (p : Fin 512) (k : Fin 1024) : S2x64x8x1024.Idx := fun a => match a with
  | ⟨0, _⟩ => ⟨g.val, g.isLt⟩
  | ⟨1, _⟩ => ⟨p.val / 8, by show p.val / 8 < 64; omega⟩
  | ⟨2, _⟩ => ⟨p.val % 8, Nat.mod_lt _ (by decide)⟩
  | ⟨3, _⟩ => ⟨k.val, k.isLt⟩
abbrev g5Ix (g : Fin 2) (p : Fin 512) (k : Fin 1024) : S2x8x64x1024.Idx := fun a => match a with
  | ⟨0, _⟩ => ⟨g.val, g.isLt⟩
  | ⟨1, _⟩ => ⟨p.val % 8, Nat.mod_lt _ (by decide)⟩
  | ⟨2, _⟩ => ⟨p.val / 8, by show p.val / 8 < 64; omega⟩
  | ⟨3, _⟩ => ⟨k.val, k.isLt⟩
abbrev hIx (g : Fin 2) (y : S8x4096.Idx) : S2x8x4096.Idx := fun a => match a with
  | ⟨0, _⟩ => ⟨g.val, g.isLt⟩
  | ⟨1, _⟩ => y 0
  | ⟨2, _⟩ => y 1

/-- The inputs as the host part lays them out. -/
theorem V_u : (V m c main_v2 : S2x512x1024.Idx → EReal) = shapeCast S2x512x1024 (transpose S2x64x8x1024 [0, 2, 1, 3] (shapeCast S2x8x64x1024 (uA m c) shapeCasts_S1024x1024_S2x8x64x1024) transposes_S2x8x64x1024_S2x64x8x1024_0_2_1_3) shapeCasts_S2x64x8x1024_S2x512x1024 := by
  unfold V hostOps0
  after_results
  rfl

/-- The real start states as the host part lays them out. -/
theorem V_s0 : (V m c main_v3 : S2x8x4096.Idx → EReal) = shapeCast S2x8x4096 (s0A m c) shapeCasts_S16x4096_S2x8x4096 := by
  unfold V hostOps0
  after_results
  rfl

/-- The imaginary start states as the host part lays them out. -/
theorem V_s1 : (V m c main_v4 : S2x8x4096.Idx → EReal) = shapeCast S2x8x4096 (s1A m c) shapeCasts_S16x4096_S2x8x4096 := by
  unfold V hostOps0
  after_results
  rfl

/-- The inputs that the call finds, by group, time and sequence. -/
theorem u_at (g : Fin 2) (p : Fin 512) (k : Fin 1024) : (V m c main_v2 : S2x512x1024.Idx → EReal) (gIx g p k) = uA m c (tIx ⟨64 * (8 * g.val + p.val % 8) + p.val / 8, by omega⟩ k) := by
  rw [V_u]
  refine (shapeCast_apply _ _ (gIx g p k) (g4Ix g p k) ?_).trans ((transpose_apply _ _ _ (g4Ix g p k) (g5Ix g p k) (fun b => ?_)).trans (shapeCast_apply _ _ (g5Ix g p k) (tIx ⟨64 * (8 * g.val + p.val % 8) + p.val / 8, by omega⟩ k) ?_))
  · rw [Shape.rowMajor_val_four, Shape.rowMajor_val_three]
    show ((g.val * 64 + p.val / 8) * 8 + p.val % 8) * 1024 + k.val = (g.val * 512 + p.val) * 1024 + k.val
    omega
  · match b with
    | ⟨0, _⟩ => rfl
    | ⟨1, _⟩ => rfl
    | ⟨2, _⟩ => rfl
    | ⟨3, _⟩ => rfl
  · rw [Shape.rowMajor_val_four, Shape.rowMajor_val_two]
    show (64 * (8 * g.val + p.val % 8) + p.val / 8) * 1024 + k.val = ((g.val * 8 + p.val % 8) * 64 + p.val / 8) * 1024 + k.val
    omega

/-- A starting state grouped by eight sequences. -/
theorem grouped (x : S16x4096.Idx → EReal) (g : Fin 2) (y : S8x4096.Idx) :
    (shapeCast S2x8x4096 x shapeCasts_S16x4096_S2x8x4096 : S2x8x4096.Idx → EReal) (hIx g y) = x (sIx ⟨8 * g.val + (y 0).val, by have h0 : (y 0).val < 8 := (y 0).isLt; omega⟩ (y 1)) := by
  refine shapeCast_apply _ _ (hIx g y) _ ?_
  rw [Shape.rowMajor_val_three, Shape.rowMajor_val_two]
  show (8 * g.val + (y 0).val) * 4096 + (y 1).val = (g.val * 8 + (y 0).val) * 4096 + (y 1).val
  omega

/-- The group of a point. -/
abbrev grp (t : Fin cfg0.N) : Fin 2 := ⟨t.val / 2, by have := lt_of_lt_of_eq t.isLt (show cfg0.N = 4 from N_0); omega⟩

/-- The sequence that row `y 0` of a point belongs to. -/
abbrev seqOf (t : Fin cfg0.N) (y : S8x4096.Idx) : Fin 16 := ⟨8 * (t.val / 2) + (y 0).val, by
  have h0 : (y 0).val < 8 := (y 0).isLt
  have := lt_of_lt_of_eq t.isLt (show cfg0.N = 4 from N_0)
  omega⟩

/-- A point's inputs, by sequence and step. -/
theorem block_u (t : Fin cfg0.N) (r : Fin 256) (k : Fin 1024) : (iblk m c 0 t : S1x256x1024.Idx → EReal) (uIx r k)
    = uA m c (tIx ⟨64 * (8 * (t.val / 2) + r.val % 8) + (32 * (t.val % 2) + r.val / 8), by have := lt_of_lt_of_eq t.isLt (show cfg0.N = 4 from N_0); omega⟩ k) := by
  obtain ⟨e0, e1, e2⟩ := at_u t
  have hN := lt_of_lt_of_eq t.isLt (show cfg0.N = 4 from N_0)
  unfold iblk
  have hk : ∀ a : Fin 3, (((cfg0.win 0).blk t).view.emb (uIx r k) a).val = win0_0.index t a * S1x256x1024.size a + 1 * ((uIx r k) a).val := fun a => rfl
  refine Eq.trans ?_ ((u_at m c (grp t) ⟨256 * (t.val % 2) + r.val, by omega⟩ k).trans (congrArg (uA m c) (funext fun a => Fin.ext ?_)))
  · show (V m c main_v2 : S2x512x1024.Idx → EReal) (((cfg0.win 0).blk t).view.emb (uIx r k)) = _
    refine congrArg (V m c main_v2 : S2x512x1024.Idx → EReal) (funext fun a => Fin.ext ((hk a).trans ?_))
    match a with
    | ⟨0, _⟩ => show win0_0.index t (0 : Fin 3) * 1 + 1 * 0 = t.val / 2; rw [e0]; omega
    | ⟨1, _⟩ => show win0_0.index t (1 : Fin 3) * 256 + 1 * r.val = 256 * (t.val % 2) + r.val; rw [e1]; omega
    | ⟨2, _⟩ => show win0_0.index t (2 : Fin 3) * 1024 + 1 * k.val = k.val; rw [e2]; omega
  · match a with
    | ⟨0, _⟩ => show 64 * (8 * (t.val / 2) + (256 * (t.val % 2) + r.val) % 8) + (256 * (t.val % 2) + r.val) / 8 = 64 * (8 * (t.val / 2) + r.val % 8) + (32 * (t.val % 2) + r.val / 8); omega
    | ⟨1, _⟩ => rfl

/-- A point's real start states. -/
theorem block_s0 (t : Fin cfg0.N) (y : S8x4096.Idx) : startAt (iblk m c 1 t) y = s0A m c (sIx (seqOf t y) (y 1)) := by
  obtain ⟨e0, e1, e2⟩ := at_s0 t
  unfold startAt iblk
  have hk : ∀ a : Fin 3, (((cfg0.win 1).blk t).view.emb (wIx y) a).val = win0_1.index t a * S1x8x4096.size a + 1 * ((wIx y) a).val := fun a => rfl
  refine Eq.trans ?_ (grouped (s0A m c) (grp t) y)
  rw [← V_s0]
  show (V m c main_v3 : S2x8x4096.Idx → EReal) (((cfg0.win 1).blk t).view.emb (wIx y)) = _
  refine congrArg (V m c main_v3 : S2x8x4096.Idx → EReal) (funext fun a => Fin.ext ((hk a).trans ?_))
  match a with
  | ⟨0, _⟩ => show win0_1.index t (0 : Fin 3) * 1 + 1 * 0 = t.val / 2; rw [e0]; omega
  | ⟨1, _⟩ => show win0_1.index t (1 : Fin 3) * 8 + 1 * (y 0).val = (y 0).val; rw [e1]; omega
  | ⟨2, _⟩ => show win0_1.index t (2 : Fin 3) * 4096 + 1 * (y 1).val = (y 1).val; rw [e2]; omega

/-- A point's imaginary start states. -/
theorem block_s1 (t : Fin cfg0.N) (y : S8x4096.Idx) : startAt (iblk m c 2 t) y = s1A m c (sIx (seqOf t y) (y 1)) := by
  obtain ⟨e0, e1, e2⟩ := at_s1 t
  unfold startAt iblk
  have hk : ∀ a : Fin 3, (((cfg0.win 2).blk t).view.emb (wIx y) a).val = win0_2.index t a * S1x8x4096.size a + 1 * ((wIx y) a).val := fun a => rfl
  refine Eq.trans ?_ (grouped (s1A m c) (grp t) y)
  rw [← V_s1]
  show (V m c main_v4 : S2x8x4096.Idx → EReal) (((cfg0.win 2).blk t).view.emb (wIx y)) = _
  refine congrArg (V m c main_v4 : S2x8x4096.Idx → EReal) (funext fun a => Fin.ext ((hk a).trans ?_))
  match a with
  | ⟨0, _⟩ => show win0_2.index t (0 : Fin 3) * 1 + 1 * 0 = t.val / 2; rw [e0]; omega
  | ⟨1, _⟩ => show win0_2.index t (1 : Fin 3) * 8 + 1 * (y 0).val = (y 0).val; rw [e1]; omega
  | ⟨2, _⟩ => show win0_2.index t (2 : Fin 3) * 4096 + 1 * (y 1).val = (y 1).val; rw [e2]; omega

/-- A point's real factors. -/
theorem block_ar (t : Fin cfg0.N) (y : S8x4096.Idx) : (iblk m c 3 t : S8x4096.Idx → EReal) y = arA m c (aIx (y 0) (y 1)) := by
  obtain ⟨e0, e1⟩ := at_ar t
  unfold iblk
  have hk : ∀ a : Fin 2, (((cfg0.win 3).blk t).view.emb y a).val = win0_3.index t a * S8x4096.size a + 1 * (y a).val := fun a => rfl
  refine Eq.trans ?_ (congrFun (V_keep m c main_arg3 (by decide)) (aIx (y 0) (y 1)))
  show (V m c main_arg3 : S8x4096.Idx → EReal) (((cfg0.win 3).blk t).view.emb y) = _
  refine congrArg (V m c main_arg3 : S8x4096.Idx → EReal) (funext fun a => Fin.ext ((hk a).trans ?_))
  match a with
  | ⟨0, _⟩ => show win0_3.index t (0 : Fin 2) * 8 + 1 * (y 0).val = (y 0).val; rw [e0]; omega
  | ⟨1, _⟩ => show win0_3.index t (1 : Fin 2) * 4096 + 1 * (y 1).val = (y 1).val; rw [e1]; omega

/-- A point's imaginary factors. -/
theorem block_ai (t : Fin cfg0.N) (y : S8x4096.Idx) : (iblk m c 4 t : S8x4096.Idx → EReal) y = aiA m c (aIx (y 0) (y 1)) := by
  obtain ⟨e0, e1⟩ := at_ai t
  unfold iblk
  have hk : ∀ a : Fin 2, (((cfg0.win 4).blk t).view.emb y a).val = win0_4.index t a * S8x4096.size a + 1 * (y a).val := fun a => rfl
  refine Eq.trans ?_ (congrFun (V_keep m c main_arg4 (by decide)) (aIx (y 0) (y 1)))
  show (V m c main_arg4 : S8x4096.Idx → EReal) (((cfg0.win 4).blk t).view.emb y) = _
  refine congrArg (V m c main_arg4 : S8x4096.Idx → EReal) (funext fun a => Fin.ext ((hk a).trans ?_))
  match a with
  | ⟨0, _⟩ => show win0_4.index t (0 : Fin 2) * 8 + 1 * (y 0).val = (y 0).val; rw [e0]; omega
  | ⟨1, _⟩ => show win0_4.index t (1 : Fin 2) * 4096 + 1 * (y 1).val = (y 1).val; rw [e1]; omega

/-- A point's input matrices. -/
theorem block_b (t : Fin cfg0.N) (b : Fin 8) (l : Fin 128) (q : Fin 1024) : (iblk m c 5 t : S8x128x1024.Idx → EReal) (bIx b l q) = bA m c (bIx b l q) := by
  obtain ⟨e0, e1, e2⟩ := at_b t
  unfold iblk
  have hk : ∀ a : Fin 3, (((cfg0.win 5).blk t).view.emb (bIx b l q) a).val = win0_5.index t a * S8x128x1024.size a + 1 * ((bIx b l q) a).val := fun a => rfl
  refine Eq.trans ?_ (congrFun (V_keep m c main_arg5 (by decide)) (bIx b l q))
  show (V m c main_arg5 : S8x128x1024.Idx → EReal) (((cfg0.win 5).blk t).view.emb (bIx b l q)) = _
  refine congrArg (V m c main_arg5 : S8x128x1024.Idx → EReal) (funext fun a => Fin.ext ((hk a).trans ?_))
  match a with
  | ⟨0, _⟩ => show win0_5.index t (0 : Fin 3) * 8 + 1 * b.val = b.val; rw [e0]; omega
  | ⟨1, _⟩ => show win0_5.index t (1 : Fin 3) * 128 + 1 * l.val = l.val; rw [e1]; omega
  | ⟨2, _⟩ => show win0_5.index t (2 : Fin 3) * 1024 + 1 * q.val = q.val; rw [e2]; omega

/-- A point's inputs to the state are those of its half of the times. -/
theorem in_at (t : Fin cfg0.N) (q : Fin 513) (y : S8x4096.Idx) (p : ℕ) (hp : p < 32) :
    inAt (iblk m c 0 t) (iblk m c 5 t) q ⟨(8 * p + (y 0).val) % 256, Nat.mod_lt _ (by decide)⟩ (y 1) = seqIn (uA m c) (bA m c) q (seqOf t y) (y 1) (32 * (t.val % 2) + p) := by
  have h0 : (y 0).val < 8 := (y 0).isLt
  have h1 : (y 1).val < 4096 := (y 1).isLt
  have hN := lt_of_lt_of_eq t.isLt (show cfg0.N = 4 from N_0)
  unfold inAt seqIn
  refine Finset.sum_congr rfl fun l _ => congrArg₂ (· * ·) ((block_u m c t _ _).trans (congrArg (uA m c) (funext fun a => Fin.ext ?_))) (block_b m c t _ l _)
  match a with
  | ⟨0, _⟩ =>
    show 64 * (8 * (t.val / 2) + (8 * p + (y 0).val) % 256 % 8) + (32 * (t.val % 2) + (8 * p + (y 0).val) % 256 / 8) = 64 * (8 * (t.val / 2) + (y 0).val) + (32 * (t.val % 2) + p) % 64
    omega
  | ⟨1, _⟩ => rfl

/-- The factors of a sequence, which are those of its place in its group. -/
theorem factor (x : S8x4096.Idx → EReal) (t : Fin cfg0.N) (y : S8x4096.Idx) : x (aIx (y 0) (y 1)) = x (aIx ⟨(seqOf t y).val % 8, Nat.mod_lt _ (by decide)⟩ (y 1)) := by
  have h0 : (y 0).val < 8 := (y 0).isLt
  refine congrArg x (funext fun a => Fin.ext ?_)
  match a with
  | ⟨0, _⟩ => show (y 0).val = (8 * (t.val / 2) + (y 0).val) % 8; omega
  | ⟨1, _⟩ => rfl

/-- What a chunk makes of a state, as steps of the sequence's recurrence. -/
theorem chunk_at (t : Fin cfg0.N) (s : StateOf Ideal) (y : S8x4096.Idx) :
    chunkAt (iblk m c 0 t) (iblk m c 3 t) (iblk m c 4 t) (iblk m c 5 t) s y
      = cellAt (F := Ideal) (arA m c (aIx ⟨(seqOf t y).val % 8, Nat.mod_lt _ (by decide)⟩ (y 1))) (aiA m c (aIx ⟨(seqOf t y).val % 8, Nat.mod_lt _ (by decide)⟩ (y 1)))
        (fun p => seqIn (uA m c) (bA m c) 0 (seqOf t y) (y 1) (32 * (t.val % 2) + p)) (fun p => seqIn (uA m c) (bA m c) 512 (seqOf t y) (y 1) (32 * (t.val % 2) + p)) (s.1 y, s.2 y) 32 := by
  unfold chunkAt
  rw [block_ar m c t y, block_ai m c t y, factor (arA m c) t y, factor (aiA m c) t y]
  exact cellAt_congr _ _ _ _ _ _ _ 32 (fun p hp => in_at m c t 0 y p hp) (fun p hp => in_at m c t 512 y p hp)

attribute [local irreducible] kernelRun0_A kernelRun0_B chunkAt iblk

/-- The state that a group's first chunk leaves: 32 steps. -/
theorem first_at (t : Fin cfg0.N) (h : t.val % 2 = 0) (y : S8x4096.Idx) :
    ((stateA m c t h).1 y, (stateA m c t h).2 y) = seqState (uA m c) (s0A m c) (s1A m c) (arA m c) (aiA m c) (bA m c) (seqOf t y) (y 1) 32 := by
  unfold stateA runA
  refine (statesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) ((hcond0_0 t).mpr h) (not_last t h) _ _ y).trans ((chunk_at m c t _ y).trans ?_)
  unfold seqState
  dsimp only
  rw [block_s0 m c t y, block_s1 m c t y, h]
  exact cellAt_congr _ _ _ _ _ _ _ 32 (fun p _ => congrArg _ (Nat.zero_add p)) (fun p _ => congrArg _ (Nat.zero_add p))

/-- What a group's second chunk stores: all 64 steps. -/
theorem last_at (t : Fin cfg0.N) (h : t.val % 2 = 1) (y : S8x4096.Idx) :
    ((lastAt m c t).1 (wIx y), (lastAt m c t).2 (wIx y)) = seqState (uA m c) (s0A m c) (s1A m c) (arA m c) (aiA m c) (bA m c) (seqOf t y) (y 1) 64 := by
  have hn : ¬t.val % 2 = 0 := by omega
  unfold lastAt
  rw [dif_neg hn, dif_neg hn]
  unfold runB
  dsimp only
  refine (outsB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (mid m c t h).1 (mid m c t h).2 (not_first t h) ((hcond0_1 t).mpr h) VO0_9 VO0_10 VO0_9.junk VO0_10.junk y).trans ((chunk_at m c t _ y).trans ?_)
  have hm := first_at m c ⟨t.val - 1, by omega⟩ (prev_even t h) y
  have hs : seqOf ⟨t.val - 1, by omega⟩ y = seqOf t y := Fin.ext (by show 8 * ((t.val - 1) / 2) + (y 0).val = 8 * (t.val / 2) + (y 0).val; omega)
  rw [hs] at hm
  unfold seqState at hm ⊢
  refine Eq.trans ?_ (cellAt_add (F := Ideal) _ _ _ _ _ 32 32).symm
  rw [h, ← hm]
  rfl

/-- Output 9 is copied out after a last chunk only. -/
theorem flush_last9 (t : Fin cfg0.N) (hf : (cfg0.win 9).flush t = true) : t.val % 2 = 1 := (flush0_9 t).mp hf
/-- Output 10 is copied out after a last chunk only. -/
theorem flush_last10 (t : Fin cfg0.N) (hf : (cfg0.win 10).flush t = true) : t.val % 2 = 1 := (flush0_10 t).mp hf

/-- What a group's last point writes back to output 9 is the group's part of the final states. -/
theorem flushed_re (t : Fin cfg0.N) (hf : (cfg0.win 9).flush t = true) :
    (dats m 0 c).flushed 9 t = ((cfg0.win 9).blk t).view.read (Elt Ideal) (fun i : S2x8x4096.Idx => (endState (uA m c) (s0A m c) (s1A m c) (arA m c) (aiA m c) (bA m c) i).1) := by
  obtain ⟨e0, e1, e2⟩ := at_re t
  show (cfg0.win 9).cut (grid0.coords t) ((dats m 0 c).after 9 t) = _
  rw [after0_9]
  refine funext fun (x : S1x8x4096.Idx) => ?_
  let y : S8x4096.Idx := fun a => match a with
    | ⟨0, _⟩ => x 1
    | ⟨1, _⟩ => x 2
  have hx : x = wIx y := funext fun a => Fin.ext (match a with
    | ⟨0, _⟩ => by show (x 0).val = 0; have h0 : (x 0).val < 1 := (x 0).isLt; omega
    | ⟨1, _⟩ => rfl
    | ⟨2, _⟩ => rfl)
  let p : S2x8x4096.Idx := ((cfg0.win 9).blk t).view.emb (wIx y)
  have hp0 : (p 0).val = win0_9.index t (0 : Fin 3) * 1 + 1 * 0 := rfl
  have hp1 : (p 1).val = win0_9.index t (1 : Fin 3) * 8 + 1 * (y 0).val := rfl
  have hp2 : (p 2).val = win0_9.index t (2 : Fin 3) * 4096 + 1 * (y 1).val := rfl
  rw [e0] at hp0
  rw [e1] at hp1
  rw [e2] at hp2
  rw [hx]
  show (lastAt m c t).1 (wIx y) = (endState (uA m c) (s0A m c) (s1A m c) (arA m c) (aiA m c) (bA m c) p).1
  refine (congrArg Prod.fst (last_at m c t (flush_last9 t hf) y)).trans ?_
  unfold endState
  have k0 : seqOf t y = ⟨8 * (p 0).val + (p 1).val, by have h0 : (p 0).val < 2 := (p 0).isLt; have h1 : (p 1).val < 8 := (p 1).isLt; omega⟩ :=
    Fin.ext (by show 8 * (t.val / 2) + (y 0).val = 8 * (p 0).val + (p 1).val; omega)
  have k1 : y 1 = p 2 := Fin.ext (by rw [hp2]; show (y 1).val = 0 * 4096 + 1 * (y 1).val; omega)
  rw [k0, k1]

/-- Every real final state is copied out at some point. -/
theorem covered_re (p : S2x8x4096.Idx) : ∃ t : Fin cfg0.N, (cfg0.win 9).flush t = true ∧ p ∈ ((cfg0.win 9).blk t).view.set := by
  have h0 : (p 0).val < 2 := (p 0).isLt
  have hN : 2 * (p 0).val + 1 < cfg0.N := lt_of_lt_of_eq (by omega) (show cfg0.N = 4 from N_0).symm
  obtain ⟨e0, e1, e2⟩ := at_re ⟨2 * (p 0).val + 1, hN⟩
  refine ⟨⟨2 * (p 0).val + 1, hN⟩, (flush0_9 _).mpr (by show (2 * (p 0).val + 1) % 2 = 1; omega), ?_⟩
  let x : S1x8x4096.Idx := fun a => match a with
    | ⟨0, _⟩ => ⟨0, Nat.one_pos⟩
    | ⟨1, _⟩ => p 1
    | ⟨2, _⟩ => p 2
  let q : S2x8x4096.Idx := ((cfg0.win 9).blk ⟨2 * (p 0).val + 1, hN⟩).view.emb x
  have e0' : win0_9.index ⟨2 * (p 0).val + 1, hN⟩ (0 : Fin 3) = (2 * (p 0).val + 1) / 2 := e0
  have hq0 : (q 0).val = win0_9.index ⟨2 * (p 0).val + 1, hN⟩ (0 : Fin 3) * 1 + 1 * 0 := rfl
  have hq1 : (q 1).val = win0_9.index ⟨2 * (p 0).val + 1, hN⟩ (1 : Fin 3) * 8 + 1 * (p 1).val := rfl
  have hq2 : (q 2).val = win0_9.index ⟨2 * (p 0).val + 1, hN⟩ (2 : Fin 3) * 4096 + 1 * (p 2).val := rfl
  rw [e0'] at hq0
  rw [e1] at hq1
  rw [e2] at hq2
  have hq : q = p := funext fun a => Fin.ext (match a with
    | ⟨0, _⟩ => by show (q 0).val = (p 0).val; omega
    | ⟨1, _⟩ => by show (q 1).val = (p 1).val; omega
    | ⟨2, _⟩ => by show (q 2).val = (p 2).val; omega)
  have hm : q ∈ ((cfg0.win 9).blk ⟨2 * (p 0).val + 1, hN⟩).view.set := ((cfg0.win 9).blk ⟨2 * (p 0).val + 1, hN⟩).view.emb_mem_set x
  exact Eq.mp (congrArg (· ∈ ((cfg0.win 9).blk ⟨2 * (p 0).val + 1, hN⟩).view.set) hq) hm

/-- Output 9 after the run. -/
theorem final_re : (dats m 0 c).arrAt 9 cfg0.N = fun i : S2x8x4096.Idx => (endState (uA m c) (s0A m c) (s1A m c) (arA m c) (aiA m c) (bA m c) i).1 :=
  (dats m 0 c).arrAt_eq_of_cover 9 _ (fun t hf => flushed_re m c t hf) (fun p => covered_re p)

/-- What a group's last point writes back to output 10 is the group's part of the final states. -/
theorem flushed_im (t : Fin cfg0.N) (hf : (cfg0.win 10).flush t = true) :
    (dats m 0 c).flushed 10 t = ((cfg0.win 10).blk t).view.read (Elt Ideal) (fun i : S2x8x4096.Idx => (endState (uA m c) (s0A m c) (s1A m c) (arA m c) (aiA m c) (bA m c) i).2) := by
  obtain ⟨e0, e1, e2⟩ := at_im t
  show (cfg0.win 10).cut (grid0.coords t) ((dats m 0 c).after 10 t) = _
  rw [after0_10]
  refine funext fun (x : S1x8x4096.Idx) => ?_
  let y : S8x4096.Idx := fun a => match a with
    | ⟨0, _⟩ => x 1
    | ⟨1, _⟩ => x 2
  have hx : x = wIx y := funext fun a => Fin.ext (match a with
    | ⟨0, _⟩ => by show (x 0).val = 0; have h0 : (x 0).val < 1 := (x 0).isLt; omega
    | ⟨1, _⟩ => rfl
    | ⟨2, _⟩ => rfl)
  let p : S2x8x4096.Idx := ((cfg0.win 10).blk t).view.emb (wIx y)
  have hp0 : (p 0).val = win0_10.index t (0 : Fin 3) * 1 + 1 * 0 := rfl
  have hp1 : (p 1).val = win0_10.index t (1 : Fin 3) * 8 + 1 * (y 0).val := rfl
  have hp2 : (p 2).val = win0_10.index t (2 : Fin 3) * 4096 + 1 * (y 1).val := rfl
  rw [e0] at hp0
  rw [e1] at hp1
  rw [e2] at hp2
  rw [hx]
  show (lastAt m c t).2 (wIx y) = (endState (uA m c) (s0A m c) (s1A m c) (arA m c) (aiA m c) (bA m c) p).2
  refine (congrArg Prod.snd (last_at m c t (flush_last10 t hf) y)).trans ?_
  unfold endState
  have k0 : seqOf t y = ⟨8 * (p 0).val + (p 1).val, by have h0 : (p 0).val < 2 := (p 0).isLt; have h1 : (p 1).val < 8 := (p 1).isLt; omega⟩ :=
    Fin.ext (by show 8 * (t.val / 2) + (y 0).val = 8 * (p 0).val + (p 1).val; omega)
  have k1 : y 1 = p 2 := Fin.ext (by rw [hp2]; show (y 1).val = 0 * 4096 + 1 * (y 1).val; omega)
  rw [k0, k1]

/-- Every imaginary final state is copied out at some point. -/
theorem covered_im (p : S2x8x4096.Idx) : ∃ t : Fin cfg0.N, (cfg0.win 10).flush t = true ∧ p ∈ ((cfg0.win 10).blk t).view.set := by
  have h0 : (p 0).val < 2 := (p 0).isLt
  have hN : 2 * (p 0).val + 1 < cfg0.N := lt_of_lt_of_eq (by omega) (show cfg0.N = 4 from N_0).symm
  obtain ⟨e0, e1, e2⟩ := at_im ⟨2 * (p 0).val + 1, hN⟩
  refine ⟨⟨2 * (p 0).val + 1, hN⟩, (flush0_10 _).mpr (by show (2 * (p 0).val + 1) % 2 = 1; omega), ?_⟩
  let x : S1x8x4096.Idx := fun a => match a with
    | ⟨0, _⟩ => ⟨0, Nat.one_pos⟩
    | ⟨1, _⟩ => p 1
    | ⟨2, _⟩ => p 2
  let q : S2x8x4096.Idx := ((cfg0.win 10).blk ⟨2 * (p 0).val + 1, hN⟩).view.emb x
  have e0' : win0_10.index ⟨2 * (p 0).val + 1, hN⟩ (0 : Fin 3) = (2 * (p 0).val + 1) / 2 := e0
  have hq0 : (q 0).val = win0_10.index ⟨2 * (p 0).val + 1, hN⟩ (0 : Fin 3) * 1 + 1 * 0 := rfl
  have hq1 : (q 1).val = win0_10.index ⟨2 * (p 0).val + 1, hN⟩ (1 : Fin 3) * 8 + 1 * (p 1).val := rfl
  have hq2 : (q 2).val = win0_10.index ⟨2 * (p 0).val + 1, hN⟩ (2 : Fin 3) * 4096 + 1 * (p 2).val := rfl
  rw [e0'] at hq0
  rw [e1] at hq1
  rw [e2] at hq2
  have hq : q = p := funext fun a => Fin.ext (match a with
    | ⟨0, _⟩ => by show (q 0).val = (p 0).val; omega
    | ⟨1, _⟩ => by show (q 1).val = (p 1).val; omega
    | ⟨2, _⟩ => by show (q 2).val = (p 2).val; omega)
  have hm : q ∈ ((cfg0.win 10).blk ⟨2 * (p 0).val + 1, hN⟩).view.set := ((cfg0.win 10).blk ⟨2 * (p 0).val + 1, hN⟩).view.emb_mem_set x
  exact Eq.mp (congrArg (· ∈ ((cfg0.win 10).blk ⟨2 * (p 0).val + 1, hN⟩).view.set) hq) hm

/-- Output 10 after the run. -/
theorem final_im : (dats m 0 c).arrAt 10 cfg0.N = fun i : S2x8x4096.Idx => (endState (uA m c) (s0A m c) (s1A m c) (arA m c) (aiA m c) (bA m c) i).2 :=
  (dats m 0 c).arrAt_eq_of_cover 10 _ (fun t hf => flushed_im m c t hf) (fun p => covered_im p)

end Cert.ScanIdeal.Gen

end
-- ==== Proof.ScanRefIdeal.Plain.lean ====
module

public import proofs.«01_k».proof.Proof.Gen.ScanRefIdeal.StepRun
public import proofs.«01_k».proof.Proof.ScanIdeal.Total
public import Idealize.ShloMosaic.Lib.WordCmp

@[expose] public section

set_option maxRecDepth 16384

noncomputable section

namespace Cert.ScanRefIdeal.Plain

open Idealize.ShloMosaic Idealize.ShloMosaic.TcCoe
open Cert.ScanRefIdeal Cert.ScanRefIdeal.Gen Cert.ScanRefIdeal.Step Cert.ScanRefIdeal.StepRun
open Cert.ScanIdeal.Gen (tIx sIx aIx bIx seqIn seqState endState cellAt stepAt)

/-! Entries of the arrays that the reference computes. -/

abbrev dIx (b : Fin 8) (q : Fin 1024) (s : Fin 16) (t : Fin 64) : S8x1024x16x64.Idx := fun x => match x with
  | ⟨0, _⟩ => ⟨b.val, b.isLt⟩
  | ⟨1, _⟩ => ⟨q.val, q.isLt⟩
  | ⟨2, _⟩ => ⟨s.val, s.isLt⟩
  | ⟨3, _⟩ => ⟨t.val, t.isLt⟩

abbrev rIx (s : Fin 16) (t : Fin 64) (b : Fin 8) (l : Fin 128) : S16x64x8x128.Idx := fun x => match x with
  | ⟨0, _⟩ => ⟨s.val, s.isLt⟩
  | ⟨1, _⟩ => ⟨t.val, t.isLt⟩
  | ⟨2, _⟩ => ⟨b.val, b.isLt⟩
  | ⟨3, _⟩ => ⟨l.val, l.isLt⟩

abbrev eIx (s : Fin 16) (t : Fin 64) (b : Fin 8) (q : Fin 1024) : S16x64x8x1024.Idx := fun x => match x with
  | ⟨0, _⟩ => ⟨s.val, s.isLt⟩
  | ⟨1, _⟩ => ⟨t.val, t.isLt⟩
  | ⟨2, _⟩ => ⟨b.val, b.isLt⟩
  | ⟨3, _⟩ => ⟨q.val, q.isLt⟩

abbrev pIx (s : Fin 16) (t : Fin 64) (b : Fin 8) (q : Fin 512) : S16x64x8x512.Idx := fun x => match x with
  | ⟨0, _⟩ => ⟨s.val, s.isLt⟩
  | ⟨1, _⟩ => ⟨t.val, t.isLt⟩
  | ⟨2, _⟩ => ⟨b.val, b.isLt⟩
  | ⟨3, _⟩ => ⟨q.val, q.isLt⟩

abbrev kIx (g : Fin 2) (r : Fin 8) (t : Fin 64) (n : Fin 4096) : S2x8x64x4096.Idx := fun x => match x with
  | ⟨0, _⟩ => ⟨g.val, g.isLt⟩
  | ⟨1, _⟩ => ⟨r.val, r.isLt⟩
  | ⟨2, _⟩ => ⟨t.val, t.isLt⟩
  | ⟨3, _⟩ => ⟨n.val, n.isLt⟩

abbrev oneIx (g : Fin 2) (r : Fin 8) (t : Fin 1) (n : Fin 4096) : S2x8x1x4096.Idx := fun x => match x with
  | ⟨0, _⟩ => ⟨g.val, g.isLt⟩
  | ⟨1, _⟩ => ⟨r.val, r.isLt⟩
  | ⟨2, _⟩ => ⟨t.val, t.isLt⟩
  | ⟨3, _⟩ => ⟨n.val, n.isLt⟩

abbrev zIx (g : Fin 2) (r : Fin 8) (n : Fin 4096) : S2x8x4096.Idx := fun x => match x with
  | ⟨0, _⟩ => ⟨g.val, g.isLt⟩
  | ⟨1, _⟩ => ⟨r.val, r.isLt⟩
  | ⟨2, _⟩ => ⟨n.val, n.isLt⟩

/-- The sequence at place `r` of group `g`. -/
abbrev seq (g : Fin 2) (r : Fin 8) : Fin 16 := ⟨8 * g.val + r.val, by omega⟩

/-- The reference's product takes the block of its left side from the result's block. -/
theorem left_batch (i : S8x1024x16x64.Idx) (q : dot_S8x128x1024_S16x64x8x128_S8x1024x16x64_1_3_2_01_0_2.contr.Idx) : (dot_S8x128x1024_S16x64x8x128_S8x1024x16x64_1_3_2_01_0_2.lhsIdx i q 0).val = (i 0).val := by
  unfold DotDims.lhsIdx
  rw [dif_pos (show (0 : Fin S8x128x1024.rank) ∈ dot_S8x128x1024_S16x64x8x128_S8x1024x16x64_1_3_2_01_0_2.lhsBatch by decide)]
  rfl

/-- It takes the column of its left side from the result's column. -/
theorem left_free (i : S8x1024x16x64.Idx) (q : dot_S8x128x1024_S16x64x8x128_S8x1024x16x64_1_3_2_01_0_2.contr.Idx) : (dot_S8x128x1024_S16x64x8x128_S8x1024x16x64_1_3_2_01_0_2.lhsIdx i q 2).val = (i 1).val := by
  unfold DotDims.lhsIdx
  rw [dif_neg (show ¬(2 : Fin S8x128x1024.rank) ∈ dot_S8x128x1024_S16x64x8x128_S8x1024x16x64_1_3_2_01_0_2.lhsBatch by decide), dif_pos (show (2 : Fin S8x128x1024.rank) ∈ dot_S8x128x1024_S16x64x8x128_S8x1024x16x64_1_3_2_01_0_2.lhsNonContracting by decide)]
  rfl

/-- It takes the block of its right side from the result's block. -/
theorem right_batch (i : S8x1024x16x64.Idx) (q : dot_S8x128x1024_S16x64x8x128_S8x1024x16x64_1_3_2_01_0_2.contr.Idx) : (dot_S8x128x1024_S16x64x8x128_S8x1024x16x64_1_3_2_01_0_2.rhsIdx i q 2).val = (i 0).val := by
  unfold DotDims.rhsIdx
  rw [dif_pos (show (2 : Fin S16x64x8x128.rank) ∈ dot_S8x128x1024_S16x64x8x128_S8x1024x16x64_1_3_2_01_0_2.rhsBatch by decide)]
  rfl

/-- It takes the sequence of its right side from the result's sequence. -/
theorem right_seq (i : S8x1024x16x64.Idx) (q : dot_S8x128x1024_S16x64x8x128_S8x1024x16x64_1_3_2_01_0_2.contr.Idx) : (dot_S8x128x1024_S16x64x8x128_S8x1024x16x64_1_3_2_01_0_2.rhsIdx i q 0).val = (i 2).val := by
  unfold DotDims.rhsIdx
  rw [dif_neg (show ¬(0 : Fin S16x64x8x128.rank) ∈ dot_S8x128x1024_S16x64x8x128_S8x1024x16x64_1_3_2_01_0_2.rhsBatch by decide), dif_pos (show (0 : Fin S16x64x8x128.rank) ∈ dot_S8x128x1024_S16x64x8x128_S8x1024x16x64_1_3_2_01_0_2.rhsNonContracting by decide)]
  rfl

/-- It takes the step of its right side from the result's step. -/
theorem right_time (i : S8x1024x16x64.Idx) (q : dot_S8x128x1024_S16x64x8x128_S8x1024x16x64_1_3_2_01_0_2.contr.Idx) : (dot_S8x128x1024_S16x64x8x128_S8x1024x16x64_1_3_2_01_0_2.rhsIdx i q 1).val = (i 3).val := by
  unfold DotDims.rhsIdx
  rw [dif_neg (show ¬(1 : Fin S16x64x8x128.rank) ∈ dot_S8x128x1024_S16x64x8x128_S8x1024x16x64_1_3_2_01_0_2.rhsBatch by decide), dif_pos (show (1 : Fin S16x64x8x128.rank) ∈ dot_S8x128x1024_S16x64x8x128_S8x1024x16x64_1_3_2_01_0_2.rhsNonContracting by decide)]
  rfl

/-- The reference's batched product, entry by entry. -/
theorem batched (l : FVec Ideal S8x128x1024 .f32) (r : FVec Ideal S16x64x8x128 .f32) (b : Fin 8) (q : Fin 1024) (s : Fin 16) (t : Fin 64) :
    Host.dotGeneral dot_S8x128x1024_S16x64x8x128_S8x1024x16x64_1_3_2_01_0_2 none l r (dIx b q s t) = ∑ k : Fin 128, l (bIx b k q) * r (rIx s t b k) := by
  unfold Host.dotGeneral
  rw [Ideal.dotGeneral_apply, ← Equiv.sum_comp (ValueIdx.contrEquiv1 dot_S8x128x1024_S16x64x8x128_S8x1024x16x64_1_3_2_01_0_2 128 rfl rfl).symm]
  refine Finset.sum_congr rfl fun k _ => ?_
  have hk := ValueIdx.contrEquiv1_symm_val dot_S8x128x1024_S16x64x8x128_S8x1024x16x64_1_3_2_01_0_2 128 rfl rfl k
  refine congrArg₂ (· * ·) (congrArg l (funext fun a => Fin.ext ?_)) (congrArg r (funext fun a => Fin.ext ?_))
  · match a with
    | ⟨0, _⟩ => exact left_batch _ _
    | ⟨1, _⟩ => exact (dot_S8x128x1024_S16x64x8x128_S8x1024x16x64_1_3_2_01_0_2.lhsIdx_val_of_single rfl _ _).trans hk
    | ⟨2, _⟩ => exact left_free _ _
  · match a with
    | ⟨0, _⟩ => exact right_seq _ _
    | ⟨1, _⟩ => exact right_time _ _
    | ⟨2, _⟩ => exact right_batch _ _
    | ⟨3, _⟩ => exact (dot_S8x128x1024_S16x64x8x128_S8x1024x16x64_1_3_2_01_0_2.rhsIdx_val_of_single rfl _ _).trans hk

section
variable (u : S1024x1024.Idx → EReal) (s0 s1 : S16x4096.Idx → EReal) (w : S8x128x1024.Idx → EReal)

/-- The inputs of all states, by sequence, time, block and column. -/
theorem inputs_at (s : Fin 16) (t : Fin 64) (b : Fin 8) (q : Fin 1024) :
    A_main_v3 (F := Ideal) u s0 s1 w (eIx s t b q) = ∑ l : Fin 128, u (tIx ⟨64 * s.val + t.val, by omega⟩ ⟨128 * b.val + l.val, by omega⟩) * w (bIx b l q) := by
  unfold A_main_v3 A_main_v2
  refine (transpose_apply _ _ _ (eIx s t b q) (dIx b q s t) (fun x => match x with
    | ⟨0, _⟩ => rfl
    | ⟨1, _⟩ => rfl
    | ⟨2, _⟩ => rfl
    | ⟨3, _⟩ => rfl)).trans ((batched _ _ b q s t).trans (Finset.sum_congr rfl fun l _ => ?_))
  refine (mul_comm _ _).trans (congrArg₂ (· * ·) ?_ rfl)
  unfold A_main_v0
  refine shapeCast_apply _ _ (rIx s t b l) _ ?_
  rw [Shape.rowMajor_val_four, Shape.rowMajor_val_two]
  show (64 * s.val + t.val) * 1024 + (128 * b.val + l.val) = ((s.val * 64 + t.val) * 8 + b.val) * 128 + l.val
  omega

/-- The reference's real inputs. -/
theorem inputs_re (g : Fin 2) (r : Fin 8) (t : Fin 64) (n : Fin 4096) : A_main_v5 (F := Ideal) u s0 s1 w (kIx g r t n) = seqIn u w 0 (seq g r) n t.val := by
  unfold A_main_v5 A_main_v4
  refine (shapeCast_apply _ _ (kIx g r t n) (pIx (seq g r) t ⟨n.val / 512, by omega⟩ ⟨n.val % 512, by omega⟩) ?_).trans
    ((extractStridedSlice_apply _ _ _ _ (eIx (seq g r) t ⟨n.val / 512, by omega⟩ ⟨0 + n.val % 512, by omega⟩) (fun x => ?_)).trans ((inputs_at u s0 s1 w _ _ _ _).trans ?_))
  · rw [Shape.rowMajor_val_four, Shape.rowMajor_val_four]
    show (((8 * g.val + r.val) * 64 + t.val) * 8 + n.val / 512) * 512 + n.val % 512 = ((g.val * 8 + r.val) * 64 + t.val) * 4096 + n.val
    omega
  · match x with
    | ⟨0, _⟩ => exact (Nat.zero_add _).symm
    | ⟨1, _⟩ => exact (Nat.zero_add _).symm
    | ⟨2, _⟩ => exact (Nat.zero_add _).symm
    | ⟨3, _⟩ => rfl
  · unfold seqIn
    refine Finset.sum_congr rfl fun l _ => congrArg₂ (· * ·) (congrArg u (funext fun x => Fin.ext ?_)) rfl
    match x with
    | ⟨0, _⟩ => show 64 * (8 * g.val + r.val) + t.val = 64 * (8 * g.val + r.val) + t.val % 64; omega
    | ⟨1, _⟩ => rfl

/-- The reference's imaginary inputs. -/
theorem inputs_im (g : Fin 2) (r : Fin 8) (t : Fin 64) (n : Fin 4096) : A_main_v7 (F := Ideal) u s0 s1 w (kIx g r t n) = seqIn u w 512 (seq g r) n t.val := by
  unfold A_main_v7 A_main_v6
  refine (shapeCast_apply _ _ (kIx g r t n) (pIx (seq g r) t ⟨n.val / 512, by omega⟩ ⟨n.val % 512, by omega⟩) ?_).trans
    ((extractStridedSlice_apply _ _ _ _ (eIx (seq g r) t ⟨n.val / 512, by omega⟩ ⟨512 + n.val % 512, by omega⟩) (fun x => ?_)).trans ((inputs_at u s0 s1 w _ _ _ _).trans ?_))
  · rw [Shape.rowMajor_val_four, Shape.rowMajor_val_four]
    show (((8 * g.val + r.val) * 64 + t.val) * 8 + n.val / 512) * 512 + n.val % 512 = ((g.val * 8 + r.val) * 64 + t.val) * 4096 + n.val
    omega
  · match x with
    | ⟨0, _⟩ => exact (Nat.zero_add _).symm
    | ⟨1, _⟩ => exact (Nat.zero_add _).symm
    | ⟨2, _⟩ => exact (Nat.zero_add _).symm
    | ⟨3, _⟩ => rfl
  · unfold seqIn
    refine Finset.sum_congr rfl fun l _ => congrArg₂ (· * ·) (congrArg u (funext fun x => Fin.ext ?_)) rfl
    match x with
    | ⟨0, _⟩ => show 64 * (8 * g.val + r.val) + t.val = 64 * (8 * g.val + r.val) + t.val % 64; omega
    | ⟨1, _⟩ => rfl

/-- The reference's start state, real part. -/
theorem start_s0 (g : Fin 2) (r : Fin 8) (n : Fin 4096) : A_main_v8 (F := Ideal) u s0 s1 w (zIx g r n) = s0 (sIx (seq g r) n) := by
  unfold A_main_v8
  refine shapeCast_apply _ _ (zIx g r n) _ ?_
  rw [Shape.rowMajor_val_three, Shape.rowMajor_val_two]
  show (8 * g.val + r.val) * 4096 + n.val = (g.val * 8 + r.val) * 4096 + n.val
  omega

/-- The reference's start state, imaginary part. -/
theorem start_s1 (g : Fin 2) (r : Fin 8) (n : Fin 4096) : A_main_v9 (F := Ideal) u s0 s1 w (zIx g r n) = s1 (sIx (seq g r) n) := by
  unfold A_main_v9
  refine shapeCast_apply _ _ (zIx g r n) _ ?_
  rw [Shape.rowMajor_val_three, Shape.rowMajor_val_two]
  show (8 * g.val + r.val) * 4096 + n.val = (g.val * 8 + r.val) * 4096 + n.val
  omega
end

/-- The place that trip `j` reads its inputs at. -/
theorem place : ∀ j : Fin 64, (Scalar.select (IntOp.cmpi .slt (BitVec.ofNat 32 j.val) 0#32) (BitVec.ofNat 32 j.val + 64#32) (BitVec.ofNat 32 j.val)).toInt = (j.val : Int) := by
  decide +kernel

variable (st : State Ideal) (j : Fin 64) (g : Fin 2) (r : Fin 8) (n : Fin 4096)

/-- The inputs that trip `j` takes. -/
theorem taken_re : b40 j.val st (zIx g r n) = st.main_v10_2 (kIx g r j n) := by
  unfold b40 b39
  refine (shapeCast_apply _ _ (zIx g r n) (oneIx g r 0 n) ?_).trans ?_
  · rw [Shape.rowMajor_val_four, Shape.rowMajor_val_three]
    show ((g.val * 8 + r.val) * 1 + 0) * 4096 + n.val = (g.val * 8 + r.val) * 4096 + n.val
    omega
  rw [WordCmp.dynamicSlice_eq_extract S2x8x1x4096 st.main_v10_2 _ sliceFits_S2x8x64x4096_S2x8x1x4096 ![0, 0, j.val, 0]
    ⟨rfl, fun a => match a with
      | ⟨0, _⟩ => by show 0 + 2 ≤ 2; omega
      | ⟨1, _⟩ => by show 0 + 8 ≤ 8; omega
      | ⟨2, _⟩ => by show j.val + 1 ≤ 64; omega
      | ⟨3, _⟩ => by show 0 + 4096 ≤ 4096; omega⟩
    (fun a => match a with
      | ⟨0, _⟩ => rfl
      | ⟨1, _⟩ => rfl
      | ⟨2, _⟩ => place j
      | ⟨3, _⟩ => rfl)]
  refine extractStridedSlice_apply _ _ _ _ (kIx g r j n) (fun a => ?_)
  match a with
  | ⟨0, _⟩ => exact (Nat.zero_add _).symm
  | ⟨1, _⟩ => exact (Nat.zero_add _).symm
  | ⟨2, _⟩ => exact (Nat.add_zero _).symm
  | ⟨3, _⟩ => exact (Nat.zero_add _).symm

/-- The inputs that trip `j` takes. -/
theorem taken_im : b80 j.val st (zIx g r n) = st.main_v10_3 (kIx g r j n) := by
  unfold b80 b79
  refine (shapeCast_apply _ _ (zIx g r n) (oneIx g r 0 n) ?_).trans ?_
  · rw [Shape.rowMajor_val_four, Shape.rowMajor_val_three]
    show ((g.val * 8 + r.val) * 1 + 0) * 4096 + n.val = (g.val * 8 + r.val) * 4096 + n.val
    omega
  rw [WordCmp.dynamicSlice_eq_extract S2x8x1x4096 st.main_v10_3 _ sliceFits_S2x8x64x4096_S2x8x1x4096 ![0, 0, j.val, 0]
    ⟨rfl, fun a => match a with
      | ⟨0, _⟩ => by show 0 + 2 ≤ 2; omega
      | ⟨1, _⟩ => by show 0 + 8 ≤ 8; omega
      | ⟨2, _⟩ => by show j.val + 1 ≤ 64; omega
      | ⟨3, _⟩ => by show 0 + 4096 ≤ 4096; omega⟩
    (fun a => match a with
      | ⟨0, _⟩ => rfl
      | ⟨1, _⟩ => rfl
      | ⟨2, _⟩ => place j
      | ⟨3, _⟩ => rfl)]
  refine extractStridedSlice_apply _ _ _ _ (kIx g r j n) (fun a => ?_)
  match a with
  | ⟨0, _⟩ => exact (Nat.zero_add _).symm
  | ⟨1, _⟩ => exact (Nat.zero_add _).symm
  | ⟨2, _⟩ => exact (Nat.add_zero _).symm
  | ⟨3, _⟩ => exact (Nat.zero_add _).symm

/-- A factor spread over the two groups. -/
theorem spread (x : S8x4096.Idx → EReal) :
    broadcastInDim S2x8x4096 ![0, 1, 2] bcast_S1x8x4096_S2x8x4096_0_1_2 (broadcastInDim S1x8x4096 ![1, 2] bcast_S8x4096_S1x8x4096_1_2 x) (zIx g r n) = x (aIx r n) := by
  unfold broadcastInDim
  refine congrArg x (funext fun a => Fin.ext ?_)
  match a with
  | ⟨0, _⟩ => rfl
  | ⟨1, _⟩ => rfl

/-- One trip is one step of the recurrence in every entry. -/
theorem trip : ((step j.val st).main_v10_6 (zIx g r n), (step j.val st).main_v10_7 (zIx g r n))
    = stepAt (F := Ideal) (st.main_v10_0 (aIx r n)) (st.main_v10_1 (aIx r n)) (st.main_v10_2 (kIx g r j n)) (st.main_v10_3 (kIx g r j n)) (st.main_v10_6 (zIx g r n), st.main_v10_7 (zIx g r n)) := by
  rw [step_main_v10_6, step_main_v10_7]
  unfold stepAt
  rw [← taken_re st j g r n, ← taken_im st j g r n, ← spread g r n st.main_v10_0, ← spread g r n st.main_v10_1]
  rfl

variable (m : (ℓ : Loc nD τ sig) → Buf (Elt Ideal) ℓ) (c : Dev nD)

/-- The states that the trips go through. -/
def it : ℕ → State Ideal
  | 0 => initState m c
  | k + 1 => step k (it k)

/-- The steps leave the first four arrays that they carry as they were. -/
theorem it_kept (k : ℕ) : (it m c k).main_v10_0 = (initState m c).main_v10_0 ∧ (it m c k).main_v10_1 = (initState m c).main_v10_1
    ∧ (it m c k).main_v10_2 = (initState m c).main_v10_2 ∧ (it m c k).main_v10_3 = (initState m c).main_v10_3 := by
  induction k with
  | zero => exact ⟨rfl, rfl, rfl, rfl⟩
  | succ k ih => exact ih

abbrev uA : S1024x1024.Idx → EReal := m ((c.tc : Thread nD τ).loc main_arg0)
abbrev s0A : S16x4096.Idx → EReal := m ((c.tc : Thread nD τ).loc main_arg1)
abbrev s1A : S16x4096.Idx → EReal := m ((c.tc : Thread nD τ).loc main_arg2)
abbrev arA : S8x4096.Idx → EReal := m ((c.tc : Thread nD τ).loc main_arg3)
abbrev aiA : S8x4096.Idx → EReal := m ((c.tc : Thread nD τ).loc main_arg4)
abbrev bA : S8x128x1024.Idx → EReal := m ((c.tc : Thread nD τ).loc main_arg5)

/-- After `k` trips every entry has taken `k` steps. -/
theorem it_at (k : ℕ) (hk : k ≤ 64) : ((it m c k).main_v10_6 (zIx g r n), (it m c k).main_v10_7 (zIx g r n))
    = seqState (uA m c) (s0A m c) (s1A m c) (arA m c) (aiA m c) (bA m c) (seq g r) n k := by
  have ha : ∀ x : S8x4096.Idx → EReal, x (aIx r n) = x (aIx ⟨(seq g r).val % 8, Nat.mod_lt _ (by decide)⟩ n) := fun x => congrArg x (funext fun a => Fin.ext (match a with
    | ⟨0, _⟩ => by show r.val = (8 * g.val + r.val) % 8; omega
    | ⟨1, _⟩ => rfl))
  induction k with
  | zero => exact congrArg₂ Prod.mk (start_s0 (uA m c) (s0A m c) (s1A m c) (bA m c) g r n) (start_s1 (uA m c) (s0A m c) (s1A m c) (bA m c) g r n)
  | succ k ih =>
    obtain ⟨k0, k1, k2, k3⟩ := it_kept m c k
    refine (trip (it m c k) ⟨k, by omega⟩ g r n).trans ?_
    rw [k0, k1, k2, k3, ih (by omega)]
    refine Eq.trans ?_ (show stepAt (F := Ideal) _ _ _ _ (seqState (uA m c) (s0A m c) (s1A m c) (arA m c) (aiA m c) (bA m c) (seq g r) n k) = seqState (uA m c) (s0A m c) (s1A m c) (arA m c) (aiA m c) (bA m c) (seq g r) n (k + 1) from rfl)
    rw [← ha (arA m c), ← ha (aiA m c), ← inputs_re (uA m c) (s0A m c) (s1A m c) (bA m c) g r ⟨k, by omega⟩ n, ← inputs_im (uA m c) (s0A m c) (s1A m c) (bA m c) g r ⟨k, by omega⟩ n]
    rfl

/-- The reference's results. -/
theorem result_at (i : S2x8x4096.Idx) : ((it m c 64).main_v10_6 i, (it m c 64).main_v10_7 i) = endState (uA m c) (s0A m c) (s1A m c) (arA m c) (aiA m c) (bA m c) i := by
  have hi : i = zIx (i 0) (i 1) (i 2) := funext fun a => match a with
    | ⟨0, _⟩ => rfl
    | ⟨1, _⟩ => rfl
    | ⟨2, _⟩ => rfl
  exact (congrArg (fun i => ((it m c 64).main_v10_6 i, (it m c 64).main_v10_7 i)) hi).trans (it_at (i 0) (i 1) (i 2) m c 64 (le_refl _))

end Cert.ScanRefIdeal.Plain

end
-- ==== Proof.ScanPromptIdeal.Runs.lean ====
module

public import proofs.«01_k».proof.Proof.Gen.ScanPromptIdeal.Launch
public import proofs.«01_k».proof.Proof.Gen.ScanPromptIdeal.Skeleton
public import proofs.«01_k».proof.Proof.Gen.ScanPromptIdeal.Loops
public import proofs.«01_k».proof.Proof.Gen.ScanPromptIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ScanPromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- What a core's buffers hold once the reshapes before the launch are done. -/
abbrev V (c : Dev nD) (b : Ref sig .tc) : Buf (Elt F) ((c : Thread nD τ).loc b) := StableHlo.after hostOps0 (fun b => m (c, b)) b

/-- The host part makes no new array. -/
theorem hostOps0_fresh : (hostOps0 : List (HloOp τ sig (Elt F))).Forall fun op => op.fresh = ∅ := by
  simp only [List.Forall]; repeat' constructor

set_option maxHeartbeats 800000 in
/-- The program is its host reshapes followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshapes leave every array alone that is not one of their six results. -/
theorem V_keep (c : Dev nD) (b : Ref sig .tc) (h : b ∉ [main_v0, main_v1, main_v2, main_v3, main_v4, main_v5]) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    repeat' apply And.intro
    all_goals exact StableHlo.devRef_ne_of_ne (fun e => h (by rw [e]; decide))))

/-! ## The windows' blocks -/

/-- The part of window `w`'s array that step `t` of the grid works on. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body finds window 0's part of step `t` in its buffer. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The body finds window 1's part of step `t` in its buffer. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The body finds window 2's part of step `t` in its buffer. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The body finds window 3's part of step `t` in its buffer. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The body finds window 4's part of step `t` in its buffer. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- The body finds window 5's part of step `t` in its buffer. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- The body finds window 6's part of step `t` in its buffer. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- The body finds window 7's part of step `t` in its buffer. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run -/

/-- A run of the launch that leaves every array it only reads, and every array it does not touch, as it found them leaves the eight arguments as they were. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_keep m c main_arg0 (by decide)),
      ((h c).2 main_arg1 (Pipeline.mem_restRefs_of main_arg1 (by decide) (by decide))).trans (V_keep m c main_arg1 (by decide)),
      ((h c).2 main_arg2 (Pipeline.mem_restRefs_of main_arg2 (by decide) (by decide))).trans (V_keep m c main_arg2 (by decide)),
      ((h c).1 3).trans (((dats 0 c).arrAt_in 3 rfl _).trans ((hA c 3).trans (V_keep m c main_arg3 (by decide)))),
      ((h c).1 4).trans (((dats 0 c).arrAt_in 4 rfl _).trans ((hA c 4).trans (V_keep m c main_arg4 (by decide)))),
      ((h c).1 5).trans (((dats 0 c).arrAt_in 5 rfl _).trans ((hA c 5).trans (V_keep m c main_arg5 (by decide)))),
      ((h c).1 6).trans (((dats 0 c).arrAt_in 6 rfl _).trans ((hA c 6).trans (V_keep m c main_arg6 (by decide)))),
      ((h c).2 main_arg7 (Pipeline.mem_restRefs_of main_arg7 (by decide) (by decide))).trans (V_keep m c main_arg7 (by decide))⟩) h

/-! ## The body's branch conditions -/

/-- The body starts its carried state anew. -/
abbrev cond0_0 (i : grid0.Coords) : Prop := (Scalar.cmpi .ne (Scalar.extui (Scalar.cmpi .eq (BitVec.ofNat 32 (i 1).val) 0#32)) 0#32) = 1#1
/-- That is at a sequence's first chunk. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 64 % 1 := Pipeline.Grid.coords_val t 0 (by decide) rfl
    have e1 : (grid0.coords t 1).val = t.val / 1 % 64 := Pipeline.Grid.coords_val t 1 (by decide) rfl
    simp only [cond0_0, e0, e1]
    word_cmp
   : ∀ t : Fin grid0.N, cond0_0 (grid0.coords t) ↔ t.val % 64 = 0)

/-- The body writes its state out. -/
abbrev cond0_1 (i : grid0.Coords) : Prop := k0_cond2 i = 1#1
/-- That is at a sequence's last chunk. -/
theorem hcond0_1 : ∀ t : Fin cfg0.N, cond0_1 (grid0.coords t) ↔ t.val % 64 = 63 :=
  (fun t => by
    have ht : t.val < 64 := Nat.lt_of_lt_of_eq t.isLt N_0
    have e0 : (grid0.coords t 0).val = t.val / 64 % 1 := Pipeline.Grid.coords_val t 0 (by decide) rfl
    have e1 : (grid0.coords t 1).val = t.val / 1 % 64 := Pipeline.Grid.coords_val t 1 (by decide) rfl
    simp only [cond0_1, k0_cond2, e0, e1]
    word_cmp
   : ∀ t : Fin grid0.N, cond0_1 (grid0.coords t) ↔ t.val % 64 = 63)

/-! ## Which windows a chunk touches -/

/-- Every chunk reads window 0. -/
theorem liveAt0_0 : ∀ t : Fin cfg0.N, cfg0.idle 0 (grid0.coords t) = false := fun _ => rfl
/-- Every chunk reads window 1. -/
theorem liveAt0_1 : ∀ t : Fin cfg0.N, cfg0.idle 1 (grid0.coords t) = false := fun _ => rfl
/-- Every chunk reads window 2. -/
theorem liveAt0_2 : ∀ t : Fin cfg0.N, cfg0.idle 2 (grid0.coords t) = false := fun _ => rfl
/-- Every chunk reads window 3. -/
theorem liveAt0_3 : ∀ t : Fin cfg0.N, cfg0.idle 3 (grid0.coords t) = false := fun _ => rfl
/-- Every chunk reads window 4. -/
theorem liveAt0_4 : ∀ t : Fin cfg0.N, cfg0.idle 4 (grid0.coords t) = false := fun _ => rfl
/-- Every chunk reads window 5. -/
theorem liveAt0_5 : ∀ t : Fin cfg0.N, cfg0.idle 5 (grid0.coords t) = false := fun _ => rfl
/-- Every chunk reads window 6. -/
theorem liveAt0_6 : ∀ t : Fin cfg0.N, cfg0.idle 6 (grid0.coords t) = false := fun _ => rfl
/-- Every chunk reads window 7. -/
theorem liveAt0_7 : ∀ t : Fin cfg0.N, cfg0.idle 7 (grid0.coords t) = false := fun _ => rfl
/-- Every chunk writes window 8. -/
theorem liveAt0_8 : ∀ t : Fin cfg0.N, cfg0.idle 8 (grid0.coords t) = false := fun _ => rfl
/-- A first chunk does not touch output 9. -/
theorem idleAt0_9_A : ∀ t : Fin cfg0.N, cond0_0 (grid0.coords t) → ¬cond0_1 (grid0.coords t) → cfg0.idle 9 (grid0.coords t) = true := by decide +kernel
/-- After a first chunk output 9 is not copied out. -/
theorem noFlush0_9_A : ∀ t : Fin cfg0.N, cond0_0 (grid0.coords t) → ¬cond0_1 (grid0.coords t) → (cfg0.win 9).flush t = false := by decide +kernel
/-- A chunk in between does not touch output 9, which is not copied out after it. -/
theorem idleAt0_9_C : ∀ t : Fin cfg0.N, ¬cond0_0 (grid0.coords t) → ¬cond0_1 (grid0.coords t) → cfg0.idle 9 (grid0.coords t) = true := by decide +kernel
/-- After a chunk in between output 9 is not copied out. -/
theorem noFlush0_9_C : ∀ t : Fin cfg0.N, ¬cond0_0 (grid0.coords t) → ¬cond0_1 (grid0.coords t) → (cfg0.win 9).flush t = false := by decide +kernel
/-- A last chunk writes output 9. -/
theorem liveAt0_9_B : ∀ t : Fin cfg0.N, ¬cond0_0 (grid0.coords t) → cond0_1 (grid0.coords t) → cfg0.idle 9 (grid0.coords t) = false := by decide +kernel
/-- A first chunk does not touch output 10. -/
theorem idleAt0_10_A : ∀ t : Fin cfg0.N, cond0_0 (grid0.coords t) → ¬cond0_1 (grid0.coords t) → cfg0.idle 10 (grid0.coords t) = true := by decide +kernel
/-- After a first chunk output 10 is not copied out. -/
theorem noFlush0_10_A : ∀ t : Fin cfg0.N, cond0_0 (grid0.coords t) → ¬cond0_1 (grid0.coords t) → (cfg0.win 10).flush t = false := by decide +kernel
/-- A chunk in between does not touch output 10, which is not copied out after it. -/
theorem idleAt0_10_C : ∀ t : Fin cfg0.N, ¬cond0_0 (grid0.coords t) → ¬cond0_1 (grid0.coords t) → cfg0.idle 10 (grid0.coords t) = true := by decide +kernel
/-- After a chunk in between output 10 is not copied out. -/
theorem noFlush0_10_C : ∀ t : Fin cfg0.N, ¬cond0_0 (grid0.coords t) → ¬cond0_1 (grid0.coords t) → (cfg0.win 10).flush t = false := by decide +kernel
/-- A last chunk writes output 10. -/
theorem liveAt0_10_B : ∀ t : Fin cfg0.N, ¬cond0_0 (grid0.coords t) → cond0_1 (grid0.coords t) → cfg0.idle 10 (grid0.coords t) = false := by decide +kernel

/-! ## The buffers the body is handed -/

/-- A buffer of output 8, to say what the body leaves there. -/
abbrev VO0_8 : View sig .tc .vmem S1x256x1024 .bf16 := (Memref.whole cc0_stg8_0 : Memref sig .tc .vmem S1x256x1024 .bf16).view
/-- A buffer of output 9, to say what the body leaves there. -/
abbrev VO0_9 : View sig .tc .vmem S1x8x4096 .f32 := (Memref.whole cc0_stg9_0 : Memref sig .tc .vmem S1x8x4096 .f32).view
/-- A buffer of output 10, to say what the body leaves there. -/
abbrev VO0_10 : View sig .tc .vmem S1x8x4096 .f32 := (Memref.whole cc0_stg10_0 : Memref sig .tc .vmem S1x8x4096 .f32).view
/-- The buffers of the eleven windows at step `t`. -/
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x1024x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x4096 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x8x4096 .f32 := win0_10.stage (cfg0.slots t 10)
abbrev hs0_10 (t : Fin cfg0.N) : (ms0_10 t).IsWhole := hstage0_10 ((cfg0.slots t 10).cast nbuf0_10)
/-- The kernel's four scratch buffers. -/
abbrev scM0_0 : Memref sig .tc .vmem S256x4096 .f32 := Memref.whole cc0_scratch0
abbrev scM0_1 : Memref sig .tc .vmem S256x4096 .f32 := Memref.whole cc0_scratch1
abbrev scM0_2 : Memref sig .tc .vmem S8x4096 .f32 := Memref.whole cc0_scratch2
abbrev scM0_3 : Memref sig .tc .vmem S8x4096 .f32 := Memref.whole cc0_scratch3

/-- What the steps pass on: the four scratch buffers and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.ScanPromptIdeal.Gen

end
-- ==== Proof.ScanPromptIdeal.RunA.lean ====
module

public import proofs.«01_k».proof.Proof.ScanPromptIdeal.Runs

@[expose] public section

set_option maxRecDepth 16384

noncomputable section

namespace Cert.ScanPromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1772000 in
/-- A first chunk of a sequence, on any buffers that hold the inputs: the body runs, leaves the inputs as they were, and leaves in the outputs and in the carried state the pieces that the run names. -/
noncomputable def kernelRun0_A (c : Dev nD) (i : grid0.Coords) (arg2 : Memref sig .tc .vmem S1x256x1024 .f32) (harg2 : arg2.IsWhole) (arg3 : Memref sig .tc .vmem S1x8x4096 .f32) (harg3 : arg3.IsWhole) (arg4 : Memref sig .tc .vmem S1x8x4096 .f32) (harg4 : arg4.IsWhole) (arg5 : Memref sig .tc .vmem S8x4096 .f32) (harg5 : arg5.IsWhole) (arg6 : Memref sig .tc .vmem S8x4096 .f32) (harg6 : arg6.IsWhole) (arg7 : Memref sig .tc .vmem S8x128x1024 .bf16) (harg7 : arg7.IsWhole) (arg8 : Memref sig .tc .vmem S8x1024x128 .bf16) (harg8 : arg8.IsWhole) (arg9 : Memref sig .tc .vmem S1x1024 .f32) (harg9 : arg9.IsWhole) (arg10 : Memref sig .tc .vmem S1x256x1024 .bf16) (harg10 : arg10.IsWhole) (arg11 : Memref sig .tc .vmem S1x8x4096 .f32) (harg11 : arg11.IsWhole) (arg12 : Memref sig .tc .vmem S1x8x4096 .f32) (harg12 : arg12.IsWhole) (arg13 : Memref sig .tc .vmem S256x4096 .f32) (harg13 : arg13.IsWhole) (arg14 : Memref sig .tc .vmem S256x4096 .f32) (harg14 : arg14.IsWhole) (arg15 : Memref sig .tc .vmem S8x4096 .f32) (harg15 : arg15.IsWhole) (arg16 : Memref sig .tc .vmem S8x4096 .f32) (harg16 : arg16.IsWhole) (hc0 : cond0_0 i) (hc1 : ¬cond0_1 i)
    (x0 : Vec F S1x256x1024 .f32) (x1 : Vec F S1x8x4096 .f32) (x2 : Vec F S1x8x4096 .f32) (x3 : Vec F S8x4096 .f32) (x4 : Vec F S8x4096 .f32) (x5 : Vec F S8x128x1024 .bf16) (x6 : Vec F S8x1024x128 .bf16) (x7 : Vec F S1x1024 .f32) :
    Σ' (L8 : List (View.Piece (Elt F) S1x256x1024 .bf16)), Σ' (L9 : List (View.Piece (Elt F) S1x8x4096 .f32)), Σ' (L10 : List (View.Piece (Elt F) S1x8x4096 .f32)), Σ' (LT2 : List (View.Piece (Elt F) S8x4096 .f32)), { LT3 : List (View.Piece (Elt F) S8x4096 .f32) //
      ∀ (xi9 : Vec F S1x8x4096 .f32) (xi10 : Vec F S1x8x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xi10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ owns (c : Thread nD τ) arg12 fullShare xi10 ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LT2) ∗ (∃ f, arg16.view.loc (c : Thread nD τ) ↦[arg16.view.set]{fullShare} arg16.view.writes (Elt F) f LT3)) -∗ K ⟨⟩))
          ⊢ wp frame (wpE (defs₀ (F := F)) Variants.none c none) E (cc0_s5_scan i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], [], ?_, ?_, fun xi9 xi10 E K => ?run⟩
  case run =>
    simp only [cc0_s5_scan_eq_skeleton]; unfold cc0_s5_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [HS0]
    · iexists _, _; isplitr; swap; · iexact HS0
      ipureintro; rfl
    isplitl [HS1]
    · iexists _, _; isplitr; swap; · iexact HS1
      ipureintro; rfl
    isplitl [HS2]; · iexists _; iexact HS2
    iexists _; iexact HS3

end Cert.ScanPromptIdeal.Gen

end
-- ==== Proof.ScanPromptIdeal.RunB.lean ====
module

public import proofs.«01_k».proof.Proof.ScanPromptIdeal.Runs

@[expose] public section

set_option maxRecDepth 16384

noncomputable section

namespace Cert.ScanPromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1772000 in
/-- A last chunk of a sequence, on any buffers that hold the inputs: the body runs, leaves the inputs as they were, and leaves in the outputs and in the carried state the pieces that the run names. -/
noncomputable def kernelRun0_B (c : Dev nD) (i : grid0.Coords) (arg2 : Memref sig .tc .vmem S1x256x1024 .f32) (harg2 : arg2.IsWhole) (arg3 : Memref sig .tc .vmem S1x8x4096 .f32) (harg3 : arg3.IsWhole) (arg4 : Memref sig .tc .vmem S1x8x4096 .f32) (harg4 : arg4.IsWhole) (arg5 : Memref sig .tc .vmem S8x4096 .f32) (harg5 : arg5.IsWhole) (arg6 : Memref sig .tc .vmem S8x4096 .f32) (harg6 : arg6.IsWhole) (arg7 : Memref sig .tc .vmem S8x128x1024 .bf16) (harg7 : arg7.IsWhole) (arg8 : Memref sig .tc .vmem S8x1024x128 .bf16) (harg8 : arg8.IsWhole) (arg9 : Memref sig .tc .vmem S1x1024 .f32) (harg9 : arg9.IsWhole) (arg10 : Memref sig .tc .vmem S1x256x1024 .bf16) (harg10 : arg10.IsWhole) (arg11 : Memref sig .tc .vmem S1x8x4096 .f32) (harg11 : arg11.IsWhole) (arg12 : Memref sig .tc .vmem S1x8x4096 .f32) (harg12 : arg12.IsWhole) (arg13 : Memref sig .tc .vmem S256x4096 .f32) (harg13 : arg13.IsWhole) (arg14 : Memref sig .tc .vmem S256x4096 .f32) (harg14 : arg14.IsWhole) (arg15 : Memref sig .tc .vmem S8x4096 .f32) (harg15 : arg15.IsWhole) (arg16 : Memref sig .tc .vmem S8x4096 .f32) (harg16 : arg16.IsWhole) (hc0 : ¬cond0_0 i) (hc1 : cond0_1 i)
    (x0 : Vec F S1x256x1024 .f32) (x1 : Vec F S1x8x4096 .f32) (x2 : Vec F S1x8x4096 .f32) (x3 : Vec F S8x4096 .f32) (x4 : Vec F S8x4096 .f32) (x5 : Vec F S8x128x1024 .bf16) (x6 : Vec F S8x1024x128 .bf16) (x7 : Vec F S1x1024 .f32) (x15 x16 : Vec F S8x4096 .f32) :
    Σ' (L8 : List (View.Piece (Elt F) S1x256x1024 .bf16)), Σ' (L9 : List (View.Piece (Elt F) S1x8x4096 .f32)), Σ' (L10 : List (View.Piece (Elt F) S1x8x4096 .f32)), Σ' (LT2 : List (View.Piece (Elt F) S8x4096 .f32)), { LT3 : List (View.Piece (Elt F) S8x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare x15 ∗ owns (c : Thread nD τ) arg16 fullShare x16
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LT2) ∗ (∃ f, arg16.view.loc (c : Thread nD τ) ↦[arg16.view.set]{fullShare} arg16.view.writes (Elt F) f LT3)) -∗ K ⟨⟩))
          ⊢ wp frame (wpE (defs₀ (F := F)) Variants.none c none) E (cc0_s5_scan i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_s5_scan_eq_skeleton]; unfold cc0_s5_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%fs2, %hs2, HS2⟩, ⟨%fs3, %hs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg15.eq_unread hs2; obtain rfl := harg16.eq_unread hs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [HS0]
    · iexists _, _; isplitr; swap; · iexact HS0
      ipureintro; rfl
    isplitl [HS1]
    · iexists _, _; isplitr; swap; · iexact HS1
      ipureintro; rfl
    isplitl [HS2]; · iexists _; iexact HS2
    iexists _; iexact HS3

end Cert.ScanPromptIdeal.Gen

end
-- ==== Proof.ScanPromptIdeal.RunC.lean ====
module

public import proofs.«01_k».proof.Proof.ScanPromptIdeal.Runs

@[expose] public section

set_option maxRecDepth 16384

noncomputable section

namespace Cert.ScanPromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1772000 in
/-- A chunk in the middle of a sequence, on any buffers that hold the inputs: the body runs, leaves the inputs as they were, and leaves in the outputs and in the carried state the pieces that the run names. -/
noncomputable def kernelRun0_C (c : Dev nD) (i : grid0.Coords) (arg2 : Memref sig .tc .vmem S1x256x1024 .f32) (harg2 : arg2.IsWhole) (arg3 : Memref sig .tc .vmem S1x8x4096 .f32) (harg3 : arg3.IsWhole) (arg4 : Memref sig .tc .vmem S1x8x4096 .f32) (harg4 : arg4.IsWhole) (arg5 : Memref sig .tc .vmem S8x4096 .f32) (harg5 : arg5.IsWhole) (arg6 : Memref sig .tc .vmem S8x4096 .f32) (harg6 : arg6.IsWhole) (arg7 : Memref sig .tc .vmem S8x128x1024 .bf16) (harg7 : arg7.IsWhole) (arg8 : Memref sig .tc .vmem S8x1024x128 .bf16) (harg8 : arg8.IsWhole) (arg9 : Memref sig .tc .vmem S1x1024 .f32) (harg9 : arg9.IsWhole) (arg10 : Memref sig .tc .vmem S1x256x1024 .bf16) (harg10 : arg10.IsWhole) (arg11 : Memref sig .tc .vmem S1x8x4096 .f32) (harg11 : arg11.IsWhole) (arg12 : Memref sig .tc .vmem S1x8x4096 .f32) (harg12 : arg12.IsWhole) (arg13 : Memref sig .tc .vmem S256x4096 .f32) (harg13 : arg13.IsWhole) (arg14 : Memref sig .tc .vmem S256x4096 .f32) (harg14 : arg14.IsWhole) (arg15 : Memref sig .tc .vmem S8x4096 .f32) (harg15 : arg15.IsWhole) (arg16 : Memref sig .tc .vmem S8x4096 .f32) (harg16 : arg16.IsWhole) (hc0 : ¬cond0_0 i) (hc1 : ¬cond0_1 i)
    (x0 : Vec F S1x256x1024 .f32) (x1 : Vec F S1x8x4096 .f32) (x2 : Vec F S1x8x4096 .f32) (x3 : Vec F S8x4096 .f32) (x4 : Vec F S8x4096 .f32) (x5 : Vec F S8x128x1024 .bf16) (x6 : Vec F S8x1024x128 .bf16) (x7 : Vec F S1x1024 .f32) (x15 x16 : Vec F S8x4096 .f32) :
    Σ' (L8 : List (View.Piece (Elt F) S1x256x1024 .bf16)), Σ' (L9 : List (View.Piece (Elt F) S1x8x4096 .f32)), Σ' (L10 : List (View.Piece (Elt F) S1x8x4096 .f32)), Σ' (LT2 : List (View.Piece (Elt F) S8x4096 .f32)), { LT3 : List (View.Piece (Elt F) S8x4096 .f32) //
      ∀ (xi9 : Vec F S1x8x4096 .f32) (xi10 : Vec F S1x8x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xi10 ∗ (∃ d, owns (c : Thread nD τ) arg13 fullShare d) ∗ (∃ d, owns (c : Thread nD τ) arg14 fullShare d) ∗ owns (c : Thread nD τ) arg15 fullShare x15 ∗ owns (c : Thread nD τ) arg16 fullShare x16
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ owns (c : Thread nD τ) arg12 fullShare xi10 ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LT2) ∗ (∃ f, arg16.view.loc (c : Thread nD τ) ↦[arg16.view.set]{fullShare} arg16.view.writes (Elt F) f LT3)) -∗ K ⟨⟩))
          ⊢ wp frame (wpE (defs₀ (F := F)) Variants.none c none) E (cc0_s5_scan i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], [], ?_, ?_, fun xi9 xi10 E K => ?run⟩
  case run =>
    simp only [cc0_s5_scan_eq_skeleton]; unfold cc0_s5_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds0, %fs0, -, HS0⟩, ⟨%ds1, %fs1, -, HS1⟩, ⟨%fs2, %hs2, HS2⟩, ⟨%fs3, %hs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg15.eq_unread hs2; obtain rfl := harg16.eq_unread hs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [HS0]
    · iexists _, _; isplitr; swap; · iexact HS0
      ipureintro; rfl
    isplitl [HS1]
    · iexists _, _; isplitr; swap; · iexact HS1
      ipureintro; rfl
    isplitl [HS2]; · iexists _; iexact HS2
    iexists _; iexact HS3

end Cert.ScanPromptIdeal.Gen

end
-- ==== Proof.ScanPromptIdeal.Frame.lean ====
module

public import proofs.«01_k».proof.Proof.ScanPromptIdeal.RunA
public import proofs.«01_k».proof.Proof.ScanPromptIdeal.RunB
public import proofs.«01_k».proof.Proof.ScanPromptIdeal.RunC
public import Idealize.ShloMosaic.Lib.Claim

@[expose] public section

set_option maxRecDepth 16384

noncomputable section

namespace Cert.ScanPromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents that a state has: one array of real parts, one of imaginary parts. -/
abbrev StateOf (F : FTy → Type) := Vec F S8x4096 .f32 × Vec F S8x4096 .f32

/-- A sequence's first chunk is not its last. -/
theorem not_last (t : Fin cfg0.N) (h : t.val % 64 = 0) : ¬cond0_1 (grid0.coords t) := fun e => by
  have := (hcond0_1 t).mp e; omega

/-- A sequence's last chunk is not its first. -/
theorem not_first (t : Fin cfg0.N) (h : t.val % 64 = 63) : ¬cond0_0 (grid0.coords t) := fun e => by
  have := (hcond0_0 t).mp e; omega

/-- The body's run at the first chunk, on that point's buffers and blocks. -/
def runA (c : Dev nD) (t : Fin cfg0.N) (h : t.val % 64 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h) (not_last t h) (iblk m c 0 t) (iblk m c 1 t) (iblk m c 2 t) (iblk m c 3 t) (iblk m c 4 t) (iblk m c 5 t) (iblk m c 6 t) (iblk m c 7 t)

/-- The body's run at the last chunk, started in the state `s`. -/
def runB (c : Dev nD) (t : Fin cfg0.N) (h : t.val % 64 = 63) (s : StateOf F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (not_first t h) ((hcond0_1 t).mpr h) (iblk m c 0 t) (iblk m c 1 t) (iblk m c 2 t) (iblk m c 3 t) (iblk m c 4 t) (iblk m c 5 t) (iblk m c 6 t) (iblk m c 7 t) s.1 s.2

/-- The body's run at a chunk in between, started in the state `s`. -/
def runC (c : Dev nD) (t : Fin cfg0.N) (h0 : ¬t.val % 64 = 0) (h1 : ¬t.val % 64 = 63) (s : StateOf F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun e => h0 ((hcond0_0 t).mp e)) (fun e => h1 ((hcond0_1 t).mp e)) (iblk m c 0 t) (iblk m c 1 t) (iblk m c 2 t) (iblk m c 3 t) (iblk m c 4 t) (iblk m c 5 t) (iblk m c 6 t) (iblk m c 7 t) s.1 s.2

/-- The pieces of a first chunk cover its part of the sequence output. -/
theorem cover8_A (c : Dev nD) (t : Fin cfg0.N) (h : t.val % 64 = 0) (y : S1x256x1024.Idx) : ∃ pc ∈ (runA m c t h).1, y ∈ pc.1.set :=
  View.cover_of_tiledL (runA m c t h).1 S1x256x128.size (by sl_kernel_rfl) y

/-- The pieces of a first chunk cover the carried real states. -/
theorem coverRe_A (c : Dev nD) (t : Fin cfg0.N) (h : t.val % 64 = 0) (y : S8x4096.Idx) : ∃ pc ∈ (runA m c t h).2.2.2.1, y ∈ pc.1.set :=
  View.cover_of_tiledL (runA m c t h).2.2.2.1 S8x512.size (by sl_kernel_rfl) y

/-- The pieces of a first chunk cover the carried imaginary states. -/
theorem coverIm_A (c : Dev nD) (t : Fin cfg0.N) (h : t.val % 64 = 0) (y : S8x4096.Idx) : ∃ pc ∈ (runA m c t h).2.2.2.2.1, y ∈ pc.1.set :=
  View.cover_of_tiledL (runA m c t h).2.2.2.2.1 S8x512.size (by sl_kernel_rfl) y

/-- The pieces of a last chunk cover its part of the sequence output. -/
theorem cover8_B (c : Dev nD) (t : Fin cfg0.N) (h : t.val % 64 = 63) (s : StateOf F) (y : S1x256x1024.Idx) : ∃ pc ∈ (runB m c t h s).1, y ∈ pc.1.set :=
  View.cover_of_tiledL (runB m c t h s).1 S1x256x128.size (by sl_kernel_rfl) y

/-- The pieces of a last chunk cover its part of the real final states. -/
theorem cover9_B (c : Dev nD) (t : Fin cfg0.N) (h : t.val % 64 = 63) (s : StateOf F) (y : S1x8x4096.Idx) : ∃ pc ∈ (runB m c t h s).2.1, y ∈ pc.1.set :=
  View.cover_of_tiledL (runB m c t h s).2.1 S1x8x4096.size (by sl_kernel_rfl) y

/-- The pieces of a last chunk cover its part of the imaginary final states. -/
theorem cover10_B (c : Dev nD) (t : Fin cfg0.N) (h : t.val % 64 = 63) (s : StateOf F) (y : S1x8x4096.Idx) : ∃ pc ∈ (runB m c t h s).2.2.1, y ∈ pc.1.set :=
  View.cover_of_tiledL (runB m c t h s).2.2.1 S1x8x4096.size (by sl_kernel_rfl) y

/-- The pieces of a last chunk cover the carried real states. -/
theorem coverRe_B (c : Dev nD) (t : Fin cfg0.N) (h : t.val % 64 = 63) (s : StateOf F) (y : S8x4096.Idx) : ∃ pc ∈ (runB m c t h s).2.2.2.1, y ∈ pc.1.set :=
  View.cover_of_tiledL (runB m c t h s).2.2.2.1 S8x512.size (by sl_kernel_rfl) y

/-- The pieces of a last chunk cover the carried imaginary states. -/
theorem coverIm_B (c : Dev nD) (t : Fin cfg0.N) (h : t.val % 64 = 63) (s : StateOf F) (y : S8x4096.Idx) : ∃ pc ∈ (runB m c t h s).2.2.2.2.1, y ∈ pc.1.set :=
  View.cover_of_tiledL (runB m c t h s).2.2.2.2.1 S8x512.size (by sl_kernel_rfl) y

/-- The pieces of a chunk in between cover its part of the sequence output. -/
theorem cover8_C (c : Dev nD) (t : Fin cfg0.N) (h0 : ¬t.val % 64 = 0) (h1 : ¬t.val % 64 = 63) (s : StateOf F) (y : S1x256x1024.Idx) : ∃ pc ∈ (runC m c t h0 h1 s).1, y ∈ pc.1.set :=
  View.cover_of_tiledL (runC m c t h0 h1 s).1 S1x256x128.size (by sl_kernel_rfl) y

/-- The pieces of a chunk in between cover the carried real states. -/
theorem coverRe_C (c : Dev nD) (t : Fin cfg0.N) (h0 : ¬t.val % 64 = 0) (h1 : ¬t.val % 64 = 63) (s : StateOf F) (y : S8x4096.Idx) : ∃ pc ∈ (runC m c t h0 h1 s).2.2.2.1, y ∈ pc.1.set :=
  View.cover_of_tiledL (runC m c t h0 h1 s).2.2.2.1 S8x512.size (by sl_kernel_rfl) y

/-- The pieces of a chunk in between cover the carried imaginary states. -/
theorem coverIm_C (c : Dev nD) (t : Fin cfg0.N) (h0 : ¬t.val % 64 = 0) (h1 : ¬t.val % 64 = 63) (s : StateOf F) (y : S8x4096.Idx) : ∃ pc ∈ (runC m c t h0 h1 s).2.2.2.2.1, y ∈ pc.1.set :=
  View.cover_of_tiledL (runC m c t h0 h1 s).2.2.2.2.1 S8x512.size (by sl_kernel_rfl) y

/-- The state that a first chunk leaves. -/
def stateA (c : Dev nD) (t : Fin cfg0.N) (h : t.val % 64 = 0) : StateOf F :=
  (scM0_2.view.read (Elt F) (scM0_2.view.writes (Elt F) scM0_2.view.junk (runA m c t h).2.2.2.1),
    scM0_3.view.read (Elt F) (scM0_3.view.writes (Elt F) scM0_3.view.junk (runA m c t h).2.2.2.2.1))

/-- The state that the last chunk leaves when it starts in `s`. -/
def stateB (c : Dev nD) (t : Fin cfg0.N) (h : t.val % 64 = 63) (s : StateOf F) : StateOf F :=
  (scM0_2.view.read (Elt F) (scM0_2.view.writes (Elt F) scM0_2.view.junk (runB m c t h s).2.2.2.1),
    scM0_3.view.read (Elt F) (scM0_3.view.writes (Elt F) scM0_3.view.junk (runB m c t h s).2.2.2.2.1))

/-- The state that a chunk in between leaves when it starts in `s`. -/
def stateC (c : Dev nD) (t : Fin cfg0.N) (h0 : ¬t.val % 64 = 0) (h1 : ¬t.val % 64 = 63) (s : StateOf F) : StateOf F :=
  (scM0_2.view.read (Elt F) (scM0_2.view.writes (Elt F) scM0_2.view.junk (runC m c t h0 h1 s).2.2.2.1),
    scM0_3.view.read (Elt F) (scM0_3.view.writes (Elt F) scM0_3.view.junk (runC m c t h0 h1 s).2.2.2.2.1))

/-- The state that point `t` leaves when it finds `s`. -/
def stateOn (c : Dev nD) (t : Fin cfg0.N) (s : StateOf F) : StateOf F :=
  if h0 : t.val % 64 = 0 then stateA m c t h0 else if h1 : t.val % 64 = 63 then stateB m c t h1 s else stateC m c t h0 h1 s

/-- The state after point `n`, from the first point on. -/
def stateN (c : Dev nD) : (n : ℕ) → n < cfg0.N → StateOf F
  | 0, h => stateA m c ⟨0, h⟩ rfl
  | n + 1, h => stateOn m c ⟨n + 1, h⟩ (stateN c n (Nat.lt_of_succ_lt h))

/-- The state after point `t`. -/
def stateAt (c : Dev nD) (t : Fin cfg0.N) : StateOf F := stateN m c t.val t.isLt

/-- The state that a later point finds: what the point before it left. -/
def prior (c : Dev nD) (t : Fin cfg0.N) : StateOf F := stateN m c (t.val - 1) (Nat.lt_of_le_of_lt (Nat.sub_le _ _) t.isLt)

/-- The state after a first chunk. -/
theorem stateAt_first (c : Dev nD) (t : Fin cfg0.N) (h : t.val % 64 = 0) : stateAt m c t = stateA m c t h := by
  obtain ⟨n, hn⟩ := t
  cases n with
  | zero => rfl
  | succ n => exact dif_pos h

/-- The state after a chunk in between. -/
theorem stateAt_mid (c : Dev nD) (t : Fin cfg0.N) (h0 : ¬t.val % 64 = 0) (h1 : ¬t.val % 64 = 63) : stateAt m c t = stateC m c t h0 h1 (prior m c t) := by
  obtain ⟨n, hn⟩ := t
  cases n with
  | zero => exact absurd rfl h0
  | succ n => exact (dif_neg h0).trans (dif_neg h1)

/-- The state after a last chunk. -/
theorem stateAt_last (c : Dev nD) (t : Fin cfg0.N) (h : t.val % 64 = 63) : stateAt m c t = stateB m c t h (prior m c t) := by
  obtain ⟨n, hn⟩ := t
  cases n with
  | zero => exact absurd h (show ¬0 % 64 = 63 by decide)
  | succ n => exact (dif_neg (show ¬(n + 1) % 64 = 0 by have : (n + 1) % 64 = 63 := h; omega)).trans (dif_pos h)

/-- What point `t` leaves in the sequence output's buffer. -/
def seqAt (c : Dev nD) (t : Fin cfg0.N) : Vec F S1x256x1024 .bf16 :=
  VO0_8.read (Elt F) (VO0_8.writes (Elt F) VO0_8.junk
    (if h0 : t.val % 64 = 0 then (runA m c t h0).1 else if h1 : t.val % 64 = 63 then (runB m c t h1 (prior m c t)).1 else (runC m c t h0 h1 (prior m c t)).1))

/-- What point `t` leaves in the two final states' buffers: the last chunk stores them, the others do not. -/
def lastAt (c : Dev nD) (t : Fin cfg0.N) : Vec F S1x8x4096 .f32 × Vec F S1x8x4096 .f32 :=
  (VO0_9.read (Elt F) (VO0_9.writes (Elt F) VO0_9.junk (if h : t.val % 64 = 63 then (runB m c t h (prior m c t)).2.1 else [])),
    VO0_10.read (Elt F) (VO0_10.writes (Elt F) VO0_10.junk (if h : t.val % 64 = 63 then (runB m c t h (prior m c t)).2.2.1 else [])))

/-- What holds between points: the two scratch arrays of the state at what the point before left (anything before the
    first point), the other two scratch arrays at anything. -/
def PhiS (c : Dev nD) : (n : ℕ) → n ≤ cfg0.N → sProp 𝕄
  | 0, _ => Pipeline.ΦA spec0 c
  | n + 1, hn => iprop(((∃ d, owns (c : Thread nD τ) scM0_0 fullShare d) ∗ (∃ d, owns (c : Thread nD τ) scM0_1 fullShare d)
      ∗ owns (c : Thread nD τ) scM0_2 fullShare (stateAt m c ⟨n, hn⟩).1
      ∗ owns (c : Thread nD τ) scM0_3 fullShare (stateAt m c ⟨n, hn⟩).2) ∗ (∃ r, prngReg c r))

/-- Before the first point the scratch arrays hold anything. -/
theorem PhiS_zero (c : Dev nD) (n : ℕ) (h : n ≤ cfg0.N) (hz : n = 0) : PhiS m c n h = Pipeline.ΦA spec0 c := by
  subst hz; rfl

/-- After a point they hold the state it left. -/
theorem PhiS_succ (c : Dev nD) (n : ℕ) (hn : n < cfg0.N) :
    PhiS m c (n + 1) hn = iprop(((∃ d, owns (c : Thread nD τ) scM0_0 fullShare d) ∗ (∃ d, owns (c : Thread nD τ) scM0_1 fullShare d)
      ∗ owns (c : Thread nD τ) scM0_2 fullShare (stateAt m c ⟨n, hn⟩).1
      ∗ owns (c : Thread nD τ) scM0_3 fullShare (stateAt m c ⟨n, hn⟩).2) ∗ (∃ r, prngReg c r)) := rfl

/-- Before a later point they hold the state the point before it left. -/
theorem PhiS_pos (c : Dev nD) (n : ℕ) (h : n ≤ cfg0.N) (hz : n ≠ 0) :
    PhiS m c n h = iprop(((∃ d, owns (c : Thread nD τ) scM0_0 fullShare d) ∗ (∃ d, owns (c : Thread nD τ) scM0_1 fullShare d)
      ∗ owns (c : Thread nD τ) scM0_2 fullShare (stateAt m c ⟨n - 1, by omega⟩).1
      ∗ owns (c : Thread nD τ) scM0_3 fullShare (stateAt m c ⟨n - 1, by omega⟩).2) ∗ (∃ r, prngReg c r)) := by
  cases n with
  | zero => exact absurd rfl hz
  | succ n => rfl

/-- The arrays at entry, and what each point leaves in the eleven buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => seqAt m c t
    | ⟨9, _⟩ => (lastAt m c t).1
    | ⟨10, _⟩ => (lastAt m c t).2
  Φ t := PhiS m c t.val (Nat.le_of_lt_succ t.isLt)
  q _ := fullShare
  owed _ := 0

/-- The arrays at entry. -/
theorem A_eq (c : Dev nD) (w : Fin cfg0.W) : (dats m 0 c).A w = V m c (Pipeline.arrRef spec0 w) := by
  dsimp only [dats]

/-- What is passed on to a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What a point leaves in buffer 0. -/
theorem after0_0 (c : Dev nD) (t : Fin cfg0.N) : (dats m 0 c).after 0 t = iblk m c 0 t := by dsimp only [dats]
/-- What a point leaves in buffer 1. -/
theorem after0_1 (c : Dev nD) (t : Fin cfg0.N) : (dats m 0 c).after 1 t = iblk m c 1 t := by dsimp only [dats]
/-- What a point leaves in buffer 2. -/
theorem after0_2 (c : Dev nD) (t : Fin cfg0.N) : (dats m 0 c).after 2 t = iblk m c 2 t := by dsimp only [dats]
/-- What a point leaves in buffer 3. -/
theorem after0_3 (c : Dev nD) (t : Fin cfg0.N) : (dats m 0 c).after 3 t = iblk m c 3 t := by dsimp only [dats]
/-- What a point leaves in buffer 4. -/
theorem after0_4 (c : Dev nD) (t : Fin cfg0.N) : (dats m 0 c).after 4 t = iblk m c 4 t := by dsimp only [dats]
/-- What a point leaves in buffer 5. -/
theorem after0_5 (c : Dev nD) (t : Fin cfg0.N) : (dats m 0 c).after 5 t = iblk m c 5 t := by dsimp only [dats]
/-- What a point leaves in buffer 6. -/
theorem after0_6 (c : Dev nD) (t : Fin cfg0.N) : (dats m 0 c).after 6 t = iblk m c 6 t := by dsimp only [dats]
/-- What a point leaves in buffer 7. -/
theorem after0_7 (c : Dev nD) (t : Fin cfg0.N) : (dats m 0 c).after 7 t = iblk m c 7 t := by dsimp only [dats]
/-- What a point leaves in buffer 8. -/
theorem after0_8 (c : Dev nD) (t : Fin cfg0.N) : (dats m 0 c).after 8 t = seqAt m c t := by dsimp only [dats]
/-- What a point leaves in buffer 9. -/
theorem after0_9 (c : Dev nD) (t : Fin cfg0.N) : (dats m 0 c).after 9 t = (lastAt m c t).1 := by dsimp only [dats]
/-- What a point leaves in buffer 10. -/
theorem after0_10 (c : Dev nD) (t : Fin cfg0.N) : (dats m 0 c).after 10 t = (lastAt m c t).2 := by dsimp only [dats]

/-- What a point finds in buffer 0. -/
theorem before0_0 (c : Dev nD) (t : Fin cfg0.N) (d) : (dats m 0 c).before 0 t d = iblk m c 0 t :=
  before0_0_of m (dats m 0 c) (A_eq m c 0) (after0_0 m c) t d
/-- What a point finds in buffer 1. -/
theorem before0_1 (c : Dev nD) (t : Fin cfg0.N) (d) : (dats m 0 c).before 1 t d = iblk m c 1 t :=
  before0_1_of m (dats m 0 c) (A_eq m c 1) (after0_1 m c) t d
/-- What a point finds in buffer 2. -/
theorem before0_2 (c : Dev nD) (t : Fin cfg0.N) (d) : (dats m 0 c).before 2 t d = iblk m c 2 t :=
  before0_2_of m (dats m 0 c) (A_eq m c 2) (after0_2 m c) t d
/-- What a point finds in buffer 3. -/
theorem before0_3 (c : Dev nD) (t : Fin cfg0.N) (d) : (dats m 0 c).before 3 t d = iblk m c 3 t :=
  before0_3_of m (dats m 0 c) (A_eq m c 3) (after0_3 m c) t d
/-- What a point finds in buffer 4. -/
theorem before0_4 (c : Dev nD) (t : Fin cfg0.N) (d) : (dats m 0 c).before 4 t d = iblk m c 4 t :=
  before0_4_of m (dats m 0 c) (A_eq m c 4) (after0_4 m c) t d
/-- What a point finds in buffer 5. -/
theorem before0_5 (c : Dev nD) (t : Fin cfg0.N) (d) : (dats m 0 c).before 5 t d = iblk m c 5 t :=
  before0_5_of m (dats m 0 c) (A_eq m c 5) (after0_5 m c) t d
/-- What a point finds in buffer 6. -/
theorem before0_6 (c : Dev nD) (t : Fin cfg0.N) (d) : (dats m 0 c).before 6 t d = iblk m c 6 t :=
  before0_6_of m (dats m 0 c) (A_eq m c 6) (after0_6 m c) t d
/-- What a point finds in buffer 7. -/
theorem before0_7 (c : Dev nD) (t : Fin cfg0.N) (d) : (dats m 0 c).before 7 t d = iblk m c 7 t :=
  before0_7_of m (dats m 0 c) (A_eq m c 7) (after0_7 m c) t d

/-- What a point's body finds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- Buffer 0 after a point. -/
theorem leaves0 (c : Dev nD) (t : Fin cfg0.N) : (dats m 0 c).leavesExact 0 t = owns (c : Thread nD τ) (ms0_0 t) fullShare (iblk m c 0 t) := by
  rw [← after0_0]
/-- Buffer 1 after a point. -/
theorem leaves1 (c : Dev nD) (t : Fin cfg0.N) : (dats m 0 c).leavesExact 1 t = owns (c : Thread nD τ) (ms0_1 t) fullShare (iblk m c 1 t) := by
  rw [← after0_1]
/-- Buffer 2 after a point. -/
theorem leaves2 (c : Dev nD) (t : Fin cfg0.N) : (dats m 0 c).leavesExact 2 t = owns (c : Thread nD τ) (ms0_2 t) fullShare (iblk m c 2 t) := by
  rw [← after0_2]
/-- Buffer 3 after a point. -/
theorem leaves3 (c : Dev nD) (t : Fin cfg0.N) : (dats m 0 c).leavesExact 3 t = owns (c : Thread nD τ) (ms0_3 t) fullShare (iblk m c 3 t) := by
  rw [← after0_3]
/-- Buffer 4 after a point. -/
theorem leaves4 (c : Dev nD) (t : Fin cfg0.N) : (dats m 0 c).leavesExact 4 t = owns (c : Thread nD τ) (ms0_4 t) fullShare (iblk m c 4 t) := by
  rw [← after0_4]
/-- Buffer 5 after a point. -/
theorem leaves5 (c : Dev nD) (t : Fin cfg0.N) : (dats m 0 c).leavesExact 5 t = owns (c : Thread nD τ) (ms0_5 t) fullShare (iblk m c 5 t) := by
  rw [← after0_5]
/-- Buffer 6 after a point. -/
theorem leaves6 (c : Dev nD) (t : Fin cfg0.N) : (dats m 0 c).leavesExact 6 t = owns (c : Thread nD τ) (ms0_6 t) fullShare (iblk m c 6 t) := by
  rw [← after0_6]
/-- Buffer 7 after a point. -/
theorem leaves7 (c : Dev nD) (t : Fin cfg0.N) : (dats m 0 c).leavesExact 7 t = owns (c : Thread nD τ) (ms0_7 t) fullShare (iblk m c 7 t) := by
  rw [← after0_7]
/-- Buffer 8 after a point. -/
theorem leaves8 (c : Dev nD) (t : Fin cfg0.N) : (dats m 0 c).leavesExact 8 t = owns (c : Thread nD τ) (ms0_8 t) fullShare (seqAt m c t) := by
  rw [← after0_8]

set_option maxHeartbeats 2400000 in
/-- The very first point: the scratch arrays hold anything. -/
theorem body_first (c : Dev nD) (t : Fin cfg0.N) (h : t.val % 64 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.succ = PhiS m c (t.val + 1) t.isLt from rfl, PhiS_succ, leaves0, leaves1, leaves2, leaves3, leaves4, leaves5, leaves6, leaves7, leaves8]
  rw [Dat.leavesExact_idle (dats m 0 c) 9 t (idleAt0_9_A t ((hcond0_0 t).mpr h) (not_last t h)) (noFlush0_9_A t ((hcond0_0 t).mpr h) (not_last t h)),
    Dat.leavesExact_idle (dats m 0 c) 10 t (idleAt0_10_A t ((hcond0_0 t).mpr h) (not_last t h)) (noFlush0_10_A t ((hcond0_0 t).mpr h) (not_last t h)),
    show (⟨t.val, t.isLt⟩ : Fin cfg0.N) = t from rfl, stateAt_first m c t h, seqAt, dif_pos h, stateA]
  rw [PhiS_castSucc m c t, PhiS_zero m c _ _ (by have := lt_of_lt_of_eq t.isLt (show cfg0.N = 64 from N_0); omega), PhiA0_eq]
  dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runA m c t h).2.2.2.2.2 _ _ Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [HS0]; · iexact HS0
  isplitl [HS1]; · iexact HS1
  isplitl [HS2]; · iexact HS2
  isplitl [HS3]; · iexact HS3
  iintro ⟨H0, H1, H2, H3, H4, H5, H6, H7, ⟨%e8, H8⟩, H9, H10, HS0, HS1, ⟨%fT2, HS2⟩, ⟨%fT3, HS3⟩⟩
  isplitl [HS0 HS1 HS2 HS3 Hg]
  · isplitl [HS0 HS1 HS2 HS3]
    · isplitl [HS0]; · iexact HS0
      isplitl [HS1]; · iexact HS1
      isplitl [HS2]
      · unfold owns; iexists _; isplitr
        swap; · iexact HS2
        ipureintro; exact View.read_writes_of_cover _ _ _ _ _ (coverRe_A m c t h)
      unfold owns; iexists _; isplitr
      swap; · iexact HS3
      ipureintro; exact View.read_writes_of_cover _ _ _ _ _ (coverIm_A m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover8_A m c t h)
  isplitl [H9]; · iexists _; iexact H9
  iexists _; iexact H10

set_option maxHeartbeats 2400000 in
/-- A chunk in between: the state is carried on, and nothing is stored into the two final states. -/
theorem body_mid (c : Dev nD) (t : Fin cfg0.N) (h0 : ¬t.val % 64 = 0) (h1 : ¬t.val % 64 = 63) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.succ = PhiS m c (t.val + 1) t.isLt from rfl, PhiS_succ, leaves0, leaves1, leaves2, leaves3, leaves4, leaves5, leaves6, leaves7, leaves8]
  rw [Dat.leavesExact_idle (dats m 0 c) 9 t (idleAt0_9_C t (fun e => h0 ((hcond0_0 t).mp e)) (fun e => h1 ((hcond0_1 t).mp e))) (noFlush0_9_C t (fun e => h0 ((hcond0_0 t).mp e)) (fun e => h1 ((hcond0_1 t).mp e))),
    Dat.leavesExact_idle (dats m 0 c) 10 t (idleAt0_10_C t (fun e => h0 ((hcond0_0 t).mp e)) (fun e => h1 ((hcond0_1 t).mp e))) (noFlush0_10_C t (fun e => h0 ((hcond0_0 t).mp e)) (fun e => h1 ((hcond0_1 t).mp e))),
    show (⟨t.val, t.isLt⟩ : Fin cfg0.N) = t from rfl, stateAt_mid m c t h0 h1, seqAt, dif_neg h0, dif_neg h1, stateC]
  rw [PhiS_castSucc m c t, PhiS_pos m c _ _ (fun e => h0 (by rw [e])), show stateAt m c ⟨t.val - 1, by omega⟩ = prior m c t from rfl]
  dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runC m c t h0 h1 (prior m c t)).2.2.2.2.2 _ _ Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [HS0]; · iexact HS0
  isplitl [HS1]; · iexact HS1
  isplitl [HS2]; · iexact HS2
  isplitl [HS3]; · iexact HS3
  iintro ⟨H0, H1, H2, H3, H4, H5, H6, H7, ⟨%e8, H8⟩, H9, H10, HS0, HS1, ⟨%fT2, HS2⟩, ⟨%fT3, HS3⟩⟩
  isplitl [HS0 HS1 HS2 HS3 Hg]
  · isplitl [HS0 HS1 HS2 HS3]
    · isplitl [HS0]; · iexact HS0
      isplitl [HS1]; · iexact HS1
      isplitl [HS2]
      · unfold owns; iexists _; isplitr
        swap; · iexact HS2
        ipureintro; exact View.read_writes_of_cover _ _ _ _ _ (coverRe_C m c t h0 h1 (prior m c t))
      unfold owns; iexists _; isplitr
      swap; · iexact HS3
      ipureintro; exact View.read_writes_of_cover _ _ _ _ _ (coverIm_C m c t h0 h1 (prior m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover8_C m c t h0 h1 (prior m c t))
  isplitl [H9]; · iexists _; iexact H9
  iexists _; iexact H10

set_option maxHeartbeats 2400000 in
/-- The last chunk: the state is carried on and stored. -/
theorem body_last (c : Dev nD) (t : Fin cfg0.N) (h : t.val % 64 = 63) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.succ = PhiS m c (t.val + 1) t.isLt from rfl, PhiS_succ, leaves0, leaves1, leaves2, leaves3, leaves4, leaves5, leaves6, leaves7, leaves8]
  rw [show (dats m 0 c).leavesExact 9 t = owns (c : Thread nD τ) (ms0_9 t) fullShare ((dats m 0 c).after 9 t) from by
      unfold Dat.leavesExact; rw [liveAt0_9_B t (not_first t h) ((hcond0_1 t).mpr h)],
    show (dats m 0 c).leavesExact 10 t = owns (c : Thread nD τ) (ms0_10 t) fullShare ((dats m 0 c).after 10 t) from by
      unfold Dat.leavesExact; rw [liveAt0_10_B t (not_first t h) ((hcond0_1 t).mpr h)], after0_9, after0_10,
    show (⟨t.val, t.isLt⟩ : Fin cfg0.N) = t from rfl, stateAt_last m c t h, seqAt, lastAt, dif_neg (show ¬t.val % 64 = 0 by omega), dif_pos h, dif_pos h, dif_pos h, stateB,
    PhiS_castSucc m c t, PhiS_pos m c _ _ (by omega), show stateAt m c ⟨t.val - 1, by omega⟩ = prior m c t from rfl]
  dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runB m c t h (prior m c t)).2.2.2.2.2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  iintro ⟨H0, H1, H2, H3, H4, H5, H6, H7, ⟨%e8, H8⟩, ⟨%e9, H9⟩, ⟨%e10, H10⟩, HS0, HS1, ⟨%fT2, HS2⟩, ⟨%fT3, HS3⟩⟩
  isplitl [HS0 HS1 HS2 HS3 Hg]
  · isplitl [HS0 HS1 HS2 HS3]
    · isplitl [HS0]; · iexact HS0
      isplitl [HS1]; · iexact HS1
      isplitl [HS2]
      · unfold owns; iexists _; isplitr
        swap; · iexact HS2
        ipureintro; exact View.read_writes_of_cover _ _ _ _ _ (coverRe_B m c t h (prior m c t))
      unfold owns; iexists _; isplitr
      swap; · iexact HS3
      ipureintro; exact View.read_writes_of_cover _ _ _ _ _ (coverIm_B m c t h (prior m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover8_B m c t h (prior m c t))
  isplitl [H9]
  · unfold owns; iexists _; isplitr
    swap; · iexact H9
    ipureintro; exact View.read_writes_of_cover _ _ _ _ _ (cover9_B m c t h (prior m c t))
  unfold owns; iexists _; isplitr
  swap; · iexact H10
  ipureintro; exact View.read_writes_of_cover _ _ _ _ _ (cover10_B m c t h (prior m c t))

/-- Every point's body runs from what it finds to what it is said to leave. -/
theorem sound_body (c : Dev nD) (t : Fin cfg0.N) :
    bodyPre m c t ⊢ wp frame (wpE (defs₀ (F := F)) Variants.none c none) Set.univ (bodyAt0 t) (fun _ => bodyPost m c t) := by
  by_cases h0 : t.val % 64 = 0
  · exact body_first m c t h0
  · by_cases h1 : t.val % 64 = 63
    · exact body_last m c t h1
    · exact body_mid m c t h0 h1

/-- The kernel's body at a point, on that point's buffers. -/
theorem defs₀_row (t : Fin cfg0.N) :
    defs₀ (F := F) .tc cfg0.body (cfg0.bodyArgs t (cfg0.slots t)) = bodyAt0 t := by
  unfold defs₀; rw [Defs.onTc_tc]

/-- The same, as the launch asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands to the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- What the last point hands back. -/
theorem hout (c : Dev nD) : (dats m 0 c).Φ (Fin.last cfg0.N) ⊢ Pipeline.ΦA spec0 c := by
  have hN : cfg0.N = 64 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  iintro ⟨⟨HS0, HS1, HS2, HS3⟩, Hg⟩
  isplitl [HS0 HS1 HS2 HS3]
  · isplitl [HS0]; · iexact HS0
    isplitl [HS1]; · iexact HS1
    isplitl [HS2]; · iexists _; iexact HS2
    iexists _; iexact HS3
  iexact Hg

set_option backward.isDefEq.respectTransparency.types false in
/-- The program runs, and no semaphore is left raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every execution ends, with the call's arrays as `dats` says and the rest as the call found it. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The arguments end as they began, and no semaphore count is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.ScanPromptIdeal.Gen

end
-- ==== Proof.ScanPromptIdeal.Loops.lean ====
module

public import proofs.«01_k».proof.Proof.ScanIdeal.Sweep
public import proofs.«01_k».proof.Proof.ScanPromptIdeal.Runs

@[expose] public section

set_option maxRecDepth 8192

noncomputable section

namespace Cert.ScanPromptIdeal.Gen

open Idealize.ShloMosaic Idealize.ShloMosaic.TcCoe
open Cert.ScanIdeal.Gen (Sweep)

variable {F : FTy → Type} [FloatOps F]

variable {𝒱 : Variants} {c : Dev nD} {bd : Option 𝒱.V} {i : grid0.Coords} {arg2 : Memref sig .tc .vmem S1x256x1024 .f32} {harg2 : arg2.IsWhole} {arg3 : Memref sig .tc .vmem S1x8x4096 .f32} {harg3 : arg3.IsWhole} {arg4 : Memref sig .tc .vmem S1x8x4096 .f32} {harg4 : arg4.IsWhole} {arg5 : Memref sig .tc .vmem S8x4096 .f32} {harg5 : arg5.IsWhole} {arg6 : Memref sig .tc .vmem S8x4096 .f32} {harg6 : arg6.IsWhole} {arg7 : Memref sig .tc .vmem S8x128x1024 .bf16} {harg7 : arg7.IsWhole} {arg8 : Memref sig .tc .vmem S8x1024x128 .bf16} {harg8 : arg8.IsWhole} {arg9 : Memref sig .tc .vmem S1x1024 .f32} {harg9 : arg9.IsWhole} {arg10 : Memref sig .tc .vmem S1x256x1024 .bf16} {harg10 : arg10.IsWhole} {arg11 : Memref sig .tc .vmem S1x8x4096 .f32} {harg11 : arg11.IsWhole} {arg12 : Memref sig .tc .vmem S1x8x4096 .f32} {harg12 : arg12.IsWhole} {arg13 : Memref sig .tc .vmem S256x4096 .f32} {harg13 : arg13.IsWhole} {arg14 : Memref sig .tc .vmem S256x4096 .f32} {harg14 : arg14.IsWhole} {arg15 : Memref sig .tc .vmem S8x4096 .f32} {harg15 : arg15.IsWhole} {arg16 : Memref sig .tc .vmem S8x4096 .f32} {harg16 : arg16.IsWhole}
variable {va vb vc vd ve vf : Vec F S8x512 .f32} {c0 c1 c2 c3 : BitVec 32}
variable {G13 : BufTy.Contents (Elt F) arg13.view.ty} {G14 : BufTy.Contents (Elt F) arg14.view.ty} {init : Vec F S8x512 .f32 × Vec F S8x512 .f32}

/-- The first strip's loop is such a loop. -/
theorem sweep1 : Sweep arg13.view arg14.view 0 va vb G13 G14 init (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 va vb vc vd c0 c1 G13 G14 init) where
  zero := rfl
  succ k hk := ⟨k0_off1 ⟨k, hk⟩, k0_off1_inb ⟨k, hk⟩, _, _, k0_off1_eq ⟨k, hk⟩,
    (st_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 va vb vc vd c0 c1 G13 G14 init ⟨k, hk⟩).trans (by unfold tripR_k0_t1 tripL_k0_t1 trip_k0_t1; rfl)⟩

/-- The second strip's loop is such a loop. -/
theorem sweep2 : Sweep arg13.view arg14.view 512 ve vf G13 G14 init (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 va vb vc vd c0 c1 ve vf G13 G14 init) where
  zero := rfl
  succ k hk := ⟨k0_off2 ⟨k, hk⟩, k0_off2_inb ⟨k, hk⟩, _, _, k0_off2_eq ⟨k, hk⟩,
    (st_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 va vb vc vd c0 c1 ve vf G13 G14 init ⟨k, hk⟩).trans (by unfold tripR_k0_t2 tripL_k0_t2 trip_k0_t2; rfl)⟩

/-- The third strip's loop is such a loop. -/
theorem sweep3 : Sweep arg13.view arg14.view 1024 va vb G13 G14 init (st_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 va vb vc vd c0 c1 G13 G14 init) where
  zero := rfl
  succ k hk := ⟨k0_off3 ⟨k, hk⟩, k0_off3_inb ⟨k, hk⟩, _, _, k0_off3_eq ⟨k, hk⟩,
    (st_k0_t3_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 va vb vc vd c0 c1 G13 G14 init ⟨k, hk⟩).trans (by unfold tripR_k0_t3 tripL_k0_t3 trip_k0_t3; rfl)⟩

/-- The fourth strip's loop is such a loop. -/
theorem sweep4 : Sweep arg13.view arg14.view 1536 ve vf G13 G14 init (st_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 va vb vc vd c0 c1 ve vf G13 G14 init) where
  zero := rfl
  succ k hk := ⟨k0_off4 ⟨k, hk⟩, k0_off4_inb ⟨k, hk⟩, _, _, k0_off4_eq ⟨k, hk⟩,
    (st_k0_t4_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 va vb vc vd c0 c1 ve vf G13 G14 init ⟨k, hk⟩).trans (by unfold tripR_k0_t4 tripL_k0_t4 trip_k0_t4; rfl)⟩

/-- The fifth strip's loop is such a loop. -/
theorem sweep5 : Sweep arg13.view arg14.view 2048 va vb G13 G14 init (st_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 va vb vc vd c0 c1 G13 G14 init) where
  zero := rfl
  succ k hk := ⟨k0_off5 ⟨k, hk⟩, k0_off5_inb ⟨k, hk⟩, _, _, k0_off5_eq ⟨k, hk⟩,
    (st_k0_t5_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 va vb vc vd c0 c1 G13 G14 init ⟨k, hk⟩).trans (by unfold tripR_k0_t5 tripL_k0_t5 trip_k0_t5; rfl)⟩

/-- The sixth strip's loop is such a loop. -/
theorem sweep6 : Sweep arg13.view arg14.view 2560 ve vf G13 G14 init (st_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 va vb vc vd c0 c1 ve vf G13 G14 init) where
  zero := rfl
  succ k hk := ⟨k0_off6 ⟨k, hk⟩, k0_off6_inb ⟨k, hk⟩, _, _, k0_off6_eq ⟨k, hk⟩,
    (st_k0_t6_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 va vb vc vd c0 c1 ve vf G13 G14 init ⟨k, hk⟩).trans (by unfold tripR_k0_t6 tripL_k0_t6 trip_k0_t6; rfl)⟩

/-- The seventh strip's loop is such a loop. -/
theorem sweep7 : Sweep arg13.view arg14.view 3072 va vb G13 G14 init (st_k0_t7 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 va vb vc vd c0 c1 G13 G14 init) where
  zero := rfl
  succ k hk := ⟨k0_off7 ⟨k, hk⟩, k0_off7_inb ⟨k, hk⟩, _, _, k0_off7_eq ⟨k, hk⟩,
    (st_k0_t7_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 va vb vc vd c0 c1 G13 G14 init ⟨k, hk⟩).trans (by unfold tripR_k0_t7 tripL_k0_t7 trip_k0_t7; rfl)⟩

/-- The eighth strip's loop is such a loop. -/
theorem sweep8 : Sweep arg13.view arg14.view 3584 ve vf G13 G14 init (st_k0_t8 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 va vb vc vd c0 c1 ve vf G13 G14 init) where
  zero := rfl
  succ k hk := ⟨k0_off8 ⟨k, hk⟩, k0_off8_inb ⟨k, hk⟩, _, _, k0_off8_eq ⟨k, hk⟩,
    (st_k0_t8_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 va vb vc vd c0 c1 ve vf G13 G14 init ⟨k, hk⟩).trans (by unfold tripR_k0_t8 tripL_k0_t8 trip_k0_t8; rfl)⟩

end Cert.ScanPromptIdeal.Gen
-- ==== Proof.ScanPromptIdeal.Chunk.lean ====
module

public import proofs.«01_k».proof.Proof.ScanPromptIdeal.Loops
public import proofs.«01_k».proof.Proof.ScanIdeal.Strip
public import proofs.«01_k».proof.Proof.ScanPromptIdeal.RunA
public import proofs.«01_k».proof.Proof.ScanPromptIdeal.RunB
public import proofs.«01_k».proof.Proof.ScanPromptIdeal.RunC

@[expose] public section

set_option maxRecDepth 16384

noncomputable section

namespace Cert.ScanPromptIdeal.Gen

open Idealize.ShloMosaic Idealize.ShloMosaic.TcCoe
open Cert.ScanIdeal.Gen (inAt re_apply im_apply strip_cons load_at chunkAt strip_pos strip_skip strip_two startAt whole_at start_at)

/-- Loop 1 makes 32 trips. -/
theorem trips1 : Scf.trips k0_t1_loop.lb k0_t1_loop.ub k0_t1_loop.st = 32 := by decide +kernel
/-- Loop 2 makes 32 trips. -/
theorem trips2 : Scf.trips k0_t2_loop.lb k0_t2_loop.ub k0_t2_loop.st = 32 := by decide +kernel
/-- Loop 3 makes 32 trips. -/
theorem trips3 : Scf.trips k0_t3_loop.lb k0_t3_loop.ub k0_t3_loop.st = 32 := by decide +kernel
/-- Loop 4 makes 32 trips. -/
theorem trips4 : Scf.trips k0_t4_loop.lb k0_t4_loop.ub k0_t4_loop.st = 32 := by decide +kernel
/-- Loop 5 makes 32 trips. -/
theorem trips5 : Scf.trips k0_t5_loop.lb k0_t5_loop.ub k0_t5_loop.st = 32 := by decide +kernel
/-- Loop 6 makes 32 trips. -/
theorem trips6 : Scf.trips k0_t6_loop.lb k0_t6_loop.ub k0_t6_loop.st = 32 := by decide +kernel
/-- Loop 7 makes 32 trips. -/
theorem trips7 : Scf.trips k0_t7_loop.lb k0_t7_loop.ub k0_t7_loop.st = 32 := by decide +kernel
/-- Loop 8 makes 32 trips. -/
theorem trips8 : Scf.trips k0_t8_loop.lb k0_t8_loop.ub k0_t8_loop.st = 32 := by decide +kernel

set_option maxHeartbeats 4000000

variable (c : Dev nD) (i : grid0.Coords) (arg2 : Memref sig .tc .vmem S1x256x1024 .f32) (harg2 : arg2.IsWhole) (arg3 : Memref sig .tc .vmem S1x8x4096 .f32) (harg3 : arg3.IsWhole) (arg4 : Memref sig .tc .vmem S1x8x4096 .f32) (harg4 : arg4.IsWhole) (arg5 : Memref sig .tc .vmem S8x4096 .f32) (harg5 : arg5.IsWhole) (arg6 : Memref sig .tc .vmem S8x4096 .f32) (harg6 : arg6.IsWhole) (arg7 : Memref sig .tc .vmem S8x128x1024 .bf16) (harg7 : arg7.IsWhole) (arg8 : Memref sig .tc .vmem S8x1024x128 .bf16) (harg8 : arg8.IsWhole) (arg9 : Memref sig .tc .vmem S1x1024 .f32) (harg9 : arg9.IsWhole) (arg10 : Memref sig .tc .vmem S1x256x1024 .bf16) (harg10 : arg10.IsWhole) (arg11 : Memref sig .tc .vmem S1x8x4096 .f32) (harg11 : arg11.IsWhole) (arg12 : Memref sig .tc .vmem S1x8x4096 .f32) (harg12 : arg12.IsWhole) (arg13 : Memref sig .tc .vmem S256x4096 .f32) (harg13 : arg13.IsWhole) (arg14 : Memref sig .tc .vmem S256x4096 .f32) (harg14 : arg14.IsWhole) (arg15 : Memref sig .tc .vmem S8x4096 .f32) (harg15 : arg15.IsWhole) (arg16 : Memref sig .tc .vmem S8x4096 .f32) (harg16 : arg16.IsWhole)
variable (x0 : Vec Ideal S1x256x1024 .f32) (x1 x2 : Vec Ideal S1x8x4096 .f32) (x3 x4 : Vec Ideal S8x4096 .f32) (x5 : Vec Ideal S8x128x1024 .bf16) (x6 : Vec Ideal S8x1024x128 .bf16) (x7 : Vec Ideal S1x1024 .f32) (x15 x16 : Vec Ideal S8x4096 .f32)

/-- The real inputs' array holds the inputs, in a first chunk. -/
theorem in13A (f : BufTy.Contents (Elt Ideal) arg13.view.ty) (z : S256x4096.Idx) :
    arg13.view.read (Elt Ideal) (arg13.view.writes (Elt Ideal) f (kernelRun0_A.sl.HS0_8 (F := Ideal) c arg2 harg2 arg7 harg7 x0 x5)) z = inAt x0 x5 0 (z 0) (z 1) := by
  have hz : (z 1).val < 4096 := (z 1).isLt
  exact strip_cons 7 rfl (by omega) (fun x h0 h1 => re_apply x0 x5 harg2 harg7 7 (by decide) _ _ rfl rfl _ _ x z h0 h1) fun h =>
    strip_cons 6 rfl (by omega) (fun x h0 h1 => re_apply x0 x5 harg2 harg7 6 (by decide) _ _ rfl rfl _ _ x z h0 h1) fun h =>
    strip_cons 5 rfl (by omega) (fun x h0 h1 => re_apply x0 x5 harg2 harg7 5 (by decide) _ _ rfl rfl _ _ x z h0 h1) fun h =>
    strip_cons 4 rfl (by omega) (fun x h0 h1 => re_apply x0 x5 harg2 harg7 4 (by decide) _ _ rfl rfl _ _ x z h0 h1) fun h =>
    strip_cons 3 rfl (by omega) (fun x h0 h1 => re_apply x0 x5 harg2 harg7 3 (by decide) _ _ rfl rfl _ _ x z h0 h1) fun h =>
    strip_cons 2 rfl (by omega) (fun x h0 h1 => re_apply x0 x5 harg2 harg7 2 (by decide) _ _ rfl rfl _ _ x z h0 h1) fun h =>
    strip_cons 1 rfl (by omega) (fun x h0 h1 => re_apply x0 x5 harg2 harg7 1 (by decide) _ _ rfl rfl _ _ x z h0 h1) fun h =>
    strip_cons 0 rfl (by omega) (fun x h0 h1 => re_apply x0 x5 harg2 harg7 0 (by decide) _ _ rfl rfl _ _ x z h0 h1) fun h => absurd h (by omega)

/-- The imaginary inputs' array holds the inputs, in a first chunk. -/
theorem in14A (f : BufTy.Contents (Elt Ideal) arg14.view.ty) (z : S256x4096.Idx) :
    arg14.view.read (Elt Ideal) (arg14.view.writes (Elt Ideal) f (kernelRun0_A.sl.HS1_8 (F := Ideal) c arg2 harg2 arg7 harg7 x0 x5)) z = inAt x0 x5 512 (z 0) (z 1) := by
  have hz : (z 1).val < 4096 := (z 1).isLt
  exact strip_cons 7 rfl (by omega) (fun x h0 h1 => im_apply x0 x5 harg2 harg7 7 (by decide) _ _ rfl rfl _ _ x z h0 h1) fun h =>
    strip_cons 6 rfl (by omega) (fun x h0 h1 => im_apply x0 x5 harg2 harg7 6 (by decide) _ _ rfl rfl _ _ x z h0 h1) fun h =>
    strip_cons 5 rfl (by omega) (fun x h0 h1 => im_apply x0 x5 harg2 harg7 5 (by decide) _ _ rfl rfl _ _ x z h0 h1) fun h =>
    strip_cons 4 rfl (by omega) (fun x h0 h1 => im_apply x0 x5 harg2 harg7 4 (by decide) _ _ rfl rfl _ _ x z h0 h1) fun h =>
    strip_cons 3 rfl (by omega) (fun x h0 h1 => im_apply x0 x5 harg2 harg7 3 (by decide) _ _ rfl rfl _ _ x z h0 h1) fun h =>
    strip_cons 2 rfl (by omega) (fun x h0 h1 => im_apply x0 x5 harg2 harg7 2 (by decide) _ _ rfl rfl _ _ x z h0 h1) fun h =>
    strip_cons 1 rfl (by omega) (fun x h0 h1 => im_apply x0 x5 harg2 harg7 1 (by decide) _ _ rfl rfl _ _ x z h0 h1) fun h =>
    strip_cons 0 rfl (by omega) (fun x h0 h1 => im_apply x0 x5 harg2 harg7 0 (by decide) _ _ rfl rfl _ _ x z h0 h1) fun h => absurd h (by omega)

/-- The real inputs' array holds the inputs, in the last chunk. -/
theorem in13B (f : BufTy.Contents (Elt Ideal) arg13.view.ty) (z : S256x4096.Idx) :
    arg13.view.read (Elt Ideal) (arg13.view.writes (Elt Ideal) f (kernelRun0_B.sl.HS0_8 (F := Ideal) c arg2 harg2 arg7 harg7 x0 x5)) z = inAt x0 x5 0 (z 0) (z 1) :=
  in13A c arg2 harg2 arg7 harg7 arg13 x0 x5 f z

/-- The imaginary inputs' array holds the inputs, in the last chunk. -/
theorem in14B (f : BufTy.Contents (Elt Ideal) arg14.view.ty) (z : S256x4096.Idx) :
    arg14.view.read (Elt Ideal) (arg14.view.writes (Elt Ideal) f (kernelRun0_B.sl.HS1_8 (F := Ideal) c arg2 harg2 arg7 harg7 x0 x5)) z = inAt x0 x5 512 (z 0) (z 1) :=
  in14A c arg2 harg2 arg7 harg7 arg14 x0 x5 f z

/-- The real inputs' array holds the inputs, in a chunk in between. -/
theorem in13C (f : BufTy.Contents (Elt Ideal) arg13.view.ty) (z : S256x4096.Idx) :
    arg13.view.read (Elt Ideal) (arg13.view.writes (Elt Ideal) f (kernelRun0_C.sl.HS0_8 (F := Ideal) c arg2 harg2 arg7 harg7 x0 x5)) z = inAt x0 x5 0 (z 0) (z 1) :=
  in13A c arg2 harg2 arg7 harg7 arg13 x0 x5 f z

/-- The imaginary inputs' array holds the inputs, in a chunk in between. -/
theorem in14C (f : BufTy.Contents (Elt Ideal) arg14.view.ty) (z : S256x4096.Idx) :
    arg14.view.read (Elt Ideal) (arg14.view.writes (Elt Ideal) f (kernelRun0_C.sl.HS1_8 (F := Ideal) c arg2 harg2 arg7 harg7 x0 x5)) z = inAt x0 x5 512 (z 0) (z 1) :=
  in14A c arg2 harg2 arg7 harg7 arg14 x0 x5 f z

/-- The state that a first chunk leaves. -/
theorem statesA (hc0 : cond0_0 i) (hc1 : ¬cond0_1 i) (f : BufTy.Contents (Elt Ideal) arg15.view.ty) (f' : BufTy.Contents (Elt Ideal) arg16.view.ty) (y : S8x4096.Idx) :
    (arg15.view.read (Elt Ideal) (arg15.view.writes (Elt Ideal) f (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.1) y,
      arg16.view.read (Elt Ideal) (arg16.view.writes (Elt Ideal) f' (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.2.1) y) = chunkAt x0 x3 x4 x5 (startAt x1, startAt x2) y := by
  have hy : (y 1).val < 4096 := (y 1).isLt
  unfold kernelRun0_A
  dsimp only
  exact strip_two 7 rfl (by omega) (fun x h0 h1 => sweep8.result trips8 x y h0 h1
        (fun z hz => sweep7.pass trips7 z (by omega) (sweep6.pass trips6 z (by omega) (sweep5.pass trips5 z (by omega) (sweep4.pass trips4 z (by omega) (sweep3.pass trips3 z (by omega) (sweep2.pass trips2 z (by omega) (sweep1.pass trips1 z (by omega) ⟨in13A c arg2 harg2 arg7 harg7 arg13 x0 x5 _ z, in14A c arg2 harg2 arg7 harg7 arg14 x0 x5 _ z⟩)))))))
        (load_at harg5 x3 _ x y (strip_pos h0 h1)) (load_at harg6 x4 _ x y (strip_pos h0 h1)) (start_at h0 h1 (strip_skip 6 rfl (by omega) (strip_skip 5 rfl (by omega) (strip_skip 4 rfl (by omega) (strip_skip 3 rfl (by omega) (strip_skip 2 rfl (by omega) (strip_skip 1 rfl (by omega) (strip_skip 0 rfl (by omega) (whole_at harg3 x1 _ _ y))))))))) (start_at h0 h1 (strip_skip 6 rfl (by omega) (strip_skip 5 rfl (by omega) (strip_skip 4 rfl (by omega) (strip_skip 3 rfl (by omega) (strip_skip 2 rfl (by omega) (strip_skip 1 rfl (by omega) (strip_skip 0 rfl (by omega) (whole_at harg4 x2 _ _ y)))))))))) fun h =>
    strip_two 6 rfl (by omega) (fun x h0 h1 => sweep7.result trips7 x y h0 h1
        (fun z hz => sweep6.pass trips6 z (by omega) (sweep5.pass trips5 z (by omega) (sweep4.pass trips4 z (by omega) (sweep3.pass trips3 z (by omega) (sweep2.pass trips2 z (by omega) (sweep1.pass trips1 z (by omega) ⟨in13A c arg2 harg2 arg7 harg7 arg13 x0 x5 _ z, in14A c arg2 harg2 arg7 harg7 arg14 x0 x5 _ z⟩))))))
        (load_at harg5 x3 _ x y (strip_pos h0 h1)) (load_at harg6 x4 _ x y (strip_pos h0 h1)) (start_at h0 h1 (strip_skip 5 rfl (by omega) (strip_skip 4 rfl (by omega) (strip_skip 3 rfl (by omega) (strip_skip 2 rfl (by omega) (strip_skip 1 rfl (by omega) (strip_skip 0 rfl (by omega) (whole_at harg3 x1 _ _ y)))))))) (start_at h0 h1 (strip_skip 5 rfl (by omega) (strip_skip 4 rfl (by omega) (strip_skip 3 rfl (by omega) (strip_skip 2 rfl (by omega) (strip_skip 1 rfl (by omega) (strip_skip 0 rfl (by omega) (whole_at harg4 x2 _ _ y))))))))) fun h =>
    strip_two 5 rfl (by omega) (fun x h0 h1 => sweep6.result trips6 x y h0 h1
        (fun z hz => sweep5.pass trips5 z (by omega) (sweep4.pass trips4 z (by omega) (sweep3.pass trips3 z (by omega) (sweep2.pass trips2 z (by omega) (sweep1.pass trips1 z (by omega) ⟨in13A c arg2 harg2 arg7 harg7 arg13 x0 x5 _ z, in14A c arg2 harg2 arg7 harg7 arg14 x0 x5 _ z⟩)))))
        (load_at harg5 x3 _ x y (strip_pos h0 h1)) (load_at harg6 x4 _ x y (strip_pos h0 h1)) (start_at h0 h1 (strip_skip 4 rfl (by omega) (strip_skip 3 rfl (by omega) (strip_skip 2 rfl (by omega) (strip_skip 1 rfl (by omega) (strip_skip 0 rfl (by omega) (whole_at harg3 x1 _ _ y))))))) (start_at h0 h1 (strip_skip 4 rfl (by omega) (strip_skip 3 rfl (by omega) (strip_skip 2 rfl (by omega) (strip_skip 1 rfl (by omega) (strip_skip 0 rfl (by omega) (whole_at harg4 x2 _ _ y)))))))) fun h =>
    strip_two 4 rfl (by omega) (fun x h0 h1 => sweep5.result trips5 x y h0 h1
        (fun z hz => sweep4.pass trips4 z (by omega) (sweep3.pass trips3 z (by omega) (sweep2.pass trips2 z (by omega) (sweep1.pass trips1 z (by omega) ⟨in13A c arg2 harg2 arg7 harg7 arg13 x0 x5 _ z, in14A c arg2 harg2 arg7 harg7 arg14 x0 x5 _ z⟩))))
        (load_at harg5 x3 _ x y (strip_pos h0 h1)) (load_at harg6 x4 _ x y (strip_pos h0 h1)) (start_at h0 h1 (strip_skip 3 rfl (by omega) (strip_skip 2 rfl (by omega) (strip_skip 1 rfl (by omega) (strip_skip 0 rfl (by omega) (whole_at harg3 x1 _ _ y)))))) (start_at h0 h1 (strip_skip 3 rfl (by omega) (strip_skip 2 rfl (by omega) (strip_skip 1 rfl (by omega) (strip_skip 0 rfl (by omega) (whole_at harg4 x2 _ _ y))))))) fun h =>
    strip_two 3 rfl (by omega) (fun x h0 h1 => sweep4.result trips4 x y h0 h1
        (fun z hz => sweep3.pass trips3 z (by omega) (sweep2.pass trips2 z (by omega) (sweep1.pass trips1 z (by omega) ⟨in13A c arg2 harg2 arg7 harg7 arg13 x0 x5 _ z, in14A c arg2 harg2 arg7 harg7 arg14 x0 x5 _ z⟩)))
        (load_at harg5 x3 _ x y (strip_pos h0 h1)) (load_at harg6 x4 _ x y (strip_pos h0 h1)) (start_at h0 h1 (strip_skip 2 rfl (by omega) (strip_skip 1 rfl (by omega) (strip_skip 0 rfl (by omega) (whole_at harg3 x1 _ _ y))))) (start_at h0 h1 (strip_skip 2 rfl (by omega) (strip_skip 1 rfl (by omega) (strip_skip 0 rfl (by omega) (whole_at harg4 x2 _ _ y)))))) fun h =>
    strip_two 2 rfl (by omega) (fun x h0 h1 => sweep3.result trips3 x y h0 h1
        (fun z hz => sweep2.pass trips2 z (by omega) (sweep1.pass trips1 z (by omega) ⟨in13A c arg2 harg2 arg7 harg7 arg13 x0 x5 _ z, in14A c arg2 harg2 arg7 harg7 arg14 x0 x5 _ z⟩))
        (load_at harg5 x3 _ x y (strip_pos h0 h1)) (load_at harg6 x4 _ x y (strip_pos h0 h1)) (start_at h0 h1 (strip_skip 1 rfl (by omega) (strip_skip 0 rfl (by omega) (whole_at harg3 x1 _ _ y)))) (start_at h0 h1 (strip_skip 1 rfl (by omega) (strip_skip 0 rfl (by omega) (whole_at harg4 x2 _ _ y))))) fun h =>
    strip_two 1 rfl (by omega) (fun x h0 h1 => sweep2.result trips2 x y h0 h1
        (fun z hz => sweep1.pass trips1 z (by omega) ⟨in13A c arg2 harg2 arg7 harg7 arg13 x0 x5 _ z, in14A c arg2 harg2 arg7 harg7 arg14 x0 x5 _ z⟩)
        (load_at harg5 x3 _ x y (strip_pos h0 h1)) (load_at harg6 x4 _ x y (strip_pos h0 h1)) (start_at h0 h1 (strip_skip 0 rfl (by omega) (whole_at harg3 x1 _ _ y))) (start_at h0 h1 (strip_skip 0 rfl (by omega) (whole_at harg4 x2 _ _ y)))) fun h =>
    strip_two 0 rfl (by omega) (fun x h0 h1 => sweep1.result trips1 x y h0 h1
        (fun z hz => ⟨in13A c arg2 harg2 arg7 harg7 arg13 x0 x5 _ z, in14A c arg2 harg2 arg7 harg7 arg14 x0 x5 _ z⟩)
        (load_at harg5 x3 _ x y (strip_pos h0 h1)) (load_at harg6 x4 _ x y (strip_pos h0 h1)) (start_at h0 h1 (whole_at harg3 x1 _ _ y)) (start_at h0 h1 (whole_at harg4 x2 _ _ y))) fun h => absurd h (by omega)

/-- The state that the last chunk leaves. -/
theorem statesB (hc0 : ¬cond0_0 i) (hc1 : cond0_1 i) (f : BufTy.Contents (Elt Ideal) arg15.view.ty) (f' : BufTy.Contents (Elt Ideal) arg16.view.ty) (y : S8x4096.Idx) :
    (arg15.view.read (Elt Ideal) (arg15.view.writes (Elt Ideal) f (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x15 x16).2.2.2.1) y,
      arg16.view.read (Elt Ideal) (arg16.view.writes (Elt Ideal) f' (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x15 x16).2.2.2.2.1) y) = chunkAt x0 x3 x4 x5 (x15, x16) y := by
  have hy : (y 1).val < 4096 := (y 1).isLt
  unfold kernelRun0_B
  dsimp only
  exact strip_two 7 rfl (by omega) (fun x h0 h1 => sweep8.result trips8 x y h0 h1
        (fun z hz => sweep7.pass trips7 z (by omega) (sweep6.pass trips6 z (by omega) (sweep5.pass trips5 z (by omega) (sweep4.pass trips4 z (by omega) (sweep3.pass trips3 z (by omega) (sweep2.pass trips2 z (by omega) (sweep1.pass trips1 z (by omega) ⟨in13B c arg2 harg2 arg7 harg7 arg13 x0 x5 _ z, in14B c arg2 harg2 arg7 harg7 arg14 x0 x5 _ z⟩)))))))
        (load_at harg5 x3 _ x y (strip_pos h0 h1)) (load_at harg6 x4 _ x y (strip_pos h0 h1)) (load_at harg15 x15 _ x y (strip_pos h0 h1)) (load_at harg16 x16 _ x y (strip_pos h0 h1))) fun h =>
    strip_two 6 rfl (by omega) (fun x h0 h1 => sweep7.result trips7 x y h0 h1
        (fun z hz => sweep6.pass trips6 z (by omega) (sweep5.pass trips5 z (by omega) (sweep4.pass trips4 z (by omega) (sweep3.pass trips3 z (by omega) (sweep2.pass trips2 z (by omega) (sweep1.pass trips1 z (by omega) ⟨in13B c arg2 harg2 arg7 harg7 arg13 x0 x5 _ z, in14B c arg2 harg2 arg7 harg7 arg14 x0 x5 _ z⟩))))))
        (load_at harg5 x3 _ x y (strip_pos h0 h1)) (load_at harg6 x4 _ x y (strip_pos h0 h1)) (load_at harg15 x15 _ x y (strip_pos h0 h1)) (load_at harg16 x16 _ x y (strip_pos h0 h1))) fun h =>
    strip_two 5 rfl (by omega) (fun x h0 h1 => sweep6.result trips6 x y h0 h1
        (fun z hz => sweep5.pass trips5 z (by omega) (sweep4.pass trips4 z (by omega) (sweep3.pass trips3 z (by omega) (sweep2.pass trips2 z (by omega) (sweep1.pass trips1 z (by omega) ⟨in13B c arg2 harg2 arg7 harg7 arg13 x0 x5 _ z, in14B c arg2 harg2 arg7 harg7 arg14 x0 x5 _ z⟩)))))
        (load_at harg5 x3 _ x y (strip_pos h0 h1)) (load_at harg6 x4 _ x y (strip_pos h0 h1)) (load_at harg15 x15 _ x y (strip_pos h0 h1)) (load_at harg16 x16 _ x y (strip_pos h0 h1))) fun h =>
    strip_two 4 rfl (by omega) (fun x h0 h1 => sweep5.result trips5 x y h0 h1
        (fun z hz => sweep4.pass trips4 z (by omega) (sweep3.pass trips3 z (by omega) (sweep2.pass trips2 z (by omega) (sweep1.pass trips1 z (by omega) ⟨in13B c arg2 harg2 arg7 harg7 arg13 x0 x5 _ z, in14B c arg2 harg2 arg7 harg7 arg14 x0 x5 _ z⟩))))
        (load_at harg5 x3 _ x y (strip_pos h0 h1)) (load_at harg6 x4 _ x y (strip_pos h0 h1)) (load_at harg15 x15 _ x y (strip_pos h0 h1)) (load_at harg16 x16 _ x y (strip_pos h0 h1))) fun h =>
    strip_two 3 rfl (by omega) (fun x h0 h1 => sweep4.result trips4 x y h0 h1
        (fun z hz => sweep3.pass trips3 z (by omega) (sweep2.pass trips2 z (by omega) (sweep1.pass trips1 z (by omega) ⟨in13B c arg2 harg2 arg7 harg7 arg13 x0 x5 _ z, in14B c arg2 harg2 arg7 harg7 arg14 x0 x5 _ z⟩)))
        (load_at harg5 x3 _ x y (strip_pos h0 h1)) (load_at harg6 x4 _ x y (strip_pos h0 h1)) (load_at harg15 x15 _ x y (strip_pos h0 h1)) (load_at harg16 x16 _ x y (strip_pos h0 h1))) fun h =>
    strip_two 2 rfl (by omega) (fun x h0 h1 => sweep3.result trips3 x y h0 h1
        (fun z hz => sweep2.pass trips2 z (by omega) (sweep1.pass trips1 z (by omega) ⟨in13B c arg2 harg2 arg7 harg7 arg13 x0 x5 _ z, in14B c arg2 harg2 arg7 harg7 arg14 x0 x5 _ z⟩))
        (load_at harg5 x3 _ x y (strip_pos h0 h1)) (load_at harg6 x4 _ x y (strip_pos h0 h1)) (load_at harg15 x15 _ x y (strip_pos h0 h1)) (load_at harg16 x16 _ x y (strip_pos h0 h1))) fun h =>
    strip_two 1 rfl (by omega) (fun x h0 h1 => sweep2.result trips2 x y h0 h1
        (fun z hz => sweep1.pass trips1 z (by omega) ⟨in13B c arg2 harg2 arg7 harg7 arg13 x0 x5 _ z, in14B c arg2 harg2 arg7 harg7 arg14 x0 x5 _ z⟩)
        (load_at harg5 x3 _ x y (strip_pos h0 h1)) (load_at harg6 x4 _ x y (strip_pos h0 h1)) (load_at harg15 x15 _ x y (strip_pos h0 h1)) (load_at harg16 x16 _ x y (strip_pos h0 h1))) fun h =>
    strip_two 0 rfl (by omega) (fun x h0 h1 => sweep1.result trips1 x y h0 h1
        (fun z hz => ⟨in13B c arg2 harg2 arg7 harg7 arg13 x0 x5 _ z, in14B c arg2 harg2 arg7 harg7 arg14 x0 x5 _ z⟩)
        (load_at harg5 x3 _ x y (strip_pos h0 h1)) (load_at harg6 x4 _ x y (strip_pos h0 h1)) (load_at harg15 x15 _ x y (strip_pos h0 h1)) (load_at harg16 x16 _ x y (strip_pos h0 h1))) fun h => absurd h (by omega)

/-- The state that a chunk in between leaves. -/
theorem statesC (hc0 : ¬cond0_0 i) (hc1 : ¬cond0_1 i) (f : BufTy.Contents (Elt Ideal) arg15.view.ty) (f' : BufTy.Contents (Elt Ideal) arg16.view.ty) (y : S8x4096.Idx) :
    (arg15.view.read (Elt Ideal) (arg15.view.writes (Elt Ideal) f (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x15 x16).2.2.2.1) y,
      arg16.view.read (Elt Ideal) (arg16.view.writes (Elt Ideal) f' (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x15 x16).2.2.2.2.1) y) = chunkAt x0 x3 x4 x5 (x15, x16) y := by
  have hy : (y 1).val < 4096 := (y 1).isLt
  unfold kernelRun0_C
  dsimp only
  exact strip_two 7 rfl (by omega) (fun x h0 h1 => sweep8.result trips8 x y h0 h1
        (fun z hz => sweep7.pass trips7 z (by omega) (sweep6.pass trips6 z (by omega) (sweep5.pass trips5 z (by omega) (sweep4.pass trips4 z (by omega) (sweep3.pass trips3 z (by omega) (sweep2.pass trips2 z (by omega) (sweep1.pass trips1 z (by omega) ⟨in13C c arg2 harg2 arg7 harg7 arg13 x0 x5 _ z, in14C c arg2 harg2 arg7 harg7 arg14 x0 x5 _ z⟩)))))))
        (load_at harg5 x3 _ x y (strip_pos h0 h1)) (load_at harg6 x4 _ x y (strip_pos h0 h1)) (load_at harg15 x15 _ x y (strip_pos h0 h1)) (load_at harg16 x16 _ x y (strip_pos h0 h1))) fun h =>
    strip_two 6 rfl (by omega) (fun x h0 h1 => sweep7.result trips7 x y h0 h1
        (fun z hz => sweep6.pass trips6 z (by omega) (sweep5.pass trips5 z (by omega) (sweep4.pass trips4 z (by omega) (sweep3.pass trips3 z (by omega) (sweep2.pass trips2 z (by omega) (sweep1.pass trips1 z (by omega) ⟨in13C c arg2 harg2 arg7 harg7 arg13 x0 x5 _ z, in14C c arg2 harg2 arg7 harg7 arg14 x0 x5 _ z⟩))))))
        (load_at harg5 x3 _ x y (strip_pos h0 h1)) (load_at harg6 x4 _ x y (strip_pos h0 h1)) (load_at harg15 x15 _ x y (strip_pos h0 h1)) (load_at harg16 x16 _ x y (strip_pos h0 h1))) fun h =>
    strip_two 5 rfl (by omega) (fun x h0 h1 => sweep6.result trips6 x y h0 h1
        (fun z hz => sweep5.pass trips5 z (by omega) (sweep4.pass trips4 z (by omega) (sweep3.pass trips3 z (by omega) (sweep2.pass trips2 z (by omega) (sweep1.pass trips1 z (by omega) ⟨in13C c arg2 harg2 arg7 harg7 arg13 x0 x5 _ z, in14C c arg2 harg2 arg7 harg7 arg14 x0 x5 _ z⟩)))))
        (load_at harg5 x3 _ x y (strip_pos h0 h1)) (load_at harg6 x4 _ x y (strip_pos h0 h1)) (load_at harg15 x15 _ x y (strip_pos h0 h1)) (load_at harg16 x16 _ x y (strip_pos h0 h1))) fun h =>
    strip_two 4 rfl (by omega) (fun x h0 h1 => sweep5.result trips5 x y h0 h1
        (fun z hz => sweep4.pass trips4 z (by omega) (sweep3.pass trips3 z (by omega) (sweep2.pass trips2 z (by omega) (sweep1.pass trips1 z (by omega) ⟨in13C c arg2 harg2 arg7 harg7 arg13 x0 x5 _ z, in14C c arg2 harg2 arg7 harg7 arg14 x0 x5 _ z⟩))))
        (load_at harg5 x3 _ x y (strip_pos h0 h1)) (load_at harg6 x4 _ x y (strip_pos h0 h1)) (load_at harg15 x15 _ x y (strip_pos h0 h1)) (load_at harg16 x16 _ x y (strip_pos h0 h1))) fun h =>
    strip_two 3 rfl (by omega) (fun x h0 h1 => sweep4.result trips4 x y h0 h1
        (fun z hz => sweep3.pass trips3 z (by omega) (sweep2.pass trips2 z (by omega) (sweep1.pass trips1 z (by omega) ⟨in13C c arg2 harg2 arg7 harg7 arg13 x0 x5 _ z, in14C c arg2 harg2 arg7 harg7 arg14 x0 x5 _ z⟩)))
        (load_at harg5 x3 _ x y (strip_pos h0 h1)) (load_at harg6 x4 _ x y (strip_pos h0 h1)) (load_at harg15 x15 _ x y (strip_pos h0 h1)) (load_at harg16 x16 _ x y (strip_pos h0 h1))) fun h =>
    strip_two 2 rfl (by omega) (fun x h0 h1 => sweep3.result trips3 x y h0 h1
        (fun z hz => sweep2.pass trips2 z (by omega) (sweep1.pass trips1 z (by omega) ⟨in13C c arg2 harg2 arg7 harg7 arg13 x0 x5 _ z, in14C c arg2 harg2 arg7 harg7 arg14 x0 x5 _ z⟩))
        (load_at harg5 x3 _ x y (strip_pos h0 h1)) (load_at harg6 x4 _ x y (strip_pos h0 h1)) (load_at harg15 x15 _ x y (strip_pos h0 h1)) (load_at harg16 x16 _ x y (strip_pos h0 h1))) fun h =>
    strip_two 1 rfl (by omega) (fun x h0 h1 => sweep2.result trips2 x y h0 h1
        (fun z hz => sweep1.pass trips1 z (by omega) ⟨in13C c arg2 harg2 arg7 harg7 arg13 x0 x5 _ z, in14C c arg2 harg2 arg7 harg7 arg14 x0 x5 _ z⟩)
        (load_at harg5 x3 _ x y (strip_pos h0 h1)) (load_at harg6 x4 _ x y (strip_pos h0 h1)) (load_at harg15 x15 _ x y (strip_pos h0 h1)) (load_at harg16 x16 _ x y (strip_pos h0 h1))) fun h =>
    strip_two 0 rfl (by omega) (fun x h0 h1 => sweep1.result trips1 x y h0 h1
        (fun z hz => ⟨in13C c arg2 harg2 arg7 harg7 arg13 x0 x5 _ z, in14C c arg2 harg2 arg7 harg7 arg14 x0 x5 _ z⟩)
        (load_at harg5 x3 _ x y (strip_pos h0 h1)) (load_at harg6 x4 _ x y (strip_pos h0 h1)) (load_at harg15 x15 _ x y (strip_pos h0 h1)) (load_at harg16 x16 _ x y (strip_pos h0 h1))) fun h => absurd h (by omega)

end Cert.ScanPromptIdeal.Gen
-- ==== Proof.ScanPromptIdeal.Total.lean ====
module

public import proofs.«01_k».proof.Proof.ScanIdeal.Input
public import proofs.«01_k».proof.Proof.Gen.ScanPromptIdeal

@[expose] public section

noncomputable section

namespace Cert.ScanPromptIdeal.Gen

open Idealize.ShloMosaic
open Cert.ScanIdeal.Gen (cellAt bIx)

/-- Entry `(p, k)` of the inputs, `p` counting the times of all sequences. -/
abbrev tIx (p : Fin 16384) (k : Fin 1024) : S16384x1024.Idx := fun a => match a with
  | ⟨0, _⟩ => ⟨p.val, p.isLt⟩
  | ⟨1, _⟩ => ⟨k.val, k.isLt⟩

/-- Entry `(s, n)` of the starting states and of the factors. -/
abbrev sIx (s : Fin 8) (n : Fin 4096) : S8x4096.Idx := fun a => match a with
  | ⟨0, _⟩ => ⟨s.val, s.isLt⟩
  | ⟨1, _⟩ => ⟨n.val, n.isLt⟩

/-- A part (from column `q`) of the input of sequence `s`'s state at time `t` and column `n`. -/
def seqIn (u : S16384x1024.Idx → EReal) (w : S8x128x1024.Idx → EReal) (q : Fin 513) (s : Fin 8) (n : Fin 4096) (t : ℕ) : EReal :=
  ∑ l : Fin 128, u (tIx ⟨2048 * s.val + t % 2048, by omega⟩ ⟨128 * (n.val / 512) + l.val, by omega⟩) * w (bIx ⟨n.val / 512, by omega⟩ l ⟨q.val + n.val % 512, by omega⟩)

/-- Column `n` of sequence `s`'s state after `k` steps. -/
def seqState (u : S16384x1024.Idx → EReal) (s0 s1 ar ai : S8x4096.Idx → EReal) (w : S8x128x1024.Idx → EReal)
    (s : Fin 8) (n : Fin 4096) (k : ℕ) : EReal × EReal :=
  cellAt (F := Ideal) (ar (sIx s n)) (ai (sIx s n)) (seqIn u w 0 s n) (seqIn u w 512 s n) (s0 (sIx s n), s1 (sIx s n)) k

/-- The states that the eight sequences end in: entry `(0, s, n)` is that of sequence `s` after 2048 steps. -/
def endState (u : S16384x1024.Idx → EReal) (s0 s1 ar ai : S8x4096.Idx → EReal) (w : S8x128x1024.Idx → EReal)
    (i : S1x8x4096.Idx) : EReal × EReal :=
  seqState u s0 s1 ar ai w (i 1) (i 2) 2048

end Cert.ScanPromptIdeal.Gen

end
-- ==== Proof.ScanPromptIdeal.Value.lean ====
module

public import proofs.«01_k».proof.Proof.ScanPromptIdeal.Frame
public import proofs.«01_k».proof.Proof.ScanPromptIdeal.Chunk
public import proofs.«01_k».proof.Proof.ScanPromptIdeal.Total

@[expose] public section

set_option maxRecDepth 16384

noncomputable section

namespace Cert.ScanPromptIdeal.Gen

open Idealize.ShloMosaic Idealize.ShloMosaic.TcCoe Idealize.ShloMosaic.Tactic
open Cert.ScanIdeal.Gen (wIx out_at chunkAt startAt uIx bIx inAt cellAt cellAt_add cellAt_congr)

section
variable (c : Dev nD) (i : grid0.Coords) (arg2 : Memref sig .tc .vmem S1x256x1024 .f32) (harg2 : arg2.IsWhole) (arg3 : Memref sig .tc .vmem S1x8x4096 .f32) (harg3 : arg3.IsWhole) (arg4 : Memref sig .tc .vmem S1x8x4096 .f32) (harg4 : arg4.IsWhole) (arg5 : Memref sig .tc .vmem S8x4096 .f32) (harg5 : arg5.IsWhole) (arg6 : Memref sig .tc .vmem S8x4096 .f32) (harg6 : arg6.IsWhole) (arg7 : Memref sig .tc .vmem S8x128x1024 .bf16) (harg7 : arg7.IsWhole) (arg8 : Memref sig .tc .vmem S8x1024x128 .bf16) (harg8 : arg8.IsWhole) (arg9 : Memref sig .tc .vmem S1x1024 .f32) (harg9 : arg9.IsWhole) (arg10 : Memref sig .tc .vmem S1x256x1024 .bf16) (harg10 : arg10.IsWhole) (arg11 : Memref sig .tc .vmem S1x8x4096 .f32) (harg11 : arg11.IsWhole) (arg12 : Memref sig .tc .vmem S1x8x4096 .f32) (harg12 : arg12.IsWhole) (arg13 : Memref sig .tc .vmem S256x4096 .f32) (harg13 : arg13.IsWhole) (arg14 : Memref sig .tc .vmem S256x4096 .f32) (harg14 : arg14.IsWhole) (arg15 : Memref sig .tc .vmem S8x4096 .f32) (harg15 : arg15.IsWhole) (arg16 : Memref sig .tc .vmem S8x4096 .f32) (harg16 : arg16.IsWhole)
variable (x0 : Vec Ideal S1x256x1024 .f32) (x1 x2 : Vec Ideal S1x8x4096 .f32) (x3 x4 : Vec Ideal S8x4096 .f32) (x5 : Vec Ideal S8x128x1024 .bf16) (x6 : Vec Ideal S8x1024x128 .bf16) (x7 : Vec Ideal S1x1024 .f32) (x15 x16 : Vec Ideal S8x4096 .f32)

/-- A last chunk's outputs hold the state that it leaves. -/
theorem outsB (hc0 : ¬cond0_0 i) (hc1 : cond0_1 i) (v v' : View sig .tc .vmem S1x8x4096 .f32) (f : v.ty.Contents (Elt Ideal)) (f' : v'.ty.Contents (Elt Ideal)) (y : S8x4096.Idx) :
    (v.read (Elt Ideal) (v.writes (Elt Ideal) f (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x15 x16).2.1) (wIx y),
      v'.read (Elt Ideal) (v'.writes (Elt Ideal) f' (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x15 x16).2.2.1) (wIx y)) = chunkAt x0 x3 x4 x5 (x15, x16) y := by
  refine Eq.trans ?_ (statesB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x15 x16 hc0 hc1 arg15.view.junk arg16.view.junk y)
  unfold kernelRun0_B
  dsimp only
  exact congrArg₂ Prod.mk (out_at v f arg15.view _ _ _ y) (out_at v' f' arg16.view _ _ _ y)
end

variable (m : (ℓ : Loc nD τ sig) → Buf (Elt Ideal) ℓ) (c : Dev nD)

/-- The blocks that each window is at, point by point. -/
theorem at_u : ∀ t : Fin cfg0.N, win0_0.index t (0 : Fin 3) = t.val / 64 ∧ win0_0.index t (1 : Fin 3) = t.val % 64 ∧ win0_0.index t (2 : Fin 3) = 0 :=
  (by decide +kernel : ∀ t : Fin grid0.N, _)
/-- The part of the real start states that a point reads. -/
theorem at_s0 : ∀ t : Fin cfg0.N, win0_1.index t (0 : Fin 3) = t.val / 64 ∧ win0_1.index t (1 : Fin 3) = 0 ∧ win0_1.index t (2 : Fin 3) = 0 :=
  (by decide +kernel : ∀ t : Fin grid0.N, _)
/-- The part of the imaginary start states that a point reads. -/
theorem at_s1 : ∀ t : Fin cfg0.N, win0_2.index t (0 : Fin 3) = t.val / 64 ∧ win0_2.index t (1 : Fin 3) = 0 ∧ win0_2.index t (2 : Fin 3) = 0 :=
  (by decide +kernel : ∀ t : Fin grid0.N, _)
/-- Every point reads the real factors whole. -/
theorem at_ar : ∀ t : Fin cfg0.N, win0_3.index t (0 : Fin 2) = 0 ∧ win0_3.index t (1 : Fin 2) = 0 :=
  (by decide +kernel : ∀ t : Fin grid0.N, _)
/-- Every point reads the imaginary factors whole. -/
theorem at_ai : ∀ t : Fin cfg0.N, win0_4.index t (0 : Fin 2) = 0 ∧ win0_4.index t (1 : Fin 2) = 0 :=
  (by decide +kernel : ∀ t : Fin grid0.N, _)
/-- Every point reads the input matrices whole. -/
theorem at_b : ∀ t : Fin cfg0.N, win0_5.index t (0 : Fin 3) = 0 ∧ win0_5.index t (1 : Fin 3) = 0 ∧ win0_5.index t (2 : Fin 3) = 0 :=
  (by decide +kernel : ∀ t : Fin grid0.N, _)
/-- The part of the real final states that a point works on. -/
theorem at_re : ∀ t : Fin cfg0.N, win0_9.index t (0 : Fin 3) = t.val / 64 ∧ win0_9.index t (1 : Fin 3) = 0 ∧ win0_9.index t (2 : Fin 3) = 0 :=
  (by decide +kernel : ∀ t : Fin grid0.N, _)
/-- The part of the imaginary final states that a point works on. -/
theorem at_im : ∀ t : Fin cfg0.N, win0_10.index t (0 : Fin 3) = t.val / 64 ∧ win0_10.index t (1 : Fin 3) = 0 ∧ win0_10.index t (2 : Fin 3) = 0 :=
  (by decide +kernel : ∀ t : Fin grid0.N, _)

/-- The call's arguments. -/
abbrev uA : S16384x1024.Idx → EReal := m ((c : Thread nD τ).loc main_arg0)
abbrev s0A : S8x4096.Idx → EReal := m ((c : Thread nD τ).loc main_arg1)
abbrev s1A : S8x4096.Idx → EReal := m ((c : Thread nD τ).loc main_arg2)
abbrev arA : S8x4096.Idx → EReal := m ((c : Thread nD τ).loc main_arg3)
abbrev aiA : S8x4096.Idx → EReal := m ((c : Thread nD τ).loc main_arg4)
abbrev bA : S8x128x1024.Idx → EReal := m ((c : Thread nD τ).loc main_arg5)

/-- Entry `(g, p, k)` of the inputs put in order of time, `p = 8 t + r`. -/
abbrev gIx (g : Fin 1) (p : Fin 16384) (k : Fin 1024) : S1x16384x1024.Idx := fun a => match a with
  | ⟨0, _⟩ => ⟨g.val, g.isLt⟩
  | ⟨1, _⟩ => ⟨p.val, p.isLt⟩
  | ⟨2, _⟩ => ⟨k.val, k.isLt⟩
abbrev g4Ix (g : Fin 1) (p : Fin 16384) (k : Fin 1024) : S1x2048x8x1024.Idx := fun a => match a with
  | ⟨0, _⟩ => ⟨g.val, g.isLt⟩
  | ⟨1, _⟩ => ⟨p.val / 8, by show p.val / 8 < 2048; omega⟩
  | ⟨2, _⟩ => ⟨p.val % 8, Nat.mod_lt _ (by decide)⟩
  | ⟨3, _⟩ => ⟨k.val, k.isLt⟩
abbrev g5Ix (g : Fin 1) (p : Fin 16384) (k : Fin 1024) : S1x8x2048x1024.Idx := fun a => match a with
  | ⟨0, _⟩ => ⟨g.val, g.isLt⟩
  | ⟨1, _⟩ => ⟨p.val % 8, Nat.mod_lt _ (by decide)⟩
  | ⟨2, _⟩ => ⟨p.val / 8, by show p.val / 8 < 2048; omega⟩
  | ⟨3, _⟩ => ⟨k.val, k.isLt⟩
abbrev hIx (g : Fin 1) (y : S8x4096.Idx) : S1x8x4096.Idx := fun a => match a with
  | ⟨0, _⟩ => ⟨g.val, g.isLt⟩
  | ⟨1, _⟩ => y 0
  | ⟨2, _⟩ => y 1

/-- The inputs as the host part lays them out. -/
theorem V_u : (V m c main_v2 : S1x16384x1024.Idx → EReal) = shapeCast S1x16384x1024 (transpose S1x2048x8x1024 [0, 2, 1, 3] (shapeCast S1x8x2048x1024 (uA m c) shapeCasts_S16384x1024_S1x8x2048x1024) transposes_S1x8x2048x1024_S1x2048x8x1024_0_2_1_3) shapeCasts_S1x2048x8x1024_S1x16384x1024 := by
  unfold V hostOps0
  after_results
  rfl

/-- The real start states as the host part lays them out. -/
theorem V_s0 : (V m c main_v3 : S1x8x4096.Idx → EReal) = shapeCast S1x8x4096 (s0A m c) shapeCasts_S8x4096_S1x8x4096 := by
  unfold V hostOps0
  after_results
  rfl

/-- The imaginary start states as the host part lays them out. -/
theorem V_s1 : (V m c main_v4 : S1x8x4096.Idx → EReal) = shapeCast S1x8x4096 (s1A m c) shapeCasts_S8x4096_S1x8x4096 := by
  unfold V hostOps0
  after_results
  rfl

/-- The inputs that the call finds, by group, time and sequence. -/
theorem u_at (g : Fin 1) (p : Fin 16384) (k : Fin 1024) : (V m c main_v2 : S1x16384x1024.Idx → EReal) (gIx g p k) = uA m c (tIx ⟨2048 * (8 * g.val + p.val % 8) + p.val / 8, by omega⟩ k) := by
  rw [V_u]
  refine (shapeCast_apply _ _ (gIx g p k) (g4Ix g p k) ?_).trans ((transpose_apply _ _ _ (g4Ix g p k) (g5Ix g p k) (fun b => ?_)).trans (shapeCast_apply _ _ (g5Ix g p k) (tIx ⟨2048 * (8 * g.val + p.val % 8) + p.val / 8, by omega⟩ k) ?_))
  · rw [Shape.rowMajor_val_four, Shape.rowMajor_val_three]
    show ((g.val * 2048 + p.val / 8) * 8 + p.val % 8) * 1024 + k.val = (g.val * 16384 + p.val) * 1024 + k.val
    omega
  · match b with
    | ⟨0, _⟩ => rfl
    | ⟨1, _⟩ => rfl
    | ⟨2, _⟩ => rfl
    | ⟨3, _⟩ => rfl
  · rw [Shape.rowMajor_val_four, Shape.rowMajor_val_two]
    show (2048 * (8 * g.val + p.val % 8) + p.val / 8) * 1024 + k.val = ((g.val * 8 + p.val % 8) * 2048 + p.val / 8) * 1024 + k.val
    omega

/-- A starting state grouped by eight sequences. -/
theorem grouped (x : S8x4096.Idx → EReal) (g : Fin 1) (y : S8x4096.Idx) :
    (shapeCast S1x8x4096 x shapeCasts_S8x4096_S1x8x4096 : S1x8x4096.Idx → EReal) (hIx g y) = x (sIx ⟨8 * g.val + (y 0).val, by have h0 : (y 0).val < 8 := (y 0).isLt; omega⟩ (y 1)) := by
  refine shapeCast_apply _ _ (hIx g y) _ ?_
  rw [Shape.rowMajor_val_three, Shape.rowMajor_val_two]
  show (8 * g.val + (y 0).val) * 4096 + (y 1).val = (g.val * 8 + (y 0).val) * 4096 + (y 1).val
  omega

/-- The group of a point. -/
abbrev grp (t : Fin cfg0.N) : Fin 1 := ⟨t.val / 64, by have := lt_of_lt_of_eq t.isLt (show cfg0.N = 64 from N_0); omega⟩

/-- The sequence that row `y 0` of a point belongs to. -/
abbrev seqOf (t : Fin cfg0.N) (y : S8x4096.Idx) : Fin 8 := ⟨8 * (t.val / 64) + (y 0).val, by
  have h0 : (y 0).val < 8 := (y 0).isLt
  have := lt_of_lt_of_eq t.isLt (show cfg0.N = 64 from N_0)
  omega⟩

/-- A point's inputs, by sequence and step. -/
theorem block_u (t : Fin cfg0.N) (r : Fin 256) (k : Fin 1024) : (iblk m c 0 t : S1x256x1024.Idx → EReal) (uIx r k)
    = uA m c (tIx ⟨2048 * (8 * (t.val / 64) + r.val % 8) + (32 * (t.val % 64) + r.val / 8), by have := lt_of_lt_of_eq t.isLt (show cfg0.N = 64 from N_0); omega⟩ k) := by
  obtain ⟨e0, e1, e2⟩ := at_u t
  have hN := lt_of_lt_of_eq t.isLt (show cfg0.N = 64 from N_0)
  unfold iblk
  have hk : ∀ a : Fin 3, (((cfg0.win 0).blk t).view.emb (uIx r k) a).val = win0_0.index t a * S1x256x1024.size a + 1 * ((uIx r k) a).val := fun a => rfl
  refine Eq.trans ?_ ((u_at m c (grp t) ⟨256 * (t.val % 64) + r.val, by omega⟩ k).trans (congrArg (uA m c) (funext fun a => Fin.ext ?_)))
  · show (V m c main_v2 : S1x16384x1024.Idx → EReal) (((cfg0.win 0).blk t).view.emb (uIx r k)) = _
    refine congrArg (V m c main_v2 : S1x16384x1024.Idx → EReal) (funext fun a => Fin.ext ((hk a).trans ?_))
    match a with
    | ⟨0, _⟩ => show win0_0.index t (0 : Fin 3) * 1 + 1 * 0 = t.val / 64; rw [e0]; omega
    | ⟨1, _⟩ => show win0_0.index t (1 : Fin 3) * 256 + 1 * r.val = 256 * (t.val % 64) + r.val; rw [e1]; omega
    | ⟨2, _⟩ => show win0_0.index t (2 : Fin 3) * 1024 + 1 * k.val = k.val; rw [e2]; omega
  · match a with
    | ⟨0, _⟩ => show 2048 * (8 * (t.val / 64) + (256 * (t.val % 64) + r.val) % 8) + (256 * (t.val % 64) + r.val) / 8 = 2048 * (8 * (t.val / 64) + r.val % 8) + (32 * (t.val % 64) + r.val / 8); omega
    | ⟨1, _⟩ => rfl

/-- A point's real start states. -/
theorem block_s0 (t : Fin cfg0.N) (y : S8x4096.Idx) : startAt (iblk m c 1 t) y = s0A m c (sIx (seqOf t y) (y 1)) := by
  obtain ⟨e0, e1, e2⟩ := at_s0 t
  unfold startAt iblk
  have hk : ∀ a : Fin 3, (((cfg0.win 1).blk t).view.emb (wIx y) a).val = win0_1.index t a * S1x8x4096.size a + 1 * ((wIx y) a).val := fun a => rfl
  refine Eq.trans ?_ (grouped (s0A m c) (grp t) y)
  rw [← V_s0]
  show (V m c main_v3 : S1x8x4096.Idx → EReal) (((cfg0.win 1).blk t).view.emb (wIx y)) = _
  refine congrArg (V m c main_v3 : S1x8x4096.Idx → EReal) (funext fun a => Fin.ext ((hk a).trans ?_))
  match a with
  | ⟨0, _⟩ => show win0_1.index t (0 : Fin 3) * 1 + 1 * 0 = t.val / 64; rw [e0]; omega
  | ⟨1, _⟩ => show win0_1.index t (1 : Fin 3) * 8 + 1 * (y 0).val = (y 0).val; rw [e1]; omega
  | ⟨2, _⟩ => show win0_1.index t (2 : Fin 3) * 4096 + 1 * (y 1).val = (y 1).val; rw [e2]; omega

/-- A point's imaginary start states. -/
theorem block_s1 (t : Fin cfg0.N) (y : S8x4096.Idx) : startAt (iblk m c 2 t) y = s1A m c (sIx (seqOf t y) (y 1)) := by
  obtain ⟨e0, e1, e2⟩ := at_s1 t
  unfold startAt iblk
  have hk : ∀ a : Fin 3, (((cfg0.win 2).blk t).view.emb (wIx y) a).val = win0_2.index t a * S1x8x4096.size a + 1 * ((wIx y) a).val := fun a => rfl
  refine Eq.trans ?_ (grouped (s1A m c) (grp t) y)
  rw [← V_s1]
  show (V m c main_v4 : S1x8x4096.Idx → EReal) (((cfg0.win 2).blk t).view.emb (wIx y)) = _
  refine congrArg (V m c main_v4 : S1x8x4096.Idx → EReal) (funext fun a => Fin.ext ((hk a).trans ?_))
  match a with
  | ⟨0, _⟩ => show win0_2.index t (0 : Fin 3) * 1 + 1 * 0 = t.val / 64; rw [e0]; omega
  | ⟨1, _⟩ => show win0_2.index t (1 : Fin 3) * 8 + 1 * (y 0).val = (y 0).val; rw [e1]; omega
  | ⟨2, _⟩ => show win0_2.index t (2 : Fin 3) * 4096 + 1 * (y 1).val = (y 1).val; rw [e2]; omega

/-- A point's real factors. -/
theorem block_ar (t : Fin cfg0.N) (y : S8x4096.Idx) : (iblk m c 3 t : S8x4096.Idx → EReal) y = arA m c (sIx (y 0) (y 1)) := by
  obtain ⟨e0, e1⟩ := at_ar t
  unfold iblk
  have hk : ∀ a : Fin 2, (((cfg0.win 3).blk t).view.emb y a).val = win0_3.index t a * S8x4096.size a + 1 * (y a).val := fun a => rfl
  refine Eq.trans ?_ (congrFun (V_keep m c main_arg3 (by decide)) (sIx (y 0) (y 1)))
  show (V m c main_arg3 : S8x4096.Idx → EReal) (((cfg0.win 3).blk t).view.emb y) = _
  refine congrArg (V m c main_arg3 : S8x4096.Idx → EReal) (funext fun a => Fin.ext ((hk a).trans ?_))
  match a with
  | ⟨0, _⟩ => show win0_3.index t (0 : Fin 2) * 8 + 1 * (y 0).val = (y 0).val; rw [e0]; omega
  | ⟨1, _⟩ => show win0_3.index t (1 : Fin 2) * 4096 + 1 * (y 1).val = (y 1).val; rw [e1]; omega

/-- A point's imaginary factors. -/
theorem block_ai (t : Fin cfg0.N) (y : S8x4096.Idx) : (iblk m c 4 t : S8x4096.Idx → EReal) y = aiA m c (sIx (y 0) (y 1)) := by
  obtain ⟨e0, e1⟩ := at_ai t
  unfold iblk
  have hk : ∀ a : Fin 2, (((cfg0.win 4).blk t).view.emb y a).val = win0_4.index t a * S8x4096.size a + 1 * (y a).val := fun a => rfl
  refine Eq.trans ?_ (congrFun (V_keep m c main_arg4 (by decide)) (sIx (y 0) (y 1)))
  show (V m c main_arg4 : S8x4096.Idx → EReal) (((cfg0.win 4).blk t).view.emb y) = _
  refine congrArg (V m c main_arg4 : S8x4096.Idx → EReal) (funext fun a => Fin.ext ((hk a).trans ?_))
  match a with
  | ⟨0, _⟩ => show win0_4.index t (0 : Fin 2) * 8 + 1 * (y 0).val = (y 0).val; rw [e0]; omega
  | ⟨1, _⟩ => show win0_4.index t (1 : Fin 2) * 4096 + 1 * (y 1).val = (y 1).val; rw [e1]; omega

/-- A point's input matrices. -/
theorem block_b (t : Fin cfg0.N) (b : Fin 8) (l : Fin 128) (q : Fin 1024) : (iblk m c 5 t : S8x128x1024.Idx → EReal) (bIx b l q) = bA m c (bIx b l q) := by
  obtain ⟨e0, e1, e2⟩ := at_b t
  unfold iblk
  have hk : ∀ a : Fin 3, (((cfg0.win 5).blk t).view.emb (bIx b l q) a).val = win0_5.index t a * S8x128x1024.size a + 1 * ((bIx b l q) a).val := fun a => rfl
  refine Eq.trans ?_ (congrFun (V_keep m c main_arg5 (by decide)) (bIx b l q))
  show (V m c main_arg5 : S8x128x1024.Idx → EReal) (((cfg0.win 5).blk t).view.emb (bIx b l q)) = _
  refine congrArg (V m c main_arg5 : S8x128x1024.Idx → EReal) (funext fun a => Fin.ext ((hk a).trans ?_))
  match a with
  | ⟨0, _⟩ => show win0_5.index t (0 : Fin 3) * 8 + 1 * b.val = b.val; rw [e0]; omega
  | ⟨1, _⟩ => show win0_5.index t (1 : Fin 3) * 128 + 1 * l.val = l.val; rw [e1]; omega
  | ⟨2, _⟩ => show win0_5.index t (2 : Fin 3) * 1024 + 1 * q.val = q.val; rw [e2]; omega

/-- A point's inputs to the state are those of its half of the times. -/
theorem in_at (t : Fin cfg0.N) (q : Fin 513) (y : S8x4096.Idx) (p : ℕ) (hp : p < 32) :
    inAt (iblk m c 0 t) (iblk m c 5 t) q ⟨(8 * p + (y 0).val) % 256, Nat.mod_lt _ (by decide)⟩ (y 1) = seqIn (uA m c) (bA m c) q (seqOf t y) (y 1) (32 * (t.val % 64) + p) := by
  have h0 : (y 0).val < 8 := (y 0).isLt
  have h1 : (y 1).val < 4096 := (y 1).isLt
  have hN := lt_of_lt_of_eq t.isLt (show cfg0.N = 64 from N_0)
  unfold inAt seqIn
  refine Finset.sum_congr rfl fun l _ => congrArg₂ (· * ·) ((block_u m c t _ _).trans (congrArg (uA m c) (funext fun a => Fin.ext ?_))) (block_b m c t _ l _)
  match a with
  | ⟨0, _⟩ =>
    show 2048 * (8 * (t.val / 64) + (8 * p + (y 0).val) % 256 % 8) + (32 * (t.val % 64) + (8 * p + (y 0).val) % 256 / 8) = 2048 * (8 * (t.val / 64) + (y 0).val) + (32 * (t.val % 64) + p) % 2048
    omega
  | ⟨1, _⟩ => rfl

/-- The factors of a sequence, which are those of its place in its group. -/
theorem factor (x : S8x4096.Idx → EReal) (t : Fin cfg0.N) (y : S8x4096.Idx) : x (sIx (y 0) (y 1)) = x (sIx (seqOf t y) (y 1)) := by
  have h0 : (y 0).val < 8 := (y 0).isLt
  have hN := lt_of_lt_of_eq t.isLt (show cfg0.N = 64 from N_0)
  refine congrArg x (funext fun a => Fin.ext ?_)
  match a with
  | ⟨0, _⟩ => show (y 0).val = 8 * (t.val / 64) + (y 0).val; omega
  | ⟨1, _⟩ => rfl

/-- What a chunk makes of a state, as steps of the sequence's recurrence. -/
theorem chunk_at (t : Fin cfg0.N) (s : StateOf Ideal) (y : S8x4096.Idx) :
    chunkAt (iblk m c 0 t) (iblk m c 3 t) (iblk m c 4 t) (iblk m c 5 t) s y
      = cellAt (F := Ideal) (arA m c (sIx (seqOf t y) (y 1))) (aiA m c (sIx (seqOf t y) (y 1)))
        (fun p => seqIn (uA m c) (bA m c) 0 (seqOf t y) (y 1) (32 * (t.val % 64) + p)) (fun p => seqIn (uA m c) (bA m c) 512 (seqOf t y) (y 1) (32 * (t.val % 64) + p)) (s.1 y, s.2 y) 32 := by
  unfold chunkAt
  rw [block_ar m c t y, block_ai m c t y, factor (arA m c) t y, factor (aiA m c) t y]
  exact cellAt_congr _ _ _ _ _ _ _ 32 (fun p hp => in_at m c t 0 y p hp) (fun p hp => in_at m c t 512 y p hp)

attribute [local irreducible] kernelRun0_A kernelRun0_B kernelRun0_C chunkAt iblk

/-- The state that the first chunk leaves: 32 steps. -/
theorem first_at (t : Fin cfg0.N) (h : t.val % 64 = 0) (y : S8x4096.Idx) :
    ((stateA m c t h).1 y, (stateA m c t h).2 y) = seqState (uA m c) (s0A m c) (s1A m c) (arA m c) (aiA m c) (bA m c) (seqOf t y) (y 1) 32 := by
  unfold stateA runA
  refine (statesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) ((hcond0_0 t).mpr h) (not_last t h) _ _ y).trans ((chunk_at m c t _ y).trans ?_)
  unfold seqState
  dsimp only
  rw [block_s0 m c t y, block_s1 m c t y, h]
  exact cellAt_congr _ _ _ _ _ _ _ 32 (fun p _ => congrArg _ (Nat.zero_add p)) (fun p _ => congrArg _ (Nat.zero_add p))

/-- A chunk's 32 steps on a state of a number of steps that the chunks before made. -/
theorem carry (t : Fin cfg0.N) (s : StateOf Ideal) (y : S8x4096.Idx) (n : ℕ) (hn : t.val % 64 = n)
    (hs : (s.1 y, s.2 y) = seqState (uA m c) (s0A m c) (s1A m c) (arA m c) (aiA m c) (bA m c) (seqOf t y) (y 1) (32 * n)) :
    chunkAt (iblk m c 0 t) (iblk m c 3 t) (iblk m c 4 t) (iblk m c 5 t) s y
      = seqState (uA m c) (s0A m c) (s1A m c) (arA m c) (aiA m c) (bA m c) (seqOf t y) (y 1) (32 * n + 32) := by
  refine (chunk_at m c t s y).trans ?_
  unfold seqState at hs ⊢
  refine Eq.trans ?_ (cellAt_add (F := Ideal) _ _ _ _ _ (32 * n) 32).symm
  rw [hn, hs]

/-- What a chunk in between leaves. -/
theorem mid_at (t : Fin cfg0.N) (h0 : ¬t.val % 64 = 0) (h1 : ¬t.val % 64 = 63) (s : StateOf Ideal) (y : S8x4096.Idx) :
    ((stateC m c t h0 h1 s).1 y, (stateC m c t h0 h1 s).2 y) = chunkAt (iblk m c 0 t) (iblk m c 3 t) (iblk m c 4 t) (iblk m c 5 t) s y := by
  unfold stateC runC
  exact statesC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) s.1 s.2 (fun e => h0 ((hcond0_0 t).mp e)) (fun e => h1 ((hcond0_1 t).mp e)) _ _ y

/-- The state after every chunk but the last: 32 steps per chunk. -/
theorem upto_at (y : S8x4096.Idx) : ∀ (n : ℕ) (hn : n < cfg0.N), n < 63 →
    ((stateN m c n hn).1 y, (stateN m c n hn).2 y) = seqState (uA m c) (s0A m c) (s1A m c) (arA m c) (aiA m c) (bA m c) (seqOf ⟨n, hn⟩ y) (y 1) (32 * (n + 1))
  | 0, hn, _ => first_at m c ⟨0, hn⟩ rfl y
  | n + 1, hn, hl => by
    have hp := upto_at y n (Nat.lt_of_succ_lt hn) (Nat.lt_of_succ_lt hl)
    have h0 : ¬(n + 1) % 64 = 0 := by omega
    have h1 : ¬(n + 1) % 64 = 63 := by omega
    have hs : seqOf ⟨n, Nat.lt_of_succ_lt hn⟩ y = seqOf ⟨n + 1, hn⟩ y := Fin.ext (by show 8 * (n / 64) + (y 0).val = 8 * ((n + 1) / 64) + (y 0).val; omega)
    rw [hs] at hp
    have hc : stateN m c (n + 1) hn = stateC m c ⟨n + 1, hn⟩ h0 h1 (stateN m c n (Nat.lt_of_succ_lt hn)) := (dif_neg h0).trans (dif_neg h1)
    rw [hc]
    exact (mid_at m c ⟨n + 1, hn⟩ h0 h1 _ y).trans (carry m c ⟨n + 1, hn⟩ _ y (n + 1) (by show (n + 1) % 64 = n + 1; omega) hp)

/-- What the last chunk stores: all 2048 steps. -/
theorem last_at (t : Fin cfg0.N) (h : t.val % 64 = 63) (y : S8x4096.Idx) :
    ((lastAt m c t).1 (wIx y), (lastAt m c t).2 (wIx y)) = seqState (uA m c) (s0A m c) (s1A m c) (arA m c) (aiA m c) (bA m c) (seqOf t y) (y 1) 2048 := by
  have hN := lt_of_lt_of_eq t.isLt (show cfg0.N = 64 from N_0)
  have hp := upto_at m c y (t.val - 1) (Nat.lt_of_le_of_lt (Nat.sub_le _ _) t.isLt) (by omega)
  have hs : seqOf ⟨t.val - 1, Nat.lt_of_le_of_lt (Nat.sub_le _ _) t.isLt⟩ y = seqOf t y := Fin.ext (by show 8 * ((t.val - 1) / 64) + (y 0).val = 8 * (t.val / 64) + (y 0).val; omega)
  rw [hs, show 32 * (t.val - 1 + 1) = 32 * 63 by omega] at hp
  unfold lastAt
  rw [dif_pos h, dif_pos h]
  unfold runB
  dsimp only
  exact (outsB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (prior m c t).1 (prior m c t).2 (not_first t h) ((hcond0_1 t).mpr h) VO0_9 VO0_10 VO0_9.junk VO0_10.junk y).trans (carry m c t (prior m c t) y 63 h hp)

/-- Output 9 is copied out after a last chunk only. -/
theorem flush_last9 (t : Fin cfg0.N) (hf : (cfg0.win 9).flush t = true) : t.val % 64 = 63 := (flush0_9 t).mp hf
/-- Output 10 is copied out after a last chunk only. -/
theorem flush_last10 (t : Fin cfg0.N) (hf : (cfg0.win 10).flush t = true) : t.val % 64 = 63 := (flush0_10 t).mp hf

/-- What a group's last point writes back to output 9 is the group's part of the final states. -/
theorem flushed_re (t : Fin cfg0.N) (hf : (cfg0.win 9).flush t = true) :
    (dats m 0 c).flushed 9 t = ((cfg0.win 9).blk t).view.read (Elt Ideal) (fun i : S1x8x4096.Idx => (endState (uA m c) (s0A m c) (s1A m c) (arA m c) (aiA m c) (bA m c) i).1) := by
  obtain ⟨e0, e1, e2⟩ := at_re t
  show (cfg0.win 9).cut (grid0.coords t) ((dats m 0 c).after 9 t) = _
  rw [after0_9]
  refine funext fun (x : S1x8x4096.Idx) => ?_
  let y : S8x4096.Idx := fun a => match a with
    | ⟨0, _⟩ => x 1
    | ⟨1, _⟩ => x 2
  have hx : x = wIx y := funext fun a => Fin.ext (match a with
    | ⟨0, _⟩ => by show (x 0).val = 0; have h0 : (x 0).val < 1 := (x 0).isLt; omega
    | ⟨1, _⟩ => rfl
    | ⟨2, _⟩ => rfl)
  let p : S1x8x4096.Idx := ((cfg0.win 9).blk t).view.emb (wIx y)
  have hp0 : (p 0).val = win0_9.index t (0 : Fin 3) * 1 + 1 * 0 := rfl
  have hp1 : (p 1).val = win0_9.index t (1 : Fin 3) * 8 + 1 * (y 0).val := rfl
  have hp2 : (p 2).val = win0_9.index t (2 : Fin 3) * 4096 + 1 * (y 1).val := rfl
  rw [e0] at hp0
  rw [e1] at hp1
  rw [e2] at hp2
  rw [hx]
  show (lastAt m c t).1 (wIx y) = (endState (uA m c) (s0A m c) (s1A m c) (arA m c) (aiA m c) (bA m c) p).1
  refine (congrArg Prod.fst (last_at m c t (flush_last9 t hf) y)).trans ?_
  unfold endState
  have k0 : seqOf t y = p 1 := Fin.ext (by
    have hN := lt_of_lt_of_eq t.isLt (show cfg0.N = 64 from N_0)
    show 8 * (t.val / 64) + (y 0).val = (p 1).val
    omega)
  have k1 : y 1 = p 2 := Fin.ext (by rw [hp2]; show (y 1).val = 0 * 4096 + 1 * (y 1).val; omega)
  rw [k0, k1]

/-- Every real final state is copied out at some point. -/
theorem covered_re (p : S1x8x4096.Idx) : ∃ t : Fin cfg0.N, (cfg0.win 9).flush t = true ∧ p ∈ ((cfg0.win 9).blk t).view.set := by
  have h0 : (p 0).val < 1 := (p 0).isLt
  have hN : 64 * (p 0).val + 63 < cfg0.N := lt_of_lt_of_eq (by omega) (show cfg0.N = 64 from N_0).symm
  obtain ⟨e0, e1, e2⟩ := at_re ⟨64 * (p 0).val + 63, hN⟩
  refine ⟨⟨64 * (p 0).val + 63, hN⟩, (flush0_9 _).mpr (by show (64 * (p 0).val + 63) % 64 = 63; omega), ?_⟩
  let x : S1x8x4096.Idx := fun a => match a with
    | ⟨0, _⟩ => ⟨0, Nat.one_pos⟩
    | ⟨1, _⟩ => p 1
    | ⟨2, _⟩ => p 2
  let q : S1x8x4096.Idx := ((cfg0.win 9).blk ⟨64 * (p 0).val + 63, hN⟩).view.emb x
  have e0' : win0_9.index ⟨64 * (p 0).val + 63, hN⟩ (0 : Fin 3) = (64 * (p 0).val + 63) / 64 := e0
  have hq0 : (q 0).val = win0_9.index ⟨64 * (p 0).val + 63, hN⟩ (0 : Fin 3) * 1 + 1 * 0 := rfl
  have hq1 : (q 1).val = win0_9.index ⟨64 * (p 0).val + 63, hN⟩ (1 : Fin 3) * 8 + 1 * (p 1).val := rfl
  have hq2 : (q 2).val = win0_9.index ⟨64 * (p 0).val + 63, hN⟩ (2 : Fin 3) * 4096 + 1 * (p 2).val := rfl
  rw [e0'] at hq0
  rw [e1] at hq1
  rw [e2] at hq2
  have hq : q = p := funext fun a => Fin.ext (match a with
    | ⟨0, _⟩ => by show (q 0).val = (p 0).val; omega
    | ⟨1, _⟩ => by show (q 1).val = (p 1).val; omega
    | ⟨2, _⟩ => by show (q 2).val = (p 2).val; omega)
  have hm : q ∈ ((cfg0.win 9).blk ⟨64 * (p 0).val + 63, hN⟩).view.set := ((cfg0.win 9).blk ⟨64 * (p 0).val + 63, hN⟩).view.emb_mem_set x
  exact Eq.mp (congrArg (· ∈ ((cfg0.win 9).blk ⟨64 * (p 0).val + 63, hN⟩).view.set) hq) hm

/-- Output 9 after the run. -/
theorem final_re : (dats m 0 c).arrAt 9 cfg0.N = fun i : S1x8x4096.Idx => (endState (uA m c) (s0A m c) (s1A m c) (arA m c) (aiA m c) (bA m c) i).1 :=
  (dats m 0 c).arrAt_eq_of_cover 9 _ (fun t hf => flushed_re m c t hf) (fun p => covered_re p)

/-- What a group's last point writes back to output 10 is the group's part of the final states. -/
theorem flushed_im (t : Fin cfg0.N) (hf : (cfg0.win 10).flush t = true) :
    (dats m 0 c).flushed 10 t = ((cfg0.win 10).blk t).view.read (Elt Ideal) (fun i : S1x8x4096.Idx => (endState (uA m c) (s0A m c) (s1A m c) (arA m c) (aiA m c) (bA m c) i).2) := by
  obtain ⟨e0, e1, e2⟩ := at_im t
  show (cfg0.win 10).cut (grid0.coords t) ((dats m 0 c).after 10 t) = _
  rw [after0_10]
  refine funext fun (x : S1x8x4096.Idx) => ?_
  let y : S8x4096.Idx := fun a => match a with
    | ⟨0, _⟩ => x 1
    | ⟨1, _⟩ => x 2
  have hx : x = wIx y := funext fun a => Fin.ext (match a with
    | ⟨0, _⟩ => by show (x 0).val = 0; have h0 : (x 0).val < 1 := (x 0).isLt; omega
    | ⟨1, _⟩ => rfl
    | ⟨2, _⟩ => rfl)
  let p : S1x8x4096.Idx := ((cfg0.win 10).blk t).view.emb (wIx y)
  have hp0 : (p 0).val = win0_10.index t (0 : Fin 3) * 1 + 1 * 0 := rfl
  have hp1 : (p 1).val = win0_10.index t (1 : Fin 3) * 8 + 1 * (y 0).val := rfl
  have hp2 : (p 2).val = win0_10.index t (2 : Fin 3) * 4096 + 1 * (y 1).val := rfl
  rw [e0] at hp0
  rw [e1] at hp1
  rw [e2] at hp2
  rw [hx]
  show (lastAt m c t).2 (wIx y) = (endState (uA m c) (s0A m c) (s1A m c) (arA m c) (aiA m c) (bA m c) p).2
  refine (congrArg Prod.snd (last_at m c t (flush_last10 t hf) y)).trans ?_
  unfold endState
  have k0 : seqOf t y = p 1 := Fin.ext (by
    have hN := lt_of_lt_of_eq t.isLt (show cfg0.N = 64 from N_0)
    show 8 * (t.val / 64) + (y 0).val = (p 1).val
    omega)
  have k1 : y 1 = p 2 := Fin.ext (by rw [hp2]; show (y 1).val = 0 * 4096 + 1 * (y 1).val; omega)
  rw [k0, k1]

/-- Every imaginary final state is copied out at some point. -/
theorem covered_im (p : S1x8x4096.Idx) : ∃ t : Fin cfg0.N, (cfg0.win 10).flush t = true ∧ p ∈ ((cfg0.win 10).blk t).view.set := by
  have h0 : (p 0).val < 1 := (p 0).isLt
  have hN : 64 * (p 0).val + 63 < cfg0.N := lt_of_lt_of_eq (by omega) (show cfg0.N = 64 from N_0).symm
  obtain ⟨e0, e1, e2⟩ := at_im ⟨64 * (p 0).val + 63, hN⟩
  refine ⟨⟨64 * (p 0).val + 63, hN⟩, (flush0_10 _).mpr (by show (64 * (p 0).val + 63) % 64 = 63; omega), ?_⟩
  let x : S1x8x4096.Idx := fun a => match a with
    | ⟨0, _⟩ => ⟨0, Nat.one_pos⟩
    | ⟨1, _⟩ => p 1
    | ⟨2, _⟩ => p 2
  let q : S1x8x4096.Idx := ((cfg0.win 10).blk ⟨64 * (p 0).val + 63, hN⟩).view.emb x
  have e0' : win0_10.index ⟨64 * (p 0).val + 63, hN⟩ (0 : Fin 3) = (64 * (p 0).val + 63) / 64 := e0
  have hq0 : (q 0).val = win0_10.index ⟨64 * (p 0).val + 63, hN⟩ (0 : Fin 3) * 1 + 1 * 0 := rfl
  have hq1 : (q 1).val = win0_10.index ⟨64 * (p 0).val + 63, hN⟩ (1 : Fin 3) * 8 + 1 * (p 1).val := rfl
  have hq2 : (q 2).val = win0_10.index ⟨64 * (p 0).val + 63, hN⟩ (2 : Fin 3) * 4096 + 1 * (p 2).val := rfl
  rw [e0'] at hq0
  rw [e1] at hq1
  rw [e2] at hq2
  have hq : q = p := funext fun a => Fin.ext (match a with
    | ⟨0, _⟩ => by show (q 0).val = (p 0).val; omega
    | ⟨1, _⟩ => by show (q 1).val = (p 1).val; omega
    | ⟨2, _⟩ => by show (q 2).val = (p 2).val; omega)
  have hm : q ∈ ((cfg0.win 10).blk ⟨64 * (p 0).val + 63, hN⟩).view.set := ((cfg0.win 10).blk ⟨64 * (p 0).val + 63, hN⟩).view.emb_mem_set x
  exact Eq.mp (congrArg (· ∈ ((cfg0.win 10).blk ⟨64 * (p 0).val + 63, hN⟩).view.set) hq) hm

/-- Output 10 after the run. -/
theorem final_im : (dats m 0 c).arrAt 10 cfg0.N = fun i : S1x8x4096.Idx => (endState (uA m c) (s0A m c) (s1A m c) (arA m c) (aiA m c) (bA m c) i).2 :=
  (dats m 0 c).arrAt_eq_of_cover 10 _ (fun t hf => flushed_im m c t hf) (fun p => covered_im p)

end Cert.ScanPromptIdeal.Gen

end
-- ==== Proof.ScanPromptRefIdeal.Plain.lean ====
module

public import proofs.«01_k».proof.Proof.Gen.ScanPromptRefIdeal.StepRun
public import proofs.«01_k».proof.Proof.ScanPromptIdeal.Total
public import Idealize.ShloMosaic.Lib.WordCmp

@[expose] public section

set_option maxRecDepth 16384

noncomputable section

namespace Cert.ScanPromptRefIdeal.Plain

open Idealize.ShloMosaic Idealize.ShloMosaic.TcCoe
open Cert.ScanPromptRefIdeal Cert.ScanPromptRefIdeal.Gen Cert.ScanPromptRefIdeal.Step Cert.ScanPromptRefIdeal.StepRun
open Cert.ScanIdeal.Gen (bIx cellAt stepAt)
open Cert.ScanPromptIdeal.Gen (tIx sIx seqIn seqState endState)

/-! Entries of the arrays that the reference computes. -/

abbrev dIx (b : Fin 8) (q : Fin 1024) (s : Fin 8) (t : Fin 2048) : S8x1024x8x2048.Idx := fun x => match x with
  | ⟨0, _⟩ => ⟨b.val, b.isLt⟩
  | ⟨1, _⟩ => ⟨q.val, q.isLt⟩
  | ⟨2, _⟩ => ⟨s.val, s.isLt⟩
  | ⟨3, _⟩ => ⟨t.val, t.isLt⟩

abbrev rIx (s : Fin 8) (t : Fin 2048) (b : Fin 8) (l : Fin 128) : S8x2048x8x128.Idx := fun x => match x with
  | ⟨0, _⟩ => ⟨s.val, s.isLt⟩
  | ⟨1, _⟩ => ⟨t.val, t.isLt⟩
  | ⟨2, _⟩ => ⟨b.val, b.isLt⟩
  | ⟨3, _⟩ => ⟨l.val, l.isLt⟩

abbrev eIx (s : Fin 8) (t : Fin 2048) (b : Fin 8) (q : Fin 1024) : S8x2048x8x1024.Idx := fun x => match x with
  | ⟨0, _⟩ => ⟨s.val, s.isLt⟩
  | ⟨1, _⟩ => ⟨t.val, t.isLt⟩
  | ⟨2, _⟩ => ⟨b.val, b.isLt⟩
  | ⟨3, _⟩ => ⟨q.val, q.isLt⟩

abbrev pIx (s : Fin 8) (t : Fin 2048) (b : Fin 8) (q : Fin 512) : S8x2048x8x512.Idx := fun x => match x with
  | ⟨0, _⟩ => ⟨s.val, s.isLt⟩
  | ⟨1, _⟩ => ⟨t.val, t.isLt⟩
  | ⟨2, _⟩ => ⟨b.val, b.isLt⟩
  | ⟨3, _⟩ => ⟨q.val, q.isLt⟩

abbrev kIx (g : Fin 1) (r : Fin 8) (t : Fin 2048) (n : Fin 4096) : S1x8x2048x4096.Idx := fun x => match x with
  | ⟨0, _⟩ => ⟨g.val, g.isLt⟩
  | ⟨1, _⟩ => ⟨r.val, r.isLt⟩
  | ⟨2, _⟩ => ⟨t.val, t.isLt⟩
  | ⟨3, _⟩ => ⟨n.val, n.isLt⟩

abbrev oneIx (g : Fin 1) (r : Fin 8) (t : Fin 1) (n : Fin 4096) : S1x8x1x4096.Idx := fun x => match x with
  | ⟨0, _⟩ => ⟨g.val, g.isLt⟩
  | ⟨1, _⟩ => ⟨r.val, r.isLt⟩
  | ⟨2, _⟩ => ⟨t.val, t.isLt⟩
  | ⟨3, _⟩ => ⟨n.val, n.isLt⟩

abbrev zIx (g : Fin 1) (r : Fin 8) (n : Fin 4096) : S1x8x4096.Idx := fun x => match x with
  | ⟨0, _⟩ => ⟨g.val, g.isLt⟩
  | ⟨1, _⟩ => ⟨r.val, r.isLt⟩
  | ⟨2, _⟩ => ⟨n.val, n.isLt⟩

/-- The sequence at place `r` of group `g`. -/
abbrev seq (g : Fin 1) (r : Fin 8) : Fin 8 := ⟨8 * g.val + r.val, by omega⟩

/-- The reference's product takes the block of its left side from the result's block. -/
theorem left_batch (i : S8x1024x8x2048.Idx) (q : dot_S8x128x1024_S8x2048x8x128_S8x1024x8x2048_1_3_2_01_0_2.contr.Idx) : (dot_S8x128x1024_S8x2048x8x128_S8x1024x8x2048_1_3_2_01_0_2.lhsIdx i q 0).val = (i 0).val := by
  unfold DotDims.lhsIdx
  rw [dif_pos (show (0 : Fin S8x128x1024.rank) ∈ dot_S8x128x1024_S8x2048x8x128_S8x1024x8x2048_1_3_2_01_0_2.lhsBatch by decide)]
  rfl

/-- It takes the column of its left side from the result's column. -/
theorem left_free (i : S8x1024x8x2048.Idx) (q : dot_S8x128x1024_S8x2048x8x128_S8x1024x8x2048_1_3_2_01_0_2.contr.Idx) : (dot_S8x128x1024_S8x2048x8x128_S8x1024x8x2048_1_3_2_01_0_2.lhsIdx i q 2).val = (i 1).val := by
  unfold DotDims.lhsIdx
  rw [dif_neg (show ¬(2 : Fin S8x128x1024.rank) ∈ dot_S8x128x1024_S8x2048x8x128_S8x1024x8x2048_1_3_2_01_0_2.lhsBatch by decide), dif_pos (show (2 : Fin S8x128x1024.rank) ∈ dot_S8x128x1024_S8x2048x8x128_S8x1024x8x2048_1_3_2_01_0_2.lhsNonContracting by decide)]
  rfl

/-- It takes the block of its right side from the result's block. -/
theorem right_batch (i : S8x1024x8x2048.Idx) (q : dot_S8x128x1024_S8x2048x8x128_S8x1024x8x2048_1_3_2_01_0_2.contr.Idx) : (dot_S8x128x1024_S8x2048x8x128_S8x1024x8x2048_1_3_2_01_0_2.rhsIdx i q 2).val = (i 0).val := by
  unfold DotDims.rhsIdx
  rw [dif_pos (show (2 : Fin S8x2048x8x128.rank) ∈ dot_S8x128x1024_S8x2048x8x128_S8x1024x8x2048_1_3_2_01_0_2.rhsBatch by decide)]
  rfl

/-- It takes the sequence of its right side from the result's sequence. -/
theorem right_seq (i : S8x1024x8x2048.Idx) (q : dot_S8x128x1024_S8x2048x8x128_S8x1024x8x2048_1_3_2_01_0_2.contr.Idx) : (dot_S8x128x1024_S8x2048x8x128_S8x1024x8x2048_1_3_2_01_0_2.rhsIdx i q 0).val = (i 2).val := by
  unfold DotDims.rhsIdx
  rw [dif_neg (show ¬(0 : Fin S8x2048x8x128.rank) ∈ dot_S8x128x1024_S8x2048x8x128_S8x1024x8x2048_1_3_2_01_0_2.rhsBatch by decide), dif_pos (show (0 : Fin S8x2048x8x128.rank) ∈ dot_S8x128x1024_S8x2048x8x128_S8x1024x8x2048_1_3_2_01_0_2.rhsNonContracting by decide)]
  rfl

/-- It takes the step of its right side from the result's step. -/
theorem right_time (i : S8x1024x8x2048.Idx) (q : dot_S8x128x1024_S8x2048x8x128_S8x1024x8x2048_1_3_2_01_0_2.contr.Idx) : (dot_S8x128x1024_S8x2048x8x128_S8x1024x8x2048_1_3_2_01_0_2.rhsIdx i q 1).val = (i 3).val := by
  unfold DotDims.rhsIdx
  rw [dif_neg (show ¬(1 : Fin S8x2048x8x128.rank) ∈ dot_S8x128x1024_S8x2048x8x128_S8x1024x8x2048_1_3_2_01_0_2.rhsBatch by decide), dif_pos (show (1 : Fin S8x2048x8x128.rank) ∈ dot_S8x128x1024_S8x2048x8x128_S8x1024x8x2048_1_3_2_01_0_2.rhsNonContracting by decide)]
  rfl

/-- The reference's batched product, entry by entry. -/
theorem batched (l : FVec Ideal S8x128x1024 .f32) (r : FVec Ideal S8x2048x8x128 .f32) (b : Fin 8) (q : Fin 1024) (s : Fin 8) (t : Fin 2048) :
    Host.dotGeneral dot_S8x128x1024_S8x2048x8x128_S8x1024x8x2048_1_3_2_01_0_2 none l r (dIx b q s t) = ∑ k : Fin 128, l (bIx b k q) * r (rIx s t b k) := by
  unfold Host.dotGeneral
  rw [Ideal.dotGeneral_apply, ← Equiv.sum_comp (ValueIdx.contrEquiv1 dot_S8x128x1024_S8x2048x8x128_S8x1024x8x2048_1_3_2_01_0_2 128 rfl rfl).symm]
  refine Finset.sum_congr rfl fun k _ => ?_
  have hk := ValueIdx.contrEquiv1_symm_val dot_S8x128x1024_S8x2048x8x128_S8x1024x8x2048_1_3_2_01_0_2 128 rfl rfl k
  refine congrArg₂ (· * ·) (congrArg l (funext fun a => Fin.ext ?_)) (congrArg r (funext fun a => Fin.ext ?_))
  · match a with
    | ⟨0, _⟩ => exact left_batch _ _
    | ⟨1, _⟩ => exact (dot_S8x128x1024_S8x2048x8x128_S8x1024x8x2048_1_3_2_01_0_2.lhsIdx_val_of_single rfl _ _).trans hk
    | ⟨2, _⟩ => exact left_free _ _
  · match a with
    | ⟨0, _⟩ => exact right_seq _ _
    | ⟨1, _⟩ => exact right_time _ _
    | ⟨2, _⟩ => exact right_batch _ _
    | ⟨3, _⟩ => exact (dot_S8x128x1024_S8x2048x8x128_S8x1024x8x2048_1_3_2_01_0_2.rhsIdx_val_of_single rfl _ _).trans hk

section
variable (u : S16384x1024.Idx → EReal) (s0 s1 : S8x4096.Idx → EReal) (w : S8x128x1024.Idx → EReal)

/-- The inputs of all states, by sequence, time, block and column. -/
theorem inputs_at (s : Fin 8) (t : Fin 2048) (b : Fin 8) (q : Fin 1024) :
    A_main_v3 (F := Ideal) u s0 s1 w (eIx s t b q) = ∑ l : Fin 128, u (tIx ⟨2048 * s.val + t.val, by omega⟩ ⟨128 * b.val + l.val, by omega⟩) * w (bIx b l q) := by
  unfold A_main_v3 A_main_v2
  refine (transpose_apply _ _ _ (eIx s t b q) (dIx b q s t) (fun x => match x with
    | ⟨0, _⟩ => rfl
    | ⟨1, _⟩ => rfl
    | ⟨2, _⟩ => rfl
    | ⟨3, _⟩ => rfl)).trans ((batched _ _ b q s t).trans (Finset.sum_congr rfl fun l _ => ?_))
  refine (mul_comm _ _).trans (congrArg₂ (· * ·) ?_ rfl)
  unfold A_main_v0
  refine shapeCast_apply _ _ (rIx s t b l) _ ?_
  rw [Shape.rowMajor_val_four, Shape.rowMajor_val_two]
  show (2048 * s.val + t.val) * 1024 + (128 * b.val + l.val) = ((s.val * 2048 + t.val) * 8 + b.val) * 128 + l.val
  omega

/-- The reference's real inputs. -/
theorem inputs_re (g : Fin 1) (r : Fin 8) (t : Fin 2048) (n : Fin 4096) : A_main_v5 (F := Ideal) u s0 s1 w (kIx g r t n) = seqIn u w 0 (seq g r) n t.val := by
  unfold A_main_v5 A_main_v4
  refine (shapeCast_apply _ _ (kIx g r t n) (pIx (seq g r) t ⟨n.val / 512, by omega⟩ ⟨n.val % 512, by omega⟩) ?_).trans
    ((extractStridedSlice_apply _ _ _ _ (eIx (seq g r) t ⟨n.val / 512, by omega⟩ ⟨0 + n.val % 512, by omega⟩) (fun x => ?_)).trans ((inputs_at u s0 s1 w _ _ _ _).trans ?_))
  · rw [Shape.rowMajor_val_four, Shape.rowMajor_val_four]
    show (((8 * g.val + r.val) * 2048 + t.val) * 8 + n.val / 512) * 512 + n.val % 512 = ((g.val * 8 + r.val) * 2048 + t.val) * 4096 + n.val
    omega
  · match x with
    | ⟨0, _⟩ => exact (Nat.zero_add _).symm
    | ⟨1, _⟩ => exact (Nat.zero_add _).symm
    | ⟨2, _⟩ => exact (Nat.zero_add _).symm
    | ⟨3, _⟩ => rfl
  · unfold seqIn
    refine Finset.sum_congr rfl fun l _ => congrArg₂ (· * ·) (congrArg u (funext fun x => Fin.ext ?_)) rfl
    match x with
    | ⟨0, _⟩ => show 2048 * (8 * g.val + r.val) + t.val = 2048 * (8 * g.val + r.val) + t.val % 2048; omega
    | ⟨1, _⟩ => rfl

/-- The reference's imaginary inputs. -/
theorem inputs_im (g : Fin 1) (r : Fin 8) (t : Fin 2048) (n : Fin 4096) : A_main_v7 (F := Ideal) u s0 s1 w (kIx g r t n) = seqIn u w 512 (seq g r) n t.val := by
  unfold A_main_v7 A_main_v6
  refine (shapeCast_apply _ _ (kIx g r t n) (pIx (seq g r) t ⟨n.val / 512, by omega⟩ ⟨n.val % 512, by omega⟩) ?_).trans
    ((extractStridedSlice_apply _ _ _ _ (eIx (seq g r) t ⟨n.val / 512, by omega⟩ ⟨512 + n.val % 512, by omega⟩) (fun x => ?_)).trans ((inputs_at u s0 s1 w _ _ _ _).trans ?_))
  · rw [Shape.rowMajor_val_four, Shape.rowMajor_val_four]
    show (((8 * g.val + r.val) * 2048 + t.val) * 8 + n.val / 512) * 512 + n.val % 512 = ((g.val * 8 + r.val) * 2048 + t.val) * 4096 + n.val
    omega
  · match x with
    | ⟨0, _⟩ => exact (Nat.zero_add _).symm
    | ⟨1, _⟩ => exact (Nat.zero_add _).symm
    | ⟨2, _⟩ => exact (Nat.zero_add _).symm
    | ⟨3, _⟩ => rfl
  · unfold seqIn
    refine Finset.sum_congr rfl fun l _ => congrArg₂ (· * ·) (congrArg u (funext fun x => Fin.ext ?_)) rfl
    match x with
    | ⟨0, _⟩ => show 2048 * (8 * g.val + r.val) + t.val = 2048 * (8 * g.val + r.val) + t.val % 2048; omega
    | ⟨1, _⟩ => rfl

/-- The reference's start state, real part. -/
theorem start_s0 (g : Fin 1) (r : Fin 8) (n : Fin 4096) : A_main_v8 (F := Ideal) u s0 s1 w (zIx g r n) = s0 (sIx (seq g r) n) := by
  unfold A_main_v8
  refine shapeCast_apply _ _ (zIx g r n) _ ?_
  rw [Shape.rowMajor_val_three, Shape.rowMajor_val_two]
  show (8 * g.val + r.val) * 4096 + n.val = (g.val * 8 + r.val) * 4096 + n.val
  omega

/-- The reference's start state, imaginary part. -/
theorem start_s1 (g : Fin 1) (r : Fin 8) (n : Fin 4096) : A_main_v9 (F := Ideal) u s0 s1 w (zIx g r n) = s1 (sIx (seq g r) n) := by
  unfold A_main_v9
  refine shapeCast_apply _ _ (zIx g r n) _ ?_
  rw [Shape.rowMajor_val_three, Shape.rowMajor_val_two]
  show (8 * g.val + r.val) * 4096 + n.val = (g.val * 8 + r.val) * 4096 + n.val
  omega
end

/-- The place that trip `j` reads its inputs at. -/
theorem place : ∀ j : Fin 2048, (Scalar.select (IntOp.cmpi .slt (BitVec.ofNat 32 j.val) 0#32) (BitVec.ofNat 32 j.val + 2048#32) (BitVec.ofNat 32 j.val)).toInt = (j.val : Int) := by
  decide +kernel

variable (st : State Ideal) (j : Fin 2048) (g : Fin 1) (r : Fin 8) (n : Fin 4096)

/-- The inputs that trip `j` takes. -/
theorem taken_re : b38 j.val st (zIx g r n) = st.main_v10_2 (kIx g r j n) := by
  unfold b38 b37
  refine (shapeCast_apply _ _ (zIx g r n) (oneIx g r 0 n) ?_).trans ?_
  · rw [Shape.rowMajor_val_four, Shape.rowMajor_val_three]
    show ((g.val * 8 + r.val) * 1 + 0) * 4096 + n.val = (g.val * 8 + r.val) * 4096 + n.val
    omega
  rw [WordCmp.dynamicSlice_eq_extract S1x8x1x4096 st.main_v10_2 _ sliceFits_S1x8x2048x4096_S1x8x1x4096 ![0, 0, j.val, 0]
    ⟨rfl, fun a => match a with
      | ⟨0, _⟩ => by show 0 + 1 ≤ 1; omega
      | ⟨1, _⟩ => by show 0 + 8 ≤ 8; omega
      | ⟨2, _⟩ => by show j.val + 1 ≤ 2048; omega
      | ⟨3, _⟩ => by show 0 + 4096 ≤ 4096; omega⟩
    (fun a => match a with
      | ⟨0, _⟩ => rfl
      | ⟨1, _⟩ => rfl
      | ⟨2, _⟩ => place j
      | ⟨3, _⟩ => rfl)]
  refine extractStridedSlice_apply _ _ _ _ (kIx g r j n) (fun a => ?_)
  match a with
  | ⟨0, _⟩ => exact (Nat.zero_add _).symm
  | ⟨1, _⟩ => exact (Nat.zero_add _).symm
  | ⟨2, _⟩ => exact (Nat.add_zero _).symm
  | ⟨3, _⟩ => exact (Nat.zero_add _).symm

/-- The inputs that trip `j` takes. -/
theorem taken_im : b76 j.val st (zIx g r n) = st.main_v10_3 (kIx g r j n) := by
  unfold b76 b75
  refine (shapeCast_apply _ _ (zIx g r n) (oneIx g r 0 n) ?_).trans ?_
  · rw [Shape.rowMajor_val_four, Shape.rowMajor_val_three]
    show ((g.val * 8 + r.val) * 1 + 0) * 4096 + n.val = (g.val * 8 + r.val) * 4096 + n.val
    omega
  rw [WordCmp.dynamicSlice_eq_extract S1x8x1x4096 st.main_v10_3 _ sliceFits_S1x8x2048x4096_S1x8x1x4096 ![0, 0, j.val, 0]
    ⟨rfl, fun a => match a with
      | ⟨0, _⟩ => by show 0 + 1 ≤ 1; omega
      | ⟨1, _⟩ => by show 0 + 8 ≤ 8; omega
      | ⟨2, _⟩ => by show j.val + 1 ≤ 2048; omega
      | ⟨3, _⟩ => by show 0 + 4096 ≤ 4096; omega⟩
    (fun a => match a with
      | ⟨0, _⟩ => rfl
      | ⟨1, _⟩ => rfl
      | ⟨2, _⟩ => place j
      | ⟨3, _⟩ => rfl)]
  refine extractStridedSlice_apply _ _ _ _ (kIx g r j n) (fun a => ?_)
  match a with
  | ⟨0, _⟩ => exact (Nat.zero_add _).symm
  | ⟨1, _⟩ => exact (Nat.zero_add _).symm
  | ⟨2, _⟩ => exact (Nat.add_zero _).symm
  | ⟨3, _⟩ => exact (Nat.zero_add _).symm

/-- A factor with the group's axis added. -/
theorem spread (x : S8x4096.Idx → EReal) :
    broadcastInDim S1x8x4096 ![1, 2] bcast_S8x4096_S1x8x4096_1_2 x (zIx g r n) = x (sIx r n) := by
  unfold broadcastInDim
  refine congrArg x (funext fun a => Fin.ext ?_)
  match a with
  | ⟨0, _⟩ => rfl
  | ⟨1, _⟩ => rfl

/-- One trip is one step of the recurrence in every entry. -/
theorem trip : ((step j.val st).main_v10_6 (zIx g r n), (step j.val st).main_v10_7 (zIx g r n))
    = stepAt (F := Ideal) (st.main_v10_0 (sIx r n)) (st.main_v10_1 (sIx r n)) (st.main_v10_2 (kIx g r j n)) (st.main_v10_3 (kIx g r j n)) (st.main_v10_6 (zIx g r n), st.main_v10_7 (zIx g r n)) := by
  rw [step_main_v10_6, step_main_v10_7]
  unfold stepAt
  rw [← taken_re st j g r n, ← taken_im st j g r n, ← spread g r n st.main_v10_0, ← spread g r n st.main_v10_1]
  rfl

variable (m : (ℓ : Loc nD τ sig) → Buf (Elt Ideal) ℓ) (c : Dev nD)

/-- The states that the trips go through. -/
def it : ℕ → State Ideal
  | 0 => initState m c
  | k + 1 => step k (it k)

/-- The steps leave the first four arrays that they carry as they were. -/
theorem it_kept (k : ℕ) : (it m c k).main_v10_0 = (initState m c).main_v10_0 ∧ (it m c k).main_v10_1 = (initState m c).main_v10_1
    ∧ (it m c k).main_v10_2 = (initState m c).main_v10_2 ∧ (it m c k).main_v10_3 = (initState m c).main_v10_3 := by
  induction k with
  | zero => exact ⟨rfl, rfl, rfl, rfl⟩
  | succ k ih => exact ih

abbrev uA : S16384x1024.Idx → EReal := m ((c.tc : Thread nD τ).loc main_arg0)
abbrev s0A : S8x4096.Idx → EReal := m ((c.tc : Thread nD τ).loc main_arg1)
abbrev s1A : S8x4096.Idx → EReal := m ((c.tc : Thread nD τ).loc main_arg2)
abbrev arA : S8x4096.Idx → EReal := m ((c.tc : Thread nD τ).loc main_arg3)
abbrev aiA : S8x4096.Idx → EReal := m ((c.tc : Thread nD τ).loc main_arg4)
abbrev bA : S8x128x1024.Idx → EReal := m ((c.tc : Thread nD τ).loc main_arg5)

/-- After `k` trips every entry has taken `k` steps. -/
theorem it_at (k : ℕ) (hk : k ≤ 2048) : ((it m c k).main_v10_6 (zIx g r n), (it m c k).main_v10_7 (zIx g r n))
    = seqState (uA m c) (s0A m c) (s1A m c) (arA m c) (aiA m c) (bA m c) (seq g r) n k := by
  have ha : ∀ x : S8x4096.Idx → EReal, x (sIx r n) = x (sIx (seq g r) n) := fun x => congrArg x (funext fun a => Fin.ext (match a with
    | ⟨0, _⟩ => by show r.val = 8 * g.val + r.val; omega
    | ⟨1, _⟩ => rfl))
  induction k with
  | zero => exact congrArg₂ Prod.mk (start_s0 (uA m c) (s0A m c) (s1A m c) (bA m c) g r n) (start_s1 (uA m c) (s0A m c) (s1A m c) (bA m c) g r n)
  | succ k ih =>
    obtain ⟨k0, k1, k2, k3⟩ := it_kept m c k
    refine (trip (it m c k) ⟨k, by omega⟩ g r n).trans ?_
    rw [k0, k1, k2, k3, ih (by omega)]
    refine Eq.trans ?_ (show stepAt (F := Ideal) _ _ _ _ (seqState (uA m c) (s0A m c) (s1A m c) (arA m c) (aiA m c) (bA m c) (seq g r) n k) = seqState (uA m c) (s0A m c) (s1A m c) (arA m c) (aiA m c) (bA m c) (seq g r) n (k + 1) from rfl)
    rw [← ha (arA m c), ← ha (aiA m c), ← inputs_re (uA m c) (s0A m c) (s1A m c) (bA m c) g r ⟨k, by omega⟩ n, ← inputs_im (uA m c) (s0A m c) (s1A m c) (bA m c) g r ⟨k, by omega⟩ n]
    rfl

/-- The reference's results. -/
theorem result_at (i : S1x8x4096.Idx) : ((it m c 2048).main_v10_6 i, (it m c 2048).main_v10_7 i) = endState (uA m c) (s0A m c) (s1A m c) (arA m c) (aiA m c) (bA m c) i := by
  have hi : i = zIx (i 0) (i 1) (i 2) := funext fun a => match a with
    | ⟨0, _⟩ => rfl
    | ⟨1, _⟩ => rfl
    | ⟨2, _⟩ => rfl
  have h0 : (i 0).val < 1 := (i 0).isLt
  have hs : seq (i 0) (i 1) = i 1 := Fin.ext (by show 8 * (i 0).val + (i 1).val = (i 1).val; omega)
  refine (congrArg (fun i => ((it m c 2048).main_v10_6 i, (it m c 2048).main_v10_7 i)) hi).trans ((it_at (i 0) (i 1) (i 2) m c 2048 (le_refl _)).trans ?_)
  rw [hs]
  rfl

end Cert.ScanPromptRefIdeal.Plain

end
-- ==== Proof.lean ====
/- The proofs of the claims about the expert layer, the memory projection, the input projections and the two scans. -/
module

public import proofs.«01_k».proof.Defs
public import proofs.«01_k».proof.Proof.Gen.Experts
public import proofs.«01_k».proof.Proof.Gen.ExpertsIdeal
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.MemKV
public import proofs.«01_k».proof.Proof.Gen.MemKV.Frame
public import proofs.«01_k».proof.Proof.Gen.MemKVIdeal
public import proofs.«01_k».proof.Proof.Gen.MemKVIdeal.Frame
public import proofs.«01_k».proof.Proof.Gen.MemKVIdeal.Value
public import proofs.«01_k».proof.Proof.Gen.MemKVRefIdeal
public import proofs.«01_k».proof.Proof.Gen.MemKVRefIdeal.Run
public import proofs.«01_k».proof.Proof.Gen.MemKVRefIdeal.Read
public import proofs.«01_k».proof.Proof.Gen.ProjPrompt
public import proofs.«01_k».proof.Proof.Gen.ProjPrompt.Frame
public import proofs.«01_k».proof.Proof.Gen.ProjPromptIdeal
public import proofs.«01_k».proof.Proof.Gen.ProjPromptIdeal.Frame
public import proofs.«01_k».proof.Proof.Gen.ProjPromptIdeal.Value
public import proofs.«01_k».proof.Proof.Gen.ProjPromptRefIdeal
public import proofs.«01_k».proof.Proof.Gen.ProjPromptRefIdeal.Run
public import proofs.«01_k».proof.Proof.Gen.ProjPromptRefIdeal.Read
public import proofs.«01_k».proof.Proof.Gen.ProjSample
public import proofs.«01_k».proof.Proof.Gen.ProjSample.Frame
public import proofs.«01_k».proof.Proof.Gen.ProjSampleIdeal
public import proofs.«01_k».proof.Proof.Gen.ProjSampleIdeal.Frame
public import proofs.«01_k».proof.Proof.Gen.ProjSampleIdeal.Value
public import proofs.«01_k».proof.Proof.Gen.ProjSampleRefIdeal
public import proofs.«01_k».proof.Proof.Gen.ProjSampleRefIdeal.Run
public import proofs.«01_k».proof.Proof.Gen.ProjSampleRefIdeal.Read
public import proofs.«01_k».proof.Proof.Gen.Scan
public import proofs.«01_k».proof.Proof.Gen.ScanIdeal
public import proofs.«01_k».proof.Proof.Gen.ScanIdeal.Skeleton
public import proofs.«01_k».proof.Proof.Gen.ScanIdeal.Launch
public import proofs.«01_k».proof.Proof.Gen.ScanIdeal.Loops
public import proofs.«01_k».proof.Proof.Gen.ScanIdeal.Points
public import proofs.«01_k».proof.Proof.Gen.ScanRefIdeal
public import proofs.«01_k».proof.Proof.Gen.ScanRefIdeal.Step
public import proofs.«01_k».proof.Proof.Gen.ScanRefIdeal.StepRun
public import proofs.«01_k».proof.Proof.Gen.ScanPrompt
public import proofs.«01_k».proof.Proof.Gen.ScanPromptIdeal
public import proofs.«01_k».proof.Proof.Gen.ScanPromptIdeal.Skeleton
public import proofs.«01_k».proof.Proof.Gen.ScanPromptIdeal.Launch
public import proofs.«01_k».proof.Proof.Gen.ScanPromptIdeal.Loops
public import proofs.«01_k».proof.Proof.Gen.ScanPromptIdeal.Points
public import proofs.«01_k».proof.Proof.Gen.ScanPromptRefIdeal
public import proofs.«01_k».proof.Proof.Gen.ScanPromptRefIdeal.Step
public import proofs.«01_k».proof.Proof.Gen.ScanPromptRefIdeal.StepRun
public import proofs.«01_k».proof.Proof.Gen.Pre_routed
public import proofs.«01_k».proof.Proof.ExpertsIdeal.Frame
public import proofs.«01_k».proof.Proof.MemKVIdeal.Final
public import proofs.«01_k».proof.Proof.MemKVRefIdeal.Entry
public import proofs.«01_k».proof.Proof.ProjPromptIdeal.Final
public import proofs.«01_k».proof.Proof.ProjPromptRefIdeal.Entry
public import proofs.«01_k».proof.Proof.ProjSampleIdeal.Final
public import proofs.«01_k».proof.Proof.ProjSampleRefIdeal.Entry
public import proofs.«01_k».proof.Proof.ExpertsIdeal.Final
public import proofs.«01_k».proof.Proof.ExpertsRefIdeal.Entry
public import proofs.«01_k».proof.Proof.ScanIdeal.Value
public import proofs.«01_k».proof.Proof.ScanRefIdeal.Plain
public import proofs.«01_k».proof.Proof.ScanPromptIdeal.Value
public import proofs.«01_k».proof.Proof.ScanPromptRefIdeal.Plain
public import Idealize.ShloMosaic.Adequacy
public import Idealize.ShloMosaic.Init

@[expose] public section

noncomputable section

namespace Cert.Proof

open Idealize.ShloMosaic Idealize.SL.Sem

/-- The precondition puts the tables of the expert layer in their ranges. -/
theorem routed_Experts (m : (ℓ : Loc Cert.Experts.nD Cert.Experts.τ Cert.Experts.sig) → Buf (Elt Bits) ℓ) (h : Pre_Experts m) : Cert.ExpertsIdeal.Run.Routed (F := Bits) m := by
  unfold Cert.ExpertsIdeal.Run.Routed
  rw [Cert.ExpertsIdeal.Run.tbl_te (F := Bits) m Cert.ExpertsIdeal.Run.dev0, Cert.ExpertsIdeal.Run.tbl_nv (F := Bits) m Cert.ExpertsIdeal.Run.dev0,
    Cert.ExpertsIdeal.Run.tbl_la (F := Bits) m Cert.ExpertsIdeal.Run.dev0]
  exact Cert.Routed.ranges _ _ _ _ _ _ _ _ (h Cert.ExpertsIdeal.Run.dev0)

/-- The same of the idealized program's tables. -/
theorem routed_ExpertsIdeal (m : (ℓ : Loc Cert.ExpertsIdeal.nD Cert.ExpertsIdeal.τ Cert.ExpertsIdeal.sig) → Buf (Elt Ideal) ℓ) (h : Pre_ExpertsIdeal m) : Cert.ExpertsIdeal.Run.Routed m := by
  unfold Cert.ExpertsIdeal.Run.Routed
  rw [Cert.ExpertsIdeal.Run.tbl_te m Cert.ExpertsIdeal.Run.dev0, Cert.ExpertsIdeal.Run.tbl_nv m Cert.ExpertsIdeal.Run.dev0, Cert.ExpertsIdeal.Run.tbl_la m Cert.ExpertsIdeal.Run.dev0]
  exact Cert.Routed.ranges _ _ _ _ _ _ _ _ (h Cert.ExpertsIdeal.Run.dev0)

/-- The expert layer and its idealization have one table of bodies: no operation was rewritten. -/
theorem bodies_Experts : Cert.Experts.defs₀ (F := Bits) = Cert.ExpertsIdeal.defs₀ (F := Bits) := by
  unfold Cert.Experts.defs₀ Cert.ExpertsIdeal.defs₀
  congr 1
  funext l x
  match l, x with
  | 0, _ => with_unfolding_all rfl

/-- So they have one table of bodies and pipelines. -/
theorem table_Experts : Cert.Experts.defs (F := Bits) = Cert.ExpertsIdeal.defs (F := Bits) :=
  congrArg (Pipeline.defs Cert.Experts.pcfgs) bodies_Experts

/-- The expert layer runs, its arguments kept: its text is the idealization's, and that runs at the bits too. -/
theorem frame_Experts : quiescent_Experts := fun m ρ hp => by
  have h := routed_Experts m hp
  have k := (θ_run (Cert.ExpertsIdeal.defs (F := Bits)) _ _).mono (fun r hr => And.intro (fun c => Cert.ExpertsIdeal.Run.args_kept (F := Bits) m (Cert.ExpertsIdeal.Run.adm m h) r hr.1 c) hr.2)
    (Cert.ExpertsIdeal.Run.run_adm (F := Bits) m h ρ)
  rw [← table_Experts] at k
  with_unfolding_all exact k

/-- The idealized expert layer runs, its arguments kept. -/
theorem frame_ExpertsIdeal : quiescent_ExpertsIdeal := fun m ρ h =>
  (θ_run Cert.ExpertsIdeal.defs _ _).mono (fun r hr => ⟨fun c => Cert.ExpertsIdeal.Run.args_kept m (Cert.ExpertsIdeal.Run.adm m (routed_ExpertsIdeal m h)) r hr.1 c, hr.2⟩)
    (Cert.ExpertsIdeal.Run.run_adm m (routed_ExpertsIdeal m h) ρ)

/-- The reference of the expert layer runs, its arguments kept. -/
theorem frame_ExpertsRefIdeal : quiescent_ExpertsRefIdeal := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)

/-- The reference of the memory projection runs, its arguments kept. -/
theorem frame_MemKVRefIdeal : quiescent_MemKVRefIdeal := fun m ρ _ =>
  (θ_run Cert.MemKVRefIdeal.defs _ _).mono (fun r h => ⟨fun c => (h c).2, sem_eq_zero_of_no_sems (by decide) r.2⟩)
    (Cert.MemKVRefIdeal.Value.run (F := Ideal) m ρ)

/-- The reference of the prompt's input projection runs, its arguments kept. -/
theorem frame_ProjPromptRefIdeal : quiescent_ProjPromptRefIdeal := fun m ρ _ =>
  (θ_run Cert.ProjPromptRefIdeal.defs _ _).mono (fun r h => ⟨fun c => (h c).2, sem_eq_zero_of_no_sems (by decide) r.2⟩)
    (Cert.ProjPromptRefIdeal.Value.run (F := Ideal) m ρ)

/-- The reference of the sample's input projection runs, its arguments kept. -/
theorem frame_ProjSampleRefIdeal : quiescent_ProjSampleRefIdeal := fun m ρ _ =>
  (θ_run Cert.ProjSampleRefIdeal.defs _ _).mono (fun r h => ⟨fun c => (h c).2, sem_eq_zero_of_no_sems (by decide) r.2⟩)
    (Cert.ProjSampleRefIdeal.Value.run (F := Ideal) m ρ)

/-- The expert layer's output is the reference's: both are the answers of the experts the table names. -/
theorem value_Experts : algebraic_ExpertsIdeal_ExpertsRefIdeal := by
  intro m ρ m' ρ' hpre hagree
  have h := routed_ExpertsIdeal m hpre
  refine ⟨fun c => Cert.ExpertsIdeal.Run.answers (Cert.ExpertsIdeal.Run.teA m c) (Cert.ExpertsIdeal.Run.nvA m c) (Cert.ExpertsIdeal.Run.xsA m c) (Cert.ExpertsIdeal.Run.wuA m c)
    (Cert.ExpertsIdeal.Run.buA m c) (Cert.ExpertsIdeal.Run.wdA m c) (Cert.ExpertsIdeal.Run.bdA m c), ?_, ?_⟩
  · exact (θ_run Cert.ExpertsIdeal.defs _ _).mono (fun r hr c => ⟨((hr.1 c).1 7).trans (Cert.ExpertsIdeal.Run.final m h c), Cert.ExpertsIdeal.Run.args_kept m (Cert.ExpertsIdeal.Run.adm m h) r hr.1 c⟩)
      (Cert.ExpertsIdeal.Run.run_adm m h ρ)
  · refine (θ_run Cert.ExpertsRefIdeal.defs _ _).mono (fun r hr c => ⟨?_, (hr c).2⟩) (Cert.ExpertsRefIdeal.Value.run (F := Ideal) m' ρ')
    rw [(hr c).1, Cert.ExpertsRefIdeal.Read.val_main_v69_eq]
    obtain ⟨a0, a1, a2, a3, a4, a5, a6, a7⟩ := hagree c
    rw [a0, a1, a3, a4, a5, a6, a7]
    funext p
    refine (Cert.ExpertsRefIdeal.Plain.output_apply _ (fun j => ?_) _ _ _ _ _ _ p).trans rfl
    have ht := Cert.Routed.Ranges.te_nonneg h j
    rw [Cert.ExpertsIdeal.Run.tbl_te m c] at ht
    exact ht

/-- The memory projection's output is the reference's: both are the answers of the rows, the gain and the weights' columns. -/
theorem value_MemKV : algebraic_MemKVIdeal_MemKVRefIdeal := by
  intro m ρ m' ρ' _ hagree
  refine ⟨fun c => Cert.MemKVIdeal.Rows.answers (Cert.MemKVIdeal.Rows.xA m c) (Cert.MemKVIdeal.Rows.gA m c) (Cert.MemKVIdeal.Rows.wkA m c)
    (Cert.MemKVIdeal.Rows.wvA m c), ?_, ?_⟩
  · exact (θ_run Cert.MemKVIdeal.defs _ _).mono (fun r hr c => ⟨(hr c).1.trans (Cert.MemKVIdeal.Rows.final m c), (hr c).2⟩)
      (Cert.MemKVIdeal.Value.run (F := Ideal) m ρ)
  · refine (θ_run Cert.MemKVRefIdeal.defs _ _).mono (fun r hr c => ⟨?_, (hr c).2⟩) (Cert.MemKVRefIdeal.Value.run (F := Ideal) m' ρ')
    rw [(hr c).1, Cert.MemKVRefIdeal.Read.val_main_v19_eq]
    obtain ⟨a0, a1, a2, a3⟩ := hagree c
    rw [a0, a1, a2, a3]
    funext p
    exact (Cert.MemKVRefIdeal.Plain.output_apply _ _ _ _ p).trans rfl

/-- The output of the prompt's input projection is the reference's: both are the answers of the rows, the gain and the weights' columns. -/
theorem value_ProjPrompt : algebraic_ProjPromptIdeal_ProjPromptRefIdeal := by
  intro m ρ m' ρ' _ hagree
  refine ⟨fun c => Cert.ProjPromptIdeal.Rows.answers (Cert.ProjPromptIdeal.Rows.xA m c) (Cert.ProjPromptIdeal.Rows.gA m c) (Cert.ProjPromptIdeal.Rows.wA m c), ?_, ?_⟩
  · exact (θ_run Cert.ProjPromptIdeal.defs _ _).mono (fun r hr c => ⟨(hr c).1.trans (Cert.ProjPromptIdeal.Rows.final m c), (hr c).2⟩)
      (Cert.ProjPromptIdeal.Value.run (F := Ideal) m ρ)
  · refine (θ_run Cert.ProjPromptRefIdeal.defs _ _).mono (fun r hr c => ⟨?_, (hr c).2⟩) (Cert.ProjPromptRefIdeal.Value.run (F := Ideal) m' ρ')
    rw [(hr c).1, Cert.ProjPromptRefIdeal.Read.val_main_v16_eq]
    obtain ⟨a0, a1, a2⟩ := hagree c
    rw [a0, a1, a2]
    funext p
    exact (Cert.ProjPromptRefIdeal.Plain.output_apply _ _ _ p).trans rfl

/-- The output of the sample's input projection is the reference's: both are the answers of the rows, the gain and the weights' columns. -/
theorem value_ProjSample : algebraic_ProjSampleIdeal_ProjSampleRefIdeal := by
  intro m ρ m' ρ' _ hagree
  refine ⟨fun c => Cert.ProjSampleIdeal.Rows.answers (Cert.ProjSampleIdeal.Rows.xA m c) (Cert.ProjSampleIdeal.Rows.gA m c) (Cert.ProjSampleIdeal.Rows.wA m c), ?_, ?_⟩
  · exact (θ_run Cert.ProjSampleIdeal.defs _ _).mono (fun r hr c => ⟨(hr c).1.trans (Cert.ProjSampleIdeal.Rows.final m c), (hr c).2⟩)
      (Cert.ProjSampleIdeal.Value.run (F := Ideal) m ρ)
  · refine (θ_run Cert.ProjSampleRefIdeal.defs _ _).mono (fun r hr c => ⟨?_, (hr c).2⟩) (Cert.ProjSampleRefIdeal.Value.run (F := Ideal) m' ρ')
    rw [(hr c).1, Cert.ProjSampleRefIdeal.Read.val_main_v16_eq]
    obtain ⟨a0, a1, a2⟩ := hagree c
    rw [a0, a1, a2]
    funext p
    exact (Cert.ProjSampleRefIdeal.Plain.output_apply _ _ _ p).trans rfl

/-- The sample's scan and its idealization have one table of bodies: no operation was rewritten. -/
theorem bodies_Scan : Cert.Scan.defs₀ (F := Bits) = Cert.ScanIdeal.defs₀ (F := Bits) := by
  unfold Cert.Scan.defs₀ Cert.ScanIdeal.defs₀
  congr 1
  funext l x
  match l, x with
  | 0, _ => with_unfolding_all rfl

/-- So they have one table of bodies and pipelines. -/
theorem table_Scan : Cert.Scan.defs (F := Bits) = Cert.ScanIdeal.defs (F := Bits) :=
  congrArg (Pipeline.defs Cert.Scan.pcfgs) bodies_Scan

/-- The sample's scan runs, its arguments kept: its text is the idealization's, and that runs at the bits too. -/
theorem frame_Scan : quiescent_Scan := fun m ρ _ => by
  have k := Cert.ScanIdeal.Gen.frame (F := Bits) m ρ
  rw [← table_Scan] at k
  with_unfolding_all exact k

/-- The reference of the sample's scan runs, its arguments kept. -/
theorem frame_ScanRefIdeal : quiescent_ScanRefIdeal := fun m ρ _ =>
  (θ_run Cert.ScanRefIdeal.defs _ _).mono (fun r h => ⟨fun c => (h c).2.2, sem_eq_zero_of_no_sems (by decide) r.2⟩)
    (Cert.ScanRefIdeal.StepRun.run_iter m ρ (Cert.ScanRefIdeal.Plain.it m) (fun _ => rfl) (fun _ _ => rfl))

/-- The two final states of the sample's scan are the reference's: both are the state after all the steps of the sequence. -/
theorem value_Scan : algebraic_ScanIdeal_ScanRefIdeal := by
  intro m ρ m' ρ' _ hagree
  have e := fun (c : Dev Cert.ScanRefIdeal.nD) (i : Cert.ScanIdeal.S2x8x4096.Idx) => Cert.ScanRefIdeal.Plain.result_at m' c i
  refine ⟨fun c i => (Cert.ScanIdeal.Gen.endState (Cert.ScanIdeal.Gen.uA m c) (Cert.ScanIdeal.Gen.s0A m c) (Cert.ScanIdeal.Gen.s1A m c) (Cert.ScanIdeal.Gen.arA m c)
      (Cert.ScanIdeal.Gen.aiA m c) (Cert.ScanIdeal.Gen.bA m c) i).1,
    fun c i => (Cert.ScanIdeal.Gen.endState (Cert.ScanIdeal.Gen.uA m c) (Cert.ScanIdeal.Gen.s0A m c) (Cert.ScanIdeal.Gen.s1A m c) (Cert.ScanIdeal.Gen.arA m c)
      (Cert.ScanIdeal.Gen.aiA m c) (Cert.ScanIdeal.Gen.bA m c) i).2, ?_, ?_⟩
  · refine (θ_run Cert.ScanIdeal.defs _ _).mono (fun r hr c => ⟨?_, ?_, hr.2 c⟩) (θ_run_and (Cert.ScanIdeal.Gen.run_main (F := Ideal) m ρ) (Cert.ScanIdeal.Gen.unchanged (F := Ideal) m ρ))
    · exact ((hr.1 c).1 9).trans (Cert.ScanIdeal.Gen.final_re m c)
    · exact ((hr.1 c).1 10).trans (Cert.ScanIdeal.Gen.final_im m c)
  · refine (θ_run Cert.ScanRefIdeal.defs _ _).mono (fun r hr c => ⟨?_, ?_, (hr c).2.2⟩)
      (Cert.ScanRefIdeal.StepRun.run_iter m' ρ' (Cert.ScanRefIdeal.Plain.it m') (fun _ => rfl) (fun _ _ => rfl))
    · obtain ⟨a0, a1, a2, a3, a4, a5, a6, a7⟩ := hagree c
      refine (hr c).1.trans (funext fun i => (congrArg Prod.fst (e c i)).trans ?_)
      unfold Cert.ScanRefIdeal.Plain.uA Cert.ScanRefIdeal.Plain.s0A Cert.ScanRefIdeal.Plain.s1A Cert.ScanRefIdeal.Plain.arA Cert.ScanRefIdeal.Plain.aiA Cert.ScanRefIdeal.Plain.bA
      rw [a0, a1, a2, a3, a4, a5]
    · obtain ⟨a0, a1, a2, a3, a4, a5, a6, a7⟩ := hagree c
      refine (hr c).2.1.trans (funext fun i => (congrArg Prod.snd (e c i)).trans ?_)
      unfold Cert.ScanRefIdeal.Plain.uA Cert.ScanRefIdeal.Plain.s0A Cert.ScanRefIdeal.Plain.s1A Cert.ScanRefIdeal.Plain.arA Cert.ScanRefIdeal.Plain.aiA Cert.ScanRefIdeal.Plain.bA
      rw [a0, a1, a2, a3, a4, a5]

/-- The prompt's scan and its idealization have one table of bodies: no operation was rewritten. -/
theorem bodies_ScanPrompt : Cert.ScanPrompt.defs₀ (F := Bits) = Cert.ScanPromptIdeal.defs₀ (F := Bits) := by
  unfold Cert.ScanPrompt.defs₀ Cert.ScanPromptIdeal.defs₀
  congr 1
  funext l x
  match l, x with
  | 0, _ => with_unfolding_all rfl

/-- So they have one table of bodies and pipelines. -/
theorem table_ScanPrompt : Cert.ScanPrompt.defs (F := Bits) = Cert.ScanPromptIdeal.defs (F := Bits) :=
  congrArg (Pipeline.defs Cert.ScanPrompt.pcfgs) bodies_ScanPrompt

/-- The prompt's scan runs, its arguments kept: its text is the idealization's, and that runs at the bits too. -/
theorem frame_ScanPrompt : quiescent_ScanPrompt := fun m ρ _ => by
  have k := Cert.ScanPromptIdeal.Gen.frame (F := Bits) m ρ
  rw [← table_ScanPrompt] at k
  with_unfolding_all exact k

/-- The reference of the prompt's scan runs, its arguments kept. -/
theorem frame_ScanPromptRefIdeal : quiescent_ScanPromptRefIdeal := fun m ρ _ =>
  (θ_run Cert.ScanPromptRefIdeal.defs _ _).mono (fun r h => ⟨fun c => (h c).2.2, sem_eq_zero_of_no_sems (by decide) r.2⟩)
    (Cert.ScanPromptRefIdeal.StepRun.run_iter m ρ (Cert.ScanPromptRefIdeal.Plain.it m) (fun _ => rfl) (fun _ _ => rfl))

/-- The two final states of the prompt's scan are the reference's: both are the state after all the steps of the sequence. -/
theorem value_ScanPrompt : algebraic_ScanPromptIdeal_ScanPromptRefIdeal := by
  intro m ρ m' ρ' _ hagree
  have e := fun (c : Dev Cert.ScanPromptRefIdeal.nD) (i : Cert.ScanPromptIdeal.S1x8x4096.Idx) => Cert.ScanPromptRefIdeal.Plain.result_at m' c i
  refine ⟨fun c i => (Cert.ScanPromptIdeal.Gen.endState (Cert.ScanPromptIdeal.Gen.uA m c) (Cert.ScanPromptIdeal.Gen.s0A m c) (Cert.ScanPromptIdeal.Gen.s1A m c) (Cert.ScanPromptIdeal.Gen.arA m c)
      (Cert.ScanPromptIdeal.Gen.aiA m c) (Cert.ScanPromptIdeal.Gen.bA m c) i).1,
    fun c i => (Cert.ScanPromptIdeal.Gen.endState (Cert.ScanPromptIdeal.Gen.uA m c) (Cert.ScanPromptIdeal.Gen.s0A m c) (Cert.ScanPromptIdeal.Gen.s1A m c) (Cert.ScanPromptIdeal.Gen.arA m c)
      (Cert.ScanPromptIdeal.Gen.aiA m c) (Cert.ScanPromptIdeal.Gen.bA m c) i).2, ?_, ?_⟩
  · refine (θ_run Cert.ScanPromptIdeal.defs _ _).mono (fun r hr c => ⟨?_, ?_, hr.2 c⟩) (θ_run_and (Cert.ScanPromptIdeal.Gen.run_main (F := Ideal) m ρ) (Cert.ScanPromptIdeal.Gen.unchanged (F := Ideal) m ρ))
    · exact ((hr.1 c).1 9).trans (Cert.ScanPromptIdeal.Gen.final_re m c)
    · exact ((hr.1 c).1 10).trans (Cert.ScanPromptIdeal.Gen.final_im m c)
  · refine (θ_run Cert.ScanPromptRefIdeal.defs _ _).mono (fun r hr c => ⟨?_, ?_, (hr c).2.2⟩)
      (Cert.ScanPromptRefIdeal.StepRun.run_iter m' ρ' (Cert.ScanPromptRefIdeal.Plain.it m') (fun _ => rfl) (fun _ _ => rfl))
    · obtain ⟨a0, a1, a2, a3, a4, a5, a6, a7⟩ := hagree c
      refine (hr c).1.trans (funext fun i => (congrArg Prod.fst (e c i)).trans ?_)
      unfold Cert.ScanPromptRefIdeal.Plain.uA Cert.ScanPromptRefIdeal.Plain.s0A Cert.ScanPromptRefIdeal.Plain.s1A Cert.ScanPromptRefIdeal.Plain.arA Cert.ScanPromptRefIdeal.Plain.aiA Cert.ScanPromptRefIdeal.Plain.bA
      rw [a0, a1, a2, a3, a4, a5]
    · obtain ⟨a0, a1, a2, a3, a4, a5, a6, a7⟩ := hagree c
      refine (hr c).2.1.trans (funext fun i => (congrArg Prod.snd (e c i)).trans ?_)
      unfold Cert.ScanPromptRefIdeal.Plain.uA Cert.ScanPromptRefIdeal.Plain.s0A Cert.ScanPromptRefIdeal.Plain.s1A Cert.ScanPromptRefIdeal.Plain.arA Cert.ScanPromptRefIdeal.Plain.aiA Cert.ScanPromptRefIdeal.Plain.bA
      rw [a0, a1, a2, a3, a4, a5]

/-- Every claim. -/
theorem claim : Cert.Claim := ⟨Cert.Experts.Gen.facts, Cert.ExpertsIdeal.Gen.facts, Cert.ExpertsRefIdeal.Gen.facts, Cert.MemKV.Gen.facts, Cert.MemKVIdeal.Gen.facts, Cert.MemKVRefIdeal.Gen.facts,
  Cert.ProjPrompt.Gen.facts, Cert.ProjPromptIdeal.Gen.facts, Cert.ProjPromptRefIdeal.Gen.facts, Cert.ProjSample.Gen.facts, Cert.ProjSampleIdeal.Gen.facts, Cert.ProjSampleRefIdeal.Gen.facts, Cert.Scan.Gen.facts,
  Cert.ScanIdeal.Gen.facts, Cert.ScanRefIdeal.Gen.facts, Cert.ScanPrompt.Gen.facts, Cert.ScanPromptIdeal.Gen.facts, Cert.ScanPromptRefIdeal.Gen.facts, Cert.Pre_routed.Gen.facts,
  frame_Experts, frame_ExpertsIdeal, frame_ExpertsRefIdeal, fun m ρ _ => frame_ExpertsRefIdeal m ρ trivial,
  fun m ρ _ => Cert.MemKV.Gen.frame m ρ, fun m ρ _ => Cert.MemKVIdeal.Gen.frame m ρ, frame_MemKVRefIdeal,
  fun m ρ _ => Cert.ProjPrompt.Gen.frame m ρ, fun m ρ _ => Cert.ProjPromptIdeal.Gen.frame m ρ, frame_ProjPromptRefIdeal,
  fun m ρ _ => Cert.ProjSample.Gen.frame m ρ, fun m ρ _ => Cert.ProjSampleIdeal.Gen.frame m ρ, frame_ProjSampleRefIdeal,
  frame_Scan, fun m ρ _ => Cert.ScanIdeal.Gen.frame (F := Ideal) m ρ, frame_ScanRefIdeal,
  frame_ScanPrompt, fun m ρ _ => Cert.ScanPromptIdeal.Gen.frame (F := Ideal) m ρ, frame_ScanPromptRefIdeal,
  (trivial : preserves_Experts_ExpertsIdeal), value_Experts, (trivial : preserves_MemKV_MemKVIdeal), value_MemKV,
  (trivial : preserves_ProjPrompt_ProjPromptIdeal), value_ProjPrompt, (trivial : preserves_ProjSample_ProjSampleIdeal), value_ProjSample,
  (trivial : preserves_Scan_ScanIdeal), value_Scan, (trivial : preserves_ScanPrompt_ScanPromptIdeal), value_ScanPrompt⟩

end Cert.Proof

end
